-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_DownWgrad (m : (ℓ : Loc Cert.DownWgrad.nD Cert.DownWgrad.τ Cert.DownWgrad.sig) → Buf (Elt Bits) ℓ) : Prop :=
  True

def Pre_DownWgradIdeal (m : (ℓ : Loc Cert.DownWgradIdeal.nD Cert.DownWgradIdeal.τ Cert.DownWgradIdeal.sig) → Buf (Elt Ideal) ℓ) : Prop :=
  True

def Pre_DownWgradRefIdeal (m : (ℓ : Loc Cert.DownWgradRefIdeal.nD Cert.DownWgradRefIdeal.τ Cert.DownWgradRefIdeal.sig) → Buf (Elt Ideal) ℓ) : Prop :=
  True

def Pre_DownDgrad (m : (ℓ : Loc Cert.DownDgrad.nD Cert.DownDgrad.τ Cert.DownDgrad.sig) → Buf (Elt Bits) ℓ) : Prop :=
  True

def Pre_DownDgradIdeal (m : (ℓ : Loc Cert.DownDgradIdeal.nD Cert.DownDgradIdeal.τ Cert.DownDgradIdeal.sig) → Buf (Elt Ideal) ℓ) : Prop :=
  True

def Pre_DownDgradRefIdeal (m : (ℓ : Loc Cert.DownDgradRefIdeal.nD Cert.DownDgradRefIdeal.τ Cert.DownDgradRefIdeal.sig) → Buf (Elt Ideal) ℓ) : Prop :=
  True

def Pre_UpWgrad (m : (ℓ : Loc Cert.UpWgrad.nD Cert.UpWgrad.τ Cert.UpWgrad.sig) → Buf (Elt Bits) ℓ) : Prop :=
  True

def Pre_UpWgradIdeal (m : (ℓ : Loc Cert.UpWgradIdeal.nD Cert.UpWgradIdeal.τ Cert.UpWgradIdeal.sig) → Buf (Elt Ideal) ℓ) : Prop :=
  True

def Pre_UpWgradRefIdeal (m : (ℓ : Loc Cert.UpWgradRefIdeal.nD Cert.UpWgradRefIdeal.τ Cert.UpWgradRefIdeal.sig) → Buf (Elt Ideal) ℓ) : Prop :=
  True

def Pre_OutDgrad (m : (ℓ : Loc Cert.OutDgrad.nD Cert.OutDgrad.τ Cert.OutDgrad.sig) → Buf (Elt Bits) ℓ) : Prop :=
  True

def Pre_OutDgradIdeal (m : (ℓ : Loc Cert.OutDgradIdeal.nD Cert.OutDgradIdeal.τ Cert.OutDgradIdeal.sig) → Buf (Elt Ideal) ℓ) : Prop :=
  True

def Pre_OutDgradRefIdeal (m : (ℓ : Loc Cert.OutDgradRefIdeal.nD Cert.OutDgradRefIdeal.τ Cert.OutDgradRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_ProjWgrad (m : (ℓ : Loc Cert.ProjWgrad.nD Cert.ProjWgrad.τ Cert.ProjWgrad.sig) → Buf (Elt Bits) ℓ) : Prop :=
  True

def Pre_ProjWgradIdeal (m : (ℓ : Loc Cert.ProjWgradIdeal.nD Cert.ProjWgradIdeal.τ Cert.ProjWgradIdeal.sig) → Buf (Elt Ideal) ℓ) : Prop :=
  True

def Pre_ProjWgradRefIdeal (m : (ℓ : Loc Cert.ProjWgradRefIdeal.nD Cert.ProjWgradRefIdeal.τ Cert.ProjWgradRefIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_ProjGrad (m : (ℓ : Loc Cert.ProjGrad.nD Cert.ProjGrad.τ Cert.ProjGrad.sig) → Buf (Elt Bits) ℓ) : Prop :=
  True

def Pre_ProjGradIdeal (m : (ℓ : Loc Cert.ProjGradIdeal.nD Cert.ProjGradIdeal.τ Cert.ProjGradIdeal.sig) → Buf (Elt Ideal) ℓ) : Prop :=
  True

def Pre_ProjGradRefIdeal (m : (ℓ : Loc Cert.ProjGradRefIdeal.nD Cert.ProjGradRefIdeal.τ Cert.ProjGradRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1))
      ∧ r.2.sem = fun _ => 0)

def quiescent_DownWgrad [hDownWgrad : Cert.DownWgrad.Facts] : Prop :=
  ∀ (m : (ℓ : Loc Cert.DownWgrad.nD Cert.DownWgrad.τ Cert.DownWgrad.sig) → Buf (Elt Bits) ℓ) (g : Dev Cert.DownWgrad.nD → PrngReg), Pre_DownWgrad m →
    θ_run (Cert.DownWgrad.defs (F := Bits)) (onTc (τ := Cert.DownWgrad.τ) (Cert.DownWgrad.main (F := Bits))) ⟨m, fun _ => 0, g⟩ (fun r => (∀ c : Dev Cert.DownWgrad.nD,
      r.2.mem ((c.tc : Thread Cert.DownWgrad.nD Cert.DownWgrad.τ).loc Cert.DownWgrad.main_arg0) = m ((c.tc : Thread Cert.DownWgrad.nD Cert.DownWgrad.τ).loc Cert.DownWgrad.main_arg0)
      ∧ r.2.mem ((c.tc : Thread Cert.DownWgrad.nD Cert.DownWgrad.τ).loc Cert.DownWgrad.main_arg1) = m ((c.tc : Thread Cert.DownWgrad.nD Cert.DownWgrad.τ).loc Cert.DownWgrad.main_arg1))
      ∧ r.2.sem = fun _ => 0)

def quiescent_DownWgradIdeal [hDownWgradIdeal : Cert.DownWgradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg), Pre_DownWgradIdeal m →
    θ_run (Cert.DownWgradIdeal.defs (F := Ideal)) (onTc (τ := Cert.DownWgradIdeal.τ) (Cert.DownWgradIdeal.main (F := Ideal))) ⟨m, fun _ => 0, g⟩ (fun r => (∀ c : Dev Cert.DownWgradIdeal.nD,
      r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
      ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ r.2.sem = fun _ => 0)

def quiescent_DownWgradRefIdeal [hDownWgradRefIdeal : Cert.DownWgradRefIdeal.Facts] : Prop :=
  ∀ (m : (ℓ : Loc Cert.DownWgradRefIdeal.nD Cert.DownWgradRefIdeal.τ Cert.DownWgradRefIdeal.sig) → Buf (Elt Ideal) ℓ) (g : Dev Cert.DownWgradRefIdeal.nD → PrngReg), Pre_DownWgradRefIdeal m →
    θ_run (Cert.DownWgradRefIdeal.defs (F := Ideal)) (onTc (τ := Cert.DownWgradRefIdeal.τ) (Cert.DownWgradRefIdeal.main (F := Ideal))) ⟨m, fun _ => 0, g⟩ (fun r => (∀ c : Dev Cert.DownWgradRefIdeal.nD,
      r.2.mem ((c.tc : Thread Cert.DownWgradRefIdeal.nD Cert.DownWgradRefIdeal.τ).loc Cert.DownWgradRefIdeal.main_arg0) = m ((c.tc : Thread Cert.DownWgradRefIdeal.nD Cert.DownWgradRefIdeal.τ).loc Cert.DownWgradRefIdeal.main_arg0)
      ∧ r.2.mem ((c.tc : Thread Cert.DownWgradRefIdeal.nD Cert.DownWgradRefIdeal.τ).loc Cert.DownWgradRefIdeal.main_arg1) = m ((c.tc : Thread Cert.DownWgradRefIdeal.nD Cert.DownWgradRefIdeal.τ).loc Cert.DownWgradRefIdeal.main_arg1))
      ∧ r.2.sem = fun _ => 0)

def quiescent_DownDgrad [hDownDgrad : Cert.DownDgrad.Facts] : Prop :=
  ∀ (m : (ℓ : Loc Cert.DownDgrad.nD Cert.DownDgrad.τ Cert.DownDgrad.sig) → Buf (Elt Bits) ℓ) (g : Dev Cert.DownDgrad.nD → PrngReg), Pre_DownDgrad m →
    θ_run (Cert.DownDgrad.defs (F := Bits)) (onTc (τ := Cert.DownDgrad.τ) (Cert.DownDgrad.main (F := Bits))) ⟨m, fun _ => 0, g⟩ (fun r => (∀ c : Dev Cert.DownDgrad.nD,
      r.2.mem ((c.tc : Thread Cert.DownDgrad.nD Cert.DownDgrad.τ).loc Cert.DownDgrad.main_arg0) = m ((c.tc : Thread Cert.DownDgrad.nD Cert.DownDgrad.τ).loc Cert.DownDgrad.main_arg0)
      ∧ r.2.mem ((c.tc : Thread Cert.DownDgrad.nD Cert.DownDgrad.τ).loc Cert.DownDgrad.main_arg1) = m ((c.tc : Thread Cert.DownDgrad.nD Cert.DownDgrad.τ).loc Cert.DownDgrad.main_arg1))
      ∧ r.2.sem = fun _ => 0)

def quiescent_DownDgradIdeal [hDownDgradIdeal : Cert.DownDgradIdeal.Facts] : Prop :=
  ∀ (m : (ℓ : Loc Cert.DownDgradIdeal.nD Cert.DownDgradIdeal.τ Cert.DownDgradIdeal.sig) → Buf (Elt Ideal) ℓ) (g : Dev Cert.DownDgradIdeal.nD → PrngReg), Pre_DownDgradIdeal m →
    θ_run (Cert.DownDgradIdeal.defs (F := Ideal)) (onTc (τ := Cert.DownDgradIdeal.τ) (Cert.DownDgradIdeal.main (F := Ideal))) ⟨m, fun _ => 0, g⟩ (fun r => (∀ c : Dev Cert.DownDgradIdeal.nD,
      r.2.mem ((c.tc : Thread Cert.DownDgradIdeal.nD Cert.DownDgradIdeal.τ).loc Cert.DownDgradIdeal.main_arg0) = m ((c.tc : Thread Cert.DownDgradIdeal.nD Cert.DownDgradIdeal.τ).loc Cert.DownDgradIdeal.main_arg0)
      ∧ r.2.mem ((c.tc : Thread Cert.DownDgradIdeal.nD Cert.DownDgradIdeal.τ).loc Cert.DownDgradIdeal.main_arg1) = m ((c.tc : Thread Cert.DownDgradIdeal.nD Cert.DownDgradIdeal.τ).loc Cert.DownDgradIdeal.main_arg1))
      ∧ r.2.sem = fun _ => 0)

def quiescent_DownDgradRefIdeal [hDownDgradRefIdeal : Cert.DownDgradRefIdeal.Facts] : Prop :=
  ∀ (m : (ℓ : Loc Cert.DownDgradRefIdeal.nD Cert.DownDgradRefIdeal.τ Cert.DownDgradRefIdeal.sig) → Buf (Elt Ideal) ℓ) (g : Dev Cert.DownDgradRefIdeal.nD → PrngReg), Pre_DownDgradRefIdeal m →
    θ_run (Cert.DownDgradRefIdeal.defs (F := Ideal)) (onTc (τ := Cert.DownDgradRefIdeal.τ) (Cert.DownDgradRefIdeal.main (F := Ideal))) ⟨m, fun _ => 0, g⟩ (fun r => (∀ c : Dev Cert.DownDgradRefIdeal.nD,
      r.2.mem ((c.tc : Thread Cert.DownDgradRefIdeal.nD Cert.DownDgradRefIdeal.τ).loc Cert.DownDgradRefIdeal.main_arg0) = m ((c.tc : Thread Cert.DownDgradRefIdeal.nD Cert.DownDgradRefIdeal.τ).loc Cert.DownDgradRefIdeal.main_arg0)
      ∧ r.2.mem ((c.tc : Thread Cert.DownDgradRefIdeal.nD Cert.DownDgradRefIdeal.τ).loc Cert.DownDgradRefIdeal.main_arg1) = m ((c.tc : Thread Cert.DownDgradRefIdeal.nD Cert.DownDgradRefIdeal.τ).loc Cert.DownDgradRefIdeal.main_arg1))
      ∧ r.2.sem = fun _ => 0)

def quiescent_UpWgrad [hUpWgrad : Cert.UpWgrad.Facts] : Prop :=
  ∀ (m : (ℓ : Loc Cert.UpWgrad.nD Cert.UpWgrad.τ Cert.UpWgrad.sig) → Buf (Elt Bits) ℓ) (g : Dev Cert.UpWgrad.nD → PrngReg), Pre_UpWgrad m →
    θ_run (Cert.UpWgrad.defs (F := Bits)) (onTc (τ := Cert.UpWgrad.τ) (Cert.UpWgrad.main (F := Bits))) ⟨m, fun _ => 0, g⟩ (fun r => (∀ c : Dev Cert.UpWgrad.nD,
      r.2.mem ((c.tc : Thread Cert.UpWgrad.nD Cert.UpWgrad.τ).loc Cert.UpWgrad.main_arg0) = m ((c.tc : Thread Cert.UpWgrad.nD Cert.UpWgrad.τ).loc Cert.UpWgrad.main_arg0)
      ∧ r.2.mem ((c.tc : Thread Cert.UpWgrad.nD Cert.UpWgrad.τ).loc Cert.UpWgrad.main_arg1) = m ((c.tc : Thread Cert.UpWgrad.nD Cert.UpWgrad.τ).loc Cert.UpWgrad.main_arg1))
      ∧ r.2.sem = fun _ => 0)

def quiescent_UpWgradIdeal [hUpWgradIdeal : Cert.UpWgradIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg), Pre_UpWgradIdeal m →
    θ_run (Cert.UpWgradIdeal.defs (F := Ideal)) (onTc (τ := Cert.UpWgradIdeal.τ) (Cert.UpWgradIdeal.main (F := Ideal))) ⟨m, fun _ => 0, g⟩ (fun r => (∀ c : Dev Cert.UpWgradIdeal.nD,
      r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
      ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1))
      ∧ r.2.sem = fun _ => 0)

def quiescent_UpWgradRefIdeal [hUpWgradRefIdeal : Cert.UpWgradRefIdeal.Facts] : Prop :=
  ∀ (m : (ℓ : Loc Cert.UpWgradRefIdeal.nD Cert.UpWgradRefIdeal.τ Cert.UpWgradRefIdeal.sig) → Buf (Elt Ideal) ℓ) (g : Dev Cert.UpWgradRefIdeal.nD → PrngReg), Pre_UpWgradRefIdeal m →
    θ_run (Cert.UpWgradRefIdeal.defs (F := Ideal)) (onTc (τ := Cert.UpWgradRefIdeal.τ) (Cert.UpWgradRefIdeal.main (F := Ideal))) ⟨m, fun _ => 0, g⟩ (fun r => (∀ c : Dev Cert.UpWgradRefIdeal.nD,
      r.2.mem ((c.tc : Thread Cert.UpWgradRefIdeal.nD Cert.UpWgradRefIdeal.τ).loc Cert.UpWgradRefIdeal.main_arg0) = m ((c.tc : Thread Cert.UpWgradRefIdeal.nD Cert.UpWgradRefIdeal.τ).loc Cert.UpWgradRefIdeal.main_arg0)
      ∧ r.2.mem ((c.tc : Thread Cert.UpWgradRefIdeal.nD Cert.UpWgradRefIdeal.τ).loc Cert.UpWgradRefIdeal.main_arg1) = m ((c.tc : Thread Cert.UpWgradRefIdeal.nD Cert.UpWgradRefIdeal.τ).loc Cert.UpWgradRefIdeal.main_arg1))
      ∧ r.2.sem = fun _ => 0)

def quiescent_OutDgrad [hOutDgrad : Cert.OutDgrad.Facts] : Prop :=
  ∀ (m : (ℓ : Loc Cert.OutDgrad.nD Cert.OutDgrad.τ Cert.OutDgrad.sig) → Buf (Elt Bits) ℓ) (g : Dev Cert.OutDgrad.nD → PrngReg), Pre_OutDgrad m →
    θ_run (Cert.OutDgrad.defs (F := Bits)) (onTc (τ := Cert.OutDgrad.τ) (Cert.OutDgrad.main (F := Bits))) ⟨m, fun _ => 0, g⟩ (fun r => (∀ c : Dev Cert.OutDgrad.nD,
      r.2.mem ((c.tc : Thread Cert.OutDgrad.nD Cert.OutDgrad.τ).loc Cert.OutDgrad.main_arg0) = m ((c.tc : Thread Cert.OutDgrad.nD Cert.OutDgrad.τ).loc Cert.OutDgrad.main_arg0)
      ∧ r.2.mem ((c.tc : Thread Cert.OutDgrad.nD Cert.OutDgrad.τ).loc Cert.OutDgrad.main_arg1) = m ((c.tc : Thread Cert.OutDgrad.nD Cert.OutDgrad.τ).loc Cert.OutDgrad.main_arg1))
      ∧ r.2.sem = fun _ => 0)

def quiescent_OutDgradIdeal [hOutDgradIdeal : Cert.OutDgradIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg), Pre_OutDgradIdeal m →
    θ_run (Cert.OutDgradIdeal.defs (F := Ideal)) (onTc (τ := Cert.OutDgradIdeal.τ) (Cert.OutDgradIdeal.main (F := Ideal))) ⟨m, fun _ => 0, g⟩ (fun r => (∀ c : Dev Cert.OutDgradIdeal.nD,
      r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
      ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ r.2.sem = fun _ => 0)

def quiescent_OutDgradRefIdeal [hOutDgradRefIdeal : Cert.OutDgradRefIdeal.Facts] : Prop :=
  ∀ (m : (ℓ : Loc Cert.OutDgradRefIdeal.nD Cert.OutDgradRefIdeal.τ Cert.OutDgradRefIdeal.sig) → Buf (Elt Ideal) ℓ) (g : Dev Cert.OutDgradRefIdeal.nD → PrngReg), Pre_OutDgradRefIdeal m →
    θ_run (Cert.OutDgradRefIdeal.defs (F := Ideal)) (onTc (τ := Cert.OutDgradRefIdeal.τ) (Cert.OutDgradRefIdeal.main (F := Ideal))) ⟨m, fun _ => 0, g⟩ (fun r => (∀ c : Dev Cert.OutDgradRefIdeal.nD,
      r.2.mem ((c.tc : Thread Cert.OutDgradRefIdeal.nD Cert.OutDgradRefIdeal.τ).loc Cert.OutDgradRefIdeal.main_arg0) = m ((c.tc : Thread Cert.OutDgradRefIdeal.nD Cert.OutDgradRefIdeal.τ).loc Cert.OutDgradRefIdeal.main_arg0)
      ∧ r.2.mem ((c.tc : Thread Cert.OutDgradRefIdeal.nD Cert.OutDgradRefIdeal.τ).loc Cert.OutDgradRefIdeal.main_arg1) = m ((c.tc : Thread Cert.OutDgradRefIdeal.nD Cert.OutDgradRefIdeal.τ).loc Cert.OutDgradRefIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1))
      ∧ r.2.sem = fun _ => 0)

def quiescent_ProjWgrad [hProjWgrad : Cert.ProjWgrad.Facts] : Prop :=
  ∀ (m : (ℓ : Loc Cert.ProjWgrad.nD Cert.ProjWgrad.τ Cert.ProjWgrad.sig) → Buf (Elt Bits) ℓ) (g : Dev Cert.ProjWgrad.nD → PrngReg), Pre_ProjWgrad m →
    θ_run (Cert.ProjWgrad.defs (F := Bits)) (onTc (τ := Cert.ProjWgrad.τ) (Cert.ProjWgrad.main (F := Bits))) ⟨m, fun _ => 0, g⟩ (fun r => (∀ c : Dev Cert.ProjWgrad.nD,
      r.2.mem ((c.tc : Thread Cert.ProjWgrad.nD Cert.ProjWgrad.τ).loc Cert.ProjWgrad.main_arg0) = m ((c.tc : Thread Cert.ProjWgrad.nD Cert.ProjWgrad.τ).loc Cert.ProjWgrad.main_arg0)
      ∧ r.2.mem ((c.tc : Thread Cert.ProjWgrad.nD Cert.ProjWgrad.τ).loc Cert.ProjWgrad.main_arg1) = m ((c.tc : Thread Cert.ProjWgrad.nD Cert.ProjWgrad.τ).loc Cert.ProjWgrad.main_arg1))
      ∧ r.2.sem = fun _ => 0)

def quiescent_ProjWgradIdeal [hProjWgradIdeal : Cert.ProjWgradIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg), Pre_ProjWgradIdeal m →
    θ_run (Cert.ProjWgradIdeal.defs (F := Ideal)) (onTc (τ := Cert.ProjWgradIdeal.τ) (Cert.ProjWgradIdeal.main (F := Ideal))) ⟨m, fun _ => 0, g⟩ (fun r => (∀ c : Dev Cert.ProjWgradIdeal.nD,
      r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
      ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1))
      ∧ r.2.sem = fun _ => 0)

def quiescent_ProjWgradRefIdeal [hProjWgradRefIdeal : Cert.ProjWgradRefIdeal.Facts] : Prop :=
  ∀ (m : (ℓ : Loc Cert.ProjWgradRefIdeal.nD Cert.ProjWgradRefIdeal.τ Cert.ProjWgradRefIdeal.sig) → Buf (Elt Ideal) ℓ) (g : Dev Cert.ProjWgradRefIdeal.nD → PrngReg), Pre_ProjWgradRefIdeal m →
    θ_run (Cert.ProjWgradRefIdeal.defs (F := Ideal)) (onTc (τ := Cert.ProjWgradRefIdeal.τ) (Cert.ProjWgradRefIdeal.main (F := Ideal))) ⟨m, fun _ => 0, g⟩ (fun r => (∀ c : Dev Cert.ProjWgradRefIdeal.nD,
      r.2.mem ((c.tc : Thread Cert.ProjWgradRefIdeal.nD Cert.ProjWgradRefIdeal.τ).loc Cert.ProjWgradRefIdeal.main_arg0) = m ((c.tc : Thread Cert.ProjWgradRefIdeal.nD Cert.ProjWgradRefIdeal.τ).loc Cert.ProjWgradRefIdeal.main_arg0)
      ∧ r.2.mem ((c.tc : Thread Cert.ProjWgradRefIdeal.nD Cert.ProjWgradRefIdeal.τ).loc Cert.ProjWgradRefIdeal.main_arg1) = m ((c.tc : Thread Cert.ProjWgradRefIdeal.nD Cert.ProjWgradRefIdeal.τ).loc Cert.ProjWgradRefIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1)
      ∧ r.2.mem ((c.tc : Thread Cert.UpGrad.nD Cert.UpGrad.τ).loc Cert.UpGrad.main_arg2) = m ((c.tc : Thread Cert.UpGrad.nD Cert.UpGrad.τ).loc Cert.UpGrad.main_arg2)
      ∧ r.2.mem ((c.tc : Thread Cert.UpGrad.nD Cert.UpGrad.τ).loc Cert.UpGrad.main_arg3) = m ((c.tc : Thread Cert.UpGrad.nD Cert.UpGrad.τ).loc Cert.UpGrad.main_arg3)
      ∧ r.2.mem ((c.tc : Thread Cert.UpGrad.nD Cert.UpGrad.τ).loc Cert.UpGrad.main_arg4) = m ((c.tc : Thread Cert.UpGrad.nD Cert.UpGrad.τ).loc Cert.UpGrad.main_arg4))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
      ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2)
      ∧ r.2.mem ((c.tc : Thread Cert.UpGradIdeal.nD Cert.UpGradIdeal.τ).loc Cert.UpGradIdeal.main_arg3) = m ((c.tc : Thread Cert.UpGradIdeal.nD Cert.UpGradIdeal.τ).loc Cert.UpGradIdeal.main_arg3)
      ∧ r.2.mem ((c.tc : Thread Cert.UpGradIdeal.nD Cert.UpGradIdeal.τ).loc Cert.UpGradIdeal.main_arg4) = m ((c.tc : Thread Cert.UpGradIdeal.nD Cert.UpGradIdeal.τ).loc Cert.UpGradIdeal.main_arg4))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1)
      ∧ r.2.mem ((c.tc : Thread Cert.UpGradRefIdeal.nD Cert.UpGradRefIdeal.τ).loc Cert.UpGradRefIdeal.main_arg2) = m ((c.tc : Thread Cert.UpGradRefIdeal.nD Cert.UpGradRefIdeal.τ).loc Cert.UpGradRefIdeal.main_arg2)
      ∧ r.2.mem ((c.tc : Thread Cert.UpGradRefIdeal.nD Cert.UpGradRefIdeal.τ).loc Cert.UpGradRefIdeal.main_arg3) = m ((c.tc : Thread Cert.UpGradRefIdeal.nD Cert.UpGradRefIdeal.τ).loc Cert.UpGradRefIdeal.main_arg3)
      ∧ r.2.mem ((c.tc : Thread Cert.UpGradRefIdeal.nD Cert.UpGradRefIdeal.τ).loc Cert.UpGradRefIdeal.main_arg4) = m ((c.tc : Thread Cert.UpGradRefIdeal.nD Cert.UpGradRefIdeal.τ).loc Cert.UpGradRefIdeal.main_arg4))
      ∧ r.2.sem = fun _ => 0)

def quiescent_ProjGrad [hProjGrad : Cert.ProjGrad.Facts] : Prop :=
  ∀ (m : (ℓ : Loc Cert.ProjGrad.nD Cert.ProjGrad.τ Cert.ProjGrad.sig) → Buf (Elt Bits) ℓ) (g : Dev Cert.ProjGrad.nD → PrngReg), Pre_ProjGrad m →
    θ_run (Cert.ProjGrad.defs (F := Bits)) (onTc (τ := Cert.ProjGrad.τ) (Cert.ProjGrad.main (F := Bits))) ⟨m, fun _ => 0, g⟩ (fun r => (∀ c : Dev Cert.ProjGrad.nD,
      r.2.mem ((c.tc : Thread Cert.ProjGrad.nD Cert.ProjGrad.τ).loc Cert.ProjGrad.main_arg0) = m ((c.tc : Thread Cert.ProjGrad.nD Cert.ProjGrad.τ).loc Cert.ProjGrad.main_arg0)
      ∧ r.2.mem ((c.tc : Thread Cert.ProjGrad.nD Cert.ProjGrad.τ).loc Cert.ProjGrad.main_arg1) = m ((c.tc : Thread Cert.ProjGrad.nD Cert.ProjGrad.τ).loc Cert.ProjGrad.main_arg1)
      ∧ r.2.mem ((c.tc : Thread Cert.ProjGrad.nD Cert.ProjGrad.τ).loc Cert.ProjGrad.main_arg2) = m ((c.tc : Thread Cert.ProjGrad.nD Cert.ProjGrad.τ).loc Cert.ProjGrad.main_arg2)
      ∧ r.2.mem ((c.tc : Thread Cert.ProjGrad.nD Cert.ProjGrad.τ).loc Cert.ProjGrad.main_arg3) = m ((c.tc : Thread Cert.ProjGrad.nD Cert.ProjGrad.τ).loc Cert.ProjGrad.main_arg3)
      ∧ r.2.mem ((c.tc : Thread Cert.ProjGrad.nD Cert.ProjGrad.τ).loc Cert.ProjGrad.main_arg4) = m ((c.tc : Thread Cert.ProjGrad.nD Cert.ProjGrad.τ).loc Cert.ProjGrad.main_arg4))
      ∧ r.2.sem = fun _ => 0)

def quiescent_ProjGradIdeal [hProjGradIdeal : Cert.ProjGradIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg), Pre_ProjGradIdeal m →
    θ_run (Cert.ProjGradIdeal.defs (F := Ideal)) (onTc (τ := Cert.ProjGradIdeal.τ) (Cert.ProjGradIdeal.main (F := Ideal))) ⟨m, fun _ => 0, g⟩ (fun r => (∀ c : Dev Cert.ProjGradIdeal.nD,
      r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
      ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1)
      ∧ r.2.mem ((c.tc : Thread Cert.ProjGradIdeal.nD Cert.ProjGradIdeal.τ).loc Cert.ProjGradIdeal.main_arg2) = m ((c.tc : Thread Cert.ProjGradIdeal.nD Cert.ProjGradIdeal.τ).loc Cert.ProjGradIdeal.main_arg2)
      ∧ r.2.mem ((c.tc : Thread Cert.ProjGradIdeal.nD Cert.ProjGradIdeal.τ).loc Cert.ProjGradIdeal.main_arg3) = m ((c.tc : Thread Cert.ProjGradIdeal.nD Cert.ProjGradIdeal.τ).loc Cert.ProjGradIdeal.main_arg3)
      ∧ r.2.mem ((c.tc : Thread Cert.ProjGradIdeal.nD Cert.ProjGradIdeal.τ).loc Cert.ProjGradIdeal.main_arg4) = m ((c.tc : Thread Cert.ProjGradIdeal.nD Cert.ProjGradIdeal.τ).loc Cert.ProjGradIdeal.main_arg4))
      ∧ r.2.sem = fun _ => 0)

def quiescent_ProjGradRefIdeal [hProjGradRefIdeal : Cert.ProjGradRefIdeal.Facts] : Prop :=
  ∀ (m : (ℓ : Loc Cert.ProjGradRefIdeal.nD Cert.ProjGradRefIdeal.τ Cert.ProjGradRefIdeal.sig) → Buf (Elt Ideal) ℓ) (g : Dev Cert.ProjGradRefIdeal.nD → PrngReg), Pre_ProjGradRefIdeal m →
    θ_run (Cert.ProjGradRefIdeal.defs (F := Ideal)) (onTc (τ := Cert.ProjGradRefIdeal.τ) (Cert.ProjGradRefIdeal.main (F := Ideal))) ⟨m, fun _ => 0, g⟩ (fun r => (∀ c : Dev Cert.ProjGradRefIdeal.nD,
      r.2.mem ((c.tc : Thread Cert.ProjGradRefIdeal.nD Cert.ProjGradRefIdeal.τ).loc Cert.ProjGradRefIdeal.main_arg0) = m ((c.tc : Thread Cert.ProjGradRefIdeal.nD Cert.ProjGradRefIdeal.τ).loc Cert.ProjGradRefIdeal.main_arg0)
      ∧ r.2.mem ((c.tc : Thread Cert.ProjGradRefIdeal.nD Cert.ProjGradRefIdeal.τ).loc Cert.ProjGradRefIdeal.main_arg1) = m ((c.tc : Thread Cert.ProjGradRefIdeal.nD Cert.ProjGradRefIdeal.τ).loc Cert.ProjGradRefIdeal.main_arg1)
      ∧ r.2.mem ((c.tc : Thread Cert.ProjGradRefIdeal.nD Cert.ProjGradRefIdeal.τ).loc Cert.ProjGradRefIdeal.main_arg2) = m ((c.tc : Thread Cert.ProjGradRefIdeal.nD Cert.ProjGradRefIdeal.τ).loc Cert.ProjGradRefIdeal.main_arg2)
      ∧ r.2.mem ((c.tc : Thread Cert.ProjGradRefIdeal.nD Cert.ProjGradRefIdeal.τ).loc Cert.ProjGradRefIdeal.main_arg3) = m ((c.tc : Thread Cert.ProjGradRefIdeal.nD Cert.ProjGradRefIdeal.τ).loc Cert.ProjGradRefIdeal.main_arg3)
      ∧ r.2.mem ((c.tc : Thread Cert.ProjGradRefIdeal.nD Cert.ProjGradRefIdeal.τ).loc Cert.ProjGradRefIdeal.main_arg4) = m ((c.tc : Thread Cert.ProjGradRefIdeal.nD Cert.ProjGradRefIdeal.τ).loc Cert.ProjGradRefIdeal.main_arg4))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v75)) (v2 : (c : Dev Cert.KernelIdeal.nD) → Buf (Elt Ideal) ((c.tc : Thread Cert.KernelIdeal.nD Cert.KernelIdeal.τ).loc Cert.KernelIdeal.main_v76)) (v3 : (c : Dev Cert.KernelIdeal.nD) → Buf (Elt Ideal) ((c.tc : Thread Cert.KernelIdeal.nD Cert.KernelIdeal.τ).loc Cert.KernelIdeal.main_v77)) (v4 : (c : Dev Cert.KernelIdeal.nD) → Buf (Elt Ideal) ((c.tc : Thread Cert.KernelIdeal.nD Cert.KernelIdeal.τ).loc Cert.KernelIdeal.main_v79)) (v5 : (c : Dev Cert.KernelIdeal.nD) → Buf (Elt Ideal) ((c.tc : Thread Cert.KernelIdeal.nD Cert.KernelIdeal.τ).loc Cert.KernelIdeal.main_v81)) (v6 : (c : Dev Cert.KernelIdeal.nD) → Buf (Elt Ideal) ((c.tc : Thread Cert.KernelIdeal.nD Cert.KernelIdeal.τ).loc Cert.KernelIdeal.main_v82)) (v7 : (c : Dev Cert.KernelIdeal.nD) → Buf (Elt Ideal) ((c.tc : Thread Cert.KernelIdeal.nD Cert.KernelIdeal.τ).loc Cert.KernelIdeal.main_v83)) (v8 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_v76) = v2 c
          ∧ r.2.mem ((c.tc : Thread Cert.KernelIdeal.nD Cert.KernelIdeal.τ).loc Cert.KernelIdeal.main_v77) = v3 c
          ∧ r.2.mem ((c.tc : Thread Cert.KernelIdeal.nD Cert.KernelIdeal.τ).loc Cert.KernelIdeal.main_v79) = v4 c
          ∧ r.2.mem ((c.tc : Thread Cert.KernelIdeal.nD Cert.KernelIdeal.τ).loc Cert.KernelIdeal.main_v81) = v5 c
          ∧ r.2.mem ((c.tc : Thread Cert.KernelIdeal.nD Cert.KernelIdeal.τ).loc Cert.KernelIdeal.main_v82) = v6 c
          ∧ r.2.mem ((c.tc : Thread Cert.KernelIdeal.nD Cert.KernelIdeal.τ).loc Cert.KernelIdeal.main_v83) = v7 c
          ∧ r.2.mem ((c.tc : Thread Cert.KernelIdeal.nD Cert.KernelIdeal.τ).loc Cert.KernelIdeal.main_v84) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v46_7) = v2 c
          ∧ r.2.mem ((c.tc : Thread Cert.ReferenceIdeal.nD Cert.ReferenceIdeal.τ).loc Cert.ReferenceIdeal.main_v46_8) = v3 c
          ∧ r.2.mem ((c.tc : Thread Cert.ReferenceIdeal.nD Cert.ReferenceIdeal.τ).loc Cert.ReferenceIdeal.main_v56) = v4 c
          ∧ r.2.mem ((c.tc : Thread Cert.ReferenceIdeal.nD Cert.ReferenceIdeal.τ).loc Cert.ReferenceIdeal.main_v51) = v5 c
          ∧ r.2.mem ((c.tc : Thread Cert.ReferenceIdeal.nD Cert.ReferenceIdeal.τ).loc Cert.ReferenceIdeal.main_v39) = v6 c
          ∧ r.2.mem ((c.tc : Thread Cert.ReferenceIdeal.nD Cert.ReferenceIdeal.τ).loc Cert.ReferenceIdeal.main_v35) = v7 c
          ∧ r.2.mem ((c.tc : Thread Cert.ReferenceIdeal.nD Cert.ReferenceIdeal.τ).loc Cert.ReferenceIdeal.main_v30) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_UpProj_UpProjIdeal : Prop :=
  True

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)) →
    ∃ (v0 : (c : Dev Cert.UpProjIdeal.nD) → Buf (Elt Ideal) ((c.tc : Thread Cert.UpProjIdeal.nD Cert.UpProjIdeal.τ).loc Cert.UpProjIdeal.main_v2)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v2) = v0 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v2) = v0 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1))

def preserves_DownWgrad_DownWgradIdeal : Prop :=
  True

def algebraic_DownWgradIdeal_DownWgradRefIdeal [hDownWgradIdeal : Cert.DownWgradIdeal.Facts] [hDownWgradRefIdeal : Cert.DownWgradRefIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg)
    (m' : (ℓ : Loc Cert.DownWgradRefIdeal.nD Cert.DownWgradRefIdeal.τ Cert.DownWgradRefIdeal.sig) → Buf (Elt Ideal) ℓ) (g' : Dev Cert.DownWgradRefIdeal.nD → PrngReg), Pre_DownWgradIdeal m →
    (∀ c : Dev Cert.DownWgradIdeal.nD,
      m' ((c.tc : Thread Cert.DownWgradRefIdeal.nD Cert.DownWgradRefIdeal.τ).loc Cert.DownWgradRefIdeal.main_arg0) = m ((c.tc : Thread Cert.DownWgradIdeal.nD Cert.DownWgradIdeal.τ).loc Cert.DownWgradIdeal.main_arg0)
      ∧ m' ((c.tc : Thread Cert.DownWgradRefIdeal.nD Cert.DownWgradRefIdeal.τ).loc Cert.DownWgradRefIdeal.main_arg1) = m ((c.tc : Thread Cert.DownWgradIdeal.nD Cert.DownWgradIdeal.τ).loc Cert.DownWgradIdeal.main_arg1)) →
    ∃ (v0 : (c : Dev Cert.DownWgradIdeal.nD) → Buf (Elt Ideal) ((c.tc : Thread Cert.DownWgradIdeal.nD Cert.DownWgradIdeal.τ).loc Cert.DownWgradIdeal.main_v0)),
      θ_run (Cert.DownWgradIdeal.defs (F := Ideal)) (onTc (τ := Cert.DownWgradIdeal.τ) (Cert.DownWgradIdeal.main (F := Ideal))) ⟨m, fun _ => 0, g⟩ (fun r => ∀ c : Dev Cert.DownWgradIdeal.nD,
          r.2.mem ((c.tc : Thread Cert.DownWgradIdeal.nD Cert.DownWgradIdeal.τ).loc Cert.DownWgradIdeal.main_v0) = v0 c
          ∧ r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
          ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ θ_run (Cert.DownWgradRefIdeal.defs (F := Ideal)) (onTc (τ := Cert.DownWgradRefIdeal.τ) (Cert.DownWgradRefIdeal.main (F := Ideal))) ⟨m', fun _ => 0, g'⟩ (fun r => ∀ c : Dev Cert.DownWgradRefIdeal.nD,
          r.2.mem ((c.tc : Thread Cert.DownWgradRefIdeal.nD Cert.DownWgradRefIdeal.τ).loc Cert.DownWgradRefIdeal.main_v6) = v0 c
          ∧ r.2.mem ((c.tc : Thread Cert.DownWgradRefIdeal.nD Cert.DownWgradRefIdeal.τ).loc Cert.DownWgradRefIdeal.main_arg0) = m' ((c.tc : Thread Cert.DownWgradRefIdeal.nD Cert.DownWgradRefIdeal.τ).loc Cert.DownWgradRefIdeal.main_arg0)
          ∧ r.2.mem ((c.tc : Thread Cert.DownWgradRefIdeal.nD Cert.DownWgradRefIdeal.τ).loc Cert.DownWgradRefIdeal.main_arg1) = m' ((c.tc : Thread Cert.DownWgradRefIdeal.nD Cert.DownWgradRefIdeal.τ).loc Cert.DownWgradRefIdeal.main_arg1))

def preserves_DownDgrad_DownDgradIdeal : Prop :=
  True

def algebraic_DownDgradIdeal_DownDgradRefIdeal [hDownDgradIdeal : Cert.DownDgradIdeal.Facts] [hDownDgradRefIdeal : Cert.DownDgradRefIdeal.Facts] : Prop :=
  ∀ (m : (ℓ : Loc Cert.DownDgradIdeal.nD Cert.DownDgradIdeal.τ Cert.DownDgradIdeal.sig) → Buf (Elt Ideal) ℓ) (g : Dev Cert.DownDgradIdeal.nD → PrngReg)
    (m' : (ℓ : Loc Cert.DownDgradRefIdeal.nD Cert.DownDgradRefIdeal.τ Cert.DownDgradRefIdeal.sig) → Buf (Elt Ideal) ℓ) (g' : Dev Cert.DownDgradRefIdeal.nD → PrngReg), Pre_DownDgradIdeal m →
    (∀ c : Dev Cert.DownDgradIdeal.nD,
      m' ((c.tc : Thread Cert.DownDgradRefIdeal.nD Cert.DownDgradRefIdeal.τ).loc Cert.DownDgradRefIdeal.main_arg0) = m ((c.tc : Thread Cert.DownDgradIdeal.nD Cert.DownDgradIdeal.τ).loc Cert.DownDgradIdeal.main_arg0)
      ∧ m' ((c.tc : Thread Cert.DownDgradRefIdeal.nD Cert.DownDgradRefIdeal.τ).loc Cert.DownDgradRefIdeal.main_arg1) = m ((c.tc : Thread Cert.DownDgradIdeal.nD Cert.DownDgradIdeal.τ).loc Cert.DownDgradIdeal.main_arg1)) →
    ∃ (v0 : (c : Dev Cert.DownDgradIdeal.nD) → Buf (Elt Ideal) ((c.tc : Thread Cert.DownDgradIdeal.nD Cert.DownDgradIdeal.τ).loc Cert.DownDgradIdeal.main_v1)),
      θ_run (Cert.DownDgradIdeal.defs (F := Ideal)) (onTc (τ := Cert.DownDgradIdeal.τ) (Cert.DownDgradIdeal.main (F := Ideal))) ⟨m, fun _ => 0, g⟩ (fun r => ∀ c : Dev Cert.DownDgradIdeal.nD,
          r.2.mem ((c.tc : Thread Cert.DownDgradIdeal.nD Cert.DownDgradIdeal.τ).loc Cert.DownDgradIdeal.main_v1) = v0 c
          ∧ r.2.mem ((c.tc : Thread Cert.DownDgradIdeal.nD Cert.DownDgradIdeal.τ).loc Cert.DownDgradIdeal.main_arg0) = m ((c.tc : Thread Cert.DownDgradIdeal.nD Cert.DownDgradIdeal.τ).loc Cert.DownDgradIdeal.main_arg0)
          ∧ r.2.mem ((c.tc : Thread Cert.DownDgradIdeal.nD Cert.DownDgradIdeal.τ).loc Cert.DownDgradIdeal.main_arg1) = m ((c.tc : Thread Cert.DownDgradIdeal.nD Cert.DownDgradIdeal.τ).loc Cert.DownDgradIdeal.main_arg1))
      ∧ θ_run (Cert.DownDgradRefIdeal.defs (F := Ideal)) (onTc (τ := Cert.DownDgradRefIdeal.τ) (Cert.DownDgradRefIdeal.main (F := Ideal))) ⟨m', fun _ => 0, g'⟩ (fun r => ∀ c : Dev Cert.DownDgradRefIdeal.nD,
          r.2.mem ((c.tc : Thread Cert.DownDgradRefIdeal.nD Cert.DownDgradRefIdeal.τ).loc Cert.DownDgradRefIdeal.main_v4) = v0 c
          ∧ r.2.mem ((c.tc : Thread Cert.DownDgradRefIdeal.nD Cert.DownDgradRefIdeal.τ).loc Cert.DownDgradRefIdeal.main_arg0) = m' ((c.tc : Thread Cert.DownDgradRefIdeal.nD Cert.DownDgradRefIdeal.τ).loc Cert.DownDgradRefIdeal.main_arg0)
          ∧ r.2.mem ((c.tc : Thread Cert.DownDgradRefIdeal.nD Cert.DownDgradRefIdeal.τ).loc Cert.DownDgradRefIdeal.main_arg1) = m' ((c.tc : Thread Cert.DownDgradRefIdeal.nD Cert.DownDgradRefIdeal.τ).loc Cert.DownDgradRefIdeal.main_arg1))

def preserves_UpWgrad_UpWgradIdeal : Prop :=
  True

def algebraic_UpWgradIdeal_UpWgradRefIdeal [hUpWgradIdeal : Cert.UpWgradIdeal.Facts] [hUpWgradRefIdeal : Cert.UpWgradRefIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg)
    (m' : (ℓ : Loc Cert.UpWgradRefIdeal.nD Cert.UpWgradRefIdeal.τ Cert.UpWgradRefIdeal.sig) → Buf (Elt Ideal) ℓ) (g' : Dev Cert.UpWgradRefIdeal.nD → PrngReg), Pre_UpWgradIdeal m →
    (∀ c : Dev Cert.UpWgradIdeal.nD,
      m' ((c.tc : Thread Cert.UpWgradRefIdeal.nD Cert.UpWgradRefIdeal.τ).loc Cert.UpWgradRefIdeal.main_arg0) = m ((c.tc : Thread Cert.UpWgradIdeal.nD Cert.UpWgradIdeal.τ).loc Cert.UpWgradIdeal.main_arg0)
      ∧ m' ((c.tc : Thread Cert.UpWgradRefIdeal.nD Cert.UpWgradRefIdeal.τ).loc Cert.UpWgradRefIdeal.main_arg1) = m ((c.tc : Thread Cert.UpWgradIdeal.nD Cert.UpWgradIdeal.τ).loc Cert.UpWgradIdeal.main_arg1)) →
    ∃ (v0 : (c : Dev Cert.UpWgradIdeal.nD) → Buf (Elt Ideal) ((c.tc : Thread Cert.UpWgradIdeal.nD Cert.UpWgradIdeal.τ).loc Cert.UpWgradIdeal.main_v0)),
      θ_run (Cert.UpWgradIdeal.defs (F := Ideal)) (onTc (τ := Cert.UpWgradIdeal.τ) (Cert.UpWgradIdeal.main (F := Ideal))) ⟨m, fun _ => 0, g⟩ (fun r => ∀ c : Dev Cert.UpWgradIdeal.nD,
          r.2.mem ((c.tc : Thread Cert.UpWgradIdeal.nD Cert.UpWgradIdeal.τ).loc Cert.UpWgradIdeal.main_v0) = v0 c
          ∧ r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
          ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1))
      ∧ θ_run (Cert.UpWgradRefIdeal.defs (F := Ideal)) (onTc (τ := Cert.UpWgradRefIdeal.τ) (Cert.UpWgradRefIdeal.main (F := Ideal))) ⟨m', fun _ => 0, g'⟩ (fun r => ∀ c : Dev Cert.UpWgradRefIdeal.nD,
          r.2.mem ((c.tc : Thread Cert.UpWgradRefIdeal.nD Cert.UpWgradRefIdeal.τ).loc Cert.UpWgradRefIdeal.main_v7) = v0 c
          ∧ r.2.mem ((c.tc : Thread Cert.UpWgradRefIdeal.nD Cert.UpWgradRefIdeal.τ).loc Cert.UpWgradRefIdeal.main_arg0) = m' ((c.tc : Thread Cert.UpWgradRefIdeal.nD Cert.UpWgradRefIdeal.τ).loc Cert.UpWgradRefIdeal.main_arg0)
          ∧ r.2.mem ((c.tc : Thread Cert.UpWgradRefIdeal.nD Cert.UpWgradRefIdeal.τ).loc Cert.UpWgradRefIdeal.main_arg1) = m' ((c.tc : Thread Cert.UpWgradRefIdeal.nD Cert.UpWgradRefIdeal.τ).loc Cert.UpWgradRefIdeal.main_arg1))

def preserves_OutDgrad_OutDgradIdeal : Prop :=
  True

def algebraic_OutDgradIdeal_OutDgradRefIdeal [hOutDgradIdeal : Cert.OutDgradIdeal.Facts] [hOutDgradRefIdeal : Cert.OutDgradRefIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg)
    (m' : (ℓ : Loc Cert.OutDgradRefIdeal.nD Cert.OutDgradRefIdeal.τ Cert.OutDgradRefIdeal.sig) → Buf (Elt Ideal) ℓ) (g' : Dev Cert.OutDgradRefIdeal.nD → PrngReg), Pre_OutDgradIdeal m →
    (∀ c : Dev Cert.OutDgradIdeal.nD,
      m' ((c.tc : Thread Cert.OutDgradRefIdeal.nD Cert.OutDgradRefIdeal.τ).loc Cert.OutDgradRefIdeal.main_arg0) = m ((c.tc : Thread Cert.OutDgradIdeal.nD Cert.OutDgradIdeal.τ).loc Cert.OutDgradIdeal.main_arg0)
      ∧ m' ((c.tc : Thread Cert.OutDgradRefIdeal.nD Cert.OutDgradRefIdeal.τ).loc Cert.OutDgradRefIdeal.main_arg1) = m ((c.tc : Thread Cert.OutDgradIdeal.nD Cert.OutDgradIdeal.τ).loc Cert.OutDgradIdeal.main_arg1)) →
    ∃ (v0 : (c : Dev Cert.OutDgradIdeal.nD) → Buf (Elt Ideal) ((c.tc : Thread Cert.OutDgradIdeal.nD Cert.OutDgradIdeal.τ).loc Cert.OutDgradIdeal.main_v1)),
      θ_run (Cert.OutDgradIdeal.defs (F := Ideal)) (onTc (τ := Cert.OutDgradIdeal.τ) (Cert.OutDgradIdeal.main (F := Ideal))) ⟨m, fun _ => 0, g⟩ (fun r => ∀ c : Dev Cert.OutDgradIdeal.nD,
          r.2.mem ((c.tc : Thread Cert.OutDgradIdeal.nD Cert.OutDgradIdeal.τ).loc Cert.OutDgradIdeal.main_v1) = v0 c
          ∧ r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
          ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ θ_run (Cert.OutDgradRefIdeal.defs (F := Ideal)) (onTc (τ := Cert.OutDgradRefIdeal.τ) (Cert.OutDgradRefIdeal.main (F := Ideal))) ⟨m', fun _ => 0, g'⟩ (fun r => ∀ c : Dev Cert.OutDgradRefIdeal.nD,
          r.2.mem ((c.tc : Thread Cert.OutDgradRefIdeal.nD Cert.OutDgradRefIdeal.τ).loc Cert.OutDgradRefIdeal.main_v3) = v0 c
          ∧ r.2.mem ((c.tc : Thread Cert.OutDgradRefIdeal.nD Cert.OutDgradRefIdeal.τ).loc Cert.OutDgradRefIdeal.main_arg0) = m' ((c.tc : Thread Cert.OutDgradRefIdeal.nD Cert.OutDgradRefIdeal.τ).loc Cert.OutDgradRefIdeal.main_arg0)
          ∧ r.2.mem ((c.tc : Thread Cert.OutDgradRefIdeal.nD Cert.OutDgradRefIdeal.τ).loc Cert.OutDgradRefIdeal.main_arg1) = m' ((c.tc : Thread Cert.OutDgradRefIdeal.nD Cert.OutDgradRefIdeal.τ).loc Cert.OutDgradRefIdeal.main_arg1))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v6) = v0 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1))

def preserves_ProjWgrad_ProjWgradIdeal : Prop :=
  True

def algebraic_ProjWgradIdeal_ProjWgradRefIdeal [hProjWgradIdeal : Cert.ProjWgradIdeal.Facts] [hProjWgradRefIdeal : Cert.ProjWgradRefIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg)
    (m' : (ℓ : Loc Cert.ProjWgradRefIdeal.nD Cert.ProjWgradRefIdeal.τ Cert.ProjWgradRefIdeal.sig) → Buf (Elt Ideal) ℓ) (g' : Dev Cert.ProjWgradRefIdeal.nD → PrngReg), Pre_ProjWgradIdeal m →
    (∀ c : Dev Cert.ProjWgradIdeal.nD,
      m' ((c.tc : Thread Cert.ProjWgradRefIdeal.nD Cert.ProjWgradRefIdeal.τ).loc Cert.ProjWgradRefIdeal.main_arg0) = m ((c.tc : Thread Cert.ProjWgradIdeal.nD Cert.ProjWgradIdeal.τ).loc Cert.ProjWgradIdeal.main_arg0)
      ∧ m' ((c.tc : Thread Cert.ProjWgradRefIdeal.nD Cert.ProjWgradRefIdeal.τ).loc Cert.ProjWgradRefIdeal.main_arg1) = m ((c.tc : Thread Cert.ProjWgradIdeal.nD Cert.ProjWgradIdeal.τ).loc Cert.ProjWgradIdeal.main_arg1)) →
    ∃ (v0 : (c : Dev Cert.ProjWgradIdeal.nD) → Buf (Elt Ideal) ((c.tc : Thread Cert.ProjWgradIdeal.nD Cert.ProjWgradIdeal.τ).loc Cert.ProjWgradIdeal.main_v0)),
      θ_run (Cert.ProjWgradIdeal.defs (F := Ideal)) (onTc (τ := Cert.ProjWgradIdeal.τ) (Cert.ProjWgradIdeal.main (F := Ideal))) ⟨m, fun _ => 0, g⟩ (fun r => ∀ c : Dev Cert.ProjWgradIdeal.nD,
          r.2.mem ((c.tc : Thread Cert.ProjWgradIdeal.nD Cert.ProjWgradIdeal.τ).loc Cert.ProjWgradIdeal.main_v0) = v0 c
          ∧ r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
          ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1))
      ∧ θ_run (Cert.ProjWgradRefIdeal.defs (F := Ideal)) (onTc (τ := Cert.ProjWgradRefIdeal.τ) (Cert.ProjWgradRefIdeal.main (F := Ideal))) ⟨m', fun _ => 0, g'⟩ (fun r => ∀ c : Dev Cert.ProjWgradRefIdeal.nD,
          r.2.mem ((c.tc : Thread Cert.ProjWgradRefIdeal.nD Cert.ProjWgradRefIdeal.τ).loc Cert.ProjWgradRefIdeal.main_v8) = v0 c
          ∧ r.2.mem ((c.tc : Thread Cert.ProjWgradRefIdeal.nD Cert.ProjWgradRefIdeal.τ).loc Cert.ProjWgradRefIdeal.main_arg0) = m' ((c.tc : Thread Cert.ProjWgradRefIdeal.nD Cert.ProjWgradRefIdeal.τ).loc Cert.ProjWgradRefIdeal.main_arg0)
          ∧ r.2.mem ((c.tc : Thread Cert.ProjWgradRefIdeal.nD Cert.ProjWgradRefIdeal.τ).loc Cert.ProjWgradRefIdeal.main_arg1) = m' ((c.tc : Thread Cert.ProjWgradRefIdeal.nD Cert.ProjWgradRefIdeal.τ).loc Cert.ProjWgradRefIdeal.main_arg1))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)
      ∧ m' ((c.tc : Thread Cert.UpGradRefIdeal.nD Cert.UpGradRefIdeal.τ).loc Cert.UpGradRefIdeal.main_arg2) = m ((c.tc : Thread Cert.UpGradIdeal.nD Cert.UpGradIdeal.τ).loc Cert.UpGradIdeal.main_arg2)
      ∧ m' ((c.tc : Thread Cert.UpGradRefIdeal.nD Cert.UpGradRefIdeal.τ).loc Cert.UpGradRefIdeal.main_arg3) = m ((c.tc : Thread Cert.UpGradIdeal.nD Cert.UpGradIdeal.τ).loc Cert.UpGradIdeal.main_arg3)
      ∧ m' ((c.tc : Thread Cert.UpGradRefIdeal.nD Cert.UpGradRefIdeal.τ).loc Cert.UpGradRefIdeal.main_arg4) = m ((c.tc : Thread Cert.UpGradIdeal.nD Cert.UpGradIdeal.τ).loc Cert.UpGradIdeal.main_arg4)) →
    ∃ (v0 : (c : Dev Cert.UpGradIdeal.nD) → Buf (Elt Ideal) ((c.tc : Thread Cert.UpGradIdeal.nD Cert.UpGradIdeal.τ).loc Cert.UpGradIdeal.main_v2_0)) (v1 : (c : Dev Cert.UpGradIdeal.nD) → Buf (Elt Ideal) ((c.tc : Thread Cert.UpGradIdeal.nD Cert.UpGradIdeal.τ).loc Cert.UpGradIdeal.main_v2_1)) (v2 : (c : Dev Cert.UpGradIdeal.nD) → Buf (Elt Ideal) ((c.tc : Thread Cert.UpGradIdeal.nD Cert.UpGradIdeal.τ).loc Cert.UpGradIdeal.main_v2_2)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v2_0) = v0 c
          ∧ r.2.mem ((c.tc : Thread Cert.UpGradIdeal.nD Cert.UpGradIdeal.τ).loc Cert.UpGradIdeal.main_v2_1) = v1 c
          ∧ r.2.mem ((c.tc : Thread Cert.UpGradIdeal.nD Cert.UpGradIdeal.τ).loc Cert.UpGradIdeal.main_v2_2) = v2 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
          ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2)
          ∧ r.2.mem ((c.tc : Thread Cert.UpGradIdeal.nD Cert.UpGradIdeal.τ).loc Cert.UpGradIdeal.main_arg3) = m ((c.tc : Thread Cert.UpGradIdeal.nD Cert.UpGradIdeal.τ).loc Cert.UpGradIdeal.main_arg3)
          ∧ r.2.mem ((c.tc : Thread Cert.UpGradIdeal.nD Cert.UpGradIdeal.τ).loc Cert.UpGradIdeal.main_arg4) = m ((c.tc : Thread Cert.UpGradIdeal.nD Cert.UpGradIdeal.τ).loc Cert.UpGradIdeal.main_arg4))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v40) = v0 c
          ∧ r.2.mem ((c.tc : Thread Cert.UpGradRefIdeal.nD Cert.UpGradRefIdeal.τ).loc Cert.UpGradRefIdeal.main_v42) = v1 c
          ∧ r.2.mem ((c.tc : Thread Cert.UpGradRefIdeal.nD Cert.UpGradRefIdeal.τ).loc Cert.UpGradRefIdeal.main_v41) = v2 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1)
          ∧ r.2.mem ((c.tc : Thread Cert.UpGradRefIdeal.nD Cert.UpGradRefIdeal.τ).loc Cert.UpGradRefIdeal.main_arg2) = m' ((c.tc : Thread Cert.UpGradRefIdeal.nD Cert.UpGradRefIdeal.τ).loc Cert.UpGradRefIdeal.main_arg2)
          ∧ r.2.mem ((c.tc : Thread Cert.UpGradRefIdeal.nD Cert.UpGradRefIdeal.τ).loc Cert.UpGradRefIdeal.main_arg3) = m' ((c.tc : Thread Cert.UpGradRefIdeal.nD Cert.UpGradRefIdeal.τ).loc Cert.UpGradRefIdeal.main_arg3)
          ∧ r.2.mem ((c.tc : Thread Cert.UpGradRefIdeal.nD Cert.UpGradRefIdeal.τ).loc Cert.UpGradRefIdeal.main_arg4) = m' ((c.tc : Thread Cert.UpGradRefIdeal.nD Cert.UpGradRefIdeal.τ).loc Cert.UpGradRefIdeal.main_arg4))

def preserves_ProjGrad_ProjGradIdeal : Prop :=
  True

def algebraic_ProjGradIdeal_ProjGradRefIdeal [hProjGradIdeal : Cert.ProjGradIdeal.Facts] [hProjGradRefIdeal : Cert.ProjGradRefIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg)
    (m' : (ℓ : Loc Cert.ProjGradRefIdeal.nD Cert.ProjGradRefIdeal.τ Cert.ProjGradRefIdeal.sig) → Buf (Elt Ideal) ℓ) (g' : Dev Cert.ProjGradRefIdeal.nD → PrngReg), Pre_ProjGradIdeal m →
    (∀ c : Dev Cert.ProjGradIdeal.nD,
      m' ((c.tc : Thread Cert.ProjGradRefIdeal.nD Cert.ProjGradRefIdeal.τ).loc Cert.ProjGradRefIdeal.main_arg0) = m ((c.tc : Thread Cert.ProjGradIdeal.nD Cert.ProjGradIdeal.τ).loc Cert.ProjGradIdeal.main_arg0)
      ∧ m' ((c.tc : Thread Cert.ProjGradRefIdeal.nD Cert.ProjGradRefIdeal.τ).loc Cert.ProjGradRefIdeal.main_arg1) = m ((c.tc : Thread Cert.ProjGradIdeal.nD Cert.ProjGradIdeal.τ).loc Cert.ProjGradIdeal.main_arg1)
      ∧ m' ((c.tc : Thread Cert.ProjGradRefIdeal.nD Cert.ProjGradRefIdeal.τ).loc Cert.ProjGradRefIdeal.main_arg2) = m ((c.tc : Thread Cert.ProjGradIdeal.nD Cert.ProjGradIdeal.τ).loc Cert.ProjGradIdeal.main_arg2)
      ∧ m' ((c.tc : Thread Cert.ProjGradRefIdeal.nD Cert.ProjGradRefIdeal.τ).loc Cert.ProjGradRefIdeal.main_arg3) = m ((c.tc : Thread Cert.ProjGradIdeal.nD Cert.ProjGradIdeal.τ).loc Cert.ProjGradIdeal.main_arg3)
      ∧ m' ((c.tc : Thread Cert.ProjGradRefIdeal.nD Cert.ProjGradRefIdeal.τ).loc Cert.ProjGradRefIdeal.main_arg4) = m ((c.tc : Thread Cert.ProjGradIdeal.nD Cert.ProjGradIdeal.τ).loc Cert.ProjGradIdeal.main_arg4)) →
    ∃ (v0 : (c : Dev Cert.ProjGradIdeal.nD) → Buf (Elt Ideal) ((c.tc : Thread Cert.ProjGradIdeal.nD Cert.ProjGradIdeal.τ).loc Cert.ProjGradIdeal.main_v1_0)) (v1 : (c : Dev Cert.ProjGradIdeal.nD) → Buf (Elt Ideal) ((c.tc : Thread Cert.ProjGradIdeal.nD Cert.ProjGradIdeal.τ).loc Cert.ProjGradIdeal.main_v1_1)) (v2 : (c : Dev Cert.ProjGradIdeal.nD) → Buf (Elt Ideal) ((c.tc : Thread Cert.ProjGradIdeal.nD Cert.ProjGradIdeal.τ).loc Cert.ProjGradIdeal.main_v1_2)),
      θ_run (Cert.ProjGradIdeal.defs (F := Ideal)) (onTc (τ := Cert.ProjGradIdeal.τ) (Cert.ProjGradIdeal.main (F := Ideal))) ⟨m, fun _ => 0, g⟩ (fun r => ∀ c : Dev Cert.ProjGradIdeal.nD,
          r.2.mem ((c.tc : Thread Cert.ProjGradIdeal.nD Cert.ProjGradIdeal.τ).loc Cert.ProjGradIdeal.main_v1_0) = v0 c
          ∧ r.2.mem ((c.tc : Thread Cert.ProjGradIdeal.nD Cert.ProjGradIdeal.τ).loc Cert.ProjGradIdeal.main_v1_1) = v1 c
          ∧ r.2.mem ((c.tc : Thread Cert.ProjGradIdeal.nD Cert.ProjGradIdeal.τ).loc Cert.ProjGradIdeal.main_v1_2) = v2 c
          ∧ r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
          ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1)
          ∧ r.2.mem ((c.tc : Thread Cert.ProjGradIdeal.nD Cert.ProjGradIdeal.τ).loc Cert.ProjGradIdeal.main_arg2) = m ((c.tc : Thread Cert.ProjGradIdeal.nD Cert.ProjGradIdeal.τ).loc Cert.ProjGradIdeal.main_arg2)
          ∧ r.2.mem ((c.tc : Thread Cert.ProjGradIdeal.nD Cert.ProjGradIdeal.τ).loc Cert.ProjGradIdeal.main_arg3) = m ((c.tc : Thread Cert.ProjGradIdeal.nD Cert.ProjGradIdeal.τ).loc Cert.ProjGradIdeal.main_arg3)
          ∧ r.2.mem ((c.tc : Thread Cert.ProjGradIdeal.nD Cert.ProjGradIdeal.τ).loc Cert.ProjGradIdeal.main_arg4) = m ((c.tc : Thread Cert.ProjGradIdeal.nD Cert.ProjGradIdeal.τ).loc Cert.ProjGradIdeal.main_arg4))
      ∧ θ_run (Cert.ProjGradRefIdeal.defs (F := Ideal)) (onTc (τ := Cert.ProjGradRefIdeal.τ) (Cert.ProjGradRefIdeal.main (F := Ideal))) ⟨m', fun _ => 0, g'⟩ (fun r => ∀ c : Dev Cert.ProjGradRefIdeal.nD,
          r.2.mem ((c.tc : Thread Cert.ProjGradRefIdeal.nD Cert.ProjGradRefIdeal.τ).loc Cert.ProjGradRefIdeal.main_v40) = v0 c
          ∧ r.2.mem ((c.tc : Thread Cert.ProjGradRefIdeal.nD Cert.ProjGradRefIdeal.τ).loc Cert.ProjGradRefIdeal.main_v42) = v1 c
          ∧ r.2.mem ((c.tc : Thread Cert.ProjGradRefIdeal.nD Cert.ProjGradRefIdeal.τ).loc Cert.ProjGradRefIdeal.main_v41) = v2 c
          ∧ r.2.mem ((c.tc : Thread Cert.ProjGradRefIdeal.nD Cert.ProjGradRefIdeal.τ).loc Cert.ProjGradRefIdeal.main_arg0) = m' ((c.tc : Thread Cert.ProjGradRefIdeal.nD Cert.ProjGradRefIdeal.τ).loc Cert.ProjGradRefIdeal.main_arg0)
          ∧ r.2.mem ((c.tc : Thread Cert.ProjGradRefIdeal.nD Cert.ProjGradRefIdeal.τ).loc Cert.ProjGradRefIdeal.main_arg1) = m' ((c.tc : Thread Cert.ProjGradRefIdeal.nD Cert.ProjGradRefIdeal.τ).loc Cert.ProjGradRefIdeal.main_arg1)
          ∧ r.2.mem ((c.tc : Thread Cert.ProjGradRefIdeal.nD Cert.ProjGradRefIdeal.τ).loc Cert.ProjGradRefIdeal.main_arg2) = m' ((c.tc : Thread Cert.ProjGradRefIdeal.nD Cert.ProjGradRefIdeal.τ).loc Cert.ProjGradRefIdeal.main_arg2)
          ∧ r.2.mem ((c.tc : Thread Cert.ProjGradRefIdeal.nD Cert.ProjGradRefIdeal.τ).loc Cert.ProjGradRefIdeal.main_arg3) = m' ((c.tc : Thread Cert.ProjGradRefIdeal.nD Cert.ProjGradRefIdeal.τ).loc Cert.ProjGradRefIdeal.main_arg3)
          ∧ r.2.mem ((c.tc : Thread Cert.ProjGradRefIdeal.nD Cert.ProjGradRefIdeal.τ).loc Cert.ProjGradRefIdeal.main_arg4) = m' ((c.tc : Thread Cert.ProjGradRefIdeal.nD Cert.ProjGradRefIdeal.τ).loc Cert.ProjGradRefIdeal.main_arg4))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v11_0)) (v1 : (c : Dev Cert.DownLossIdeal.nD) → Buf (Elt Ideal) ((c.tc : Thread Cert.DownLossIdeal.nD Cert.DownLossIdeal.τ).loc Cert.DownLossIdeal.main_v11_1)) (v2 : (c : Dev Cert.DownLossIdeal.nD) → Buf (Elt Ideal) ((c.tc : Thread Cert.DownLossIdeal.nD Cert.DownLossIdeal.τ).loc Cert.DownLossIdeal.main_v11_2)) (v3 : (c : Dev Cert.DownLossIdeal.nD) → Buf (Elt Ideal) ((c.tc : Thread Cert.DownLossIdeal.nD Cert.DownLossIdeal.τ).loc Cert.DownLossIdeal.main_v11_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v11_0) = v0 c
          ∧ r.2.mem ((c.tc : Thread Cert.DownLossIdeal.nD Cert.DownLossIdeal.τ).loc Cert.DownLossIdeal.main_v11_1) = v1 c
          ∧ r.2.mem ((c.tc : Thread Cert.DownLossIdeal.nD Cert.DownLossIdeal.τ).loc Cert.DownLossIdeal.main_v11_2) = v2 c
          ∧ r.2.mem ((c.tc : Thread Cert.DownLossIdeal.nD Cert.DownLossIdeal.τ).loc Cert.DownLossIdeal.main_v11_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v60) = v0 c
          ∧ r.2.mem ((c.tc : Thread Cert.DownLossRefIdeal.nD Cert.DownLossRefIdeal.τ).loc Cert.DownLossRefIdeal.main_v61) = v1 c
          ∧ r.2.mem ((c.tc : Thread Cert.DownLossRefIdeal.nD Cert.DownLossRefIdeal.τ).loc Cert.DownLossRefIdeal.main_v62) = v2 c
          ∧ r.2.mem ((c.tc : Thread Cert.DownLossRefIdeal.nD Cert.DownLossRefIdeal.τ).loc Cert.DownLossRefIdeal.main_v57) = v3 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hUpProj : Cert.UpProj.Facts) (hUpProjIdeal : Cert.UpProjIdeal.Facts) (hUpProjRefIdeal : Cert.UpProjRefIdeal.Facts) (hDownWgrad : Cert.DownWgrad.Facts) (hDownWgradIdeal : Cert.DownWgradIdeal.Facts) (hDownWgradRefIdeal : Cert.DownWgradRefIdeal.Facts) (hDownDgrad : Cert.DownDgrad.Facts) (hDownDgradIdeal : Cert.DownDgradIdeal.Facts) (hDownDgradRefIdeal : Cert.DownDgradRefIdeal.Facts) (hUpWgrad : Cert.UpWgrad.Facts) (hUpWgradIdeal : Cert.UpWgradIdeal.Facts) (hUpWgradRefIdeal : Cert.UpWgradRefIdeal.Facts) (hOutDgrad : Cert.OutDgrad.Facts) (hOutDgradIdeal : Cert.OutDgradIdeal.Facts) (hOutDgradRefIdeal : Cert.OutDgradRefIdeal.Facts) (hOutWgrad : Cert.OutWgrad.Facts) (hOutWgradIdeal : Cert.OutWgradIdeal.Facts) (hOutWgradRefIdeal : Cert.OutWgradRefIdeal.Facts) (hProjWgrad : Cert.ProjWgrad.Facts) (hProjWgradIdeal : Cert.ProjWgradIdeal.Facts) (hProjWgradRefIdeal : Cert.ProjWgradRefIdeal.Facts) (hUpGrad : Cert.UpGrad.Facts) (hUpGradIdeal : Cert.UpGradIdeal.Facts) (hUpGradRefIdeal : Cert.UpGradRefIdeal.Facts) (hProjGrad : Cert.ProjGrad.Facts) (hProjGradIdeal : Cert.ProjGradIdeal.Facts) (hProjGradRefIdeal : Cert.ProjGradRefIdeal.Facts) (hDownLoss : Cert.DownLoss.Facts) (hDownLossIdeal : Cert.DownLossIdeal.Facts) (hDownLossRefIdeal : Cert.DownLossRefIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Proj (hProj := hProj)
    ∧ quiescent_ProjIdeal (hProjIdeal := hProjIdeal)
    ∧ quiescent_ProjRefIdeal (hProjRefIdeal := hProjRefIdeal)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_DownWgrad (hDownWgrad := hDownWgrad)
    ∧ quiescent_DownWgradIdeal (hDownWgradIdeal := hDownWgradIdeal)
    ∧ quiescent_DownWgradRefIdeal (hDownWgradRefIdeal := hDownWgradRefIdeal)
    ∧ quiescent_DownDgrad (hDownDgrad := hDownDgrad)
    ∧ quiescent_DownDgradIdeal (hDownDgradIdeal := hDownDgradIdeal)
    ∧ quiescent_DownDgradRefIdeal (hDownDgradRefIdeal := hDownDgradRefIdeal)
    ∧ quiescent_UpWgrad (hUpWgrad := hUpWgrad)
    ∧ quiescent_UpWgradIdeal (hUpWgradIdeal := hUpWgradIdeal)
    ∧ quiescent_UpWgradRefIdeal (hUpWgradRefIdeal := hUpWgradRefIdeal)
    ∧ quiescent_OutDgrad (hOutDgrad := hOutDgrad)
    ∧ quiescent_OutDgradIdeal (hOutDgradIdeal := hOutDgradIdeal)
    ∧ quiescent_OutDgradRefIdeal (hOutDgradRefIdeal := hOutDgradRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_ProjWgrad (hProjWgrad := hProjWgrad)
    ∧ quiescent_ProjWgradIdeal (hProjWgradIdeal := hProjWgradIdeal)
    ∧ quiescent_ProjWgradRefIdeal (hProjWgradRefIdeal := hProjWgradRefIdeal)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_ProjGrad (hProjGrad := hProjGrad)
    ∧ quiescent_ProjGradIdeal (hProjGradIdeal := hProjGradIdeal)
    ∧ quiescent_ProjGradRefIdeal (hProjGradRefIdeal := hProjGradRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Proj_ProjIdeal
    ∧ algebraic_ProjIdeal_ProjRefIdeal (hProjIdeal := hProjIdeal) (hProjRefIdeal := hProjRefIdeal)
    ∧ preserves_UpProj_UpProjIdeal
    ∧ algebraic_UpProjIdeal_UpProjRefIdeal (hUpProjIdeal := hUpProjIdeal) (hUpProjRefIdeal := hUpProjRefIdeal)
    ∧ preserves_DownWgrad_DownWgradIdeal
    ∧ algebraic_DownWgradIdeal_DownWgradRefIdeal (hDownWgradIdeal := hDownWgradIdeal) (hDownWgradRefIdeal := hDownWgradRefIdeal)
    ∧ preserves_DownDgrad_DownDgradIdeal
    ∧ algebraic_DownDgradIdeal_DownDgradRefIdeal (hDownDgradIdeal := hDownDgradIdeal) (hDownDgradRefIdeal := hDownDgradRefIdeal)
    ∧ preserves_UpWgrad_UpWgradIdeal
    ∧ algebraic_UpWgradIdeal_UpWgradRefIdeal (hUpWgradIdeal := hUpWgradIdeal) (hUpWgradRefIdeal := hUpWgradRefIdeal)
    ∧ preserves_OutDgrad_OutDgradIdeal
    ∧ algebraic_OutDgradIdeal_OutDgradRefIdeal (hOutDgradIdeal := hOutDgradIdeal) (hOutDgradRefIdeal := hOutDgradRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_ProjWgrad_ProjWgradIdeal
    ∧ algebraic_ProjWgradIdeal_ProjWgradRefIdeal (hProjWgradIdeal := hProjWgradIdeal) (hProjWgradRefIdeal := hProjWgradRefIdeal)
    ∧ preserves_UpGrad_UpGradIdeal
    ∧ algebraic_UpGradIdeal_UpGradRefIdeal (hUpGradIdeal := hUpGradIdeal) (hUpGradRefIdeal := hUpGradRefIdeal)
    ∧ preserves_ProjGrad_ProjGradIdeal
    ∧ algebraic_ProjGradIdeal_ProjGradRefIdeal (hProjGradIdeal := hProjGradIdeal) (hProjGradRefIdeal := hProjGradRefIdeal)
    ∧ preserves_DownLoss_DownLossIdeal
    ∧ algebraic_DownLossIdeal_DownLossRefIdeal (hDownLossIdeal := hDownLossIdeal) (hDownLossRefIdeal := hDownLossRefIdeal)
-- ==== Pre_inputs_finite.lean ====
abbrev S2176x512 : Shape := ⟨2, ![2176, 512]⟩
abbrev S2176x2048 : Shape := ⟨2, ![2176, 2048]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S_ : Shape := ⟨0, ![]⟩

class Facts : Prop where
  slices_S2176x2048_S2176x512_0_1536 : S2176x2048.Slices ![0, 1536] S2176x512
  bcast_S_S2176x512 : S_.BroadcastsInDim S2176x512 (![] : Fin 0 → Fin S2176x512.rank)
  bcast_S_S32x64 : S_.BroadcastsInDim S32x64 (![] : Fin 0 → Fin S32x64.rank)
  bcast_S_S32x64x16 : S_.BroadcastsInDim S32x64x16 (![] : Fin 0 → Fin S32x64x16.rank)
  bcast_S_S32x16x64 : S_.BroadcastsInDim S32x16x64 (![] : Fin 0 → Fin S32x16x64.rank)

variable [Facts]

def fn_part1 {F : FTy → Type} [FloatOps F] (main_arg6 : FVec F S32x16x64 .f32) (main_arg7 : FVec F S32x16x64 .f32) (main_v3 : IVec S2176x512 1) (main_v6 : IVec S2176x512 1) (main_v9 : IVec S32x64 1) (main_v12 : IVec S32x64 1) (main_v15 : IVec S32x64x16 1) (main_v16 : FVec F S32x64x16 .f32) (main_v17 : FVec F S32x64x16 .f32) : IVec S2176x512 1 × IVec S2176x512 1 × IVec S32x64 1 × IVec S32x64 1 × IVec S32x64x16 1 × IVec S32x64x16 1 × IVec S32x16x64 1 × IVec S32x16x64 1 :=
  let main_v18 : IVec S32x64x16 1 := cmpf .olt main_v16 main_v17
  let main_v19 : FVec F S32x16x64 .f32 := Host.absf main_arg6
  let main_cst_5 : FVec F S_ .f32 := constant S_ .f32 0x7F800000#32
  let main_v20 : FVec F S32x16x64 .f32 := broadcastInDim S32x16x64 ![] bcast_S_S32x16x64 main_cst_5
  let main_v21 : IVec S32x16x64 1 := cmpf .olt main_v19 main_v20
  let main_v22 : FVec F S32x16x64 .f32 := Host.absf main_arg7
  let main_cst_6 : FVec F S_ .f32 := constant S_ .f32 0x7F800000#32
  let main_v23 : FVec F S32x16x64 .f32 := broadcastInDim S32x16x64 ![] bcast_S_S32x16x64 main_cst_6
  let main_v24 : IVec S32x16x64 1 := cmpf .olt main_v22 main_v23
  (main_v3, main_v6, main_v9, main_v12, main_v15, main_v18, main_v21, main_v24)

def fn {F : FTy → Type} [FloatOps F] (main_arg0 : FVec F S2176x512 .f32) (main_arg1 : FVec F S2176x2048 .f32) (main_arg2 : FVec F S32x64 .f32) (main_arg3 : FVec F S32x64 .f32) (main_arg4 : FVec F S32x64x16 .f32) (main_arg5 : FVec F S32x64x16 .f32) (main_arg6 : FVec F S32x16x64 .f32) (main_arg7 : FVec F S32x16x64 .f32) (main_arg8 : FVec F S32x16 .f32) : IVec S2176x512 1 × IVec S2176x512 1 × IVec S32x64 1 × IVec S32x64 1 × IVec S32x64x16 1 × IVec S32x64x16 1 × IVec S32x16x64 1 × IVec S32x16x64 1 :=
  let main_v0 : FVec F S2176x512 .f32 := (extractStridedSlice S2176x512 ![0, 1536] · slices_S2176x2048_S2176x512_0_1536) main_arg1
  let main_v1 : FVec F S2176x512 .f32 := Host.absf main_arg0
  let main_cst : FVec F S_ .f32 := constant S_ .f32 0x7F800000#32
  let main_v2 : FVec F S2176x512 .f32 := broadcastInDim S2176x512 ![] bcast_S_S2176x512 main_cst
  let main_v3 : IVec S2176x512 1 := cmpf .olt main_v1 main_v2
  let main_v4 : FVec F S2176x512 .f32 := Host.absf main_v0
  let main_cst_0 : FVec F S_ .f32 := constant S_ .f32 0x7F800000#32
  let main_v5 : FVec F S2176x512 .f32 := broadcastInDim S2176x512 ![] bcast_S_S2176x512 main_cst_0
  let main_v6 : IVec S2176x512 1 := cmpf .olt main_v4 main_v5
  let main_v7 : FVec F S32x64 .f32 := Host.absf main_arg2
  let main_cst_1 : FVec F S_ .f32 := constant S_ .f32 0x7F800000#32
  let main_v8 : FVec F S32x64 .f32 := broadcastInDim S32x64 ![] bcast_S_S32x64 main_cst_1
  let main_v9 : IVec S32x64 1 := cmpf .olt main_v7 main_v8
  let main_v10 : FVec F S32x64 .f32 := Host.absf main_arg3
  let main_cst_2 : FVec F S_ .f32 := constant S_ .f32 0x7F800000#32
  let main_v11 : FVec F S32x64 .f32 := broadcastInDim S32x64 ![] bcast_S_S32x64 main_cst_2
  let main_v12 : IVec S32x64 1 := cmpf .olt main_v10 main_v11
  let main_v13 : FVec F S32x64x16 .f32 := Host.absf main_arg4
  let main_cst_3 : FVec F S_ .f32 := constant S_ .f32 0x7F800000#32
  let main_v14 : FVec F S32x64x16 .f32 := broadcastInDim S32x64x16 ![] bcast_S_S32x64x16 main_cst_3
  let main_v15 : IVec S32x64x16 1 := cmpf .olt main_v13 main_v14
  let main_v16 : FVec F S32x64x16 .f32 := Host.absf main_arg5
  let main_cst_4 : FVec F S_ .f32 := constant S_ .f32 0x7F800000#32
  let main_v17 : FVec F S32x64x16 .f32 := broadcastInDim S32x64x16 ![] bcast_S_S32x64x16 main_cst_4
  fn_part1 (F := F) main_arg6 main_arg7 main_v3 main_v6 main_v9 main_v12 main_v15 main_v16 main_v17
-- ==== Kernel.lean ====
abbrev S2176x512 : Shape := ⟨2, ![2176, 512]⟩
abbrev S2176x2048 : Shape := ⟨2, ![2176, 2048]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S8x272x2048 : Shape := ⟨3, ![8, 272, 2048]⟩
abbrev S272x8x2048 : Shape := ⟨3, ![272, 8, 2048]⟩
abbrev S8x272x512 : Shape := ⟨3, ![8, 272, 512]⟩
abbrev S272x8x512 : Shape := ⟨3, ![272, 8, 512]⟩
abbrev S4x8x64x16 : Shape := ⟨4, ![4, 8, 64, 16]⟩
abbrev S4x8x16x64 : Shape := ⟨4, ![4, 8, 16, 64]⟩
abbrev S8x8 : Shape := ⟨2, ![8, 8]⟩
abbrev S_ : Shape := ⟨0, ![]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x1x512 : Shape := ⟨3, ![4, 1, 512]⟩
abbrev S4x1x128 : Shape := ⟨3, ![4, 1, 128]⟩
abbrev S2176x128 : Shape := ⟨2, ![2176, 128]⟩
abbrev S1x128x512 : Shape := ⟨3, ![1, 128, 512]⟩
abbrev S1x1x512 : Shape := ⟨3, ![1, 1, 512]⟩
abbrev S1x1x128 : Shape := ⟨3, ![1, 1, 128]⟩
abbrev S128x512 : Shape := ⟨2, ![128, 512]⟩
abbrev S1x512 : Shape := ⟨2, ![1, 512]⟩
abbrev S8x512 : Shape := ⟨2, ![8, 512]⟩
abbrev S1x128 : Shape := ⟨2, ![1, 128]⟩
abbrev S1x8x16x64 : Shape := ⟨4, ![1, 8, 16, 64]⟩
abbrev S512 : Shape := ⟨1, ![512]⟩
abbrev S16x64 : Shape := ⟨2, ![16, 64]⟩
abbrev S1x1x16x64 : Shape := ⟨4, ![1, 1, 16, 64]⟩
abbrev S128 : Shape := ⟨1, ![128]⟩

abbrev nBuf : Space → Nat
  | .hbm => 107
  | .vmem => 62
  | .smem => 0
  | _ => 0

abbrev bufTy : (tb : Table) → Fin (tcTables nBuf tb) → BufTy
  | .hbm, ⟨0, _⟩ => ⟨S2176x512, .f32⟩
  | .hbm, ⟨1, _⟩ => ⟨S2176x2048, .f32⟩
  | .hbm, ⟨2, _⟩ => ⟨S32x64, .f32⟩
  | .hbm, ⟨3, _⟩ => ⟨S32x64, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S32x16, .f32⟩
  | .hbm, ⟨9, _⟩ => ⟨S8x272x2048, .f32⟩
  | .hbm, ⟨10, _⟩ => ⟨S272x8x2048, .f32⟩
  | .hbm, ⟨11, _⟩ => ⟨S2176x2048, .f32⟩
  | .hbm, ⟨12, _⟩ => ⟨S8x272x512, .f32⟩
  | .hbm, ⟨13, _⟩ => ⟨S272x8x512, .f32⟩
  | .hbm, ⟨14, _⟩ => ⟨S2176x512, .f32⟩
  | .hbm, ⟨15, _⟩ => ⟨S4x8x64x16, .f32⟩
  | .hbm, ⟨16, _⟩ => ⟨S4x8x16x64, .f32⟩
  | .hbm, ⟨17, _⟩ => ⟨S8x8, .i32⟩
  | .hbm, ⟨18, _⟩ => ⟨S8x8, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S8x8, .i1⟩
  | .hbm, ⟨23, _⟩ => ⟨S8x8, .f32⟩
  | .hbm, ⟨24, _⟩ => ⟨S4x8x16x1x64, .f32⟩
  | .hbm, ⟨25, _⟩ => ⟨S1x8x1x8x1, .f32⟩
  | .hbm, ⟨26, _⟩ => ⟨S4x8x16x8x64, .f32⟩
  | .hbm, ⟨27, _⟩ => ⟨S4x8x16x8x64, .f32⟩
  | .hbm, ⟨28, _⟩ => ⟨S4x8x16x8x64, .f32⟩
  | .hbm, ⟨29, _⟩ => ⟨S4x128x512, .f32⟩
  | .hbm, ⟨30, _⟩ => ⟨S4x128x512, .bf16⟩
  | .hbm, ⟨31, _⟩ => ⟨S4x8x64x16, .f32⟩
  | .hbm, ⟨32, _⟩ => ⟨S4x8x16x64, .f32⟩
  | .hbm, ⟨33, _⟩ => ⟨S8x8, .i32⟩
  | .hbm, ⟨34, _⟩ => ⟨S8x8, .i32⟩
  | .hbm, ⟨35, _⟩ => ⟨S_, .i32⟩
  | .hbm, ⟨36, _⟩ => ⟨S8x8, .i32⟩
  | .hbm, ⟨37, _⟩ => ⟨S8x8, .i32⟩
  | .hbm, ⟨38, _⟩ => ⟨S8x8, .i1⟩
  | .hbm, ⟨39, _⟩ => ⟨S8x8, .f32⟩
  | .hbm, ⟨40, _⟩ => ⟨S4x8x16x1x64, .f32⟩
  | .hbm, ⟨41, _⟩ => ⟨S1x8x1x8x1, .f32⟩
  | .hbm, ⟨42, _⟩ => ⟨S4x8x16x8x64, .f32⟩
  | .hbm, ⟨43, _⟩ => ⟨S4x8x16x8x64, .f32⟩
  | .hbm, ⟨44, _⟩ => ⟨S4x8x16x8x64, .f32⟩
  | .hbm, ⟨45, _⟩ => ⟨S4x128x512, .f32⟩
  | .hbm, ⟨46, _⟩ => ⟨S4x128x512, .bf16⟩
  | .hbm, ⟨47, _⟩ => ⟨S4x1x512, .f32⟩
  | .hbm, ⟨48, _⟩ => ⟨S4x1x512, .f32⟩
  | .hbm, ⟨49, _⟩ => ⟨S4x8x16x64, .f32⟩
  | .hbm, ⟨50, _⟩ => ⟨S8x8, .i32⟩
  | .hbm, ⟨51, _⟩ => ⟨S8x8, .i32⟩
  | .hbm, ⟨52, _⟩ => ⟨S_, .i32⟩
  | .hbm, ⟨53, _⟩ => ⟨S8x8, .i32⟩
  | .hbm, ⟨54, _⟩ => ⟨S8x8, .i32⟩
  | .hbm, ⟨55, _⟩ => ⟨S8x8, .i1⟩
  | .hbm, ⟨56, _⟩ => ⟨S8x8, .f32⟩
  | .hbm, ⟨57, _⟩ => ⟨S4x8x16x1x64, .f32⟩
  | .hbm, ⟨58, _⟩ => ⟨S1x8x1x8x1, .f32⟩
  | .hbm, ⟨59, _⟩ => ⟨S4x8x16x8x64, .f32⟩
  | .hbm, ⟨60, _⟩ => ⟨S4x8x16x8x64, .f32⟩
  | .hbm, ⟨61, _⟩ => ⟨S4x8x16x8x64, .f32⟩
  | .hbm, ⟨62, _⟩ => ⟨S4x128x512, .f32⟩
  | .hbm, ⟨63, _⟩ => ⟨S4x128x512, .bf16⟩
  | .hbm, ⟨64, _⟩ => ⟨S4x8x16x64, .f32⟩
  | .hbm, ⟨65, _⟩ => ⟨S8x8, .i32⟩
  | .hbm, ⟨66, _⟩ => ⟨S8x8, .i32⟩
  | .hbm, ⟨67, _⟩ => ⟨S_, .i32⟩
  | .hbm, ⟨68, _⟩ => ⟨S8x8, .i32⟩
  | .hbm, ⟨69, _⟩ => ⟨S8x8, .i32⟩
  | .hbm, ⟨70, _⟩ => ⟨S8x8, .i1⟩
  | .hbm, ⟨71, _⟩ => ⟨S8x8, .f32⟩
  | .hbm, ⟨72, _⟩ => ⟨S4x8x16x1x64, .f32⟩
  | .hbm, ⟨73, _⟩ => ⟨S1x8x1x8x1, .f32⟩
  | .hbm, ⟨74, _⟩ => ⟨S4x8x16x8x64, .f32⟩
  | .hbm, ⟨75, _⟩ => ⟨S4x8x16x8x64, .f32⟩
  | .hbm, ⟨76, _⟩ => ⟨S4x8x16x8x64, .f32⟩
  | .hbm, ⟨77, _⟩ => ⟨S4x128x512, .f32⟩
  | .hbm, ⟨78, _⟩ => ⟨S4x128x512, .bf16⟩
  | .hbm, ⟨79, _⟩ => ⟨S4x1x128, .f32⟩
  | .hbm, ⟨80, _⟩ => ⟨S2176x2048, .f32⟩
  | .hbm, ⟨81, _⟩ => ⟨S2176x2048, .f32⟩
  | .hbm, ⟨82, _⟩ => ⟨S2176x512, .f32⟩
  | .hbm, ⟨83, _⟩ => ⟨S2176x512, .bf16⟩
  | .hbm, ⟨84, _⟩ => ⟨S4x8x16x64, .f32⟩
  | .hbm, ⟨85, _⟩ => ⟨S4x8x16x64, .f32⟩
  | .hbm, ⟨86, _⟩ => ⟨S4x1x512, .f32⟩
  | .hbm, ⟨87, _⟩ => ⟨S4x1x512, .f32⟩
  | .hbm, ⟨88, _⟩ => ⟨S4x8x16x64, .f32⟩
  | .hbm, ⟨89, _⟩ => ⟨S4x8x16x64, .f32⟩
  | .hbm, ⟨90, _⟩ => ⟨S4x1x128, .f32⟩
  | .hbm, ⟨91, _⟩ => ⟨S272x8x512, .f32⟩
  | .hbm, ⟨92, _⟩ => ⟨S8x272x512, .f32⟩
  | .hbm, ⟨93, _⟩ => ⟨S2176x512, .f32⟩
  | .hbm, ⟨94, _⟩ => ⟨S272x8x512, .bf16⟩
  | .hbm, ⟨95, _⟩ => ⟨S8x272x512, .bf16⟩
  | .hbm, ⟨96, _⟩ => ⟨S2176x512, .bf16⟩
  | .hbm, ⟨97, _⟩ => ⟨S2176x512, .f32⟩
  | .hbm, ⟨98, _⟩ => ⟨S32x64, .f32⟩
  | .hbm, ⟨99, _⟩ => ⟨S32x64, .f32⟩
  | .hbm, ⟨100, _⟩ => ⟨S32x16x64, .f32⟩
  | .hbm, ⟨101, _⟩ => ⟨S32x64x16, .f32⟩
  | .hbm, ⟨102, _⟩ => ⟨S32x16x64, .f32⟩
  | .hbm, ⟨103, _⟩ => ⟨S32x64x16, .f32⟩
  | .hbm, ⟨104, _⟩ => ⟨S32x16x64, .f32⟩
  | .hbm, ⟨105, _⟩ => ⟨S32x16x64, .f32⟩
  | .hbm, ⟨106, _⟩ => ⟨S32x16, .f32⟩
  | .local _ .vmem, ⟨0, _⟩ => ⟨S2176x128, .f32⟩
  | .local _ .vmem, ⟨1, _⟩ => ⟨S2176x128, .f32⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x128x512, .bf16⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x1x128, .f32⟩
  | .local _ .vmem, ⟨15, _⟩ => ⟨S1x1x128, .f32⟩
  | .local _ .vmem, ⟨16, _⟩ => ⟨S2176x512, .f32⟩
  | .local _ .vmem, ⟨17, _⟩ => ⟨S2176x512, .f32⟩
  | .local _ .vmem, ⟨18, _⟩ => ⟨S2176x512, .f32⟩
  | .local _ .vmem, ⟨19, _⟩ => ⟨S2176x512, .f32⟩
  | .local _ .vmem, ⟨20, _⟩ => ⟨S2176x128, .f32⟩
  | .local _ .vmem, ⟨21, _⟩ => ⟨S2176x128, .f32⟩
  | .local _ .vmem, ⟨22, _⟩ => ⟨S2176x128, .f32⟩
  | .local _ .vmem, ⟨23, _⟩ => ⟨S2176x128, .f32⟩
  | .local _ .vmem, ⟨24, _⟩ => ⟨S2176x128, .f32⟩
  | .local _ .vmem, ⟨25, _⟩ => ⟨S2176x128, .f32⟩
  | .local _ .vmem, ⟨26, _⟩ => ⟨S2176x512, .f32⟩
  | .local _ .vmem, ⟨27, _⟩ => ⟨S2176x512, .f32⟩
  | .local _ .vmem, ⟨28, _⟩ => ⟨S2176x512, .f32⟩
  | .local _ .vmem, ⟨29, _⟩ => ⟨S2176x512, .f32⟩
  | .local _ .vmem, ⟨30, _⟩ => ⟨S1x128x512, .bf16⟩
  | .local _ .vmem, ⟨31, _⟩ => ⟨S1x128x512, .bf16⟩
  | .local _ .vmem, ⟨32, _⟩ => ⟨S1x128x512, .bf16⟩
  | .local _ .vmem, ⟨33, _⟩ => ⟨S1x128x512, .bf16⟩
  | .local _ .vmem, ⟨34, _⟩ => ⟨S1x1x512, .f32⟩
  | .local _ .vmem, ⟨35, _⟩ => ⟨S1x1x512, .f32⟩
  | .local _ .vmem, ⟨36, _⟩ => ⟨S1x1x512, .f32⟩
  | .local _ .vmem, ⟨37, _⟩ => ⟨S1x1x512, .f32⟩
  | .local _ .vmem, ⟨38, _⟩ => ⟨S1x128x512, .bf16⟩
  | .local _ .vmem, ⟨39, _⟩ => ⟨S1x128x512, .bf16⟩
  | .local _ .vmem, ⟨40, _⟩ => ⟨S1x128x512, .bf16⟩
  | .local _ .vmem, ⟨41, _⟩ => ⟨S1x128x512, .bf16⟩
  | .local _ .vmem, ⟨42, _⟩ => ⟨S1x1x128, .f32⟩
  | .local _ .vmem, ⟨43, _⟩ => ⟨S1x1x128, .f32⟩
  | .local _ .vmem, ⟨44, _⟩ => ⟨S2176x128, .bf16⟩
  | .local _ .vmem, ⟨45, _⟩ => ⟨S2176x128, .bf16⟩
  | .local _ .vmem, ⟨46, _⟩ => ⟨S1x8x16x64, .f32⟩
  | .local _ .vmem, ⟨47, _⟩ => ⟨S1x8x16x64, .f32⟩
  | .local _ .vmem, ⟨48, _⟩ => ⟨S1x8x16x64, .f32⟩
  | .local _ .vmem, ⟨49, _⟩ => ⟨S1x8x16x64, .f32⟩
  | .local _ .vmem, ⟨50, _⟩ => ⟨S1x1x512, .f32⟩
  | .local _ .vmem, ⟨51, _⟩ => ⟨S1x1x512, .f32⟩
  | .local _ .vmem, ⟨52, _⟩ => ⟨S1x1x512, .f32⟩
  | .local _ .vmem, ⟨53, _⟩ => ⟨S1x1x512, .f32⟩
  | .local _ .vmem, ⟨54, _⟩ => ⟨S1x8x16x64, .f32⟩
  | .local _ .vmem, ⟨55, _⟩ => ⟨S1x8x16x64, .f32⟩
  | .local _ .vmem, ⟨56, _⟩ => ⟨S1x8x16x64, .f32⟩
  | .local _ .vmem, ⟨57, _⟩ => ⟨S1x8x16x64, .f32⟩
  | .local _ .vmem, ⟨58, _⟩ => ⟨S1x1x128, .f32⟩
  | .local _ .vmem, ⟨59, _⟩ => ⟨S1x1x128, .f32⟩
  | .local _ .vmem, ⟨60, _⟩ => ⟨S2176x512, .f32⟩
  | .local _ .vmem, ⟨61, _⟩ => ⟨S2176x512, .f32⟩
  | _, _ => ⟨S2176x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_1 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c_2 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67_0 : Ref sig .tc := ⟨.hbm, 80, rfl⟩
abbrev main_v67_1 : Ref sig .tc := ⟨.hbm, 81, rfl⟩
abbrev main_v67_2 : Ref sig .tc := ⟨.hbm, 82, rfl⟩
abbrev main_v68_0 : Ref sig .tc := ⟨.hbm, 83, rfl⟩
abbrev main_v68_1 : Ref sig .tc := ⟨.hbm, 84, rfl⟩
abbrev main_v68_2 : Ref sig .tc := ⟨.hbm, 85, rfl⟩
abbrev main_v68_3 : Ref sig .tc := ⟨.hbm, 86, rfl⟩
abbrev main_v68_4 : Ref sig .tc := ⟨.hbm, 87, rfl⟩
abbrev main_v68_5 : Ref sig .tc := ⟨.hbm, 88, rfl⟩
abbrev main_v68_6 : Ref sig .tc := ⟨.hbm, 89, rfl⟩
abbrev main_v68_7 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc1_stg11_0 : Ref sig .tc := ⟨.vmem, 44, rfl⟩
abbrev cc1_stg11_1 : Ref sig .tc := ⟨.vmem, 45, rfl⟩
abbrev cc1_stg12_0 : Ref sig .tc := ⟨.vmem, 46, rfl⟩
abbrev cc1_stg12_1 : Ref sig .tc := ⟨.vmem, 47, rfl⟩
abbrev cc1_stg13_0 : Ref sig .tc := ⟨.vmem, 48, rfl⟩
abbrev cc1_stg13_1 : Ref sig .tc := ⟨.vmem, 49, rfl⟩
abbrev cc1_stg14_0 : Ref sig .tc := ⟨.vmem, 50, rfl⟩
abbrev cc1_stg14_1 : Ref sig .tc := ⟨.vmem, 51, rfl⟩
abbrev cc1_stg15_0 : Ref sig .tc := ⟨.vmem, 52, rfl⟩
abbrev cc1_stg15_1 : Ref sig .tc := ⟨.vmem, 53, rfl⟩
abbrev cc1_stg16_0 : Ref sig .tc := ⟨.vmem, 54, rfl⟩
abbrev cc1_stg16_1 : Ref sig .tc := ⟨.vmem, 55, rfl⟩
abbrev cc1_stg17_0 : Ref sig .tc := ⟨.vmem, 56, rfl⟩
abbrev cc1_stg17_1 : Ref sig .tc := ⟨.vmem, 57, rfl⟩
abbrev cc1_stg18_0 : Ref sig .tc := ⟨.vmem, 58, rfl⟩
abbrev cc1_stg18_1 : Ref sig .tc := ⟨.vmem, 59, rfl⟩
abbrev cc1_scratch0 : Ref sig .tc := ⟨.vmem, 60, rfl⟩
abbrev cc1_scratch1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51
abbrev cc1_sem15_0 : DmaSem sig := 52
abbrev cc1_sem15_1 : DmaSem sig := 53
abbrev cc1_sem16_0 : DmaSem sig := 54
abbrev cc1_sem16_1 : DmaSem sig := 55
abbrev cc1_sem17_0 : DmaSem sig := 56
abbrev cc1_sem17_1 : DmaSem sig := 57
abbrev cc1_sem18_0 : DmaSem sig := 58
abbrev cc1_sem18_1 : DmaSem sig := 59

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c34_i32 : BitVec 32 := 34#32
  let v20 : BitVec 32 := Scalar.addi c0_i32 c34_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v202 : BitVec 32 := Scalar.muli arg12 c8_i32
  let c0_i32_74 : BitVec 32 := 0#32
  let v203 : BitVec 32 := Scalar.addi v202 c0_i32_74
  let c8_i32_75 : BitVec 32 := 8#32
  let v210 : BitVec 32 := Scalar.muli v203 c8_i32_75
  v210
def k0_off1 (k0_t1 : Fin k0_t1_loop.trips) (c0_i32_74 : BitVec 32) : Fin 2 → Nat :=
  let c0_i32 : BitVec 32 := 0#32
  let c1_i32 : BitVec 32 := 1#32
  let arg12 : BitVec 32 := Scf.iv c0_i32 c1_i32 k0_t1
  let c8_i32 : BitVec 32 := 8#32
  let v202 : BitVec 32 := Scalar.muli arg12 c8_i32
  let v203 : BitVec 32 := Scalar.addi v202 c0_i32_74
  let c8_i32_75 : BitVec 32 := 8#32
  let v210 : BitVec 32 := Scalar.muli v203 c8_i32_75
  let v211 : BitVec 32 := v210
  let v212 : Index := Scalar.indexCast v211
  let c0_76 : Index := 0#32
  ![v212.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v202 : BitVec 32 := Scalar.muli arg12 c8_i32
  let c0_i32_74 : BitVec 32 := 0#32
  let v203 : BitVec 32 := Scalar.addi v202 c0_i32_74
  let c8_i32_77 : BitVec 32 := 8#32
  let v216 : BitVec 32 := Scalar.muli v203 c8_i32_77
  v216
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_79 : BitVec 32 := 8#32
  let v222 : BitVec 32 := Scalar.muli arg12 c8_i32_79
  let c1_i32_80 : BitVec 32 := 1#32
  let v223 : BitVec 32 := Scalar.addi v222 c1_i32_80
  let c8_i32_81 : BitVec 32 := 8#32
  let v230 : BitVec 32 := Scalar.muli v223 c8_i32_81
  v230
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_79 : BitVec 32 := 8#32
  let v222 : BitVec 32 := Scalar.muli arg12 c8_i32_79
  let c1_i32_80 : BitVec 32 := 1#32
  let v223 : BitVec 32 := Scalar.addi v222 c1_i32_80
  let c8_i32_83 : BitVec 32 := 8#32
  let v236 : BitVec 32 := Scalar.muli v223 c8_i32_83
  v236
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_85 : BitVec 32 := 8#32
  let v242 : BitVec 32 := Scalar.muli arg12 c8_i32_85
  let c2_i32 : BitVec 32 := 2#32
  let v243 : BitVec 32 := Scalar.addi v242 c2_i32
  let c8_i32_86 : BitVec 32 := 8#32
  let v250 : BitVec 32 := Scalar.muli v243 c8_i32_86
  v250
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_85 : BitVec 32 := 8#32
  let v242 : BitVec 32 := Scalar.muli arg12 c8_i32_85
  let c2_i32 : BitVec 32 := 2#32
  let v243 : BitVec 32 := Scalar.addi v242 c2_i32
  let c8_i32_88 : BitVec 32 := 8#32
  let v256 : BitVec 32 := Scalar.muli v243 c8_i32_88
  v256
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_90 : BitVec 32 := 8#32
  let v262 : BitVec 32 := Scalar.muli arg12 c8_i32_90
  let c3_i32 : BitVec 32 := 3#32
  let v263 : BitVec 32 := Scalar.addi v262 c3_i32
  let c8_i32_91 : BitVec 32 := 8#32
  let v270 : BitVec 32 := Scalar.muli v263 c8_i32_91
  v270
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_90 : BitVec 32 := 8#32
  let v262 : BitVec 32 := Scalar.muli arg12 c8_i32_90
  let c3_i32 : BitVec 32 := 3#32
  let v263 : BitVec 32 := Scalar.addi v262 c3_i32
  let c8_i32_93 : BitVec 32 := 8#32
  let v276 : BitVec 32 := Scalar.muli v263 c8_i32_93
  v276
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_95 : BitVec 32 := 8#32
  let v282 : BitVec 32 := Scalar.muli arg12 c8_i32_95
  let c4_i32 : BitVec 32 := 4#32
  let v283 : BitVec 32 := Scalar.addi v282 c4_i32
  let c8_i32_96 : BitVec 32 := 8#32
  let v290 : BitVec 32 := Scalar.muli v283 c8_i32_96
  v290
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_95 : BitVec 32 := 8#32
  let v282 : BitVec 32 := Scalar.muli arg12 c8_i32_95
  let c4_i32 : BitVec 32 := 4#32
  let v283 : BitVec 32 := Scalar.addi v282 c4_i32
  let c8_i32_98 : BitVec 32 := 8#32
  let v296 : BitVec 32 := Scalar.muli v283 c8_i32_98
  v296
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_100 : BitVec 32 := 8#32
  let v302 : BitVec 32 := Scalar.muli arg12 c8_i32_100
  let c5_i32 : BitVec 32 := 5#32
  let v303 : BitVec 32 := Scalar.addi v302 c5_i32
  let c8_i32_101 : BitVec 32 := 8#32
  let v310 : BitVec 32 := Scalar.muli v303 c8_i32_101
  v310
def k0_mult12 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_100 : BitVec 32 := 8#32
  let v302 : BitVec 32 := Scalar.muli arg12 c8_i32_100
  let c5_i32 : BitVec 32 := 5#32
  let v303 : BitVec 32 := Scalar.addi v302 c5_i32
  let c8_i32_103 : BitVec 32 := 8#32
  let v316 : BitVec 32 := Scalar.muli v303 c8_i32_103
  v316
def k0_mult13 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_105 : BitVec 32 := 8#32
  let v322 : BitVec 32 := Scalar.muli arg12 c8_i32_105
  let c6_i32 : BitVec 32 := 6#32
  let v323 : BitVec 32 := Scalar.addi v322 c6_i32
  let c8_i32_106 : BitVec 32 := 8#32
  let v330 : BitVec 32 := Scalar.muli v323 c8_i32_106
  v330
def k0_mult14 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_105 : BitVec 32 := 8#32
  let v322 : BitVec 32 := Scalar.muli arg12 c8_i32_105
  let c6_i32 : BitVec 32 := 6#32
  let v323 : BitVec 32 := Scalar.addi v322 c6_i32
  let c8_i32_108 : BitVec 32 := 8#32
  let v336 : BitVec 32 := Scalar.muli v323 c8_i32_108
  v336
def k0_mult15 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_110 : BitVec 32 := 8#32
  let v342 : BitVec 32 := Scalar.muli arg12 c8_i32_110
  let c7_i32 : BitVec 32 := 7#32
  let v343 : BitVec 32 := Scalar.addi v342 c7_i32
  let c8_i32_111 : BitVec 32 := 8#32
  let v350 : BitVec 32 := Scalar.muli v343 c8_i32_111
  v350
def k0_mult16 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_110 : BitVec 32 := 8#32
  let v342 : BitVec 32 := Scalar.muli arg12 c8_i32_110
  let c7_i32 : BitVec 32 := 7#32
  let v343 : BitVec 32 := Scalar.addi v342 c7_i32
  let c8_i32_113 : BitVec 32 := 8#32
  let v356 : BitVec 32 := Scalar.muli v343 c8_i32_113
  v356
@[reducible] def k0_t2_loop : Scf.Loop 32 :=
  let c0_i32_51 : BitVec 32 := 0#32
  let c34_i32_52 : BitVec 32 := 34#32
  let v179 : BitVec 32 := Scalar.addi c0_i32_51 c34_i32_52
  let c1_i32_53 : BitVec 32 := 1#32
  ⟨c0_i32_51, v179, c1_i32_53⟩
def k0_mult17 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32 : BitVec 32 := 8#32
  let v202 : BitVec 32 := Scalar.muli arg12 c8_i32
  let c0_i32_74 : BitVec 32 := 0#32
  let v203 : BitVec 32 := Scalar.addi v202 c0_i32_74
  let c8_i32_75 : BitVec 32 := 8#32
  let v210 : BitVec 32 := Scalar.muli v203 c8_i32_75
  v210
def k0_off2 (k0_t2 : Fin k0_t2_loop.trips) (c0_i32_74 : BitVec 32) : Fin 2 → Nat :=
  let c0_i32_51 : BitVec 32 := 0#32
  let c1_i32_53 : BitVec 32 := 1#32
  let arg12 : BitVec 32 := Scf.iv c0_i32_51 c1_i32_53 k0_t2
  let c8_i32 : BitVec 32 := 8#32
  let v202 : BitVec 32 := Scalar.muli arg12 c8_i32
  let v203 : BitVec 32 := Scalar.addi v202 c0_i32_74
  let c8_i32_75 : BitVec 32 := 8#32
  let v210 : BitVec 32 := Scalar.muli v203 c8_i32_75
  let v211 : BitVec 32 := v210
  let v212 : Index := Scalar.indexCast v211
  let c0_76 : Index := 0#32
  ![v212.toNat, 0]
def k0_mult18 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32 : BitVec 32 := 8#32
  let v202 : BitVec 32 := Scalar.muli arg12 c8_i32
  let c0_i32_74 : BitVec 32 := 0#32
  let v203 : BitVec 32 := Scalar.addi v202 c0_i32_74
  let c8_i32_77 : BitVec 32 := 8#32
  let v216 : BitVec 32 := Scalar.muli v203 c8_i32_77
  v216
def k0_mult19 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32 : BitVec 32 := 8#32
  let v202 : BitVec 32 := Scalar.muli arg12 c8_i32
  let c0_i32_74 : BitVec 32 := 0#32
  let v203 : BitVec 32 := Scalar.addi v202 c0_i32_74
  let c8_i32_79 : BitVec 32 := 8#32
  let v222 : BitVec 32 := Scalar.muli v203 c8_i32_79
  v222
def k0_mult20 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32 : BitVec 32 := 8#32
  let v202 : BitVec 32 := Scalar.muli arg12 c8_i32
  let c0_i32_74 : BitVec 32 := 0#32
  let v203 : BitVec 32 := Scalar.addi v202 c0_i32_74
  let c8_i32_81 : BitVec 32 := 8#32
  let v226 : BitVec 32 := Scalar.muli v203 c8_i32_81
  v226
def k0_mult21 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_83 : BitVec 32 := 8#32
  let v230 : BitVec 32 := Scalar.muli arg12 c8_i32_83
  let c1_i32_84 : BitVec 32 := 1#32
  let v231 : BitVec 32 := Scalar.addi v230 c1_i32_84
  let c8_i32_85 : BitVec 32 := 8#32
  let v238 : BitVec 32 := Scalar.muli v231 c8_i32_85
  v238
def k0_mult22 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_83 : BitVec 32 := 8#32
  let v230 : BitVec 32 := Scalar.muli arg12 c8_i32_83
  let c1_i32_84 : BitVec 32 := 1#32
  let v231 : BitVec 32 := Scalar.addi v230 c1_i32_84
  let c8_i32_87 : BitVec 32 := 8#32
  let v244 : BitVec 32 := Scalar.muli v231 c8_i32_87
  v244
def k0_mult23 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_83 : BitVec 32 := 8#32
  let v230 : BitVec 32 := Scalar.muli arg12 c8_i32_83
  let c1_i32_84 : BitVec 32 := 1#32
  let v231 : BitVec 32 := Scalar.addi v230 c1_i32_84
  let c8_i32_89 : BitVec 32 := 8#32
  let v250 : BitVec 32 := Scalar.muli v231 c8_i32_89
  v250
def k0_mult24 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_83 : BitVec 32 := 8#32
  let v230 : BitVec 32 := Scalar.muli arg12 c8_i32_83
  let c1_i32_84 : BitVec 32 := 1#32
  let v231 : BitVec 32 := Scalar.addi v230 c1_i32_84
  let c8_i32_91 : BitVec 32 := 8#32
  let v254 : BitVec 32 := Scalar.muli v231 c8_i32_91
  v254
def k0_mult25 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_93 : BitVec 32 := 8#32
  let v258 : BitVec 32 := Scalar.muli arg12 c8_i32_93
  let c2_i32 : BitVec 32 := 2#32
  let v259 : BitVec 32 := Scalar.addi v258 c2_i32
  let c8_i32_94 : BitVec 32 := 8#32
  let v266 : BitVec 32 := Scalar.muli v259 c8_i32_94
  v266
def k0_mult26 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_93 : BitVec 32 := 8#32
  let v258 : BitVec 32 := Scalar.muli arg12 c8_i32_93
  let c2_i32 : BitVec 32 := 2#32
  let v259 : BitVec 32 := Scalar.addi v258 c2_i32
  let c8_i32_96 : BitVec 32 := 8#32
  let v272 : BitVec 32 := Scalar.muli v259 c8_i32_96
  v272
def k0_mult27 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_93 : BitVec 32 := 8#32
  let v258 : BitVec 32 := Scalar.muli arg12 c8_i32_93
  let c2_i32 : BitVec 32 := 2#32
  let v259 : BitVec 32 := Scalar.addi v258 c2_i32
  let c8_i32_98 : BitVec 32 := 8#32
  let v278 : BitVec 32 := Scalar.muli v259 c8_i32_98
  v278
def k0_mult28 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_93 : BitVec 32 := 8#32
  let v258 : BitVec 32 := Scalar.muli arg12 c8_i32_93
  let c2_i32 : BitVec 32 := 2#32
  let v259 : BitVec 32 := Scalar.addi v258 c2_i32
  let c8_i32_100 : BitVec 32 := 8#32
  let v282 : BitVec 32 := Scalar.muli v259 c8_i32_100
  v282
def k0_mult29 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_102 : BitVec 32 := 8#32
  let v286 : BitVec 32 := Scalar.muli arg12 c8_i32_102
  let c3_i32 : BitVec 32 := 3#32
  let v287 : BitVec 32 := Scalar.addi v286 c3_i32
  let c8_i32_103 : BitVec 32 := 8#32
  let v294 : BitVec 32 := Scalar.muli v287 c8_i32_103
  v294
def k0_mult30 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_102 : BitVec 32 := 8#32
  let v286 : BitVec 32 := Scalar.muli arg12 c8_i32_102
  let c3_i32 : BitVec 32 := 3#32
  let v287 : BitVec 32 := Scalar.addi v286 c3_i32
  let c8_i32_105 : BitVec 32 := 8#32
  let v300 : BitVec 32 := Scalar.muli v287 c8_i32_105
  v300
def k0_mult31 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_102 : BitVec 32 := 8#32
  let v286 : BitVec 32 := Scalar.muli arg12 c8_i32_102
  let c3_i32 : BitVec 32 := 3#32
  let v287 : BitVec 32 := Scalar.addi v286 c3_i32
  let c8_i32_107 : BitVec 32 := 8#32
  let v306 : BitVec 32 := Scalar.muli v287 c8_i32_107
  v306
def k0_mult32 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_102 : BitVec 32 := 8#32
  let v286 : BitVec 32 := Scalar.muli arg12 c8_i32_102
  let c3_i32 : BitVec 32 := 3#32
  let v287 : BitVec 32 := Scalar.addi v286 c3_i32
  let c8_i32_109 : BitVec 32 := 8#32
  let v310 : BitVec 32 := Scalar.muli v287 c8_i32_109
  v310
def k0_mult33 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_111 : BitVec 32 := 8#32
  let v314 : BitVec 32 := Scalar.muli arg12 c8_i32_111
  let c4_i32 : BitVec 32 := 4#32
  let v315 : BitVec 32 := Scalar.addi v314 c4_i32
  let c8_i32_112 : BitVec 32 := 8#32
  let v322 : BitVec 32 := Scalar.muli v315 c8_i32_112
  v322
def k0_mult34 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_111 : BitVec 32 := 8#32
  let v314 : BitVec 32 := Scalar.muli arg12 c8_i32_111
  let c4_i32 : BitVec 32 := 4#32
  let v315 : BitVec 32 := Scalar.addi v314 c4_i32
  let c8_i32_114 : BitVec 32 := 8#32
  let v328 : BitVec 32 := Scalar.muli v315 c8_i32_114
  v328
def k0_mult35 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_111 : BitVec 32 := 8#32
  let v314 : BitVec 32 := Scalar.muli arg12 c8_i32_111
  let c4_i32 : BitVec 32 := 4#32
  let v315 : BitVec 32 := Scalar.addi v314 c4_i32
  let c8_i32_116 : BitVec 32 := 8#32
  let v334 : BitVec 32 := Scalar.muli v315 c8_i32_116
  v334
def k0_mult36 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_111 : BitVec 32 := 8#32
  let v314 : BitVec 32 := Scalar.muli arg12 c8_i32_111
  let c4_i32 : BitVec 32 := 4#32
  let v315 : BitVec 32 := Scalar.addi v314 c4_i32
  let c8_i32_118 : BitVec 32 := 8#32
  let v338 : BitVec 32 := Scalar.muli v315 c8_i32_118
  v338
def k0_mult37 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_120 : BitVec 32 := 8#32
  let v342 : BitVec 32 := Scalar.muli arg12 c8_i32_120
  let c5_i32 : BitVec 32 := 5#32
  let v343 : BitVec 32 := Scalar.addi v342 c5_i32
  let c8_i32_121 : BitVec 32 := 8#32
  let v350 : BitVec 32 := Scalar.muli v343 c8_i32_121
  v350
def k0_mult38 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_120 : BitVec 32 := 8#32
  let v342 : BitVec 32 := Scalar.muli arg12 c8_i32_120
  let c5_i32 : BitVec 32 := 5#32
  let v343 : BitVec 32 := Scalar.addi v342 c5_i32
  let c8_i32_123 : BitVec 32 := 8#32
  let v356 : BitVec 32 := Scalar.muli v343 c8_i32_123
  v356
def k0_mult39 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_120 : BitVec 32 := 8#32
  let v342 : BitVec 32 := Scalar.muli arg12 c8_i32_120
  let c5_i32 : BitVec 32 := 5#32
  let v343 : BitVec 32 := Scalar.addi v342 c5_i32
  let c8_i32_125 : BitVec 32 := 8#32
  let v362 : BitVec 32 := Scalar.muli v343 c8_i32_125
  v362
def k0_mult40 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_120 : BitVec 32 := 8#32
  let v342 : BitVec 32 := Scalar.muli arg12 c8_i32_120
  let c5_i32 : BitVec 32 := 5#32
  let v343 : BitVec 32 := Scalar.addi v342 c5_i32
  let c8_i32_127 : BitVec 32 := 8#32
  let v366 : BitVec 32 := Scalar.muli v343 c8_i32_127
  v366
def k0_mult41 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_129 : BitVec 32 := 8#32
  let v370 : BitVec 32 := Scalar.muli arg12 c8_i32_129
  let c6_i32 : BitVec 32 := 6#32
  let v371 : BitVec 32 := Scalar.addi v370 c6_i32
  let c8_i32_130 : BitVec 32 := 8#32
  let v378 : BitVec 32 := Scalar.muli v371 c8_i32_130
  v378
def k0_mult42 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_129 : BitVec 32 := 8#32
  let v370 : BitVec 32 := Scalar.muli arg12 c8_i32_129
  let c6_i32 : BitVec 32 := 6#32
  let v371 : BitVec 32 := Scalar.addi v370 c6_i32
  let c8_i32_132 : BitVec 32 := 8#32
  let v384 : BitVec 32 := Scalar.muli v371 c8_i32_132
  v384
def k0_mult43 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_129 : BitVec 32 := 8#32
  let v370 : BitVec 32 := Scalar.muli arg12 c8_i32_129
  let c6_i32 : BitVec 32 := 6#32
  let v371 : BitVec 32 := Scalar.addi v370 c6_i32
  let c8_i32_134 : BitVec 32 := 8#32
  let v390 : BitVec 32 := Scalar.muli v371 c8_i32_134
  v390
def k0_mult44 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_129 : BitVec 32 := 8#32
  let v370 : BitVec 32 := Scalar.muli arg12 c8_i32_129
  let c6_i32 : BitVec 32 := 6#32
  let v371 : BitVec 32 := Scalar.addi v370 c6_i32
  let c8_i32_136 : BitVec 32 := 8#32
  let v394 : BitVec 32 := Scalar.muli v371 c8_i32_136
  v394
def k0_mult45 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_138 : BitVec 32 := 8#32
  let v398 : BitVec 32 := Scalar.muli arg12 c8_i32_138
  let c7_i32 : BitVec 32 := 7#32
  let v399 : BitVec 32 := Scalar.addi v398 c7_i32
  let c8_i32_139 : BitVec 32 := 8#32
  let v406 : BitVec 32 := Scalar.muli v399 c8_i32_139
  v406
def k0_mult46 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_138 : BitVec 32 := 8#32
  let v398 : BitVec 32 := Scalar.muli arg12 c8_i32_138
  let c7_i32 : BitVec 32 := 7#32
  let v399 : BitVec 32 := Scalar.addi v398 c7_i32
  let c8_i32_141 : BitVec 32 := 8#32
  let v412 : BitVec 32 := Scalar.muli v399 c8_i32_141
  v412
def k0_mult47 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_138 : BitVec 32 := 8#32
  let v398 : BitVec 32 := Scalar.muli arg12 c8_i32_138
  let c7_i32 : BitVec 32 := 7#32
  let v399 : BitVec 32 := Scalar.addi v398 c7_i32
  let c8_i32_143 : BitVec 32 := 8#32
  let v418 : BitVec 32 := Scalar.muli v399 c8_i32_143
  v418
def k0_mult48 (k0_t2 : Fin k0_t2_loop.trips) : BitVec 32 :=
  let c0_i32_51 : BitVec 32 := 0#32
  let c1_i32_53 : BitVec 32 := 1#32
  let arg12 : BitVec 32 := Scf.iv c0_i32_51 c1_i32_53 k0_t2
  let c8_i32_138 : BitVec 32 := 8#32
  let v398 : BitVec 32 := Scalar.muli arg12 c8_i32_138
  let c7_i32 : BitVec 32 := 7#32
  let v399 : BitVec 32 := Scalar.addi v398 c7_i32
  let c8_i32_145 : BitVec 32 := 8#32
  let v422 : BitVec 32 := Scalar.muli v399 c8_i32_145
  v422
def cc0_transform_0 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2176x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2176x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2176x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![4], ![false]⟩

@[reducible] def k1_t1_loop : Scf.Loop 32 :=
  let c0_i32 : BitVec 32 := 0#32
  let c34_i32 : BitVec 32 := 34#32
  let v28 : BitVec 32 := Scalar.addi c0_i32 c34_i32
  let c1_i32 : BitVec 32 := 1#32
  ⟨c0_i32, v28, c1_i32⟩
def k1_mult1 (k1_t1 : Fin k1_t1_loop.trips) : BitVec 32 :=
  let c271_i32 : BitVec 32 := 271#32
  let c0_i32 : BitVec 32 := 0#32
  let c1_i32 : BitVec 32 := 1#32
  let arg22 : BitVec 32 := Scf.iv c0_i32 c1_i32 k1_t1
  let c8_i32 : BitVec 32 := 8#32
  let v601 : BitVec 32 := Scalar.muli arg22 c8_i32
  let c0_i32_310 : BitVec 32 := 0#32
  let v602 : BitVec 32 := Scalar.addi v601 c0_i32_310
  let v603 : BitVec 32 := Scalar.subi c271_i32 v602
  let c8_i32_311 : BitVec 32 := 8#32
  let v610 : BitVec 32 := Scalar.muli v603 c8_i32_311
  v610
def k1_off1 (k1_t1 : Fin k1_t1_loop.trips) (c0_i32_310 : BitVec 32) : Fin 2 → Nat :=
  let c271_i32 : BitVec 32 := 271#32
  let c0_i32 : BitVec 32 := 0#32
  let c1_i32 : BitVec 32 := 1#32
  let arg22 : BitVec 32 := Scf.iv c0_i32 c1_i32 k1_t1
  let c8_i32 : BitVec 32 := 8#32
  let v601 : BitVec 32 := Scalar.muli arg22 c8_i32
  let v602 : BitVec 32 := Scalar.addi v601 c0_i32_310
  let v603 : BitVec 32 := Scalar.subi c271_i32 v602
  let c8_i32_311 : BitVec 32 := 8#32
  let v610 : BitVec 32 := Scalar.muli v603 c8_i32_311
  let v611 : BitVec 32 := v610
  let v612 : Index := Scalar.indexCast v611
  let c0_312 : Index := 0#32
  ![v612.toNat, 0]
def k1_mult2 (k1_t1 : Fin k1_t1_loop.trips) : BitVec 32 :=
  let c271_i32 : BitVec 32 := 271#32
  let c0_i32 : BitVec 32 := 0#32
  let c1_i32 : BitVec 32 := 1#32
  let arg22 : BitVec 32 := Scf.iv c0_i32 c1_i32 k1_t1
  let c8_i32 : BitVec 32 := 8#32
  let v601 : BitVec 32 := Scalar.muli arg22 c8_i32
  let c0_i32_310 : BitVec 32 := 0#32
  let v602 : BitVec 32 := Scalar.addi v601 c0_i32_310
  let v603 : BitVec 32 := Scalar.subi c271_i32 v602
  let c8_i32_313 : BitVec 32 := 8#32
  let v615 : BitVec 32 := Scalar.muli v603 c8_i32_313
  v615
def k1_mult3 (k1_t1 : Fin k1_t1_loop.trips) : BitVec 32 :=
  let c271_i32_317 : BitVec 32 := 271#32
  let c0_i32 : BitVec 32 := 0#32
  let c1_i32 : BitVec 32 := 1#32
  let arg22 : BitVec 32 := Scf.iv c0_i32 c1_i32 k1_t1
  let c8_i32_315 : BitVec 32 := 8#32
  let v620 : BitVec 32 := Scalar.muli arg22 c8_i32_315
  let c1_i32_316 : BitVec 32 := 1#32
  let v621 : BitVec 32 := Scalar.addi v620 c1_i32_316
  let v622 : BitVec 32 := Scalar.subi c271_i32_317 v621
  let c8_i32_318 : BitVec 32 := 8#32
  let v629 : BitVec 32 := Scalar.muli v622 c8_i32_318
  v629
def k1_mult4 (k1_t1 : Fin k1_t1_loop.trips) : BitVec 32 :=
  let c271_i32_317 : BitVec 32 := 271#32
  let c0_i32 : BitVec 32 := 0#32
  let c1_i32 : BitVec 32 := 1#32
  let arg22 : BitVec 32 := Scf.iv c0_i32 c1_i32 k1_t1
  let c8_i32_315 : BitVec 32 := 8#32
  let v620 : BitVec 32 := Scalar.muli arg22 c8_i32_315
  let c1_i32_316 : BitVec 32 := 1#32
  let v621 : BitVec 32 := Scalar.addi v620 c1_i32_316
  let v622 : BitVec 32 := Scalar.subi c271_i32_317 v621
  let c8_i32_320 : BitVec 32 := 8#32
  let v634 : BitVec 32 := Scalar.muli v622 c8_i32_320
  v634
def k1_mult5 (k1_t1 : Fin k1_t1_loop.trips) : BitVec 32 :=
  let c271_i32_323 : BitVec 32 := 271#32
  let c0_i32 : BitVec 32 := 0#32
  let c1_i32 : BitVec 32 := 1#32
  let arg22 : BitVec 32 := Scf.iv c0_i32 c1_i32 k1_t1
  let c8_i32_322 : BitVec 32 := 8#32
  let v639 : BitVec 32 := Scalar.muli arg22 c8_i32_322
  let c2_i32 : BitVec 32 := 2#32
  let v640 : BitVec 32 := Scalar.addi v639 c2_i32
  let v641 : BitVec 32 := Scalar.subi c271_i32_323 v640
  let c8_i32_324 : BitVec 32 := 8#32
  let v648 : BitVec 32 := Scalar.muli v641 c8_i32_324
  v648
def k1_mult6 (k1_t1 : Fin k1_t1_loop.trips) : BitVec 32 :=
  let c271_i32_323 : BitVec 32 := 271#32
  let c0_i32 : BitVec 32 := 0#32
  let c1_i32 : BitVec 32 := 1#32
  let arg22 : BitVec 32 := Scf.iv c0_i32 c1_i32 k1_t1
  let c8_i32_322 : BitVec 32 := 8#32
  let v639 : BitVec 32 := Scalar.muli arg22 c8_i32_322
  let c2_i32 : BitVec 32 := 2#32
  let v640 : BitVec 32 := Scalar.addi v639 c2_i32
  let v641 : BitVec 32 := Scalar.subi c271_i32_323 v640
  let c8_i32_326 : BitVec 32 := 8#32
  let v653 : BitVec 32 := Scalar.muli v641 c8_i32_326
  v653
def k1_mult7 (k1_t1 : Fin k1_t1_loop.trips) : BitVec 32 :=
  let c271_i32_329 : BitVec 32 := 271#32
  let c0_i32 : BitVec 32 := 0#32
  let c1_i32 : BitVec 32 := 1#32
  let arg22 : BitVec 32 := Scf.iv c0_i32 c1_i32 k1_t1
  let c8_i32_328 : BitVec 32 := 8#32
  let v658 : BitVec 32 := Scalar.muli arg22 c8_i32_328
  let c3_i32 : BitVec 32 := 3#32
  let v659 : BitVec 32 := Scalar.addi v658 c3_i32
  let v660 : BitVec 32 := Scalar.subi c271_i32_329 v659
  let c8_i32_330 : BitVec 32 := 8#32
  let v667 : BitVec 32 := Scalar.muli v660 c8_i32_330
  v667
def k1_mult8 (k1_t1 : Fin k1_t1_loop.trips) : BitVec 32 :=
  let c271_i32_329 : BitVec 32 := 271#32
  let c0_i32 : BitVec 32 := 0#32
  let c1_i32 : BitVec 32 := 1#32
  let arg22 : BitVec 32 := Scf.iv c0_i32 c1_i32 k1_t1
  let c8_i32_328 : BitVec 32 := 8#32
  let v658 : BitVec 32 := Scalar.muli arg22 c8_i32_328
  let c3_i32 : BitVec 32 := 3#32
  let v659 : BitVec 32 := Scalar.addi v658 c3_i32
  let v660 : BitVec 32 := Scalar.subi c271_i32_329 v659
  let c8_i32_332 : BitVec 32 := 8#32
  let v672 : BitVec 32 := Scalar.muli v660 c8_i32_332
  v672
def k1_mult9 (k1_t1 : Fin k1_t1_loop.trips) : BitVec 32 :=
  let c271_i32_335 : BitVec 32 := 271#32
  let c0_i32 : BitVec 32 := 0#32
  let c1_i32 : BitVec 32 := 1#32
  let arg22 : BitVec 32 := Scf.iv c0_i32 c1_i32 k1_t1
  let c8_i32_334 : BitVec 32 := 8#32
  let v677 : BitVec 32 := Scalar.muli arg22 c8_i32_334
  let c4_i32 : BitVec 32 := 4#32
  let v678 : BitVec 32 := Scalar.addi v677 c4_i32
  let v679 : BitVec 32 := Scalar.subi c271_i32_335 v678
  let c8_i32_336 : BitVec 32 := 8#32
  let v686 : BitVec 32 := Scalar.muli v679 c8_i32_336
  v686
def k1_mult10 (k1_t1 : Fin k1_t1_loop.trips) : BitVec 32 :=
  let c271_i32_335 : BitVec 32 := 271#32
  let c0_i32 : BitVec 32 := 0#32
  let c1_i32 : BitVec 32 := 1#32
  let arg22 : BitVec 32 := Scf.iv c0_i32 c1_i32 k1_t1
  let c8_i32_334 : BitVec 32 := 8#32
  let v677 : BitVec 32 := Scalar.muli arg22 c8_i32_334
  let c4_i32 : BitVec 32 := 4#32
  let v678 : BitVec 32 := Scalar.addi v677 c4_i32
  let v679 : BitVec 32 := Scalar.subi c271_i32_335 v678
  let c8_i32_338 : BitVec 32 := 8#32
  let v691 : BitVec 32 := Scalar.muli v679 c8_i32_338
  v691
def k1_mult11 (k1_t1 : Fin k1_t1_loop.trips) : BitVec 32 :=
  let c271_i32_341 : BitVec 32 := 271#32
  let c0_i32 : BitVec 32 := 0#32
  let c1_i32 : BitVec 32 := 1#32
  let arg22 : BitVec 32 := Scf.iv c0_i32 c1_i32 k1_t1
  let c8_i32_340 : BitVec 32 := 8#32
  let v696 : BitVec 32 := Scalar.muli arg22 c8_i32_340
  let c5_i32 : BitVec 32 := 5#32
  let v697 : BitVec 32 := Scalar.addi v696 c5_i32
  let v698 : BitVec 32 := Scalar.subi c271_i32_341 v697
  let c8_i32_342 : BitVec 32 := 8#32
  let v705 : BitVec 32 := Scalar.muli v698 c8_i32_342
  v705
def k1_mult12 (k1_t1 : Fin k1_t1_loop.trips) : BitVec 32 :=
  let c271_i32_341 : BitVec 32 := 271#32
  let c0_i32 : BitVec 32 := 0#32
  let c1_i32 : BitVec 32 := 1#32
  let arg22 : BitVec 32 := Scf.iv c0_i32 c1_i32 k1_t1
  let c8_i32_340 : BitVec 32 := 8#32
  let v696 : BitVec 32 := Scalar.muli arg22 c8_i32_340
  let c5_i32 : BitVec 32 := 5#32
  let v697 : BitVec 32 := Scalar.addi v696 c5_i32
  let v698 : BitVec 32 := Scalar.subi c271_i32_341 v697
  let c8_i32_344 : BitVec 32 := 8#32
  let v710 : BitVec 32 := Scalar.muli v698 c8_i32_344
  v710
def k1_mult13 (k1_t1 : Fin k1_t1_loop.trips) : BitVec 32 :=
  let c271_i32_347 : BitVec 32 := 271#32
  let c0_i32 : BitVec 32 := 0#32
  let c1_i32 : BitVec 32 := 1#32
  let arg22 : BitVec 32 := Scf.iv c0_i32 c1_i32 k1_t1
  let c8_i32_346 : BitVec 32 := 8#32
  let v715 : BitVec 32 := Scalar.muli arg22 c8_i32_346
  let c6_i32 : BitVec 32 := 6#32
  let v716 : BitVec 32 := Scalar.addi v715 c6_i32
  let v717 : BitVec 32 := Scalar.subi c271_i32_347 v716
  let c8_i32_348 : BitVec 32 := 8#32
  let v724 : BitVec 32 := Scalar.muli v717 c8_i32_348
  v724
def k1_mult14 (k1_t1 : Fin k1_t1_loop.trips) : BitVec 32 :=
  let c271_i32_347 : BitVec 32 := 271#32
  let c0_i32 : BitVec 32 := 0#32
  let c1_i32 : BitVec 32 := 1#32
  let arg22 : BitVec 32 := Scf.iv c0_i32 c1_i32 k1_t1
  let c8_i32_346 : BitVec 32 := 8#32
  let v715 : BitVec 32 := Scalar.muli arg22 c8_i32_346
  let c6_i32 : BitVec 32 := 6#32
  let v716 : BitVec 32 := Scalar.addi v715 c6_i32
  let v717 : BitVec 32 := Scalar.subi c271_i32_347 v716
  let c8_i32_350 : BitVec 32 := 8#32
  let v729 : BitVec 32 := Scalar.muli v717 c8_i32_350
  v729
def k1_mult15 (k1_t1 : Fin k1_t1_loop.trips) : BitVec 32 :=
  let c271_i32_354 : BitVec 32 := 271#32
  let c0_i32 : BitVec 32 := 0#32
  let c1_i32 : BitVec 32 := 1#32
  let arg22 : BitVec 32 := Scf.iv c0_i32 c1_i32 k1_t1
  let c8_i32_352 : BitVec 32 := 8#32
  let v734 : BitVec 32 := Scalar.muli arg22 c8_i32_352
  let c7_i32_353 : BitVec 32 := 7#32
  let v735 : BitVec 32 := Scalar.addi v734 c7_i32_353
  let v736 : BitVec 32 := Scalar.subi c271_i32_354 v735
  let c8_i32_355 : BitVec 32 := 8#32
  let v743 : BitVec 32 := Scalar.muli v736 c8_i32_355
  v743
def k1_mult16 (k1_t1 : Fin k1_t1_loop.trips) : BitVec 32 :=
  let c271_i32_354 : BitVec 32 := 271#32
  let c0_i32 : BitVec 32 := 0#32
  let c1_i32 : BitVec 32 := 1#32
  let arg22 : BitVec 32 := Scf.iv c0_i32 c1_i32 k1_t1
  let c8_i32_352 : BitVec 32 := 8#32
  let v734 : BitVec 32 := Scalar.muli arg22 c8_i32_352
  let c7_i32_353 : BitVec 32 := 7#32
  let v735 : BitVec 32 := Scalar.addi v734 c7_i32_353
  let v736 : BitVec 32 := Scalar.subi c271_i32_354 v735
  let c8_i32_357 : BitVec 32 := 8#32
  let v748 : BitVec 32 := Scalar.muli v736 c8_i32_357
  v748
@[reducible] def k1_t2_loop : Scf.Loop 32 :=
  let c0_i32_52 : BitVec 32 := 0#32
  let c33_i32 : BitVec 32 := 33#32
  let v187 : BitVec 32 := Scalar.addi c0_i32_52 c33_i32
  let c1_i32_53 : BitVec 32 := 1#32
  ⟨c0_i32_52, v187, c1_i32_53⟩
def k1_mult17 (k1_t2 : Fin k1_t2_loop.trips) : BitVec 32 :=
  let c271_i32 : BitVec 32 := 271#32
  let c0_i32_52 : BitVec 32 := 0#32
  let c1_i32_53 : BitVec 32 := 1#32
  let arg22 : BitVec 32 := Scf.iv c0_i32_52 c1_i32_53 k1_t2
  let c8_i32 : BitVec 32 := 8#32
  let v601 : BitVec 32 := Scalar.muli arg22 c8_i32
  let c0_i32_310 : BitVec 32 := 0#32
  let v602 : BitVec 32 := Scalar.addi v601 c0_i32_310
  let v603 : BitVec 32 := Scalar.subi c271_i32 v602
  let c1_i32_311 : BitVec 32 := 1#32
  let v604 : BitVec 32 := Scalar.subi v603 c1_i32_311
  let c8_i32_312 : BitVec 32 := 8#32
  let v605 : BitVec 32 := Scalar.muli v604 c8_i32_312
  v605
def k1_off2 (k1_t2 : Fin k1_t2_loop.trips) (c0_i32_310 : BitVec 32) : Fin 2 → Nat :=
  let c271_i32 : BitVec 32 := 271#32
  let c0_i32_52 : BitVec 32 := 0#32
  let c1_i32_53 : BitVec 32 := 1#32
  let arg22 : BitVec 32 := Scf.iv c0_i32_52 c1_i32_53 k1_t2
  let c8_i32 : BitVec 32 := 8#32
  let v601 : BitVec 32 := Scalar.muli arg22 c8_i32
  let v602 : BitVec 32 := Scalar.addi v601 c0_i32_310
  let v603 : BitVec 32 := Scalar.subi c271_i32 v602
  let c1_i32_311 : BitVec 32 := 1#32
  let v604 : BitVec 32 := Scalar.subi v603 c1_i32_311
  let c8_i32_312 : BitVec 32 := 8#32
  let v605 : BitVec 32 := Scalar.muli v604 c8_i32_312
  let v606 : BitVec 32 := v605
  let v607 : Index := Scalar.indexCast v606
  let c0_313 : Index := 0#32
  ![v607.toNat, 0]
def k1_mult18 (k1_t2 : Fin k1_t2_loop.trips) : BitVec 32 :=
  let c271_i32 : BitVec 32 := 271#32
  let c0_i32_52 : BitVec 32 := 0#32
  let c1_i32_53 : BitVec 32 := 1#32
  let arg22 : BitVec 32 := Scf.iv c0_i32_52 c1_i32_53 k1_t2
  let c8_i32 : BitVec 32 := 8#32
  let v601 : BitVec 32 := Scalar.muli arg22 c8_i32
  let c0_i32_310 : BitVec 32 := 0#32
  let v602 : BitVec 32 := Scalar.addi v601 c0_i32_310
  let v603 : BitVec 32 := Scalar.subi c271_i32 v602
  let c1_i32_314 : BitVec 32 := 1#32
  let v610 : BitVec 32 := Scalar.subi v603 c1_i32_314
  let c8_i32_315 : BitVec 32 := 8#32
  let v611 : BitVec 32 := Scalar.muli v610 c8_i32_315
  v611
def k1_mult19 (k1_t2 : Fin k1_t2_loop.trips) : BitVec 32 :=
  let c271_i32 : BitVec 32 := 271#32
  let c0_i32_52 : BitVec 32 := 0#32
  let c1_i32_53 : BitVec 32 := 1#32
  let arg22 : BitVec 32 := Scf.iv c0_i32_52 c1_i32_53 k1_t2
  let c8_i32 : BitVec 32 := 8#32
  let v601 : BitVec 32 := Scalar.muli arg22 c8_i32
  let c0_i32_310 : BitVec 32 := 0#32
  let v602 : BitVec 32 := Scalar.addi v601 c0_i32_310
  let v603 : BitVec 32 := Scalar.subi c271_i32 v602
  let c8_i32_317 : BitVec 32 := 8#32
  let v622 : BitVec 32 := Scalar.muli v603 c8_i32_317
  v622
def k1_off3 (k1_t2 : Fin k1_t2_loop.trips) (c0_i32_310 : BitVec 32) : Fin 2 → Nat :=
  let c271_i32 : BitVec 32 := 271#32
  let c0_i32_52 : BitVec 32 := 0#32
  let c1_i32_53 : BitVec 32 := 1#32
  let arg22 : BitVec 32 := Scf.iv c0_i32_52 c1_i32_53 k1_t2
  let c8_i32 : BitVec 32 := 8#32
  let v601 : BitVec 32 := Scalar.muli arg22 c8_i32
  let v602 : BitVec 32 := Scalar.addi v601 c0_i32_310
  let v603 : BitVec 32 := Scalar.subi c271_i32 v602
  let c8_i32_317 : BitVec 32 := 8#32
  let v622 : BitVec 32 := Scalar.muli v603 c8_i32_317
  let v623 : BitVec 32 := v622
  let v624 : Index := Scalar.indexCast v623
  let c0_318 : Index := 0#32
  ![v624.toNat, 0]
def k1_mult20 (k1_t2 : Fin k1_t2_loop.trips) : BitVec 32 :=
  let c271_i32 : BitVec 32 := 271#32
  let c0_i32_52 : BitVec 32 := 0#32
  let c1_i32_53 : BitVec 32 := 1#32
  let arg22 : BitVec 32 := Scf.iv c0_i32_52 c1_i32_53 k1_t2
  let c8_i32 : BitVec 32 := 8#32
  let v601 : BitVec 32 := Scalar.muli arg22 c8_i32
  let c0_i32_310 : BitVec 32 := 0#32
  let v602 : BitVec 32 := Scalar.addi v601 c0_i32_310
  let v603 : BitVec 32 := Scalar.subi c271_i32 v602
  let c8_i32_319 : BitVec 32 := 8#32
  let v627 : BitVec 32 := Scalar.muli v603 c8_i32_319
  v627
def k1_mult21 (k1_t2 : Fin k1_t2_loop.trips) : BitVec 32 :=
  let c271_i32 : BitVec 32 := 271#32
  let c0_i32_52 : BitVec 32 := 0#32
  let c1_i32_53 : BitVec 32 := 1#32
  let arg22 : BitVec 32 := Scf.iv c0_i32_52 c1_i32_53 k1_t2
  let c8_i32 : BitVec 32 := 8#32
  let v601 : BitVec 32 := Scalar.muli arg22 c8_i32
  let c0_i32_310 : BitVec 32 := 0#32
  let v602 : BitVec 32 := Scalar.addi v601 c0_i32_310
  let v603 : BitVec 32 := Scalar.subi c271_i32 v602
  let c8_i32_321 : BitVec 32 := 8#32
  let v632 : BitVec 32 := Scalar.muli v603 c8_i32_321
  v632
def k1_mult22 (k1_t2 : Fin k1_t2_loop.trips) : BitVec 32 :=
  let c271_i32 : BitVec 32 := 271#32
  let c0_i32_52 : BitVec 32 := 0#32
  let c1_i32_53 : BitVec 32 := 1#32
  let arg22 : BitVec 32 := Scf.iv c0_i32_52 c1_i32_53 k1_t2
  let c8_i32 : BitVec 32 := 8#32
  let v601 : BitVec 32 := Scalar.muli arg22 c8_i32
  let c0_i32_310 : BitVec 32 := 0#32
  let v602 : BitVec 32 := Scalar.addi v601 c0_i32_310
  let v603 : BitVec 32 := Scalar.subi c271_i32 v602
  let c8_i32_323 : BitVec 32 := 8#32
  let v638 : BitVec 32 := Scalar.muli v603 c8_i32_323
  v638
def k1_mult23 (k1_t2 : Fin k1_t2_loop.trips) : BitVec 32 :=
  let c271_i32_327 : BitVec 32 := 271#32
  let c0_i32_52 : BitVec 32 := 0#32
  let c1_i32_53 : BitVec 32 := 1#32
  let arg22 : BitVec 32 := Scf.iv c0_i32_52 c1_i32_53 k1_t2
  let c8_i32_325 : BitVec 32 := 8#32
  let v652 : BitVec 32 := Scalar.muli arg22 c8_i32_325
  let c1_i32_326 : BitVec 32 := 1#32
  let v653 : BitVec 32 := Scalar.addi v652 c1_i32_326
  let v654 : BitVec 32 := Scalar.subi c271_i32_327 v653
  let c1_i32_328 : BitVec 32 := 1#32
  let v655 : BitVec 32 := Scalar.subi v654 c1_i32_328
  let c8_i32_329 : BitVec 32 := 8#32
  let v656 : BitVec 32 := Scalar.muli v655 c8_i32_329
  v656
def k1_mult24 (k1_t2 : Fin k1_t2_loop.trips) : BitVec 32 :=
  let c271_i32_327 : BitVec 32 := 271#32
  let c0_i32_52 : BitVec 32 := 0#32
  let c1_i32_53 : BitVec 32 := 1#32
  let arg22 : BitVec 32 := Scf.iv c0_i32_52 c1_i32_53 k1_t2
  let c8_i32_325 : BitVec 32 := 8#32
  let v652 : BitVec 32 := Scalar.muli arg22 c8_i32_325
  let c1_i32_326 : BitVec 32 := 1#32
  let v653 : BitVec 32 := Scalar.addi v652 c1_i32_326
  let v654 : BitVec 32 := Scalar.subi c271_i32_327 v653
  let c1_i32_331 : BitVec 32 := 1#32
  let v661 : BitVec 32 := Scalar.subi v654 c1_i32_331
  let c8_i32_332 : BitVec 32 := 8#32
  let v662 : BitVec 32 := Scalar.muli v661 c8_i32_332
  v662
def k1_mult25 (k1_t2 : Fin k1_t2_loop.trips) : BitVec 32 :=
  let c271_i32_327 : BitVec 32 := 271#32
  let c0_i32_52 : BitVec 32 := 0#32
  let c1_i32_53 : BitVec 32 := 1#32
  let arg22 : BitVec 32 := Scf.iv c0_i32_52 c1_i32_53 k1_t2
  let c8_i32_325 : BitVec 32 := 8#32
  let v652 : BitVec 32 := Scalar.muli arg22 c8_i32_325
  let c1_i32_326 : BitVec 32 := 1#32
  let v653 : BitVec 32 := Scalar.addi v652 c1_i32_326
  let v654 : BitVec 32 := Scalar.subi c271_i32_327 v653
  let c8_i32_334 : BitVec 32 := 8#32
  let v673 : BitVec 32 := Scalar.muli v654 c8_i32_334
  v673
def k1_mult26 (k1_t2 : Fin k1_t2_loop.trips) : BitVec 32 :=
  let c271_i32_327 : BitVec 32 := 271#32
  let c0_i32_52 : BitVec 32 := 0#32
  let c1_i32_53 : BitVec 32 := 1#32
  let arg22 : BitVec 32 := Scf.iv c0_i32_52 c1_i32_53 k1_t2
  let c8_i32_325 : BitVec 32 := 8#32
  let v652 : BitVec 32 := Scalar.muli arg22 c8_i32_325
  let c1_i32_326 : BitVec 32 := 1#32
  let v653 : BitVec 32 := Scalar.addi v652 c1_i32_326
  let v654 : BitVec 32 := Scalar.subi c271_i32_327 v653
  let c8_i32_336 : BitVec 32 := 8#32
  let v678 : BitVec 32 := Scalar.muli v654 c8_i32_336
  v678
def k1_mult27 (k1_t2 : Fin k1_t2_loop.trips) : BitVec 32 :=
  let c271_i32_327 : BitVec 32 := 271#32
  let c0_i32_52 : BitVec 32 := 0#32
  let c1_i32_53 : BitVec 32 := 1#32
  let arg22 : BitVec 32 := Scf.iv c0_i32_52 c1_i32_53 k1_t2
  let c8_i32_325 : BitVec 32 := 8#32
  let v652 : BitVec 32 := Scalar.muli arg22 c8_i32_325
  let c1_i32_326 : BitVec 32 := 1#32
  let v653 : BitVec 32 := Scalar.addi v652 c1_i32_326
  let v654 : BitVec 32 := Scalar.subi c271_i32_327 v653
  let c8_i32_338 : BitVec 32 := 8#32
  let v683 : BitVec 32 := Scalar.muli v654 c8_i32_338
  v683
def k1_mult28 (k1_t2 : Fin k1_t2_loop.trips) : BitVec 32 :=
  let c271_i32_327 : BitVec 32 := 271#32
  let c0_i32_52 : BitVec 32 := 0#32
  let c1_i32_53 : BitVec 32 := 1#32
  let arg22 : BitVec 32 := Scf.iv c0_i32_52 c1_i32_53 k1_t2
  let c8_i32_325 : BitVec 32 := 8#32
  let v652 : BitVec 32 := Scalar.muli arg22 c8_i32_325
  let c1_i32_326 : BitVec 32 := 1#32
  let v653 : BitVec 32 := Scalar.addi v652 c1_i32_326
  let v654 : BitVec 32 := Scalar.subi c271_i32_327 v653
  let c8_i32_340 : BitVec 32 := 8#32
  let v689 : BitVec 32 := Scalar.muli v654 c8_i32_340
  v689
def k1_mult29 (k1_t2 : Fin k1_t2_loop.trips) : BitVec 32 :=
  let c271_i32_343 : BitVec 32 := 271#32
  let c0_i32_52 : BitVec 32 := 0#32
  let c1_i32_53 : BitVec 32 := 1#32
  let arg22 : BitVec 32 := Scf.iv c0_i32_52 c1_i32_53 k1_t2
  let c8_i32_342 : BitVec 32 := 8#32
  let v703 : BitVec 32 := Scalar.muli arg22 c8_i32_342
  let c2_i32 : BitVec 32 := 2#32
  let v704 : BitVec 32 := Scalar.addi v703 c2_i32
  let v705 : BitVec 32 := Scalar.subi c271_i32_343 v704
  let c1_i32_344 : BitVec 32 := 1#32
  let v706 : BitVec 32 := Scalar.subi v705 c1_i32_344
  let c8_i32_345 : BitVec 32 := 8#32
  let v707 : BitVec 32 := Scalar.muli v706 c8_i32_345
  v707
def k1_mult30 (k1_t2 : Fin k1_t2_loop.trips) : BitVec 32 :=
  let c271_i32_343 : BitVec 32 := 271#32
  let c0_i32_52 : BitVec 32 := 0#32
  let c1_i32_53 : BitVec 32 := 1#32
  let arg22 : BitVec 32 := Scf.iv c0_i32_52 c1_i32_53 k1_t2
  let c8_i32_342 : BitVec 32 := 8#32
  let v703 : BitVec 32 := Scalar.muli arg22 c8_i32_342
  let c2_i32 : BitVec 32 := 2#32
  let v704 : BitVec 32 := Scalar.addi v703 c2_i32
  let v705 : BitVec 32 := Scalar.subi c271_i32_343 v704
  let c1_i32_347 : BitVec 32 := 1#32
  let v712 : BitVec 32 := Scalar.subi v705 c1_i32_347
  let c8_i32_348 : BitVec 32 := 8#32
  let v713 : BitVec 32 := Scalar.muli v712 c8_i32_348
  v713
def k1_mult31 (k1_t2 : Fin k1_t2_loop.trips) : BitVec 32 :=
  let c271_i32_343 : BitVec 32 := 271#32
  let c0_i32_52 : BitVec 32 := 0#32
  let c1_i32_53 : BitVec 32 := 1#32
  let arg22 : BitVec 32 := Scf.iv c0_i32_52 c1_i32_53 k1_t2
  let c8_i32_342 : BitVec 32 := 8#32
  let v703 : BitVec 32 := Scalar.muli arg22 c8_i32_342
  let c2_i32 : BitVec 32 := 2#32
  let v704 : BitVec 32 := Scalar.addi v703 c2_i32
  let v705 : BitVec 32 := Scalar.subi c271_i32_343 v704
  let c8_i32_350 : BitVec 32 := 8#32
  let v724 : BitVec 32 := Scalar.muli v705 c8_i32_350
  v724
def k1_mult32 (k1_t2 : Fin k1_t2_loop.trips) : BitVec 32 :=
  let c271_i32_343 : BitVec 32 := 271#32
  let c0_i32_52 : BitVec 32 := 0#32
  let c1_i32_53 : BitVec 32 := 1#32
  let arg22 : BitVec 32 := Scf.iv c0_i32_52 c1_i32_53 k1_t2
  let c8_i32_342 : BitVec 32 := 8#32
  let v703 : BitVec 32 := Scalar.muli arg22 c8_i32_342
  let c2_i32 : BitVec 32 := 2#32
  let v704 : BitVec 32 := Scalar.addi v703 c2_i32
  let v705 : BitVec 32 := Scalar.subi c271_i32_343 v704
  let c8_i32_352 : BitVec 32 := 8#32
  let v729 : BitVec 32 := Scalar.muli v705 c8_i32_352
  v729
def k1_mult33 (k1_t2 : Fin k1_t2_loop.trips) : BitVec 32 :=
  let c271_i32_343 : BitVec 32 := 271#32
  let c0_i32_52 : BitVec 32 := 0#32
  let c1_i32_53 : BitVec 32 := 1#32
  let arg22 : BitVec 32 := Scf.iv c0_i32_52 c1_i32_53 k1_t2
  let c8_i32_342 : BitVec 32 := 8#32
  let v703 : BitVec 32 := Scalar.muli arg22 c8_i32_342
  let c2_i32 : BitVec 32 := 2#32
  let v704 : BitVec 32 := Scalar.addi v703 c2_i32
  let v705 : BitVec 32 := Scalar.subi c271_i32_343 v704
  let c8_i32_354 : BitVec 32 := 8#32
  let v734 : BitVec 32 := Scalar.muli v705 c8_i32_354
  v734
def k1_mult34 (k1_t2 : Fin k1_t2_loop.trips) : BitVec 32 :=
  let c271_i32_343 : BitVec 32 := 271#32
  let c0_i32_52 : BitVec 32 := 0#32
  let c1_i32_53 : BitVec 32 := 1#32
  let arg22 : BitVec 32 := Scf.iv c0_i32_52 c1_i32_53 k1_t2
  let c8_i32_342 : BitVec 32 := 8#32
  let v703 : BitVec 32 := Scalar.muli arg22 c8_i32_342
  let c2_i32 : BitVec 32 := 2#32
  let v704 : BitVec 32 := Scalar.addi v703 c2_i32
  let v705 : BitVec 32 := Scalar.subi c271_i32_343 v704
  let c8_i32_356 : BitVec 32 := 8#32
  let v740 : BitVec 32 := Scalar.muli v705 c8_i32_356
  v740
def k1_mult35 (k1_t2 : Fin k1_t2_loop.trips) : BitVec 32 :=
  let c271_i32_359 : BitVec 32 := 271#32
  let c0_i32_52 : BitVec 32 := 0#32
  let c1_i32_53 : BitVec 32 := 1#32
  let arg22 : BitVec 32 := Scf.iv c0_i32_52 c1_i32_53 k1_t2
  let c8_i32_358 : BitVec 32 := 8#32
  let v754 : BitVec 32 := Scalar.muli arg22 c8_i32_358
  let c3_i32 : BitVec 32 := 3#32
  let v755 : BitVec 32 := Scalar.addi v754 c3_i32
  let v756 : BitVec 32 := Scalar.subi c271_i32_359 v755
  let c1_i32_360 : BitVec 32 := 1#32
  let v757 : BitVec 32 := Scalar.subi v756 c1_i32_360
  let c8_i32_361 : BitVec 32 := 8#32
  let v758 : BitVec 32 := Scalar.muli v757 c8_i32_361
  v758
def k1_mult36 (k1_t2 : Fin k1_t2_loop.trips) : BitVec 32 :=
  let c271_i32_359 : BitVec 32 := 271#32
  let c0_i32_52 : BitVec 32 := 0#32
  let c1_i32_53 : BitVec 32 := 1#32
  let arg22 : BitVec 32 := Scf.iv c0_i32_52 c1_i32_53 k1_t2
  let c8_i32_358 : BitVec 32 := 8#32
  let v754 : BitVec 32 := Scalar.muli arg22 c8_i32_358
  let c3_i32 : BitVec 32 := 3#32
  let v755 : BitVec 32 := Scalar.addi v754 c3_i32
  let v756 : BitVec 32 := Scalar.subi c271_i32_359 v755
  let c1_i32_363 : BitVec 32 := 1#32
  let v763 : BitVec 32 := Scalar.subi v756 c1_i32_363
  let c8_i32_364 : BitVec 32 := 8#32
  let v764 : BitVec 32 := Scalar.muli v763 c8_i32_364
  v764
def k1_mult37 (k1_t2 : Fin k1_t2_loop.trips) : BitVec 32 :=
  let c271_i32_359 : BitVec 32 := 271#32
  let c0_i32_52 : BitVec 32 := 0#32
  let c1_i32_53 : BitVec 32 := 1#32
  let arg22 : BitVec 32 := Scf.iv c0_i32_52 c1_i32_53 k1_t2
  let c8_i32_358 : BitVec 32 := 8#32
  let v754 : BitVec 32 := Scalar.muli arg22 c8_i32_358
  let c3_i32 : BitVec 32 := 3#32
  let v755 : BitVec 32 := Scalar.addi v754 c3_i32
  let v756 : BitVec 32 := Scalar.subi c271_i32_359 v755
  let c8_i32_366 : BitVec 32 := 8#32
  let v775 : BitVec 32 := Scalar.muli v756 c8_i32_366
  v775
def k1_mult38 (k1_t2 : Fin k1_t2_loop.trips) : BitVec 32 :=
  let c271_i32_359 : BitVec 32 := 271#32
  let c0_i32_52 : BitVec 32 := 0#32
  let c1_i32_53 : BitVec 32 := 1#32
  let arg22 : BitVec 32 := Scf.iv c0_i32_52 c1_i32_53 k1_t2
  let c8_i32_358 : BitVec 32 := 8#32
  let v754 : BitVec 32 := Scalar.muli arg22 c8_i32_358
  let c3_i32 : BitVec 32 := 3#32
  let v755 : BitVec 32 := Scalar.addi v754 c3_i32
  let v756 : BitVec 32 := Scalar.subi c271_i32_359 v755
  let c8_i32_368 : BitVec 32 := 8#32
  let v780 : BitVec 32 := Scalar.muli v756 c8_i32_368
  v780
def k1_mult39 (k1_t2 : Fin k1_t2_loop.trips) : BitVec 32 :=
  let c271_i32_359 : BitVec 32 := 271#32
  let c0_i32_52 : BitVec 32 := 0#32
  let c1_i32_53 : BitVec 32 := 1#32
  let arg22 : BitVec 32 := Scf.iv c0_i32_52 c1_i32_53 k1_t2
  let c8_i32_358 : BitVec 32 := 8#32
  let v754 : BitVec 32 := Scalar.muli arg22 c8_i32_358
  let c3_i32 : BitVec 32 := 3#32
  let v755 : BitVec 32 := Scalar.addi v754 c3_i32
  let v756 : BitVec 32 := Scalar.subi c271_i32_359 v755
  let c8_i32_370 : BitVec 32 := 8#32
  let v785 : BitVec 32 := Scalar.muli v756 c8_i32_370
  v785
def k1_mult40 (k1_t2 : Fin k1_t2_loop.trips) : BitVec 32 :=
  let c271_i32_359 : BitVec 32 := 271#32
  let c0_i32_52 : BitVec 32 := 0#32
  let c1_i32_53 : BitVec 32 := 1#32
  let arg22 : BitVec 32 := Scf.iv c0_i32_52 c1_i32_53 k1_t2
  let c8_i32_358 : BitVec 32 := 8#32
  let v754 : BitVec 32 := Scalar.muli arg22 c8_i32_358
  let c3_i32 : BitVec 32 := 3#32
  let v755 : BitVec 32 := Scalar.addi v754 c3_i32
  let v756 : BitVec 32 := Scalar.subi c271_i32_359 v755
  let c8_i32_372 : BitVec 32 := 8#32
  let v791 : BitVec 32 := Scalar.muli v756 c8_i32_372
  v791
def k1_mult41 (k1_t2 : Fin k1_t2_loop.trips) : BitVec 32 :=
  let c271_i32_375 : BitVec 32 := 271#32
  let c0_i32_52 : BitVec 32 := 0#32
  let c1_i32_53 : BitVec 32 := 1#32
  let arg22 : BitVec 32 := Scf.iv c0_i32_52 c1_i32_53 k1_t2
  let c8_i32_374 : BitVec 32 := 8#32
  let v805 : BitVec 32 := Scalar.muli arg22 c8_i32_374
  let c4_i32 : BitVec 32 := 4#32
  let v806 : BitVec 32 := Scalar.addi v805 c4_i32
  let v807 : BitVec 32 := Scalar.subi c271_i32_375 v806
  let c1_i32_376 : BitVec 32 := 1#32
  let v808 : BitVec 32 := Scalar.subi v807 c1_i32_376
  let c8_i32_377 : BitVec 32 := 8#32
  let v809 : BitVec 32 := Scalar.muli v808 c8_i32_377
  v809
def k1_mult42 (k1_t2 : Fin k1_t2_loop.trips) : BitVec 32 :=
  let c271_i32_375 : BitVec 32 := 271#32
  let c0_i32_52 : BitVec 32 := 0#32
  let c1_i32_53 : BitVec 32 := 1#32
  let arg22 : BitVec 32 := Scf.iv c0_i32_52 c1_i32_53 k1_t2
  let c8_i32_374 : BitVec 32 := 8#32
  let v805 : BitVec 32 := Scalar.muli arg22 c8_i32_374
  let c4_i32 : BitVec 32 := 4#32
  let v806 : BitVec 32 := Scalar.addi v805 c4_i32
  let v807 : BitVec 32 := Scalar.subi c271_i32_375 v806
  let c1_i32_379 : BitVec 32 := 1#32
  let v814 : BitVec 32 := Scalar.subi v807 c1_i32_379
  let c8_i32_380 : BitVec 32 := 8#32
  let v815 : BitVec 32 := Scalar.muli v814 c8_i32_380
  v815
def k1_mult43 (k1_t2 : Fin k1_t2_loop.trips) : BitVec 32 :=
  let c271_i32_375 : BitVec 32 := 271#32
  let c0_i32_52 : BitVec 32 := 0#32
  let c1_i32_53 : BitVec 32 := 1#32
  let arg22 : BitVec 32 := Scf.iv c0_i32_52 c1_i32_53 k1_t2
  let c8_i32_374 : BitVec 32 := 8#32
  let v805 : BitVec 32 := Scalar.muli arg22 c8_i32_374
  let c4_i32 : BitVec 32 := 4#32
  let v806 : BitVec 32 := Scalar.addi v805 c4_i32
  let v807 : BitVec 32 := Scalar.subi c271_i32_375 v806
  let c8_i32_382 : BitVec 32 := 8#32
  let v826 : BitVec 32 := Scalar.muli v807 c8_i32_382
  v826
def k1_mult44 (k1_t2 : Fin k1_t2_loop.trips) : BitVec 32 :=
  let c271_i32_375 : BitVec 32 := 271#32
  let c0_i32_52 : BitVec 32 := 0#32
  let c1_i32_53 : BitVec 32 := 1#32
  let arg22 : BitVec 32 := Scf.iv c0_i32_52 c1_i32_53 k1_t2
  let c8_i32_374 : BitVec 32 := 8#32
  let v805 : BitVec 32 := Scalar.muli arg22 c8_i32_374
  let c4_i32 : BitVec 32 := 4#32
  let v806 : BitVec 32 := Scalar.addi v805 c4_i32
  let v807 : BitVec 32 := Scalar.subi c271_i32_375 v806
  let c8_i32_384 : BitVec 32 := 8#32
  let v831 : BitVec 32 := Scalar.muli v807 c8_i32_384
  v831
def k1_mult45 (k1_t2 : Fin k1_t2_loop.trips) : BitVec 32 :=
  let c271_i32_375 : BitVec 32 := 271#32
  let c0_i32_52 : BitVec 32 := 0#32
  let c1_i32_53 : BitVec 32 := 1#32
  let arg22 : BitVec 32 := Scf.iv c0_i32_52 c1_i32_53 k1_t2
  let c8_i32_374 : BitVec 32 := 8#32
  let v805 : BitVec 32 := Scalar.muli arg22 c8_i32_374
  let c4_i32 : BitVec 32 := 4#32
  let v806 : BitVec 32 := Scalar.addi v805 c4_i32
  let v807 : BitVec 32 := Scalar.subi c271_i32_375 v806
  let c8_i32_386 : BitVec 32 := 8#32
  let v836 : BitVec 32 := Scalar.muli v807 c8_i32_386
  v836
def k1_mult46 (k1_t2 : Fin k1_t2_loop.trips) : BitVec 32 :=
  let c271_i32_375 : BitVec 32 := 271#32
  let c0_i32_52 : BitVec 32 := 0#32
  let c1_i32_53 : BitVec 32 := 1#32
  let arg22 : BitVec 32 := Scf.iv c0_i32_52 c1_i32_53 k1_t2
  let c8_i32_374 : BitVec 32 := 8#32
  let v805 : BitVec 32 := Scalar.muli arg22 c8_i32_374
  let c4_i32 : BitVec 32 := 4#32
  let v806 : BitVec 32 := Scalar.addi v805 c4_i32
  let v807 : BitVec 32 := Scalar.subi c271_i32_375 v806
  let c8_i32_388 : BitVec 32 := 8#32
  let v842 : BitVec 32 := Scalar.muli v807 c8_i32_388
  v842
def k1_mult47 (k1_t2 : Fin k1_t2_loop.trips) : BitVec 32 :=
  let c271_i32_391 : BitVec 32 := 271#32
  let c0_i32_52 : BitVec 32 := 0#32
  let c1_i32_53 : BitVec 32 := 1#32
  let arg22 : BitVec 32 := Scf.iv c0_i32_52 c1_i32_53 k1_t2
  let c8_i32_390 : BitVec 32 := 8#32
  let v856 : BitVec 32 := Scalar.muli arg22 c8_i32_390
  let c5_i32 : BitVec 32 := 5#32
  let v857 : BitVec 32 := Scalar.addi v856 c5_i32
  let v858 : BitVec 32 := Scalar.subi c271_i32_391 v857
  let c1_i32_392 : BitVec 32 := 1#32
  let v859 : BitVec 32 := Scalar.subi v858 c1_i32_392
  let c8_i32_393 : BitVec 32 := 8#32
  let v860 : BitVec 32 := Scalar.muli v859 c8_i32_393
  v860
def k1_mult48 (k1_t2 : Fin k1_t2_loop.trips) : BitVec 32 :=
  let c271_i32_391 : BitVec 32 := 271#32
  let c0_i32_52 : BitVec 32 := 0#32
  let c1_i32_53 : BitVec 32 := 1#32
  let arg22 : BitVec 32 := Scf.iv c0_i32_52 c1_i32_53 k1_t2
  let c8_i32_390 : BitVec 32 := 8#32
  let v856 : BitVec 32 := Scalar.muli arg22 c8_i32_390
  let c5_i32 : BitVec 32 := 5#32
  let v857 : BitVec 32 := Scalar.addi v856 c5_i32
  let v858 : BitVec 32 := Scalar.subi c271_i32_391 v857
  let c1_i32_395 : BitVec 32 := 1#32
  let v865 : BitVec 32 := Scalar.subi v858 c1_i32_395
  let c8_i32_396 : BitVec 32 := 8#32
  let v866 : BitVec 32 := Scalar.muli v865 c8_i32_396
  v866
def k1_mult49 (k1_t2 : Fin k1_t2_loop.trips) : BitVec 32 :=
  let c271_i32_391 : BitVec 32 := 271#32
  let c0_i32_52 : BitVec 32 := 0#32
  let c1_i32_53 : BitVec 32 := 1#32
  let arg22 : BitVec 32 := Scf.iv c0_i32_52 c1_i32_53 k1_t2
  let c8_i32_390 : BitVec 32 := 8#32
  let v856 : BitVec 32 := Scalar.muli arg22 c8_i32_390
  let c5_i32 : BitVec 32 := 5#32
  let v857 : BitVec 32 := Scalar.addi v856 c5_i32
  let v858 : BitVec 32 := Scalar.subi c271_i32_391 v857
  let c8_i32_398 : BitVec 32 := 8#32
  let v877 : BitVec 32 := Scalar.muli v858 c8_i32_398
  v877
def k1_mult50 (k1_t2 : Fin k1_t2_loop.trips) : BitVec 32 :=
  let c271_i32_391 : BitVec 32 := 271#32
  let c0_i32_52 : BitVec 32 := 0#32
  let c1_i32_53 : BitVec 32 := 1#32
  let arg22 : BitVec 32 := Scf.iv c0_i32_52 c1_i32_53 k1_t2
  let c8_i32_390 : BitVec 32 := 8#32
  let v856 : BitVec 32 := Scalar.muli arg22 c8_i32_390
  let c5_i32 : BitVec 32 := 5#32
  let v857 : BitVec 32 := Scalar.addi v856 c5_i32
  let v858 : BitVec 32 := Scalar.subi c271_i32_391 v857
  let c8_i32_400 : BitVec 32 := 8#32
  let v882 : BitVec 32 := Scalar.muli v858 c8_i32_400
  v882
def k1_mult51 (k1_t2 : Fin k1_t2_loop.trips) : BitVec 32 :=
  let c271_i32_391 : BitVec 32 := 271#32
  let c0_i32_52 : BitVec 32 := 0#32
  let c1_i32_53 : BitVec 32 := 1#32
  let arg22 : BitVec 32 := Scf.iv c0_i32_52 c1_i32_53 k1_t2
  let c8_i32_390 : BitVec 32 := 8#32
  let v856 : BitVec 32 := Scalar.muli arg22 c8_i32_390
  let c5_i32 : BitVec 32 := 5#32
  let v857 : BitVec 32 := Scalar.addi v856 c5_i32
  let v858 : BitVec 32 := Scalar.subi c271_i32_391 v857
  let c8_i32_402 : BitVec 32 := 8#32
  let v887 : BitVec 32 := Scalar.muli v858 c8_i32_402
  v887
def k1_mult52 (k1_t2 : Fin k1_t2_loop.trips) : BitVec 32 :=
  let c271_i32_391 : BitVec 32 := 271#32
  let c0_i32_52 : BitVec 32 := 0#32
  let c1_i32_53 : BitVec 32 := 1#32
  let arg22 : BitVec 32 := Scf.iv c0_i32_52 c1_i32_53 k1_t2
  let c8_i32_390 : BitVec 32 := 8#32
  let v856 : BitVec 32 := Scalar.muli arg22 c8_i32_390
  let c5_i32 : BitVec 32 := 5#32
  let v857 : BitVec 32 := Scalar.addi v856 c5_i32
  let v858 : BitVec 32 := Scalar.subi c271_i32_391 v857
  let c8_i32_404 : BitVec 32 := 8#32
  let v893 : BitVec 32 := Scalar.muli v858 c8_i32_404
  v893
def k1_mult53 (k1_t2 : Fin k1_t2_loop.trips) : BitVec 32 :=
  let c271_i32_407 : BitVec 32 := 271#32
  let c0_i32_52 : BitVec 32 := 0#32
  let c1_i32_53 : BitVec 32 := 1#32
  let arg22 : BitVec 32 := Scf.iv c0_i32_52 c1_i32_53 k1_t2
  let c8_i32_406 : BitVec 32 := 8#32
  let v907 : BitVec 32 := Scalar.muli arg22 c8_i32_406
  let c6_i32 : BitVec 32 := 6#32
  let v908 : BitVec 32 := Scalar.addi v907 c6_i32
  let v909 : BitVec 32 := Scalar.subi c271_i32_407 v908
  let c1_i32_408 : BitVec 32 := 1#32
  let v910 : BitVec 32 := Scalar.subi v909 c1_i32_408
  let c8_i32_409 : BitVec 32 := 8#32
  let v911 : BitVec 32 := Scalar.muli v910 c8_i32_409
  v911
def k1_mult54 (k1_t2 : Fin k1_t2_loop.trips) : BitVec 32 :=
  let c271_i32_407 : BitVec 32 := 271#32
  let c0_i32_52 : BitVec 32 := 0#32
  let c1_i32_53 : BitVec 32 := 1#32
  let arg22 : BitVec 32 := Scf.iv c0_i32_52 c1_i32_53 k1_t2
  let c8_i32_406 : BitVec 32 := 8#32
  let v907 : BitVec 32 := Scalar.muli arg22 c8_i32_406
  let c6_i32 : BitVec 32 := 6#32
  let v908 : BitVec 32 := Scalar.addi v907 c6_i32
  let v909 : BitVec 32 := Scalar.subi c271_i32_407 v908
  let c1_i32_411 : BitVec 32 := 1#32
  let v916 : BitVec 32 := Scalar.subi v909 c1_i32_411
  let c8_i32_412 : BitVec 32 := 8#32
  let v917 : BitVec 32 := Scalar.muli v916 c8_i32_412
  v917
def k1_mult55 (k1_t2 : Fin k1_t2_loop.trips) : BitVec 32 :=
  let c271_i32_407 : BitVec 32 := 271#32
  let c0_i32_52 : BitVec 32 := 0#32
  let c1_i32_53 : BitVec 32 := 1#32
  let arg22 : BitVec 32 := Scf.iv c0_i32_52 c1_i32_53 k1_t2
  let c8_i32_406 : BitVec 32 := 8#32
  let v907 : BitVec 32 := Scalar.muli arg22 c8_i32_406
  let c6_i32 : BitVec 32 := 6#32
  let v908 : BitVec 32 := Scalar.addi v907 c6_i32
  let v909 : BitVec 32 := Scalar.subi c271_i32_407 v908
  let c8_i32_414 : BitVec 32 := 8#32
  let v928 : BitVec 32 := Scalar.muli v909 c8_i32_414
  v928
def k1_mult56 (k1_t2 : Fin k1_t2_loop.trips) : BitVec 32 :=
  let c271_i32_407 : BitVec 32 := 271#32
  let c0_i32_52 : BitVec 32 := 0#32
  let c1_i32_53 : BitVec 32 := 1#32
  let arg22 : BitVec 32 := Scf.iv c0_i32_52 c1_i32_53 k1_t2
  let c8_i32_406 : BitVec 32 := 8#32
  let v907 : BitVec 32 := Scalar.muli arg22 c8_i32_406
  let c6_i32 : BitVec 32 := 6#32
  let v908 : BitVec 32 := Scalar.addi v907 c6_i32
  let v909 : BitVec 32 := Scalar.subi c271_i32_407 v908
  let c8_i32_416 : BitVec 32 := 8#32
  let v933 : BitVec 32 := Scalar.muli v909 c8_i32_416
  v933
def k1_mult57 (k1_t2 : Fin k1_t2_loop.trips) : BitVec 32 :=
  let c271_i32_407 : BitVec 32 := 271#32
  let c0_i32_52 : BitVec 32 := 0#32
  let c1_i32_53 : BitVec 32 := 1#32
  let arg22 : BitVec 32 := Scf.iv c0_i32_52 c1_i32_53 k1_t2
  let c8_i32_406 : BitVec 32 := 8#32
  let v907 : BitVec 32 := Scalar.muli arg22 c8_i32_406
  let c6_i32 : BitVec 32 := 6#32
  let v908 : BitVec 32 := Scalar.addi v907 c6_i32
  let v909 : BitVec 32 := Scalar.subi c271_i32_407 v908
  let c8_i32_418 : BitVec 32 := 8#32
  let v938 : BitVec 32 := Scalar.muli v909 c8_i32_418
  v938
def k1_mult58 (k1_t2 : Fin k1_t2_loop.trips) : BitVec 32 :=
  let c271_i32_407 : BitVec 32 := 271#32
  let c0_i32_52 : BitVec 32 := 0#32
  let c1_i32_53 : BitVec 32 := 1#32
  let arg22 : BitVec 32 := Scf.iv c0_i32_52 c1_i32_53 k1_t2
  let c8_i32_406 : BitVec 32 := 8#32
  let v907 : BitVec 32 := Scalar.muli arg22 c8_i32_406
  let c6_i32 : BitVec 32 := 6#32
  let v908 : BitVec 32 := Scalar.addi v907 c6_i32
  let v909 : BitVec 32 := Scalar.subi c271_i32_407 v908
  let c8_i32_420 : BitVec 32 := 8#32
  let v944 : BitVec 32 := Scalar.muli v909 c8_i32_420
  v944
def k1_mult59 (k1_t2 : Fin k1_t2_loop.trips) : BitVec 32 :=
  let c271_i32_424 : BitVec 32 := 271#32
  let c0_i32_52 : BitVec 32 := 0#32
  let c1_i32_53 : BitVec 32 := 1#32
  let arg22 : BitVec 32 := Scf.iv c0_i32_52 c1_i32_53 k1_t2
  let c8_i32_422 : BitVec 32 := 8#32
  let v958 : BitVec 32 := Scalar.muli arg22 c8_i32_422
  let c7_i32_423 : BitVec 32 := 7#32
  let v959 : BitVec 32 := Scalar.addi v958 c7_i32_423
  let v960 : BitVec 32 := Scalar.subi c271_i32_424 v959
  let c1_i32_425 : BitVec 32 := 1#32
  let v961 : BitVec 32 := Scalar.subi v960 c1_i32_425
  let c8_i32_426 : BitVec 32 := 8#32
  let v962 : BitVec 32 := Scalar.muli v961 c8_i32_426
  v962
def k1_mult60 (k1_t2 : Fin k1_t2_loop.trips) : BitVec 32 :=
  let c271_i32_424 : BitVec 32 := 271#32
  let c0_i32_52 : BitVec 32 := 0#32
  let c1_i32_53 : BitVec 32 := 1#32
  let arg22 : BitVec 32 := Scf.iv c0_i32_52 c1_i32_53 k1_t2
  let c8_i32_422 : BitVec 32 := 8#32
  let v958 : BitVec 32 := Scalar.muli arg22 c8_i32_422
  let c7_i32_423 : BitVec 32 := 7#32
  let v959 : BitVec 32 := Scalar.addi v958 c7_i32_423
  let v960 : BitVec 32 := Scalar.subi c271_i32_424 v959
  let c1_i32_428 : BitVec 32 := 1#32
  let v967 : BitVec 32 := Scalar.subi v960 c1_i32_428
  let c8_i32_429 : BitVec 32 := 8#32
  let v968 : BitVec 32 := Scalar.muli v967 c8_i32_429
  v968
def k1_mult61 (k1_t2 : Fin k1_t2_loop.trips) : BitVec 32 :=
  let c271_i32_424 : BitVec 32 := 271#32
  let c0_i32_52 : BitVec 32 := 0#32
  let c1_i32_53 : BitVec 32 := 1#32
  let arg22 : BitVec 32 := Scf.iv c0_i32_52 c1_i32_53 k1_t2
  let c8_i32_422 : BitVec 32 := 8#32
  let v958 : BitVec 32 := Scalar.muli arg22 c8_i32_422
  let c7_i32_423 : BitVec 32 := 7#32
  let v959 : BitVec 32 := Scalar.addi v958 c7_i32_423
  let v960 : BitVec 32 := Scalar.subi c271_i32_424 v959
  let c8_i32_431 : BitVec 32 := 8#32
  let v979 : BitVec 32 := Scalar.muli v960 c8_i32_431
  v979
def k1_mult62 (k1_t2 : Fin k1_t2_loop.trips) : BitVec 32 :=
  let c271_i32_424 : BitVec 32 := 271#32
  let c0_i32_52 : BitVec 32 := 0#32
  let c1_i32_53 : BitVec 32 := 1#32
  let arg22 : BitVec 32 := Scf.iv c0_i32_52 c1_i32_53 k1_t2
  let c8_i32_422 : BitVec 32 := 8#32
  let v958 : BitVec 32 := Scalar.muli arg22 c8_i32_422
  let c7_i32_423 : BitVec 32 := 7#32
  let v959 : BitVec 32 := Scalar.addi v958 c7_i32_423
  let v960 : BitVec 32 := Scalar.subi c271_i32_424 v959
  let c8_i32_433 : BitVec 32 := 8#32
  let v984 : BitVec 32 := Scalar.muli v960 c8_i32_433
  v984
def k1_mult63 (k1_t2 : Fin k1_t2_loop.trips) : BitVec 32 :=
  let c271_i32_424 : BitVec 32 := 271#32
  let c0_i32_52 : BitVec 32 := 0#32
  let c1_i32_53 : BitVec 32 := 1#32
  let arg22 : BitVec 32 := Scf.iv c0_i32_52 c1_i32_53 k1_t2
  let c8_i32_422 : BitVec 32 := 8#32
  let v958 : BitVec 32 := Scalar.muli arg22 c8_i32_422
  let c7_i32_423 : BitVec 32 := 7#32
  let v959 : BitVec 32 := Scalar.addi v958 c7_i32_423
  let v960 : BitVec 32 := Scalar.subi c271_i32_424 v959
  let c8_i32_435 : BitVec 32 := 8#32
  let v989 : BitVec 32 := Scalar.muli v960 c8_i32_435
  v989
def k1_mult64 (k1_t2 : Fin k1_t2_loop.trips) : BitVec 32 :=
  let c271_i32_424 : BitVec 32 := 271#32
  let c0_i32_52 : BitVec 32 := 0#32
  let c1_i32_53 : BitVec 32 := 1#32
  let arg22 : BitVec 32 := Scf.iv c0_i32_52 c1_i32_53 k1_t2
  let c8_i32_422 : BitVec 32 := 8#32
  let v958 : BitVec 32 := Scalar.muli arg22 c8_i32_422
  let c7_i32_423 : BitVec 32 := 7#32
  let v959 : BitVec 32 := Scalar.addi v958 c7_i32_423
  let v960 : BitVec 32 := Scalar.subi c271_i32_424 v959
  let c8_i32_437 : BitVec 32 := 8#32
  let v995 : BitVec 32 := Scalar.muli v960 c8_i32_437
  v995
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_13 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_16 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_17 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_18 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2176x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2176x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2176x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2176x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x128x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2176x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x8x16x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x8x16x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x1x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x1x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x8x16x64 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S1x8x16x64 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S1x1x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]
-- ==== ReferenceIdeal.lean ====
abbrev S2176x512 : Shape := ⟨2, ![2176, 512]⟩
abbrev S2176x2048 : Shape := ⟨2, ![2176, 2048]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S2176x32x16 : Shape := ⟨3, ![2176, 32, 16]⟩
abbrev S32x64x2176 : Shape := ⟨3, ![32, 64, 2176]⟩
abbrev S2176x32x64 : Shape := ⟨3, ![2176, 32, 64]⟩
abbrev S_ : Shape := ⟨0, ![]⟩
abbrev S1x32x64 : Shape := ⟨3, ![1, 32, 64]⟩
abbrev S32x16x2176 : Shape := ⟨3, ![32, 16, 2176]⟩
abbrev S1x32x16 : Shape := ⟨3, ![1, 32, 16]⟩
abbrev S32x2176x64 : Shape := ⟨3, ![32, 2176, 64]⟩
abbrev S32x2176x16 : Shape := ⟨3, ![32, 2176, 16]⟩

abbrev nBuf : Space → Nat
  | .hbm => 191
  | .vmem => 0
  | .smem => 0
  | _ => 0

abbrev hbmTy0_0 (i : Nat) : BufTy := match i % 128 with
  | 0 => ⟨S2176x512, .f32⟩
  | 1 => ⟨S2176x2048, .f32⟩
  | 2 => ⟨S32x64, .f32⟩
  | 3 => ⟨S32x64, .f32⟩
  | 4 => ⟨S32x64x16, .f32⟩
  | 5 => ⟨S32x64x16, .f32⟩
  | 6 => ⟨S32x16x64, .f32⟩
  | 7 => ⟨S32x16x64, .f32⟩
  | 8 => ⟨S32x16, .f32⟩
  | 9 => ⟨S2176x512, .f32⟩
  | 10 => ⟨S2176x32x16, .f32⟩
  | 11 => ⟨S32x64x2176, .f32⟩
  | 12 => ⟨S2176x32x64, .f32⟩
  | 13 => ⟨S32x64x2176, .f32⟩
  | 14 => ⟨S2176x32x64, .f32⟩
  | 15 => ⟨S_, .f32⟩
  | 16 => ⟨S32x64, .f32⟩
  | 17 => ⟨S_, .f32⟩
  | 18 => ⟨S2176x32x64, .f32⟩
  | 19 => ⟨S_, .f32⟩
  | 20 => ⟨S2176x32x64, .f32⟩
  | 21 => ⟨S_, .f32⟩
  | 22 => ⟨S2176x32x64, .f32⟩
  | 23 => ⟨S_, .f32⟩
  | 24 => ⟨S2176x32x64, .f32⟩
  | 25 => ⟨S_, .i32⟩
  | 26 => ⟨S2176x32x64, .f32⟩
  | 27 => ⟨S2176x32x64, .f32⟩
  | 28 => ⟨S32x64, .f32⟩
  | 29 => ⟨S32x64, .f32⟩
  | 30 => ⟨S_, .i32⟩
  | 31 => ⟨S32x64, .f32⟩
  | 32 => ⟨S32x64, .f32⟩
  | 33 => ⟨S2176x32x64, .f32⟩
  | 34 => ⟨S2176x32x64, .f32⟩
  | 35 => ⟨S2176x32x64, .f32⟩
  | 36 => ⟨S2176x32x64, .f32⟩
  | 37 => ⟨S_, .i32⟩
  | 38 => ⟨S_, .i1⟩
  | 39 => ⟨S_, .i32⟩
  | 40 => ⟨S_, .i32⟩
  | 41 => ⟨S1x32x64, .f32⟩
  | 42 => ⟨S32x64, .f32⟩
  | 43 => ⟨S_, .i32⟩
  | 44 => ⟨S_, .i32⟩
  | 45 => ⟨S1x32x64, .f32⟩
  | 46 => ⟨S32x64, .f32⟩
  | 47 => ⟨S32x64, .f32⟩
  | 48 => ⟨S32x64, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S32x64, .f32⟩
  | 55 => ⟨S1x32x64, .f32⟩
  | 56 => ⟨S_, .i32⟩
  | 57 => ⟨S_, .i32⟩
  | 58 => ⟨S2176x32x64, .f32⟩
  | 59 => ⟨S1x32x64, .f32⟩
  | 60 => ⟨S_, .i32⟩
  | 61 => ⟨S_, .i32⟩
  | 62 => ⟨S2176x32x64, .f32⟩
  | 63 => ⟨S1x32x64, .f32⟩
  | 64 => ⟨S_, .i32⟩
  | 65 => ⟨S_, .i32⟩
  | 66 => ⟨S2176x32x64, .f32⟩
  | 67 => ⟨S1x32x64, .f32⟩
  | 68 => ⟨S_, .i32⟩
  | 69 => ⟨S_, .i32⟩
  | 70 => ⟨S2176x32x64, .f32⟩
  | 71 => ⟨S_, .i32⟩
  | 72 => ⟨S_, .i32⟩
  | 73 => ⟨S32x16x2176, .f32⟩
  | 74 => ⟨S2176x32x16, .f32⟩
  | 75 => ⟨S32x16x2176, .f32⟩
  | 76 => ⟨S2176x32x16, .f32⟩
  | 77 => ⟨S2176x32x16, .f32⟩
  | 78 => ⟨S1x32x16, .f32⟩
  | 79 => ⟨S2176x32x16, .f32⟩
  | 80 => ⟨S2176x32x16, .f32⟩
  | 81 => ⟨S2176x32x16, .f32⟩
  | 82 => ⟨S2176x512, .f32⟩
  | 83 => ⟨S_, .f32⟩
  | 84 => ⟨S32x64, .f32⟩
  | 85 => ⟨S_, .f32⟩
  | 86 => ⟨S32x64, .f32⟩
  | 87 => ⟨S2176x32x16, .f32⟩
  | 88 => ⟨S2176x32x16, .f32⟩
  | 89 => ⟨S2176x32x16, .f32⟩
  | 90 => ⟨S2176x32x16, .f32⟩
  | 91 => ⟨S_, .f32⟩
  | 92 => ⟨S32x16, .f32⟩
  | 93 => ⟨S1x32x16, .f32⟩
  | 94 => ⟨S_, .f32⟩
  | 95 => ⟨S32x16, .f32⟩
  | 96 => ⟨S2176x32x16, .f32⟩
  | 97 => ⟨S32x16x2176, .f32⟩
  | 98 => ⟨S32x2176x64, .f32⟩
  | 99 => ⟨S2176x32x64, .f32⟩
  | 100 => ⟨S32x16x64, .f32⟩
  | 101 => ⟨S32x16x2176, .f32⟩
  | 102 => ⟨S32x2176x64, .f32⟩
  | 103 => ⟨S2176x32x64, .f32⟩
  | 104 => ⟨S32x16x64, .f32⟩
  | 105 => ⟨S_, .f32⟩
  | 106 => ⟨S32x64, .f32⟩
  | 107 => ⟨S_, .f32⟩
  | 108 => ⟨S32x64, .f32⟩
  | 109 => ⟨S_, .f32⟩
  | 110 => ⟨S32x64, .f32⟩
  | 111 => ⟨S_, .f32⟩
  | 112 => ⟨S32x64, .f32⟩
  | 113 => ⟨S_, .f32⟩
  | 114 => ⟨S2176x32x64, .f32⟩
  | 115 => ⟨S_, .f32⟩
  | 116 => ⟨S2176x32x64, .f32⟩
  | 117 => ⟨S_, .i32⟩
  | 118 => ⟨S2176x32x64, .f32⟩
  | 119 => ⟨S2176x32x64, .f32⟩
  | 120 => ⟨S2176x32x64, .f32⟩
  | 121 => ⟨S2176x32x64, .f32⟩
  | 122 => ⟨S32x64, .f32⟩
  | 123 => ⟨S32x64, .f32⟩
  | 124 => ⟨S_, .i32⟩
  | 125 => ⟨S32x64, .f32⟩
  | 126 => ⟨S32x64, .f32⟩
  | 127 => ⟨S32x64, .f32⟩
  | _ => ⟨S2176x512, .f32⟩

abbrev hbmTy0_1 (i : Nat) : BufTy := match i % 128 with
  | 0 => ⟨S32x64, .f32⟩
  | 1 => ⟨S2176x32x64, .f32⟩
  | 2 => ⟨S2176x32x64, .f32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S1x32x64, .f32⟩
  | 12 => ⟨S32x64, .f32⟩
  | 13 => ⟨S_, .i32⟩
  | 14 => ⟨S_, .i32⟩
  | 15 => ⟨S1x32x64, .f32⟩
  | 16 => ⟨S32x64, .f32⟩
  | 17 => ⟨S_, .i32⟩
  | 18 => ⟨S_, .i32⟩
  | 19 => ⟨S1x32x64, .f32⟩
  | 20 => ⟨S32x64, .f32⟩
  | 21 => ⟨S_, .i32⟩
  | 22 => ⟨S_, .i32⟩
  | 23 => ⟨S1x32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S1x32x64, .f32⟩
  | 43 => ⟨S_, .i32⟩
  | 44 => ⟨S_, .i32⟩
  | 45 => ⟨S2176x32x64, .f32⟩
  | 46 => ⟨S1x32x64, .f32⟩
  | 47 => ⟨S_, .i32⟩
  | 48 => ⟨S_, .i32⟩
  | 49 => ⟨S2176x32x64, .f32⟩
  | 50 => ⟨S_, .i32⟩
  | 51 => ⟨S_, .i32⟩
  | 52 => ⟨S32x64x2176, .f32⟩
  | 53 => ⟨S32x2176x16, .f32⟩
  | 54 => ⟨S2176x32x16, .f32⟩
  | 55 => ⟨S2176x32x16, .f32⟩
  | 56 => ⟨S32x64x16, .f32⟩
  | 57 => ⟨S32x64x2176, .f32⟩
  | 58 => ⟨S32x2176x16, .f32⟩
  | 59 => ⟨S2176x32x16, .f32⟩
  | 60 => ⟨S2176x32x16, .f32⟩
  | 61 => ⟨S32x64x16, .f32⟩
  | 62 => ⟨S2176x512, .f32⟩
  | _ => ⟨S2176x512, .f32⟩

abbrev hbmTy (i : Nat) : BufTy := match i / 128 with
  | 0 => hbmTy0_0 i
  | 1 => hbmTy0_1 i
  | _ => ⟨S2176x512, .f32⟩

abbrev bufTy : (tb : Table) → Fin (tcTables nBuf tb) → BufTy
  | .hbm, ⟨i, _⟩ => hbmTy i
  | _, _ => ⟨S2176x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_c : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev main_v11_4 : Ref sig .tc := ⟨.hbm, 30, rfl⟩
abbrev main_v11_5 : Ref sig .tc := ⟨.hbm, 31, rfl⟩
abbrev main_v11_6 : Ref sig .tc := ⟨.hbm, 32, rfl⟩
abbrev main_v11_7 : Ref sig .tc := ⟨.hbm, 33, rfl⟩
abbrev main_v11_8 : Ref sig .tc := ⟨.hbm, 34, rfl⟩
abbrev main_v11_9 : Ref sig .tc := ⟨.hbm, 35, rfl⟩
abbrev main_v11_10 : Ref sig .tc := ⟨.hbm, 36, rfl⟩
abbrev main_while0c_c_25 : Ref sig .tc := ⟨.hbm, 37, rfl⟩
abbrev main_while0c_v58 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_v0 : Ref sig .tc := ⟨.hbm, 41, rfl⟩
abbrev main_while0b_v58 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_v0 : Ref sig .tc := ⟨.hbm, 45, rfl⟩
abbrev main_while0b_v59 : Ref sig .tc := ⟨.hbm, 46, rfl⟩
abbrev main_while0b_v60 : Ref sig .tc := ⟨.hbm, 47, rfl⟩
abbrev main_while0b_v61 : Ref sig .tc := ⟨.hbm, 48, rfl⟩
abbrev main_while0b_v62 : Ref sig .tc := ⟨.hbm, 49, rfl⟩
abbrev main_while0b_v63 : Ref sig .tc := ⟨.hbm, 50, rfl⟩
abbrev main_while0b_v64 : Ref sig .tc := ⟨.hbm, 51, rfl⟩
abbrev main_while0b_v65 : Ref sig .tc := ⟨.hbm, 52, rfl⟩
abbrev main_while0b_v66 : Ref sig .tc := ⟨.hbm, 53, rfl⟩
abbrev main_while0b_v67 : Ref sig .tc := ⟨.hbm, 54, rfl⟩
abbrev main_while0b_call2_v0 : Ref sig .tc := ⟨.hbm, 55, rfl⟩
abbrev main_while0b_call2_c : Ref sig .tc := ⟨.hbm, 56, rfl⟩
abbrev main_while0b_call2_c_0 : Ref sig .tc := ⟨.hbm, 57, rfl⟩
abbrev main_while0b_v68 : Ref sig .tc := ⟨.hbm, 58, rfl⟩
abbrev main_while0b_call3_v0 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_v69 : Ref sig .tc := ⟨.hbm, 62, rfl⟩
abbrev main_while0b_call4_v0 : Ref sig .tc := ⟨.hbm, 63, rfl⟩
abbrev main_while0b_call4_c : Ref sig .tc := ⟨.hbm, 64, rfl⟩
abbrev main_while0b_call4_c_0 : Ref sig .tc := ⟨.hbm, 65, rfl⟩
abbrev main_while0b_v70 : Ref sig .tc := ⟨.hbm, 66, rfl⟩
abbrev main_while0b_call5_v0 : Ref sig .tc := ⟨.hbm, 67, rfl⟩
abbrev main_while0b_call5_c : Ref sig .tc := ⟨.hbm, 68, rfl⟩
abbrev main_while0b_call5_c_0 : Ref sig .tc := ⟨.hbm, 69, rfl⟩
abbrev main_while0b_v71 : Ref sig .tc := ⟨.hbm, 70, rfl⟩
abbrev main_while0b_c_25 : Ref sig .tc := ⟨.hbm, 71, rfl⟩
abbrev main_while0b_v72 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_cst_4 : Ref sig .tc := ⟨.hbm, 83, rfl⟩
abbrev main_v22 : Ref sig .tc := ⟨.hbm, 84, rfl⟩
abbrev main_cst_5 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_cst_6 : Ref sig .tc := ⟨.hbm, 91, rfl⟩
abbrev main_v28 : Ref sig .tc := ⟨.hbm, 92, rfl⟩
abbrev main_v29 : Ref sig .tc := ⟨.hbm, 93, rfl⟩
abbrev main_cst_7 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_cst_8 : Ref sig .tc := ⟨.hbm, 105, rfl⟩
abbrev main_v40 : Ref sig .tc := ⟨.hbm, 106, rfl⟩
abbrev main_cst_9 : Ref sig .tc := ⟨.hbm, 107, rfl⟩
abbrev main_v41 : Ref sig .tc := ⟨.hbm, 108, rfl⟩
abbrev main_cst_10 : Ref sig .tc := ⟨.hbm, 109, rfl⟩
abbrev main_v42 : Ref sig .tc := ⟨.hbm, 110, rfl⟩
abbrev main_cst_11 : Ref sig .tc := ⟨.hbm, 111, rfl⟩
abbrev main_v43 : Ref sig .tc := ⟨.hbm, 112, rfl⟩
abbrev main_cst_12 : Ref sig .tc := ⟨.hbm, 113, rfl⟩
abbrev main_v44 : Ref sig .tc := ⟨.hbm, 114, rfl⟩
abbrev main_cst_13 : Ref sig .tc := ⟨.hbm, 115, rfl⟩
abbrev main_v45 : Ref sig .tc := ⟨.hbm, 116, rfl⟩
abbrev main_c_14 : Ref sig .tc := ⟨.hbm, 117, rfl⟩
abbrev main_v46_0 : Ref sig .tc := ⟨.hbm, 118, rfl⟩
abbrev main_v46_1 : Ref sig .tc := ⟨.hbm, 119, rfl⟩
abbrev main_v46_2 : Ref sig .tc := ⟨.hbm, 120, rfl⟩
abbrev main_v46_3 : Ref sig .tc := ⟨.hbm, 121, rfl⟩
abbrev main_v46_4 : Ref sig .tc := ⟨.hbm, 122, rfl⟩
abbrev main_v46_5 : Ref sig .tc := ⟨.hbm, 123, rfl⟩
abbrev main_v46_6 : Ref sig .tc := ⟨.hbm, 124, rfl⟩
abbrev main_v46_7 : Ref sig .tc := ⟨.hbm, 125, rfl⟩
abbrev main_v46_8 : Ref sig .tc := ⟨.hbm, 126, rfl⟩
abbrev main_v46_9 : Ref sig .tc := ⟨.hbm, 127, rfl⟩
abbrev main_v46_10 : Ref sig .tc := ⟨.hbm, 128, rfl⟩
abbrev main_v46_11 : Ref sig .tc := ⟨.hbm, 129, rfl⟩
abbrev main_v46_12 : Ref sig .tc := ⟨.hbm, 130, rfl⟩
abbrev main_while1c_c_27 : Ref sig .tc := ⟨.hbm, 131, rfl⟩
abbrev main_while1c_v58 : Ref sig .tc := ⟨.hbm, 132, rfl⟩
abbrev main_while1b_c_27 : Ref sig .tc := ⟨.hbm, 133, rfl⟩
abbrev main_while1b_v58 : Ref sig .tc := ⟨.hbm, 134, rfl⟩
abbrev main_while1b_c_28 : Ref sig .tc := ⟨.hbm, 135, rfl⟩
abbrev main_while1b_v59 : Ref sig .tc := ⟨.hbm, 136, rfl⟩
abbrev main_while1b_call6_c : Ref sig .tc := ⟨.hbm, 137, rfl⟩
abbrev main_while1b_call6_c_0 : Ref sig .tc := ⟨.hbm, 138, rfl⟩
abbrev main_while1b_call6_v0 : Ref sig .tc := ⟨.hbm, 139, rfl⟩
abbrev main_while1b_v60 : Ref sig .tc := ⟨.hbm, 140, rfl⟩
abbrev main_while1b_call7_c : Ref sig .tc := ⟨.hbm, 141, rfl⟩
abbrev main_while1b_call7_c_0 : Ref sig .tc := ⟨.hbm, 142, rfl⟩
abbrev main_while1b_call7_v0 : Ref sig .tc := ⟨.hbm, 143, rfl⟩
abbrev main_while1b_v61 : Ref sig .tc := ⟨.hbm, 144, rfl⟩
abbrev main_while1b_call8_c : Ref sig .tc := ⟨.hbm, 145, rfl⟩
abbrev main_while1b_call8_c_0 : Ref sig .tc := ⟨.hbm, 146, rfl⟩
abbrev main_while1b_call8_v0 : Ref sig .tc := ⟨.hbm, 147, rfl⟩
abbrev main_while1b_v62 : Ref sig .tc := ⟨.hbm, 148, rfl⟩
abbrev main_while1b_call9_c : Ref sig .tc := ⟨.hbm, 149, rfl⟩
abbrev main_while1b_call9_c_0 : Ref sig .tc := ⟨.hbm, 150, rfl⟩
abbrev main_while1b_call9_v0 : Ref sig .tc := ⟨.hbm, 151, rfl⟩
abbrev main_while1b_v63 : Ref sig .tc := ⟨.hbm, 152, rfl⟩
abbrev main_while1b_v64 : Ref sig .tc := ⟨.hbm, 153, rfl⟩
abbrev main_while1b_v65 : Ref sig .tc := ⟨.hbm, 154, rfl⟩
abbrev main_while1b_v66 : Ref sig .tc := ⟨.hbm, 155, rfl⟩
abbrev main_while1b_v67 : Ref sig .tc := ⟨.hbm, 156, rfl⟩
abbrev main_while1b_v68 : Ref sig .tc := ⟨.hbm, 157, rfl⟩
abbrev main_while1b_v69 : Ref sig .tc := ⟨.hbm, 158, rfl⟩
abbrev main_while1b_v70 : Ref sig .tc := ⟨.hbm, 159, rfl⟩
abbrev main_while1b_v71 : Ref sig .tc := ⟨.hbm, 160, rfl⟩
abbrev main_while1b_v72 : Ref sig .tc := ⟨.hbm, 161, rfl⟩
abbrev main_while1b_v73 : Ref sig .tc := ⟨.hbm, 162, rfl⟩
abbrev main_while1b_v74 : Ref sig .tc := ⟨.hbm, 163, rfl⟩
abbrev main_while1b_v75 : Ref sig .tc := ⟨.hbm, 164, rfl⟩
abbrev main_while1b_v76 : Ref sig .tc := ⟨.hbm, 165, rfl⟩
abbrev main_while1b_v77 : Ref sig .tc := ⟨.hbm, 166, rfl⟩
abbrev main_while1b_v78 : Ref sig .tc := ⟨.hbm, 167, rfl⟩
abbrev main_while1b_v79 : Ref sig .tc := ⟨.hbm, 168, rfl⟩
abbrev main_while1b_v80 : Ref sig .tc := ⟨.hbm, 169, rfl⟩
abbrev main_while1b_call10_v0 : Ref sig .tc := ⟨.hbm, 170, rfl⟩
abbrev main_while1b_call10_c : Ref sig .tc := ⟨.hbm, 171, rfl⟩
abbrev main_while1b_call10_c_0 : Ref sig .tc := ⟨.hbm, 172, rfl⟩
abbrev main_while1b_v81 : Ref sig .tc := ⟨.hbm, 173, rfl⟩
abbrev main_while1b_call11_v0 : Ref sig .tc := ⟨.hbm, 174, rfl⟩
abbrev main_while1b_call11_c : Ref sig .tc := ⟨.hbm, 175, rfl⟩
abbrev main_while1b_call11_c_0 : Ref sig .tc := ⟨.hbm, 176, rfl⟩
abbrev main_while1b_v82 : Ref sig .tc := ⟨.hbm, 177, rfl⟩
abbrev main_while1b_c_29 : Ref sig .tc := ⟨.hbm, 178, rfl⟩
abbrev main_while1b_v83 : Ref sig .tc := ⟨.hbm, 179, rfl⟩
abbrev main_v47 : Ref sig .tc := ⟨.hbm, 180, rfl⟩
abbrev main_v48 : Ref sig .tc := ⟨.hbm, 181, rfl⟩
abbrev main_v49 : Ref sig .tc := ⟨.hbm, 182, rfl⟩
abbrev main_v50 : Ref sig .tc := ⟨.hbm, 183, rfl⟩
abbrev main_v51 : Ref sig .tc := ⟨.hbm, 184, rfl⟩
abbrev main_v52 : Ref sig .tc := ⟨.hbm, 185, rfl⟩
abbrev main_v53 : Ref sig .tc := ⟨.hbm, 186, rfl⟩
abbrev main_v54 : Ref sig .tc := ⟨.hbm, 187, rfl⟩
abbrev main_v55 : Ref sig .tc := ⟨.hbm, 188, rfl⟩
abbrev main_v56 : Ref sig .tc := ⟨.hbm, 189, rfl⟩
abbrev main_v57 : Ref sig .tc := ⟨.hbm, 190, rfl⟩

abbrev nD : Nat := 1
abbrev τ : Topo := Topo.v7x

variable {F : FTy → Type} [FloatOps F]

abbrev main_while0_count : Scf.Loop 32 := ⟨0#32, 2176#32, 1#32⟩

abbrev main_while1_count : Scf.Loop 32 := ⟨0#32, 2176#32, 1#32⟩
-- ==== Proj.lean ====
abbrev S2176x1024 : Shape := ⟨2, ![2176, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S2176x2048 : Shape := ⟨2, ![2176, 2048]⟩
abbrev S1x1024x256 : Shape := ⟨3, ![1, 1024, 256]⟩
abbrev S2176x256 : Shape := ⟨2, ![2176, 256]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S1024x2048, .f32⟩
  | .hbm, ⟨2, _⟩ => ⟨S1024x2048, .bf16⟩
  | .hbm, ⟨3, _⟩ => ⟨S1024x8x256, .bf16⟩
  | .hbm, ⟨4, _⟩ => ⟨S8x1024x256, .bf16⟩
  | .hbm, ⟨5, _⟩ => ⟨S2176x2048, .f32⟩
  | .local _ .vmem, ⟨0, _⟩ => ⟨S2176x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S2176x256, .f32⟩
  | .local _ .vmem, ⟨4, _⟩ => ⟨S2176x256, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjRefIdeal.lean ====
abbrev S2176x1024 : Shape := ⟨2, ![2176, 1024]⟩
abbrev S1024x2048 : Shape := ⟨2, ![1024, 2048]⟩
abbrev S2176x2048 : Shape := ⟨2, ![2176, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x2048, .f32⟩
  | .hbm, ⟨2, _⟩ => ⟨S2176x1024, .f32⟩
  | .hbm, ⟨3, _⟩ => ⟨S2176x2048, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpProj.lean ====
abbrev S2176x1024 : Shape := ⟨2, ![2176, 1024]⟩
abbrev S1024x5632 : Shape := ⟨2, ![1024, 5632]⟩
abbrev S5632x1024 : Shape := ⟨2, ![5632, 1024]⟩
abbrev S2176x5632 : Shape := ⟨2, ![2176, 5632]⟩
abbrev S1408x1024 : Shape := ⟨2, ![1408, 1024]⟩
abbrev S2176x1408 : Shape := ⟨2, ![2176, 1408]⟩

abbrev nBuf : Space → Nat
  | .hbm => 5
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S2176x5632, .bf16⟩
  | .local _ .vmem, ⟨0, _⟩ => ⟨S2176x1024, .bf16⟩
  | .local _ .vmem, ⟨1, _⟩ => ⟨S1408x1024, .bf16⟩
  | .local _ .vmem, ⟨2, _⟩ => ⟨S1408x1024, .bf16⟩
  | .local _ .vmem, ⟨3, _⟩ => ⟨S2176x1408, .bf16⟩
  | .local _ .vmem, ⟨4, _⟩ => ⟨S2176x1408, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UpProjRefIdeal.lean ====
abbrev S2176x1024 : Shape := ⟨2, ![2176, 1024]⟩
abbrev S1024x5632 : Shape := ⟨2, ![1024, 5632]⟩
abbrev S2176x5632 : Shape := ⟨2, ![2176, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x5632, .f32⟩
  | .hbm, ⟨2, _⟩ => ⟨S2176x1024, .f32⟩
  | .hbm, ⟨3, _⟩ => ⟨S2176x5632, .f32⟩
  | .hbm, ⟨4, _⟩ => ⟨S2176x5632, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownWgrad.lean ====
abbrev S2176x2816 : Shape := ⟨2, ![2176, 2816]⟩
abbrev S2176x1024 : Shape := ⟨2, ![2176, 1024]⟩
abbrev S2816x1024 : Shape := ⟨2, ![2816, 1024]⟩
abbrev S2176x1408 : Shape := ⟨2, ![2176, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2176x2816, .bf16⟩
  | .hbm, ⟨1, _⟩ => ⟨S2176x1024, .bf16⟩
  | .hbm, ⟨2, _⟩ => ⟨S2816x1024, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S1408x1024, .bf16⟩
  | .local _ .vmem, ⟨4, _⟩ => ⟨S1408x1024, .bf16⟩
  | _, _ => ⟨S2176x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownWgradRefIdeal.lean ====
abbrev S2176x2816 : Shape := ⟨2, ![2176, 2816]⟩
abbrev S2176x1024 : Shape := ⟨2, ![2176, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2176x2816, .bf16⟩
  | .hbm, ⟨1, _⟩ => ⟨S2176x1024, .bf16⟩
  | .hbm, ⟨2, _⟩ => ⟨S_, .f32⟩
  | .hbm, ⟨3, _⟩ => ⟨S2816x1024, .f32⟩
  | .hbm, ⟨4, _⟩ => ⟨S2176x2816, .f32⟩
  | .hbm, ⟨5, _⟩ => ⟨S2176x1024, .f32⟩
  | .hbm, ⟨6, _⟩ => ⟨S2176x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2176x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDgrad.lean ====
abbrev S2176x1024 : Shape := ⟨2, ![2176, 1024]⟩
abbrev S2816x1024 : Shape := ⟨2, ![2816, 1024]⟩
abbrev S2176x2816 : Shape := ⟨2, ![2176, 2816]⟩
abbrev S1408x1024 : Shape := ⟨2, ![1408, 1024]⟩
abbrev S2176x1408 : Shape := ⟨2, ![2176, 1408]⟩

abbrev nBuf : Space → Nat
  | .hbm => 4
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S2816x1024, .f32⟩
  | .hbm, ⟨2, _⟩ => ⟨S2816x1024, .bf16⟩
  | .hbm, ⟨3, _⟩ => ⟨S2176x2816, .bf16⟩
  | .local _ .vmem, ⟨0, _⟩ => ⟨S2176x1024, .bf16⟩
  | .local _ .vmem, ⟨1, _⟩ => ⟨S1408x1024, .bf16⟩
  | .local _ .vmem, ⟨2, _⟩ => ⟨S1408x1024, .bf16⟩
  | .local _ .vmem, ⟨3, _⟩ => ⟨S2176x1408, .bf16⟩
  | .local _ .vmem, ⟨4, _⟩ => ⟨S2176x1408, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownDgradRefIdeal.lean ====
abbrev S2176x1024 : Shape := ⟨2, ![2176, 1024]⟩
abbrev S2816x1024 : Shape := ⟨2, ![2816, 1024]⟩
abbrev S_ : Shape := ⟨0, ![]⟩
abbrev S2176x2816 : Shape := ⟨2, ![2176, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2816x1024, .f32⟩
  | .hbm, ⟨2, _⟩ => ⟨S_, .f32⟩
  | .hbm, ⟨3, _⟩ => ⟨S2176x2816, .f32⟩
  | .hbm, ⟨4, _⟩ => ⟨S2176x1024, .f32⟩
  | .hbm, ⟨5, _⟩ => ⟨S2176x1024, .f32⟩
  | .hbm, ⟨6, _⟩ => ⟨S2176x2816, .f32⟩
  | .hbm, ⟨7, _⟩ => ⟨S2176x2816, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpWgrad.lean ====
abbrev S2176x5632 : Shape := ⟨2, ![2176, 5632]⟩
abbrev S2176x1024 : Shape := ⟨2, ![2176, 1024]⟩
abbrev S5632x1024 : Shape := ⟨2, ![5632, 1024]⟩
abbrev S2176x1408 : Shape := ⟨2, ![2176, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2176x5632, .bf16⟩
  | .hbm, ⟨1, _⟩ => ⟨S2176x1024, .bf16⟩
  | .hbm, ⟨2, _⟩ => ⟨S5632x1024, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S1408x1024, .bf16⟩
  | .local _ .vmem, ⟨4, _⟩ => ⟨S1408x1024, .bf16⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UpWgradRefIdeal.lean ====
abbrev S2176x5632 : Shape := ⟨2, ![2176, 5632]⟩
abbrev S2176x1024 : Shape := ⟨2, ![2176, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S2176x1024, .bf16⟩
  | .hbm, ⟨2, _⟩ => ⟨S_, .f32⟩
  | .hbm, ⟨3, _⟩ => ⟨S1024x5632, .f32⟩
  | .hbm, ⟨4, _⟩ => ⟨S2176x1024, .f32⟩
  | .hbm, ⟨5, _⟩ => ⟨S2176x5632, .f32⟩
  | .hbm, ⟨6, _⟩ => ⟨S2176x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutDgrad.lean ====
abbrev S2176x1024 : Shape := ⟨2, ![2176, 1024]⟩
abbrev S1024x1024 : Shape := ⟨2, ![1024, 1024]⟩
abbrev S512x1024 : Shape := ⟨2, ![512, 1024]⟩
abbrev S2176x512 : Shape := ⟨2, ![2176, 512]⟩

abbrev nBuf : Space → Nat
  | .hbm => 4
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .f32⟩
  | .hbm, ⟨2, _⟩ => ⟨S1024x1024, .bf16⟩
  | .hbm, ⟨3, _⟩ => ⟨S2176x1024, .f32⟩
  | .local _ .vmem, ⟨0, _⟩ => ⟨S2176x1024, .bf16⟩
  | .local _ .vmem, ⟨1, _⟩ => ⟨S512x1024, .bf16⟩
  | .local _ .vmem, ⟨2, _⟩ => ⟨S512x1024, .bf16⟩
  | .local _ .vmem, ⟨3, _⟩ => ⟨S2176x512, .f32⟩
  | .local _ .vmem, ⟨4, _⟩ => ⟨S2176x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutDgradRefIdeal.lean ====
abbrev S2176x1024 : Shape := ⟨2, ![2176, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .f32⟩
  | .hbm, ⟨2, _⟩ => ⟨S_, .f32⟩
  | .hbm, ⟨3, _⟩ => ⟨S2176x1024, .f32⟩
  | .hbm, ⟨4, _⟩ => ⟨S2176x1024, .f32⟩
  | .hbm, ⟨5, _⟩ => ⟨S2176x1024, .f32⟩
  | .hbm, ⟨6, _⟩ => ⟨S2176x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutWgrad.lean ====
abbrev S2176x1024 : Shape := ⟨2, ![2176, 1024]⟩
abbrev S1024x1024 : Shape := ⟨2, ![1024, 1024]⟩
abbrev S2176x512 : Shape := ⟨2, ![2176, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S1024x1024, .bf16⟩
  | .local _ .vmem, ⟨0, _⟩ => ⟨S2176x512, .bf16⟩
  | .local _ .vmem, ⟨1, _⟩ => ⟨S2176x512, .bf16⟩
  | .local _ .vmem, ⟨2, _⟩ => ⟨S2176x1024, .bf16⟩
  | .local _ .vmem, ⟨3, _⟩ => ⟨S512x1024, .bf16⟩
  | .local _ .vmem, ⟨4, _⟩ => ⟨S512x1024, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutWgradRefIdeal.lean ====
abbrev S2176x1024 : Shape := ⟨2, ![2176, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S_, .f32⟩
  | .hbm, ⟨3, _⟩ => ⟨S1024x1024, .f32⟩
  | .hbm, ⟨4, _⟩ => ⟨S2176x1024, .f32⟩
  | .hbm, ⟨5, _⟩ => ⟨S2176x1024, .f32⟩
  | .hbm, ⟨6, _⟩ => ⟨S2176x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjWgrad.lean ====
abbrev S2176x1024 : Shape := ⟨2, ![2176, 1024]⟩
abbrev S2176x2048 : Shape := ⟨2, ![2176, 2048]⟩
abbrev S8x1024x256 : Shape := ⟨3, ![8, 1024, 256]⟩
abbrev S2176x256 : Shape := ⟨2, ![2176, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S2176x2048, .bf16⟩
  | .hbm, ⟨2, _⟩ => ⟨S8x1024x256, .bf16⟩
  | .local _ .vmem, ⟨0, _⟩ => ⟨S2176x1024, .bf16⟩
  | .local _ .vmem, ⟨1, _⟩ => ⟨S2176x256, .bf16⟩
  | .local _ .vmem, ⟨2, _⟩ => ⟨S2176x256, .bf16⟩
  | .local _ .vmem, ⟨3, _⟩ => ⟨S1x1024x256, .bf16⟩
  | .local _ .vmem, ⟨4, _⟩ => ⟨S1x1024x256, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjWgradRefIdeal.lean ====
abbrev S2176x1024 : Shape := ⟨2, ![2176, 1024]⟩
abbrev S2176x2048 : Shape := ⟨2, ![2176, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x2048, .bf16⟩
  | .hbm, ⟨2, _⟩ => ⟨S_, .f32⟩
  | .hbm, ⟨3, _⟩ => ⟨S1024x2048, .f32⟩
  | .hbm, ⟨4, _⟩ => ⟨S2176x1024, .f32⟩
  | .hbm, ⟨5, _⟩ => ⟨S2176x2048, .f32⟩
  | .hbm, ⟨6, _⟩ => ⟨S2176x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpGrad.lean ====
abbrev S2176x1024 : Shape := ⟨2, ![2176, 1024]⟩
abbrev S2176x5632 : Shape := ⟨2, ![2176, 5632]⟩
abbrev S1024x5632 : Shape := ⟨2, ![1024, 5632]⟩
abbrev S1x1024 : Shape := ⟨2, ![1, 1024]⟩
abbrev S5632x1024 : Shape := ⟨2, ![5632, 1024]⟩
abbrev S272x1024 : Shape := ⟨2, ![272, 1024]⟩
abbrev S272x5632 : Shape := ⟨2, ![272, 5632]⟩
abbrev S272 : Shape := ⟨1, ![272]⟩
abbrev S272x1 : Shape := ⟨2, ![272, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S2176x1024, .f32⟩
  | .hbm, ⟨1, _⟩ => ⟨S2176x5632, .bf16⟩
  | .hbm, ⟨2, _⟩ => ⟨S1024x5632, .f32⟩
  | .hbm, ⟨3, _⟩ => ⟨S2176x1024, .f32⟩
  | .hbm, ⟨4, _⟩ => ⟨S1x1024, .f32⟩
  | .hbm, ⟨5, _⟩ => ⟨S5632x1024, .f32⟩
  | .hbm, ⟨6, _⟩ => ⟨S5632x1024, .bf16⟩
  | .hbm, ⟨7, _⟩ => ⟨S2176x1024, .f32⟩
  | .hbm, ⟨8, _⟩ => ⟨S2176x1024, .bf16⟩
  | .hbm, ⟨9, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S272x5632, .bf16⟩
  | .local _ .vmem, ⟨3, _⟩ => ⟨S272x5632, .bf16⟩
  | .local _ .vmem, ⟨4, _⟩ => ⟨S5632x1024, .bf16⟩
  | .local _ .vmem, ⟨5, _⟩ => ⟨S272x1024, .f32⟩
  | .local _ .vmem, ⟨6, _⟩ => ⟨S272x1024, .f32⟩
  | .local _ .vmem, ⟨7, _⟩ => ⟨S1x1024, .f32⟩
  | .local _ .vmem, ⟨8, _⟩ => ⟨S272x1024, .f32⟩
  | .local _ .vmem, ⟨9, _⟩ => ⟨S272x1024, .f32⟩
  | .local _ .vmem, ⟨10, _⟩ => ⟨S272x1024, .bf16⟩
  | .local _ .vmem, ⟨11, _⟩ => ⟨S272x1024, .bf16⟩
  | .local _ .vmem, ⟨12, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== UpGradRefIdeal.lean ====
abbrev S2176x1024 : Shape := ⟨2, ![2176, 1024]⟩
abbrev S2176x5632 : Shape := ⟨2, ![2176, 5632]⟩
abbrev S1024x5632 : Shape := ⟨2, ![1024, 5632]⟩
abbrev S1x1024 : Shape := ⟨2, ![1, 1024]⟩
abbrev S1024 : Shape := ⟨1, ![1024]⟩
abbrev S_ : Shape := ⟨0, ![]⟩
abbrev S2176 : Shape := ⟨1, ![2176]⟩
abbrev S2176x1 : Shape := ⟨2, ![2176, 1]⟩

abbrev nBuf : Space → Nat
  | .hbm => 57
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x5632, .bf16⟩
  | .hbm, ⟨2, _⟩ => ⟨S1024x5632, .f32⟩
  | .hbm, ⟨3, _⟩ => ⟨S2176x1024, .f32⟩
  | .hbm, ⟨4, _⟩ => ⟨S1x1024, .f32⟩
  | .hbm, ⟨5, _⟩ => ⟨S1024, .f32⟩
  | .hbm, ⟨6, _⟩ => ⟨S2176x1024, .f32⟩
  | .hbm, ⟨7, _⟩ => ⟨S_, .f32⟩
  | .hbm, ⟨8, _⟩ => ⟨S2176, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S_, .f32⟩
  | .hbm, ⟨14, _⟩ => ⟨S2176x1, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S_, .f32⟩
  | .hbm, ⟨19, _⟩ => ⟨S2176x1, .f32⟩
  | .hbm, ⟨20, _⟩ => ⟨S2176x1, .f32⟩
  | .hbm, ⟨21, _⟩ => ⟨S2176x1024, .f32⟩
  | .hbm, ⟨22, _⟩ => ⟨S2176x1024, .f32⟩
  | .hbm, ⟨23, _⟩ => ⟨S1x1024, .f32⟩
  | .hbm, ⟨24, _⟩ => ⟨S2176x1024, .f32⟩
  | .hbm, ⟨25, _⟩ => ⟨S2176x1024, .f32⟩
  | .hbm, ⟨26, _⟩ => ⟨S2176x5632, .f32⟩
  | .hbm, ⟨27, _⟩ => ⟨S2176x5632, .f32⟩
  | .hbm, ⟨28, _⟩ => ⟨S2176x1024, .f32⟩
  | .hbm, ⟨29, _⟩ => ⟨S2176x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2176x1024, .f32⟩
  | .hbm, ⟨34, _⟩ => ⟨S2176x1024, .f32⟩
  | .hbm, ⟨35, _⟩ => ⟨S_, .f32⟩
  | .hbm, ⟨36, _⟩ => ⟨S1024, .f32⟩
  | .hbm, ⟨37, _⟩ => ⟨S2176x1024, .f32⟩
  | .hbm, ⟨38, _⟩ => ⟨S_, .f32⟩
  | .hbm, ⟨39, _⟩ => ⟨S2176, .f32⟩
  | .hbm, ⟨40, _⟩ => ⟨S2176x1, .f32⟩
  | .hbm, ⟨41, _⟩ => ⟨S2176x1024, .f32⟩
  | .hbm, ⟨42, _⟩ => ⟨S2176x1024, .f32⟩
  | .hbm, ⟨43, _⟩ => ⟨S2176x1024, .f32⟩
  | .hbm, ⟨44, _⟩ => ⟨S2176x1, .f32⟩
  | .hbm, ⟨45, _⟩ => ⟨S_, .f32⟩
  | .hbm, ⟨46, _⟩ => ⟨S2176x1, .f32⟩
  | .hbm, ⟨47, _⟩ => ⟨S2176x1, .f32⟩
  | .hbm, ⟨48, _⟩ => ⟨S_, .f32⟩
  | .hbm, ⟨49, _⟩ => ⟨S2176, .f32⟩
  | .hbm, ⟨50, _⟩ => ⟨S2176x1024, .f32⟩
  | .hbm, ⟨51, _⟩ => ⟨S2176x1024, .f32⟩
  | .hbm, ⟨52, _⟩ => ⟨S2176x1024, .f32⟩
  | .hbm, ⟨53, _⟩ => ⟨S2176x1024, .f32⟩
  | .hbm, ⟨54, _⟩ => ⟨S2176x1024, .f32⟩
  | .hbm, ⟨55, _⟩ => ⟨S1x1024, .f32⟩
  | .hbm, ⟨56, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== ProjGrad.lean ====
abbrev S2176x1024 : Shape := ⟨2, ![2176, 1024]⟩
abbrev S2176x2048 : Shape := ⟨2, ![2176, 2048]⟩
abbrev S1024x2048 : Shape := ⟨2, ![1024, 2048]⟩
abbrev S1x1024 : Shape := ⟨2, ![1, 1024]⟩
abbrev S272x1024 : Shape := ⟨2, ![272, 1024]⟩
abbrev S272x2048 : Shape := ⟨2, ![272, 2048]⟩
abbrev S272 : Shape := ⟨1, ![272]⟩
abbrev S272x1 : Shape := ⟨2, ![272, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S2176x1024, .f32⟩
  | .hbm, ⟨1, _⟩ => ⟨S2176x2048, .bf16⟩
  | .hbm, ⟨2, _⟩ => ⟨S1024x2048, .f32⟩
  | .hbm, ⟨3, _⟩ => ⟨S2176x1024, .f32⟩
  | .hbm, ⟨4, _⟩ => ⟨S1x1024, .f32⟩
  | .hbm, ⟨5, _⟩ => ⟨S1024x2048, .bf16⟩
  | .hbm, ⟨6, _⟩ => ⟨S2176x1024, .f32⟩
  | .hbm, ⟨7, _⟩ => ⟨S2176x1024, .bf16⟩
  | .hbm, ⟨8, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S272x2048, .bf16⟩
  | .local _ .vmem, ⟨3, _⟩ => ⟨S272x2048, .bf16⟩
  | .local _ .vmem, ⟨4, _⟩ => ⟨S1024x2048, .bf16⟩
  | .local _ .vmem, ⟨5, _⟩ => ⟨S272x1024, .f32⟩
  | .local _ .vmem, ⟨6, _⟩ => ⟨S272x1024, .f32⟩
  | .local _ .vmem, ⟨7, _⟩ => ⟨S1x1024, .f32⟩
  | .local _ .vmem, ⟨8, _⟩ => ⟨S272x1024, .f32⟩
  | .local _ .vmem, ⟨9, _⟩ => ⟨S272x1024, .f32⟩
  | .local _ .vmem, ⟨10, _⟩ => ⟨S272x1024, .bf16⟩
  | .local _ .vmem, ⟨11, _⟩ => ⟨S272x1024, .bf16⟩
  | .local _ .vmem, ⟨12, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ProjGradRefIdeal.lean ====
abbrev S2176x1024 : Shape := ⟨2, ![2176, 1024]⟩
abbrev S2176x2048 : Shape := ⟨2, ![2176, 2048]⟩
abbrev S1024x2048 : Shape := ⟨2, ![1024, 2048]⟩
abbrev S1x1024 : Shape := ⟨2, ![1, 1024]⟩
abbrev S1024 : Shape := ⟨1, ![1024]⟩
abbrev S_ : Shape := ⟨0, ![]⟩
abbrev S2176 : Shape := ⟨1, ![2176]⟩
abbrev S2176x1 : Shape := ⟨2, ![2176, 1]⟩

abbrev nBuf : Space → Nat
  | .hbm => 57
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x2048, .bf16⟩
  | .hbm, ⟨2, _⟩ => ⟨S1024x2048, .f32⟩
  | .hbm, ⟨3, _⟩ => ⟨S2176x1024, .f32⟩
  | .hbm, ⟨4, _⟩ => ⟨S1x1024, .f32⟩
  | .hbm, ⟨5, _⟩ => ⟨S1024, .f32⟩
  | .hbm, ⟨6, _⟩ => ⟨S2176x1024, .f32⟩
  | .hbm, ⟨7, _⟩ => ⟨S_, .f32⟩
  | .hbm, ⟨8, _⟩ => ⟨S2176, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S_, .f32⟩
  | .hbm, ⟨14, _⟩ => ⟨S2176x1, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S_, .f32⟩
  | .hbm, ⟨19, _⟩ => ⟨S2176x1, .f32⟩
  | .hbm, ⟨20, _⟩ => ⟨S2176x1, .f32⟩
  | .hbm, ⟨21, _⟩ => ⟨S2176x1024, .f32⟩
  | .hbm, ⟨22, _⟩ => ⟨S2176x1024, .f32⟩
  | .hbm, ⟨23, _⟩ => ⟨S1x1024, .f32⟩
  | .hbm, ⟨24, _⟩ => ⟨S2176x1024, .f32⟩
  | .hbm, ⟨25, _⟩ => ⟨S2176x1024, .f32⟩
  | .hbm, ⟨26, _⟩ => ⟨S2176x2048, .f32⟩
  | .hbm, ⟨27, _⟩ => ⟨S2176x2048, .f32⟩
  | .hbm, ⟨28, _⟩ => ⟨S2176x1024, .f32⟩
  | .hbm, ⟨29, _⟩ => ⟨S2176x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2176x1024, .f32⟩
  | .hbm, ⟨34, _⟩ => ⟨S2176x1024, .f32⟩
  | .hbm, ⟨35, _⟩ => ⟨S_, .f32⟩
  | .hbm, ⟨36, _⟩ => ⟨S1024, .f32⟩
  | .hbm, ⟨37, _⟩ => ⟨S2176x1024, .f32⟩
  | .hbm, ⟨38, _⟩ => ⟨S_, .f32⟩
  | .hbm, ⟨39, _⟩ => ⟨S2176, .f32⟩
  | .hbm, ⟨40, _⟩ => ⟨S2176x1, .f32⟩
  | .hbm, ⟨41, _⟩ => ⟨S2176x1024, .f32⟩
  | .hbm, ⟨42, _⟩ => ⟨S2176x1024, .f32⟩
  | .hbm, ⟨43, _⟩ => ⟨S2176x1024, .f32⟩
  | .hbm, ⟨44, _⟩ => ⟨S2176x1, .f32⟩
  | .hbm, ⟨45, _⟩ => ⟨S_, .f32⟩
  | .hbm, ⟨46, _⟩ => ⟨S2176x1, .f32⟩
  | .hbm, ⟨47, _⟩ => ⟨S2176x1, .f32⟩
  | .hbm, ⟨48, _⟩ => ⟨S_, .f32⟩
  | .hbm, ⟨49, _⟩ => ⟨S2176, .f32⟩
  | .hbm, ⟨50, _⟩ => ⟨S2176x1024, .f32⟩
  | .hbm, ⟨51, _⟩ => ⟨S2176x1024, .f32⟩
  | .hbm, ⟨52, _⟩ => ⟨S2176x1024, .f32⟩
  | .hbm, ⟨53, _⟩ => ⟨S2176x1024, .f32⟩
  | .hbm, ⟨54, _⟩ => ⟨S2176x1024, .f32⟩
  | .hbm, ⟨55, _⟩ => ⟨S1x1024, .f32⟩
  | .hbm, ⟨56, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== DownLoss.lean ====
abbrev S2176x2816 : Shape := ⟨2, ![2176, 2816]⟩
abbrev S2816x1024 : Shape := ⟨2, ![2816, 1024]⟩
abbrev S2176x1024 : Shape := ⟨2, ![2176, 1024]⟩
abbrev S2048x1024 : Shape := ⟨2, ![2048, 1024]⟩
abbrev S1x1024 : Shape := ⟨2, ![1, 1024]⟩
abbrev S_ : Shape := ⟨0, ![]⟩
abbrev S8x272x1024 : Shape := ⟨3, ![8, 272, 1024]⟩
abbrev S272x8x1024 : Shape := ⟨3, ![272, 8, 1024]⟩
abbrev S8x272x2816 : Shape := ⟨3, ![8, 272, 2816]⟩
abbrev S272x8x2816 : Shape := ⟨3, ![272, 8, 2816]⟩
abbrev S1x1 : Shape := ⟨2, ![1, 1]⟩
abbrev S272x2816 : Shape := ⟨2, ![272, 2816]⟩
abbrev S272x1024 : Shape := ⟨2, ![272, 1024]⟩
abbrev S272 : Shape := ⟨1, ![272]⟩
abbrev S272x1 : Shape := ⟨2, ![272, 1]⟩
abbrev S1 : Shape := ⟨1, ![1]⟩
abbrev S1024 : Shape := ⟨1, ![1024]⟩

abbrev nBuf : Space → Nat
  | .hbm => 22
  | .vmem => 14
  | .smem => 0
  | _ => 0

abbrev bufTy : (tb : Table) → Fin (tcTables nBuf tb) → BufTy
  | .hbm, ⟨0, _⟩ => ⟨S2176x2816, .bf16⟩
  | .hbm, ⟨1, _⟩ => ⟨S2816x1024, .f32⟩
  | .hbm, ⟨2, _⟩ => ⟨S2176x1024, .f32⟩
  | .hbm, ⟨3, _⟩ => ⟨S2048x1024, .f32⟩
  | .hbm, ⟨4, _⟩ => ⟨S1x1024, .f32⟩
  | .hbm, ⟨5, _⟩ => ⟨S_, .i32⟩
  | .hbm, ⟨6, _⟩ => ⟨S_, .f32⟩
  | .hbm, ⟨7, _⟩ => ⟨S2176x1024, .f32⟩
  | .hbm, ⟨8, _⟩ => ⟨S8x272x1024, .f32⟩
  | .hbm, ⟨9, _⟩ => ⟨S272x8x1024, .f32⟩
  | .hbm, ⟨10, _⟩ => ⟨S2176x1024, .f32⟩
  | .hbm, ⟨11, _⟩ => ⟨S8x272x2816, .bf16⟩
  | .hbm, ⟨12, _⟩ => ⟨S272x8x2816, .bf16⟩
  | .hbm, ⟨13, _⟩ => ⟨S2176x2816, .bf16⟩
  | .hbm, ⟨14, _⟩ => ⟨S2816x1024, .bf16⟩
  | .hbm, ⟨15, _⟩ => ⟨S8x272x1024, .f32⟩
  | .hbm, ⟨16, _⟩ => ⟨S272x8x1024, .f32⟩
  | .hbm, ⟨17, _⟩ => ⟨S2176x1024, .f32⟩
  | .hbm, ⟨18, _⟩ => ⟨S2176x1024, .f32⟩
  | .hbm, ⟨19, _⟩ => ⟨S2176x1024, .bf16⟩
  | .hbm, ⟨20, _⟩ => ⟨S1x1, .f32⟩
  | .hbm, ⟨21, _⟩ => ⟨S1x1024, .f32⟩
  | .local _ .vmem, ⟨0, _⟩ => ⟨S272x2816, .bf16⟩
  | .local _ .vmem, ⟨1, _⟩ => ⟨S272x2816, .bf16⟩
  | .local _ .vmem, ⟨2, _⟩ => ⟨S2816x1024, .bf16⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S1x1024, .f32⟩
  | .local _ .vmem, ⟨8, _⟩ => ⟨S272x1024, .f32⟩
  | .local _ .vmem, ⟨9, _⟩ => ⟨S272x1024, .f32⟩
  | .local _ .vmem, ⟨10, _⟩ => ⟨S272x1024, .bf16⟩
  | .local _ .vmem, ⟨11, _⟩ => ⟨S272x1024, .bf16⟩
  | .local _ .vmem, ⟨12, _⟩ => ⟨S1x1, .f32⟩
  | .local _ .vmem, ⟨13, _⟩ => ⟨S1x1024, .f32⟩
  | _, _ => ⟨S2176x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownLossRefIdeal.lean ====
abbrev S2176x2816 : Shape := ⟨2, ![2176, 2816]⟩
abbrev S2816x1024 : Shape := ⟨2, ![2816, 1024]⟩
abbrev S2176x1024 : Shape := ⟨2, ![2176, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2176 : Shape := ⟨1, ![2176]⟩
abbrev S2176x1 : Shape := ⟨2, ![2176, 1]⟩
abbrev S2048 : Shape := ⟨1, ![2048]⟩
abbrev S8x272x1024 : Shape := ⟨3, ![8, 272, 1024]⟩
abbrev S272x8x1024 : Shape := ⟨3, ![272, 8, 1024]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S2176x2816, .bf16⟩
  | .hbm, ⟨1, _⟩ => ⟨S2816x1024, .f32⟩
  | .hbm, ⟨2, _⟩ => ⟨S2176x1024, .f32⟩
  | .hbm, ⟨3, _⟩ => ⟨S2048x1024, .f32⟩
  | .hbm, ⟨4, _⟩ => ⟨S1x1024, .f32⟩
  | .hbm, ⟨5, _⟩ => ⟨S2176x2816, .f32⟩
  | .hbm, ⟨6, _⟩ => ⟨S2176x1024, .f32⟩
  | .hbm, ⟨7, _⟩ => ⟨S2176x1024, .f32⟩
  | .hbm, ⟨8, _⟩ => ⟨S1024, .f32⟩
  | .hbm, ⟨9, _⟩ => ⟨S2176x1024, .f32⟩
  | .hbm, ⟨10, _⟩ => ⟨S_, .f32⟩
  | .hbm, ⟨11, _⟩ => ⟨S2176, .f32⟩
  | .hbm, ⟨12, _⟩ => ⟨S2176x1, .f32⟩
  | .hbm, ⟨13, _⟩ => ⟨S_, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x1, .f32⟩
  | .hbm, ⟨20, _⟩ => ⟨S2176x1, .f32⟩
  | .hbm, ⟨21, _⟩ => ⟨S_, .f32⟩
  | .hbm, ⟨22, _⟩ => ⟨S2176x1, .f32⟩
  | .hbm, ⟨23, _⟩ => ⟨S2176x1, .f32⟩
  | .hbm, ⟨24, _⟩ => ⟨S2176x1024, .f32⟩
  | .hbm, ⟨25, _⟩ => ⟨S2176x1024, .f32⟩
  | .hbm, ⟨26, _⟩ => ⟨S1x1024, .f32⟩
  | .hbm, ⟨27, _⟩ => ⟨S2176x1024, .f32⟩
  | .hbm, ⟨28, _⟩ => ⟨S2176x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2176x1024, .f32⟩
  | .hbm, ⟨55, _⟩ => ⟨S2176x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2176x1024, .f32⟩
  | .hbm, ⟨60, _⟩ => ⟨S2176x1024, .f32⟩
  | .hbm, ⟨61, _⟩ => ⟨S_, .f32⟩
  | .hbm, ⟨62, _⟩ => ⟨S1024, .f32⟩
  | .hbm, ⟨63, _⟩ => ⟨S2176x1024, .f32⟩
  | .hbm, ⟨64, _⟩ => ⟨S_, .f32⟩
  | .hbm, ⟨65, _⟩ => ⟨S2176, .f32⟩
  | .hbm, ⟨66, _⟩ => ⟨S2176x1, .f32⟩
  | .hbm, ⟨67, _⟩ => ⟨S2176x1024, .f32⟩
  | .hbm, ⟨68, _⟩ => ⟨S2176x1024, .f32⟩
  | .hbm, ⟨69, _⟩ => ⟨S2176x1, .f32⟩
  | .hbm, ⟨70, _⟩ => ⟨S_, .f32⟩
  | .hbm, ⟨71, _⟩ => ⟨S2176x1, .f32⟩
  | .hbm, ⟨72, _⟩ => ⟨S2176x1, .f32⟩
  | .hbm, ⟨73, _⟩ => ⟨S_, .f32⟩
  | .hbm, ⟨74, _⟩ => ⟨S2176, .f32⟩
  | .hbm, ⟨75, _⟩ => ⟨S2176x1024, .f32⟩
  | .hbm, ⟨76, _⟩ => ⟨S2176x1024, .f32⟩
  | .hbm, ⟨77, _⟩ => ⟨S2176x1024, .f32⟩
  | .hbm, ⟨78, _⟩ => ⟨S2176x1024, .f32⟩
  | .hbm, ⟨79, _⟩ => ⟨S2176x1024, .f32⟩
  | .hbm, ⟨80, _⟩ => ⟨S1x1024, .f32⟩
  | .hbm, ⟨81, _⟩ => ⟨S8x272x1024, .f32⟩
  | .hbm, ⟨82, _⟩ => ⟨S272x8x1024, .f32⟩
  | .hbm, ⟨83, _⟩ => ⟨S2176x1024, .f32⟩
  | .hbm, ⟨84, _⟩ => ⟨S2176x1024, .bf16⟩
  | .hbm, ⟨85, _⟩ => ⟨S1x1, .f32⟩
  | _, _ => ⟨S2176x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Proof.Fwd.lean ====
/- The forward call: what its kernel leaves in every output block, and that the body runs at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

abbrev VO0_8 : View sig .tc .vmem S2176x512 .f32 := (Memref.whole cc0_stg8_0 : Memref sig .tc .vmem S2176x512 .f32).view
abbrev VO0_9 : View sig .tc .vmem S2176x512 .f32 := (Memref.whole cc0_stg9_0 : Memref sig .tc .vmem S2176x512 .f32).view
abbrev VO0_10 : View sig .tc .vmem S2176x128 .f32 := (Memref.whole cc0_stg10_0 : Memref sig .tc .vmem S2176x128 .f32).view
abbrev ms0_0 (t : Fin cfg0.N) : Memref sig .tc .vmem S2176x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2176x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2176x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2176x128 .f32 := win0_10.stage (cfg0.slots t 10)
abbrev hs0_10 (t : Fin cfg0.N) : (ms0_10 t).IsWhole := hstage0_10 ((cfg0.slots t 10).cast nbuf0_10)

section Body
variable (c : Dev nD) (i : grid0.Coords) (arg1 : Memref sig .tc .vmem S2176x128 .f32) (harg1 : arg1.IsWhole) (arg2 : Memref sig .tc .vmem S1x128x512 .bf16) (harg2 : arg2.IsWhole) (arg3 : Memref sig .tc .vmem S1x128x512 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x1x128 .f32) (harg8 : arg8.IsWhole) (arg9 : Memref sig .tc .vmem S2176x512 .f32) (harg9 : arg9.IsWhole) (arg10 : Memref sig .tc .vmem S2176x512 .f32) (harg10 : arg10.IsWhole) (arg11 : Memref sig .tc .vmem S2176x128 .f32) (harg11 : arg11.IsWhole)
     (x0 : Vec F S2176x128 .f32) (x1 : Vec F S1x128x512 .bf16) (x2 : Vec F S1x128x512 .bf16) (x3 : Vec F S1x1x512 .f32) (x4 : Vec F S1x1x512 .f32) (x5 : Vec F S1x128x512 .bf16) (x6 : Vec F S1x128x512 .bf16) (x7 : Vec F S1x1x128 .f32)

set_option maxHeartbeats 1000000 in
noncomputable def fwdRun :
    Σ' (L8 : List (View.Piece (Elt F) S2176x512 .f32)), Σ' (L9 : List (View.Piece (Elt F) S2176x512 .f32)), { L10 : List (View.Piece (Elt F) S2176x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0_s5_fwd i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_s5_fwd_eq_skeleton]; unfold cc0_s5_fwd_skel
    simp only [k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact H10

theorem fwdCover_8  (y : S2176x512.Idx) :
    ∃ pc ∈ (fwdRun c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_wholeMem (fwdRun c i arg1 harg1 arg2 harg2 arg3 harg3 arg4 harg4 arg5 harg5 arg6 harg6 arg7 harg7 arg8 harg8 arg9 harg9 arg10 harg10 arg11 harg11 x0 x1 x2 x3 x4 x5 x6 x7).1 (by sl_whole_mem) y

def fwdOut_8 : Vec F S2176x512 .f32 :=
  VO0_8.read (Elt F) (VO0_8.writes (Elt F) VO0_8.junk (fwdRun c i arg1 harg1 arg2 harg2 arg3 harg3 arg4 harg4 arg5 harg5 arg6 harg6 arg7 harg7 arg8 harg8 arg9 harg9 arg10 harg10 arg11 harg11 x0 x1 x2 x3 x4 x5 x6 x7).1)

theorem fwdCover_9  (y : S2176x512.Idx) :
    ∃ pc ∈ (fwdRun c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_wholeMem (fwdRun c i arg1 harg1 arg2 harg2 arg3 harg3 arg4 harg4 arg5 harg5 arg6 harg6 arg7 harg7 arg8 harg8 arg9 harg9 arg10 harg10 arg11 harg11 x0 x1 x2 x3 x4 x5 x6 x7).2.1 (by sl_whole_mem) y

def fwdOut_9 : Vec F S2176x512 .f32 :=
  VO0_9.read (Elt F) (VO0_9.writes (Elt F) VO0_9.junk (fwdRun c i arg1 harg1 arg2 harg2 arg3 harg3 arg4 harg4 arg5 harg5 arg6 harg6 arg7 harg7 arg8 harg8 arg9 harg9 arg10 harg10 arg11 harg11 x0 x1 x2 x3 x4 x5 x6 x7).2.1)

theorem fwdCover_10  (y : S2176x128.Idx) :
    ∃ pc ∈ (fwdRun c i arg1 harg1 arg2 harg2 arg3 harg3 arg4 harg4 arg5 harg5 arg6 harg6 arg7 harg7 arg8 harg8 arg9 harg9 arg10 harg10 arg11 harg11 x0 x1 x2 x3 x4 x5 x6 x7).2.2.1, y ∈ pc.1.set :=
  View.cover_of_tiledL (fwdRun c i arg1 harg1 arg2 harg2 arg3 harg3 arg4 harg4 arg5 harg5 arg6 harg6 arg7 harg7 arg8 harg8 arg9 harg9 arg10 harg10 arg11 harg11 x0 x1 x2 x3 x4 x5 x6 x7).2.2.1 S2176x128.size (by sl_kernel_rfl) y

def fwdOut_10 : Vec F S2176x128 .f32 :=
  VO0_10.read (Elt F) (VO0_10.writes (Elt F) VO0_10.junk (fwdRun c i arg1 harg1 arg2 harg2 arg3 harg3 arg4 harg4 arg5 harg5 arg6 harg6 arg7 harg7 arg8 harg8 arg9 harg9 arg10 harg10 arg11 harg11 x0 x1 x2 x3 x4 x5 x6 x7).2.2.1)

end Body

def outsAt0 (c : Dev nD) (t : Fin cfg0.N) : Vec F S2176x512 .f32 × Vec F S2176x512 .f32 × Vec F S2176x128 .f32 :=
  (fwdOut_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk0 V c 0 t) (iblk0 V c 1 t) (iblk0 V c 2 t) (iblk0 V c 3 t) (iblk0 V c 4 t) (iblk0 V c 5 t) (iblk0 V c 6 t) (iblk0 V c 7 t), fwdOut_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk0 V c 0 t) (iblk0 V c 1 t) (iblk0 V c 2 t) (iblk0 V c 3 t) (iblk0 V c 4 t) (iblk0 V c 5 t) (iblk0 V c 6 t) (iblk0 V c 7 t), fwdOut_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk0 V c 0 t) (iblk0 V c 1 t) (iblk0 V c 2 t) (iblk0 V c 3 t) (iblk0 V c 4 t) (iblk0 V c 5 t) (iblk0 V c 6 t) (iblk0 V c 7 t))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t).1
    | ⟨9, _⟩ => (outsAt0 V c t).2.1
    | ⟨10, _⟩ => (outsAt0 V c t).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t).1 := by dsimp only [dat0]
theorem after0_9 (c : Dev nD) (t : Fin cfg0.N) : (dat0 V c).after 9 t = (outsAt0 V c t).2.1 := by dsimp only [dat0]
theorem after0_10 (c : Dev nD) (t : Fin cfg0.N) : (dat0 V c).after 10 t = (outsAt0 V c t).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  unfold outsAt0
  unfold fwdOut_8 fwdOut_9 fwdOut_10; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((fwdRun c (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, ⟨%e8, H8⟩, ⟨%e9, H9⟩, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (fwdCover_8 c _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (fwdCover_9 c _ _ _ _ _ _ _ _ _ _ _ _ _ _ _ _ _ _ _ _ _ _ _ _ _ _ _ _ _ _ _)
  unfold owns; iexists _; isplitr
  swap; · iexact H10
  ipureintro; exact View.read_writes_of_cover _ _ _ _ _ (fwdCover_10 c _ _ _ _ _ _ _ _ _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region

end Cert.KernelIdeal.Run

end
-- ==== Proof.BwdRun.lean ====
/- The backward call: its windows, and what its kernel leaves in every output block. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

abbrev VO1_11 : View sig .tc .vmem S2176x128 .bf16 := (Memref.whole cc1_stg11_0 : Memref sig .tc .vmem S2176x128 .bf16).view
abbrev VO1_12 : View sig .tc .vmem S1x8x16x64 .f32 := (Memref.whole cc1_stg12_0 : Memref sig .tc .vmem S1x8x16x64 .f32).view
abbrev VO1_13 : View sig .tc .vmem S1x8x16x64 .f32 := (Memref.whole cc1_stg13_0 : Memref sig .tc .vmem S1x8x16x64 .f32).view
abbrev VO1_14 : View sig .tc .vmem S1x1x512 .f32 := (Memref.whole cc1_stg14_0 : Memref sig .tc .vmem S1x1x512 .f32).view
abbrev VO1_15 : View sig .tc .vmem S1x1x512 .f32 := (Memref.whole cc1_stg15_0 : Memref sig .tc .vmem S1x1x512 .f32).view
abbrev VO1_16 : View sig .tc .vmem S1x8x16x64 .f32 := (Memref.whole cc1_stg16_0 : Memref sig .tc .vmem S1x8x16x64 .f32).view
abbrev VO1_17 : View sig .tc .vmem S1x8x16x64 .f32 := (Memref.whole cc1_stg17_0 : Memref sig .tc .vmem S1x8x16x64 .f32).view
abbrev VO1_18 : View sig .tc .vmem S1x1x128 .f32 := (Memref.whole cc1_stg18_0 : Memref sig .tc .vmem S1x1x128 .f32).view
abbrev ms1_0 (t : Fin cfg1.N) : Memref sig .tc .vmem S2176x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2176x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2176x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2176x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128x512 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128x512 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S2176x128 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x8x16x64 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x8x16x64 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x1x512 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x1x512 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S1x8x16x64 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x8x16x64 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S1x1x128 .f32 := win1_18.stage (cfg1.slots t 18)
abbrev hs1_18 (t : Fin cfg1.N) : (ms1_18 t).IsWhole := hstage1_18 ((cfg1.slots t 18).cast nbuf1_18)
abbrev scM1_0 : Memref sig .tc .vmem S2176x512 .f32 := Memref.whole cc1_scratch0
abbrev scM1_1 : Memref sig .tc .vmem S2176x512 .f32 := Memref.whole cc1_scratch1

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

section Body
variable (c : Dev nD) (i : grid1.Coords) (arg1 : Memref sig .tc .vmem S2176x128 .f32) (harg1 : arg1.IsWhole) (arg2 : Memref sig .tc .vmem S2176x128 .f32) (harg2 : arg2.IsWhole) (arg3 : Memref sig .tc .vmem S2176x512 .f32) (harg3 : arg3.IsWhole) (arg4 : Memref sig .tc .vmem S2176x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x512 .bf16) (harg9 : arg9.IsWhole) (arg10 : Memref sig .tc .vmem S1x128x512 .bf16) (harg10 : arg10.IsWhole) (arg11 : Memref sig .tc .vmem S1x1x128 .f32) (harg11 : arg11.IsWhole) (arg12 : Memref sig .tc .vmem S2176x128 .bf16) (harg12 : arg12.IsWhole) (arg13 : Memref sig .tc .vmem S1x8x16x64 .f32) (harg13 : arg13.IsWhole) (arg14 : Memref sig .tc .vmem S1x8x16x64 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x8x16x64 .f32) (harg17 : arg17.IsWhole) (arg18 : Memref sig .tc .vmem S1x8x16x64 .f32) (harg18 : arg18.IsWhole) (arg19 : Memref sig .tc .vmem S1x1x128 .f32) (harg19 : arg19.IsWhole) (arg20 : Memref sig .tc .vmem S2176x512 .f32) (harg20 : arg20.IsWhole) (arg21 : Memref sig .tc .vmem S2176x512 .f32) (harg21 : arg21.IsWhole)
     (x0 : Vec F S2176x128 .f32) (x1 : Vec F S2176x128 .f32) (x2 : Vec F S2176x512 .f32) (x3 : Vec F S2176x512 .f32) (x4 : Vec F S1x128x512 .bf16) (x5 : Vec F S1x128x512 .bf16) (x6 : Vec F S1x1x512 .f32) (x7 : Vec F S1x1x512 .f32) (x8 : Vec F S1x128x512 .bf16) (x9 : Vec F S1x128x512 .bf16) (x10 : Vec F S1x1x128 .f32)

set_option maxHeartbeats 1172000 in
noncomputable def bwdRun :
    Σ' (L11 : List (View.Piece (Elt F) S2176x128 .bf16)), Σ' (L12 : List (View.Piece (Elt F) S1x8x16x64 .f32)), Σ' (L13 : List (View.Piece (Elt F) S1x8x16x64 .f32)), Σ' (L14 : List (View.Piece (Elt F) S1x1x512 .f32)), Σ' (L15 : List (View.Piece (Elt F) S1x1x512 .f32)), Σ' (L16 : List (View.Piece (Elt F) S1x8x16x64 .f32)), Σ' (L17 : List (View.Piece (Elt F) S1x8x16x64 .f32)), { L18 : List (View.Piece (Elt F) S1x1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ d, owns (c : Thread nD τ) arg20 fullShare d) ∗ (∃ d, owns (c : Thread nD τ) arg21 fullShare d)) -∗ K ⟨⟩))
          ⊢ wp frame (wpE (defs₀ (F := F)) Variants.none c none) E (cc1_s5_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun E K => ?run⟩
  case run =>
    simp only [cc1_s5_bwd_eq_skeleton]; unfold cc1_s5_bwd_skel
    simp only [k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]
    · iexists _, _; isplitr; swap; · iexact HS0
      ipureintro; rfl
    iexists _, _; isplitr; swap; · iexact HS1
    ipureintro; rfl

theorem bwdCover_11  (y : S2176x128.Idx) :
    ∃ pc ∈ (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).1, y ∈ pc.1.set :=
  View.cover_of_tiledL (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).1 S2176x128.size (by sl_kernel_rfl) y

def bwdOut_11 : Vec F S2176x128 .bf16 :=
  VO1_11.read (Elt F) (VO1_11.writes (Elt F) VO1_11.junk (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).1)

theorem bwdCover_12  (y : S1x8x16x64.Idx) :
    ∃ pc ∈ (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.1, y ∈ pc.1.set :=
  View.cover_of_tiledL (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.1 S1x1x16x64.size (by sl_kernel_rfl) y

def bwdOut_12 : Vec F S1x8x16x64 .f32 :=
  VO1_12.read (Elt F) (VO1_12.writes (Elt F) VO1_12.junk (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.1)

theorem bwdCover_13  (y : S1x8x16x64.Idx) :
    ∃ pc ∈ (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.1, y ∈ pc.1.set :=
  View.cover_of_tiledL (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.1 S1x1x16x64.size (by sl_kernel_rfl) y

def bwdOut_13 : Vec F S1x8x16x64 .f32 :=
  VO1_13.read (Elt F) (VO1_13.writes (Elt F) VO1_13.junk (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.1)

theorem bwdCover_14  (y : S1x1x512.Idx) :
    ∃ pc ∈ (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.1, y ∈ pc.1.set :=
  View.cover_of_tiledL (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.1 S1x1x512.size (by sl_kernel_rfl) y

def bwdOut_14 : Vec F S1x1x512 .f32 :=
  VO1_14.read (Elt F) (VO1_14.writes (Elt F) VO1_14.junk (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.1)

theorem bwdCover_15  (y : S1x1x512.Idx) :
    ∃ pc ∈ (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.1, y ∈ pc.1.set :=
  View.cover_of_tiledL (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.1 S1x1x512.size (by sl_kernel_rfl) y

def bwdOut_15 : Vec F S1x1x512 .f32 :=
  VO1_15.read (Elt F) (VO1_15.writes (Elt F) VO1_15.junk (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.1)

theorem bwdCover_16  (y : S1x8x16x64.Idx) :
    ∃ pc ∈ (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.1, y ∈ pc.1.set :=
  View.cover_of_tiledL (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.1 S1x1x16x64.size (by sl_kernel_rfl) y

def bwdOut_16 : Vec F S1x8x16x64 .f32 :=
  VO1_16.read (Elt F) (VO1_16.writes (Elt F) VO1_16.junk (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.1)

theorem bwdCover_17  (y : S1x8x16x64.Idx) :
    ∃ pc ∈ (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.2.1, y ∈ pc.1.set :=
  View.cover_of_tiledL (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.2.1 S1x1x16x64.size (by sl_kernel_rfl) y

def bwdOut_17 : Vec F S1x8x16x64 .f32 :=
  VO1_17.read (Elt F) (VO1_17.writes (Elt F) VO1_17.junk (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.2.1)

theorem bwdCover_18  (y : S1x1x128.Idx) :
    ∃ pc ∈ (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.2.2.1, y ∈ pc.1.set :=
  View.cover_of_tiledL (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.2.2.1 S1x1x128.size (by sl_kernel_rfl) y

def bwdOut_18 : Vec F S1x1x128 .f32 :=
  VO1_18.read (Elt F) (VO1_18.writes (Elt F) VO1_18.junk (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.2.2.1)

end Body

end Region

end Cert.KernelIdeal.Run

end
-- ==== Proof.Bwd.lean ====
/- The backward call: that the body runs at every grid point. -/
module

public import proofs.«01_k».proof.Proof.BwdRun

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region
variable (V : (c : Dev nD) → (b : Ref sig .tc) → Buf (Elt F) ((c : Thread nD τ).loc b))

def outsAt1 (c : Dev nD) (t : Fin cfg1.N) : Vec F S2176x128 .bf16 × Vec F S1x8x16x64 .f32 × Vec F S1x8x16x64 .f32 × Vec F S1x1x512 .f32 × Vec F S1x1x512 .f32 × Vec F S1x8x16x64 .f32 × Vec F S1x8x16x64 .f32 × Vec F S1x1x128 .f32 :=
  (bwdOut_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), bwdOut_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), bwdOut_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), bwdOut_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), bwdOut_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), bwdOut_16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), bwdOut_17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), bwdOut_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (outsAt1 V c t).1
    | ⟨12, _⟩ => (outsAt1 V c t).2.1
    | ⟨13, _⟩ => (outsAt1 V c t).2.2.1
    | ⟨14, _⟩ => (outsAt1 V c t).2.2.2.1
    | ⟨15, _⟩ => (outsAt1 V c t).2.2.2.2.1
    | ⟨16, _⟩ => (outsAt1 V c t).2.2.2.2.2.1
    | ⟨17, _⟩ => (outsAt1 V c t).2.2.2.2.2.2.1
    | ⟨18, _⟩ => (outsAt1 V c t).2.2.2.2.2.2.2
    | ⟨_ + 19, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = (outsAt1 V c t).1 := by dsimp only [dat1]
theorem after1_12 (c : Dev nD) (t : Fin cfg1.N) : (dat1 V c).after 12 t = (outsAt1 V c t).2.1 := by dsimp only [dat1]
theorem after1_13 (c : Dev nD) (t : Fin cfg1.N) : (dat1 V c).after 13 t = (outsAt1 V c t).2.2.1 := by dsimp only [dat1]
theorem after1_14 (c : Dev nD) (t : Fin cfg1.N) : (dat1 V c).after 14 t = (outsAt1 V c t).2.2.2.1 := by dsimp only [dat1]
theorem after1_15 (c : Dev nD) (t : Fin cfg1.N) : (dat1 V c).after 15 t = (outsAt1 V c t).2.2.2.2.1 := by dsimp only [dat1]
theorem after1_16 (c : Dev nD) (t : Fin cfg1.N) : (dat1 V c).after 16 t = (outsAt1 V c t).2.2.2.2.2.1 := by dsimp only [dat1]
theorem after1_17 (c : Dev nD) (t : Fin cfg1.N) : (dat1 V c).after 17 t = (outsAt1 V c t).2.2.2.2.2.2.1 := by dsimp only [dat1]
theorem after1_18 (c : Dev nD) (t : Fin cfg1.N) : (dat1 V c).after 18 t = (outsAt1 V c t).2.2.2.2.2.2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18]
  rw [show (dat1 V c).Φ t.castSucc = Pipeline.ΦA spec1 c from rfl, PhiA1_eq]
  unfold outsAt1
  unfold bwdOut_11 bwdOut_12 bwdOut_13 bwdOut_14 bwdOut_15 bwdOut_16 bwdOut_17 bwdOut_18; (try dsimp only)
  iintro ⟨⟨⟨HR0, HR1, HR2, HR3, HR4, HR5, HR6, HR7, HR8, HR9, HR10, HR11, HR12, HR13, HR14, HR15, HR16, HR17, HR18, HR19, HR20, HR21, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((bwdRun c (grid1.coords t) _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, HS0, HS1⟩
  isplitl [HR0 HR1 HR2 HR3 HR4 HR5 HR6 HR7 HR8 HR9 HR10 HR11 HR12 HR13 HR14 HR15 HR16 HR17 HR18 HR19 HR20 HR21 HS0 HS1 Hg]
  · isplitl [HR0 HR1 HR2 HR3 HR4 HR5 HR6 HR7 HR8 HR9 HR10 HR11 HR12 HR13 HR14 HR15 HR16 HR17 HR18 HR19 HR20 HR21 HS0 HS1]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      isplitl [HR18]
      · iexact HR18
      isplitl [HR19]
      · iexact HR19
      isplitl [HR20]
      · iexact HR20
      isplitl [HR21]
      · iexact HR21
      isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (bwdCover_11 c _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (bwdCover_12 c _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (bwdCover_13 c _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (bwdCover_14 c _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (bwdCover_15 c _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (bwdCover_16 c _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (bwdCover_17 c _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H18
  ipureintro; exact View.read_writes_of_cover _ _ _ _ _ (bwdCover_18 c _ _ _ _ _ _ _ _ _ _ _ _ _ _ _ _ _ _ _ _ _ _ _ _ _ _ _ _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

set_option maxHeartbeats 20000000 in
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region

end Cert.KernelIdeal.Run

end
-- ==== Proof.Run.lean ====
/- The whole program: host code, the forward call, the backward call, host code. -/
module

public import proofs.«01_k».proof.Proof.Fwd
public import proofs.«01_k».proof.Proof.Bwd

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_v7, main_v8, main_v9, main_c, main_v10, main_v11, main_v12, main_v13, main_v14, main_v15, main_v16, main_v17, main_v18, main_v19, main_v20, main_v21, main_v22, main_v23, main_v24, main_c_0, main_v25, main_v26, main_v27, main_v28, main_v29, main_v30, main_v31, main_v32, main_v33, main_v34, main_v35, main_v36, main_v37, main_v38, main_v39, main_v40, main_c_1, main_v41, main_v42, main_v43, main_v44, main_v45, main_v46, main_v47, main_v48, main_v49, main_v50, main_v51, main_v52, main_v53, main_v54, main_c_2, main_v55, main_v56, main_v57, main_v58, main_v59, main_v60, main_v61, main_v62, main_v63, main_v64, main_v65, main_v66]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v69, main_v70, main_v71, main_v72, main_v73, main_v74, main_v75, main_v76, main_v77, main_v78, main_v79, main_v80, main_v81, main_v82, main_v83, main_v84]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The program runs to its end from any launch memory; every buffer outside the calls then holds what the fold
    `W4` of the host operations and the two calls says, and every counter is zero. -/
theorem run_all : θ_run defs (onTc (τ := τ) (main (F := F))) ⟨m, fun _ => 0, ρ⟩ (fun r =>
      (∀ (c : Dev nD) (b : Ref sig .tc), Proc.devRef .tc b ∈ Pipeline.ucRefs τ sig →
        r.2.mem ((c.tc : Thread nD τ).loc b) = W4 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c _ hb, funext fun g => hz g (.inr (no_unscoped g.2))⟩)

/-- The argument arrays end as they began, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(h.1 c _ (mem_uc main_arg0 (by decide))).trans (W4_main_arg0 m ρ c),
    (h.1 c _ (mem_uc main_arg1 (by decide))).trans (W4_main_arg1 m ρ c),
    (h.1 c _ (mem_uc main_arg2 (by decide))).trans (W4_main_arg2 m ρ c),
    (h.1 c _ (mem_uc main_arg3 (by decide))).trans (W4_main_arg3 m ρ c),
    (h.1 c _ (mem_uc main_arg4 (by decide))).trans (W4_main_arg4 m ρ c),
    (h.1 c _ (mem_uc main_arg5 (by decide))).trans (W4_main_arg5 m ρ c),
    (h.1 c _ (mem_uc main_arg6 (by decide))).trans (W4_main_arg6 m ρ c),
    (h.1 c _ (mem_uc main_arg7 (by decide))).trans (W4_main_arg7 m ρ c),
    (h.1 c _ (mem_uc main_arg8 (by decide))).trans (W4_main_arg8 m ρ c)⟩, h.2⟩) (run_all m ρ)

end Cert.KernelIdeal.Run

end
-- ==== Proof.Same.lean ====
/- The kernel of bit patterns and its ideal counterpart are one program text, so the run over any arithmetic serves both. -/
module

public import proofs.«01_k».proof.Defs
public import proofs.«01_k».proof.Proof.Gen.Kernel
public import proofs.«01_k».proof.Proof.Run
public import Idealize.ShloMosaic.Lib.Tactic

@[expose] public section

noncomputable section

namespace Cert.Proof

open Idealize.ShloMosaic Idealize.ShloMosaic.TcCoe Idealize.ShloMosaic.Tactic Idealize.SL.Sem

/-- What the frame of the kernel says, spelled with the ideal program's text at bit patterns. -/
def FrameAtBits : Prop :=
  ∀ (m : (ℓ : Loc KernelIdeal.nD KernelIdeal.τ KernelIdeal.sig) → Buf (Elt Bits) ℓ) (g : Dev KernelIdeal.nD → PrngReg), True →
    θ_run (KernelIdeal.defs (F := Bits)) (onTc (τ := KernelIdeal.τ) (KernelIdeal.main (F := Bits))) ⟨m, fun _ => 0, g⟩ (fun r =>
      (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)
      ∧ r.2.mem ((c.tc : Thread KernelIdeal.nD KernelIdeal.τ).loc KernelIdeal.main_arg7) = m ((c.tc : Thread KernelIdeal.nD KernelIdeal.τ).loc KernelIdeal.main_arg7)
      ∧ r.2.mem ((c.tc : Thread KernelIdeal.nD KernelIdeal.τ).loc KernelIdeal.main_arg8) = m ((c.tc : Thread KernelIdeal.nD KernelIdeal.τ).loc KernelIdeal.main_arg8))
      ∧ r.2.sem = fun _ => 0)

/-- The two texts are the same. -/
theorem same_text : quiescent_Kernel (hKernel := Kernel.Gen.facts) = FrameAtBits := by sl_kernel_rfl

/-- The frame of the kernel. -/
theorem kernel_frame : quiescent_Kernel (hKernel := Kernel.Gen.facts) :=
  same_text.mpr fun m g _ => KernelIdeal.Run.frame m g

end Cert.Proof

end
-- ==== Proof.RefOps.lean ====
/- The host operations of the plain reference as lists: @main before the forward scan, the scan's condition and one
   trip of it, @main between the scans, the reverse scan's condition and one trip, @main after it. The text of each
   operation is the program's; a call of a small indexing function is its operations at that call's buffers. -/
module

public import proofs.«01_k».proof.Proof.Gen.ReferenceIdeal
public import Idealize.ShloMosaic.Lib.Pipeline.RegionsLoop
public import Idealize.ShloMosaic.Lib.StableHlo.RunLoop

@[expose] public section

noncomputable section

namespace Cert.ReferenceIdeal.Run

open Idealize.ShloMosaic Idealize.ShloMosaic.TcCoe Idealize.SL.Sem
open Cert.ReferenceIdeal Cert.ReferenceIdeal.Gen

variable {F : FTy → Type} [FloatOps F]

/-- @main up to the forward scan. -/
abbrev preOps : List (HloOp τ sig (Elt F)) :=
  [ StableHlo.unary main_arg1 main_v0 ((extractStridedSlice S2176x512 ![0, 1536] · slices_S2176x2048_S2176x512_0_1536) : (⟨S2176x2048, .f32⟩ : BufTy).Contents (Elt F) → (⟨S2176x512, .f32⟩ : BufTy).Contents (Elt F)),
    StableHlo.reshape main_v0 main_v1 (rfl : (.f32 : EltTy) = .f32) shapeCasts_S2176x512_S2176x32x16,
    StableHlo.binary main_arg4 main_v1 main_v2 ((fun l r => Host.dotGeneral dot_S32x64x16_S2176x32x16_S32x64x2176_2_2_1_0_0_1 none l r) : (⟨S32x64x16, .f32⟩ : BufTy).Contents (Elt F) → (⟨S2176x32x16, .f32⟩ : BufTy).Contents (Elt F) → (⟨S32x64x2176, .f32⟩ : BufTy).Contents (Elt F)),
    StableHlo.unary main_v2 main_v3 ((transpose S2176x32x64 [2, 0, 1] · transposes_S32x64x2176_S2176x32x64_2_0_1) : (⟨S32x64x2176, .f32⟩ : BufTy).Contents (Elt F) → (⟨S2176x32x64, .f32⟩ : BufTy).Contents (Elt F)),
    StableHlo.binary main_arg5 main_v1 main_v4 ((fun l r => Host.dotGeneral dot_S32x64x16_S2176x32x16_S32x64x2176_2_2_1_0_0_1 none l r) : (⟨S32x64x16, .f32⟩ : BufTy).Contents (Elt F) → (⟨S2176x32x16, .f32⟩ : BufTy).Contents (Elt F) → (⟨S32x64x2176, .f32⟩ : BufTy).Contents (Elt F)),
    StableHlo.unary main_v4 main_v5 ((transpose S2176x32x64 [2, 0, 1] · transposes_S32x64x2176_S2176x32x64_2_0_1) : (⟨S32x64x2176, .f32⟩ : BufTy).Contents (Elt F) → (⟨S2176x32x64, .f32⟩ : BufTy).Contents (Elt F)),
    StableHlo.nullary main_cst (constant S_ .f32 0x00000000#32),
    StableHlo.unary main_cst main_v6 (broadcastInDim S32x64 ![] bcast_S_S32x64 : (⟨S_, .f32⟩ : BufTy).Contents (Elt F) → (⟨S32x64, .f32⟩ : BufTy).Contents (Elt F)),
    StableHlo.nullary main_cst_0 (constant S_ .f32 0x00000000#32),
    StableHlo.unary main_cst_0 main_v7 (broadcastInDim S2176x32x64 ![] bcast_S_S2176x32x64 : (⟨S_, .f32⟩ : BufTy).Contents (Elt F) → (⟨S2176x32x64, .f32⟩ : BufTy).Contents (Elt F)),
    StableHlo.nullary main_cst_1 (constant S_ .f32 0x00000000#32),
    StableHlo.unary main_cst_1 main_v8 (broadcastInDim S2176x32x64 ![] bcast_S_S2176x32x64 : (⟨S_, .f32⟩ : BufTy).Contents (Elt F) → (⟨S2176x32x64, .f32⟩ : BufTy).Contents (Elt F)),
    StableHlo.nullary main_cst_2 (constant S_ .f32 0x00000000#32),
    StableHlo.unary main_cst_2 main_v9 (broadcastInDim S2176x32x64 ![] bcast_S_S2176x32x64 : (⟨S_, .f32⟩ : BufTy).Contents (Elt F) → (⟨S2176x32x64, .f32⟩ : BufTy).Contents (Elt F)),
    StableHlo.nullary main_cst_3 (constant S_ .f32 0x00000000#32),
    StableHlo.unary main_cst_3 main_v10 (broadcastInDim S2176x32x64 ![] bcast_S_S2176x32x64 : (⟨S_, .f32⟩ : BufTy).Contents (Elt F) → (⟨S2176x32x64, .f32⟩ : BufTy).Contents (Elt F)),
    StableHlo.nullary main_c (constantI S_ 32 0#32),
    StableHlo.unary main_v3 main_v11_0 id,
    StableHlo.unary main_v5 main_v11_1 id,
    StableHlo.unary main_arg2 main_v11_2 id,
    StableHlo.unary main_arg3 main_v11_3 id,
    StableHlo.unary main_c main_v11_4 id,
    StableHlo.unary main_v6 main_v11_5 id,
    StableHlo.unary main_v6 main_v11_6 id,
    StableHlo.unary main_v7 main_v11_7 id,
    StableHlo.unary main_v8 main_v11_8 id,
    StableHlo.unary main_v9 main_v11_9 id,
    StableHlo.unary main_v10 main_v11_10 id ]
/-- The buffers it writes, in order. -/
abbrev preOps_W : List (Ref sig .tc) := [main_v0, main_v1, main_v2, main_v3, main_v4, main_v5, main_cst, main_v6, main_cst_0, main_v7, main_cst_1, main_v8, main_cst_2, main_v9, main_cst_3, main_v10, main_c, main_v11_0, main_v11_1, main_v11_2, main_v11_3, main_v11_4, main_v11_5, main_v11_6, main_v11_7, main_v11_8, main_v11_9, main_v11_10]
theorem preOps_sub : (preOps : List (HloOp τ sig (Elt F))).Forall fun op => op.bufs ⊆ StableHlo.tcRefs τ sig := by
  simp only [List.Forall]
  exact ⟨StableHlo.unary_bufs_sub .., StableHlo.reshape_bufs_sub .., StableHlo.binary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem preOps_writes : (preOps : List (HloOp τ sig (Elt F))).Forall fun op =>
    op.writes ⊆ ((preOps_W).map (Proc.devRef (τ := τ) .tc)).toFinset :=
  StableHlo.forall_writes_sub_of_map rfl

/-- The forward scan's condition. -/
abbrev cond0 : List (HloOp τ sig (Elt F)) :=
  [ StableHlo.nullary main_while0c_c_25 (constantI S_ 32 2176#32),
    StableHlo.binary main_v11_4 main_while0c_c_25 main_while0c_v58 (cmpi .slt) ]
/-- The buffers it writes, in order. -/
abbrev cond0_W : List (Ref sig .tc) := [main_while0c_c_25, main_while0c_v58]
theorem cond0_sub : (cond0 : List (HloOp τ sig (Elt F))).Forall fun op => op.bufs ⊆ StableHlo.tcRefs τ sig := by
  simp only [List.Forall]
  exact ⟨StableHlo.nullary_bufs_sub .., StableHlo.binary_bufs_sub ..⟩
theorem cond0_writes : (cond0 : List (HloOp τ sig (Elt F))).Forall fun op =>
    op.writes ⊆ ((cond0_W).map (Proc.devRef (τ := τ) .tc)).toFinset :=
  StableHlo.forall_writes_sub_of_map rfl

/-- One trip of the forward scan. -/
abbrev body0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v11_0 : StableHlo.TRef sig ⟨S2176x32x64, .f32⟩) ![(.of main_v11_4 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x32x64, .f32⟩) (fun x i => Host.dynamicSlice S1x32x64 x (fun k => (i k (Shape.Idx.first h_S_)).toInt) sliceFits_S2176x32x64_S1x32x64),
    StableHlo.TRef.reshape (.of main_while0b_call0_v0 : StableHlo.TRef sig ⟨S1x32x64, .f32⟩) (.of main_while0b_v58 : StableHlo.TRef sig ⟨S32x64, .f32⟩) (rfl : (.f32 : EltTy) = .f32) shapeCasts_S1x32x64_S32x64,
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v11_1 : StableHlo.TRef sig ⟨S2176x32x64, .f32⟩) ![(.of main_v11_4 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x32x64, .f32⟩) (fun x i => Host.dynamicSlice S1x32x64 x (fun k => (i k (Shape.Idx.first h_S_)).toInt) sliceFits_S2176x32x64_S1x32x64),
    StableHlo.TRef.reshape (.of main_while0b_call1_v0 : StableHlo.TRef sig ⟨S1x32x64, .f32⟩) (.of main_while0b_v59 : StableHlo.TRef sig ⟨S32x64, .f32⟩) (rfl : (.f32 : EltTy) = .f32) shapeCasts_S1x32x64_S32x64,
    StableHlo.binary main_v11_2 main_v11_5 main_while0b_v60 (mulf : (⟨S32x64, .f32⟩ : BufTy).Contents (Elt F) → (⟨S32x64, .f32⟩ : BufTy).Contents (Elt F) → (⟨S32x64, .f32⟩ : BufTy).Contents (Elt F)),
    StableHlo.binary main_v11_3 main_v11_6 main_while0b_v61 (mulf : (⟨S32x64, .f32⟩ : BufTy).Contents (Elt F) → (⟨S32x64, .f32⟩ : BufTy).Contents (Elt F) → (⟨S32x64, .f32⟩ : BufTy).Contents (Elt F)),
    StableHlo.binary main_while0b_v60 main_while0b_v61 main_while0b_v62 (subf : (⟨S32x64, .f32⟩ : BufTy).Contents (Elt F) → (⟨S32x64, .f32⟩ : BufTy).Contents (Elt F) → (⟨S32x64, .f32⟩ : BufTy).Contents (Elt F)),
    StableHlo.binary main_while0b_v62 main_while0b_v58 main_while0b_v63 (addf : (⟨S32x64, .f32⟩ : BufTy).Contents (Elt F) → (⟨S32x64, .f32⟩ : BufTy).Contents (Elt F) → (⟨S32x64, .f32⟩ : BufTy).Contents (Elt F)),
    StableHlo.binary main_v11_2 main_v11_6 main_while0b_v64 (mulf : (⟨S32x64, .f32⟩ : BufTy).Contents (Elt F) → (⟨S32x64, .f32⟩ : BufTy).Contents (Elt F) → (⟨S32x64, .f32⟩ : BufTy).Contents (Elt F)),
    StableHlo.binary main_v11_3 main_v11_5 main_while0b_v65 (mulf : (⟨S32x64, .f32⟩ : BufTy).Contents (Elt F) → (⟨S32x64, .f32⟩ : BufTy).Contents (Elt F) → (⟨S32x64, .f32⟩ : BufTy).Contents (Elt F)),
    StableHlo.binary main_while0b_v64 main_while0b_v65 main_while0b_v66 (addf : (⟨S32x64, .f32⟩ : BufTy).Contents (Elt F) → (⟨S32x64, .f32⟩ : BufTy).Contents (Elt F) → (⟨S32x64, .f32⟩ : BufTy).Contents (Elt F)),
    StableHlo.binary main_while0b_v66 main_while0b_v59 main_while0b_v67 (addf : (⟨S32x64, .f32⟩ : BufTy).Contents (Elt F) → (⟨S32x64, .f32⟩ : BufTy).Contents (Elt F) → (⟨S32x64, .f32⟩ : BufTy).Contents (Elt F)),
    StableHlo.TRef.unary (.of main_while0b_v63 : StableHlo.TRef sig ⟨S32x64, .f32⟩) (.of main_while0b_call2_v0 : StableHlo.TRef sig ⟨S1x32x64, .f32⟩) (broadcastInDim S1x32x64 ![1, 2] bcast_S32x64_S1x32x64_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v11_7 : StableHlo.TRef sig ⟨S2176x32x64, .f32⟩) (.of main_while0b_call2_v0 : StableHlo.TRef sig ⟨S1x32x64, .f32⟩) ![(.of main_v11_4 : StableHlo.TRef sig ⟨S_, .i32⟩), (.of main_while0b_call2_c : StableHlo.TRef sig ⟨S_, .i32⟩), (.of main_while0b_call2_c_0 : StableHlo.TRef sig ⟨S_, .i32⟩)] (.of main_while0b_v68 : StableHlo.TRef sig ⟨S2176x32x64, .f32⟩) (fun x u i => Host.dynamicUpdateSlice x u (fun k => (i k (Shape.Idx.first h_S_)).toInt) updateFits_S2176x32x64_S1x32x64),
    StableHlo.TRef.unary (.of main_while0b_v67 : StableHlo.TRef sig ⟨S32x64, .f32⟩) (.of main_while0b_call3_v0 : StableHlo.TRef sig ⟨S1x32x64, .f32⟩) (broadcastInDim S1x32x64 ![1, 2] bcast_S32x64_S1x32x64_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v11_8 : StableHlo.TRef sig ⟨S2176x32x64, .f32⟩) (.of main_while0b_call3_v0 : StableHlo.TRef sig ⟨S1x32x64, .f32⟩) ![(.of main_v11_4 : StableHlo.TRef sig ⟨S_, .i32⟩), (.of main_while0b_call3_c : StableHlo.TRef sig ⟨S_, .i32⟩), (.of main_while0b_call3_c_0 : StableHlo.TRef sig ⟨S_, .i32⟩)] (.of main_while0b_v69 : StableHlo.TRef sig ⟨S2176x32x64, .f32⟩) (fun x u i => Host.dynamicUpdateSlice x u (fun k => (i k (Shape.Idx.first h_S_)).toInt) updateFits_S2176x32x64_S1x32x64),
    StableHlo.TRef.unary (.of main_v11_5 : StableHlo.TRef sig ⟨S32x64, .f32⟩) (.of main_while0b_call4_v0 : StableHlo.TRef sig ⟨S1x32x64, .f32⟩) (broadcastInDim S1x32x64 ![1, 2] bcast_S32x64_S1x32x64_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v11_9 : StableHlo.TRef sig ⟨S2176x32x64, .f32⟩) (.of main_while0b_call4_v0 : StableHlo.TRef sig ⟨S1x32x64, .f32⟩) ![(.of main_v11_4 : StableHlo.TRef sig ⟨S_, .i32⟩), (.of main_while0b_call4_c : StableHlo.TRef sig ⟨S_, .i32⟩), (.of main_while0b_call4_c_0 : StableHlo.TRef sig ⟨S_, .i32⟩)] (.of main_while0b_v70 : StableHlo.TRef sig ⟨S2176x32x64, .f32⟩) (fun x u i => Host.dynamicUpdateSlice x u (fun k => (i k (Shape.Idx.first h_S_)).toInt) updateFits_S2176x32x64_S1x32x64),
    StableHlo.TRef.unary (.of main_v11_6 : StableHlo.TRef sig ⟨S32x64, .f32⟩) (.of main_while0b_call5_v0 : StableHlo.TRef sig ⟨S1x32x64, .f32⟩) (broadcastInDim S1x32x64 ![1, 2] bcast_S32x64_S1x32x64_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v11_10 : StableHlo.TRef sig ⟨S2176x32x64, .f32⟩) (.of main_while0b_call5_v0 : StableHlo.TRef sig ⟨S1x32x64, .f32⟩) ![(.of main_v11_4 : StableHlo.TRef sig ⟨S_, .i32⟩), (.of main_while0b_call5_c : StableHlo.TRef sig ⟨S_, .i32⟩), (.of main_while0b_call5_c_0 : StableHlo.TRef sig ⟨S_, .i32⟩)] (.of main_while0b_v71 : StableHlo.TRef sig ⟨S2176x32x64, .f32⟩) (fun x u i => Host.dynamicUpdateSlice x u (fun k => (i k (Shape.Idx.first h_S_)).toInt) updateFits_S2176x32x64_S1x32x64),
    StableHlo.nullary main_while0b_c_25 (constantI S_ 32 1#32),
    StableHlo.binary main_v11_4 main_while0b_c_25 main_while0b_v72 (addi : (⟨S_, .i32⟩ : BufTy).Contents (Elt F) → (⟨S_, .i32⟩ : BufTy).Contents (Elt F) → (⟨S_, .i32⟩ : BufTy).Contents (Elt F)),
    StableHlo.unary main_while0b_v72 main_v11_4 id,
    StableHlo.unary main_while0b_v63 main_v11_5 id,
    StableHlo.unary main_while0b_v67 main_v11_6 id,
    StableHlo.unary main_while0b_v68 main_v11_7 id,
    StableHlo.unary main_while0b_v69 main_v11_8 id,
    StableHlo.unary main_while0b_v70 main_v11_9 id,
    StableHlo.unary main_while0b_v71 main_v11_10 id ]
/-- The buffers it writes, in order. -/
abbrev body0_W : List (Ref sig .tc) := [main_while0b_call0_c, main_while0b_call0_c_0, main_while0b_call0_v0, main_while0b_v58, main_while0b_call1_c, main_while0b_call1_c_0, main_while0b_call1_v0, main_while0b_v59, main_while0b_v60, main_while0b_v61, main_while0b_v62, main_while0b_v63, main_while0b_v64, main_while0b_v65, main_while0b_v66, main_while0b_v67, main_while0b_call2_v0, main_while0b_call2_c, main_while0b_call2_c_0, main_while0b_v68, main_while0b_call3_v0, main_while0b_call3_c, main_while0b_call3_c_0, main_while0b_v69, main_while0b_call4_v0, main_while0b_call4_c, main_while0b_call4_c_0, main_while0b_v70, main_while0b_call5_v0, main_while0b_call5_c, main_while0b_call5_c_0, main_while0b_v71, main_while0b_c_25, main_while0b_v72, main_v11_4, main_v11_5, main_v11_6, main_v11_7, main_v11_8, main_v11_9, main_v11_10]
theorem body0_sub : (body0 : List (HloOp τ sig (Elt F))).Forall fun op => op.bufs ⊆ StableHlo.tcRefs τ sig := by
  simp only [List.Forall]
  exact ⟨StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem body0_writes : (body0 : List (HloOp τ sig (Elt F))).Forall fun op =>
    op.writes ⊆ ((body0_W).map (Proc.devRef (τ := τ) .tc)).toFinset :=
  StableHlo.forall_writes_sub_of_map rfl

/-- @main between the two scans. -/
abbrev midOps : List (HloOp τ sig (Elt F)) :=
  [ StableHlo.binary main_arg6 main_v11_7 main_v12 ((fun l r => Host.dotGeneral dot_S32x16x64_S2176x32x64_S32x16x2176_2_2_1_0_0_1 none l r) : (⟨S32x16x64, .f32⟩ : BufTy).Contents (Elt F) → (⟨S2176x32x64, .f32⟩ : BufTy).Contents (Elt F) → (⟨S32x16x2176, .f32⟩ : BufTy).Contents (Elt F)),
    StableHlo.unary main_v12 main_v13 ((transpose S2176x32x16 [2, 0, 1] · transposes_S32x16x2176_S2176x32x16_2_0_1) : (⟨S32x16x2176, .f32⟩ : BufTy).Contents (Elt F) → (⟨S2176x32x16, .f32⟩ : BufTy).Contents (Elt F)),
    StableHlo.binary main_arg7 main_v11_8 main_v14 ((fun l r => Host.dotGeneral dot_S32x16x64_S2176x32x64_S32x16x2176_2_2_1_0_0_1 none l r) : (⟨S32x16x64, .f32⟩ : BufTy).Contents (Elt F) → (⟨S2176x32x64, .f32⟩ : BufTy).Contents (Elt F) → (⟨S32x16x2176, .f32⟩ : BufTy).Contents (Elt F)),
    StableHlo.unary main_v14 main_v15 ((transpose S2176x32x16 [2, 0, 1] · transposes_S32x16x2176_S2176x32x16_2_0_1) : (⟨S32x16x2176, .f32⟩ : BufTy).Contents (Elt F) → (⟨S2176x32x16, .f32⟩ : BufTy).Contents (Elt F)),
    StableHlo.binary main_v13 main_v15 main_v16 (subf : (⟨S2176x32x16, .f32⟩ : BufTy).Contents (Elt F) → (⟨S2176x32x16, .f32⟩ : BufTy).Contents (Elt F) → (⟨S2176x32x16, .f32⟩ : BufTy).Contents (Elt F)),
    StableHlo.unary main_arg8 main_v17 (broadcastInDim S1x32x16 ![1, 2] bcast_S32x16_S1x32x16_1_2 : (⟨S32x16, .f32⟩ : BufTy).Contents (Elt F) → (⟨S1x32x16, .f32⟩ : BufTy).Contents (Elt F)),
    StableHlo.unary main_v17 main_v18 (broadcastInDim S2176x32x16 ![0, 1, 2] bcast_S1x32x16_S2176x32x16_0_1_2 : (⟨S1x32x16, .f32⟩ : BufTy).Contents (Elt F) → (⟨S2176x32x16, .f32⟩ : BufTy).Contents (Elt F)),
    StableHlo.binary main_v18 main_v1 main_v19 (mulf : (⟨S2176x32x16, .f32⟩ : BufTy).Contents (Elt F) → (⟨S2176x32x16, .f32⟩ : BufTy).Contents (Elt F) → (⟨S2176x32x16, .f32⟩ : BufTy).Contents (Elt F)),
    StableHlo.binary main_v16 main_v19 main_v20 (addf : (⟨S2176x32x16, .f32⟩ : BufTy).Contents (Elt F) → (⟨S2176x32x16, .f32⟩ : BufTy).Contents (Elt F) → (⟨S2176x32x16, .f32⟩ : BufTy).Contents (Elt F)),
    StableHlo.reshape main_v20 main_v21 (rfl : (.f32 : EltTy) = .f32) shapeCasts_S2176x32x16_S2176x512,
    StableHlo.nullary main_cst_4 (constant S_ .f32 0x00000000#32),
    StableHlo.unary main_cst_4 main_v22 (broadcastInDim S32x64 ![] bcast_S_S32x64 : (⟨S_, .f32⟩ : BufTy).Contents (Elt F) → (⟨S32x64, .f32⟩ : BufTy).Contents (Elt F)),
    StableHlo.nullary main_cst_5 (constant S_ .f32 0x00000000#32),
    StableHlo.unary main_cst_5 main_v23 (broadcastInDim S32x64 ![] bcast_S_S32x64 : (⟨S_, .f32⟩ : BufTy).Contents (Elt F) → (⟨S32x64, .f32⟩ : BufTy).Contents (Elt F)),
    StableHlo.reshape main_arg0 main_v24 (rfl : (.f32 : EltTy) = .f32) shapeCasts_S2176x512_S2176x32x16,
    StableHlo.unary main_v17 main_v25 (broadcastInDim S2176x32x16 ![0, 1, 2] bcast_S1x32x16_S2176x32x16_0_1_2 : (⟨S1x32x16, .f32⟩ : BufTy).Contents (Elt F) → (⟨S2176x32x16, .f32⟩ : BufTy).Contents (Elt F)),
    StableHlo.binary main_v25 main_v24 main_v26 (mulf : (⟨S2176x32x16, .f32⟩ : BufTy).Contents (Elt F) → (⟨S2176x32x16, .f32⟩ : BufTy).Contents (Elt F) → (⟨S2176x32x16, .f32⟩ : BufTy).Contents (Elt F)),
    StableHlo.binary main_v24 main_v1 main_v27 (mulf : (⟨S2176x32x16, .f32⟩ : BufTy).Contents (Elt F) → (⟨S2176x32x16, .f32⟩ : BufTy).Contents (Elt F) → (⟨S2176x32x16, .f32⟩ : BufTy).Contents (Elt F)),
    StableHlo.nullary main_cst_6 (constant S_ .f32 0x00000000#32),
    StableHlo.binary main_v27 main_cst_6 main_v28 ((fun x v => Host.reduceAdd x v reducesTo_S2176x32x16_S32x16_d0 h_S_) : (⟨S2176x32x16, .f32⟩ : BufTy).Contents (Elt F) → (⟨S_, .f32⟩ : BufTy).Contents (Elt F) → (⟨S32x16, .f32⟩ : BufTy).Contents (Elt F)),
    StableHlo.reshape main_v28 main_v29 (rfl : (.f32 : EltTy) = .f32) shapeCasts_S32x16_S1x32x16,
    StableHlo.nullary main_cst_7 (constant S_ .f32 0x00000000#32),
    StableHlo.binary main_v29 main_cst_7 main_v30 ((fun x v => Host.reduceAdd x v reducesTo_S1x32x16_S32x16_d0 h_S_) : (⟨S1x32x16, .f32⟩ : BufTy).Contents (Elt F) → (⟨S_, .f32⟩ : BufTy).Contents (Elt F) → (⟨S32x16, .f32⟩ : BufTy).Contents (Elt F)),
    StableHlo.unary main_v24 main_v31 (Host.negf : (⟨S2176x32x16, .f32⟩ : BufTy).Contents (Elt F) → (⟨S2176x32x16, .f32⟩ : BufTy).Contents (Elt F)),
    StableHlo.unary main_v31 main_v32 ((transpose S32x16x2176 [1, 2, 0] · transposes_S2176x32x16_S32x16x2176_1_2_0) : (⟨S2176x32x16, .f32⟩ : BufTy).Contents (Elt F) → (⟨S32x16x2176, .f32⟩ : BufTy).Contents (Elt F)),
    StableHlo.binary main_v32 main_arg7 main_v33 ((fun l r => Host.dotGeneral dot_S32x16x2176_S32x16x64_S32x2176x64_1_1_2_2_0_0 none l r) : (⟨S32x16x2176, .f32⟩ : BufTy).Contents (Elt F) → (⟨S32x16x64, .f32⟩ : BufTy).Contents (Elt F) → (⟨S32x2176x64, .f32⟩ : BufTy).Contents (Elt F)),
    StableHlo.unary main_v33 main_v34 ((transpose S2176x32x64 [1, 0, 2] · transposes_S32x2176x64_S2176x32x64_1_0_2) : (⟨S32x2176x64, .f32⟩ : BufTy).Contents (Elt F) → (⟨S2176x32x64, .f32⟩ : BufTy).Contents (Elt F)),
    StableHlo.binary main_v32 main_v11_8 main_v35 ((fun l r => Host.dotGeneral dot_S32x16x2176_S2176x32x64_S32x16x64_2_0_1_2_0_1 none l r) : (⟨S32x16x2176, .f32⟩ : BufTy).Contents (Elt F) → (⟨S2176x32x64, .f32⟩ : BufTy).Contents (Elt F) → (⟨S32x16x64, .f32⟩ : BufTy).Contents (Elt F)),
    StableHlo.unary main_v24 main_v36 ((transpose S32x16x2176 [1, 2, 0] · transposes_S2176x32x16_S32x16x2176_1_2_0) : (⟨S2176x32x16, .f32⟩ : BufTy).Contents (Elt F) → (⟨S32x16x2176, .f32⟩ : BufTy).Contents (Elt F)),
    StableHlo.binary main_v36 main_arg6 main_v37 ((fun l r => Host.dotGeneral dot_S32x16x2176_S32x16x64_S32x2176x64_1_1_2_2_0_0 none l r) : (⟨S32x16x2176, .f32⟩ : BufTy).Contents (Elt F) → (⟨S32x16x64, .f32⟩ : BufTy).Contents (Elt F) → (⟨S32x2176x64, .f32⟩ : BufTy).Contents (Elt F)),
    StableHlo.unary main_v37 main_v38 ((transpose S2176x32x64 [1, 0, 2] · transposes_S32x2176x64_S2176x32x64_1_0_2) : (⟨S32x2176x64, .f32⟩ : BufTy).Contents (Elt F) → (⟨S2176x32x64, .f32⟩ : BufTy).Contents (Elt F)),
    StableHlo.binary main_v36 main_v11_7 main_v39 ((fun l r => Host.dotGeneral dot_S32x16x2176_S2176x32x64_S32x16x64_2_0_1_2_0_1 none l r) : (⟨S32x16x2176, .f32⟩ : BufTy).Contents (Elt F) → (⟨S2176x32x64, .f32⟩ : BufTy).Contents (Elt F) → (⟨S32x16x64, .f32⟩ : BufTy).Contents (Elt F)),
    StableHlo.nullary main_cst_8 (constant S_ .f32 0x00000000#32),
    StableHlo.unary main_cst_8 main_v40 (broadcastInDim S32x64 ![] bcast_S_S32x64 : (⟨S_, .f32⟩ : BufTy).Contents (Elt F) → (⟨S32x64, .f32⟩ : BufTy).Contents (Elt F)),
    StableHlo.nullary main_cst_9 (constant S_ .f32 0x00000000#32),
    StableHlo.unary main_cst_9 main_v41 (broadcastInDim S32x64 ![] bcast_S_S32x64 : (⟨S_, .f32⟩ : BufTy).Contents (Elt F) → (⟨S32x64, .f32⟩ : BufTy).Contents (Elt F)),
    StableHlo.nullary main_cst_10 (constant S_ .f32 0x00000000#32),
    StableHlo.unary main_cst_10 main_v42 (broadcastInDim S32x64 ![] bcast_S_S32x64 : (⟨S_, .f32⟩ : BufTy).Contents (Elt F) → (⟨S32x64, .f32⟩ : BufTy).Contents (Elt F)),
    StableHlo.nullary main_cst_11 (constant S_ .f32 0x00000000#32),
    StableHlo.unary main_cst_11 main_v43 (broadcastInDim S32x64 ![] bcast_S_S32x64 : (⟨S_, .f32⟩ : BufTy).Contents (Elt F) → (⟨S32x64, .f32⟩ : BufTy).Contents (Elt F)),
    StableHlo.nullary main_cst_12 (constant S_ .f32 0x00000000#32),
    StableHlo.unary main_cst_12 main_v44 (broadcastInDim S2176x32x64 ![] bcast_S_S2176x32x64 : (⟨S_, .f32⟩ : BufTy).Contents (Elt F) → (⟨S2176x32x64, .f32⟩ : BufTy).Contents (Elt F)),
    StableHlo.nullary main_cst_13 (constant S_ .f32 0x00000000#32),
    StableHlo.unary main_cst_13 main_v45 (broadcastInDim S2176x32x64 ![] bcast_S_S2176x32x64 : (⟨S_, .f32⟩ : BufTy).Contents (Elt F) → (⟨S2176x32x64, .f32⟩ : BufTy).Contents (Elt F)),
    StableHlo.nullary main_c_14 (constantI S_ 32 0#32),
    StableHlo.unary main_v38 main_v46_0 id,
    StableHlo.unary main_v34 main_v46_1 id,
    StableHlo.unary main_v11_9 main_v46_2 id,
    StableHlo.unary main_v11_10 main_v46_3 id,
    StableHlo.unary main_arg2 main_v46_4 id,
    StableHlo.unary main_arg3 main_v46_5 id,
    StableHlo.unary main_c_14 main_v46_6 id,
    StableHlo.unary main_v42 main_v46_7 id,
    StableHlo.unary main_v43 main_v46_8 id,
    StableHlo.unary main_v40 main_v46_9 id,
    StableHlo.unary main_v41 main_v46_10 id,
    StableHlo.unary main_v44 main_v46_11 id,
    StableHlo.unary main_v45 main_v46_12 id ]
/-- The buffers it writes, in order. -/
abbrev midOps_W : List (Ref sig .tc) := [main_v12, main_v13, main_v14, main_v15, main_v16, main_v17, main_v18, main_v19, main_v20, main_v21, main_cst_4, main_v22, main_cst_5, main_v23, main_v24, main_v25, main_v26, main_v27, main_cst_6, main_v28, main_v29, main_cst_7, main_v30, main_v31, main_v32, main_v33, main_v34, main_v35, main_v36, main_v37, main_v38, main_v39, main_cst_8, main_v40, main_cst_9, main_v41, main_cst_10, main_v42, main_cst_11, main_v43, main_cst_12, main_v44, main_cst_13, main_v45, main_c_14, main_v46_0, main_v46_1, main_v46_2, main_v46_3, main_v46_4, main_v46_5, main_v46_6, main_v46_7, main_v46_8, main_v46_9, main_v46_10, main_v46_11, main_v46_12]
theorem midOps_sub : (midOps : List (HloOp τ sig (Elt F))).Forall fun op => op.bufs ⊆ StableHlo.tcRefs τ sig := by
  simp only [List.Forall]
  exact ⟨StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.reshape_bufs_sub .., StableHlo.nullary_bufs_sub .., StableHlo.unary_bufs_sub .., StableHlo.nullary_bufs_sub .., StableHlo.unary_bufs_sub .., StableHlo.reshape_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem midOps_writes : (midOps : List (HloOp τ sig (Elt F))).Forall fun op =>
    op.writes ⊆ ((midOps_W).map (Proc.devRef (τ := τ) .tc)).toFinset :=
  StableHlo.forall_writes_sub_of_map rfl

/-- The reverse scan's condition. -/
abbrev cond1 : List (HloOp τ sig (Elt F)) :=
  [ StableHlo.nullary main_while1c_c_27 (constantI S_ 32 2176#32),
    StableHlo.binary main_v46_6 main_while1c_c_27 main_while1c_v58 (cmpi .slt) ]
/-- The buffers it writes, in order. -/
abbrev cond1_W : List (Ref sig .tc) := [main_while1c_c_27, main_while1c_v58]
theorem cond1_sub : (cond1 : List (HloOp τ sig (Elt F))).Forall fun op => op.bufs ⊆ StableHlo.tcRefs τ sig := by
  simp only [List.Forall]
  exact ⟨StableHlo.nullary_bufs_sub .., StableHlo.binary_bufs_sub ..⟩
theorem cond1_writes : (cond1 : List (HloOp τ sig (Elt F))).Forall fun op =>
    op.writes ⊆ ((cond1_W).map (Proc.devRef (τ := τ) .tc)).toFinset :=
  StableHlo.forall_writes_sub_of_map rfl

/-- One trip of the reverse scan. -/
abbrev body1 : List (HloOp τ sig (Elt F)) :=
  [ StableHlo.nullary main_while1b_c_27 (constantI S_ 32 2176#32),
    StableHlo.binary main_while1b_c_27 main_v46_6 main_while1b_v58 (subi : (⟨S_, .i32⟩ : BufTy).Contents (Elt F) → (⟨S_, .i32⟩ : BufTy).Contents (Elt F) → (⟨S_, .i32⟩ : BufTy).Contents (Elt F)),
    StableHlo.nullary main_while1b_c_28 (constantI S_ 32 1#32),
    StableHlo.binary main_while1b_v58 main_while1b_c_28 main_while1b_v59 (subi : (⟨S_, .i32⟩ : BufTy).Contents (Elt F) → (⟨S_, .i32⟩ : BufTy).Contents (Elt F) → (⟨S_, .i32⟩ : BufTy).Contents (Elt F)),
    StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.unaryIndexed (.of main_v46_0 : StableHlo.TRef sig ⟨S2176x32x64, .f32⟩) ![(.of main_while1b_v59 : StableHlo.TRef sig ⟨S_, .i32⟩), (.of main_while1b_call6_c : StableHlo.TRef sig ⟨S_, .i32⟩), (.of main_while1b_call6_c_0 : StableHlo.TRef sig ⟨S_, .i32⟩)] (.of main_while1b_call6_v0 : StableHlo.TRef sig ⟨S1x32x64, .f32⟩) (fun x i => Host.dynamicSlice S1x32x64 x (fun k => (i k (Shape.Idx.first h_S_)).toInt) sliceFits_S2176x32x64_S1x32x64),
    StableHlo.TRef.reshape (.of main_while1b_call6_v0 : StableHlo.TRef sig ⟨S1x32x64, .f32⟩) (.of main_while1b_v60 : StableHlo.TRef sig ⟨S32x64, .f32⟩) (rfl : (.f32 : EltTy) = .f32) shapeCasts_S1x32x64_S32x64,
    StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.unaryIndexed (.of main_v46_1 : StableHlo.TRef sig ⟨S2176x32x64, .f32⟩) ![(.of main_while1b_v59 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x32x64, .f32⟩) (fun x i => Host.dynamicSlice S1x32x64 x (fun k => (i k (Shape.Idx.first h_S_)).toInt) sliceFits_S2176x32x64_S1x32x64),
    StableHlo.TRef.reshape (.of main_while1b_call7_v0 : StableHlo.TRef sig ⟨S1x32x64, .f32⟩) (.of main_while1b_v61 : StableHlo.TRef sig ⟨S32x64, .f32⟩) (rfl : (.f32 : EltTy) = .f32) shapeCasts_S1x32x64_S32x64,
    StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.unaryIndexed (.of main_v46_2 : StableHlo.TRef sig ⟨S2176x32x64, .f32⟩) ![(.of main_while1b_v59 : StableHlo.TRef sig ⟨S_, .i32⟩), (.of main_while1b_call8_c : StableHlo.TRef sig ⟨S_, .i32⟩), (.of main_while1b_call8_c_0 : StableHlo.TRef sig ⟨S_, .i32⟩)] (.of main_while1b_call8_v0 : StableHlo.TRef sig ⟨S1x32x64, .f32⟩) (fun x i => Host.dynamicSlice S1x32x64 x (fun k => (i k (Shape.Idx.first h_S_)).toInt) sliceFits_S2176x32x64_S1x32x64),
    StableHlo.TRef.reshape (.of main_while1b_call8_v0 : StableHlo.TRef sig ⟨S1x32x64, .f32⟩) (.of main_while1b_v62 : StableHlo.TRef sig ⟨S32x64, .f32⟩) (rfl : (.f32 : EltTy) = .f32) shapeCasts_S1x32x64_S32x64,
    StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.unaryIndexed (.of main_v46_3 : StableHlo.TRef sig ⟨S2176x32x64, .f32⟩) ![(.of main_while1b_v59 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x32x64, .f32⟩) (fun x i => Host.dynamicSlice S1x32x64 x (fun k => (i k (Shape.Idx.first h_S_)).toInt) sliceFits_S2176x32x64_S1x32x64),
    StableHlo.TRef.reshape (.of main_while1b_call9_v0 : StableHlo.TRef sig ⟨S1x32x64, .f32⟩) (.of main_while1b_v63 : StableHlo.TRef sig ⟨S32x64, .f32⟩) (rfl : (.f32 : EltTy) = .f32) shapeCasts_S1x32x64_S32x64,
    StableHlo.binary main_v46_9 main_while1b_v60 main_while1b_v64 (addf : (⟨S32x64, .f32⟩ : BufTy).Contents (Elt F) → (⟨S32x64, .f32⟩ : BufTy).Contents (Elt F) → (⟨S32x64, .f32⟩ : BufTy).Contents (Elt F)),
    StableHlo.binary main_v46_10 main_while1b_v61 main_while1b_v65 (addf : (⟨S32x64, .f32⟩ : BufTy).Contents (Elt F) → (⟨S32x64, .f32⟩ : BufTy).Contents (Elt F) → (⟨S32x64, .f32⟩ : BufTy).Contents (Elt F)),
    StableHlo.binary main_v46_5 main_while1b_v65 main_while1b_v66 (mulf : (⟨S32x64, .f32⟩ : BufTy).Contents (Elt F) → (⟨S32x64, .f32⟩ : BufTy).Contents (Elt F) → (⟨S32x64, .f32⟩ : BufTy).Contents (Elt F)),
    StableHlo.binary main_while1b_v65 main_while1b_v62 main_while1b_v67 (mulf : (⟨S32x64, .f32⟩ : BufTy).Contents (Elt F) → (⟨S32x64, .f32⟩ : BufTy).Contents (Elt F) → (⟨S32x64, .f32⟩ : BufTy).Contents (Elt F)),
    StableHlo.binary main_v46_8 main_while1b_v67 main_while1b_v68 (addf : (⟨S32x64, .f32⟩ : BufTy).Contents (Elt F) → (⟨S32x64, .f32⟩ : BufTy).Contents (Elt F) → (⟨S32x64, .f32⟩ : BufTy).Contents (Elt F)),
    StableHlo.binary main_v46_4 main_while1b_v65 main_while1b_v69 (mulf : (⟨S32x64, .f32⟩ : BufTy).Contents (Elt F) → (⟨S32x64, .f32⟩ : BufTy).Contents (Elt F) → (⟨S32x64, .f32⟩ : BufTy).Contents (Elt F)),
    StableHlo.binary main_while1b_v65 main_while1b_v63 main_while1b_v70 (mulf : (⟨S32x64, .f32⟩ : BufTy).Contents (Elt F) → (⟨S32x64, .f32⟩ : BufTy).Contents (Elt F) → (⟨S32x64, .f32⟩ : BufTy).Contents (Elt F)),
    StableHlo.binary main_v46_7 main_while1b_v70 main_while1b_v71 (addf : (⟨S32x64, .f32⟩ : BufTy).Contents (Elt F) → (⟨S32x64, .f32⟩ : BufTy).Contents (Elt F) → (⟨S32x64, .f32⟩ : BufTy).Contents (Elt F)),
    StableHlo.unary main_while1b_v64 main_while1b_v72 (Host.negf : (⟨S32x64, .f32⟩ : BufTy).Contents (Elt F) → (⟨S32x64, .f32⟩ : BufTy).Contents (Elt F)),
    StableHlo.binary main_v46_5 main_while1b_v72 main_while1b_v73 (mulf : (⟨S32x64, .f32⟩ : BufTy).Contents (Elt F) → (⟨S32x64, .f32⟩ : BufTy).Contents (Elt F) → (⟨S32x64, .f32⟩ : BufTy).Contents (Elt F)),
    StableHlo.binary main_while1b_v69 main_while1b_v73 main_while1b_v74 (addf : (⟨S32x64, .f32⟩ : BufTy).Contents (Elt F) → (⟨S32x64, .f32⟩ : BufTy).Contents (Elt F) → (⟨S32x64, .f32⟩ : BufTy).Contents (Elt F)),
    StableHlo.binary main_while1b_v72 main_while1b_v63 main_while1b_v75 (mulf : (⟨S32x64, .f32⟩ : BufTy).Contents (Elt F) → (⟨S32x64, .f32⟩ : BufTy).Contents (Elt F) → (⟨S32x64, .f32⟩ : BufTy).Contents (Elt F)),
    StableHlo.binary main_while1b_v68 main_while1b_v75 main_while1b_v76 (addf : (⟨S32x64, .f32⟩ : BufTy).Contents (Elt F) → (⟨S32x64, .f32⟩ : BufTy).Contents (Elt F) → (⟨S32x64, .f32⟩ : BufTy).Contents (Elt F)),
    StableHlo.binary main_v46_4 main_while1b_v64 main_while1b_v77 (mulf : (⟨S32x64, .f32⟩ : BufTy).Contents (Elt F) → (⟨S32x64, .f32⟩ : BufTy).Contents (Elt F) → (⟨S32x64, .f32⟩ : BufTy).Contents (Elt F)),
    StableHlo.binary main_while1b_v66 main_while1b_v77 main_while1b_v78 (addf : (⟨S32x64, .f32⟩ : BufTy).Contents (Elt F) → (⟨S32x64, .f32⟩ : BufTy).Contents (Elt F) → (⟨S32x64, .f32⟩ : BufTy).Contents (Elt F)),
    StableHlo.binary main_while1b_v64 main_while1b_v62 main_while1b_v79 (mulf : (⟨S32x64, .f32⟩ : BufTy).Contents (Elt F) → (⟨S32x64, .f32⟩ : BufTy).Contents (Elt F) → (⟨S32x64, .f32⟩ : BufTy).Contents (Elt F)),
    StableHlo.binary main_while1b_v71 main_while1b_v79 main_while1b_v80 (addf : (⟨S32x64, .f32⟩ : BufTy).Contents (Elt F) → (⟨S32x64, .f32⟩ : BufTy).Contents (Elt F) → (⟨S32x64, .f32⟩ : BufTy).Contents (Elt F)),
    StableHlo.TRef.unary (.of main_while1b_v64 : StableHlo.TRef sig ⟨S32x64, .f32⟩) (.of main_while1b_call10_v0 : StableHlo.TRef sig ⟨S1x32x64, .f32⟩) (broadcastInDim S1x32x64 ![1, 2] bcast_S32x64_S1x32x64_1_2),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.binaryIndexed (.of main_v46_11 : StableHlo.TRef sig ⟨S2176x32x64, .f32⟩) (.of main_while1b_call10_v0 : StableHlo.TRef sig ⟨S1x32x64, .f32⟩) ![(.of main_while1b_v59 : StableHlo.TRef sig ⟨S_, .i32⟩), (.of main_while1b_call10_c : StableHlo.TRef sig ⟨S_, .i32⟩), (.of main_while1b_call10_c_0 : StableHlo.TRef sig ⟨S_, .i32⟩)] (.of main_while1b_v81 : StableHlo.TRef sig ⟨S2176x32x64, .f32⟩) (fun x u i => Host.dynamicUpdateSlice x u (fun k => (i k (Shape.Idx.first h_S_)).toInt) updateFits_S2176x32x64_S1x32x64),
    StableHlo.TRef.unary (.of main_while1b_v65 : StableHlo.TRef sig ⟨S32x64, .f32⟩) (.of main_while1b_call11_v0 : StableHlo.TRef sig ⟨S1x32x64, .f32⟩) (broadcastInDim S1x32x64 ![1, 2] bcast_S32x64_S1x32x64_1_2),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.binaryIndexed (.of main_v46_12 : StableHlo.TRef sig ⟨S2176x32x64, .f32⟩) (.of main_while1b_call11_v0 : StableHlo.TRef sig ⟨S1x32x64, .f32⟩) ![(.of main_while1b_v59 : StableHlo.TRef sig ⟨S_, .i32⟩), (.of main_while1b_call11_c : StableHlo.TRef sig ⟨S_, .i32⟩), (.of main_while1b_call11_c_0 : StableHlo.TRef sig ⟨S_, .i32⟩)] (.of main_while1b_v82 : StableHlo.TRef sig ⟨S2176x32x64, .f32⟩) (fun x u i => Host.dynamicUpdateSlice x u (fun k => (i k (Shape.Idx.first h_S_)).toInt) updateFits_S2176x32x64_S1x32x64),
    StableHlo.nullary main_while1b_c_29 (constantI S_ 32 1#32),
    StableHlo.binary main_v46_6 main_while1b_c_29 main_while1b_v83 (addi : (⟨S_, .i32⟩ : BufTy).Contents (Elt F) → (⟨S_, .i32⟩ : BufTy).Contents (Elt F) → (⟨S_, .i32⟩ : BufTy).Contents (Elt F)),
    StableHlo.unary main_while1b_v83 main_v46_6 id,
    StableHlo.unary main_while1b_v80 main_v46_7 id,
    StableHlo.unary main_while1b_v76 main_v46_8 id,
    StableHlo.unary main_while1b_v78 main_v46_9 id,
    StableHlo.unary main_while1b_v74 main_v46_10 id,
    StableHlo.unary main_while1b_v81 main_v46_11 id,
    StableHlo.unary main_while1b_v82 main_v46_12 id ]
/-- The buffers it writes, in order. -/
abbrev body1_W : List (Ref sig .tc) := [main_while1b_c_27, main_while1b_v58, main_while1b_c_28, main_while1b_v59, main_while1b_call6_c, main_while1b_call6_c_0, main_while1b_call6_v0, main_while1b_v60, main_while1b_call7_c, main_while1b_call7_c_0, main_while1b_call7_v0, main_while1b_v61, main_while1b_call8_c, main_while1b_call8_c_0, main_while1b_call8_v0, main_while1b_v62, main_while1b_call9_c, main_while1b_call9_c_0, main_while1b_call9_v0, main_while1b_v63, main_while1b_v64, main_while1b_v65, main_while1b_v66, main_while1b_v67, main_while1b_v68, main_while1b_v69, main_while1b_v70, main_while1b_v71, main_while1b_v72, main_while1b_v73, main_while1b_v74, main_while1b_v75, main_while1b_v76, main_while1b_v77, main_while1b_v78, main_while1b_v79, main_while1b_v80, main_while1b_call10_v0, main_while1b_call10_c, main_while1b_call10_c_0, main_while1b_v81, main_while1b_call11_v0, main_while1b_call11_c, main_while1b_call11_c_0, main_while1b_v82, main_while1b_c_29, main_while1b_v83, main_v46_6, main_v46_7, main_v46_8, main_v46_9, main_v46_10, main_v46_11, main_v46_12]
theorem body1_sub : (body1 : List (HloOp τ sig (Elt F))).Forall fun op => op.bufs ⊆ StableHlo.tcRefs τ sig := by
  simp only [List.Forall]
  exact ⟨StableHlo.nullary_bufs_sub .., StableHlo.binary_bufs_sub .., StableHlo.nullary_bufs_sub .., StableHlo.binary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem body1_writes : (body1 : List (HloOp τ sig (Elt F))).Forall fun op =>
    op.writes ⊆ ((body1_W).map (Proc.devRef (τ := τ) .tc)).toFinset :=
  StableHlo.forall_writes_sub_of_map rfl

/-- @main after the reverse scan. -/
abbrev postOps : List (HloOp τ sig (Elt F)) :=
  [ StableHlo.unary main_v46_12 main_v47 ((transpose S32x64x2176 [1, 2, 0] · transposes_S2176x32x64_S32x64x2176_1_2_0) : (⟨S2176x32x64, .f32⟩ : BufTy).Contents (Elt F) → (⟨S32x64x2176, .f32⟩ : BufTy).Contents (Elt F)),
    StableHlo.binary main_v47 main_arg5 main_v48 ((fun l r => Host.dotGeneral dot_S32x64x2176_S32x64x16_S32x2176x16_1_1_2_2_0_0 none l r) : (⟨S32x64x2176, .f32⟩ : BufTy).Contents (Elt F) → (⟨S32x64x16, .f32⟩ : BufTy).Contents (Elt F) → (⟨S32x2176x16, .f32⟩ : BufTy).Contents (Elt F)),
    StableHlo.unary main_v48 main_v49 ((transpose S2176x32x16 [1, 0, 2] · transposes_S32x2176x16_S2176x32x16_1_0_2) : (⟨S32x2176x16, .f32⟩ : BufTy).Contents (Elt F) → (⟨S2176x32x16, .f32⟩ : BufTy).Contents (Elt F)),
    StableHlo.binary main_v26 main_v49 main_v50 (addf : (⟨S2176x32x16, .f32⟩ : BufTy).Contents (Elt F) → (⟨S2176x32x16, .f32⟩ : BufTy).Contents (Elt F) → (⟨S2176x32x16, .f32⟩ : BufTy).Contents (Elt F)),
    StableHlo.binary main_v47 main_v1 main_v51 ((fun l r => Host.dotGeneral dot_S32x64x2176_S2176x32x16_S32x64x16_2_0_1_2_0_1 none l r) : (⟨S32x64x2176, .f32⟩ : BufTy).Contents (Elt F) → (⟨S2176x32x16, .f32⟩ : BufTy).Contents (Elt F) → (⟨S32x64x16, .f32⟩ : BufTy).Contents (Elt F)),
    StableHlo.unary main_v46_11 main_v52 ((transpose S32x64x2176 [1, 2, 0] · transposes_S2176x32x64_S32x64x2176_1_2_0) : (⟨S2176x32x64, .f32⟩ : BufTy).Contents (Elt F) → (⟨S32x64x2176, .f32⟩ : BufTy).Contents (Elt F)),
    StableHlo.binary main_v52 main_arg4 main_v53 ((fun l r => Host.dotGeneral dot_S32x64x2176_S32x64x16_S32x2176x16_1_1_2_2_0_0 none l r) : (⟨S32x64x2176, .f32⟩ : BufTy).Contents (Elt F) → (⟨S32x64x16, .f32⟩ : BufTy).Contents (Elt F) → (⟨S32x2176x16, .f32⟩ : BufTy).Contents (Elt F)),
    StableHlo.unary main_v53 main_v54 ((transpose S2176x32x16 [1, 0, 2] · transposes_S32x2176x16_S2176x32x16_1_0_2) : (⟨S32x2176x16, .f32⟩ : BufTy).Contents (Elt F) → (⟨S2176x32x16, .f32⟩ : BufTy).Contents (Elt F)),
    StableHlo.binary main_v50 main_v54 main_v55 (addf : (⟨S2176x32x16, .f32⟩ : BufTy).Contents (Elt F) → (⟨S2176x32x16, .f32⟩ : BufTy).Contents (Elt F) → (⟨S2176x32x16, .f32⟩ : BufTy).Contents (Elt F)),
    StableHlo.binary main_v52 main_v1 main_v56 ((fun l r => Host.dotGeneral dot_S32x64x2176_S2176x32x16_S32x64x16_2_0_1_2_0_1 none l r) : (⟨S32x64x2176, .f32⟩ : BufTy).Contents (Elt F) → (⟨S2176x32x16, .f32⟩ : BufTy).Contents (Elt F) → (⟨S32x64x16, .f32⟩ : BufTy).Contents (Elt F)),
    StableHlo.reshape main_v55 main_v57 (rfl : (.f32 : EltTy) = .f32) shapeCasts_S2176x32x16_S2176x512 ]
/-- The buffers it writes, in order. -/
abbrev postOps_W : List (Ref sig .tc) := [main_v47, main_v48, main_v49, main_v50, main_v51, main_v52, main_v53, main_v54, main_v55, main_v56, main_v57]
theorem postOps_sub : (postOps : List (HloOp τ sig (Elt F))).Forall fun op => op.bufs ⊆ StableHlo.tcRefs τ sig := by
  simp only [List.Forall]
  exact ⟨StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.reshape_bufs_sub ..⟩
theorem postOps_writes : (postOps : List (HloOp τ sig (Elt F))).Forall fun op =>
    op.writes ⊆ ((postOps_W).map (Proc.devRef (τ := τ) .tc)).toFinset :=
  StableHlo.forall_writes_sub_of_map rfl

end Cert.ReferenceIdeal.Run

end
-- ==== Proof.RefRun.lean ====
/- The run of the plain reference: five segments, two of them counted scans of 2176 trips. Every buffer that is not
   temporary ends at `Wend`, the fold of the operation lists; the argument arrays are as they began. -/
module

public import proofs.«01_k».proof.Proof.RefOps
public import Idealize.ShloMosaic.Lib.Scf.ExitTest
public import Idealize.ShloMosaic.Lib.Scf.Counter
public import Idealize.ShloMosaic.Lib.StableHlo.Run
public import Idealize.ShloMosaic.Lib.StableHlo.RunClose

@[expose] public section

noncomputable section

namespace Cert.ReferenceIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen
open Idealize.ShloMosaic.StableHlo
open Idealize.ShloMosaic.Pipeline (CSeg ucRefs sub_ucRefs)

variable {F : FTy → Type} [FloatOps F]

local notation "𝕄" => MT nD τ sig Unit (Elt F) ℕ (Option PUnit) ℕ

/-! ## No pipeline, no ticket, no level -/

abbrev noAdm : (p : Fin 0) → (pcfgs (F := F) p).Adm := fun p => p.elim0
abbrev noTk : Fin 0 → Pipeline.Ticket (Ix := Unit) (Name := ℕ) (U := Option PUnit) (Lvl := ℕ) (nD := nD) (τ := τ) (pcfgs (F := F)) noAdm :=
  fun j => j.elim0
abbrev noL : GSem nD τ sig → Finset Unit := fun _ => ∅
abbrev noLv : GSem nD τ sig → Unit → ℕ := fun _ _ => 0
theorem cells_inj : Function.Injective (Pipeline.cellOf (nD := nD) (τ := τ) (Pipeline.pin (pcfgs (F := F)) noAdm)) := fun k => k.1.elim0
/-- Carried beside the buffers: the core owes nothing. -/
abbrev Rw (c : Dev nD) : sProp 𝕄 := iprop(∃ W, owes (c : Thread nD τ) (0 : CellTallies nD τ sig Unit) W)

theorem plainPre : Plain [preOps (F := F)] := .cons preOps_sub .nil
theorem plainBody0 : Plain [body0 (F := F)] := .cons body0_sub .nil
theorem plainMid : Plain [midOps (F := F)] := .cons midOps_sub .nil
theorem plainBody1 : Plain [body1 (F := F)] := .cons body1_sub .nil
theorem plainPost : Plain [postOps (F := F)] := .cons postOps_sub .nil

variable (m : (ℓ : Loc nD τ sig) → Buf (Elt F) ℓ)

/-! ## The contents at each boundary -/

/-- The buffers at launch; as the forward scan begins; before its `k`-th test; as it ends. -/
abbrev Wst (c : Dev nD) : Valuation τ sig (Elt F) := fun b => m ((c : Dev nD), b)
def Wpre (c : Dev nD) : Valuation τ sig (Elt F) := after preOps (Wst m c)
def Wfwd (k : ℕ) (c : Dev nD) : Valuation τ sig (Elt F) := atTrip cond0 [body0] (Wpre m) k c
def Wmid0 (c : Dev nD) : Valuation τ sig (Elt F) := after cond0 (Wfwd m 2176 c)
/-- As the reverse scan begins; before its `k`-th test; as it ends; at the end. -/
def Wmid (c : Dev nD) : Valuation τ sig (Elt F) := after midOps (Wmid0 m c)
def Wrev (k : ℕ) (c : Dev nD) : Valuation τ sig (Elt F) := atTrip cond1 [body1] (Wmid m) k c
def Wpost (c : Dev nD) : Valuation τ sig (Elt F) := after cond1 (Wrev m 2176 c)
def Wend (c : Dev nD) : Valuation τ sig (Elt F) := after postOps (Wpost m c)

theorem Wfwd_succ (k : ℕ) (c : Dev nD) : Wfwd m (k + 1) c = after body0 (after cond0 (Wfwd m k c)) := rfl
theorem Wrev_succ (k : ℕ) (c : Dev nD) : Wrev m (k + 1) c = after body1 (after cond1 (Wrev m k c)) := rfl

/-! ## What a stretch does not write -/

theorem pre_keeps (V : Valuation τ sig (Elt F)) {a : Ref sig .tc} (h : a ∉ preOps_W) : after preOps V (Proc.devRef .tc a) = V (Proc.devRef .tc a) :=
  after_of_writes_sub preOps V preOps_writes h
theorem cond0_keeps (V : Valuation τ sig (Elt F)) {a : Ref sig .tc} (h : a ∉ cond0_W) : after cond0 V (Proc.devRef .tc a) = V (Proc.devRef .tc a) :=
  after_of_writes_sub cond0 V cond0_writes h
theorem body0_keeps (V : Valuation τ sig (Elt F)) {a : Ref sig .tc} (h : a ∉ body0_W) : after body0 V (Proc.devRef .tc a) = V (Proc.devRef .tc a) :=
  after_of_writes_sub body0 V body0_writes h
theorem mid_keeps (V : Valuation τ sig (Elt F)) {a : Ref sig .tc} (h : a ∉ midOps_W) : after midOps V (Proc.devRef .tc a) = V (Proc.devRef .tc a) :=
  after_of_writes_sub midOps V midOps_writes h
theorem cond1_keeps (V : Valuation τ sig (Elt F)) {a : Ref sig .tc} (h : a ∉ cond1_W) : after cond1 V (Proc.devRef .tc a) = V (Proc.devRef .tc a) :=
  after_of_writes_sub cond1 V cond1_writes h
theorem body1_keeps (V : Valuation τ sig (Elt F)) {a : Ref sig .tc} (h : a ∉ body1_W) : after body1 V (Proc.devRef .tc a) = V (Proc.devRef .tc a) :=
  after_of_writes_sub body1 V body1_writes h
theorem post_keeps (V : Valuation τ sig (Elt F)) {a : Ref sig .tc} (h : a ∉ postOps_W) : after postOps V (Proc.devRef .tc a) = V (Proc.devRef .tc a) :=
  after_of_writes_sub postOps V postOps_writes h

theorem fwd_keeps (c : Dev nD) {a : Ref sig .tc} (h : a ∉ cond0_W) (h' : a ∉ body0_W) :
    ∀ k, Wfwd m k c (Proc.devRef .tc a) = Wpre m c (Proc.devRef .tc a)
  | 0 => rfl
  | k + 1 => by rw [Wfwd_succ, body0_keeps _ h', cond0_keeps _ h, fwd_keeps c h h' k]
theorem rev_keeps (c : Dev nD) {a : Ref sig .tc} (h : a ∉ cond1_W) (h' : a ∉ body1_W) :
    ∀ k, Wrev m k c (Proc.devRef .tc a) = Wmid m c (Proc.devRef .tc a)
  | 0 => rfl
  | k + 1 => by rw [Wrev_succ, body1_keeps _ h', cond1_keeps _ h, rev_keeps c h h' k]

/-- A buffer no list writes ends as it began. -/
theorem Wend_keeps (c : Dev nD) {a : Ref sig .tc}
    (h : a ∉ preOps_W ++ cond0_W ++ body0_W ++ midOps_W ++ cond1_W ++ body1_W ++ postOps_W) :
    Wend m c (Proc.devRef .tc a) = m ((c : Thread nD τ).loc a) := by
  simp only [List.mem_append, not_or] at h
  obtain ⟨⟨⟨⟨⟨⟨h1, h2⟩, h3⟩, h4⟩, h5⟩, h6⟩, h7⟩ := h
  rw [Wend, post_keeps _ h7, Wpost, cond1_keeps _ h5, rev_keeps m c h5 h6, Wmid, mid_keeps _ h4, Wmid0, cond0_keeps _ h2, fwd_keeps m c h2 h3,
    Wpre, pre_keeps _ h1]

/-! ## The trip counters -/

theorem ctr0_step (X : Valuation τ sig (Elt F)) :
    after body0 X (Proc.devRef .tc main_v11_4) = addi (X (Proc.devRef .tc main_v11_4)) (constantI S_ 32 1#32) := by
  after_results
  rfl
theorem ctr0_entry (c : Dev nD) : Wpre m c (Proc.devRef .tc main_v11_4) = fun _ => (0#32 : BitVec 32) := by
  unfold Wpre
  after_results
  rfl
theorem ctr0 (c : Dev nD) : ∀ k, Wfwd m k c (Proc.devRef .tc main_v11_4) = fun _ => Scf.iv 0#32 1#32 k
  | 0 => by rw [show Wfwd m 0 c = Wpre m c from rfl, ctr0_entry, Scf.iv_zero]
  | k + 1 => by
    rw [Wfwd_succ, ctr0_step, cond0_keeps _ (by decide), ctr0 c k, Scf.iv_succ]
    rfl
theorem ctr1_step (X : Valuation τ sig (Elt F)) :
    after body1 X (Proc.devRef .tc main_v46_6) = addi (X (Proc.devRef .tc main_v46_6)) (constantI S_ 32 1#32) := by
  after_results
  rfl
theorem ctr1_entry (c : Dev nD) : Wmid m c (Proc.devRef .tc main_v46_6) = fun _ => (0#32 : BitVec 32) := by
  unfold Wmid
  after_results
  rfl
theorem ctr1 (c : Dev nD) : ∀ k, Wrev m k c (Proc.devRef .tc main_v46_6) = fun _ => Scf.iv 0#32 1#32 k
  | 0 => by rw [show Wrev m 0 c = Wmid m c from rfl, ctr1_entry, Scf.iv_zero]
  | k + 1 => by
    rw [Wrev_succ, ctr1_step, cond1_keeps _ (by decide), ctr1 c k, Scf.iv_succ]
    rfl

-- a rule stated for any thread at the TensorCore thread unifies only when plain definitions may unfold in a type
set_option backward.isDefEq.respectTransparency.types false in
theorem cond0_spec : LoopCond (pcfgs (F := F)) defs₀ Variants.none loops Rw (main_while0_cond (F := F)) cond0 [body0] (Wpre m) 2176 := by
  intro k hk c bd
  have hctr := ctr0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wfwd m k c) main_v11_4 HostLoop.idx0)
        (HloOp.result _ (Wfwd m k c) main_while0c_c_25 HostLoop.idx0) = 1#1) (k < 2176)
    rw [nullary_result_ne _ _ _ _ (by decide), nullary_result, hctr]
    exact Scf.cmpi_slt_iv_ub_iff (lb := 0#32) (ub := 2176#32) (st := 1#32) (by decide) (show k ≤ Scf.trips 0#32 2176#32 1#32 from hk)
  isplitl [Hb]; · iexact Hb
  isplitl [Hh]; · rw [after_cons, after_cons, after_nil]; iexact Hh
  iexact HR

set_option backward.isDefEq.respectTransparency.types false in
theorem cond1_spec : LoopCond (pcfgs (F := F)) defs₀ Variants.none loops Rw (main_while1_cond (F := F)) cond1 [body1] (Wmid m) 2176 := by
  intro k hk c bd
  have hctr := ctr1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wrev m k c) main_v46_6 HostLoop.idx0)
        (HloOp.result _ (Wrev m k c) main_while1c_c_27 HostLoop.idx0) = 1#1) (k < 2176)
    rw [nullary_result_ne _ _ _ _ (by decide), nullary_result, hctr]
    exact Scf.cmpi_slt_iv_ub_iff (lb := 0#32) (ub := 2176#32) (st := 1#32) (by decide) (show k ≤ Scf.trips 0#32 2176#32 1#32 from hk)
  isplitl [Hb]; · iexact Hb
  isplitl [Hh]; · rw [after_cons, after_cons, after_nil]; iexact Hh
  iexact HR

/-! ## The segments and the run -/

theorem body0_chain : (main_while0_body (F := F)) = Pipeline.chain [seq body0] := by
  unfold main_while0_body fn_dynamic_index_in_dim.body fn_dynamic_update_index_in_dim.body
  chain_rfl
theorem body1_chain : (main_while1_body (F := F)) = Pipeline.chain [seq body1] := by
  unfold main_while1_body fn_dynamic_index_in_dim.body fn_dynamic_update_index_in_dim.body
  chain_rfl

/-- One stretch of @main as a segment from `V`. -/
abbrev stretch (ops : List (HloOp τ sig (Elt F))) (h : Plain [ops]) (V : Dev nD → Valuation τ sig (Elt F)) :
    CSeg (pcfgs (F := F)) noAdm defs₀ Variants.none noL noLv loops noTk :=
  CSeg.ofOps _ _ _ _ _ _ _ _ (ucRefs τ sig) ops (fun op hop => sub_ucRefs op ((h ops List.mem_cons_self).1 op hop)) (h ops List.mem_cons_self).2 V Rw

abbrev fwdSeg : CSeg (pcfgs (F := F)) noAdm defs₀ Variants.none noL noLv loops noTk :=
  loopSeg _ _ _ _ _ _ _ _ 0 (main_while0_cond (F := F)) (main_while0_body (F := F)) rfl cond0 [body0] plainBody0 body0_chain 2176 (Wpre m) Rw (cond0_spec m)
abbrev revSeg : CSeg (pcfgs (F := F)) noAdm defs₀ Variants.none noL noLv loops noTk :=
  loopSeg _ _ _ _ _ _ _ _ 1 (main_while1_cond (F := F)) (main_while1_body (F := F)) rfl cond1 [body1] plainBody1 body1_chain 2176 (Wmid m) Rw (cond1_spec m)

abbrev refSegs : List (CSeg (pcfgs (F := F)) noAdm defs₀ Variants.none noL noLv loops noTk) :=
  [stretch preOps plainPre (Wst m), fwdSeg m, stretch midOps plainMid (Wmid0 m), revSeg m, stretch postOps plainPost (Wpost m)]

theorem main_is (c : Dev nD) : main (F := F) c = CSeg.runL (refSegs m) := by
  unfold main main_part0 main_part1
  chain_rfl

/-- Every buffer that is not temporary ends at `Wend`. -/
theorem run (ρ : Dev nD → PrngReg) :
    θ_run defs (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = Wend m c (Proc.devRef .tc b)) :=
  Pipeline.θ_run_regions_loop_kit (Ix := Unit) (Name := ℕ) (U := Option PUnit) (Lvl := ℕ) (J := Fin 0) (P := Fin 0) (Val := Elt F)
    (pcfgs (F := F)) noAdm cells_inj defs₀ Variants.none noL noLv loops noTk m ρ main (refSegs m)
    (fun c Q => by rw [main_is m c])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (Wst m c) ∗ Rw c))
    (Tₙ := fun c => iprop(held (c : Thread nD τ) (ucRefs τ sig) (Wend m c)))
    (hch := ⟨fun _ => .rfl, fun _ => .rfl, fun _ => .rfl, fun _ => .rfl, fun _ => .rfl, fun _ => .rfl⟩)
    (hinit := by
      refine Pipeline.initEach noL noLv fun c => ?_
      rw [show unscopedBufs c (fun b => m ((c : Thread nD τ).loc b)) = held (c : Thread nD τ) (ucRefs τ sig) (Wst m c) from Pipeline.unscopedBufs_held c (Wst m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Wend m c b)
    (hfin := fun c s' => by
      unfold held
      iintro ⟨Hh, HSI⟩
      ihave Hr := (pointsTo_read_all (ucRefs τ sig) (fun b => ((c : Dev nD), b)) (fun b => Wend m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- THE FRAME of the reference. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨(h c _ rfl).trans (Wend_keeps m c (by decide)), (h c _ rfl).trans (Wend_keeps m c (by decide)), (h c _ rfl).trans (Wend_keeps m c (by decide)),
     (h c _ rfl).trans (Wend_keeps m c (by decide)), (h c _ rfl).trans (Wend_keeps m c (by decide)), (h c _ rfl).trans (Wend_keeps m c (by decide)),
     (h c _ rfl).trans (Wend_keeps m c (by decide)), (h c _ rfl).trans (Wend_keeps m c (by decide)), (h c _ rfl).trans (Wend_keeps m c (by decide))⟩,
    Idealize.ShloMosaic.sem_eq_zero_of_no_sems (by decide) r.2⟩) (run m ρ)

end Cert.ReferenceIdeal.Run

end
-- ==== Proof.Rows.lean ====
/- Rows of a scratch array and the complex recursion run on them.

   An array of 2176 rows and 512 columns is walked eight rows at a time: block `i` is rows `8 i` to `8 i + 7`. A pair of
   such arrays is the real and imaginary part of a complex array, and one step multiplies a pair by a fixed pair and adds
   the block it has come to. Here: the block `i` of an array, the recursion as a function of the number of steps, and what
   the store of one block leaves in the array. -/
module

public import Idealize.ShloMosaic.Lib.WritesUnit
public import Idealize.ShloMosaic.Lib.Pointwise.Index
public import Idealize.ShloMosaic.PureOps.Vector

@[expose] public section

noncomputable section

namespace Cert.S5

open Idealize.ShloMosaic

/-- The shape of a scratch array: all rows in segment order, one chunk of state columns. -/
abbrev Tall : Shape := ⟨2, ![2176, 512]⟩
/-- The shape of one block of rows: one row for each of the eight segments. -/
abbrev Blk : Shape := ⟨2, ![8, 512]⟩

/-- Block `i` of an array: rows `8 i` to `8 i + 7`. -/
def block {α : Type} (f : Tall.Idx → α) (i : ℕ) : Blk.Idx → α :=
  fun j => f (ix2 ⟨(8 * i + (j 0).val) % 2176, Nat.mod_lt _ (by decide)⟩ (j 1))

/-- An array put together from its blocks. -/
def glue {α : Type} (S : ℕ → Blk.Idx → α) : Tall.Idx → α :=
  fun y => S ((y 0).val / 8) (ix2 ⟨(y 0).val % 8, Nat.mod_lt _ (by decide)⟩ (y 1))

section Read

variable {sig : RefSig} {κ : Kind} {sp : Space} {e : EltTy} {Val : EltTy → Type} (v : View sig κ sp Tall e)

/-- A load of eight rows at row `8 i` reads block `i`. -/
theorem readAt_block {off : Fin 2 → ℕ} (inb : ∀ a : Fin 2, off a + (![8, 512] : Fin 2 → ℕ) a ≤ Tall.size a) (i : ℕ)
    (h : off = ![8 * i, 0]) (f : v.ty.Contents Val) :
    v.readAt Val (Rect.unit (s := Tall) off ![8, 512] inb).toLoadRect f = block (v.read Val f) i := by
  subst h
  have hi : 8 * i + 8 ≤ 2176 := inb 0
  funext j
  rw [View.readAt_apply]
  unfold block
  congr 1
  have hj : (j 0).val < 8 := (j 0).isLt
  funext a
  apply Fin.ext
  rw [LoadRect.idx_apply]
  match a with
  | ⟨0, _⟩ => show 8 * i + 1 * (j 0).val = (8 * i + (j 0).val) % 2176; omega
  | ⟨1, _⟩ => show 0 + 1 * (j 1).val = (j 1).val; omega

/-- After the store of eight rows at row `8 i`, an element of block `i` is the stored one and every other is as before. -/
theorem read_store {off : Fin 2 → ℕ} (inb : ∀ a : Fin 2, off a + (![8, 512] : Fin 2 → ℕ) a ≤ Tall.size a) (i : ℕ)
    (h : off = ![8 * i, 0]) (f : v.ty.Contents Val) (w : Blk.Idx → Val e) (L : List (View.Piece Val Tall e))
    (y : Tall.Idx) :
    v.read Val (v.writes Val f ((⟨Rect.unit (s := Tall) off ![8, 512] inb, w⟩ : View.Piece Val Tall e) :: L)) y
      = if (y 0).val / 8 = i then w (ix2 ⟨(y 0).val % 8, Nat.mod_lt _ (by decide)⟩ (y 1))
        else v.read Val (v.writes Val f L) y := by
  by_cases hy : (y 0).val / 8 = i
  · rw [if_pos hy]
    exact View.read_writes_cons_rows_of_mem v f inb w L y (ix2 ⟨(y 0).val % 8, Nat.mod_lt _ (by decide)⟩ (y 1)) h
      (by show (y 0).val = 8 * i + (y 0).val % 8; omega) rfl
  · rw [if_neg hy]
    exact View.read_writes_cons_rows_of_not_mem v f inb w L y h (W := 8) rfl (by omega)

end Read

/-- A block depends on its own rows only. -/
theorem block_congr {α : Type} {f g : Tall.Idx → α} {i : ℕ} (hi : i < 272)
    (h : ∀ y : Tall.Idx, (y 0).val / 8 = i → f y = g y) : block f i = block g i := by
  funext j
  have hj : (j 0).val < 8 := (j 0).isLt
  exact h _ (by show (8 * i + (j 0).val) % 2176 / 8 = i; omega)

/-- A pair of blocks: real and imaginary parts. -/
abbrev Pair (F : FTy → Type) : Type := FVec F Blk .f32 × FVec F Blk .f32

section Run

variable {F : FTy → Type} [FloatOps F]

/-- One step of the recursion: the pair `a` times the pair `z`, plus `x`. -/
def vstep (ar ai : FVec F Blk .f32) (z x : Pair F) : Pair F :=
  (addf (subf (mulf ar z.1) (mulf ai z.2)) x.1, addf (addf (mulf ar z.2) (mulf ai z.1)) x.2)

/-- The recursion after `n` steps from `z`, step `i` adding `X i`. -/
def vrun (ar ai : FVec F Blk .f32) (X : ℕ → Pair F) (z : Pair F) : ℕ → Pair F
  | 0 => z
  | n + 1 => vstep ar ai (vrun ar ai X z n) (X n)

theorem vrun_succ (ar ai : FVec F Blk .f32) (X : ℕ → Pair F) (z : Pair F) (n : ℕ) :
    vrun ar ai X z (n + 1) = vstep ar ai (vrun ar ai X z n) (X n) := rfl

/-- Steps `m` to `m + n` continue the recursion from where `m` steps left it. -/
theorem vrun_add (ar ai : FVec F Blk .f32) (X : ℕ → Pair F) (z : Pair F) (m : ℕ) : ∀ n : ℕ,
    vrun ar ai (fun i => X (m + i)) (vrun ar ai X z m) n = vrun ar ai X z (m + n)
  | 0 => rfl
  | n + 1 => congrArg (fun w => vstep ar ai w (X (m + n))) (vrun_add ar ai X z m n)

/-- The recursion depends on the values added before its step only. -/
theorem vrun_congr (ar ai : FVec F Blk .f32) {X Y : ℕ → Pair F} (z : Pair F) : ∀ n : ℕ, (∀ i < n, X i = Y i) →
    vrun ar ai X z n = vrun ar ai Y z n
  | 0, _ => rfl
  | n + 1, h => by
    rw [vrun_succ, vrun_succ, vrun_congr ar ai z n fun i hi => h i (Nat.lt_succ_of_lt hi), h n (Nat.lt_succ_self n)]

/-- What a step of the reverse scan adds to the two sums of products: `n` times the conjugate of `p`. -/
def vacc (acc n p : Pair F) : Pair F :=
  (addf (addf acc.1 (mulf n.1 p.1)) (mulf n.2 p.2), subf (addf acc.2 (mulf n.2 p.1)) (mulf n.1 p.2))

/-- The sums of products after `n` steps: step `i` adds the state `Z (i + 1)` it has reached times the conjugate of `P i`. -/
def vsum (Z P : ℕ → Pair F) (z : Pair F) : ℕ → Pair F
  | 0 => z
  | n + 1 => vacc (vsum Z P z n) (Z (n + 1)) (P n)

theorem vsum_succ (Z P : ℕ → Pair F) (z : Pair F) (n : ℕ) :
    vsum Z P z (n + 1) = vacc (vsum Z P z n) (Z (n + 1)) (P n) := rfl

theorem vsum_add (Z P : ℕ → Pair F) (z : Pair F) (m : ℕ) : ∀ n : ℕ,
    vsum (fun i => Z (m + i)) (fun i => P (m + i)) (vsum Z P z m) n = vsum Z P z (m + n)
  | 0 => rfl
  | n + 1 => congrArg (fun w => vacc w (Z (m + n + 1)) (P (m + n))) (vsum_add Z P z m n)

theorem vsum_congr {Z Z' P P' : ℕ → Pair F} (z : Pair F) : ∀ n : ℕ, (∀ i < n, Z (i + 1) = Z' (i + 1)) →
    (∀ i < n, P i = P' i) → vsum Z P z n = vsum Z' P' z n
  | 0, _, _ => rfl
  | n + 1, h, h' => by
    rw [vsum_succ, vsum_succ, vsum_congr z n (fun i hi => h i (Nat.lt_succ_of_lt hi)) (fun i hi => h' i (Nat.lt_succ_of_lt hi)),
      h n (Nat.lt_succ_self n), h' n (Nat.lt_succ_self n)]

end Run

end Cert.S5
-- ==== Proof.Scan.lean ====
/- The loops of the two scan kernels: what every trip of eight steps leaves, and what the whole loop leaves.

   A loop carries the state of the recursion (and, in the reverse scan, the two sums of products); one trip makes eight
   steps. First each trip is restated as eight steps of the recursion of `Rows`; then, by induction over the trips, the
   state after `k` trips and the contents of the scratch arrays. -/
module

public import proofs.«01_k».proof.Proof.Gen.KernelIdeal.Loops
public import Idealize.ShloMosaic.Lib.Tactic
public import proofs.«01_k».proof.Proof.Rows
public import Idealize.ShloMosaic.Lib.Pointwise.Reshape

@[expose] public section

set_option maxRecDepth 8192
noncomputable section

namespace Cert.KernelIdeal.Run

open Cert.KernelIdeal.Gen Cert.S5
open Idealize.ShloMosaic Idealize.ShloMosaic.Tactic Idealize.ShloMosaic.TcCoe
open Idealize.SL Idealize.SL.RA Idealize.SL.BI Idealize.SL.Sem

variable {F : FTy → Type} [FloatOps F]

/-- Eight rows loaded from a scratch array. -/
abbrev raw8 (m : Memref sig .tc .vmem S2176x512 .f32) (off : Fin 2 → ℕ) (inb : ∀ a, off a + S8x512.size a ≤ S2176x512.size a)
    (f : BufTy.Contents (Elt F) m.view.ty) : FVec F S8x512 .f32 :=
  m.view.readAt (Elt F) (Rect.unit (s := S2176x512) off S8x512.size inb).toLoadRect f

/-- The reshape of a block to its own shape, which the kernels make of most loads and stores. -/
abbrev same8 (x : FVec F S8x512 .f32) : FVec F S8x512 .f32 := shapeCast S8x512 x shapeCasts_S8x512_S8x512

theorem same8_eq (x : FVec F S8x512 .f32) : same8 x = x := by
  exact Idealize.ShloMosaic.shapeCast_id x _

/-- Block `i` of two scratch arrays, as a pair. -/
abbrev pairAt (m m' : Memref sig .tc .vmem S2176x512 .f32) (f : BufTy.Contents (Elt F) m.view.ty)
    (f' : BufTy.Contents (Elt F) m'.view.ty) (i : ℕ) : Pair F :=
  (block (m.view.read (Elt F) f) i, block (m'.view.read (Elt F) f') i)

/-- Eight values, by number. -/
def at8 {α : Type} (x0 x1 x2 x3 x4 x5 x6 x7 : α) : ℕ → α
  | 0 => x0 | 1 => x1 | 2 => x2 | 3 => x3 | 4 => x4 | 5 => x5 | 6 => x6 | _ => x7

theorem at8_eq {α : Type} {x0 x1 x2 x3 x4 x5 x6 x7 : α} {f : ℕ → α} (h0 : x0 = f 0) (h1 : x1 = f 1) (h2 : x2 = f 2)
    (h3 : x3 = f 3) (h4 : x4 = f 4) (h5 : x5 = f 5) (h6 : x6 = f 6) (h7 : x7 = f 7) :
    ∀ s < 8, at8 x0 x1 x2 x3 x4 x5 x6 x7 s = f s := by
  intro s hs
  match s, hs with
  | 0, _ => exact h0 | 1, _ => exact h1 | 2, _ => exact h2 | 3, _ => exact h3
  | 4, _ => exact h4 | 5, _ => exact h5 | 6, _ => exact h6 | 7, _ => exact h7

/-- State and sums of products, as the reverse scan carries them. -/
abbrev four (z a : Pair F) : FVec F S8x512 .f32 × FVec F S8x512 .f32 × FVec F S8x512 .f32 × FVec F S8x512 .f32 :=
  (z.1, z.2, a.1, a.2)

/-! ## Stores of blocks, one after another -/

/-- The stores of `n` steps into one array, the last first: step `s` stores `w s` at the place `off s`. -/
def stores (off : ℕ → Fin 2 → ℕ) (inb : ∀ s a, off s a + S8x512.size a ≤ S2176x512.size a) (w : ℕ → FVec F S8x512 .f32) :
    ℕ → List (View.Piece (Elt F) S2176x512 .f32)
  | 0 => []
  | s + 1 => ⟨Rect.unit (s := S2176x512) (off s) S8x512.size (inb s), w s⟩ :: stores off inb w s

theorem stores_congr (off : ℕ → Fin 2 → ℕ) (inb : ∀ s a, off s a + S8x512.size a ≤ S2176x512.size a)
    {w w' : ℕ → FVec F S8x512 .f32} : ∀ n : ℕ, (∀ s < n, w s = w' s) → stores off inb w n = stores off inb w' n
  | 0, _ => rfl
  | n + 1, h => by
    unfold stores
    rw [h n (Nat.lt_succ_self n), stores_congr off inb n fun s hs => h s (Nat.lt_succ_of_lt hs)]

/-- Writing two lists of stores is writing the one over the other. -/
theorem writes_app (v : View sig .tc .vmem S2176x512 .f32) (f : v.ty.Contents (Elt F)) (L' : List (View.Piece (Elt F) S2176x512 .f32)) :
    ∀ L : List (View.Piece (Elt F) S2176x512 .f32), v.writes (Elt F) f (L ++ L') = v.writes (Elt F) (v.writes (Elt F) f L') L
  | [] => rfl
  | p :: L => by
    rw [List.cons_append, View.writes_cons, View.writes_cons, writes_app v f L' L]

section Places

variable (m m' : Memref sig .tc .vmem S2176x512 .f32) (off : ℕ → Fin 2 → ℕ)
  (inb : ∀ s a, off s a + S8x512.size a ≤ S2176x512.size a) (p : ℕ → ℕ) (n : ℕ) (hoff : ∀ s < n, off s = ![8 * p s, 0])

include hoff in
/-- A row no step has stored is as before. -/
theorem stores_out (f : BufTy.Contents (Elt F) m.view.ty) (w : ℕ → FVec F S8x512 .f32) (y : S2176x512.Idx) :
    ∀ j ≤ n, (∀ s < j, (y 0).val / 8 ≠ p s) →
      m.view.read (Elt F) (m.view.writes (Elt F) f (stores off inb w j)) y = m.view.read (Elt F) f y
  | 0, _, _ => rfl
  | j + 1, hj, h => by
    unfold stores
    refine (read_store m.view (inb j) (p j) (hoff j (by omega)) f _ _ y).trans ?_
    rw [if_neg (h j (Nat.lt_succ_self j))]
    exact stores_out f w y j (by omega) fun s hs => h s (Nat.lt_succ_of_lt hs)

include hoff in
/-- A row step `s` has stored holds what it stored, if no two steps store to the same place. -/
theorem stores_in (hp : ∀ s < n, ∀ t < n, p s = p t → s = t) (f : BufTy.Contents (Elt F) m.view.ty)
    (w : ℕ → FVec F S8x512 .f32) (y : S2176x512.Idx) (s : ℕ) (hy : (y 0).val / 8 = p s) :
    ∀ j ≤ n, s < j →
      m.view.read (Elt F) (m.view.writes (Elt F) f (stores off inb w j)) y
        = w s (ix2 ⟨(y 0).val % 8, Nat.mod_lt _ (by decide)⟩ (y 1))
  | 0, _, h => absurd h (Nat.not_lt_zero s)
  | j + 1, hj, h => by
    unfold stores
    refine (read_store m.view (inb j) (p j) (hoff j (by omega)) f _ _ y).trans ?_
    by_cases e : s = j
    · subst e
      rw [if_pos hy]
    · rw [if_neg fun e' => e (hp s (by omega) j (by omega) (hy.symm.trans e'))]
      exact stores_in hp f w y s hy j (by omega) (by omega)

/-- The reverse scan as the kernel makes it: each step loads the block it has come to from the array as the steps before
    have left it, stores the new state there, and adds to the two sums of products. -/
def gscan (ar ai : FVec F S8x512 .f32) (f : BufTy.Contents (Elt F) m.view.ty) (f' : BufTy.Contents (Elt F) m'.view.ty)
    (P : ℕ → Pair F) (z a : Pair F) :
    ℕ → (Pair F × Pair F) × List (View.Piece (Elt F) S2176x512 .f32) × List (View.Piece (Elt F) S2176x512 .f32)
  | 0 => ((z, a), [], [])
  | s + 1 =>
    ((vstep ar ai (gscan ar ai f f' P z a s).1.1
        (raw8 m (off s) (inb s) (m.view.writes (Elt F) f (gscan ar ai f f' P z a s).2.1),
         raw8 m' (off s) (inb s) (m'.view.writes (Elt F) f' (gscan ar ai f f' P z a s).2.2)),
      vacc (gscan ar ai f f' P z a s).1.2
        (vstep ar ai (gscan ar ai f f' P z a s).1.1
          (raw8 m (off s) (inb s) (m.view.writes (Elt F) f (gscan ar ai f f' P z a s).2.1),
           raw8 m' (off s) (inb s) (m'.view.writes (Elt F) f' (gscan ar ai f f' P z a s).2.2))) (P s)),
     ⟨Rect.unit (s := S2176x512) (off s) S8x512.size (inb s), same8 (vstep ar ai (gscan ar ai f f' P z a s).1.1
        (raw8 m (off s) (inb s) (m.view.writes (Elt F) f (gscan ar ai f f' P z a s).2.1),
         raw8 m' (off s) (inb s) (m'.view.writes (Elt F) f' (gscan ar ai f f' P z a s).2.2))).1⟩ :: (gscan ar ai f f' P z a s).2.1,
     ⟨Rect.unit (s := S2176x512) (off s) S8x512.size (inb s), same8 (vstep ar ai (gscan ar ai f f' P z a s).1.1
        (raw8 m (off s) (inb s) (m.view.writes (Elt F) f (gscan ar ai f f' P z a s).2.1),
         raw8 m' (off s) (inb s) (m'.view.writes (Elt F) f' (gscan ar ai f f' P z a s).2.2))).2⟩ :: (gscan ar ai f f' P z a s).2.2)

include hoff in
/-- What a load reads that comes after the stores of other blocks. -/
theorem load_after (hp : ∀ s < n, ∀ t < n, p s = p t → s = t) (hlt : ∀ s < n, p s < 272)
    (f : BufTy.Contents (Elt F) m.view.ty) (w : ℕ → FVec F S8x512 .f32) (s : ℕ) (hs : s < n) :
    raw8 m (off s) (inb s) (m.view.writes (Elt F) f (stores off inb w s)) = block (m.view.read (Elt F) f) (p s) := by
  refine (readAt_block m.view (inb s) (p s) (hoff s hs) _).trans (block_congr (hlt s hs) fun y hy => ?_)
  exact stores_out m off inb p n hoff f w y s (by omega) fun t ht e =>
    absurd (hp s hs t (by omega) (hy.symm.trans e)) (by omega)

include hoff in
/-- The reverse scan in closed form: every load reads the array as it was at the start. -/
theorem gscan_eq (hp : ∀ s < n, ∀ t < n, p s = p t → s = t) (hlt : ∀ s < n, p s < 272) (ar ai : FVec F S8x512 .f32)
    (f : BufTy.Contents (Elt F) m.view.ty) (f' : BufTy.Contents (Elt F) m'.view.ty) (P : ℕ → Pair F) (z a : Pair F) :
    ∀ j ≤ n, gscan m m' off inb ar ai f f' P z a j
      = ((vrun ar ai (fun s => pairAt m m' f f' (p s)) z j,
          vsum (vrun ar ai (fun s => pairAt m m' f f' (p s)) z) P a j),
         stores off inb (fun s => (vrun ar ai (fun s => pairAt m m' f f' (p s)) z (s + 1)).1) j,
         stores off inb (fun s => (vrun ar ai (fun s => pairAt m m' f f' (p s)) z (s + 1)).2) j)
  | 0, _ => rfl
  | j + 1, hj => by
    unfold gscan
    rw [gscan_eq hp hlt ar ai f f' P z a j (by omega)]
    dsimp only
    simp only [same8_eq]
    rw [load_after m off inb p n hoff hp hlt f _ j (by omega), load_after m' off inb p n hoff hp hlt f' _ j (by omega)]
    rfl

end Places

/-! ## Where the trips load and store -/

theorem k0_off1_eq (k : Fin k0_t1_loop.trips) (s : Fin 8) : k0_off1 k (BitVec.ofNat 32 s.val) = ![8 * (8 * k.val + s.val), 0] := by
  revert k s; decide +kernel
theorem k0_off2_eq (k : Fin k0_t2_loop.trips) (s : Fin 8) : k0_off2 k (BitVec.ofNat 32 s.val) = ![8 * (8 * k.val + s.val), 0] := by
  revert k s; decide +kernel
theorem k1_off1_eq (k : Fin k1_t1_loop.trips) (s : Fin 8) :
    k1_off1 k (BitVec.ofNat 32 s.val) = ![8 * (271 - (8 * k.val + s.val)), 0] := by
  revert k s; decide +kernel
theorem k1_off2_eq (k : Fin k1_t2_loop.trips) (s : Fin 8) :
    k1_off2 k (BitVec.ofNat 32 s.val) = ![8 * (270 - (8 * k.val + s.val)), 0] := by
  revert k s; decide +kernel
theorem k1_off3_eq (k : Fin k1_t2_loop.trips) (s : Fin 8) :
    k1_off3 k (BitVec.ofNat 32 s.val) = ![8 * (271 - (8 * k.val + s.val)), 0] := by
  revert k s; decide +kernel

/-! ## What a trip loads -/

def loads1 (m m' : Memref sig .tc .vmem S2176x512 .f32) (f : BufTy.Contents (Elt F) m.view.ty)
    (f' : BufTy.Contents (Elt F) m'.view.ty) (k : Fin k0_t1_loop.trips) : ℕ → Pair F :=
  at8 (same8 (raw8 m (k0_off1 k 0#32) (k0_off1_inb k 0) f), same8 (raw8 m' (k0_off1 k 0#32) (k0_off1_inb k 0) f'))
    (same8 (raw8 m (k0_off1 k 1#32) (k0_off1_inb k 1) f), same8 (raw8 m' (k0_off1 k 1#32) (k0_off1_inb k 1) f'))
    (same8 (raw8 m (k0_off1 k 2#32) (k0_off1_inb k 2) f), same8 (raw8 m' (k0_off1 k 2#32) (k0_off1_inb k 2) f'))
    (same8 (raw8 m (k0_off1 k 3#32) (k0_off1_inb k 3) f), same8 (raw8 m' (k0_off1 k 3#32) (k0_off1_inb k 3) f'))
    (same8 (raw8 m (k0_off1 k 4#32) (k0_off1_inb k 4) f), same8 (raw8 m' (k0_off1 k 4#32) (k0_off1_inb k 4) f'))
    (same8 (raw8 m (k0_off1 k 5#32) (k0_off1_inb k 5) f), same8 (raw8 m' (k0_off1 k 5#32) (k0_off1_inb k 5) f'))
    (same8 (raw8 m (k0_off1 k 6#32) (k0_off1_inb k 6) f), same8 (raw8 m' (k0_off1 k 6#32) (k0_off1_inb k 6) f'))
    (same8 (raw8 m (k0_off1 k 7#32) (k0_off1_inb k 7) f), same8 (raw8 m' (k0_off1 k 7#32) (k0_off1_inb k 7) f'))

theorem loads1_eq (m m' : Memref sig .tc .vmem S2176x512 .f32) (f : BufTy.Contents (Elt F) m.view.ty)
    (f' : BufTy.Contents (Elt F) m'.view.ty) (k : Fin k0_t1_loop.trips) :
    ∀ s < 8, loads1 m m' f f' k s = pairAt m m' f f' (8 * k.val + s) := by
  have h (s : Fin 8) : (raw8 m (k0_off1 k (BitVec.ofNat 32 s.val)) (k0_off1_inb k s) f, raw8 m' (k0_off1 k (BitVec.ofNat 32 s.val)) (k0_off1_inb k s) f')
      = pairAt m m' f f' (8 * k.val + s.val) :=
    Prod.ext (readAt_block m.view _ _ (k0_off1_eq k s) f) (readAt_block m'.view _ _ (k0_off1_eq k s) f')
  unfold loads1
  simp only [same8_eq]
  exact at8_eq (h 0) (h 1) (h 2) (h 3) (h 4) (h 5) (h 6) (h 7)

def loads2 (m m' : Memref sig .tc .vmem S2176x512 .f32) (f : BufTy.Contents (Elt F) m.view.ty)
    (f' : BufTy.Contents (Elt F) m'.view.ty) (k : Fin k0_t2_loop.trips) : ℕ → Pair F :=
  at8 (same8 (raw8 m (k0_off2 k 0#32) (k0_off2_inb k 0) f), same8 (raw8 m' (k0_off2 k 0#32) (k0_off2_inb k 0) f'))
    (same8 (raw8 m (k0_off2 k 1#32) (k0_off2_inb k 1) f), same8 (raw8 m' (k0_off2 k 1#32) (k0_off2_inb k 1) f'))
    (same8 (raw8 m (k0_off2 k 2#32) (k0_off2_inb k 2) f), same8 (raw8 m' (k0_off2 k 2#32) (k0_off2_inb k 2) f'))
    (same8 (raw8 m (k0_off2 k 3#32) (k0_off2_inb k 3) f), same8 (raw8 m' (k0_off2 k 3#32) (k0_off2_inb k 3) f'))
    (same8 (raw8 m (k0_off2 k 4#32) (k0_off2_inb k 4) f), same8 (raw8 m' (k0_off2 k 4#32) (k0_off2_inb k 4) f'))
    (same8 (raw8 m (k0_off2 k 5#32) (k0_off2_inb k 5) f), same8 (raw8 m' (k0_off2 k 5#32) (k0_off2_inb k 5) f'))
    (same8 (raw8 m (k0_off2 k 6#32) (k0_off2_inb k 6) f), same8 (raw8 m' (k0_off2 k 6#32) (k0_off2_inb k 6) f'))
    (same8 (raw8 m (k0_off2 k 7#32) (k0_off2_inb k 7) f), same8 (raw8 m' (k0_off2 k 7#32) (k0_off2_inb k 7) f'))

theorem loads2_eq (m m' : Memref sig .tc .vmem S2176x512 .f32) (f : BufTy.Contents (Elt F) m.view.ty)
    (f' : BufTy.Contents (Elt F) m'.view.ty) (k : Fin k0_t2_loop.trips) :
    ∀ s < 8, loads2 m m' f f' k s = pairAt m m' f f' (8 * k.val + s) := by
  have h (s : Fin 8) : (raw8 m (k0_off2 k (BitVec.ofNat 32 s.val)) (k0_off2_inb k s) f, raw8 m' (k0_off2 k (BitVec.ofNat 32 s.val)) (k0_off2_inb k s) f')
      = pairAt m m' f f' (8 * k.val + s.val) :=
    Prod.ext (readAt_block m.view _ _ (k0_off2_eq k s) f) (readAt_block m'.view _ _ (k0_off2_eq k s) f')
  unfold loads2
  simp only [same8_eq]
  exact at8_eq (h 0) (h 1) (h 2) (h 3) (h 4) (h 5) (h 6) (h 7)

def loads3 (m m' : Memref sig .tc .vmem S2176x512 .f32) (f : BufTy.Contents (Elt F) m.view.ty)
    (f' : BufTy.Contents (Elt F) m'.view.ty) (k : Fin k1_t1_loop.trips) : ℕ → Pair F :=
  at8 (raw8 m (k1_off1 k 0#32) (k1_off1_inb k 0) f, raw8 m' (k1_off1 k 0#32) (k1_off1_inb k 0) f')
    (raw8 m (k1_off1 k 1#32) (k1_off1_inb k 1) f, raw8 m' (k1_off1 k 1#32) (k1_off1_inb k 1) f')
    (raw8 m (k1_off1 k 2#32) (k1_off1_inb k 2) f, raw8 m' (k1_off1 k 2#32) (k1_off1_inb k 2) f')
    (raw8 m (k1_off1 k 3#32) (k1_off1_inb k 3) f, raw8 m' (k1_off1 k 3#32) (k1_off1_inb k 3) f')
    (raw8 m (k1_off1 k 4#32) (k1_off1_inb k 4) f, raw8 m' (k1_off1 k 4#32) (k1_off1_inb k 4) f')
    (raw8 m (k1_off1 k 5#32) (k1_off1_inb k 5) f, raw8 m' (k1_off1 k 5#32) (k1_off1_inb k 5) f')
    (raw8 m (k1_off1 k 6#32) (k1_off1_inb k 6) f, raw8 m' (k1_off1 k 6#32) (k1_off1_inb k 6) f')
    (raw8 m (k1_off1 k 7#32) (k1_off1_inb k 7) f, raw8 m' (k1_off1 k 7#32) (k1_off1_inb k 7) f')

theorem loads3_eq (m m' : Memref sig .tc .vmem S2176x512 .f32) (f : BufTy.Contents (Elt F) m.view.ty)
    (f' : BufTy.Contents (Elt F) m'.view.ty) (k : Fin k1_t1_loop.trips) :
    ∀ s < 8, loads3 m m' f f' k s = pairAt m m' f f' (271 - (8 * k.val + s)) := by
  have h (s : Fin 8) : (raw8 m (k1_off1 k (BitVec.ofNat 32 s.val)) (k1_off1_inb k s) f, raw8 m' (k1_off1 k (BitVec.ofNat 32 s.val)) (k1_off1_inb k s) f')
      = pairAt m m' f f' (271 - (8 * k.val + s.val)) :=
    Prod.ext (readAt_block m.view _ _ (k1_off1_eq k s) f) (readAt_block m'.view _ _ (k1_off1_eq k s) f')
  unfold loads3
  exact at8_eq (h 0) (h 1) (h 2) (h 3) (h 4) (h 5) (h 6) (h 7)

def loads4 (m m' : Memref sig .tc .vmem S2176x512 .f32) (f : BufTy.Contents (Elt F) m.view.ty)
    (f' : BufTy.Contents (Elt F) m'.view.ty) (k : Fin k1_t2_loop.trips) : ℕ → Pair F :=
  at8 (raw8 m (k1_off3 k 0#32) (k1_off3_inb k 0) f, raw8 m' (k1_off3 k 0#32) (k1_off3_inb k 0) f')
    (raw8 m (k1_off3 k 1#32) (k1_off3_inb k 1) f, raw8 m' (k1_off3 k 1#32) (k1_off3_inb k 1) f')
    (raw8 m (k1_off3 k 2#32) (k1_off3_inb k 2) f, raw8 m' (k1_off3 k 2#32) (k1_off3_inb k 2) f')
    (raw8 m (k1_off3 k 3#32) (k1_off3_inb k 3) f, raw8 m' (k1_off3 k 3#32) (k1_off3_inb k 3) f')
    (raw8 m (k1_off3 k 4#32) (k1_off3_inb k 4) f, raw8 m' (k1_off3 k 4#32) (k1_off3_inb k 4) f')
    (raw8 m (k1_off3 k 5#32) (k1_off3_inb k 5) f, raw8 m' (k1_off3 k 5#32) (k1_off3_inb k 5) f')
    (raw8 m (k1_off3 k 6#32) (k1_off3_inb k 6) f, raw8 m' (k1_off3 k 6#32) (k1_off3_inb k 6) f')
    (raw8 m (k1_off3 k 7#32) (k1_off3_inb k 7) f, raw8 m' (k1_off3 k 7#32) (k1_off3_inb k 7) f')

theorem loads4_eq (m m' : Memref sig .tc .vmem S2176x512 .f32) (f : BufTy.Contents (Elt F) m.view.ty)
    (f' : BufTy.Contents (Elt F) m'.view.ty) (k : Fin k1_t2_loop.trips) :
    ∀ s < 8, loads4 m m' f f' k s = pairAt m m' f f' (271 - (8 * k.val + s)) := by
  have h (s : Fin 8) : (raw8 m (k1_off3 k (BitVec.ofNat 32 s.val)) (k1_off3_inb k s) f, raw8 m' (k1_off3 k (BitVec.ofNat 32 s.val)) (k1_off3_inb k s) f')
      = pairAt m m' f f' (271 - (8 * k.val + s.val)) :=
    Prod.ext (readAt_block m.view _ _ (k1_off3_eq k s) f) (readAt_block m'.view _ _ (k1_off3_eq k s) f')
  unfold loads4
  exact at8_eq (h 0) (h 1) (h 2) (h 3) (h 4) (h 5) (h 6) (h 7)

def saved4 (m m' : Memref sig .tc .vmem S2176x512 .f32) (f : BufTy.Contents (Elt F) m.view.ty)
    (f' : BufTy.Contents (Elt F) m'.view.ty) (k : Fin k1_t2_loop.trips) : ℕ → Pair F :=
  at8 (same8 (raw8 m (k1_off2 k 0#32) (k1_off2_inb k 0) f), same8 (raw8 m' (k1_off2 k 0#32) (k1_off2_inb k 0) f'))
    (same8 (raw8 m (k1_off2 k 1#32) (k1_off2_inb k 1) f), same8 (raw8 m' (k1_off2 k 1#32) (k1_off2_inb k 1) f'))
    (same8 (raw8 m (k1_off2 k 2#32) (k1_off2_inb k 2) f), same8 (raw8 m' (k1_off2 k 2#32) (k1_off2_inb k 2) f'))
    (same8 (raw8 m (k1_off2 k 3#32) (k1_off2_inb k 3) f), same8 (raw8 m' (k1_off2 k 3#32) (k1_off2_inb k 3) f'))
    (same8 (raw8 m (k1_off2 k 4#32) (k1_off2_inb k 4) f), same8 (raw8 m' (k1_off2 k 4#32) (k1_off2_inb k 4) f'))
    (same8 (raw8 m (k1_off2 k 5#32) (k1_off2_inb k 5) f), same8 (raw8 m' (k1_off2 k 5#32) (k1_off2_inb k 5) f'))
    (same8 (raw8 m (k1_off2 k 6#32) (k1_off2_inb k 6) f), same8 (raw8 m' (k1_off2 k 6#32) (k1_off2_inb k 6) f'))
    (same8 (raw8 m (k1_off2 k 7#32) (k1_off2_inb k 7) f), same8 (raw8 m' (k1_off2 k 7#32) (k1_off2_inb k 7) f'))

theorem saved4_eq (m m' : Memref sig .tc .vmem S2176x512 .f32) (f : BufTy.Contents (Elt F) m.view.ty)
    (f' : BufTy.Contents (Elt F) m'.view.ty) (k : Fin k1_t2_loop.trips) :
    ∀ s < 8, saved4 m m' f f' k s = pairAt m m' f f' (270 - (8 * k.val + s)) := by
  have h (s : Fin 8) : (raw8 m (k1_off2 k (BitVec.ofNat 32 s.val)) (k1_off2_inb k s) f, raw8 m' (k1_off2 k (BitVec.ofNat 32 s.val)) (k1_off2_inb k s) f')
      = pairAt m m' f f' (270 - (8 * k.val + s.val)) :=
    Prod.ext (readAt_block m.view _ _ (k1_off2_eq k s) f) (readAt_block m'.view _ _ (k1_off2_eq k s) f')
  unfold saved4
  simp only [same8_eq]
  exact at8_eq (h 0) (h 1) (h 2) (h 3) (h 4) (h 5) (h 6) (h 7)

/-! ## A trip is eight steps -/

theorem trip1 (𝒱 : Variants) (c : Dev nD) (bd : Option 𝒱.V) (i : grid0.Coords) (arg1 : Memref sig .tc .vmem S2176x128 .f32) (harg1 : arg1.IsWhole) (arg2 : Memref sig .tc .vmem S1x128x512 .bf16) (harg2 : arg2.IsWhole) (arg3 : Memref sig .tc .vmem S1x128x512 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x1x128 .f32) (harg8 : arg8.IsWhole) (arg9 : Memref sig .tc .vmem S2176x512 .f32) (harg9 : arg9.IsWhole) (arg10 : Memref sig .tc .vmem S2176x512 .f32) (harg10 : arg10.IsWhole) (arg11 : Memref sig .tc .vmem S2176x128 .f32) (harg11 : arg11.IsWhole) (v11 : Vec F S1x1x512 .f32) (v15 : Vec F S1x1x512 .f32) (X_arg9 : BufTy.Contents (Elt F) arg9.view.ty) (X_arg10 : BufTy.Contents (Elt F) arg10.view.ty) (k : Fin k0_t1_loop.trips) (acc : Pair F) :
    tripR_k0_t1 𝒱 c bd i arg1 harg1 arg2 harg2 arg3 harg3 arg4 harg4 arg5 harg5 arg6 harg6 arg7 harg7 arg8 harg8 arg9 harg9 arg10 harg10 arg11 harg11 v11 v15 X_arg9 X_arg10 k acc = vrun (k0_pay41 v11) (k0_pay42 v15) (loads1 arg9 arg10 X_arg9 X_arg10 k) acc 8 := by
  sl_kernel_rfl

theorem trip3 (𝒱 : Variants) (c : Dev nD) (bd : Option 𝒱.V) (i : grid1.Coords) (arg1 : Memref sig .tc .vmem S2176x128 .f32) (harg1 : arg1.IsWhole) (arg2 : Memref sig .tc .vmem S2176x128 .f32) (harg2 : arg2.IsWhole) (arg3 : Memref sig .tc .vmem S2176x512 .f32) (harg3 : arg3.IsWhole) (arg4 : Memref sig .tc .vmem S2176x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x512 .bf16) (harg9 : arg9.IsWhole) (arg10 : Memref sig .tc .vmem S1x128x512 .bf16) (harg10 : arg10.IsWhole) (arg11 : Memref sig .tc .vmem S1x1x128 .f32) (harg11 : arg11.IsWhole) (arg12 : Memref sig .tc .vmem S2176x128 .bf16) (harg12 : arg12.IsWhole) (arg13 : Memref sig .tc .vmem S1x8x16x64 .f32) (harg13 : arg13.IsWhole) (arg14 : Memref sig .tc .vmem S1x8x16x64 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x8x16x64 .f32) (harg17 : arg17.IsWhole) (arg18 : Memref sig .tc .vmem S1x8x16x64 .f32) (harg18 : arg18.IsWhole) (arg19 : Memref sig .tc .vmem S1x1x128 .f32) (harg19 : arg19.IsWhole) (arg20 : Memref sig .tc .vmem S2176x512 .f32) (harg20 : arg20.IsWhole) (arg21 : Memref sig .tc .vmem S2176x512 .f32) (harg21 : arg21.IsWhole) (v17 : Vec F S1x1x512 .f32) (v21 : Vec F S1x1x512 .f32) (X_arg20 : BufTy.Contents (Elt F) arg20.view.ty) (X_arg21 : BufTy.Contents (Elt F) arg21.view.ty) (k : Fin k1_t1_loop.trips) (acc : Pair F) :
    tripR_k1_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v17 v21 X_arg20 X_arg21 k acc = vrun (k1_pay91 v17) (k1_pay92 v21) (loads3 arg20 arg21 X_arg20 X_arg21 k) acc 8 := by
  sl_kernel_rfl

/-- The stores of trip `k` of the forward scan, the last first: step `s` stores `w s`. -/
def stores2 (k : Fin k0_t2_loop.trips) (w : ℕ → FVec F S8x512 .f32) : List (View.Piece (Elt F) S2176x512 .f32) :=
  [⟨Rect.unit (s := S2176x512) (k0_off2 k 7#32) S8x512.size (k0_off2_inb k 7), w 7⟩,
   ⟨Rect.unit (s := S2176x512) (k0_off2 k 6#32) S8x512.size (k0_off2_inb k 6), w 6⟩,
   ⟨Rect.unit (s := S2176x512) (k0_off2 k 5#32) S8x512.size (k0_off2_inb k 5), w 5⟩,
   ⟨Rect.unit (s := S2176x512) (k0_off2 k 4#32) S8x512.size (k0_off2_inb k 4), w 4⟩,
   ⟨Rect.unit (s := S2176x512) (k0_off2 k 3#32) S8x512.size (k0_off2_inb k 3), w 3⟩,
   ⟨Rect.unit (s := S2176x512) (k0_off2 k 2#32) S8x512.size (k0_off2_inb k 2), w 2⟩,
   ⟨Rect.unit (s := S2176x512) (k0_off2 k 1#32) S8x512.size (k0_off2_inb k 1), w 1⟩,
   ⟨Rect.unit (s := S2176x512) (k0_off2 k 0#32) S8x512.size (k0_off2_inb k 0), w 0⟩]

theorem stores2_eq (k : Fin k0_t2_loop.trips) (w : ℕ → FVec F S8x512 .f32) :
    stores2 k w = stores (fun s => k0_off2 k (BitVec.ofNat 32 (s % 8))) (fun s => k0_off2_inb k ⟨s % 8, Nat.mod_lt _ (by decide)⟩) w 8 :=
  rfl

theorem trip2 (𝒱 : Variants) (c : Dev nD) (bd : Option 𝒱.V) (i : grid0.Coords) (arg1 : Memref sig .tc .vmem S2176x128 .f32) (harg1 : arg1.IsWhole) (arg2 : Memref sig .tc .vmem S1x128x512 .bf16) (harg2 : arg2.IsWhole) (arg3 : Memref sig .tc .vmem S1x128x512 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x1x128 .f32) (harg8 : arg8.IsWhole) (arg9 : Memref sig .tc .vmem S2176x512 .f32) (harg9 : arg9.IsWhole) (arg10 : Memref sig .tc .vmem S2176x512 .f32) (harg10 : arg10.IsWhole) (arg11 : Memref sig .tc .vmem S2176x128 .f32) (harg11 : arg11.IsWhole) (v14 : FVec F S8x512 .f32) (v18 : FVec F S8x512 .f32) (c0_i32_51 : BitVec 32) (k : Fin k0_t2_loop.trips) (acc : Pair F) (f_arg9 : BufTy.Contents (Elt F) arg9.view.ty) (f_arg10 : BufTy.Contents (Elt F) arg10.view.ty) :
    tripR_k0_t2 𝒱 c bd i arg1 harg1 arg2 harg2 arg3 harg3 arg4 harg4 arg5 harg5 arg6 harg6 arg7 harg7 arg8 harg8 arg9 harg9 arg10 harg10 arg11 harg11 v14 v18 c0_i32_51 k acc f_arg9 f_arg10 = vrun v14 v18 (loads2 arg9 arg10 f_arg9 f_arg10 k) acc 8 := by
  sl_kernel_rfl

theorem trip2_stores (𝒱 : Variants) (c : Dev nD) (bd : Option 𝒱.V) (i : grid0.Coords) (arg1 : Memref sig .tc .vmem S2176x128 .f32) (harg1 : arg1.IsWhole) (arg2 : Memref sig .tc .vmem S1x128x512 .bf16) (harg2 : arg2.IsWhole) (arg3 : Memref sig .tc .vmem S1x128x512 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x1x128 .f32) (harg8 : arg8.IsWhole) (arg9 : Memref sig .tc .vmem S2176x512 .f32) (harg9 : arg9.IsWhole) (arg10 : Memref sig .tc .vmem S2176x512 .f32) (harg10 : arg10.IsWhole) (arg11 : Memref sig .tc .vmem S2176x128 .f32) (harg11 : arg11.IsWhole) (v14 : FVec F S8x512 .f32) (v18 : FVec F S8x512 .f32) (c0_i32_51 : BitVec 32) (k : Fin k0_t2_loop.trips) (acc : Pair F) (f_arg9 : BufTy.Contents (Elt F) arg9.view.ty) (f_arg10 : BufTy.Contents (Elt F) arg10.view.ty) :
    tripL_k0_t2 𝒱 c bd i arg1 harg1 arg2 harg2 arg3 harg3 arg4 harg4 arg5 harg5 arg6 harg6 arg7 harg7 arg8 harg8 arg9 harg9 arg10 harg10 arg11 harg11 v14 v18 c0_i32_51 k acc f_arg9 f_arg10
      = (stores2 k fun s => (vrun v14 v18 (loads2 arg9 arg10 f_arg9 f_arg10 k) acc (s + 1)).1, stores2 k fun s => (vrun v14 v18 (loads2 arg9 arg10 f_arg9 f_arg10 k) acc (s + 1)).2) := by
  sl_kernel_rfl

/-- Trip `k` of the reverse scan. -/
abbrev scan4 (m3 m4 m m' : Memref sig .tc .vmem S2176x512 .f32) (ar ai : FVec F S8x512 .f32)
    (X3 : BufTy.Contents (Elt F) m3.view.ty) (X4 : BufTy.Contents (Elt F) m4.view.ty)
    (f : BufTy.Contents (Elt F) m.view.ty) (f' : BufTy.Contents (Elt F) m'.view.ty) (k : Fin k1_t2_loop.trips) (z a : Pair F) :=
  gscan m m' (fun s => k1_off3 k (BitVec.ofNat 32 (s % 8))) (fun s => k1_off3_inb k ⟨s % 8, Nat.mod_lt _ (by decide)⟩) ar ai f f'
    (saved4 m3 m4 X3 X4 k) z a 8

theorem trip4 (𝒱 : Variants) (c : Dev nD) (bd : Option 𝒱.V) (i : grid1.Coords) (arg1 : Memref sig .tc .vmem S2176x128 .f32) (harg1 : arg1.IsWhole) (arg2 : Memref sig .tc .vmem S2176x128 .f32) (harg2 : arg2.IsWhole) (arg3 : Memref sig .tc .vmem S2176x512 .f32) (harg3 : arg3.IsWhole) (arg4 : Memref sig .tc .vmem S2176x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x512 .bf16) (harg9 : arg9.IsWhole) (arg10 : Memref sig .tc .vmem S1x128x512 .bf16) (harg10 : arg10.IsWhole) (arg11 : Memref sig .tc .vmem S1x1x128 .f32) (harg11 : arg11.IsWhole) (arg12 : Memref sig .tc .vmem S2176x128 .bf16) (harg12 : arg12.IsWhole) (arg13 : Memref sig .tc .vmem S1x8x16x64 .f32) (harg13 : arg13.IsWhole) (arg14 : Memref sig .tc .vmem S1x8x16x64 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x8x16x64 .f32) (harg17 : arg17.IsWhole) (arg18 : Memref sig .tc .vmem S1x8x16x64 .f32) (harg18 : arg18.IsWhole) (arg19 : Memref sig .tc .vmem S1x1x128 .f32) (harg19 : arg19.IsWhole) (arg20 : Memref sig .tc .vmem S2176x512 .f32) (harg20 : arg20.IsWhole) (arg21 : Memref sig .tc .vmem S2176x512 .f32) (harg21 : arg21.IsWhole) (v20 : FVec F S8x512 .f32) (v26 : FVec F S8x512 .f32) (v27 : FVec F S8x512 .f32) (v29_1 : FVec F S8x512 .f32) (v86 : IVec S8x512 1) (v178 : FVec F S8x512 .f32) (v180 : FVec F S8x512 .f32) (cst_49 : F .f32) (X_arg3 : BufTy.Contents (Elt F) arg3.view.ty) (X_arg4 : BufTy.Contents (Elt F) arg4.view.ty) (k : Fin k1_t2_loop.trips) (z a : Pair F) (f_arg20 : BufTy.Contents (Elt F) arg20.view.ty) (f_arg21 : BufTy.Contents (Elt F) arg21.view.ty) :
    tripR_k1_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v26 v27 v29_1 v86 v178 v180 cst_49 X_arg3 X_arg4 k (four z a) f_arg20 f_arg21 = four (scan4 arg3 arg4 arg20 arg21 v20 v26 X_arg3 X_arg4 f_arg20 f_arg21 k z a).1.1 (scan4 arg3 arg4 arg20 arg21 v20 v26 X_arg3 X_arg4 f_arg20 f_arg21 k z a).1.2 := by
  sl_kernel_rfl

theorem trip4_stores (𝒱 : Variants) (c : Dev nD) (bd : Option 𝒱.V) (i : grid1.Coords) (arg1 : Memref sig .tc .vmem S2176x128 .f32) (harg1 : arg1.IsWhole) (arg2 : Memref sig .tc .vmem S2176x128 .f32) (harg2 : arg2.IsWhole) (arg3 : Memref sig .tc .vmem S2176x512 .f32) (harg3 : arg3.IsWhole) (arg4 : Memref sig .tc .vmem S2176x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x512 .bf16) (harg9 : arg9.IsWhole) (arg10 : Memref sig .tc .vmem S1x128x512 .bf16) (harg10 : arg10.IsWhole) (arg11 : Memref sig .tc .vmem S1x1x128 .f32) (harg11 : arg11.IsWhole) (arg12 : Memref sig .tc .vmem S2176x128 .bf16) (harg12 : arg12.IsWhole) (arg13 : Memref sig .tc .vmem S1x8x16x64 .f32) (harg13 : arg13.IsWhole) (arg14 : Memref sig .tc .vmem S1x8x16x64 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x8x16x64 .f32) (harg17 : arg17.IsWhole) (arg18 : Memref sig .tc .vmem S1x8x16x64 .f32) (harg18 : arg18.IsWhole) (arg19 : Memref sig .tc .vmem S1x1x128 .f32) (harg19 : arg19.IsWhole) (arg20 : Memref sig .tc .vmem S2176x512 .f32) (harg20 : arg20.IsWhole) (arg21 : Memref sig .tc .vmem S2176x512 .f32) (harg21 : arg21.IsWhole) (v20 : FVec F S8x512 .f32) (v26 : FVec F S8x512 .f32) (v27 : FVec F S8x512 .f32) (v29_1 : FVec F S8x512 .f32) (v86 : IVec S8x512 1) (v178 : FVec F S8x512 .f32) (v180 : FVec F S8x512 .f32) (cst_49 : F .f32) (X_arg3 : BufTy.Contents (Elt F) arg3.view.ty) (X_arg4 : BufTy.Contents (Elt F) arg4.view.ty) (k : Fin k1_t2_loop.trips) (z a : Pair F) (f_arg20 : BufTy.Contents (Elt F) arg20.view.ty) (f_arg21 : BufTy.Contents (Elt F) arg21.view.ty) :
    tripL_k1_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v26 v27 v29_1 v86 v178 v180 cst_49 X_arg3 X_arg4 k (four z a) f_arg20 f_arg21 = (scan4 arg3 arg4 arg20 arg21 v20 v26 X_arg3 X_arg4 f_arg20 f_arg21 k z a).2 := by
  sl_kernel_rfl

end Cert.KernelIdeal.Run

end
-- ==== Proof.Trips.lean ====
/- The loops of the two scan kernels as wholes: by induction over the trips, the carried state after `k` trips of eight
   steps and the contents of the scratch arrays. -/
module

public import proofs.«01_k».proof.Proof.Scan

@[expose] public section

set_option maxRecDepth 8192
noncomputable section

namespace Cert.KernelIdeal.Run

open Cert.KernelIdeal.Gen Cert.S5
open Idealize.ShloMosaic Idealize.ShloMosaic.Tactic Idealize.ShloMosaic.TcCoe

variable {F : FTy → Type} [FloatOps F]

/-- Where a row of the array lies in its block. -/
abbrev inBlk (y : S2176x512.Idx) : S8x512.Idx := ix2 ⟨(y 0).val % 8, Nat.mod_lt _ (by decide)⟩ (y 1)

/-- The totals of the segments after `k` trips. -/
theorem totals_k0_t1 (𝒱 : Variants) (c : Dev nD) (bd : Option 𝒱.V) (i : grid0.Coords) (arg1 : Memref sig .tc .vmem S2176x128 .f32) (harg1 : arg1.IsWhole) (arg2 : Memref sig .tc .vmem S1x128x512 .bf16) (harg2 : arg2.IsWhole) (arg3 : Memref sig .tc .vmem S1x128x512 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x1x128 .f32) (harg8 : arg8.IsWhole) (arg9 : Memref sig .tc .vmem S2176x512 .f32) (harg9 : arg9.IsWhole) (arg10 : Memref sig .tc .vmem S2176x512 .f32) (harg10 : arg10.IsWhole) (arg11 : Memref sig .tc .vmem S2176x128 .f32) (harg11 : arg11.IsWhole) (v11 : Vec F S1x1x512 .f32) (v15 : Vec F S1x1x512 .f32) (X_arg9 : BufTy.Contents (Elt F) arg9.view.ty) (X_arg10 : BufTy.Contents (Elt F) arg10.view.ty) (init : Pair F) : ∀ k ≤ 34,
    st_k0_t1 𝒱 c bd i arg1 harg1 arg2 harg2 arg3 harg3 arg4 harg4 arg5 harg5 arg6 harg6 arg7 harg7 arg8 harg8 arg9 harg9 arg10 harg10 arg11 harg11 v11 v15 X_arg9 X_arg10 init k = vrun (k0_pay41 v11) (k0_pay42 v15) (fun i => pairAt arg9 arg10 X_arg9 X_arg10 (i)) init (8 * k)
  | 0, _ => rfl
  | k + 1, h => by
    have hk : k < k0_t1_loop.trips := lt_of_lt_of_eq (show k < 34 by omega) (show 34 = k0_t1_loop.trips by decide +kernel)
    refine (st_k0_t1_succ 𝒱 c bd i arg1 harg1 arg2 harg2 arg3 harg3 arg4 harg4 arg5 harg5 arg6 harg6 arg7 harg7 arg8 harg8 arg9 harg9 arg10 harg10 arg11 harg11 v11 v15 X_arg9 X_arg10 init ⟨k, hk⟩).trans ?_
    rw [trip1, totals_k0_t1 𝒱 c bd i arg1 harg1 arg2 harg2 arg3 harg3 arg4 harg4 arg5 harg5 arg6 harg6 arg7 harg7 arg8 harg8 arg9 harg9 arg10 harg10 arg11 harg11 v11 v15 X_arg9 X_arg10 init k (by omega),
      vrun_congr _ _ _ 8 (fun s hs => loads1_eq arg9 arg10 X_arg9 X_arg10 ⟨k, hk⟩ s hs)]
    exact vrun_add (k0_pay41 v11) (k0_pay42 v15) (fun i => pairAt arg9 arg10 X_arg9 X_arg10 (i)) init (8 * k) 8

/-- The totals of the segments after `k` trips. -/
theorem totals_k1_t1 (𝒱 : Variants) (c : Dev nD) (bd : Option 𝒱.V) (i : grid1.Coords) (arg1 : Memref sig .tc .vmem S2176x128 .f32) (harg1 : arg1.IsWhole) (arg2 : Memref sig .tc .vmem S2176x128 .f32) (harg2 : arg2.IsWhole) (arg3 : Memref sig .tc .vmem S2176x512 .f32) (harg3 : arg3.IsWhole) (arg4 : Memref sig .tc .vmem S2176x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x512 .bf16) (harg9 : arg9.IsWhole) (arg10 : Memref sig .tc .vmem S1x128x512 .bf16) (harg10 : arg10.IsWhole) (arg11 : Memref sig .tc .vmem S1x1x128 .f32) (harg11 : arg11.IsWhole) (arg12 : Memref sig .tc .vmem S2176x128 .bf16) (harg12 : arg12.IsWhole) (arg13 : Memref sig .tc .vmem S1x8x16x64 .f32) (harg13 : arg13.IsWhole) (arg14 : Memref sig .tc .vmem S1x8x16x64 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x8x16x64 .f32) (harg17 : arg17.IsWhole) (arg18 : Memref sig .tc .vmem S1x8x16x64 .f32) (harg18 : arg18.IsWhole) (arg19 : Memref sig .tc .vmem S1x1x128 .f32) (harg19 : arg19.IsWhole) (arg20 : Memref sig .tc .vmem S2176x512 .f32) (harg20 : arg20.IsWhole) (arg21 : Memref sig .tc .vmem S2176x512 .f32) (harg21 : arg21.IsWhole) (v17 : Vec F S1x1x512 .f32) (v21 : Vec F S1x1x512 .f32) (X_arg20 : BufTy.Contents (Elt F) arg20.view.ty) (X_arg21 : BufTy.Contents (Elt F) arg21.view.ty) (init : Pair F) : ∀ k ≤ 34,
    st_k1_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v17 v21 X_arg20 X_arg21 init k = vrun (k1_pay91 v17) (k1_pay92 v21) (fun i => pairAt arg20 arg21 X_arg20 X_arg21 (271 - i)) init (8 * k)
  | 0, _ => rfl
  | k + 1, h => by
    have hk : k < k1_t1_loop.trips := lt_of_lt_of_eq (show k < 34 by omega) (show 34 = k1_t1_loop.trips by decide +kernel)
    refine (st_k1_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v17 v21 X_arg20 X_arg21 init ⟨k, hk⟩).trans ?_
    rw [trip3, totals_k1_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v17 v21 X_arg20 X_arg21 init k (by omega),
      vrun_congr _ _ _ 8 (fun s hs => loads3_eq arg20 arg21 X_arg20 X_arg21 ⟨k, hk⟩ s hs)]
    exact vrun_add (k1_pay91 v17) (k1_pay92 v21) (fun i => pairAt arg20 arg21 X_arg20 X_arg21 (271 - i)) init (8 * k) 8

/-- The forward scan after `k` trips: the carried state, and the scratch arrays with the states written over the rows so far. -/
theorem scan_k0_t2 (𝒱 : Variants) (c : Dev nD) (bd : Option 𝒱.V) (i : grid0.Coords) (arg1 : Memref sig .tc .vmem S2176x128 .f32) (harg1 : arg1.IsWhole) (arg2 : Memref sig .tc .vmem S1x128x512 .bf16) (harg2 : arg2.IsWhole) (arg3 : Memref sig .tc .vmem S1x128x512 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x1x128 .f32) (harg8 : arg8.IsWhole) (arg9 : Memref sig .tc .vmem S2176x512 .f32) (harg9 : arg9.IsWhole) (arg10 : Memref sig .tc .vmem S2176x512 .f32) (harg10 : arg10.IsWhole) (arg11 : Memref sig .tc .vmem S2176x128 .f32) (harg11 : arg11.IsWhole) (v14 : FVec F S8x512 .f32) (v18 : FVec F S8x512 .f32) (c0_i32_51 : BitVec 32) (G9 : BufTy.Contents (Elt F) arg9.view.ty) (G10 : BufTy.Contents (Elt F) arg10.view.ty) (init : Pair F) : ∀ k ≤ 34,
    (st_k0_t2 𝒱 c bd i arg1 harg1 arg2 harg2 arg3 harg3 arg4 harg4 arg5 harg5 arg6 harg6 arg7 harg7 arg8 harg8 arg9 harg9 arg10 harg10 arg11 harg11 v14 v18 c0_i32_51 G9 G10 init k).1 = vrun v14 v18 (fun i => pairAt arg9 arg10 G9 G10 i) init (8 * k)
      ∧ (∀ y, arg9.view.read (Elt F) (arg9.view.writes (Elt F) G9 (st_k0_t2 𝒱 c bd i arg1 harg1 arg2 harg2 arg3 harg3 arg4 harg4 arg5 harg5 arg6 harg6 arg7 harg7 arg8 harg8 arg9 harg9 arg10 harg10 arg11 harg11 v14 v18 c0_i32_51 G9 G10 init k).2.1) y = if (y 0).val / 8 < 8 * k then (vrun v14 v18 (fun i => pairAt arg9 arg10 G9 G10 i) init ((y 0).val / 8 + 1)).1 (inBlk y) else arg9.view.read (Elt F) G9 y)
      ∧ (∀ y, arg10.view.read (Elt F) (arg10.view.writes (Elt F) G10 (st_k0_t2 𝒱 c bd i arg1 harg1 arg2 harg2 arg3 harg3 arg4 harg4 arg5 harg5 arg6 harg6 arg7 harg7 arg8 harg8 arg9 harg9 arg10 harg10 arg11 harg11 v14 v18 c0_i32_51 G9 G10 init k).2.2) y = if (y 0).val / 8 < 8 * k then (vrun v14 v18 (fun i => pairAt arg9 arg10 G9 G10 i) init ((y 0).val / 8 + 1)).2 (inBlk y) else arg10.view.read (Elt F) G10 y)
  | 0, _ => ⟨rfl, fun y => (if_neg (by omega)).symm, fun y => (if_neg (by omega)).symm⟩
  | k + 1, h => by
    obtain ⟨hz, h9, h10⟩ := scan_k0_t2 𝒱 c bd i arg1 harg1 arg2 harg2 arg3 harg3 arg4 harg4 arg5 harg5 arg6 harg6 arg7 harg7 arg8 harg8 arg9 harg9 arg10 harg10 arg11 harg11 v14 v18 c0_i32_51 G9 G10 init k (by omega)
    have hk : k < k0_t2_loop.trips := lt_of_lt_of_eq (show k < 34 by omega) (show 34 = k0_t2_loop.trips by decide +kernel)
    have e := st_k0_t2_succ 𝒱 c bd i arg1 harg1 arg2 harg2 arg3 harg3 arg4 harg4 arg5 harg5 arg6 harg6 arg7 harg7 arg8 harg8 arg9 harg9 arg10 harg10 arg11 harg11 v14 v18 c0_i32_51 G9 G10 init ⟨k, hk⟩
    rw [trip2, trip2_stores] at e
    dsimp only at e
    generalize (st_k0_t2 𝒱 c bd i arg1 harg1 arg2 harg2 arg3 harg3 arg4 harg4 arg5 harg5 arg6 harg6 arg7 harg7 arg8 harg8 arg9 harg9 arg10 harg10 arg11 harg11 v14 v18 c0_i32_51 G9 G10 init k) = S at e hz h9 h10
    have hX : ∀ s < 8, loads2 arg9 arg10 (arg9.view.writes (Elt F) G9 S.2.1) (arg10.view.writes (Elt F) G10 S.2.2) ⟨k, hk⟩ s
        = (fun i => pairAt arg9 arg10 G9 G10 i) (8 * k + s) := fun s hs => by
      rw [loads2_eq _ _ _ _ _ s hs]
      refine Prod.ext ?_ ?_
      · show block (arg9.view.read (Elt F) (arg9.view.writes (Elt F) G9 S.2.1)) (8 * k + s) = block (arg9.view.read (Elt F) G9) (8 * k + s)
        refine block_congr (show 8 * k + s < 272 by omega) fun y hy => ?_
        rw [h9 y, if_neg (by omega)]
      · show block (arg10.view.read (Elt F) (arg10.view.writes (Elt F) G10 S.2.2)) (8 * k + s) = block (arg10.view.read (Elt F) G10) (8 * k + s)
        refine block_congr (show 8 * k + s < 272 by omega) fun y hy => ?_
        rw [h10 y, if_neg (by omega)]
    have hr : ∀ j ≤ 8, vrun v14 v18 (loads2 arg9 arg10 (arg9.view.writes (Elt F) G9 S.2.1) (arg10.view.writes (Elt F) G10 S.2.2) ⟨k, hk⟩) S.1 j
        = vrun v14 v18 (fun i => pairAt arg9 arg10 G9 G10 i) init (8 * k + j) := fun j hj => by
      rw [vrun_congr _ _ _ j fun s hs => hX s (by omega), hz]
      exact vrun_add v14 v18 (fun i => pairAt arg9 arg10 G9 G10 i) init (8 * k) j
    have hoff : ∀ s < 8, k0_off2 ⟨k, hk⟩ (BitVec.ofNat 32 (s % 8)) = ![8 * (8 * k + s), 0] := fun s hs =>
      (k0_off2_eq ⟨k, hk⟩ ⟨s % 8, Nat.mod_lt _ (by decide)⟩).trans (by simp only [Nat.mod_eq_of_lt hs])
    rw [e]
    refine ⟨hr 8 (le_refl 8), fun y => ?_, fun y => ?_⟩
    · dsimp only
      rw [writes_app, stores2_eq]
      by_cases hy : 8 * k ≤ (y 0).val / 8 ∧ (y 0).val / 8 < 8 * k + 8
      · rw [if_pos (by omega), stores_in arg9 _ _ (fun s => 8 * k + s) 8 hoff (fun s _ t _ e => by first | omega | (dsimp only at e; omega)) _ _ y ((y 0).val / 8 - 8 * k)
          (by first | omega | (dsimp only; omega)) 8 (le_refl 8) (by omega)]
        dsimp only
        rw [hr _ (by omega), show 8 * k + ((y 0).val / 8 - 8 * k + 1) = (y 0).val / 8 + 1 by omega]
      · rw [stores_out arg9 _ _ (fun s => 8 * k + s) 8 hoff _ _ y 8 (le_refl 8) (fun s hs e => by first | omega | (dsimp only at e; omega)), h9 y]
        by_cases hl : (y 0).val / 8 < 8 * k
        · rw [if_pos hl, if_pos (by omega)]
        · rw [if_neg hl, if_neg (by omega)]
    · dsimp only
      rw [writes_app, stores2_eq]
      by_cases hy : 8 * k ≤ (y 0).val / 8 ∧ (y 0).val / 8 < 8 * k + 8
      · rw [if_pos (by omega), stores_in arg10 _ _ (fun s => 8 * k + s) 8 hoff (fun s _ t _ e => by first | omega | (dsimp only at e; omega)) _ _ y ((y 0).val / 8 - 8 * k)
          (by first | omega | (dsimp only; omega)) 8 (le_refl 8) (by omega)]
        dsimp only
        rw [hr _ (by omega), show 8 * k + ((y 0).val / 8 - 8 * k + 1) = (y 0).val / 8 + 1 by omega]
      · rw [stores_out arg10 _ _ (fun s => 8 * k + s) 8 hoff _ _ y 8 (le_refl 8) (fun s hs e => by first | omega | (dsimp only at e; omega)), h10 y]
        by_cases hl : (y 0).val / 8 < 8 * k
        · rw [if_pos hl, if_pos (by omega)]
        · rw [if_neg hl, if_neg (by omega)]

/-- The reverse scan after `k` trips: the carried state and sums, and the scratch arrays with the gradients of the states
    written over the rows so far, the last rows first. -/
theorem scan_k1_t2 (𝒱 : Variants) (c : Dev nD) (bd : Option 𝒱.V) (i : grid1.Coords) (arg1 : Memref sig .tc .vmem S2176x128 .f32) (harg1 : arg1.IsWhole) (arg2 : Memref sig .tc .vmem S2176x128 .f32) (harg2 : arg2.IsWhole) (arg3 : Memref sig .tc .vmem S2176x512 .f32) (harg3 : arg3.IsWhole) (arg4 : Memref sig .tc .vmem S2176x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x512 .bf16) (harg9 : arg9.IsWhole) (arg10 : Memref sig .tc .vmem S1x128x512 .bf16) (harg10 : arg10.IsWhole) (arg11 : Memref sig .tc .vmem S1x1x128 .f32) (harg11 : arg11.IsWhole) (arg12 : Memref sig .tc .vmem S2176x128 .bf16) (harg12 : arg12.IsWhole) (arg13 : Memref sig .tc .vmem S1x8x16x64 .f32) (harg13 : arg13.IsWhole) (arg14 : Memref sig .tc .vmem S1x8x16x64 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x8x16x64 .f32) (harg17 : arg17.IsWhole) (arg18 : Memref sig .tc .vmem S1x8x16x64 .f32) (harg18 : arg18.IsWhole) (arg19 : Memref sig .tc .vmem S1x1x128 .f32) (harg19 : arg19.IsWhole) (arg20 : Memref sig .tc .vmem S2176x512 .f32) (harg20 : arg20.IsWhole) (arg21 : Memref sig .tc .vmem S2176x512 .f32) (harg21 : arg21.IsWhole) (v20 : FVec F S8x512 .f32) (v26 : FVec F S8x512 .f32) (v27 : FVec F S8x512 .f32) (v29_1 : FVec F S8x512 .f32) (v86 : IVec S8x512 1) (v178 : FVec F S8x512 .f32) (v180 : FVec F S8x512 .f32) (cst_49 : F .f32) (X_arg3 : BufTy.Contents (Elt F) arg3.view.ty) (X_arg4 : BufTy.Contents (Elt F) arg4.view.ty) (G20 : BufTy.Contents (Elt F) arg20.view.ty) (G21 : BufTy.Contents (Elt F) arg21.view.ty) (z a : Pair F) : ∀ k ≤ 33,
    (st_k1_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v26 v27 v29_1 v86 v178 v180 cst_49 X_arg3 X_arg4 G20 G21 (four z a) k).1 = four (vrun v20 v26 (fun i => pairAt arg20 arg21 G20 G21 (271 - i)) z (8 * k)) (vsum (vrun v20 v26 (fun i => pairAt arg20 arg21 G20 G21 (271 - i)) z) (fun i => pairAt arg3 arg4 X_arg3 X_arg4 (270 - i)) a (8 * k))
      ∧ (∀ y, arg20.view.read (Elt F) (arg20.view.writes (Elt F) G20 (st_k1_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v26 v27 v29_1 v86 v178 v180 cst_49 X_arg3 X_arg4 G20 G21 (four z a) k).2.1) y = if 272 - 8 * k ≤ (y 0).val / 8 then (vrun v20 v26 (fun i => pairAt arg20 arg21 G20 G21 (271 - i)) z (272 - (y 0).val / 8)).1 (inBlk y) else arg20.view.read (Elt F) G20 y)
      ∧ (∀ y, arg21.view.read (Elt F) (arg21.view.writes (Elt F) G21 (st_k1_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v26 v27 v29_1 v86 v178 v180 cst_49 X_arg3 X_arg4 G20 G21 (four z a) k).2.2) y = if 272 - 8 * k ≤ (y 0).val / 8 then (vrun v20 v26 (fun i => pairAt arg20 arg21 G20 G21 (271 - i)) z (272 - (y 0).val / 8)).2 (inBlk y) else arg21.view.read (Elt F) G21 y)
  | 0, _ => ⟨rfl, fun y => (if_neg (by have := (y 0).isLt; change _ < 2176 at this; omega)).symm,
      fun y => (if_neg (by have := (y 0).isLt; change _ < 2176 at this; omega)).symm⟩
  | k + 1, h => by
    obtain ⟨hz, h20, h21⟩ := scan_k1_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v26 v27 v29_1 v86 v178 v180 cst_49 X_arg3 X_arg4 G20 G21 z a k (by omega)
    have hk : k < k1_t2_loop.trips := lt_of_lt_of_eq (show k < 33 by omega) (show 33 = k1_t2_loop.trips by decide +kernel)
    have e := st_k1_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v26 v27 v29_1 v86 v178 v180 cst_49 X_arg3 X_arg4 G20 G21 (four z a) ⟨k, hk⟩
    rw [hz, trip4, trip4_stores] at e
    dsimp only at e
    generalize (st_k1_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v26 v27 v29_1 v86 v178 v180 cst_49 X_arg3 X_arg4 G20 G21 (four z a) k) = S at e hz h20 h21
    have hoff : ∀ s < 8, k1_off3 ⟨k, hk⟩ (BitVec.ofNat 32 (s % 8)) = ![8 * (271 - (8 * k + s)), 0] := fun s hs =>
      (k1_off3_eq ⟨k, hk⟩ ⟨s % 8, Nat.mod_lt _ (by decide)⟩).trans (by simp only [Nat.mod_eq_of_lt hs])
    unfold scan4 at e
    rw [gscan_eq arg20 arg21 _ _ (fun s => 271 - (8 * k + s)) 8 hoff (fun s _ t _ e => by first | omega | (dsimp only at e; omega))
      (fun s _ => by first | omega | (dsimp only; omega)) _ _ _ _ _ _ _ 8 (le_refl 8)] at e
    have hX : ∀ s < 8, pairAt arg20 arg21 (arg20.view.writes (Elt F) G20 S.2.1) (arg21.view.writes (Elt F) G21 S.2.2) (271 - (8 * k + s))
        = (fun i => pairAt arg20 arg21 G20 G21 (271 - i)) (8 * k + s) := fun s hs => by
      refine Prod.ext ?_ ?_
      · show block (arg20.view.read (Elt F) (arg20.view.writes (Elt F) G20 S.2.1)) (271 - (8 * k + s)) = block (arg20.view.read (Elt F) G20) (271 - (8 * k + s))
        refine block_congr (show 271 - (8 * k + s) < 272 by omega) fun y hy => ?_
        rw [h20 y, if_neg (by omega)]
      · show block (arg21.view.read (Elt F) (arg21.view.writes (Elt F) G21 S.2.2)) (271 - (8 * k + s)) = block (arg21.view.read (Elt F) G21) (271 - (8 * k + s))
        refine block_congr (show 271 - (8 * k + s) < 272 by omega) fun y hy => ?_
        rw [h21 y, if_neg (by omega)]
    have hr : ∀ j ≤ 8, vrun v20 v26 (fun s => pairAt arg20 arg21 (arg20.view.writes (Elt F) G20 S.2.1) (arg21.view.writes (Elt F) G21 S.2.2) (271 - (8 * k + s)))
        (vrun v20 v26 (fun i => pairAt arg20 arg21 G20 G21 (271 - i)) z (8 * k)) j = vrun v20 v26 (fun i => pairAt arg20 arg21 G20 G21 (271 - i)) z (8 * k + j) := fun j hj => by
      rw [vrun_congr _ _ _ j fun s hs => hX s (by omega)]
      exact vrun_add v20 v26 (fun i => pairAt arg20 arg21 G20 G21 (271 - i)) z (8 * k) j
    rw [e]
    refine ⟨congrArg₂ four (hr 8 (le_refl 8)) ?_, fun y => ?_, fun y => ?_⟩
    · refine (vsum_congr (Z' := fun i => vrun v20 v26 (fun i => pairAt arg20 arg21 G20 G21 (271 - i)) z (8 * k + i)) _ 8 (fun s hs => hr (s + 1) (by omega)) fun s hs => saved4_eq arg3 arg4 X_arg3 X_arg4 ⟨k, hk⟩ s hs).trans ?_
      exact vsum_add (vrun v20 v26 (fun i => pairAt arg20 arg21 G20 G21 (271 - i)) z) (fun i => pairAt arg3 arg4 X_arg3 X_arg4 (270 - i)) a (8 * k) 8
    · dsimp only
      have hy0 : (y 0).val < 2176 := (y 0).isLt
      rw [writes_app]
      by_cases hy : 264 - 8 * k ≤ (y 0).val / 8 ∧ (y 0).val / 8 < 272 - 8 * k
      · rw [if_pos (by omega), stores_in arg20 _ _ (fun s => 271 - (8 * k + s)) 8 hoff (fun s _ t _ e => by first | omega | (dsimp only at e; omega)) _ _ y (271 - 8 * k - (y 0).val / 8)
          (by first | omega | (dsimp only; omega)) 8 (le_refl 8) (by omega)]
        dsimp only
        rw [hr _ (by omega), show 8 * k + (271 - 8 * k - (y 0).val / 8 + 1) = 272 - (y 0).val / 8 by omega]
      · rw [stores_out arg20 _ _ (fun s => 271 - (8 * k + s)) 8 hoff _ _ y 8 (le_refl 8) (fun s hs e => by first | omega | (dsimp only at e; omega)), h20 y]
        by_cases hl : 272 - 8 * k ≤ (y 0).val / 8
        · rw [if_pos hl, if_pos (by omega)]
        · rw [if_neg hl, if_neg (by omega)]
    · dsimp only
      have hy0 : (y 0).val < 2176 := (y 0).isLt
      rw [writes_app]
      by_cases hy : 264 - 8 * k ≤ (y 0).val / 8 ∧ (y 0).val / 8 < 272 - 8 * k
      · rw [if_pos (by omega), stores_in arg21 _ _ (fun s => 271 - (8 * k + s)) 8 hoff (fun s _ t _ e => by first | omega | (dsimp only at e; omega)) _ _ y (271 - 8 * k - (y 0).val / 8)
          (by first | omega | (dsimp only; omega)) 8 (le_refl 8) (by omega)]
        dsimp only
        rw [hr _ (by omega), show 8 * k + (271 - 8 * k - (y 0).val / 8 + 1) = 272 - (y 0).val / 8 by omega]
      · rw [stores_out arg21 _ _ (fun s => 271 - (8 * k + s)) 8 hoff _ _ y 8 (le_refl 8) (fun s hs e => by first | omega | (dsimp only at e; omega)), h21 y]
        by_cases hl : 272 - 8 * k ≤ (y 0).val / 8
        · rw [if_pos hl, if_pos (by omega)]
        · rw [if_neg hl, if_neg (by omega)]

end Cert.KernelIdeal.Run

end
-- ==== Proof.FwdVal.lean ====
/- What the forward call leaves: the states of the recursion and the outputs, as functions of the blocks it reads. -/
module

public import proofs.«01_k».proof.Proof.Trips
public import proofs.«01_k».proof.Proof.Fwd
public import Idealize.ShloMosaic.Lib.Pipeline.Value

@[expose] public section

set_option maxRecDepth 8192
noncomputable section

namespace Cert.KernelIdeal.Run

open Cert.KernelIdeal.Gen Cert.S5
open Idealize.ShloMosaic Idealize.ShloMosaic.Tactic Idealize.ShloMosaic.TcCoe

variable {F : FTy → Type} [FloatOps F]

/-- The product of two pairs as complex numbers. -/
def vmul (x y : Pair F) : Pair F := (subf (mulf x.1 y.1) (mulf x.2 y.2), addf (mulf x.1 y.2) (mulf x.2 y.1))

/-- The pair to the power 2, 4, 8, … by squaring. -/
def vsq (a : Pair F) : ℕ → Pair F
  | 0 => a
  | n + 1 => vmul (vsq a n) (vsq a n)

/-- The pair to the power 272 = 16 + 256. -/
def vpow272 (a : Pair F) : Pair F := vmul (vsq a 4) (vsq a 8)

/-- The zero block. -/
abbrev zeroBlk : FVec F S8x512 .f32 := broadcast S8x512 (Scalar.ofBits .f32 0x00000000#32 : F .f32)

/-- What enters the segments after `n` exchanges between neighbours: every segment but the one at the edge takes over what
    its neighbour has let out, and the one at the edge takes zero. -/
def carry (mask : IVec S8x512 1) (sh : BitVec 32) (p T : Pair F) : ℕ → Pair F
  | 0 => (zeroBlk, zeroBlk)
  | n + 1 =>
    (select mask zeroBlk (dynamicRotate 0 sh none (vstep p.1 p.2 (carry mask sh p T n) T).1 rotates_S8x512_d0),
     select mask zeroBlk (dynamicRotate 0 sh none (vstep p.1 p.2 (carry mask sh p T n) T).2 rotates_S8x512_d0))

section Fwd

variable (c : Dev nD) (i : grid0.Coords) (arg1 : Memref sig .tc .vmem S2176x128 .f32) (harg1 : arg1.IsWhole) (arg2 : Memref sig .tc .vmem S1x128x512 .bf16) (harg2 : arg2.IsWhole) (arg3 : Memref sig .tc .vmem S1x128x512 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x1x128 .f32) (harg8 : arg8.IsWhole) (arg9 : Memref sig .tc .vmem S2176x512 .f32) (harg9 : arg9.IsWhole) (arg10 : Memref sig .tc .vmem S2176x512 .f32) (harg10 : arg10.IsWhole) (arg11 : Memref sig .tc .vmem S2176x128 .f32) (harg11 : arg11.IsWhole)
  (x0 : Vec F S2176x128 .f32) (x1 : Vec F S1x128x512 .bf16) (x2 : Vec F S1x128x512 .bf16) (x3 : Vec F S1x1x512 .f32) (x4 : Vec F S1x1x512 .f32) (x5 : Vec F S1x128x512 .bf16) (x6 : Vec F S1x128x512 .bf16) (x7 : Vec F S1x1x128 .f32)

abbrev ld1 : Vec F S2176x128 .f32 := arg1.view.readAt (Elt F) (Rect.unit ![0, 0] S2176x128.size inb_S2176x128_S2176x128_0_0).toLoadRect (harg1.unread x0)
abbrev fwdA : Pair F :=
  (k0_pay41 (arg4.view.readAt (Elt F) (Rect.unit ![0, 0, 0] S1x1x512.size inb_S1x1x512_S1x1x512_0_0_0).toLoadRect (harg4.unread x3)),
   k0_pay42 (arg5.view.readAt (Elt F) (Rect.unit ![0, 0, 0] S1x1x512.size inb_S1x1x512_S1x1x512_0_0_0).toLoadRect (harg5.unread x4)))
abbrev fwdH8 : List (View.Piece (Elt F) S2176x512 .f32) :=
  [⟨Rect.unit ![0, 0] S2176x512.size inb_S2176x512_S2176x512_0_0,
    k0_pay39 (arg1.view.readAt (Elt F) (Rect.unit ![0, 0] S2176x128.size inb_S2176x128_S2176x128_0_0).toLoadRect (harg1.unread x0))
      (arg2.view.readAt (Elt F) (Rect.unit ![0, 0, 0] S1x128x512.size inb_S1x128x512_S1x128x512_0_0_0).toLoadRect (harg2.unread x1))⟩]
abbrev fwdH9 : List (View.Piece (Elt F) S2176x512 .f32) :=
  [⟨Rect.unit ![0, 0] S2176x512.size inb_S2176x512_S2176x512_0_0,
    k0_pay40 (arg1.view.readAt (Elt F) (Rect.unit ![0, 0] S2176x128.size inb_S2176x128_S2176x128_0_0).toLoadRect (harg1.unread x0))
      (arg3.view.readAt (Elt F) (Rect.unit ![0, 0, 0] S1x128x512.size inb_S1x128x512_S1x128x512_0_0_0).toLoadRect (harg3.unread x2))⟩]

/-- The totals of the segments. -/
abbrev fwdT : Pair F :=
  st_k0_t1 Variants.none c none i arg1 harg1 arg2 harg2 arg3 harg3 arg4 harg4 arg5 harg5 arg6 harg6 arg7 harg7 arg8 harg8 arg9 harg9 arg10 harg10 arg11 harg11 (arg4.view.readAt (Elt F) (Rect.unit ![0, 0, 0] S1x1x512.size inb_S1x1x512_S1x1x512_0_0_0).toLoadRect (harg4.unread x3))
    (arg5.view.readAt (Elt F) (Rect.unit ![0, 0, 0] S1x1x512.size inb_S1x1x512_S1x1x512_0_0_0).toLoadRect (harg5.unread x4))
    (arg9.view.writes (Elt F) arg9.view.junk (fwdH8 arg1 harg1 arg2 harg2 x0 x1))
    (arg10.view.writes (Elt F) arg10.view.junk (fwdH9 arg1 harg1 arg3 harg3 x0 x2)) (zeroBlk, zeroBlk) 34

/-- The state of the scan loop at its end. -/
abbrev fwdS : Pair F × List (View.Piece (Elt F) S2176x512 .f32) × List (View.Piece (Elt F) S2176x512 .f32) :=
  st_k0_t2 Variants.none c none i arg1 harg1 arg2 harg2 arg3 harg3 arg4 harg4 arg5 harg5 arg6 harg6 arg7 harg7 arg8 harg8 arg9 harg9 arg10 harg10 arg11 harg11 (fwdA arg4 harg4 arg5 harg5 x3 x4).1 (fwdA arg4 harg4 arg5 harg5 x3 x4).2 0#32
    (arg9.view.writes (Elt F) arg9.view.junk (fwdH8 arg1 harg1 arg2 harg2 x0 x1))
    (arg10.view.writes (Elt F) arg10.view.junk (fwdH9 arg1 harg1 arg3 harg3 x0 x2))
    (carry k0_pay66 1#32 (vpow272 (fwdA arg4 harg4 arg5 harg5 x3 x4)) (fwdT c i arg1 harg1 arg2 harg2 arg3 harg3 arg4 harg4 arg5 harg5 arg6 harg6 arg7 harg7 arg8 harg8 arg9 harg9 arg10 harg10 arg11 harg11 x0 x1 x2 x3 x4) 7) 34

theorem fwdRun_8 : (fwdRun c i arg1 harg1 arg2 harg2 arg3 harg3 arg4 harg4 arg5 harg5 arg6 harg6 arg7 harg7 arg8 harg8 arg9 harg9 arg10 harg10 arg11 harg11 x0 x1 x2 x3 x4 x5 x6 x7).1 = (fwdS c i arg1 harg1 arg2 harg2 arg3 harg3 arg4 harg4 arg5 harg5 arg6 harg6 arg7 harg7 arg8 harg8 arg9 harg9 arg10 harg10 arg11 harg11 x0 x1 x2 x3 x4).2.1 ++ fwdH8 arg1 harg1 arg2 harg2 x0 x1 := by
  sl_kernel_rfl

theorem fwdRun_9 : (fwdRun c i arg1 harg1 arg2 harg2 arg3 harg3 arg4 harg4 arg5 harg5 arg6 harg6 arg7 harg7 arg8 harg8 arg9 harg9 arg10 harg10 arg11 harg11 x0 x1 x2 x3 x4 x5 x6 x7).2.1 = (fwdS c i arg1 harg1 arg2 harg2 arg3 harg3 arg4 harg4 arg5 harg5 arg6 harg6 arg7 harg7 arg8 harg8 arg9 harg9 arg10 harg10 arg11 harg11 x0 x1 x2 x3 x4).2.2 ++ fwdH9 arg1 harg1 arg3 harg3 x0 x2 := by
  sl_kernel_rfl

theorem fwdRun_10 : (fwdRun c i arg1 harg1 arg2 harg2 arg3 harg3 arg4 harg4 arg5 harg5 arg6 harg6 arg7 harg7 arg8 harg8 arg9 harg9 arg10 harg10 arg11 harg11 x0 x1 x2 x3 x4 x5 x6 x7).2.2.1 =
    [⟨Rect.unit ![0, 0] S2176x128.size inb_S2176x128_S2176x128_0_0,
      k0_pay2 (arg9.view.readAt (Elt F) (Rect.unit ![0, 0] S2176x512.size inb_S2176x512_S2176x512_0_0).toLoadRect
          (arg9.view.writes (Elt F) (arg9.view.writes (Elt F) arg9.view.junk (fwdH8 arg1 harg1 arg2 harg2 x0 x1)) (fwdS c i arg1 harg1 arg2 harg2 arg3 harg3 arg4 harg4 arg5 harg5 arg6 harg6 arg7 harg7 arg8 harg8 arg9 harg9 arg10 harg10 arg11 harg11 x0 x1 x2 x3 x4).2.1))
        (arg6.view.readAt (Elt F) (Rect.unit ![0, 0, 0] S1x128x512.size inb_S1x128x512_S1x128x512_0_0_0).toLoadRect (harg6.unread x5))
        (arg10.view.readAt (Elt F) (Rect.unit ![0, 0] S2176x512.size inb_S2176x512_S2176x512_0_0).toLoadRect
          (arg10.view.writes (Elt F) (arg10.view.writes (Elt F) arg10.view.junk (fwdH9 arg1 harg1 arg3 harg3 x0 x2)) (fwdS c i arg1 harg1 arg2 harg2 arg3 harg3 arg4 harg4 arg5 harg5 arg6 harg6 arg7 harg7 arg8 harg8 arg9 harg9 arg10 harg10 arg11 harg11 x0 x1 x2 x3 x4).2.2))
        (arg7.view.readAt (Elt F) (Rect.unit ![0, 0, 0] S1x128x512.size inb_S1x128x512_S1x128x512_0_0_0).toLoadRect (harg7.unread x6))
        (arg8.view.readAt (Elt F) (Rect.unit ![0, 0, 0] S1x1x128.size inb_S1x1x128_S1x1x128_0_0_0).toLoadRect (harg8.unread x7))
        (arg1.view.readAt (Elt F) (Rect.unit ![0, 0] S2176x128.size inb_S2176x128_S2176x128_0_0).toLoadRect (harg1.unread x0))⟩] := by
  sl_kernel_rfl

end Fwd

/-- A load of a whole array held as given. -/
theorem load_whole {s : Shape} {e : EltTy} (m : Memref sig .tc .vmem s e) (h : m.IsWhole) {off : Fin s.rank → ℕ} (h0 : off = fun _ => 0)
    (inb : ∀ a, off a + s.size a ≤ s.size a) (x : Vec F s e) :
    m.view.readAt (Elt F) (Rect.unit off s.size inb).toLoadRect (h.unread x) = x := by
  have e1 := View.readAt_eq_ld m.view (h.unread x) (Rect.unit off s.size inb)
  exact e1.trans ((View.ld_unit_zero h0 inb _).trans (h.read_unread x))

/-- A load of a whole array. -/
theorem load_all {s : Shape} {e : EltTy} (m : Memref sig .tc .vmem s e) {off : Fin s.rank → ℕ} (h0 : off = fun _ => 0)
    (inb : ∀ a, off a + s.size a ≤ s.size a) (f : BufTy.Contents (Elt F) m.view.ty) :
    m.view.readAt (Elt F) (Rect.unit off s.size inb).toLoadRect f = m.view.read (Elt F) f :=
  (View.readAt_eq_ld m.view f (Rect.unit off s.size inb)).trans (View.ld_unit_zero h0 inb _)

/-- What an array reads after a store of all of it. -/
theorem read_stored {s : Shape} {e : EltTy} (v : View sig .tc .vmem s e) {off : Fin s.rank → ℕ} (h0 : off = fun _ => 0)
    (inb : ∀ a, off a + s.size a ≤ s.size a) (f : v.ty.Contents (Elt F)) (w : Vec F s e) :
    v.read (Elt F) (v.writes (Elt F) f [⟨Rect.unit off s.size inb, w⟩]) = w := by
  funext y
  exact View.read_writes_cons_unit_of_mem v f inb w [] y y h0 fun a => by rw [Nat.zero_add]

theorem zero2 : (![0, 0] : Fin 2 → ℕ) = fun _ => 0 := by
  funext a
  match a with
  | ⟨0, _⟩ => rfl
  | ⟨1, _⟩ => rfl

theorem zero3 : (![0, 0, 0] : Fin 3 → ℕ) = fun _ => 0 := by
  funext a
  match a with
  | ⟨0, _⟩ => rfl
  | ⟨1, _⟩ => rfl
  | ⟨2, _⟩ => rfl

/-- The blocks of two arrays, as pairs. -/
def blocks (f g : FVec F S2176x512 .f32) : ℕ → Pair F := fun i => (block f i, block g i)

/-- The states of all rows, from the pair `a` and the terms added row by row: the totals of the segments from zero, the exchanges
    between the segments, then the recursion from what enters each segment. -/
def scanned (mask : IVec S8x512 1) (sh : BitVec 32) (a : Pair F) (X : ℕ → Pair F) : ℕ → Pair F :=
  vrun a.1 a.2 X (carry mask sh (vpow272 a) (vrun a.1 a.2 X (zeroBlk, zeroBlk) 272) 7)

section Fwd

variable (c : Dev nD) (i : grid0.Coords) (arg1 : Memref sig .tc .vmem S2176x128 .f32) (harg1 : arg1.IsWhole) (arg2 : Memref sig .tc .vmem S1x128x512 .bf16) (harg2 : arg2.IsWhole) (arg3 : Memref sig .tc .vmem S1x128x512 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x1x128 .f32) (harg8 : arg8.IsWhole) (arg9 : Memref sig .tc .vmem S2176x512 .f32) (harg9 : arg9.IsWhole) (arg10 : Memref sig .tc .vmem S2176x512 .f32) (harg10 : arg10.IsWhole) (arg11 : Memref sig .tc .vmem S2176x128 .f32) (harg11 : arg11.IsWhole)
  (x0 : Vec F S2176x128 .f32) (x1 : Vec F S1x128x512 .bf16) (x2 : Vec F S1x128x512 .bf16) (x3 : Vec F S1x1x512 .f32) (x4 : Vec F S1x1x512 .f32) (x5 : Vec F S1x128x512 .bf16) (x6 : Vec F S1x128x512 .bf16) (x7 : Vec F S1x1x128 .f32)

/-- The states of the forward call. -/
def fwdStates (x0 : Vec F S2176x128 .f32) (x1 : Vec F S1x128x512 .bf16) (x2 : Vec F S1x128x512 .bf16) (x3 : Vec F S1x1x512 .f32) (x4 : Vec F S1x1x512 .f32) : ℕ → Pair F :=
  scanned k0_pay66 1#32 (k0_pay41 x3, k0_pay42 x4) (blocks (k0_pay39 x0 x1) (k0_pay40 x0 x2))

def fwdSre (x0 : Vec F S2176x128 .f32) (x1 : Vec F S1x128x512 .bf16) (x2 : Vec F S1x128x512 .bf16) (x3 : Vec F S1x1x512 .f32) (x4 : Vec F S1x1x512 .f32) : FVec F S2176x512 .f32 :=
  glue fun i => (fwdStates x0 x1 x2 x3 x4 (i + 1)).1
def fwdSim (x0 : Vec F S2176x128 .f32) (x1 : Vec F S1x128x512 .bf16) (x2 : Vec F S1x128x512 .bf16) (x3 : Vec F S1x1x512 .f32) (x4 : Vec F S1x1x512 .f32) : FVec F S2176x512 .f32 :=
  glue fun i => (fwdStates x0 x1 x2 x3 x4 (i + 1)).2

theorem fwdA_eq : fwdA arg4 harg4 arg5 harg5 x3 x4 = (k0_pay41 x3, k0_pay42 x4) := by
  unfold fwdA
  rw [load_whole arg4 harg4 zero3, load_whole arg5 harg5 zero3]

theorem fwdH8_read (v : View sig .tc .vmem S2176x512 .f32) (f : v.ty.Contents (Elt F)) :
    v.read (Elt F) (v.writes (Elt F) f (fwdH8 arg1 harg1 arg2 harg2 x0 x1)) = k0_pay39 x0 x1 := by
  refine (read_stored v zero2 _ f _).trans ?_
  rw [load_whole arg1 harg1 zero2, load_whole arg2 harg2 zero3]

theorem fwdH9_read (v : View sig .tc .vmem S2176x512 .f32) (f : v.ty.Contents (Elt F)) :
    v.read (Elt F) (v.writes (Elt F) f (fwdH9 arg1 harg1 arg3 harg3 x0 x2)) = k0_pay40 x0 x2 := by
  refine (read_stored v zero2 _ f _).trans ?_
  rw [load_whole arg1 harg1 zero2, load_whole arg3 harg3 zero3]

theorem fwdPair : (fun i => pairAt arg9 arg10 (arg9.view.writes (Elt F) arg9.view.junk (fwdH8 arg1 harg1 arg2 harg2 x0 x1))
    (arg10.view.writes (Elt F) arg10.view.junk (fwdH9 arg1 harg1 arg3 harg3 x0 x2)) i) = blocks (k0_pay39 x0 x1) (k0_pay40 x0 x2) := by
  funext i
  unfold pairAt
  rw [fwdH8_read, fwdH9_read]
  rfl

theorem fwdT_eq : fwdT c i arg1 harg1 arg2 harg2 arg3 harg3 arg4 harg4 arg5 harg5 arg6 harg6 arg7 harg7 arg8 harg8 arg9 harg9 arg10 harg10 arg11 harg11 x0 x1 x2 x3 x4
    = vrun (k0_pay41 x3) (k0_pay42 x4) (blocks (k0_pay39 x0 x1) (k0_pay40 x0 x2)) (zeroBlk, zeroBlk) 272 := by
  unfold fwdT
  rw [load_whole arg4 harg4 zero3, load_whole arg5 harg5 zero3]
  refine (totals_k0_t1 Variants.none c none i arg1 harg1 arg2 harg2 arg3 harg3 arg4 harg4 arg5 harg5 arg6 harg6 arg7 harg7 arg8 harg8 arg9 harg9 arg10 harg10 arg11 harg11 _ _ _ _ _ 34 (le_refl 34)).trans ?_
  rw [fwdPair]

/-- The scratch arrays at the end of the scan hold the states. -/
theorem fwdS_read :
    arg9.view.read (Elt F) (arg9.view.writes (Elt F) (arg9.view.writes (Elt F) arg9.view.junk (fwdH8 arg1 harg1 arg2 harg2 x0 x1)) (fwdS c i arg1 harg1 arg2 harg2 arg3 harg3 arg4 harg4 arg5 harg5 arg6 harg6 arg7 harg7 arg8 harg8 arg9 harg9 arg10 harg10 arg11 harg11 x0 x1 x2 x3 x4).2.1)
        = fwdSre x0 x1 x2 x3 x4
      ∧ arg10.view.read (Elt F) (arg10.view.writes (Elt F) (arg10.view.writes (Elt F) arg10.view.junk (fwdH9 arg1 harg1 arg3 harg3 x0 x2)) (fwdS c i arg1 harg1 arg2 harg2 arg3 harg3 arg4 harg4 arg5 harg5 arg6 harg6 arg7 harg7 arg8 harg8 arg9 harg9 arg10 harg10 arg11 harg11 x0 x1 x2 x3 x4).2.2)
        = fwdSim x0 x1 x2 x3 x4 := by
  unfold fwdS
  rw [fwdA_eq, fwdT_eq]
  have h := (scan_k0_t2 Variants.none c none i arg1 harg1 arg2 harg2 arg3 harg3 arg4 harg4 arg5 harg5 arg6 harg6 arg7 harg7 arg8 harg8 arg9 harg9 arg10 harg10 arg11 harg11 (k0_pay41 x3) (k0_pay42 x4) 0#32
    (arg9.view.writes (Elt F) arg9.view.junk (fwdH8 arg1 harg1 arg2 harg2 x0 x1))
    (arg10.view.writes (Elt F) arg10.view.junk (fwdH9 arg1 harg1 arg3 harg3 x0 x2))
    (carry k0_pay66 1#32 (vpow272 (k0_pay41 x3, k0_pay42 x4)) (vrun (k0_pay41 x3) (k0_pay42 x4) (blocks (k0_pay39 x0 x1) (k0_pay40 x0 x2)) (zeroBlk, zeroBlk) 272) 7)
    34 (le_refl 34)).2
  rw [fwdPair] at h
  exact ⟨funext fun y => (h.1 y).trans (if_pos (by have : (y 0).val < 2176 := (y 0).isLt; omega)),
    funext fun y => (h.2 y).trans (if_pos (by have : (y 0).val < 2176 := (y 0).isLt; omega))⟩

theorem fwdVal_10 : fwdOut_10 c i arg1 harg1 arg2 harg2 arg3 harg3 arg4 harg4 arg5 harg5 arg6 harg6 arg7 harg7 arg8 harg8 arg9 harg9 arg10 harg10 arg11 harg11 x0 x1 x2 x3 x4 x5 x6 x7 = k0_pay2 (fwdSre x0 x1 x2 x3 x4) x5 (fwdSim x0 x1 x2 x3 x4) x6 x7 x0 := by
  unfold fwdOut_10
  rw [fwdRun_10]
  refine (read_stored _ zero2 _ _ _).trans ?_
  rw [load_all arg9 zero2, load_all arg10 zero2, (fwdS_read c i arg1 harg1 arg2 harg2 arg3 harg3 arg4 harg4 arg5 harg5 arg6 harg6 arg7 harg7 arg8 harg8 arg9 harg9 arg10 harg10 arg11 harg11 x0 x1 x2 x3 x4).1, (fwdS_read c i arg1 harg1 arg2 harg2 arg3 harg3 arg4 harg4 arg5 harg5 arg6 harg6 arg7 harg7 arg8 harg8 arg9 harg9 arg10 harg10 arg11 harg11 x0 x1 x2 x3 x4).2,
    load_whole arg6 harg6 zero3, load_whole arg7 harg7 zero3, load_whole arg8 harg8 zero3, load_whole arg1 harg1 zero2]

end Fwd

/-- Reading through another view what covering stores have left. -/
theorem read_any (v v' : View sig .tc .vmem S2176x512 .f32) (f : v.ty.Contents (Elt F)) (f' : v'.ty.Contents (Elt F))
    (L : List (View.Piece (Elt F) S2176x512 .f32)) (h : ∀ y : S2176x512.Idx, ∃ p ∈ L, y ∈ p.1.set) :
    v.read (Elt F) (v.writes (Elt F) f L) = v'.read (Elt F) (v'.writes (Elt F) f' L) :=
  (View.read_writes_eq_canon v f L h).trans (View.read_writes_eq_canon v' f' L h).symm

section Fwd

variable (c : Dev nD) (i : grid0.Coords) (arg1 : Memref sig .tc .vmem S2176x128 .f32) (harg1 : arg1.IsWhole) (arg2 : Memref sig .tc .vmem S1x128x512 .bf16) (harg2 : arg2.IsWhole) (arg3 : Memref sig .tc .vmem S1x128x512 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x1x128 .f32) (harg8 : arg8.IsWhole) (arg9 : Memref sig .tc .vmem S2176x512 .f32) (harg9 : arg9.IsWhole) (arg10 : Memref sig .tc .vmem S2176x512 .f32) (harg10 : arg10.IsWhole) (arg11 : Memref sig .tc .vmem S2176x128 .f32) (harg11 : arg11.IsWhole)
  (x0 : Vec F S2176x128 .f32) (x1 : Vec F S1x128x512 .bf16) (x2 : Vec F S1x128x512 .bf16) (x3 : Vec F S1x1x512 .f32) (x4 : Vec F S1x1x512 .f32) (x5 : Vec F S1x128x512 .bf16) (x6 : Vec F S1x128x512 .bf16) (x7 : Vec F S1x1x128 .f32)

theorem fwdVal_8 : fwdOut_8 c i arg1 harg1 arg2 harg2 arg3 harg3 arg4 harg4 arg5 harg5 arg6 harg6 arg7 harg7 arg8 harg8 arg9 harg9 arg10 harg10 arg11 harg11 x0 x1 x2 x3 x4 x5 x6 x7 = fwdSre x0 x1 x2 x3 x4 := by
  unfold fwdOut_8
  refine (read_any VO0_8 arg9.view _ arg9.view.junk _ (fwdCover_8 c i arg1 harg1 arg2 harg2 arg3 harg3 arg4 harg4 arg5 harg5 arg6 harg6 arg7 harg7 arg8 harg8 arg9 harg9 arg10 harg10 arg11 harg11 x0 x1 x2 x3 x4 x5 x6 x7)).trans ?_
  rw [fwdRun_8, writes_app]
  exact (fwdS_read c i arg1 harg1 arg2 harg2 arg3 harg3 arg4 harg4 arg5 harg5 arg6 harg6 arg7 harg7 arg8 harg8 arg9 harg9 arg10 harg10 arg11 harg11 x0 x1 x2 x3 x4).1

theorem fwdVal_9 : fwdOut_9 c i arg1 harg1 arg2 harg2 arg3 harg3 arg4 harg4 arg5 harg5 arg6 harg6 arg7 harg7 arg8 harg8 arg9 harg9 arg10 harg10 arg11 harg11 x0 x1 x2 x3 x4 x5 x6 x7 = fwdSim x0 x1 x2 x3 x4 := by
  unfold fwdOut_9
  refine (read_any VO0_9 arg10.view _ arg10.view.junk _ (fwdCover_9 c i arg1 harg1 arg2 harg2 arg3 harg3 arg4 harg4 arg5 harg5 arg6 harg6 arg7 harg7 arg8 harg8 arg9 harg9 arg10 harg10 arg11 harg11 x0 x1 x2 x3 x4 x5 x6 x7)).trans ?_
  rw [fwdRun_9, writes_app]
  exact (fwdS_read c i arg1 harg1 arg2 harg2 arg3 harg3 arg4 harg4 arg5 harg5 arg6 harg6 arg7 harg7 arg8 harg8 arg9 harg9 arg10 harg10 arg11 harg11 x0 x1 x2 x3 x4).2

end Fwd

end Cert.KernelIdeal.Run

end
-- ==== Proof.Math.lean ====
/- The mathematics of the scan over the complex numbers: a first-order recursion, the same recursion cut into segments whose
   carries are exchanged between neighbours, and how the extended reals of the kernel's pairs of blocks follow it. -/
module

public import proofs.«01_k».proof.Proof.FwdVal
public import Idealize.ShloMosaic.Lib.Pointwise
public import Mathlib.Data.Complex.BigOperators
public import Mathlib.Algebra.BigOperators.Intervals

@[expose] public section

noncomputable section

namespace Cert.S5

open Idealize.ShloMosaic
open scoped ComplexConjugate

/-- The recursion `z ↦ a z + x i` after `n` steps from `z`. -/
def crun (a : ℂ) (x : ℕ → ℂ) (z : ℂ) : ℕ → ℂ
  | 0 => z
  | n + 1 => a * crun a x z n + x n

theorem crun_succ (a : ℂ) (x : ℕ → ℂ) (z : ℂ) (n : ℕ) : crun a x z (n + 1) = a * crun a x z n + x n := rfl

theorem crun_add (a : ℂ) (x : ℕ → ℂ) (z : ℂ) (m : ℕ) : ∀ n, crun a (fun i => x (m + i)) (crun a x z m) n = crun a x z (m + n)
  | 0 => rfl
  | n + 1 => congrArg (fun w => a * w + x (m + n)) (crun_add a x z m n)

/-- The recursion from `z` is the recursion from zero plus `a ^ n z`. -/
theorem crun_start (a : ℂ) (x : ℕ → ℂ) (z : ℂ) : ∀ n, crun a x z n = a ^ n * z + crun a x 0 n
  | 0 => by simp [crun]
  | n + 1 => by rw [crun_succ, crun_succ, crun_start a x z n]; ring

/-- What enters segment `s` is the recursion over the segments, each multiplying by `a ^ m` and adding its own total. -/
theorem crun_segments (a : ℂ) (x : ℕ → ℂ) (m : ℕ) : ∀ s,
    crun (a ^ m) (fun s => crun a (fun i => x (m * s + i)) 0 m) 0 s = crun a x 0 (m * s)
  | 0 => rfl
  | s + 1 => by
    rw [crun_succ, crun_segments a x m s, ← crun_start, crun_add]
    rfl

/-- A sum over `m n` numbers is a sum of `m` sums of `n`. -/
theorem sum_blocks {M : Type} [AddCommMonoid M] (m n : ℕ) (f : ℕ → M) :
    ∑ y ∈ Finset.range (m * n), f y = ∑ i ∈ Finset.range m, ∑ s ∈ Finset.range n, f (n * i + s) := by
  induction m with
  | zero => simp
  | succ m ih => rw [Finset.sum_range_succ, ← ih, Nat.succ_mul, Finset.sum_range_add, Nat.mul_comm n m]

/-- Rows are kept in the order of the segments: row `r` is time `272 (r % 8) + r / 8`. -/
def time (r : ℕ) : ℕ := 272 * (r % 8) + r / 8

theorem sum_time {M : Type} [AddCommMonoid M] (f : ℕ → M) : ∑ r ∈ Finset.range 2176, f (time r) = ∑ t ∈ Finset.range 2176, f t := by
  have h1 := sum_blocks 272 8 fun r => f (time r)
  have h2 := sum_blocks 8 272 f
  rw [Finset.sum_comm] at h2
  refine h1.trans (Eq.trans ?_ h2.symm)
  refine Finset.sum_congr rfl fun i hi => Finset.sum_congr rfl fun s hs => ?_
  have hs := Finset.mem_range.1 hs
  unfold time
  congr 1
  omega

/-- Of `m n` numbers only block `q` counts. -/
theorem sum_diag {M : Type} [AddCommMonoid M] (m n q : ℕ) (hq : q < m) (f : ℕ → M) :
    ∑ y ∈ Finset.range (m * n), (if q = y / n then f y else 0) = ∑ p ∈ Finset.range n, f (n * q + p) := by
  rw [sum_blocks]
  have h : ∀ i ∈ Finset.range m, ∑ s ∈ Finset.range n, (if q = (n * i + s) / n then f (n * i + s) else 0)
      = if q = i then ∑ s ∈ Finset.range n, f (n * i + s) else 0 := fun i _ => by
    have e : ∀ s ∈ Finset.range n, (n * i + s) / n = i := fun s hs => by
      have hs := Finset.mem_range.1 hs
      rw [Nat.mul_add_div (by omega), Nat.div_eq_of_lt hs, Nat.add_zero]
    by_cases hi : q = i
    · rw [if_pos hi]
      exact Finset.sum_congr rfl fun s hs => by rw [e s hs, if_pos hi]
    · rw [if_neg hi]
      exact Finset.sum_eq_zero fun s hs => by rw [e s hs, if_neg hi]
  rw [Finset.sum_congr rfl h, Finset.sum_ite_eq, if_pos (Finset.mem_range.2 hq)]

/-- A finite sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sum_fin (n : ℕ) (f : ℕ → ℝ) : ∑ i : Fin n, ((f i.val : ℝ) : EReal) = ((∑ i ∈ Finset.range n, f i : ℝ) : EReal) := by
  rw [coe_sum, ← Fin.sum_univ_eq_sum_range (fun i => ((f i : ℝ) : EReal))]

/-- The pair holds the complex number `z` at `y`. -/
def At {s : Shape} (p : FVec Ideal s .f32 × FVec Ideal s .f32) (y : s.Idx) (z : ℂ) : Prop :=
  p.1 y = ((z.re : ℝ) : EReal) ∧ p.2 y = ((z.im : ℝ) : EReal)

theorem at_vmul {x w : Pair Ideal} {y : Blk.Idx} {a b : ℂ} (hx : At x y a) (hw : At w y b) : At (KernelIdeal.Run.vmul x w) y (a * b) := by
  refine ⟨?_, ?_⟩
  · show x.1 y * w.1 y - x.2 y * w.2 y = _
    rw [hx.1, hx.2, hw.1, hw.2, Complex.mul_re]
    norm_cast
  · show x.1 y * w.2 y + x.2 y * w.1 y = _
    rw [hx.1, hx.2, hw.1, hw.2, Complex.mul_im]
    norm_cast

theorem at_vstep {A z x : Pair Ideal} {y : Blk.Idx} {a b c : ℂ} (hA : At A y a) (hz : At z y b) (hx : At x y c) :
    At (vstep A.1 A.2 z x) y (a * b + c) := by
  refine ⟨?_, ?_⟩
  · show A.1 y * z.1 y - A.2 y * z.2 y + x.1 y = _
    rw [hA.1, hA.2, hz.1, hz.2, hx.1, Complex.add_re, Complex.mul_re]
    norm_cast
  · show A.1 y * z.2 y + A.2 y * z.1 y + x.2 y = _
    rw [hA.1, hA.2, hz.1, hz.2, hx.2, Complex.add_im, Complex.mul_im]
    norm_cast

theorem at_vrun {A z : Pair Ideal} {X : ℕ → Pair Ideal} {y : Blk.Idx} {a b : ℂ} {x : ℕ → ℂ} (hA : At A y a) (hz : At z y b) :
    ∀ n, (∀ i < n, At (X i) y (x i)) → At (vrun A.1 A.2 X z n) y (crun a x b n)
  | 0, _ => hz
  | n + 1, h => at_vstep hA (at_vrun hA hz n fun i hi => h i (Nat.lt_succ_of_lt hi)) (h n (Nat.lt_succ_self n))

theorem at_vacc {s z p : Pair Ideal} {y : Blk.Idx} {a b c : ℂ} (hs : At s y a) (hz : At z y b) (hp : At p y c) :
    At (vacc s z p) y (a + b * conj c) := by
  refine ⟨?_, ?_⟩
  · show s.1 y + z.1 y * p.1 y + z.2 y * p.2 y = _
    rw [hs.1, hz.1, hz.2, hp.1, hp.2]
    norm_cast
    simp [Complex.mul_re]
    ring
  · show s.2 y + z.2 y * p.1 y - z.1 y * p.2 y = _
    rw [hs.2, hz.1, hz.2, hp.1, hp.2]
    norm_cast
    simp [Complex.mul_im]
    ring

theorem at_vsum {Z P : ℕ → Pair Ideal} {z : Pair Ideal} {y : Blk.Idx} {b : ℂ} {ζ π : ℕ → ℂ} (hz : At z y b) :
    ∀ n, (∀ i < n, At (Z (i + 1)) y (ζ (i + 1))) → (∀ i < n, At (P i) y (π i)) →
      At (vsum Z P z n) y (b + ∑ i ∈ Finset.range n, ζ (i + 1) * conj (π i))
  | 0, _, _ => by simpa [vsum] using hz
  | n + 1, h, h' => by
    rw [Finset.sum_range_succ, ← add_assoc]
    exact at_vacc (at_vsum hz n (fun i hi => h i (Nat.lt_succ_of_lt hi)) fun i hi => h' i (Nat.lt_succ_of_lt hi))
      (h n (Nat.lt_succ_self n)) (h' n (Nat.lt_succ_self n))

theorem at_vsq {A : Pair Ideal} {y : Blk.Idx} {a : ℂ} (hA : At A y a) : ∀ n, At (KernelIdeal.Run.vsq A n) y (a ^ 2 ^ n)
  | 0 => by simpa [KernelIdeal.Run.vsq] using hA
  | n + 1 => by
    have h := at_vmul (at_vsq hA n) (at_vsq hA n)
    rwa [← pow_add, show 2 ^ n + 2 ^ n = 2 ^ (n + 1) by ring] at h

theorem at_vpow {A : Pair Ideal} {y : Blk.Idx} {a : ℂ} (hA : At A y a) : At (KernelIdeal.Run.vpow272 A) y (a ^ 272) := by
  have h := at_vmul (at_vsq hA 4) (at_vsq hA 8)
  rwa [← pow_add] at h

theorem at_zero (y : Blk.Idx) : At (KernelIdeal.Run.zeroBlk (F := Ideal), KernelIdeal.Run.zeroBlk) y 0 := by
  have h : (KernelIdeal.Run.zeroBlk (F := Ideal)) y = (((0 : ℝ) : ℝ) : EReal) := by
    pointwise [KernelIdeal.Run.zeroBlk]
    rfl
  exact ⟨h, h⟩

/-- A condition that is false selects the second value. -/
theorem sel0 {α : Type} (a b : α) : Scalar.select (0#1) a b = b := rfl

section Carry

variable {mask : IVec Blk 1} {sh : BitVec 32} {p T : Pair Ideal} {col : Fin 512} {q : ℂ} {τ : ℕ → ℂ}

/-- The exchange between neighbours, rows counted by `row` from the edge: after `n` exchanges what enters the first `n + 1`
    segments is right. -/
theorem at_carry (row : ℕ → Fin 8) (hm : mask (ix2 (row 0) col) = 1#1) (hm' : ∀ r < 7, mask (ix2 (row (r + 1)) col) = 0#1)
    (hr : ∀ (x : FVec Ideal Blk .f32), ∀ r < 7, dynamicRotate 0 sh none x KernelIdeal.Gen.rotates_S8x512_d0 (ix2 (row (r + 1)) col) = x (ix2 (row r) col))
    (hp : ∀ r, At p (ix2 (row r) col) q) (hT : ∀ r < 8, At T (ix2 (row r) col) (τ r)) :
    ∀ n, ∀ r ≤ n, r < 8 → At (KernelIdeal.Run.carry mask sh p T n) (ix2 (row r) col) (crun q τ 0 r)
  | n, 0, _, _ => by
    cases n with
    | zero => exact at_zero _
    | succ n =>
      refine ⟨?_, ?_⟩
      · refine Eq.trans ?_ (at_zero (ix2 (row 0) col)).1
        show Scalar.select (mask (ix2 (row 0) col)) _ _ = _
        rw [hm]; rfl
      · refine Eq.trans ?_ (at_zero (ix2 (row 0) col)).2
        show Scalar.select (mask (ix2 (row 0) col)) _ _ = _
        rw [hm]; rfl
  | n + 1, r + 1, hn, h8 => by
    have h := at_vstep (hp r) (at_carry row hm hm' hr hp hT n r (by omega) (by omega)) (hT r (by omega))
    refine ⟨?_, ?_⟩
    · refine Eq.trans ?_ h.1
      show Scalar.select (mask (ix2 (row (r + 1)) col)) _ _ = _
      rw [hm' r (by omega), sel0]
      exact hr _ r (by omega)
    · refine Eq.trans ?_ h.2
      show Scalar.select (mask (ix2 (row (r + 1)) col)) _ _ = _
      rw [hm' r (by omega), sel0]
      exact hr _ r (by omega)

/-- The whole scan by segments is the one recursion over all the rows. -/
theorem at_scanned (row : ℕ → Fin 8) (hm : mask (ix2 (row 0) col) = 1#1) (hm' : ∀ r < 7, mask (ix2 (row (r + 1)) col) = 0#1)
    (hr : ∀ (x : FVec Ideal Blk .f32), ∀ r < 7, dynamicRotate 0 sh none x KernelIdeal.Gen.rotates_S8x512_d0 (ix2 (row (r + 1)) col) = x (ix2 (row r) col))
    {A : Pair Ideal} {X : ℕ → Pair Ideal} {a : ℂ} {x : ℕ → ℂ} (hA : ∀ r, At A (ix2 (row r) col) a)
    (hX : ∀ k < 272, ∀ r < 8, At (X k) (ix2 (row r) col) (x (272 * r + k))) (r : ℕ) (h8 : r < 8) (n : ℕ) (hn : n ≤ 272) :
    At (KernelIdeal.Run.scanned mask sh A X n) (ix2 (row r) col) (crun a x 0 (272 * r + n)) := by
  unfold KernelIdeal.Run.scanned
  rw [← crun_add, ← crun_segments]
  refine at_vrun (hA r) ?_ n fun i hi => hX i (by omega) r h8
  exact at_carry row hm hm' hr (fun r => at_vpow (hA r)) (fun r hr8 => at_vrun (hA r) (at_zero _) 272 fun i hi => hX i hi r hr8) 7 r (by omega) h8

end Carry

/-- The numbers of one training step's state-space group: `t` a row, `g` a group, `p` a state, `h` a channel. -/
structure Data where
  dy : ℕ → ℕ → ℕ → ℝ
  u : ℕ → ℕ → ℕ → ℝ
  a : ℕ → ℕ → ℂ
  b : ℕ → ℕ → ℕ → ℂ
  c : ℕ → ℕ → ℕ → ℂ
  d : ℕ → ℕ → EReal

namespace Data

variable (D : Data)

/-- What row `t` brings to state `p`. -/
def bu (g p t : ℕ) : ℂ := ∑ h ∈ Finset.range 16, D.b g p h * (D.u t g h : ℂ)
/-- The state after `n` rows. -/
def st (g p n : ℕ) : ℂ := crun (D.a g p) (D.bu g p) 0 n
/-- The gradient that row `t` of the result brings to state `p`. -/
def ds (g p t : ℕ) : ℂ := ∑ h ∈ Finset.range 16, (D.dy t g h : ℂ) * conj (D.c g h p)
/-- The gradient of the state after `n` rows counted from the end. -/
def gr (g p n : ℕ) : ℂ := crun (conj (D.a g p)) (fun j => D.ds g p (2175 - j)) 0 n

def y (t g h : ℕ) : EReal :=
  ((∑ p ∈ Finset.range 64, (D.st g p (t + 1)).re * (D.c g h p).re : ℝ) : EReal)
    - ((∑ p ∈ Finset.range 64, (D.st g p (t + 1)).im * (D.c g h p).im : ℝ) : EReal) + D.d g h * ((D.u t g h : ℝ) : EReal)
def du (t g h : ℕ) : EReal :=
  D.d g h * ((D.dy t g h : ℝ) : EReal) + ((∑ p ∈ Finset.range 64, (D.gr g p (2176 - t)).re * (D.b g p h).re : ℝ) : EReal)
    + ((∑ p ∈ Finset.range 64, (D.gr g p (2176 - t)).im * (D.b g p h).im : ℝ) : EReal)
def da (g p : ℕ) : ℂ := ∑ j ∈ Finset.range 2176, D.gr g p (j + 1) * conj (D.st g p (2175 - j))
def dbr (g p h : ℕ) : ℝ := ∑ t ∈ Finset.range 2176, D.u t g h * (D.gr g p (2176 - t)).re
def dbi (g p h : ℕ) : ℝ := ∑ t ∈ Finset.range 2176, D.u t g h * (D.gr g p (2176 - t)).im
def dcr (g h p : ℕ) : ℝ := ∑ t ∈ Finset.range 2176, D.dy t g h * (D.st g p (t + 1)).re
def dci (g h p : ℕ) : ℝ := - ∑ t ∈ Finset.range 2176, D.dy t g h * (D.st g p (t + 1)).im
def dd (g h : ℕ) : ℝ := ∑ t ∈ Finset.range 2176, D.dy t g h * D.u t g h

end Data

end Cert.S5

end
-- ==== Proof.BwdVal.lean ====
/- What the backward call leaves, as functions of the blocks it reads: the gradients of the states by the reverse scan, and
   from them its eight results. -/
module

public import proofs.«01_k».proof.Proof.FwdVal
public import proofs.«01_k».proof.Proof.BwdRun

@[expose] public section

set_option maxRecDepth 8192
noncomputable section

namespace Cert.KernelIdeal.Run

open Cert.KernelIdeal.Gen Cert.S5
open Idealize.ShloMosaic Idealize.ShloMosaic.Tactic Idealize.ShloMosaic.TcCoe

variable {F : FTy → Type} [FloatOps F]

/-- The places of the last eight steps of the reverse scan: blocks 7 to 0. -/
abbrev tailOff (s : ℕ) : Fin 2 → ℕ := ![8 * (7 - s), 0]

theorem tail_inb (s : ℕ) (a : Fin 2) : tailOff s a + S8x512.size a ≤ S2176x512.size a := by
  match a with
  | ⟨0, _⟩ => show 8 * (7 - s) + 8 ≤ 2176; omega
  | ⟨1, _⟩ => show 0 + 512 ≤ 512; omega

/-- The state before the first row of each segment: what the segment before has let out, and zero for the first segment. -/
abbrev firstSaved (x : FVec F S8x512 .f32) : FVec F S8x512 .f32 :=
  select k0_pay66 zeroBlk (dynamicRotate 0 1#32 none x rotates_S8x512_d0)

section Bwd

variable (c : Dev nD) (i : grid1.Coords) (arg1 : Memref sig .tc .vmem S2176x128 .f32) (harg1 : arg1.IsWhole) (arg2 : Memref sig .tc .vmem S2176x128 .f32) (harg2 : arg2.IsWhole) (arg3 : Memref sig .tc .vmem S2176x512 .f32) (harg3 : arg3.IsWhole) (arg4 : Memref sig .tc .vmem S2176x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x512 .bf16) (harg9 : arg9.IsWhole) (arg10 : Memref sig .tc .vmem S1x128x512 .bf16) (harg10 : arg10.IsWhole) (arg11 : Memref sig .tc .vmem S1x1x128 .f32) (harg11 : arg11.IsWhole) (arg12 : Memref sig .tc .vmem S2176x128 .bf16) (harg12 : arg12.IsWhole) (arg13 : Memref sig .tc .vmem S1x8x16x64 .f32) (harg13 : arg13.IsWhole) (arg14 : Memref sig .tc .vmem S1x8x16x64 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x8x16x64 .f32) (harg17 : arg17.IsWhole) (arg18 : Memref sig .tc .vmem S1x8x16x64 .f32) (harg18 : arg18.IsWhole) (arg19 : Memref sig .tc .vmem S1x1x128 .f32) (harg19 : arg19.IsWhole) (arg20 : Memref sig .tc .vmem S2176x512 .f32) (harg20 : arg20.IsWhole) (arg21 : Memref sig .tc .vmem S2176x512 .f32) (harg21 : arg21.IsWhole)
  (x0 : Vec F S2176x128 .f32) (x1 : Vec F S2176x128 .f32) (x2 : Vec F S2176x512 .f32) (x3 : Vec F S2176x512 .f32) (x4 : Vec F S1x128x512 .bf16) (x5 : Vec F S1x128x512 .bf16) (x6 : Vec F S1x1x512 .f32) (x7 : Vec F S1x1x512 .f32) (x8 : Vec F S1x128x512 .bf16) (x9 : Vec F S1x128x512 .bf16) (x10 : Vec F S1x1x128 .f32)

/-- The saved states the last eight steps use. -/
def savedTail : ℕ → Pair F :=
  at8 (same8 (raw8 arg3 ![48, 0] inb_S2176x512_S8x512_48_0 (harg3.unread x2)), same8 (raw8 arg4 ![48, 0] inb_S2176x512_S8x512_48_0 (harg4.unread x3)))
    (same8 (raw8 arg3 ![40, 0] inb_S2176x512_S8x512_40_0 (harg3.unread x2)), same8 (raw8 arg4 ![40, 0] inb_S2176x512_S8x512_40_0 (harg4.unread x3)))
    (same8 (raw8 arg3 ![32, 0] inb_S2176x512_S8x512_32_0 (harg3.unread x2)), same8 (raw8 arg4 ![32, 0] inb_S2176x512_S8x512_32_0 (harg4.unread x3)))
    (same8 (raw8 arg3 ![24, 0] inb_S2176x512_S8x512_24_0 (harg3.unread x2)), same8 (raw8 arg4 ![24, 0] inb_S2176x512_S8x512_24_0 (harg4.unread x3)))
    (same8 (raw8 arg3 ![16, 0] inb_S2176x512_S8x512_16_0 (harg3.unread x2)), same8 (raw8 arg4 ![16, 0] inb_S2176x512_S8x512_16_0 (harg4.unread x3)))
    (same8 (raw8 arg3 ![8, 0] inb_S2176x512_S8x512_8_0 (harg3.unread x2)), same8 (raw8 arg4 ![8, 0] inb_S2176x512_S8x512_8_0 (harg4.unread x3)))
    (same8 (raw8 arg3 ![0, 0] inb_S2176x512_S8x512_0_0 (harg3.unread x2)), same8 (raw8 arg4 ![0, 0] inb_S2176x512_S8x512_0_0 (harg4.unread x3)))
    (firstSaved (same8 (raw8 arg3 ![2168, 0] inb_S2176x512_S8x512_2168_0 (harg3.unread x2))),
     firstSaved (same8 (raw8 arg4 ![2168, 0] inb_S2176x512_S8x512_2168_0 (harg4.unread x3))))

abbrev bwdA : Pair F :=
  (k1_pay91 (arg7.view.readAt (Elt F) (Rect.unit ![0, 0, 0] S1x1x512.size inb_S1x1x512_S1x1x512_0_0_0).toLoadRect (harg7.unread x6)),
   k1_pay92 (arg8.view.readAt (Elt F) (Rect.unit ![0, 0, 0] S1x1x512.size inb_S1x1x512_S1x1x512_0_0_0).toLoadRect (harg8.unread x7)))
abbrev bwdH20 : List (View.Piece (Elt F) S2176x512 .f32) :=
  [⟨Rect.unit ![0, 0] S2176x512.size inb_S2176x512_S2176x512_0_0,
    k1_pay89 (arg1.view.readAt (Elt F) (Rect.unit ![0, 0] S2176x128.size inb_S2176x128_S2176x128_0_0).toLoadRect (harg1.unread x0))
      (arg9.view.readAt (Elt F) (Rect.unit ![0, 0, 0] S1x128x512.size inb_S1x128x512_S1x128x512_0_0_0).toLoadRect (harg9.unread x8))⟩]
abbrev bwdH21 : List (View.Piece (Elt F) S2176x512 .f32) :=
  [⟨Rect.unit ![0, 0] S2176x512.size inb_S2176x512_S2176x512_0_0,
    k1_pay90 (arg1.view.readAt (Elt F) (Rect.unit ![0, 0] S2176x128.size inb_S2176x128_S2176x128_0_0).toLoadRect (harg1.unread x0))
      (arg10.view.readAt (Elt F) (Rect.unit ![0, 0, 0] S1x128x512.size inb_S1x128x512_S1x128x512_0_0_0).toLoadRect (harg10.unread x9))⟩]
abbrev bwdG20 : BufTy.Contents (Elt F) arg20.view.ty := arg20.view.writes (Elt F) arg20.view.junk (bwdH20 arg1 harg1 arg9 harg9 x0 x8)
abbrev bwdG21 : BufTy.Contents (Elt F) arg21.view.ty := arg21.view.writes (Elt F) arg21.view.junk (bwdH21 arg1 harg1 arg10 harg10 x0 x9)

/-- The totals of the segments. -/
abbrev bwdT : Pair F :=
  st_k1_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (arg7.view.readAt (Elt F) (Rect.unit ![0, 0, 0] S1x1x512.size inb_S1x1x512_S1x1x512_0_0_0).toLoadRect (harg7.unread x6))
    (arg8.view.readAt (Elt F) (Rect.unit ![0, 0, 0] S1x1x512.size inb_S1x1x512_S1x1x512_0_0_0).toLoadRect (harg8.unread x7))
    (bwdG20 arg1 harg1 arg9 harg9 arg20 x0 x8) (bwdG21 arg1 harg1 arg10 harg10 arg21 x0 x9) (zeroBlk, zeroBlk) 34

abbrev bwdCarry (n : ℕ) : Pair F :=
  carry k1_pay115 7#32 (vpow272 (bwdA arg7 harg7 arg8 harg8 x6 x7)) (bwdT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9) n

abbrev bwdPow : Pair F := vpow272 (bwdA arg7 harg7 arg8 harg8 x6 x7)

/-- The state of the scan loop at its end. -/
abbrev bwdS : (FVec F S8x512 .f32 × FVec F S8x512 .f32 × FVec F S8x512 .f32 × FVec F S8x512 .f32) × List (View.Piece (Elt F) S2176x512 .f32) × List (View.Piece (Elt F) S2176x512 .f32) :=
  st_k1_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (bwdA arg7 harg7 arg8 harg8 x6 x7).1 (bwdA arg7 harg7 arg8 harg8 x6 x7).2 zeroBlk
    (bwdT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9).2 k1_pay115
    (addf (mulf (bwdPow arg7 harg7 arg8 harg8 x6 x7).1 (bwdCarry c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9 6).2) (mulf (bwdPow arg7 harg7 arg8 harg8 x6 x7).2 (bwdCarry c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9 6).1))
    (dynamicRotate 0 7#32 none (vstep (bwdPow arg7 harg7 arg8 harg8 x6 x7).1 (bwdPow arg7 harg7 arg8 harg8 x6 x7).2 (bwdCarry c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9 6) (bwdT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9)).1 rotates_S8x512_d0)
    (Scalar.ofBits .f32 0x00000000#32 : F .f32) (harg3.unread x2) (harg4.unread x3)
    (bwdG20 arg1 harg1 arg9 harg9 arg20 x0 x8) (bwdG21 arg1 harg1 arg10 harg10 arg21 x0 x9)
    (four (bwdCarry c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9 7) (zeroBlk, zeroBlk)) 33

/-- The last eight steps. -/
abbrev bwdTail : (Pair F × Pair F) × List (View.Piece (Elt F) S2176x512 .f32) × List (View.Piece (Elt F) S2176x512 .f32) :=
  gscan arg20 arg21 tailOff tail_inb (bwdA arg7 harg7 arg8 harg8 x6 x7).1 (bwdA arg7 harg7 arg8 harg8 x6 x7).2
    (arg20.view.writes (Elt F) (bwdG20 arg1 harg1 arg9 harg9 arg20 x0 x8) (bwdS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).2.1) (arg21.view.writes (Elt F) (bwdG21 arg1 harg1 arg10 harg10 arg21 x0 x9) (bwdS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).2.2)
    (savedTail arg3 harg3 arg4 harg4 x2 x3)
    ((bwdS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).1.1, (bwdS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).1.2.1)
    ((bwdS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).1.2.2.1, (bwdS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).1.2.2.2) 8

abbrev ldG20 : Vec F S2176x512 .f32 :=
  arg20.view.readAt (Elt F) (Rect.unit ![0, 0] S2176x512.size inb_S2176x512_S2176x512_0_0).toLoadRect
    (arg20.view.writes (Elt F) (arg20.view.writes (Elt F) (bwdG20 arg1 harg1 arg9 harg9 arg20 x0 x8) (bwdS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).2.1) (bwdTail c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).2.1)
abbrev ldG21 : Vec F S2176x512 .f32 :=
  arg21.view.readAt (Elt F) (Rect.unit ![0, 0] S2176x512.size inb_S2176x512_S2176x512_0_0).toLoadRect
    (arg21.view.writes (Elt F) (arg21.view.writes (Elt F) (bwdG21 arg1 harg1 arg10 harg10 arg21 x0 x9) (bwdS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).2.2) (bwdTail c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).2.2)

/-- The sum of the eight rows. -/
def sumRows (x : FVec F S8x512 .f32) : FVec F S1x1x512 .f32 :=
  shapeCast S1x1x512 (shapeCast S1x512 (multiReduction .add [0] S512 x 0x00000000#32 reduces_S8x512_S512 (.inl rfl) rfl) shapeCasts_S512_S1x512) shapeCasts_S1x512_S1x1x512

/-- The blocks on the diagonal, one per group, as the kernel stores them. -/
def groupPieces (x : FVec F S128x512 .f32) : List (View.Piece (Elt F) S1x8x16x64 .f32) :=
  [⟨Rect.unit ![0, 7, 0, 0] S1x1x16x64.size inb_S1x8x16x64_S1x1x16x64_0_7_0_0, shapeCast S1x1x16x64 (extractStridedSlice S16x64 ![112, 448] x slices_S128x512_o112_448_S16x64) shapeCasts_S16x64_S1x1x16x64⟩,
   ⟨Rect.unit ![0, 6, 0, 0] S1x1x16x64.size inb_S1x8x16x64_S1x1x16x64_0_6_0_0, shapeCast S1x1x16x64 (extractStridedSlice S16x64 ![96, 384] x slices_S128x512_o96_384_S16x64) shapeCasts_S16x64_S1x1x16x64⟩,
   ⟨Rect.unit ![0, 5, 0, 0] S1x1x16x64.size inb_S1x8x16x64_S1x1x16x64_0_5_0_0, shapeCast S1x1x16x64 (extractStridedSlice S16x64 ![80, 320] x slices_S128x512_o80_320_S16x64) shapeCasts_S16x64_S1x1x16x64⟩,
   ⟨Rect.unit ![0, 4, 0, 0] S1x1x16x64.size inb_S1x8x16x64_S1x1x16x64_0_4_0_0, shapeCast S1x1x16x64 (extractStridedSlice S16x64 ![64, 256] x slices_S128x512_o64_256_S16x64) shapeCasts_S16x64_S1x1x16x64⟩,
   ⟨Rect.unit ![0, 3, 0, 0] S1x1x16x64.size inb_S1x8x16x64_S1x1x16x64_0_3_0_0, shapeCast S1x1x16x64 (extractStridedSlice S16x64 ![48, 192] x slices_S128x512_o48_192_S16x64) shapeCasts_S16x64_S1x1x16x64⟩,
   ⟨Rect.unit ![0, 2, 0, 0] S1x1x16x64.size inb_S1x8x16x64_S1x1x16x64_0_2_0_0, shapeCast S1x1x16x64 (extractStridedSlice S16x64 ![32, 128] x slices_S128x512_o32_128_S16x64) shapeCasts_S16x64_S1x1x16x64⟩,
   ⟨Rect.unit ![0, 1, 0, 0] S1x1x16x64.size inb_S1x8x16x64_S1x1x16x64_0_1_0_0, shapeCast S1x1x16x64 (extractStridedSlice S16x64 ![16, 64] x slices_S128x512_o16_64_S16x64) shapeCasts_S16x64_S1x1x16x64⟩,
   ⟨Rect.unit ![0, 0, 0, 0] S1x1x16x64.size inb_S1x8x16x64_S1x1x16x64_0_0_0_0, shapeCast S1x1x16x64 (extractStridedSlice S16x64 ![0, 0] x slices_S128x512_o0_0_S16x64) shapeCasts_S16x64_S1x1x16x64⟩]

theorem bwdRun_14 : (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.1 =
    [⟨Rect.unit ![0, 0, 0] S1x1x512.size inb_S1x1x512_S1x1x512_0_0_0, sumRows (bwdTail c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).1.2.1⟩] := by
  sl_kernel_rfl

theorem bwdRun_15 : (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.1 =
    [⟨Rect.unit ![0, 0, 0] S1x1x512.size inb_S1x1x512_S1x1x512_0_0_0, sumRows (bwdTail c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).1.2.2⟩] := by
  sl_kernel_rfl

theorem bwdRun_11 : (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).1 =
    [⟨Rect.unit ![0, 0] S2176x128.size inb_S2176x128_S2176x128_0_0,
      k1_pay211 (k1_pay208 (ldG21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9))
        (k1_pay209 (k1_pay87 (arg1.view.readAt (Elt F) (Rect.unit ![0, 0] S2176x128.size inb_S2176x128_S2176x128_0_0).toLoadRect (harg1.unread x0))) (ldG20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) (arg11.view.readAt (Elt F) (Rect.unit ![0, 0, 0] S1x1x128.size inb_S1x1x128_S1x1x128_0_0_0).toLoadRect (harg11.unread x10)) (arg5.view.readAt (Elt F) (Rect.unit ![0, 0, 0] S1x128x512.size inb_S1x128x512_S1x128x512_0_0_0).toLoadRect (harg5.unread x4)))
        (k1_pay210 (arg6.view.readAt (Elt F) (Rect.unit ![0, 0, 0] S1x128x512.size inb_S1x128x512_S1x128x512_0_0_0).toLoadRect (harg6.unread x5)))⟩] := by
  sl_kernel_rfl

theorem bwdRun_12 : (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.1 = groupPieces (k1_pay212 (k1_pay206 (arg2.view.readAt (Elt F) (Rect.unit ![0, 0] S2176x128.size inb_S2176x128_S2176x128_0_0).toLoadRect (harg2.unread x1))) (k1_pay207 (ldG20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9))) := by
  sl_kernel_rfl

theorem bwdRun_13 : (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.1 = groupPieces (k1_pay222 (k1_pay206 (arg2.view.readAt (Elt F) (Rect.unit ![0, 0] S2176x128.size inb_S2176x128_S2176x128_0_0).toLoadRect (harg2.unread x1))) (k1_pay208 (ldG21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9))) := by
  sl_kernel_rfl

theorem bwdRun_16 : (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.1 = groupPieces (k1_pay231 (k1_pay88 (arg1.view.readAt (Elt F) (Rect.unit ![0, 0] S2176x128.size inb_S2176x128_S2176x128_0_0).toLoadRect (harg1.unread x0))) (arg3.view.readAt (Elt F) (Rect.unit ![0, 0] S2176x512.size inb_S2176x512_S2176x512_0_0).toLoadRect (harg3.unread x2))) := by
  sl_kernel_rfl

theorem bwdRun_17 : (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.2.1 = groupPieces (k1_pay241 (k1_pay88 (arg1.view.readAt (Elt F) (Rect.unit ![0, 0] S2176x128.size inb_S2176x128_S2176x128_0_0).toLoadRect (harg1.unread x0))) (k1_pay240 (arg4.view.readAt (Elt F) (Rect.unit ![0, 0] S2176x512.size inb_S2176x512_S2176x512_0_0).toLoadRect (harg4.unread x3)))) := by
  sl_kernel_rfl

theorem bwdRun_18 : (bwdRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.2.2.1 =
    [⟨Rect.unit ![0, 0, 0] S1x1x128.size inb_S1x1x128_S1x1x128_0_0_0, k1_pay3 (k1_pay87 (arg1.view.readAt (Elt F) (Rect.unit ![0, 0] S2176x128.size inb_S2176x128_S2176x128_0_0).toLoadRect (harg1.unread x0))) (k1_pay205 (arg2.view.readAt (Elt F) (Rect.unit ![0, 0] S2176x128.size inb_S2176x128_S2176x128_0_0).toLoadRect (harg2.unread x1)))⟩] := by
  sl_kernel_rfl

end Bwd

/-- What the reverse scan adds at step `k`: block `271 - k`. -/
def bwdX (x0 : Vec F S2176x128 .f32) (x8 x9 : Vec F S1x128x512 .bf16) : ℕ → Pair F :=
  fun k => blocks (k1_pay89 x0 x8) (k1_pay90 x0 x9) (271 - k)

/-- The gradients of the states, in the order in which the reverse scan comes to them. -/
def bwdStates (x0 : Vec F S2176x128 .f32) (x6 x7 : Vec F S1x1x512 .f32) (x8 x9 : Vec F S1x128x512 .bf16) : ℕ → Pair F :=
  scanned k1_pay115 7#32 (k1_pay91 x6, k1_pay92 x7) (bwdX x0 x8 x9)

/-- The saved states step `k` of the reverse scan multiplies by: those of the row before. -/
def bwdP (x2 x3 : Vec F S2176x512 .f32) : ℕ → Pair F :=
  fun k => if k < 271 then blocks x2 x3 (270 - k) else (firstSaved (block x2 271), firstSaved (block x3 271))

/-- The two sums of products at the end of the reverse scan. -/
def bwdAcc (x0 : Vec F S2176x128 .f32) (x2 x3 : Vec F S2176x512 .f32) (x6 x7 : Vec F S1x1x512 .f32) (x8 x9 : Vec F S1x128x512 .bf16) : Pair F :=
  vsum (bwdStates x0 x6 x7 x8 x9) (bwdP x2 x3) (zeroBlk, zeroBlk) 272

def bwdGre (x0 : Vec F S2176x128 .f32) (x6 x7 : Vec F S1x1x512 .f32) (x8 x9 : Vec F S1x128x512 .bf16) : FVec F S2176x512 .f32 :=
  glue fun i => (bwdStates x0 x6 x7 x8 x9 (272 - i)).1
def bwdGim (x0 : Vec F S2176x128 .f32) (x6 x7 : Vec F S1x1x512 .f32) (x8 x9 : Vec F S1x128x512 .bf16) : FVec F S2176x512 .f32 :=
  glue fun i => (bwdStates x0 x6 x7 x8 x9 (272 - i)).2

section Bwd

variable (c : Dev nD) (i : grid1.Coords) (arg1 : Memref sig .tc .vmem S2176x128 .f32) (harg1 : arg1.IsWhole) (arg2 : Memref sig .tc .vmem S2176x128 .f32) (harg2 : arg2.IsWhole) (arg3 : Memref sig .tc .vmem S2176x512 .f32) (harg3 : arg3.IsWhole) (arg4 : Memref sig .tc .vmem S2176x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x512 .bf16) (harg9 : arg9.IsWhole) (arg10 : Memref sig .tc .vmem S1x128x512 .bf16) (harg10 : arg10.IsWhole) (arg11 : Memref sig .tc .vmem S1x1x128 .f32) (harg11 : arg11.IsWhole) (arg12 : Memref sig .tc .vmem S2176x128 .bf16) (harg12 : arg12.IsWhole) (arg13 : Memref sig .tc .vmem S1x8x16x64 .f32) (harg13 : arg13.IsWhole) (arg14 : Memref sig .tc .vmem S1x8x16x64 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x8x16x64 .f32) (harg17 : arg17.IsWhole) (arg18 : Memref sig .tc .vmem S1x8x16x64 .f32) (harg18 : arg18.IsWhole) (arg19 : Memref sig .tc .vmem S1x1x128 .f32) (harg19 : arg19.IsWhole) (arg20 : Memref sig .tc .vmem S2176x512 .f32) (harg20 : arg20.IsWhole) (arg21 : Memref sig .tc .vmem S2176x512 .f32) (harg21 : arg21.IsWhole)
  (x0 : Vec F S2176x128 .f32) (x1 : Vec F S2176x128 .f32) (x2 : Vec F S2176x512 .f32) (x3 : Vec F S2176x512 .f32) (x4 : Vec F S1x128x512 .bf16) (x5 : Vec F S1x128x512 .bf16) (x6 : Vec F S1x1x512 .f32) (x7 : Vec F S1x1x512 .f32) (x8 : Vec F S1x128x512 .bf16) (x9 : Vec F S1x128x512 .bf16) (x10 : Vec F S1x1x128 .f32)

theorem bwdA_eq : bwdA arg7 harg7 arg8 harg8 x6 x7 = (k1_pay91 x6, k1_pay92 x7) := by
  unfold bwdA
  rw [load_whole arg7 harg7 zero3, load_whole arg8 harg8 zero3]

theorem bwdG20_read : arg20.view.read (Elt F) (bwdG20 arg1 harg1 arg9 harg9 arg20 x0 x8) = k1_pay89 x0 x8 := by
  refine (read_stored arg20.view zero2 _ _ _).trans ?_
  rw [load_whole arg1 harg1 zero2, load_whole arg9 harg9 zero3]

theorem bwdG21_read : arg21.view.read (Elt F) (bwdG21 arg1 harg1 arg10 harg10 arg21 x0 x9) = k1_pay90 x0 x9 := by
  refine (read_stored arg21.view zero2 _ _ _).trans ?_
  rw [load_whole arg1 harg1 zero2, load_whole arg10 harg10 zero3]

theorem bwdPair (p : ℕ → ℕ) : (fun i => pairAt arg20 arg21 (bwdG20 arg1 harg1 arg9 harg9 arg20 x0 x8) (bwdG21 arg1 harg1 arg10 harg10 arg21 x0 x9) (p i))
    = fun i => blocks (k1_pay89 x0 x8) (k1_pay90 x0 x9) (p i) := by
  funext i
  unfold pairAt
  rw [bwdG20_read, bwdG21_read]
  rfl

theorem bwdSaved (p : ℕ → ℕ) : (fun i => pairAt arg3 arg4 (harg3.unread x2) (harg4.unread x3) (p i)) = fun i => blocks x2 x3 (p i) := by
  funext i
  unfold pairAt
  rw [harg3.read_unread, harg4.read_unread]
  rfl

theorem bwdT_eq : bwdT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9 = vrun (k1_pay91 x6) (k1_pay92 x7) (bwdX x0 x8 x9) (zeroBlk, zeroBlk) 272 := by
  unfold bwdT
  rw [load_whole arg7 harg7 zero3, load_whole arg8 harg8 zero3]
  refine (totals_k1_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ 34 (le_refl 34)).trans ?_
  rw [bwdPair]
  rfl

theorem bwdCarry_eq : bwdCarry c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9 7
    = carry k1_pay115 7#32 (vpow272 (k1_pay91 x6, k1_pay92 x7)) (vrun (k1_pay91 x6) (k1_pay92 x7) (bwdX x0 x8 x9) (zeroBlk, zeroBlk) 272) 7 := by
  unfold bwdCarry
  rw [bwdA_eq, bwdT_eq]

theorem bwdS_eq :
    (bwdS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).1 = four (bwdStates x0 x6 x7 x8 x9 264) (vsum (bwdStates x0 x6 x7 x8 x9) (bwdP x2 x3) (zeroBlk, zeroBlk) 264)
      ∧ (∀ y, arg20.view.read (Elt F) (arg20.view.writes (Elt F) (bwdG20 arg1 harg1 arg9 harg9 arg20 x0 x8) (bwdS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).2.1) y
          = if 8 ≤ (y 0).val / 8 then (bwdStates x0 x6 x7 x8 x9 (272 - (y 0).val / 8)).1 (inBlk y) else k1_pay89 x0 x8 y)
      ∧ (∀ y, arg21.view.read (Elt F) (arg21.view.writes (Elt F) (bwdG21 arg1 harg1 arg10 harg10 arg21 x0 x9) (bwdS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).2.2) y
          = if 8 ≤ (y 0).val / 8 then (bwdStates x0 x6 x7 x8 x9 (272 - (y 0).val / 8)).2 (inBlk y) else k1_pay90 x0 x9 y) := by
  unfold bwdS
  have h := scan_k1_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (bwdA arg7 harg7 arg8 harg8 x6 x7).1 (bwdA arg7 harg7 arg8 harg8 x6 x7).2 zeroBlk
    (bwdT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9).2 k1_pay115
    (addf (mulf (bwdPow arg7 harg7 arg8 harg8 x6 x7).1 (bwdCarry c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9 6).2) (mulf (bwdPow arg7 harg7 arg8 harg8 x6 x7).2 (bwdCarry c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9 6).1))
    (dynamicRotate 0 7#32 none (vstep (bwdPow arg7 harg7 arg8 harg8 x6 x7).1 (bwdPow arg7 harg7 arg8 harg8 x6 x7).2 (bwdCarry c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9 6) (bwdT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9)).1 rotates_S8x512_d0)
    (Scalar.ofBits .f32 0x00000000#32 : F .f32) (harg3.unread x2) (harg4.unread x3)
    (bwdG20 arg1 harg1 arg9 harg9 arg20 x0 x8) (bwdG21 arg1 harg1 arg10 harg10 arg21 x0 x9)
    (bwdCarry c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9 7) (zeroBlk, zeroBlk) 33 (le_refl 33)
  obtain ⟨h1, h2, h3⟩ := h
  rw [bwdPair, bwdSaved] at h1
  rw [bwdPair] at h2 h3
  have hz : vrun (bwdA arg7 harg7 arg8 harg8 x6 x7).1 (bwdA arg7 harg7 arg8 harg8 x6 x7).2
      (fun i => blocks (k1_pay89 x0 x8) (k1_pay90 x0 x9) (271 - i)) (bwdCarry c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x6 x7 x8 x9 7) = bwdStates x0 x6 x7 x8 x9 := by
    rw [bwdA_eq, bwdCarry_eq]
    rfl
  rw [hz] at h1 h2 h3
  refine ⟨h1.trans (congrArg (four _) ?_), fun y => (h2 y).trans ?_, fun y => (h3 y).trans ?_⟩
  · exact vsum_congr _ 264 (fun _ _ => rfl) fun k hk => (if_pos (by omega)).symm
  · rw [bwdG20_read]
  · rw [bwdG21_read]

theorem savedTail_eq : ∀ s < 8, savedTail arg3 harg3 arg4 harg4 x2 x3 s = bwdP x2 x3 (264 + s) := by
  have e3 (r : ℕ) (off : Fin 2 → ℕ) (inb) (h : off = ![8 * r, 0]) : raw8 arg3 off inb (harg3.unread x2) = block x2 r := by
    refine (readAt_block arg3.view inb r h _).trans ?_
    rw [harg3.read_unread]
  have e4 (r : ℕ) (off : Fin 2 → ℕ) (inb) (h : off = ![8 * r, 0]) : raw8 arg4 off inb (harg4.unread x3) = block x3 r := by
    refine (readAt_block arg4.view inb r h _).trans ?_
    rw [harg4.read_unread]
  unfold savedTail
  simp only [same8_eq]
  rw [e3 6 _ _ rfl, e3 5 _ _ rfl, e3 4 _ _ rfl, e3 3 _ _ rfl, e3 2 _ _ rfl, e3 1 _ _ rfl, e3 0 _ _ rfl, e3 271 _ _ rfl,
    e4 6 _ _ rfl, e4 5 _ _ rfl, e4 4 _ _ rfl, e4 3 _ _ rfl, e4 2 _ _ rfl, e4 1 _ _ rfl, e4 0 _ _ rfl, e4 271 _ _ rfl]
  intro s hs
  match s, hs with
  | 0, _ | 1, _ | 2, _ | 3, _ | 4, _ | 5, _ | 6, _ | 7, _ => rfl

theorem bwdTail_eq :
    (bwdTail c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).1.2 = bwdAcc x0 x2 x3 x6 x7 x8 x9
      ∧ ldG20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9 = bwdGre x0 x6 x7 x8 x9
      ∧ ldG21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9 = bwdGim x0 x6 x7 x8 x9 := by
  obtain ⟨h1, h2, h3⟩ := bwdS_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9
  unfold ldG20 ldG21 bwdTail
  generalize bwdS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9 = S at h1 h2 h3
  rw [h1, bwdA_eq]
  have hoff : ∀ s < 8, tailOff s = ![8 * (7 - s), 0] := fun _ _ => rfl
  have hp : ∀ s < 8, ∀ t < 8, 7 - s = 7 - t → s = t := fun s hs t ht e => by omega
  rw [gscan_eq arg20 arg21 tailOff tail_inb (fun s => 7 - s) 8 hoff hp (fun s hs => by first | omega | (dsimp only; omega)) _ _ _ _ _ _ _ 8 (le_refl 8),
    load_all arg20 zero2, load_all arg21 zero2]
  have hX : ∀ s < 8, pairAt arg20 arg21 (arg20.view.writes (Elt F) (bwdG20 arg1 harg1 arg9 harg9 arg20 x0 x8) S.2.1)
      (arg21.view.writes (Elt F) (bwdG21 arg1 harg1 arg10 harg10 arg21 x0 x9) S.2.2) (7 - s) = bwdX x0 x8 x9 (264 + s) := fun s hs => by
    unfold bwdX
    rw [show 271 - (264 + s) = 7 - s by omega]
    refine Prod.ext ?_ ?_
    · show block (arg20.view.read (Elt F) (arg20.view.writes (Elt F) (bwdG20 arg1 harg1 arg9 harg9 arg20 x0 x8) S.2.1)) (7 - s) = block (k1_pay89 x0 x8) (7 - s)
      refine block_congr (show 7 - s < 272 by omega) fun y hy => ?_
      rw [h2 y, if_neg (by omega)]
    · show block (arg21.view.read (Elt F) (arg21.view.writes (Elt F) (bwdG21 arg1 harg1 arg10 harg10 arg21 x0 x9) S.2.2)) (7 - s) = block (k1_pay90 x0 x9) (7 - s)
      refine block_congr (show 7 - s < 272 by omega) fun y hy => ?_
      rw [h3 y, if_neg (by omega)]
  have hr : ∀ j ≤ 8, vrun (k1_pay91 x6) (k1_pay92 x7) (fun s => pairAt arg20 arg21 (arg20.view.writes (Elt F) (bwdG20 arg1 harg1 arg9 harg9 arg20 x0 x8) S.2.1)
      (arg21.view.writes (Elt F) (bwdG21 arg1 harg1 arg10 harg10 arg21 x0 x9) S.2.2) (7 - s)) (bwdStates x0 x6 x7 x8 x9 264) j = bwdStates x0 x6 x7 x8 x9 (264 + j) := fun j hj => by
    rw [vrun_congr _ _ _ j fun s hs => hX s (by omega)]
    exact vrun_add (k1_pay91 x6) (k1_pay92 x7) (bwdX x0 x8 x9) _ 264 j
  refine ⟨?_, ?_, ?_⟩
  · refine (vsum_congr (Z' := fun j => bwdStates x0 x6 x7 x8 x9 (264 + j)) _ 8 (fun s hs => hr (s + 1) (by omega))
      fun s hs => savedTail_eq arg3 harg3 arg4 harg4 x2 x3 s hs).trans ?_
    exact vsum_add (bwdStates x0 x6 x7 x8 x9) (bwdP x2 x3) _ 264 8
  · funext y
    have hy0 : (y 0).val < 2176 := (y 0).isLt
    by_cases hy : (y 0).val / 8 < 8
    · rw [stores_in arg20 _ _ (fun s => 7 - s) 8 hoff hp _ _ y (7 - (y 0).val / 8) (by first | omega | (dsimp only; omega)) 8 (le_refl 8) (by omega)]
      dsimp only
      rw [hr _ (by omega), show 264 + (7 - (y 0).val / 8 + 1) = 272 - (y 0).val / 8 by omega]
      rfl
    · rw [stores_out arg20 _ _ (fun s => 7 - s) 8 hoff _ _ y 8 (le_refl 8) (fun s hs e => by first | omega | (dsimp only at e; omega)), h2 y, if_pos (by omega)]
      rfl
  · funext y
    have hy0 : (y 0).val < 2176 := (y 0).isLt
    by_cases hy : (y 0).val / 8 < 8
    · rw [stores_in arg21 _ _ (fun s => 7 - s) 8 hoff hp _ _ y (7 - (y 0).val / 8) (by first | omega | (dsimp only; omega)) 8 (le_refl 8) (by omega)]
      dsimp only
      rw [hr _ (by omega), show 264 + (7 - (y 0).val / 8 + 1) = 272 - (y 0).val / 8 by omega]
      rfl
    · rw [stores_out arg21 _ _ (fun s => 7 - s) 8 hoff _ _ y 8 (le_refl 8) (fun s hs e => by first | omega | (dsimp only at e; omega)), h3 y, if_pos (by omega)]
      rfl

theorem bwdVal_11 : bwdOut_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 = k1_pay211 (k1_pay208 (bwdGim x0 x6 x7 x8 x9)) (k1_pay209 (k1_pay87 x0) (bwdGre x0 x6 x7 x8 x9) x10 x4) (k1_pay210 x5) := by
  unfold bwdOut_11
  rw [bwdRun_11]
  refine (read_stored _ zero2 _ _ _).trans ?_
  rw [(bwdTail_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).2.1, (bwdTail_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).2.2,
    load_whole arg1 harg1 zero2, load_whole arg11 harg11 zero3, load_whole arg5 harg5 zero3, load_whole arg6 harg6 zero3]

theorem bwdVal_12 : bwdOut_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 = VO1_12.read (Elt F) (VO1_12.writes (Elt F) VO1_12.junk
    (groupPieces (k1_pay212 (k1_pay206 x1) (k1_pay207 (bwdGre x0 x6 x7 x8 x9))))) := by
  unfold bwdOut_12
  rw [bwdRun_12, (bwdTail_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).2.1, load_whole arg2 harg2 zero2]

theorem bwdVal_13 : bwdOut_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 = VO1_13.read (Elt F) (VO1_13.writes (Elt F) VO1_13.junk
    (groupPieces (k1_pay222 (k1_pay206 x1) (k1_pay208 (bwdGim x0 x6 x7 x8 x9))))) := by
  unfold bwdOut_13
  rw [bwdRun_13, (bwdTail_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).2.2, load_whole arg2 harg2 zero2]

theorem bwdVal_14 : bwdOut_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 = sumRows (bwdAcc x0 x2 x3 x6 x7 x8 x9).1 := by
  unfold bwdOut_14
  rw [bwdRun_14]
  refine (read_stored _ zero3 _ _ _).trans ?_
  rw [← (bwdTail_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).1]

theorem bwdVal_15 : bwdOut_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 = sumRows (bwdAcc x0 x2 x3 x6 x7 x8 x9).2 := by
  unfold bwdOut_15
  rw [bwdRun_15]
  refine (read_stored _ zero3 _ _ _).trans ?_
  rw [← (bwdTail_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).1]

theorem bwdVal_16 : bwdOut_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 = VO1_16.read (Elt F) (VO1_16.writes (Elt F) VO1_16.junk
    (groupPieces (k1_pay231 (k1_pay88 x0) x2))) := by
  unfold bwdOut_16
  rw [bwdRun_16, load_whole arg1 harg1 zero2, load_whole arg3 harg3 zero2]

theorem bwdVal_17 : bwdOut_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 = VO1_17.read (Elt F) (VO1_17.writes (Elt F) VO1_17.junk
    (groupPieces (k1_pay241 (k1_pay88 x0) (k1_pay240 x3)))) := by
  unfold bwdOut_17
  rw [bwdRun_17, load_whole arg1 harg1 zero2, load_whole arg4 harg4 zero2]

theorem bwdVal_18 : bwdOut_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 = k1_pay3 (k1_pay87 x0) (k1_pay205 x1) := by
  unfold bwdOut_18
  rw [bwdRun_18]
  refine (read_stored _ zero3 _ _ _).trans ?_
  rw [load_whole arg1 harg1 zero2, load_whole arg2 harg2 zero2]

end Bwd

end Cert.KernelIdeal.Run

end
-- ==== Proof.Chunk.lean ====
/- What each call leaves for one chunk of eight groups, in the numbers of the step: the closed forms of the two scans read at an
   index over the extended reals. -/
module

public import proofs.«01_k».proof.Proof.Math
public import proofs.«01_k».proof.Proof.BwdVal

@[expose] public section

noncomputable section

namespace Cert.S5

open Cert.KernelIdeal Cert.KernelIdeal.Gen Cert.KernelIdeal.Run
open Idealize.ShloMosaic
open scoped ComplexConjugate

/-- Rows in segment order of a chunk's 128 channels. -/
def IsRows (f : ℕ → ℕ → ℕ → ℝ) (j : ℕ) (x : FVec Ideal S2176x128 .f32) : Prop :=
  ∀ (r : Fin 2176) (q : Fin 128), x (ix2 r q) = ((f (time r.val) (8 * j + q.val / 16) (q.val % 16) : ℝ) : EReal)
/-- A chunk's eight matrices on the diagonal. -/
def IsDiag (f : ℕ → ℕ → ℕ → ℝ) (j : ℕ) (x : FVec Ideal S1x128x512 .bf16) : Prop :=
  ∀ (q : Fin 128) (c : Fin 512), x (ix3 0 q c)
    = ((if c.val / 64 = q.val / 16 then f (8 * j + q.val / 16) (q.val % 16) (c.val % 64) else 0 : ℝ) : EReal)
/-- One number for each of a chunk's 512 states. -/
def IsRow (f : ℕ → ℕ → ℝ) (j : ℕ) (x : FVec Ideal S1x1x512 .f32) : Prop :=
  ∀ c : Fin 512, x (ix3 0 0 c) = ((f (8 * j + c.val / 64) (c.val % 64) : ℝ) : EReal)
/-- Rows in segment order of a chunk's 512 states. -/
def IsState (f : ℕ → ℕ → ℕ → ℝ) (j : ℕ) (x : FVec Ideal S2176x512 .f32) : Prop :=
  ∀ (r : Fin 2176) (c : Fin 512), x (ix2 r c) = ((f (8 * j + c.val / 64) (c.val % 64) (time r.val) : ℝ) : EReal)

theorem fin_dot (n : ℕ) (U V : ℕ → ℝ) :
    ∑ k : Fin n, ((U k.val : ℝ) : EReal) * ((V k.val : ℝ) : EReal) = ((∑ k ∈ Finset.range n, U k * V k : ℝ) : EReal) := by
  rw [← coe_sum_fin]
  exact Finset.sum_congr rfl fun k _ => (EReal.coe_mul _ _).symm

theorem dot_diag (m n q : ℕ) (hq : q < m) (U V : ℕ → ℝ) (N : ℕ) (hN : N = m * n) :
    ∑ k : Fin N, ((U k.val : ℝ) : EReal) * ((if q = k.val / n then V k.val else 0 : ℝ) : EReal)
      = ((∑ h ∈ Finset.range n, U (n * q + h) * V (n * q + h) : ℝ) : EReal) := by
  subst hN
  rw [fin_dot (m * n) U fun k => if q = k / n then V k else 0, ← sum_diag m n q hq fun k => U k * V k]
  congr 1
  exact Finset.sum_congr rfl fun k _ => by split <;> simp

/-- A product of rows with the matrices on the diagonal. -/
theorem rows_diag {f g : ℕ → ℕ → ℕ → ℝ} {j : ℕ} {x : FVec Ideal S2176x128 .f32} {w : FVec Ideal S1x128x512 .bf16}
    (hx : IsRows f j x) (hw : IsDiag g j w) (r : Fin 2176) (c : Fin 512) :
    ∑ k : Fin 128, x (ix2 r k) * w (ix3 0 k c)
      = ((∑ h ∈ Finset.range 16, f (time r.val) (8 * j + c.val / 64) h * g (8 * j + c.val / 64) h (c.val % 64) : ℝ) : EReal) := by
  have hc : c.val / 64 < 8 := by omega
  refine (Finset.sum_congr rfl fun k _ => by rw [hx r k, hw k c]).trans
    ((dot_diag 8 16 (c.val / 64) hc (fun k => f (time r.val) (8 * j + k / 16) (k % 16))
      (fun k => g (8 * j + k / 16) (k % 16) (c.val % 64)) 128 rfl).trans ?_)
  congr 1
  refine Finset.sum_congr rfl fun h hh => ?_
  have hh := Finset.mem_range.1 hh
  rw [show (16 * (c.val / 64) + h) / 16 = c.val / 64 by omega, show (16 * (c.val / 64) + h) % 16 = h by omega]

/-- A product of rows of states with the matrices on the diagonal. -/
theorem state_diag {f g : ℕ → ℕ → ℕ → ℝ} {j : ℕ} {x : FVec Ideal S2176x512 .f32} {w : FVec Ideal S1x128x512 .bf16}
    (hx : IsState f j x) (hw : IsDiag g j w) (r : Fin 2176) (q : Fin 128) :
    ∑ k : Fin 512, x (ix2 r k) * w (ix3 0 q k)
      = ((∑ p ∈ Finset.range 64, f (8 * j + q.val / 16) p (time r.val) * g (8 * j + q.val / 16) (q.val % 16) p : ℝ) : EReal) := by
  have hc : q.val / 16 < 8 := by omega
  refine (Finset.sum_congr rfl fun k _ => by rw [hx r k, hw q k]; rw [if_congr (eq_comm (a := k.val / 64)) rfl rfl]).trans
    ((dot_diag 8 64 (q.val / 16) hc (fun k => f (8 * j + k / 64) (k % 64) (time r.val))
      (fun k => g (8 * j + q.val / 16) (q.val % 16) (k % 64)) 512 rfl).trans ?_)
  congr 1
  refine Finset.sum_congr rfl fun h hh => ?_
  have hh := Finset.mem_range.1 hh
  rw [show (64 * (q.val / 16) + h) / 64 = q.val / 16 by omega, show (64 * (q.val / 16) + h) % 64 = h by omega]

/-- A product over the rows. -/
theorem rows_state {f g : ℕ → ℕ → ℕ → ℝ} {j : ℕ} {x : FVec Ideal S2176x128 .f32} {w : FVec Ideal S2176x512 .f32}
    (hx : IsRows f j x) (hw : IsState g j w) (q : Fin 128) (c : Fin 512) :
    ∑ r : Fin 2176, x (ix2 r q) * w (ix2 r c)
      = ((∑ t ∈ Finset.range 2176, f t (8 * j + q.val / 16) (q.val % 16) * g (8 * j + c.val / 64) (c.val % 64) t : ℝ) : EReal) := by
  rw [← sum_time]
  refine (Finset.sum_congr rfl fun r _ => by rw [hx r q, hw r c]).trans
    (fin_dot 2176 (fun r => f (time r) (8 * j + q.val / 16) (q.val % 16)) fun r => g (8 * j + c.val / 64) (c.val % 64) (time r))

theorem pay39 (x : FVec Ideal S2176x128 .f32) (w : FVec Ideal S1x128x512 .bf16) (r : Fin 2176) (c : Fin 512) :
    k0_pay39 x w (ix2 r c) = ∑ k : Fin 128, x (ix2 r k) * w (ix3 0 k c) := by
  pointwise [k0_pay39, k0_pay38, k0_pay37]
theorem pay40 (x : FVec Ideal S2176x128 .f32) (w : FVec Ideal S1x128x512 .bf16) (r : Fin 2176) (c : Fin 512) :
    k0_pay40 x w (ix2 r c) = ∑ k : Fin 128, x (ix2 r k) * w (ix3 0 k c) := by
  pointwise [k0_pay40, k0_pay38, k0_pay37]
theorem pay89 (x : FVec Ideal S2176x128 .f32) (w : FVec Ideal S1x128x512 .bf16) (r : Fin 2176) (c : Fin 512) :
    k1_pay89 x w (ix2 r c) = ∑ k : Fin 128, x (ix2 r k) * w (ix3 0 k c) := by
  pointwise [k1_pay89, k1_pay88, k1_pay87]
theorem pay90 (x : FVec Ideal S2176x128 .f32) (w : FVec Ideal S1x128x512 .bf16) (r : Fin 2176) (c : Fin 512) :
    k1_pay90 x w (ix2 r c) = 0 - ∑ k : Fin 128, x (ix2 r k) * w (ix3 0 k c) := by
  pointwise [k1_pay90, k1_pay88, k1_pay87]
theorem pay41 (x : FVec Ideal S1x1x512 .f32) (s : Fin 8) (c : Fin 512) : k0_pay41 x (ix2 s c) = x (ix3 0 0 c) := by
  pointwise [k0_pay41]
theorem pay42 (x : FVec Ideal S1x1x512 .f32) (s : Fin 8) (c : Fin 512) : k0_pay42 x (ix2 s c) = x (ix3 0 0 c) := by
  pointwise [k0_pay42]
theorem pay91 (x : FVec Ideal S1x1x512 .f32) (s : Fin 8) (c : Fin 512) : k1_pay91 x (ix2 s c) = x (ix3 0 0 c) := by
  pointwise [k1_pay91]
theorem pay92 (x : FVec Ideal S1x1x512 .f32) (s : Fin 8) (c : Fin 512) : k1_pay92 x (ix2 s c) = 0 - x (ix3 0 0 c) := by
  pointwise [k1_pay92]
theorem pay2 (sr si : FVec Ideal S2176x512 .f32) (wr wi : FVec Ideal S1x128x512 .bf16) (d : FVec Ideal S1x1x128 .f32)
    (u : FVec Ideal S2176x128 .f32) (r : Fin 2176) (q : Fin 128) :
    k0_pay2 sr wr si wi d u (ix2 r q) = (∑ k : Fin 512, sr (ix2 r k) * wr (ix3 0 q k)) - (∑ k : Fin 512, si (ix2 r k) * wi (ix3 0 q k))
      + d (ix3 0 0 q) * u (ix2 r q) := by
  pointwise [k0_pay2]
theorem pay211 (dy : FVec Ideal S2176x128 .f32) (gr gi : FVec Ideal S2176x512 .f32) (wr wi : FVec Ideal S1x128x512 .bf16)
    (d : FVec Ideal S1x1x128 .f32) (r : Fin 2176) (q : Fin 128) :
    (k1_pay211 (F := Ideal) (k1_pay208 gi) (k1_pay209 (k1_pay87 dy) gr d wr) (k1_pay210 wi) (ix2 r q) : EReal)
      = d (ix3 0 0 q) * dy (ix2 r q) + (∑ k : Fin 512, gr (ix2 r k) * wr (ix3 0 q k)) + ∑ k : Fin 512, gi (ix2 r k) * wi (ix3 0 q k) := by
  pointwise [k1_pay211, k1_pay208, k1_pay209, k1_pay87, k1_pay210, k1_pay207]
theorem pay212 (u : FVec Ideal S2176x128 .f32) (g : FVec Ideal S2176x512 .f32) (q : Fin 128) (c : Fin 512) :
    k1_pay212 (k1_pay206 u) (k1_pay207 g) (ix2 q c) = ∑ r : Fin 2176, u (ix2 r q) * g (ix2 r c) := by
  pointwise [k1_pay212, k1_pay206, k1_pay205, k1_pay207]
theorem pay222 (u : FVec Ideal S2176x128 .f32) (g : FVec Ideal S2176x512 .f32) (q : Fin 128) (c : Fin 512) :
    k1_pay222 (k1_pay206 u) (k1_pay208 g) (ix2 q c) = ∑ r : Fin 2176, u (ix2 r q) * g (ix2 r c) := by
  pointwise [k1_pay222, k1_pay206, k1_pay205, k1_pay208]
theorem pay231 (u : FVec Ideal S2176x128 .f32) (g : FVec Ideal S2176x512 .f32) (q : Fin 128) (c : Fin 512) :
    k1_pay231 (k1_pay88 u) g (ix2 q c) = ∑ r : Fin 2176, u (ix2 r q) * g (ix2 r c) := by
  pointwise [k1_pay231, k1_pay88, k1_pay87]
theorem pay241 (u : FVec Ideal S2176x128 .f32) (g : FVec Ideal S2176x512 .f32) (q : Fin 128) (c : Fin 512) :
    k1_pay241 (k1_pay88 u) (k1_pay240 g) (ix2 q c) = 0 - ∑ r : Fin 2176, u (ix2 r q) * g (ix2 r c) := by
  pointwise [k1_pay241, k1_pay88, k1_pay87, k1_pay240]
theorem pay3 (x u : FVec Ideal S2176x128 .f32) (q : Fin 128) :
    k1_pay3 (k1_pay87 x) (k1_pay205 u) (ix3 0 0 q) = ∑ r : Fin 2176, x (ix2 r q) * u (ix2 r q) := by
  pointwise [k1_pay3, k1_pay87, k1_pay205]
theorem sumRows_apply (x : FVec Ideal S8x512 .f32) (c : Fin 512) : sumRows x (ix3 0 0 c) = ∑ s : Fin 8, x (ix2 s c) := by
  pointwise [sumRows]

section Masks

/-- Segment `r` counted from the first. -/
def up (r : ℕ) : Fin 8 := ⟨r % 8, Nat.mod_lt _ (by decide)⟩
/-- Segment `r` counted from the last. -/
def down (r : ℕ) : Fin 8 := ⟨7 - r % 8, by omega⟩

theorem mask_up (c : Fin 512) : k0_pay66 (ix2 (up 0) c) = 1#1 ∧ ∀ r < 7, k0_pay66 (ix2 (up (r + 1)) c) = 0#1 := by
  refine ⟨rfl, fun r hr => ?_⟩
  interval_cases r <;> rfl

theorem mask_down (c : Fin 512) : k1_pay115 (ix2 (down 0) c) = 1#1 ∧ ∀ r < 7, k1_pay115 (ix2 (down (r + 1)) c) = 0#1 := by
  refine ⟨rfl, fun r hr => ?_⟩
  interval_cases r <;> rfl

theorem rot_up (x : FVec Ideal Blk .f32) (c : Fin 512) : ∀ r < 7, dynamicRotate 0 1#32 none x rotates_S8x512_d0 (ix2 (up (r + 1)) c) = x (ix2 (up r) c) := by
  intro r hr
  rw [Pointwise.dynamicRotate_apply]
  congr 1
  funext a
  match a with
  | ⟨0, _⟩ =>
    refine Fin.ext ?_
    show ((r + 1) % 8 + 8 - (1 + 0) % 8) % 8 = r % 8
    omega
  | ⟨1, _⟩ => rfl

theorem rot_down (x : FVec Ideal Blk .f32) (c : Fin 512) : ∀ r < 7, dynamicRotate 0 7#32 none x rotates_S8x512_d0 (ix2 (down (r + 1)) c) = x (ix2 (down r) c) := by
  intro r hr
  rw [Pointwise.dynamicRotate_apply]
  congr 1
  funext a
  match a with
  | ⟨0, _⟩ =>
    refine Fin.ext ?_
    show (7 - (r + 1) % 8 + 8 - (7 + 0) % 8) % 8 = 7 - r % 8
    omega
  | ⟨1, _⟩ => rfl

end Masks

section Forward

variable {D : Data} {j : ℕ} {x0 : FVec Ideal S2176x128 .f32} {x1 x2 x5 x6 : FVec Ideal S1x128x512 .bf16} {x3 x4 : FVec Ideal S1x1x512 .f32}
  {x7 : FVec Ideal S1x1x128 .f32}

/-- A block of a pair of arrays holds the numbers of its rows. -/
theorem at_blocks {f g : FVec Ideal S2176x512 .f32} {z : ℕ → ℂ} {c : Fin 512} (h : ∀ r : Fin 2176, At (f, g) (ix2 r c) (z (time r.val)))
    (i : ℕ) (hi : i < 272) (s : Fin 8) : At (blocks f g i) (ix2 s c) (z (272 * s.val + i)) := by
  have e := h ⟨(8 * i + s.val) % 2176, Nat.mod_lt _ (by decide)⟩
  have ht : time ((8 * i + s.val) % 2176) = 272 * s.val + i := by unfold time; omega
  rw [show time (⟨(8 * i + s.val) % 2176, Nat.mod_lt _ (by decide)⟩ : Fin 2176).val = 272 * s.val + i from ht] at e
  exact ⟨e.1, e.2⟩

theorem fwd_in (hu : IsRows D.u j x0) (hbr : IsDiag (fun g h p => (D.b g p h).re) j x1) (hbi : IsDiag (fun g h p => (D.b g p h).im) j x2)
    (r : Fin 2176) (c : Fin 512) : At (k0_pay39 x0 x1, k0_pay40 x0 x2) (ix2 r c) (D.bu (8 * j + c.val / 64) (c.val % 64) (time r.val)) := by
  refine ⟨?_, ?_⟩
  · dsimp only
    rw [pay39, rows_diag hu hbr]
    congr 1
    unfold Data.bu
    rw [Complex.re_sum]
    exact Finset.sum_congr rfl fun h _ => by simp [Complex.mul_re]; ring
  · dsimp only
    rw [pay40, rows_diag hu hbi]
    congr 1
    unfold Data.bu
    rw [Complex.im_sum]
    exact Finset.sum_congr rfl fun h _ => by simp [Complex.mul_im]; ring

theorem fwd_states (hu : IsRows D.u j x0) (hbr : IsDiag (fun g h p => (D.b g p h).re) j x1) (hbi : IsDiag (fun g h p => (D.b g p h).im) j x2)
    (har : IsRow (fun g p => (D.a g p).re) j x3) (hai : IsRow (fun g p => (D.a g p).im) j x4) (s : Fin 8) (c : Fin 512) (n : ℕ) (hn : n ≤ 272) :
    At (fwdStates x0 x1 x2 x3 x4 n) (ix2 s c) (D.st (8 * j + c.val / 64) (c.val % 64) (272 * s.val + n)) := by
  have h := at_scanned (A := (k0_pay41 x3, k0_pay42 x4)) (X := blocks (k0_pay39 x0 x1) (k0_pay40 x0 x2)) (a := D.a (8 * j + c.val / 64) (c.val % 64))
    (x := D.bu (8 * j + c.val / 64) (c.val % 64)) up (mask_up c).1 (mask_up c).2 (fun x => rot_up x c)
    (fun r => ⟨by dsimp only; rw [pay41, har], by dsimp only; rw [pay42, hai]⟩)
    (fun k hk r hr => by
      have e := at_blocks (c := c) (z := D.bu (8 * j + c.val / 64) (c.val % 64)) (fun r => fwd_in hu hbr hbi r c) k hk (up r)
      rwa [show (up r).val = r from Nat.mod_eq_of_lt hr] at e) s.val s.isLt n hn
  rwa [show up s.val = s from Fin.ext (Nat.mod_eq_of_lt s.isLt)] at h

theorem fwd_saved (hu : IsRows D.u j x0) (hbr : IsDiag (fun g h p => (D.b g p h).re) j x1) (hbi : IsDiag (fun g h p => (D.b g p h).im) j x2)
    (har : IsRow (fun g p => (D.a g p).re) j x3) (hai : IsRow (fun g p => (D.a g p).im) j x4) :
    IsState (fun g p t => (D.st g p (t + 1)).re) j (fwdSre x0 x1 x2 x3 x4) ∧ IsState (fun g p t => (D.st g p (t + 1)).im) j (fwdSim x0 x1 x2 x3 x4) :=
  ⟨fun r c => (fwd_states hu hbr hbi har hai ⟨r.val % 8, Nat.mod_lt _ (by decide)⟩ c (r.val / 8 + 1) (by omega)).1,
   fun r c => (fwd_states hu hbr hbi har hai ⟨r.val % 8, Nat.mod_lt _ (by decide)⟩ c (r.val / 8 + 1) (by omega)).2⟩

theorem fwd_y {sr si : FVec Ideal S2176x512 .f32} (hsr : IsState (fun g p t => (D.st g p (t + 1)).re) j sr)
    (hsi : IsState (fun g p t => (D.st g p (t + 1)).im) j si)
    (hu : IsRows D.u j x0) (hcr : IsDiag (fun g h p => (D.c g h p).re) j x5) (hci : IsDiag (fun g h p => (D.c g h p).im) j x6)
    (hd : ∀ q : Fin 128, x7 (ix3 0 0 q) = D.d (8 * j + q.val / 16) (q.val % 16)) (r : Fin 2176) (q : Fin 128) :
    (k0_pay2 (F := Ideal) sr x5 si x6 x7 x0 (ix2 r q) : EReal) = D.y (time r.val) (8 * j + q.val / 16) (q.val % 16) := by
  rw [pay2, state_diag hsr hcr, state_diag hsi hci, hd, hu]
  rfl

end Forward

section Backward

variable {D : Data} {j : ℕ} {x0 x1 : FVec Ideal S2176x128 .f32} {x2 x3 : FVec Ideal S2176x512 .f32} {x4 x5 x8 x9 : FVec Ideal S1x128x512 .bf16}
  {x6 x7 : FVec Ideal S1x1x512 .f32} {x10 : FVec Ideal S1x1x128 .f32}

theorem bwd_in (hy : IsRows D.dy j x0) (hcr : IsDiag (fun g h p => (D.c g h p).re) j x8) (hci : IsDiag (fun g h p => (D.c g h p).im) j x9)
    (r : Fin 2176) (c : Fin 512) : At (k1_pay89 x0 x8, k1_pay90 x0 x9) (ix2 r c) (D.ds (8 * j + c.val / 64) (c.val % 64) (time r.val)) := by
  refine ⟨?_, ?_⟩
  · dsimp only
    rw [pay89, rows_diag hy hcr]
    congr 1
    unfold Data.ds
    rw [Complex.re_sum]
    exact Finset.sum_congr rfl fun h _ => by simp [Complex.mul_re]
  · dsimp only
    rw [pay90, rows_diag hy hci, ← EReal.coe_zero, ← EReal.coe_sub]
    congr 1
    unfold Data.ds
    rw [Complex.im_sum, zero_sub, ← Finset.sum_neg_distrib]
    exact Finset.sum_congr rfl fun h _ => by simp [Complex.mul_im]

theorem bwd_states (hy : IsRows D.dy j x0) (hcr : IsDiag (fun g h p => (D.c g h p).re) j x8) (hci : IsDiag (fun g h p => (D.c g h p).im) j x9)
    (har : IsRow (fun g p => (D.a g p).re) j x6) (hai : IsRow (fun g p => (D.a g p).im) j x7) (r : ℕ) (hr : r < 8) (c : Fin 512) (n : ℕ) (hn : n ≤ 272) :
    At (bwdStates x0 x6 x7 x8 x9 n) (ix2 (down r) c) (D.gr (8 * j + c.val / 64) (c.val % 64) (272 * r + n)) := by
  refine at_scanned (A := (k1_pay91 x6, k1_pay92 x7)) (X := bwdX x0 x8 x9) (a := conj (D.a (8 * j + c.val / 64) (c.val % 64)))
    (x := fun i => D.ds (8 * j + c.val / 64) (c.val % 64) (2175 - i)) down (mask_down c).1 (mask_down c).2 (fun x => rot_down x c)
    (fun r => ⟨by dsimp only; rw [pay91, har]; simp, by dsimp only; rw [pay92, hai, ← EReal.coe_zero, ← EReal.coe_sub]; simp⟩)
    (fun k hk r hr => ?_) r hr n hn
  have e := at_blocks (c := c) (z := D.ds (8 * j + c.val / 64) (c.val % 64)) (fun r => bwd_in hy hcr hci r c) (271 - k) (by omega) (down r)
  have hd : (down r).val = 7 - r % 8 := rfl
  rwa [show 272 * (down r).val + (271 - k) = 2175 - (272 * r + k) by rw [hd]; omega] at e

theorem bwd_grads (hy : IsRows D.dy j x0) (hcr : IsDiag (fun g h p => (D.c g h p).re) j x8) (hci : IsDiag (fun g h p => (D.c g h p).im) j x9)
    (har : IsRow (fun g p => (D.a g p).re) j x6) (hai : IsRow (fun g p => (D.a g p).im) j x7) :
    IsState (fun g p t => (D.gr g p (2176 - t)).re) j (bwdGre x0 x6 x7 x8 x9) ∧ IsState (fun g p t => (D.gr g p (2176 - t)).im) j (bwdGim x0 x6 x7 x8 x9) := by
  have h (r : Fin 2176) (c : Fin 512) := bwd_states hy hcr hci har hai (7 - r.val % 8) (by omega) c (272 - r.val / 8) (by omega)
  have hd (r : Fin 2176) : down (7 - r.val % 8) = ⟨r.val % 8, Nat.mod_lt _ (by decide)⟩ := Fin.ext (by show 7 - (7 - r.val % 8) % 8 = r.val % 8; omega)
  have ht (r : Fin 2176) : 272 * (7 - r.val % 8) + (272 - r.val / 8) = 2176 - time r.val := by unfold time; omega
  refine ⟨fun r c => ?_, fun r c => ?_⟩
  · have e := (h r c).1
    rw [hd r, ht r] at e
    exact e
  · have e := (h r c).2
    rw [hd r, ht r] at e
    exact e

theorem bwd_prev (hsr : IsState (fun g p t => (D.st g p (t + 1)).re) j x2) (hsi : IsState (fun g p t => (D.st g p (t + 1)).im) j x3)
    (r : ℕ) (hr : r < 8) (c : Fin 512) (k : ℕ) (hk : k < 272) :
    At (bwdP x2 x3 k) (ix2 (down r) c) (D.st (8 * j + c.val / 64) (c.val % 64) (2175 - (272 * r + k))) := by
  have hb (i : ℕ) (hi : i < 272) (s : Fin 8) := at_blocks (c := c) (z := fun t => D.st (8 * j + c.val / 64) (c.val % 64) (t + 1))
    (f := x2) (g := x3) (fun r => ⟨hsr r c, hsi r c⟩) i hi s
  have hd : (down r).val = 7 - r % 8 := rfl
  unfold bwdP
  by_cases h : k < 271
  · rw [if_pos h]
    have e := hb (270 - k) (by omega) (down r)
    rwa [show 272 * (down r).val + (270 - k) + 1 = 2175 - (272 * r + k) by rw [hd]; omega] at e
  · rw [if_neg h]
    have hk' : k = 271 := by omega
    subst hk'
    by_cases h7 : r = 7
    · subst h7
      have hz : ∀ x : FVec Ideal S8x512 .f32, firstSaved (F := Ideal) x (ix2 (down 7) c) = ((0 : ℝ) : EReal) := fun x => (at_zero (ix2 (down 7) c)).1
      exact ⟨hz (block x2 271), hz (block x3 271)⟩
    · have e := hb 271 (by omega) (up (6 - r))
      have hu : (up (6 - r)).val = (6 - r) % 8 := rfl
      have hs : down r = up (6 - r + 1) := Fin.ext (by show 7 - r % 8 = (6 - r + 1) % 8; omega)
      have hm : ∀ x : FVec Ideal S8x512 .f32, firstSaved (F := Ideal) x (ix2 (down r) c) = x (ix2 (up (6 - r)) c) := fun x => by
        show Scalar.select (k0_pay66 (ix2 (down r) c)) _ _ = _
        rw [hs, (mask_up c).2 (6 - r) (by omega), sel0]
        exact rot_up x c (6 - r) (by omega)
      rw [show 272 * (up (6 - r)).val + 271 + 1 = 2175 - (272 * r + 271) by rw [hu]; omega] at e
      exact ⟨(hm (block x2 271)).trans e.1, (hm (block x3 271)).trans e.2⟩

theorem bwd_acc (hy : IsRows D.dy j x0) (hcr : IsDiag (fun g h p => (D.c g h p).re) j x8) (hci : IsDiag (fun g h p => (D.c g h p).im) j x9)
    (har : IsRow (fun g p => (D.a g p).re) j x6) (hai : IsRow (fun g p => (D.a g p).im) j x7)
    (hsr : IsState (fun g p t => (D.st g p (t + 1)).re) j x2) (hsi : IsState (fun g p t => (D.st g p (t + 1)).im) j x3) (c : Fin 512) :
    (sumRows (F := Ideal) (bwdAcc x0 x2 x3 x6 x7 x8 x9).1 (ix3 0 0 c) : EReal) = (((D.da (8 * j + c.val / 64) (c.val % 64)).re : ℝ) : EReal)
      ∧ (sumRows (F := Ideal) (bwdAcc x0 x2 x3 x6 x7 x8 x9).2 (ix3 0 0 c) : EReal) = (((D.da (8 * j + c.val / 64) (c.val % 64)).im : ℝ) : EReal) := by
  have h (r : ℕ) (hr : r < 8) := at_vsum (Z := bwdStates x0 x6 x7 x8 x9) (P := bwdP x2 x3) (z := (zeroBlk, zeroBlk)) (y := ix2 (down r) c) (b := 0)
    (ζ := fun n => D.gr (8 * j + c.val / 64) (c.val % 64) (272 * r + n)) (π := fun k => D.st (8 * j + c.val / 64) (c.val % 64) (2175 - (272 * r + k)))
    (at_zero _) 272 (fun i hi => bwd_states hy hcr hci har hai r hr c (i + 1) (by omega)) (fun i hi => bwd_prev hsr hsi r hr c i hi)
  have hs : D.da (8 * j + c.val / 64) (c.val % 64) = ∑ r ∈ Finset.range 8, (0 + ∑ k ∈ Finset.range 272,
      D.gr (8 * j + c.val / 64) (c.val % 64) (272 * r + (k + 1)) * conj (D.st (8 * j + c.val / 64) (c.val % 64) (2175 - (272 * r + k)))) := by
    unfold Data.da
    refine (sum_blocks 8 272 _).trans (Finset.sum_congr rfl fun r _ => ?_)
    rw [zero_add]
    rfl
  have hf (x : FVec Ideal S8x512 .f32) : ∑ s : Fin 8, x (ix2 s c) = ∑ r ∈ Finset.range 8, x (ix2 (down r) c) := by
    rw [← Fin.sum_univ_eq_sum_range (fun r => x (ix2 (down r) c)), ← Equiv.sum_comp (Fin.revPerm) fun s : Fin 8 => x (ix2 s c)]
    refine Finset.sum_congr rfl fun s _ => ?_
    rw [show Fin.revPerm s = down s.val from Fin.ext (by show 8 - (s.val + 1) = 7 - s.val % 8; omega)]
  unfold bwdAcc
  rw [sumRows_apply, sumRows_apply, hf, hf, hs, Complex.re_sum, Complex.im_sum, coe_sum, coe_sum]
  exact ⟨Finset.sum_congr rfl fun r hr => (h r (Finset.mem_range.1 hr)).1, Finset.sum_congr rfl fun r hr => (h r (Finset.mem_range.1 hr)).2⟩

theorem bwd_du (hy : IsRows D.dy j x0) {gr gi : FVec Ideal S2176x512 .f32} (hgr : IsState (fun g p t => (D.gr g p (2176 - t)).re) j gr)
    (hgi : IsState (fun g p t => (D.gr g p (2176 - t)).im) j gi)
    (hbr : IsDiag (fun g h p => (D.b g p h).re) j x4) (hbi : IsDiag (fun g h p => (D.b g p h).im) j x5)
    (hd : ∀ q : Fin 128, x10 (ix3 0 0 q) = D.d (8 * j + q.val / 16) (q.val % 16)) (r : Fin 2176) (q : Fin 128) :
    (k1_pay211 (F := Ideal) (k1_pay208 gi) (k1_pay209 (k1_pay87 x0) gr x10 x4) (k1_pay210 x5) (ix2 r q) : EReal)
      = D.du (time r.val) (8 * j + q.val / 16) (q.val % 16) := by
  rw [pay211, state_diag hgr hbr, state_diag hgi hbi, hd, hy]
  rfl

theorem bwd_dd (hy : IsRows D.dy j x0) (hu : IsRows D.u j x1) (q : Fin 128) :
    (k1_pay3 (F := Ideal) (k1_pay87 x0) (k1_pay205 x1) (ix3 0 0 q) : EReal) = ((D.dd (8 * j + q.val / 16) (q.val % 16) : ℝ) : EReal) := by
  rw [pay3]
  unfold Data.dd
  rw [← sum_time]
  refine (Finset.sum_congr rfl fun r _ => by rw [hy r q, hu r q]).trans
    (fin_dot 2176 (fun r => D.dy (time r) (8 * j + q.val / 16) (q.val % 16)) fun r => D.u (time r) (8 * j + q.val / 16) (q.val % 16))

theorem bwd_dbr (hu : IsRows D.u j x1) {g : FVec Ideal S2176x512 .f32} (hg : IsState (fun g p t => (D.gr g p (2176 - t)).re) j g) (q : Fin 128) (c : Fin 512)
    (hc : c.val / 64 = q.val / 16) :
    (k1_pay212 (F := Ideal) (k1_pay206 x1) (k1_pay207 g) (ix2 q c) : EReal) = ((D.dbr (8 * j + c.val / 64) (c.val % 64) (q.val % 16) : ℝ) : EReal) := by
  rw [pay212, rows_state hu hg, ← hc]
  rfl

theorem bwd_dbi (hu : IsRows D.u j x1) {g : FVec Ideal S2176x512 .f32} (hg : IsState (fun g p t => (D.gr g p (2176 - t)).im) j g) (q : Fin 128) (c : Fin 512)
    (hc : c.val / 64 = q.val / 16) :
    (k1_pay222 (F := Ideal) (k1_pay206 x1) (k1_pay208 g) (ix2 q c) : EReal) = ((D.dbi (8 * j + c.val / 64) (c.val % 64) (q.val % 16) : ℝ) : EReal) := by
  rw [pay222, rows_state hu hg, ← hc]
  rfl

theorem bwd_dcr (hy : IsRows D.dy j x0) (hsr : IsState (fun g p t => (D.st g p (t + 1)).re) j x2) (q : Fin 128) (c : Fin 512)
    (hc : c.val / 64 = q.val / 16) :
    (k1_pay231 (F := Ideal) (k1_pay88 x0) x2 (ix2 q c) : EReal) = ((D.dcr (8 * j + c.val / 64) (q.val % 16) (c.val % 64) : ℝ) : EReal) := by
  rw [pay231, rows_state hy hsr, ← hc]
  rfl

theorem bwd_dci (hy : IsRows D.dy j x0) (hsi : IsState (fun g p t => (D.st g p (t + 1)).im) j x3) (q : Fin 128) (c : Fin 512)
    (hc : c.val / 64 = q.val / 16) :
    (k1_pay241 (F := Ideal) (k1_pay88 x0) (k1_pay240 x3) (ix2 q c) : EReal) = ((D.dci (8 * j + c.val / 64) (q.val % 16) (c.val % 64) : ℝ) : EReal) := by
  rw [pay241, rows_state hy hsi, ← hc, ← EReal.coe_zero, ← EReal.coe_sub, zero_sub]
  rfl

/-- The eight blocks on the diagonal, read back. -/
theorem groups_read (v : View sig .tc .vmem S1x8x16x64 .f32) (f : v.ty.Contents (Elt Ideal)) (x : FVec Ideal S128x512 .f32) (gl : Fin 8) (h : Fin 16) (p : Fin 64) :
    v.read (Elt Ideal) (v.writes (Elt Ideal) f (groupPieces x)) (ix4 0 gl h p)
      = x (ix2 ⟨16 * gl.val + h.val, by omega⟩ ⟨64 * gl.val + p.val, by omega⟩) := by
  unfold groupPieces
  match gl with
  | ⟨0, _⟩ =>
    refine (View.read_writes_cons_unit_of_not_mem v f inb_S1x8x16x64_S1x1x16x64_0_7_0_0 _ _ _ rfl 1 (.inl (by show 0 < 7; decide))).trans ?_
    refine (View.read_writes_cons_unit_of_not_mem v f inb_S1x8x16x64_S1x1x16x64_0_6_0_0 _ _ _ rfl 1 (.inl (by show 0 < 6; decide))).trans ?_
    refine (View.read_writes_cons_unit_of_not_mem v f inb_S1x8x16x64_S1x1x16x64_0_5_0_0 _ _ _ rfl 1 (.inl (by show 0 < 5; decide))).trans ?_
    refine (View.read_writes_cons_unit_of_not_mem v f inb_S1x8x16x64_S1x1x16x64_0_4_0_0 _ _ _ rfl 1 (.inl (by show 0 < 4; decide))).trans ?_
    refine (View.read_writes_cons_unit_of_not_mem v f inb_S1x8x16x64_S1x1x16x64_0_3_0_0 _ _ _ rfl 1 (.inl (by show 0 < 3; decide))).trans ?_
    refine (View.read_writes_cons_unit_of_not_mem v f inb_S1x8x16x64_S1x1x16x64_0_2_0_0 _ _ _ rfl 1 (.inl (by show 0 < 2; decide))).trans ?_
    refine (View.read_writes_cons_unit_of_not_mem v f inb_S1x8x16x64_S1x1x16x64_0_1_0_0 _ _ _ rfl 1 (.inl (by show 0 < 1; decide))).trans ?_
    refine (View.read_writes_cons_unit_of_mem v f inb_S1x8x16x64_S1x1x16x64_0_0_0_0 _ _ _ (ix4 0 0 h p) rfl
      (fun a => by match a with | ⟨0, _⟩ => rfl | ⟨1, _⟩ => rfl | ⟨2, _⟩ => exact (Nat.zero_add _).symm | ⟨3, _⟩ => exact (Nat.zero_add _).symm)).trans ?_
    pointwise
  | ⟨1, _⟩ =>
    refine (View.read_writes_cons_unit_of_not_mem v f inb_S1x8x16x64_S1x1x16x64_0_7_0_0 _ _ _ rfl 1 (.inl (by show 1 < 7; decide))).trans ?_
    refine (View.read_writes_cons_unit_of_not_mem v f inb_S1x8x16x64_S1x1x16x64_0_6_0_0 _ _ _ rfl 1 (.inl (by show 1 < 6; decide))).trans ?_
    refine (View.read_writes_cons_unit_of_not_mem v f inb_S1x8x16x64_S1x1x16x64_0_5_0_0 _ _ _ rfl 1 (.inl (by show 1 < 5; decide))).trans ?_
    refine (View.read_writes_cons_unit_of_not_mem v f inb_S1x8x16x64_S1x1x16x64_0_4_0_0 _ _ _ rfl 1 (.inl (by show 1 < 4; decide))).trans ?_
    refine (View.read_writes_cons_unit_of_not_mem v f inb_S1x8x16x64_S1x1x16x64_0_3_0_0 _ _ _ rfl 1 (.inl (by show 1 < 3; decide))).trans ?_
    refine (View.read_writes_cons_unit_of_not_mem v f inb_S1x8x16x64_S1x1x16x64_0_2_0_0 _ _ _ rfl 1 (.inl (by show 1 < 2; decide))).trans ?_
    refine (View.read_writes_cons_unit_of_mem v f inb_S1x8x16x64_S1x1x16x64_0_1_0_0 _ _ _ (ix4 0 0 h p) rfl
      (fun a => by match a with | ⟨0, _⟩ => rfl | ⟨1, _⟩ => rfl | ⟨2, _⟩ => exact (Nat.zero_add _).symm | ⟨3, _⟩ => exact (Nat.zero_add _).symm)).trans ?_
    pointwise
  | ⟨2, _⟩ =>
    refine (View.read_writes_cons_unit_of_not_mem v f inb_S1x8x16x64_S1x1x16x64_0_7_0_0 _ _ _ rfl 1 (.inl (by show 2 < 7; decide))).trans ?_
    refine (View.read_writes_cons_unit_of_not_mem v f inb_S1x8x16x64_S1x1x16x64_0_6_0_0 _ _ _ rfl 1 (.inl (by show 2 < 6; decide))).trans ?_
    refine (View.read_writes_cons_unit_of_not_mem v f inb_S1x8x16x64_S1x1x16x64_0_5_0_0 _ _ _ rfl 1 (.inl (by show 2 < 5; decide))).trans ?_
    refine (View.read_writes_cons_unit_of_not_mem v f inb_S1x8x16x64_S1x1x16x64_0_4_0_0 _ _ _ rfl 1 (.inl (by show 2 < 4; decide))).trans ?_
    refine (View.read_writes_cons_unit_of_not_mem v f inb_S1x8x16x64_S1x1x16x64_0_3_0_0 _ _ _ rfl 1 (.inl (by show 2 < 3; decide))).trans ?_
    refine (View.read_writes_cons_unit_of_mem v f inb_S1x8x16x64_S1x1x16x64_0_2_0_0 _ _ _ (ix4 0 0 h p) rfl
      (fun a => by match a with | ⟨0, _⟩ => rfl | ⟨1, _⟩ => rfl | ⟨2, _⟩ => exact (Nat.zero_add _).symm | ⟨3, _⟩ => exact (Nat.zero_add _).symm)).trans ?_
    pointwise
  | ⟨3, _⟩ =>
    refine (View.read_writes_cons_unit_of_not_mem v f inb_S1x8x16x64_S1x1x16x64_0_7_0_0 _ _ _ rfl 1 (.inl (by show 3 < 7; decide))).trans ?_
    refine (View.read_writes_cons_unit_of_not_mem v f inb_S1x8x16x64_S1x1x16x64_0_6_0_0 _ _ _ rfl 1 (.inl (by show 3 < 6; decide))).trans ?_
    refine (View.read_writes_cons_unit_of_not_mem v f inb_S1x8x16x64_S1x1x16x64_0_5_0_0 _ _ _ rfl 1 (.inl (by show 3 < 5; decide))).trans ?_
    refine (View.read_writes_cons_unit_of_not_mem v f inb_S1x8x16x64_S1x1x16x64_0_4_0_0 _ _ _ rfl 1 (.inl (by show 3 < 4; decide))).trans ?_
    refine (View.read_writes_cons_unit_of_mem v f inb_S1x8x16x64_S1x1x16x64_0_3_0_0 _ _ _ (ix4 0 0 h p) rfl
      (fun a => by match a with | ⟨0, _⟩ => rfl | ⟨1, _⟩ => rfl | ⟨2, _⟩ => exact (Nat.zero_add _).symm | ⟨3, _⟩ => exact (Nat.zero_add _).symm)).trans ?_
    pointwise
  | ⟨4, _⟩ =>
    refine (View.read_writes_cons_unit_of_not_mem v f inb_S1x8x16x64_S1x1x16x64_0_7_0_0 _ _ _ rfl 1 (.inl (by show 4 < 7; decide))).trans ?_
    refine (View.read_writes_cons_unit_of_not_mem v f inb_S1x8x16x64_S1x1x16x64_0_6_0_0 _ _ _ rfl 1 (.inl (by show 4 < 6; decide))).trans ?_
    refine (View.read_writes_cons_unit_of_not_mem v f inb_S1x8x16x64_S1x1x16x64_0_5_0_0 _ _ _ rfl 1 (.inl (by show 4 < 5; decide))).trans ?_
    refine (View.read_writes_cons_unit_of_mem v f inb_S1x8x16x64_S1x1x16x64_0_4_0_0 _ _ _ (ix4 0 0 h p) rfl
      (fun a => by match a with | ⟨0, _⟩ => rfl | ⟨1, _⟩ => rfl | ⟨2, _⟩ => exact (Nat.zero_add _).symm | ⟨3, _⟩ => exact (Nat.zero_add _).symm)).trans ?_
    pointwise
  | ⟨5, _⟩ =>
    refine (View.read_writes_cons_unit_of_not_mem v f inb_S1x8x16x64_S1x1x16x64_0_7_0_0 _ _ _ rfl 1 (.inl (by show 5 < 7; decide))).trans ?_
    refine (View.read_writes_cons_unit_of_not_mem v f inb_S1x8x16x64_S1x1x16x64_0_6_0_0 _ _ _ rfl 1 (.inl (by show 5 < 6; decide))).trans ?_
    refine (View.read_writes_cons_unit_of_mem v f inb_S1x8x16x64_S1x1x16x64_0_5_0_0 _ _ _ (ix4 0 0 h p) rfl
      (fun a => by match a with | ⟨0, _⟩ => rfl | ⟨1, _⟩ => rfl | ⟨2, _⟩ => exact (Nat.zero_add _).symm | ⟨3, _⟩ => exact (Nat.zero_add _).symm)).trans ?_
    pointwise
  | ⟨6, _⟩ =>
    refine (View.read_writes_cons_unit_of_not_mem v f inb_S1x8x16x64_S1x1x16x64_0_7_0_0 _ _ _ rfl 1 (.inl (by show 6 < 7; decide))).trans ?_
    refine (View.read_writes_cons_unit_of_mem v f inb_S1x8x16x64_S1x1x16x64_0_6_0_0 _ _ _ (ix4 0 0 h p) rfl
      (fun a => by match a with | ⟨0, _⟩ => rfl | ⟨1, _⟩ => rfl | ⟨2, _⟩ => exact (Nat.zero_add _).symm | ⟨3, _⟩ => exact (Nat.zero_add _).symm)).trans ?_
    pointwise
  | ⟨7, _⟩ =>
    refine (View.read_writes_cons_unit_of_mem v f inb_S1x8x16x64_S1x1x16x64_0_7_0_0 _ _ _ (ix4 0 0 h p) rfl
      (fun a => by match a with | ⟨0, _⟩ => rfl | ⟨1, _⟩ => rfl | ⟨2, _⟩ => exact (Nat.zero_add _).symm | ⟨3, _⟩ => exact (Nat.zero_add _).symm)).trans ?_
    pointwise

end Backward

end Cert.S5

end
-- ==== Proof.Arrays.lean ====
/- The arrays the two calls read and write, from the blocks of the four chunks. -/
module

public import proofs.«01_k».proof.Proof.Chunk
public import proofs.«01_k».proof.Proof.Run
public import Idealize.ShloMosaic.Lib.Pipeline.ValueKit.Geometry

@[expose] public section

set_option maxRecDepth 16384
noncomputable section

namespace Cert.S5

open Cert.KernelIdeal Cert.KernelIdeal.Gen Cert.KernelIdeal.Run
open Idealize.ShloMosaic Idealize.ShloMosaic.TcCoe

/-- The arrays a call reads, in terms of the data. -/
structure Holds (D : Data) (V : (c : Dev nD) → (b : Ref sig .tc) → Buf (Elt Ideal) ((c : Thread nD τ).loc b)) (c : Dev nD) : Prop where
  dy : ∀ (r : Fin 2176) (k : Fin 512), (V c main_v5 (ix2 r k) : EReal) = ((D.dy (time r.val) (k.val / 16) (k.val % 16) : ℝ) : EReal)
  u : ∀ (r : Fin 2176) (k : Fin 2048), 1536 ≤ k.val →
    (V c main_v2 (ix2 r k) : EReal) = ((D.u (time r.val) ((k.val - 1536) / 16) (k.val % 16) : ℝ) : EReal)
  br : ∀ (j : Fin 4) (q : Fin 128) (k : Fin 512), (V c main_v20 (ix3 j q k) : EReal)
    = ((if k.val / 64 = q.val / 16 then (D.b (8 * j.val + q.val / 16) (k.val % 64) (q.val % 16)).re else 0 : ℝ) : EReal)
  bi : ∀ (j : Fin 4) (q : Fin 128) (k : Fin 512), (V c main_v35 (ix3 j q k) : EReal)
    = ((if k.val / 64 = q.val / 16 then (D.b (8 * j.val + q.val / 16) (k.val % 64) (q.val % 16)).im else 0 : ℝ) : EReal)
  ar : ∀ (j : Fin 4) (k : Fin 512), (V c main_v36 (ix3 j 0 k) : EReal) = (((D.a (8 * j.val + k.val / 64) (k.val % 64)).re : ℝ) : EReal)
  ai : ∀ (j : Fin 4) (k : Fin 512), (V c main_v37 (ix3 j 0 k) : EReal) = (((D.a (8 * j.val + k.val / 64) (k.val % 64)).im : ℝ) : EReal)
  cr : ∀ (j : Fin 4) (q : Fin 128) (k : Fin 512), (V c main_v51 (ix3 j q k) : EReal)
    = ((if k.val / 64 = q.val / 16 then (D.c (8 * j.val + q.val / 16) (q.val % 16) (k.val % 64)).re else 0 : ℝ) : EReal)
  ci : ∀ (j : Fin 4) (q : Fin 128) (k : Fin 512), (V c main_v65 (ix3 j q k) : EReal)
    = ((if k.val / 64 = q.val / 16 then (D.c (8 * j.val + q.val / 16) (q.val % 16) (k.val % 64)).im else 0 : ℝ) : EReal)
  d : ∀ (j : Fin 4) (q : Fin 128), (V c main_v66 (ix3 j 0 q) : EReal) = D.d (8 * j.val + q.val / 16) (q.val % 16)

/-- The arrays of saved states, in terms of the data. -/
structure Saved (D : Data) (V : (c : Dev nD) → (b : Ref sig .tc) → Buf (Elt Ideal) ((c : Thread nD τ).loc b)) (c : Dev nD) : Prop where
  re : ∀ (r : Fin 2176) (k : Fin 2048), (V c main_v67_0 (ix2 r k) : EReal) = (((D.st (k.val / 64) (k.val % 64) (time r.val + 1)).re : ℝ) : EReal)
  im : ∀ (r : Fin 2176) (k : Fin 2048), (V c main_v67_1 (ix2 r k) : EReal) = (((D.st (k.val / 64) (k.val % 64) (time r.val + 1)).im : ℝ) : EReal)

theorem rows_congr {f : ℕ → ℕ → ℝ} {a a' b b' : ℕ} (h : a = a') (h' : b = b') : ((f a b : ℝ) : EReal) = ((f a' b' : ℝ) : EReal) := by rw [h, h']

variable (V : (c : Dev nD) → (b : Ref sig .tc) → Buf (Elt Ideal) ((c : Thread nD τ).loc b)) (c : Dev nD)

section Blocks0

theorem j40 (t : Fin cfg0.N) : t.val < 4 := t.isLt
theorem at0_0 : ∀ t : Fin cfg0.N, win0_0.index t 0 = 0 ∧ win0_0.index t 1 = t.val + 12 := by decide +kernel
theorem blk0_0 (t : Fin cfg0.N) (r : Fin 2176) (q : Fin 128) (k : Fin 2048) (hk : k.val = 1536 + 128 * t.val + q.val) :
    iblk0 V c 0 t (ix2 r q) = V c main_v2 (ix2 r k) := by
  obtain ⟨e0, e1⟩ := at0_0 t
  blk_simp [iblk0]
  congr 1
  blk_ext [e0, e1]
theorem at0_1 : ∀ t : Fin cfg0.N, win0_1.index t 0 = t.val ∧ win0_1.index t 1 = 0 ∧ win0_1.index t 2 = 0 := by decide +kernel
theorem blk0_1 (t : Fin cfg0.N) (q : Fin 128) (k : Fin 512) (j : Fin 4) (hj : j.val = t.val) :
    iblk0 V c 1 t (ix3 0 q k) = V c main_v20 (ix3 j q k) := by
  obtain ⟨e0, e1, e2⟩ := at0_1 t
  blk_simp [iblk0]
  congr 1
  blk_ext [e0, e1, e2]
theorem at0_2 : ∀ t : Fin cfg0.N, win0_2.index t 0 = t.val ∧ win0_2.index t 1 = 0 ∧ win0_2.index t 2 = 0 := by decide +kernel
theorem blk0_2 (t : Fin cfg0.N) (q : Fin 128) (k : Fin 512) (j : Fin 4) (hj : j.val = t.val) :
    iblk0 V c 2 t (ix3 0 q k) = V c main_v35 (ix3 j q k) := by
  obtain ⟨e0, e1, e2⟩ := at0_2 t
  blk_simp [iblk0]
  congr 1
  blk_ext [e0, e1, e2]
theorem at0_3 : ∀ t : Fin cfg0.N, win0_3.index t 0 = t.val ∧ win0_3.index t 1 = 0 ∧ win0_3.index t 2 = 0 := by decide +kernel
theorem blk0_3 (t : Fin cfg0.N)  (k : Fin 512) (j : Fin 4) (hj : j.val = t.val) :
    iblk0 V c 3 t (ix3 0 0 k) = V c main_v36 (ix3 j 0 k) := by
  obtain ⟨e0, e1, e2⟩ := at0_3 t
  blk_simp [iblk0]
  congr 1
  blk_ext [e0, e1, e2]
theorem at0_4 : ∀ t : Fin cfg0.N, win0_4.index t 0 = t.val ∧ win0_4.index t 1 = 0 ∧ win0_4.index t 2 = 0 := by decide +kernel
theorem blk0_4 (t : Fin cfg0.N)  (k : Fin 512) (j : Fin 4) (hj : j.val = t.val) :
    iblk0 V c 4 t (ix3 0 0 k) = V c main_v37 (ix3 j 0 k) := by
  obtain ⟨e0, e1, e2⟩ := at0_4 t
  blk_simp [iblk0]
  congr 1
  blk_ext [e0, e1, e2]
theorem at0_5 : ∀ t : Fin cfg0.N, win0_5.index t 0 = t.val ∧ win0_5.index t 1 = 0 ∧ win0_5.index t 2 = 0 := by decide +kernel
theorem blk0_5 (t : Fin cfg0.N) (q : Fin 128) (k : Fin 512) (j : Fin 4) (hj : j.val = t.val) :
    iblk0 V c 5 t (ix3 0 q k) = V c main_v51 (ix3 j q k) := by
  obtain ⟨e0, e1, e2⟩ := at0_5 t
  blk_simp [iblk0]
  congr 1
  blk_ext [e0, e1, e2]
theorem at0_6 : ∀ t : Fin cfg0.N, win0_6.index t 0 = t.val ∧ win0_6.index t 1 = 0 ∧ win0_6.index t 2 = 0 := by decide +kernel
theorem blk0_6 (t : Fin cfg0.N) (q : Fin 128) (k : Fin 512) (j : Fin 4) (hj : j.val = t.val) :
    iblk0 V c 6 t (ix3 0 q k) = V c main_v65 (ix3 j q k) := by
  obtain ⟨e0, e1, e2⟩ := at0_6 t
  blk_simp [iblk0]
  congr 1
  blk_ext [e0, e1, e2]
theorem at0_7 : ∀ t : Fin cfg0.N, win0_7.index t 0 = t.val ∧ win0_7.index t 1 = 0 ∧ win0_7.index t 2 = 0 := by decide +kernel
theorem blk0_7 (t : Fin cfg0.N)  (k : Fin 128) (j : Fin 4) (hj : j.val = t.val) :
    iblk0 V c 7 t (ix3 0 0 k) = V c main_v66 (ix3 j 0 k) := by
  obtain ⟨e0, e1, e2⟩ := at0_7 t
  blk_simp [iblk0]
  congr 1
  blk_ext [e0, e1, e2]

variable {V c} {D : Data} (h : Holds D V c)
include h
theorem in0_u (t : Fin cfg0.N) : IsRows D.u t.val (iblk0 V c 0 t) := by
  intro r q
  have ht := j40 t
  refine (blk0_0 V c t r q ⟨1536 + 128 * t.val + q.val, by omega⟩ rfl).trans ((h.u r _ (by show 1536 ≤ 1536 + 128 * t.val + q.val; omega)).trans ?_)
  exact rows_congr (f := D.u (time r.val)) (by show (1536 + 128 * t.val + q.val - 1536) / 16 = _; omega) (by show (1536 + 128 * t.val + q.val) % 16 = _; omega)
theorem in0_br (t : Fin cfg0.N) : IsDiag (fun g h p => (D.b g p h).re) t.val (iblk0 V c 1 t) :=
  fun q k => (blk0_1 V c t q k ⟨t.val, j40 t⟩ rfl).trans (h.br _ q k)
theorem in0_bi (t : Fin cfg0.N) : IsDiag (fun g h p => (D.b g p h).im) t.val (iblk0 V c 2 t) :=
  fun q k => (blk0_2 V c t q k ⟨t.val, j40 t⟩ rfl).trans (h.bi _ q k)
theorem in0_ar (t : Fin cfg0.N) : IsRow (fun g p => (D.a g p).re) t.val (iblk0 V c 3 t) :=
  fun k => (blk0_3 V c t k ⟨t.val, j40 t⟩ rfl).trans (h.ar _ k)
theorem in0_ai (t : Fin cfg0.N) : IsRow (fun g p => (D.a g p).im) t.val (iblk0 V c 4 t) :=
  fun k => (blk0_4 V c t k ⟨t.val, j40 t⟩ rfl).trans (h.ai _ k)
theorem in0_cr (t : Fin cfg0.N) : IsDiag (fun g h p => (D.c g h p).re) t.val (iblk0 V c 5 t) :=
  fun q k => (blk0_5 V c t q k ⟨t.val, j40 t⟩ rfl).trans (h.cr _ q k)
theorem in0_ci (t : Fin cfg0.N) : IsDiag (fun g h p => (D.c g h p).im) t.val (iblk0 V c 6 t) :=
  fun q k => (blk0_6 V c t q k ⟨t.val, j40 t⟩ rfl).trans (h.ci _ q k)
theorem in0_d (t : Fin cfg0.N) (q : Fin 128) : (iblk0 V c 7 t (ix3 0 0 q) : EReal) = D.d (8 * t.val + q.val / 16) (q.val % 16) :=
  (blk0_7 V c t q ⟨t.val, j40 t⟩ rfl).trans (h.d _ q)

end Blocks0

section Blocks1

theorem j41 (t : Fin cfg1.N) : t.val < 4 := t.isLt
theorem at1_0 : ∀ t : Fin cfg1.N, win1_0.index t 0 = 0 ∧ win1_0.index t 1 = t.val := by decide +kernel
theorem blk1_0 (t : Fin cfg1.N) (r : Fin 2176) (q : Fin 128) (k : Fin 512) (hk : k.val = 0 + 128 * t.val + q.val) :
    iblk1 V c 0 t (ix2 r q) = V c main_v5 (ix2 r k) := by
  obtain ⟨e0, e1⟩ := at1_0 t
  blk_simp [iblk1]
  congr 1
  blk_ext [e0, e1]
theorem at1_1 : ∀ t : Fin cfg1.N, win1_1.index t 0 = 0 ∧ win1_1.index t 1 = t.val + 12 := by decide +kernel
theorem blk1_1 (t : Fin cfg1.N) (r : Fin 2176) (q : Fin 128) (k : Fin 2048) (hk : k.val = 1536 + 128 * t.val + q.val) :
    iblk1 V c 1 t (ix2 r q) = V c main_v2 (ix2 r k) := by
  obtain ⟨e0, e1⟩ := at1_1 t
  blk_simp [iblk1]
  congr 1
  blk_ext [e0, e1]
theorem at1_4 : ∀ t : Fin cfg1.N, win1_4.index t 0 = t.val ∧ win1_4.index t 1 = 0 ∧ win1_4.index t 2 = 0 := by decide +kernel
theorem blk1_4 (t : Fin cfg1.N) (q : Fin 128) (k : Fin 512) (j : Fin 4) (hj : j.val = t.val) :
    iblk1 V c 4 t (ix3 0 q k) = V c main_v20 (ix3 j q k) := by
  obtain ⟨e0, e1, e2⟩ := at1_4 t
  blk_simp [iblk1]
  congr 1
  blk_ext [e0, e1, e2]
theorem at1_5 : ∀ t : Fin cfg1.N, win1_5.index t 0 = t.val ∧ win1_5.index t 1 = 0 ∧ win1_5.index t 2 = 0 := by decide +kernel
theorem blk1_5 (t : Fin cfg1.N) (q : Fin 128) (k : Fin 512) (j : Fin 4) (hj : j.val = t.val) :
    iblk1 V c 5 t (ix3 0 q k) = V c main_v35 (ix3 j q k) := by
  obtain ⟨e0, e1, e2⟩ := at1_5 t
  blk_simp [iblk1]
  congr 1
  blk_ext [e0, e1, e2]
theorem at1_6 : ∀ t : Fin cfg1.N, win1_6.index t 0 = t.val ∧ win1_6.index t 1 = 0 ∧ win1_6.index t 2 = 0 := by decide +kernel
theorem blk1_6 (t : Fin cfg1.N)  (k : Fin 512) (j : Fin 4) (hj : j.val = t.val) :
    iblk1 V c 6 t (ix3 0 0 k) = V c main_v36 (ix3 j 0 k) := by
  obtain ⟨e0, e1, e2⟩ := at1_6 t
  blk_simp [iblk1]
  congr 1
  blk_ext [e0, e1, e2]
theorem at1_7 : ∀ t : Fin cfg1.N, win1_7.index t 0 = t.val ∧ win1_7.index t 1 = 0 ∧ win1_7.index t 2 = 0 := by decide +kernel
theorem blk1_7 (t : Fin cfg1.N)  (k : Fin 512) (j : Fin 4) (hj : j.val = t.val) :
    iblk1 V c 7 t (ix3 0 0 k) = V c main_v37 (ix3 j 0 k) := by
  obtain ⟨e0, e1, e2⟩ := at1_7 t
  blk_simp [iblk1]
  congr 1
  blk_ext [e0, e1, e2]
theorem at1_8 : ∀ t : Fin cfg1.N, win1_8.index t 0 = t.val ∧ win1_8.index t 1 = 0 ∧ win1_8.index t 2 = 0 := by decide +kernel
theorem blk1_8 (t : Fin cfg1.N) (q : Fin 128) (k : Fin 512) (j : Fin 4) (hj : j.val = t.val) :
    iblk1 V c 8 t (ix3 0 q k) = V c main_v51 (ix3 j q k) := by
  obtain ⟨e0, e1, e2⟩ := at1_8 t
  blk_simp [iblk1]
  congr 1
  blk_ext [e0, e1, e2]
theorem at1_9 : ∀ t : Fin cfg1.N, win1_9.index t 0 = t.val ∧ win1_9.index t 1 = 0 ∧ win1_9.index t 2 = 0 := by decide +kernel
theorem blk1_9 (t : Fin cfg1.N) (q : Fin 128) (k : Fin 512) (j : Fin 4) (hj : j.val = t.val) :
    iblk1 V c 9 t (ix3 0 q k) = V c main_v65 (ix3 j q k) := by
  obtain ⟨e0, e1, e2⟩ := at1_9 t
  blk_simp [iblk1]
  congr 1
  blk_ext [e0, e1, e2]
theorem at1_10 : ∀ t : Fin cfg1.N, win1_10.index t 0 = t.val ∧ win1_10.index t 1 = 0 ∧ win1_10.index t 2 = 0 := by decide +kernel
theorem blk1_10 (t : Fin cfg1.N)  (k : Fin 128) (j : Fin 4) (hj : j.val = t.val) :
    iblk1 V c 10 t (ix3 0 0 k) = V c main_v66 (ix3 j 0 k) := by
  obtain ⟨e0, e1, e2⟩ := at1_10 t
  blk_simp [iblk1]
  congr 1
  blk_ext [e0, e1, e2]
theorem at1_2 : ∀ t : Fin cfg1.N, win1_2.index t 0 = 0 ∧ win1_2.index t 1 = t.val := by decide +kernel
theorem blk1_2 (t : Fin cfg1.N) (r : Fin 2176) (q : Fin 512) (k : Fin 2048) (hk : k.val = 0 + 512 * t.val + q.val) :
    iblk1 V c 2 t (ix2 r q) = V c main_v67_0 (ix2 r k) := by
  obtain ⟨e0, e1⟩ := at1_2 t
  blk_simp [iblk1]
  congr 1
  blk_ext [e0, e1]
theorem at1_3 : ∀ t : Fin cfg1.N, win1_3.index t 0 = 0 ∧ win1_3.index t 1 = t.val := by decide +kernel
theorem blk1_3 (t : Fin cfg1.N) (r : Fin 2176) (q : Fin 512) (k : Fin 2048) (hk : k.val = 0 + 512 * t.val + q.val) :
    iblk1 V c 3 t (ix2 r q) = V c main_v67_1 (ix2 r k) := by
  obtain ⟨e0, e1⟩ := at1_3 t
  blk_simp [iblk1]
  congr 1
  blk_ext [e0, e1]

variable {V c} {D : Data} (h : Holds D V c)
include h
theorem in1_dy (t : Fin cfg1.N) : IsRows D.dy t.val (iblk1 V c 0 t) := by
  intro r q
  have ht := j41 t
  refine (blk1_0 V c t r q ⟨128 * t.val + q.val, by omega⟩ (by show 128 * t.val + q.val = 0 + _ + _; omega)).trans ((h.dy r _).trans ?_)
  exact rows_congr (f := D.dy (time r.val)) (by show (128 * t.val + q.val) / 16 = _; omega) (by show (128 * t.val + q.val) % 16 = _; omega)
theorem in1_u (t : Fin cfg1.N) : IsRows D.u t.val (iblk1 V c 1 t) := by
  intro r q
  have ht := j41 t
  refine (blk1_1 V c t r q ⟨1536 + 128 * t.val + q.val, by omega⟩ rfl).trans ((h.u r _ (by show 1536 ≤ 1536 + 128 * t.val + q.val; omega)).trans ?_)
  exact rows_congr (f := D.u (time r.val)) (by show (1536 + 128 * t.val + q.val - 1536) / 16 = _; omega) (by show (1536 + 128 * t.val + q.val) % 16 = _; omega)
theorem in1_br (t : Fin cfg1.N) : IsDiag (fun g h p => (D.b g p h).re) t.val (iblk1 V c 4 t) :=
  fun q k => (blk1_4 V c t q k ⟨t.val, j41 t⟩ rfl).trans (h.br _ q k)
theorem in1_bi (t : Fin cfg1.N) : IsDiag (fun g h p => (D.b g p h).im) t.val (iblk1 V c 5 t) :=
  fun q k => (blk1_5 V c t q k ⟨t.val, j41 t⟩ rfl).trans (h.bi _ q k)
theorem in1_ar (t : Fin cfg1.N) : IsRow (fun g p => (D.a g p).re) t.val (iblk1 V c 6 t) :=
  fun k => (blk1_6 V c t k ⟨t.val, j41 t⟩ rfl).trans (h.ar _ k)
theorem in1_ai (t : Fin cfg1.N) : IsRow (fun g p => (D.a g p).im) t.val (iblk1 V c 7 t) :=
  fun k => (blk1_7 V c t k ⟨t.val, j41 t⟩ rfl).trans (h.ai _ k)
theorem in1_cr (t : Fin cfg1.N) : IsDiag (fun g h p => (D.c g h p).re) t.val (iblk1 V c 8 t) :=
  fun q k => (blk1_8 V c t q k ⟨t.val, j41 t⟩ rfl).trans (h.cr _ q k)
theorem in1_ci (t : Fin cfg1.N) : IsDiag (fun g h p => (D.c g h p).im) t.val (iblk1 V c 9 t) :=
  fun q k => (blk1_9 V c t q k ⟨t.val, j41 t⟩ rfl).trans (h.ci _ q k)
theorem in1_d (t : Fin cfg1.N) (q : Fin 128) : (iblk1 V c 10 t (ix3 0 0 q) : EReal) = D.d (8 * t.val + q.val / 16) (q.val % 16) :=
  (blk1_10 V c t q ⟨t.val, j41 t⟩ rfl).trans (h.d _ q)
omit h in
theorem in1_sre (s : Saved D V c) (t : Fin cfg1.N) : IsState (fun g p n => (D.st g p (n + 1)).re) t.val (iblk1 V c 2 t) := by
  intro r k
  have ht := j41 t
  refine (blk1_2 V c t r k ⟨512 * t.val + k.val, by omega⟩ (by show 512 * t.val + k.val = 0 + _ + _; omega)).trans ((s.re r _).trans ?_)
  exact rows_congr (f := fun a b => (D.st a b (time r.val + 1)).re) (by show (512 * t.val + k.val) / 64 = _; omega) (by show (512 * t.val + k.val) % 64 = _; omega)
omit h in
theorem in1_sim (s : Saved D V c) (t : Fin cfg1.N) : IsState (fun g p n => (D.st g p (n + 1)).im) t.val (iblk1 V c 3 t) := by
  intro r k
  have ht := j41 t
  refine (blk1_3 V c t r k ⟨512 * t.val + k.val, by omega⟩ (by show 512 * t.val + k.val = 0 + _ + _; omega)).trans ((s.im r _).trans ?_)
  exact rows_congr (f := fun a b => (D.st a b (time r.val + 1)).im) (by show (512 * t.val + k.val) / 64 = _; omega) (by show (512 * t.val + k.val) % 64 = _; omega)

end Blocks1

end Cert.S5

end
-- ==== Proof.ArraysOut.lean ====
/- The arrays the two calls leave, from the values of the four chunks. -/
module

public import proofs.«01_k».proof.Proof.Arrays
public import Idealize.ShloMosaic.Lib.Pipeline.ValueKit.Geometry

@[expose] public section

set_option maxRecDepth 16384
noncomputable section

namespace Cert.S5

open Cert.KernelIdeal Cert.KernelIdeal.Gen Cert.KernelIdeal.Run
open Idealize.ShloMosaic Idealize.ShloMosaic.TcCoe

variable (V : (c : Dev nD) → (b : Ref sig .tc) → Buf (Elt Ideal) ((c : Thread nD τ).loc b)) (c : Dev nD)
theorem val0_8 (t : Fin cfg0.N) : (outsAt0 V c t).1 = fwdSre (iblk0 V c 0 t) (iblk0 V c 1 t) (iblk0 V c 2 t) (iblk0 V c 3 t) (iblk0 V c 4 t) := by
  unfold outsAt0
  dsimp only
  exact fwdVal_8 ..
theorem val0_9 (t : Fin cfg0.N) : (outsAt0 V c t).2.1 = fwdSim (iblk0 V c 0 t) (iblk0 V c 1 t) (iblk0 V c 2 t) (iblk0 V c 3 t) (iblk0 V c 4 t) := by
  unfold outsAt0
  dsimp only
  exact fwdVal_9 ..
theorem val0_10 (t : Fin cfg0.N) : (outsAt0 V c t).2.2 = k0_pay2 (fwdSre (iblk0 V c 0 t) (iblk0 V c 1 t) (iblk0 V c 2 t) (iblk0 V c 3 t) (iblk0 V c 4 t)) (iblk0 V c 5 t) (fwdSim (iblk0 V c 0 t) (iblk0 V c 1 t) (iblk0 V c 2 t) (iblk0 V c 3 t) (iblk0 V c 4 t)) (iblk0 V c 6 t) (iblk0 V c 7 t) (iblk0 V c 0 t) := by
  unfold outsAt0
  dsimp only
  exact fwdVal_10 ..
theorem val1_11 (t : Fin cfg1.N) : (outsAt1 V c t).1 = k1_pay211 (k1_pay208 (bwdGim (iblk1 V c 0 t) (iblk1 V c 6 t) (iblk1 V c 7 t) (iblk1 V c 8 t) (iblk1 V c 9 t))) (k1_pay209 (k1_pay87 (iblk1 V c 0 t)) (bwdGre (iblk1 V c 0 t) (iblk1 V c 6 t) (iblk1 V c 7 t) (iblk1 V c 8 t) (iblk1 V c 9 t)) (iblk1 V c 10 t) (iblk1 V c 4 t)) (k1_pay210 (iblk1 V c 5 t)) := by
  unfold outsAt1
  dsimp only
  exact bwdVal_11 ..
theorem val1_12 (t : Fin cfg1.N) : (outsAt1 V c t).2.1 = VO1_12.read (Elt Ideal) (VO1_12.writes (Elt Ideal) VO1_12.junk (groupPieces (k1_pay212 (k1_pay206 (iblk1 V c 1 t)) (k1_pay207 (bwdGre (iblk1 V c 0 t) (iblk1 V c 6 t) (iblk1 V c 7 t) (iblk1 V c 8 t) (iblk1 V c 9 t)))))) := by
  unfold outsAt1
  dsimp only
  exact bwdVal_12 ..
theorem val1_13 (t : Fin cfg1.N) : (outsAt1 V c t).2.2.1 = VO1_13.read (Elt Ideal) (VO1_13.writes (Elt Ideal) VO1_13.junk (groupPieces (k1_pay222 (k1_pay206 (iblk1 V c 1 t)) (k1_pay208 (bwdGim (iblk1 V c 0 t) (iblk1 V c 6 t) (iblk1 V c 7 t) (iblk1 V c 8 t) (iblk1 V c 9 t)))))) := by
  unfold outsAt1
  dsimp only
  exact bwdVal_13 ..
theorem val1_14 (t : Fin cfg1.N) : (outsAt1 V c t).2.2.2.1 = sumRows (bwdAcc (iblk1 V c 0 t) (iblk1 V c 2 t) (iblk1 V c 3 t) (iblk1 V c 6 t) (iblk1 V c 7 t) (iblk1 V c 8 t) (iblk1 V c 9 t)).1 := by
  unfold outsAt1
  dsimp only
  exact bwdVal_14 ..
theorem val1_15 (t : Fin cfg1.N) : (outsAt1 V c t).2.2.2.2.1 = sumRows (bwdAcc (iblk1 V c 0 t) (iblk1 V c 2 t) (iblk1 V c 3 t) (iblk1 V c 6 t) (iblk1 V c 7 t) (iblk1 V c 8 t) (iblk1 V c 9 t)).2 := by
  unfold outsAt1
  dsimp only
  exact bwdVal_15 ..
theorem val1_16 (t : Fin cfg1.N) : (outsAt1 V c t).2.2.2.2.2.1 = VO1_16.read (Elt Ideal) (VO1_16.writes (Elt Ideal) VO1_16.junk (groupPieces (k1_pay231 (k1_pay88 (iblk1 V c 0 t)) (iblk1 V c 2 t)))) := by
  unfold outsAt1
  dsimp only
  exact bwdVal_16 ..
theorem val1_17 (t : Fin cfg1.N) : (outsAt1 V c t).2.2.2.2.2.2.1 = VO1_17.read (Elt Ideal) (VO1_17.writes (Elt Ideal) VO1_17.junk (groupPieces (k1_pay241 (k1_pay88 (iblk1 V c 0 t)) (k1_pay240 (iblk1 V c 3 t))))) := by
  unfold outsAt1
  dsimp only
  exact bwdVal_17 ..
theorem val1_18 (t : Fin cfg1.N) : (outsAt1 V c t).2.2.2.2.2.2.2 = k1_pay3 (k1_pay87 (iblk1 V c 0 t)) (k1_pay205 (iblk1 V c 1 t)) := by
  unfold outsAt1
  dsimp only
  exact bwdVal_18 ..

section Outs0

variable {V c} {D : Data} (h : Holds D V c)
include h
theorem chunk0_8 (t : Fin cfg0.N) (r : Fin 2176) (q : Fin 512) : ((outsAt0 V c t).1 (ix2 r q) : EReal) = (((D.st (8 * t.val + q.val / 64) (q.val % 64) (time r.val + 1)).re : ℝ) : EReal) := by
  rw [val0_8 V c t]
  exact (fwd_saved (in0_u h t) (in0_br h t) (in0_bi h t) (in0_ar h t) (in0_ai h t)).1 r q
omit h in
theorem at0_8 : ∀ t : Fin cfg0.N, win0_8.index t 0 = 0 ∧ win0_8.index t 1 = t.val := by decide +kernel
theorem out0_8 (r : Fin 2176) (k : Fin 2048) : ((dat0 V c).arrAt 8 cfg0.N (ix2 r k) : EReal) = (((D.st (k.val / 64) (k.val % 64) (time r.val + 1)).re : ℝ) : EReal) := by
  refine Pipeline.Dat.arrAt_forall_of_covers (dat := dat0 V c) 8 (fun (i : Shape.Idx ⟨2, ![2176, 2048]⟩) (x : EReal) => x = (((D.st ((i 1).val / 64) ((i 1).val % 64) (time (i 0).val + 1)).re : ℝ) : EReal)) (by decide +kernel) (fun t _ y => ?_) (ix2 r k)
  obtain ⟨e0, e1⟩ := at0_8 t
  have ht := j40 t
  rw [after0_8]
  blk_simp [e0, e1]
  idx_bounds y
  rw [show y = ix2 (y 0) (y 1) from by funext a; fin_cases a <;> rfl]
  refine (chunk0_8 h t (y 0) (y 1)).trans ?_
  exact congrArg₂ (fun a b => ((((D.st a b (time (y 0).val + 1)).re : ℝ) : EReal) : EReal)) (by show 8 * t.val + (y 1).val / 64 = (t.val * 512 + (y 1).val) / 64; omega) (by show (y 1).val % 64 = (t.val * 512 + (y 1).val) % 64; omega)

theorem chunk0_9 (t : Fin cfg0.N) (r : Fin 2176) (q : Fin 512) : ((outsAt0 V c t).2.1 (ix2 r q) : EReal) = (((D.st (8 * t.val + q.val / 64) (q.val % 64) (time r.val + 1)).im : ℝ) : EReal) := by
  rw [val0_9 V c t]
  exact (fwd_saved (in0_u h t) (in0_br h t) (in0_bi h t) (in0_ar h t) (in0_ai h t)).2 r q
omit h in
theorem at0_9 : ∀ t : Fin cfg0.N, win0_9.index t 0 = 0 ∧ win0_9.index t 1 = t.val := by decide +kernel
theorem out0_9 (r : Fin 2176) (k : Fin 2048) : ((dat0 V c).arrAt 9 cfg0.N (ix2 r k) : EReal) = (((D.st (k.val / 64) (k.val % 64) (time r.val + 1)).im : ℝ) : EReal) := by
  refine Pipeline.Dat.arrAt_forall_of_covers (dat := dat0 V c) 9 (fun (i : Shape.Idx ⟨2, ![2176, 2048]⟩) (x : EReal) => x = (((D.st ((i 1).val / 64) ((i 1).val % 64) (time (i 0).val + 1)).im : ℝ) : EReal)) (by decide +kernel) (fun t _ y => ?_) (ix2 r k)
  obtain ⟨e0, e1⟩ := at0_9 t
  have ht := j40 t
  rw [after0_9]
  blk_simp [e0, e1]
  idx_bounds y
  rw [show y = ix2 (y 0) (y 1) from by funext a; fin_cases a <;> rfl]
  refine (chunk0_9 h t (y 0) (y 1)).trans ?_
  exact congrArg₂ (fun a b => ((((D.st a b (time (y 0).val + 1)).im : ℝ) : EReal) : EReal)) (by show 8 * t.val + (y 1).val / 64 = (t.val * 512 + (y 1).val) / 64; omega) (by show (y 1).val % 64 = (t.val * 512 + (y 1).val) % 64; omega)

theorem chunk0_10 (t : Fin cfg0.N) (r : Fin 2176) (q : Fin 128) : ((outsAt0 V c t).2.2 (ix2 r q) : EReal) = D.y (time r.val) (8 * t.val + q.val / 16) (q.val % 16) := by
  rw [val0_10 V c t]
  exact fwd_y (fwd_saved (in0_u h t) (in0_br h t) (in0_bi h t) (in0_ar h t) (in0_ai h t)).1 (fwd_saved (in0_u h t) (in0_br h t) (in0_bi h t) (in0_ar h t) (in0_ai h t)).2 (in0_u h t) (in0_cr h t) (in0_ci h t) (in0_d h t) r q
omit h in
theorem at0_10 : ∀ t : Fin cfg0.N, win0_10.index t 0 = 0 ∧ win0_10.index t 1 = t.val := by decide +kernel
theorem out0_10 (r : Fin 2176) (k : Fin 512) : ((dat0 V c).arrAt 10 cfg0.N (ix2 r k) : EReal) = D.y (time r.val) (k.val / 16) (k.val % 16) := by
  refine Pipeline.Dat.arrAt_forall_of_covers (dat := dat0 V c) 10 (fun (i : Shape.Idx ⟨2, ![2176, 512]⟩) (x : EReal) => x = D.y (time (i 0).val) ((i 1).val / 16) ((i 1).val % 16)) (by decide +kernel) (fun t _ y => ?_) (ix2 r k)
  obtain ⟨e0, e1⟩ := at0_10 t
  have ht := j40 t
  rw [after0_10]
  blk_simp [e0, e1]
  idx_bounds y
  rw [show y = ix2 (y 0) (y 1) from by funext a; fin_cases a <;> rfl]
  refine (chunk0_10 h t (y 0) (y 1)).trans ?_
  exact congrArg₂ (fun a b => (D.y (time (y 0).val) a b : EReal)) (by show 8 * t.val + (y 1).val / 16 = (t.val * 128 + (y 1).val) / 16; omega) (by show (y 1).val % 16 = (t.val * 128 + (y 1).val) % 16; omega)

end Outs0

section Outs1

variable {V c} {D : Data} (h : Holds D V c) (s : Saved D V c)
include h
theorem chunk1_11 (t : Fin cfg1.N) (r : Fin 2176) (q : Fin 128) : ((outsAt1 V c t).1 (ix2 r q) : EReal) = D.du (time r.val) (8 * t.val + q.val / 16) (q.val % 16) := by
  rw [val1_11 V c t]
  exact bwd_du (in1_dy h t) (bwd_grads (in1_dy h t) (in1_cr h t) (in1_ci h t) (in1_ar h t) (in1_ai h t)).1 (bwd_grads (in1_dy h t) (in1_cr h t) (in1_ci h t) (in1_ar h t) (in1_ai h t)).2 (in1_br h t) (in1_bi h t) (in1_d h t) r q
omit h in
theorem at1_11 : ∀ t : Fin cfg1.N, win1_11.index t 0 = 0 ∧ win1_11.index t 1 = t.val := by decide +kernel
theorem out1_11 (r : Fin 2176) (k : Fin 512) : ((dat1 V c).arrAt 11 cfg1.N (ix2 r k) : EReal) = D.du (time r.val) (k.val / 16) (k.val % 16) := by
  refine Pipeline.Dat.arrAt_forall_of_covers (dat := dat1 V c) 11 (fun (i : Shape.Idx ⟨2, ![2176, 512]⟩) (x : EReal) => x = D.du (time (i 0).val) ((i 1).val / 16) ((i 1).val % 16)) (by decide +kernel) (fun t _ y => ?_) (ix2 r k)
  obtain ⟨e0, e1⟩ := at1_11 t
  have ht := j41 t
  rw [after1_11]
  blk_simp [e0, e1]
  idx_bounds y
  rw [show y = ix2 (y 0) (y 1) from by funext a; fin_cases a <;> rfl]
  refine (chunk1_11 h t (y 0) (y 1)).trans ?_
  exact congrArg₂ (fun a b => (D.du (time (y 0).val) a b : EReal)) (by show 8 * t.val + (y 1).val / 16 = (t.val * 128 + (y 1).val) / 16; omega) (by show (y 1).val % 16 = (t.val * 128 + (y 1).val) % 16; omega)

theorem chunk1_12 (t : Fin cfg1.N) (g : Fin 8) (i : Fin 16) (p : Fin 64) :
    ((outsAt1 V c t).2.1 (ix4 0 g i p) : EReal) = ((D.dbr (8 * t.val + g.val) p.val i.val : ℝ) : EReal) := by
  rw [val1_12 V c t, groups_read]
  refine (bwd_dbr (in1_u h t) (bwd_grads (in1_dy h t) (in1_cr h t) (in1_ci h t) (in1_ar h t) (in1_ai h t)).1 ⟨16 * g.val + i.val, by omega⟩ ⟨64 * g.val + p.val, by omega⟩ (by show (64 * g.val + p.val) / 64 = (16 * g.val + i.val) / 16; omega)).trans ?_
  have h1 : (64 * g.val + p.val) / 64 = g.val := by omega
  have h2 : (64 * g.val + p.val) % 64 = p.val := by omega
  have h3 : (16 * g.val + i.val) % 16 = i.val := by omega
  dsimp only
  rw [h1, h2, h3]

omit h in
theorem at1_12 : ∀ t : Fin cfg1.N, win1_12.index t 0 = t.val ∧ win1_12.index t 1 = 0 ∧ win1_12.index t 2 = 0 ∧ win1_12.index t 3 = 0 := by decide +kernel
theorem out1_12 (j : Fin 4) (g : Fin 8) (i : Fin 16) (p : Fin 64) :
    ((dat1 V c).arrAt 12 cfg1.N (ix4 j g i p) : EReal) = ((D.dbr (8 * j.val + g.val) p.val i.val : ℝ) : EReal) := by
  refine Pipeline.Dat.arrAt_forall_of_covers (dat := dat1 V c) 12 (fun (i : Shape.Idx ⟨4, ![4, 8, 16, 64]⟩) (x : EReal) => x = ((D.dbr (8 * (i 0).val + (i 1).val) (i 3).val (i 2).val : ℝ) : EReal)) (by decide +kernel) (fun t _ y => ?_) (ix4 j g i p)
  obtain ⟨e0, e1, e2, e3⟩ := at1_12 t
  have ht := j41 t
  rw [after1_12]
  blk_simp [e0, e1, e2, e3]
  idx_bounds y
  have h0 : (y 0).val = 0 := by omega
  rw [show y = ix4 0 (y 1) (y 2) (y 3) from by funext a; fin_cases a <;> first | rfl | exact Fin.ext h0]
  exact chunk1_12 h t (y 1) (y 2) (y 3)

theorem chunk1_13 (t : Fin cfg1.N) (g : Fin 8) (i : Fin 16) (p : Fin 64) :
    ((outsAt1 V c t).2.2.1 (ix4 0 g i p) : EReal) = ((D.dbi (8 * t.val + g.val) p.val i.val : ℝ) : EReal) := by
  rw [val1_13 V c t, groups_read]
  refine (bwd_dbi (in1_u h t) (bwd_grads (in1_dy h t) (in1_cr h t) (in1_ci h t) (in1_ar h t) (in1_ai h t)).2 ⟨16 * g.val + i.val, by omega⟩ ⟨64 * g.val + p.val, by omega⟩ (by show (64 * g.val + p.val) / 64 = (16 * g.val + i.val) / 16; omega)).trans ?_
  have h1 : (64 * g.val + p.val) / 64 = g.val := by omega
  have h2 : (64 * g.val + p.val) % 64 = p.val := by omega
  have h3 : (16 * g.val + i.val) % 16 = i.val := by omega
  dsimp only
  rw [h1, h2, h3]

omit h in
theorem at1_13 : ∀ t : Fin cfg1.N, win1_13.index t 0 = t.val ∧ win1_13.index t 1 = 0 ∧ win1_13.index t 2 = 0 ∧ win1_13.index t 3 = 0 := by decide +kernel
theorem out1_13 (j : Fin 4) (g : Fin 8) (i : Fin 16) (p : Fin 64) :
    ((dat1 V c).arrAt 13 cfg1.N (ix4 j g i p) : EReal) = ((D.dbi (8 * j.val + g.val) p.val i.val : ℝ) : EReal) := by
  refine Pipeline.Dat.arrAt_forall_of_covers (dat := dat1 V c) 13 (fun (i : Shape.Idx ⟨4, ![4, 8, 16, 64]⟩) (x : EReal) => x = ((D.dbi (8 * (i 0).val + (i 1).val) (i 3).val (i 2).val : ℝ) : EReal)) (by decide +kernel) (fun t _ y => ?_) (ix4 j g i p)
  obtain ⟨e0, e1, e2, e3⟩ := at1_13 t
  have ht := j41 t
  rw [after1_13]
  blk_simp [e0, e1, e2, e3]
  idx_bounds y
  have h0 : (y 0).val = 0 := by omega
  rw [show y = ix4 0 (y 1) (y 2) (y 3) from by funext a; fin_cases a <;> first | rfl | exact Fin.ext h0]
  exact chunk1_13 h t (y 1) (y 2) (y 3)

theorem chunk1_18 (t : Fin cfg1.N) (q : Fin 128) :
    ((outsAt1 V c t).2.2.2.2.2.2.2 (ix3 0 0 q) : EReal) = ((D.dd (8 * t.val + q.val / 16) (q.val % 16) : ℝ) : EReal) := by
  rw [val1_18 V c t]
  exact bwd_dd (in1_dy h t) (in1_u h t) q

omit h in
theorem at1_18 : ∀ t : Fin cfg1.N, win1_18.index t 0 = t.val ∧ win1_18.index t 1 = 0 ∧ win1_18.index t 2 = 0 := by decide +kernel
theorem out1_18 (j : Fin 4) (k : Fin 128) :
    ((dat1 V c).arrAt 18 cfg1.N (ix3 j 0 k) : EReal) = ((D.dd (8 * j.val + k.val / 16) (k.val % 16) : ℝ) : EReal) := by
  refine Pipeline.Dat.arrAt_forall_of_covers (dat := dat1 V c) 18 (fun (i : Shape.Idx ⟨3, ![4, 1, 128]⟩) (x : EReal) => x = ((D.dd (8 * (i 0).val + (i 2).val / 16) ((i 2).val % 16) : ℝ) : EReal)) (by decide +kernel) (fun t _ y => ?_) (ix3 j 0 k)
  obtain ⟨e0, e1, e2⟩ := at1_18 t
  have ht := j41 t
  rw [after1_18]
  blk_simp [e0, e1, e2]
  idx_bounds y
  have h0 : (y 0).val = 0 := by omega
  rw [show y = ix3 0 0 (y 2) from by funext a; fin_cases a <;> first | rfl | exact Fin.ext h0 | exact Fin.ext (by show (y 1).val = 0; omega)]
  exact chunk1_18 h t (y 2)

include s
theorem chunk1_16 (t : Fin cfg1.N) (g : Fin 8) (i : Fin 16) (p : Fin 64) :
    ((outsAt1 V c t).2.2.2.2.2.1 (ix4 0 g i p) : EReal) = ((D.dcr (8 * t.val + g.val) i.val p.val : ℝ) : EReal) := by
  rw [val1_16 V c t, groups_read]
  refine (bwd_dcr (in1_dy h t) (in1_sre s t) ⟨16 * g.val + i.val, by omega⟩ ⟨64 * g.val + p.val, by omega⟩ (by show (64 * g.val + p.val) / 64 = (16 * g.val + i.val) / 16; omega)).trans ?_
  have h1 : (64 * g.val + p.val) / 64 = g.val := by omega
  have h2 : (64 * g.val + p.val) % 64 = p.val := by omega
  have h3 : (16 * g.val + i.val) % 16 = i.val := by omega
  dsimp only
  rw [h1, h2, h3]

omit h s in
theorem at1_16 : ∀ t : Fin cfg1.N, win1_16.index t 0 = t.val ∧ win1_16.index t 1 = 0 ∧ win1_16.index t 2 = 0 ∧ win1_16.index t 3 = 0 := by decide +kernel
theorem out1_16 (j : Fin 4) (g : Fin 8) (i : Fin 16) (p : Fin 64) :
    ((dat1 V c).arrAt 16 cfg1.N (ix4 j g i p) : EReal) = ((D.dcr (8 * j.val + g.val) i.val p.val : ℝ) : EReal) := by
  refine Pipeline.Dat.arrAt_forall_of_covers (dat := dat1 V c) 16 (fun (i : Shape.Idx ⟨4, ![4, 8, 16, 64]⟩) (x : EReal) => x = ((D.dcr (8 * (i 0).val + (i 1).val) (i 2).val (i 3).val : ℝ) : EReal)) (by decide +kernel) (fun t _ y => ?_) (ix4 j g i p)
  obtain ⟨e0, e1, e2, e3⟩ := at1_16 t
  have ht := j41 t
  rw [after1_16]
  blk_simp [e0, e1, e2, e3]
  idx_bounds y
  have h0 : (y 0).val = 0 := by omega
  rw [show y = ix4 0 (y 1) (y 2) (y 3) from by funext a; fin_cases a <;> first | rfl | exact Fin.ext h0]
  exact chunk1_16 h s t (y 1) (y 2) (y 3)

theorem chunk1_17 (t : Fin cfg1.N) (g : Fin 8) (i : Fin 16) (p : Fin 64) :
    ((outsAt1 V c t).2.2.2.2.2.2.1 (ix4 0 g i p) : EReal) = ((D.dci (8 * t.val + g.val) i.val p.val : ℝ) : EReal) := by
  rw [val1_17 V c t, groups_read]
  refine (bwd_dci (in1_dy h t) (in1_sim s t) ⟨16 * g.val + i.val, by omega⟩ ⟨64 * g.val + p.val, by omega⟩ (by show (64 * g.val + p.val) / 64 = (16 * g.val + i.val) / 16; omega)).trans ?_
  have h1 : (64 * g.val + p.val) / 64 = g.val := by omega
  have h2 : (64 * g.val + p.val) % 64 = p.val := by omega
  have h3 : (16 * g.val + i.val) % 16 = i.val := by omega
  dsimp only
  rw [h1, h2, h3]

omit h s in
theorem at1_17 : ∀ t : Fin cfg1.N, win1_17.index t 0 = t.val ∧ win1_17.index t 1 = 0 ∧ win1_17.index t 2 = 0 ∧ win1_17.index t 3 = 0 := by decide +kernel
theorem out1_17 (j : Fin 4) (g : Fin 8) (i : Fin 16) (p : Fin 64) :
    ((dat1 V c).arrAt 17 cfg1.N (ix4 j g i p) : EReal) = ((D.dci (8 * j.val + g.val) i.val p.val : ℝ) : EReal) := by
  refine Pipeline.Dat.arrAt_forall_of_covers (dat := dat1 V c) 17 (fun (i : Shape.Idx ⟨4, ![4, 8, 16, 64]⟩) (x : EReal) => x = ((D.dci (8 * (i 0).val + (i 1).val) (i 2).val (i 3).val : ℝ) : EReal)) (by decide +kernel) (fun t _ y => ?_) (ix4 j g i p)
  obtain ⟨e0, e1, e2, e3⟩ := at1_17 t
  have ht := j41 t
  rw [after1_17]
  blk_simp [e0, e1, e2, e3]
  idx_bounds y
  have h0 : (y 0).val = 0 := by omega
  rw [show y = ix4 0 (y 1) (y 2) (y 3) from by funext a; fin_cases a <;> first | rfl | exact Fin.ext h0]
  exact chunk1_17 h s t (y 1) (y 2) (y 3)

theorem chunk1_14 (t : Fin cfg1.N) (q : Fin 512) :
    ((outsAt1 V c t).2.2.2.1 (ix3 0 0 q) : EReal) = (((D.da (8 * t.val + q.val / 64) (q.val % 64)).re : ℝ) : EReal) := by
  rw [val1_14 V c t]
  exact (bwd_acc (in1_dy h t) (in1_cr h t) (in1_ci h t) (in1_ar h t) (in1_ai h t) (in1_sre s t) (in1_sim s t) q).1

omit h s in
theorem at1_14 : ∀ t : Fin cfg1.N, win1_14.index t 0 = t.val ∧ win1_14.index t 1 = 0 ∧ win1_14.index t 2 = 0 := by decide +kernel
theorem out1_14 (j : Fin 4) (k : Fin 512) :
    ((dat1 V c).arrAt 14 cfg1.N (ix3 j 0 k) : EReal) = (((D.da (8 * j.val + k.val / 64) (k.val % 64)).re : ℝ) : EReal) := by
  refine Pipeline.Dat.arrAt_forall_of_covers (dat := dat1 V c) 14 (fun (i : Shape.Idx ⟨3, ![4, 1, 512]⟩) (x : EReal) => x = (((D.da (8 * (i 0).val + (i 2).val / 64) ((i 2).val % 64)).re : ℝ) : EReal)) (by decide +kernel) (fun t _ y => ?_) (ix3 j 0 k)
  obtain ⟨e0, e1, e2⟩ := at1_14 t
  have ht := j41 t
  rw [after1_14]
  blk_simp [e0, e1, e2]
  idx_bounds y
  have h0 : (y 0).val = 0 := by omega
  rw [show y = ix3 0 0 (y 2) from by funext a; fin_cases a <;> first | rfl | exact Fin.ext h0 | exact Fin.ext (by show (y 1).val = 0; omega)]
  exact chunk1_14 h s t (y 2)

theorem chunk1_15 (t : Fin cfg1.N) (q : Fin 512) :
    ((outsAt1 V c t).2.2.2.2.1 (ix3 0 0 q) : EReal) = (((D.da (8 * t.val + q.val / 64) (q.val % 64)).im : ℝ) : EReal) := by
  rw [val1_15 V c t]
  exact (bwd_acc (in1_dy h t) (in1_cr h t) (in1_ci h t) (in1_ar h t) (in1_ai h t) (in1_sre s t) (in1_sim s t) q).2

omit h s in
theorem at1_15 : ∀ t : Fin cfg1.N, win1_15.index t 0 = t.val ∧ win1_15.index t 1 = 0 ∧ win1_15.index t 2 = 0 := by decide +kernel
theorem out1_15 (j : Fin 4) (k : Fin 512) :
    ((dat1 V c).arrAt 15 cfg1.N (ix3 j 0 k) : EReal) = (((D.da (8 * j.val + k.val / 64) (k.val % 64)).im : ℝ) : EReal) := by
  refine Pipeline.Dat.arrAt_forall_of_covers (dat := dat1 V c) 15 (fun (i : Shape.Idx ⟨3, ![4, 1, 512]⟩) (x : EReal) => x = (((D.da (8 * (i 0).val + (i 2).val / 64) ((i 2).val % 64)).im : ℝ) : EReal)) (by decide +kernel) (fun t _ y => ?_) (ix3 j 0 k)
  obtain ⟨e0, e1, e2⟩ := at1_15 t
  have ht := j41 t
  rw [after1_15]
  blk_simp [e0, e1, e2]
  idx_bounds y
  have h0 : (y 0).val = 0 := by omega
  rw [show y = ix3 0 0 (y 2) from by funext a; fin_cases a <;> first | rfl | exact Fin.ext h0 | exact Fin.ext (by show (y 1).val = 0; omega)]
  exact chunk1_15 h s t (y 2)

end Outs1

end Cert.S5

end
-- ==== Proof.HostVal.lean ====
/- What the two calls read of the arguments, and what the results hold. -/
module

public import proofs.«01_k».proof.Proof.ArraysOut
public import Idealize.ShloMosaic.Lib.StableHlo.ReadAt

@[expose] public section

set_option maxRecDepth 16384
noncomputable section

namespace Cert.S5

open Cert.KernelIdeal Cert.KernelIdeal.Gen Cert.KernelIdeal.Run
open Idealize.ShloMosaic Idealize.ShloMosaic.TcCoe

/-- The arguments, in terms of the data. -/
structure Given (D : Data) (m : (ℓ : Loc nD τ sig) → Buf (Elt Ideal) ℓ) (c : Dev nD) : Prop where
  dy : ∀ (t : Fin 2176) (k : Fin 512), (m ((c : Thread nD τ).loc main_arg0) (ix2 t k) : EReal) = ((D.dy t.val (k.val / 16) (k.val % 16) : ℝ) : EReal)
  u : ∀ (t : Fin 2176) (k : Fin 2048), 1536 ≤ k.val →
    (m ((c : Thread nD τ).loc main_arg1) (ix2 t k) : EReal) = ((D.u t.val ((k.val - 1536) / 16) (k.val % 16) : ℝ) : EReal)
  ar : ∀ (g : Fin 32) (p : Fin 64), (m ((c : Thread nD τ).loc main_arg2) (ix2 g p) : EReal) = (((D.a g.val p.val).re : ℝ) : EReal)
  ai : ∀ (g : Fin 32) (p : Fin 64), (m ((c : Thread nD τ).loc main_arg3) (ix2 g p) : EReal) = (((D.a g.val p.val).im : ℝ) : EReal)
  br : ∀ (g : Fin 32) (p : Fin 64) (i : Fin 16), (m ((c : Thread nD τ).loc main_arg4) (ix3 g p i) : EReal) = (((D.b g.val p.val i.val).re : ℝ) : EReal)
  bi : ∀ (g : Fin 32) (p : Fin 64) (i : Fin 16), (m ((c : Thread nD τ).loc main_arg5) (ix3 g p i) : EReal) = (((D.b g.val p.val i.val).im : ℝ) : EReal)
  cr : ∀ (g : Fin 32) (i : Fin 16) (p : Fin 64), (m ((c : Thread nD τ).loc main_arg6) (ix3 g i p) : EReal) = (((D.c g.val i.val p.val).re : ℝ) : EReal)
  ci : ∀ (g : Fin 32) (i : Fin 16) (p : Fin 64), (m ((c : Thread nD τ).loc main_arg7) (ix3 g i p) : EReal) = (((D.c g.val i.val p.val).im : ℝ) : EReal)
  d : ∀ (g : Fin 32) (i : Fin 16), (m ((c : Thread nD τ).loc main_arg8) (ix2 g i) : EReal) = D.d g.val i.val

theorem real_congr {f : ℕ → ℕ → ℕ → ℝ} {a a' b b' e e' : ℕ} (h : a = a') (h' : b = b') (h'' : e = e') :
    ((f a b e : ℝ) : EReal) = ((f a' b' e' : ℝ) : EReal) := by rw [h, h', h'']

variable {m : (ℓ : Loc nD τ sig) → Buf (Elt Ideal) ℓ} (ρ : Dev nD → PrngReg) {c : Dev nD}

theorem hot (a b : Fin 8) : Scalar.cmpi .eq (Scalar.addi (BitVec.ofNat 32 a.val) 0#32) (BitVec.ofNat 32 b.val)
    = if b.val = a.val then 1#1 else 0#1 := by
  revert a b
  decide
/-- A number times an entry of the identity. -/
theorem one_hot (a b : ℕ) (ha : a < 8) (hb : b < 8) (x : EReal) (f : ℝ) (h : x = (f : EReal)) :
    x * (FloatOps.uitofp (F := Ideal) .f32 (Scalar.cmpi .eq (Scalar.addi (BitVec.ofNat 32 a) 0#32) (BitVec.ofNat 32 b)) : EReal)
      = ((if b = a then f else 0 : ℝ) : EReal) := by
  rw [hot ⟨a, ha⟩ ⟨b, hb⟩, h]
  dsimp only
  split
  · refine Eq.trans (congrArg _ (?_ : _ = (1 : EReal))) (mul_one _)
    show (((1#1 : BitVec 1).toNat : ℝ) : EReal) = 1
    simp
  · refine Eq.trans (congrArg _ (?_ : _ = (0 : EReal))) (mul_zero _)
    show (((0#1 : BitVec 1).toNat : ℝ) : EReal) = 0
    simp

section Ins
variable {D : Data} (G : Given D m c)
include G

theorem v1_dy (r : Fin 2176) (k : Fin 512) : (V1 m ρ c main_v5 (ix2 r k) : EReal) = ((D.dy (time r.val) (k.val / 16) (k.val % 16) : ℝ) : EReal) := by
  show (StableHlo.after hostOps0 (W0 m ρ c) (Proc.devRef .tc main_v5) (ix2 r k) : EReal) = _
  after_reads_at
  exact (G.dy ⟨r.val % 8 * 272 + r.val / 8, by omega⟩ k).trans (real_congr (by unfold time; dsimp only; omega) rfl rfl)
theorem v1_u (r : Fin 2176) (k : Fin 2048) (hk : 1536 ≤ k.val) :
    (V1 m ρ c main_v2 (ix2 r k) : EReal) = ((D.u (time r.val) ((k.val - 1536) / 16) (k.val % 16) : ℝ) : EReal) := by
  show (StableHlo.after hostOps0 (W0 m ρ c) (Proc.devRef .tc main_v2) (ix2 r k) : EReal) = _
  after_reads_at
  exact (G.u ⟨r.val % 8 * 272 + r.val / 8, by omega⟩ k hk).trans (real_congr (by unfold time; dsimp only; omega) rfl rfl)
theorem v1_ar (j : Fin 4) (k : Fin 512) : (V1 m ρ c main_v36 (ix3 j 0 k) : EReal) = (((D.a (8 * j.val + k.val / 64) (k.val % 64)).re : ℝ) : EReal) := by
  show (StableHlo.after hostOps0 (W0 m ρ c) (Proc.devRef .tc main_v36) (ix3 j 0 k) : EReal) = _
  after_reads_at
  refine (G.ar ⟨j.val * 8 + k.val / 64, by omega⟩ ⟨k.val % 64, by omega⟩).trans ?_
  rw [Nat.mul_comm 8]
theorem v1_ai (j : Fin 4) (k : Fin 512) : (V1 m ρ c main_v37 (ix3 j 0 k) : EReal) = (((D.a (8 * j.val + k.val / 64) (k.val % 64)).im : ℝ) : EReal) := by
  show (StableHlo.after hostOps0 (W0 m ρ c) (Proc.devRef .tc main_v37) (ix3 j 0 k) : EReal) = _
  after_reads_at
  refine (G.ai ⟨j.val * 8 + k.val / 64, by omega⟩ ⟨k.val % 64, by omega⟩).trans ?_
  rw [Nat.mul_comm 8]
theorem v1_br (j : Fin 4) (q : Fin 128) (k : Fin 512) : (V1 m ρ c main_v20 (ix3 j q k) : EReal)
    = ((if k.val / 64 = q.val / 16 then (D.b (8 * j.val + q.val / 16) (k.val % 64) (q.val % 16)).re else 0 : ℝ) : EReal) := by
  show (StableHlo.after hostOps0 (W0 m ρ c) (Proc.devRef .tc main_v20) (ix3 j q k) : EReal) = _
  after_reads_at
  refine (one_hot (q.val / 16) (k.val / 64) (by omega) (by omega) _ _ (G.br ⟨j.val * 8 + q.val / 16, by omega⟩ ⟨k.val % 64, by omega⟩ ⟨q.val % 16, by omega⟩)).trans ?_
  rw [Nat.mul_comm 8]
theorem v1_bi (j : Fin 4) (q : Fin 128) (k : Fin 512) : (V1 m ρ c main_v35 (ix3 j q k) : EReal)
    = ((if k.val / 64 = q.val / 16 then (D.b (8 * j.val + q.val / 16) (k.val % 64) (q.val % 16)).im else 0 : ℝ) : EReal) := by
  show (StableHlo.after hostOps0 (W0 m ρ c) (Proc.devRef .tc main_v35) (ix3 j q k) : EReal) = _
  after_reads_at
  refine (one_hot (q.val / 16) (k.val / 64) (by omega) (by omega) _ _ (G.bi ⟨j.val * 8 + q.val / 16, by omega⟩ ⟨k.val % 64, by omega⟩ ⟨q.val % 16, by omega⟩)).trans ?_
  rw [Nat.mul_comm 8]
theorem v1_cr (j : Fin 4) (q : Fin 128) (k : Fin 512) : (V1 m ρ c main_v51 (ix3 j q k) : EReal)
    = ((if k.val / 64 = q.val / 16 then (D.c (8 * j.val + q.val / 16) (q.val % 16) (k.val % 64)).re else 0 : ℝ) : EReal) := by
  show (StableHlo.after hostOps0 (W0 m ρ c) (Proc.devRef .tc main_v51) (ix3 j q k) : EReal) = _
  after_reads_at
  refine (one_hot (q.val / 16) (k.val / 64) (by omega) (by omega) _ _ (G.cr ⟨j.val * 8 + q.val / 16, by omega⟩ ⟨q.val % 16, by omega⟩ ⟨k.val % 64, by omega⟩)).trans ?_
  rw [Nat.mul_comm 8]
theorem v1_ci (j : Fin 4) (q : Fin 128) (k : Fin 512) : (V1 m ρ c main_v65 (ix3 j q k) : EReal)
    = ((if k.val / 64 = q.val / 16 then (D.c (8 * j.val + q.val / 16) (q.val % 16) (k.val % 64)).im else 0 : ℝ) : EReal) := by
  show (StableHlo.after hostOps0 (W0 m ρ c) (Proc.devRef .tc main_v65) (ix3 j q k) : EReal) = _
  after_reads_at
  refine (one_hot (q.val / 16) (k.val / 64) (by omega) (by omega) _ _ (G.ci ⟨j.val * 8 + q.val / 16, by omega⟩ ⟨q.val % 16, by omega⟩ ⟨k.val % 64, by omega⟩)).trans ?_
  rw [Nat.mul_comm 8]
theorem v1_d (j : Fin 4) (q : Fin 128) : (V1 m ρ c main_v66 (ix3 j 0 q) : EReal) = D.d (8 * j.val + q.val / 16) (q.val % 16) := by
  show (StableHlo.after hostOps0 (W0 m ρ c) (Proc.devRef .tc main_v66) (ix3 j 0 q) : EReal) = _
  after_reads_at
  refine (G.d ⟨j.val * 8 + q.val / 16, by omega⟩ ⟨q.val % 16, by omega⟩).trans ?_
  rw [Nat.mul_comm 8]

theorem holds1 : Holds D (V1 m ρ) c :=
  ⟨v1_dy ρ G, v1_u ρ G, v1_br ρ G, v1_bi ρ G, v1_ar ρ G, v1_ai ρ G, v1_cr ρ G, v1_ci ρ G, v1_d ρ G⟩

omit G in
/-- The first call leaves what it reads, and what it does not touch. -/
theorem v2_eq (r : Ref sig .tc) (h : ∀ w : Fin cfg0.W, Pipeline.arrRef spec0 w = r → (cfg0.win w).isOut = false) : V2 m ρ c r = V1 m ρ c r :=
  W2_of m ρ c r h

theorem holds2 : Holds D (V2 m ρ) c where
  dy := by rw [v2_eq ρ main_v5 (by decide)]; exact v1_dy ρ G
  u := by rw [v2_eq ρ main_v2 (by decide)]; exact v1_u ρ G
  br := by rw [v2_eq ρ main_v20 (by decide)]; exact v1_br ρ G
  bi := by rw [v2_eq ρ main_v35 (by decide)]; exact v1_bi ρ G
  ar := by rw [v2_eq ρ main_v36 (by decide)]; exact v1_ar ρ G
  ai := by rw [v2_eq ρ main_v37 (by decide)]; exact v1_ai ρ G
  cr := by rw [v2_eq ρ main_v51 (by decide)]; exact v1_cr ρ G
  ci := by rw [v2_eq ρ main_v65 (by decide)]; exact v1_ci ρ G
  d := by rw [v2_eq ρ main_v66 (by decide)]; exact v1_d ρ G

theorem saved2 : Saved D (V2 m ρ) c :=
  ⟨fun r k => (congrFun (W2_arr m ρ c 8) (ix2 r k)).trans (out0_8 (holds1 ρ G) r k),
   fun r k => (congrFun (W2_arr m ρ c 9) (ix2 r k)).trans (out0_9 (holds1 ρ G) r k)⟩

theorem res_y (t : Fin 2176) (k : Fin 512) : (W4 m ρ c (Proc.devRef .tc main_v71) (ix2 t k) : EReal) = D.y t.val (k.val / 16) (k.val % 16) := by
  show (StableHlo.after hostOps2 (W3 m ρ c) (Proc.devRef .tc main_v71) (ix2 t k) : EReal) = _
  after_reads_at
  rw [W3_of_ne m ρ c main_v67_2 (by decide)]
  refine ((congrFun (W2_arr m ρ c 10) (ix2 ⟨t.val % 272 * 8 + t.val / 272, by omega⟩ k)).trans (out0_10 (holds1 ρ G) _ k)).trans ?_
  rw [show time (⟨t.val % 272 * 8 + t.val / 272, by omega⟩ : Fin 2176).val = t.val from by unfold time; dsimp only; omega]
theorem res_du (t : Fin 2176) (k : Fin 512) : (W4 m ρ c (Proc.devRef .tc main_v75) (ix2 t k) : EReal) = D.du t.val (k.val / 16) (k.val % 16) := by
  show (StableHlo.after hostOps2 (W3 m ρ c) (Proc.devRef .tc main_v75) (ix2 t k) : EReal) = _
  after_reads_at
  refine ((congrFun (W3_arr m ρ c 11) (ix2 ⟨t.val % 272 * 8 + t.val / 272, by omega⟩ k)).trans (out1_11 (holds2 ρ G) _ k)).trans ?_
  rw [show time (⟨t.val % 272 * 8 + t.val / 272, by omega⟩ : Fin 2176).val = t.val from by unfold time; dsimp only; omega]
theorem res_dar (g : Fin 32) (p : Fin 64) : (W4 m ρ c (Proc.devRef .tc main_v76) (ix2 g p) : EReal) = (((D.da g.val p.val).re : ℝ) : EReal) := by
  show (StableHlo.after hostOps2 (W3 m ρ c) (Proc.devRef .tc main_v76) (ix2 g p) : EReal) = _
  after_reads_at
  refine ((congrFun (W3_arr m ρ c 14) _).trans (out1_14 (holds2 ρ G) (saved2 ρ G) ⟨g.val / 8, by omega⟩ ⟨g.val % 8 * 64 + p.val, by omega⟩)).trans ?_
  exact rows_congr (f := fun a b => (D.da a b).re) (by dsimp only; omega) (by dsimp only; omega)
theorem res_dai (g : Fin 32) (p : Fin 64) : (W4 m ρ c (Proc.devRef .tc main_v77) (ix2 g p) : EReal) = (((D.da g.val p.val).im : ℝ) : EReal) := by
  show (StableHlo.after hostOps2 (W3 m ρ c) (Proc.devRef .tc main_v77) (ix2 g p) : EReal) = _
  after_reads_at
  refine ((congrFun (W3_arr m ρ c 15) _).trans (out1_15 (holds2 ρ G) (saved2 ρ G) ⟨g.val / 8, by omega⟩ ⟨g.val % 8 * 64 + p.val, by omega⟩)).trans ?_
  exact rows_congr (f := fun a b => (D.da a b).im) (by dsimp only; omega) (by dsimp only; omega)
theorem res_dd (g : Fin 32) (i : Fin 16) : (W4 m ρ c (Proc.devRef .tc main_v84) (ix2 g i) : EReal) = ((D.dd g.val i.val : ℝ) : EReal) := by
  show (StableHlo.after hostOps2 (W3 m ρ c) (Proc.devRef .tc main_v84) (ix2 g i) : EReal) = _
  after_reads_at
  refine ((congrFun (W3_arr m ρ c 18) _).trans (out1_18 (holds2 ρ G) ⟨g.val / 8, by omega⟩ ⟨g.val % 8 * 16 + i.val, by omega⟩)).trans ?_
  exact rows_congr (f := D.dd) (by dsimp only; omega) (by dsimp only; omega)
theorem res_dbr (g : Fin 32) (p : Fin 64) (i : Fin 16) : (W4 m ρ c (Proc.devRef .tc main_v79) (ix3 g p i) : EReal) = ((D.dbr g.val p.val i.val : ℝ) : EReal) := by
  show (StableHlo.after hostOps2 (W3 m ρ c) (Proc.devRef .tc main_v79) (ix3 g p i) : EReal) = _
  after_reads_at
  refine ((congrFun (W3_arr m ρ c 12) _).trans (out1_12 (holds2 ρ G) ⟨g.val / 8, by omega⟩ ⟨g.val % 8, by omega⟩ i p)).trans ?_
  exact real_congr (f := D.dbr) (by dsimp only; omega) rfl rfl
theorem res_dbi (g : Fin 32) (p : Fin 64) (i : Fin 16) : (W4 m ρ c (Proc.devRef .tc main_v81) (ix3 g p i) : EReal) = ((D.dbi g.val p.val i.val : ℝ) : EReal) := by
  show (StableHlo.after hostOps2 (W3 m ρ c) (Proc.devRef .tc main_v81) (ix3 g p i) : EReal) = _
  after_reads_at
  refine ((congrFun (W3_arr m ρ c 13) _).trans (out1_13 (holds2 ρ G) ⟨g.val / 8, by omega⟩ ⟨g.val % 8, by omega⟩ i p)).trans ?_
  exact real_congr (f := D.dbi) (by dsimp only; omega) rfl rfl
theorem res_dcr (g : Fin 32) (i : Fin 16) (p : Fin 64) : (W4 m ρ c (Proc.devRef .tc main_v82) (ix3 g i p) : EReal) = ((D.dcr g.val i.val p.val : ℝ) : EReal) := by
  show (StableHlo.after hostOps2 (W3 m ρ c) (Proc.devRef .tc main_v82) (ix3 g i p) : EReal) = _
  after_reads_at
  refine ((congrFun (W3_arr m ρ c 16) _).trans (out1_16 (holds2 ρ G) (saved2 ρ G) ⟨g.val / 8, by omega⟩ ⟨g.val % 8, by omega⟩ i p)).trans ?_
  exact real_congr (f := D.dcr) (by dsimp only; omega) rfl rfl
theorem res_dci (g : Fin 32) (i : Fin 16) (p : Fin 64) : (W4 m ρ c (Proc.devRef .tc main_v83) (ix3 g i p) : EReal) = ((D.dci g.val i.val p.val : ℝ) : EReal) := by
  show (StableHlo.after hostOps2 (W3 m ρ c) (Proc.devRef .tc main_v83) (ix3 g i p) : EReal) = _
  after_reads_at
  refine ((congrFun (W3_arr m ρ c 17) _).trans (out1_17 (holds2 ρ G) (saved2 ρ G) ⟨g.val / 8, by omega⟩ ⟨g.val % 8, by omega⟩ i p)).trans ?_
  exact real_congr (f := D.dci) (by dsimp only; omega) rfl rfl

end Ins

end Cert.S5

end
-- ==== Proof.RefStep.lean ====
/- One trip of each scan of the reference, at one entry. -/
module

public import proofs.«01_k».proof.Proof.RefRun
public import proofs.«01_k».proof.Proof.Math
public import Idealize.ShloMosaic.Lib.StableHlo.ReadAt
public import Idealize.ShloMosaic.Lib.DynamicIndex

@[expose] public section

set_option maxRecDepth 16384
noncomputable section

namespace Cert.S5Ref

open Cert.ReferenceIdeal Cert.ReferenceIdeal.Gen Cert.ReferenceIdeal.Run
open Idealize.ShloMosaic Idealize.ShloMosaic.TcCoe Idealize.ShloMosaic.StableHlo

/-- One time's row of an array, taken out. -/
theorem row_get (x : FVec Ideal S2176x32x64 .f32) (f : Fin 3 → Int) (h : S2176x32x64.Slices (fun _ => 0) S1x32x64) (k : ℕ) (hk : k < 2176) (hf : f 0 = k) :
    Host.dynamicSlice S1x32x64 x f h = fun j => x (ix3 ⟨k, hk⟩ (j 1) (j 2)) := by
  funext j
  have e0 : Host.clampedStart S2176x32x64 S1x32x64 h.1 f 0 = k := Host.clampedStart_of_le h.1 f 0 k hf (by show k + 1 ≤ 2176; omega)
  have e1 : Host.clampedStart S2176x32x64 S1x32x64 h.1 f 1 = 0 := by
    show (min (max (f 1) 0) ((32 - 32 : ℕ) : Int)).toNat = 0
    omega
  have e2 : Host.clampedStart S2176x32x64 S1x32x64 h.1 f 2 = 0 := by
    show (min (max (f 2) 0) ((64 - 64 : ℕ) : Int)).toNat = 0
    omega
  have hj : (j 0).val = 0 := by have : (j 0).val < 1 := (j 0).isLt; omega
  rw [Host.dynamicSlice_apply]
  congr 1
  funext a
  match a with
  | ⟨0, _⟩ => exact Fin.ext (by show Host.clampedStart S2176x32x64 S1x32x64 h.1 f 0 + (j 0).val = k; omega)
  | ⟨1, _⟩ => exact Fin.ext (by show Host.clampedStart S2176x32x64 S1x32x64 h.1 f 1 + (j 1).val = (j 1).val; omega)
  | ⟨2, _⟩ => exact Fin.ext (by show Host.clampedStart S2176x32x64 S1x32x64 h.1 f 2 + (j 2).val = (j 2).val; omega)

/-- One time's row of an array, replaced. -/
theorem row_set (x : FVec Ideal S2176x32x64 .f32) (u : FVec Ideal S1x32x64 .f32) (f : Fin 3 → Int) (h : S2176x32x64.Slices (fun _ => 0) S1x32x64) (k : ℕ)
    (hk : k < 2176) (hf : f 0 = k) :
    Host.dynamicUpdateSlice x u f h = fun j => if (j 0).val = k then u (ix3 0 (j 1) (j 2)) else x j := by
  funext j
  have e0 : Host.clampedStart S2176x32x64 S1x32x64 h.1 f 0 = k := Host.clampedStart_of_le h.1 f 0 k hf (by show k + 1 ≤ 2176; omega)
  have e1 : Host.clampedStart S2176x32x64 S1x32x64 h.1 f 1 = 0 := by
    show (min (max (f 1) 0) ((32 - 32 : ℕ) : Int)).toNat = 0
    omega
  have e2 : Host.clampedStart S2176x32x64 S1x32x64 h.1 f 2 = 0 := by
    show (min (max (f 2) 0) ((64 - 64 : ℕ) : Int)).toNat = 0
    omega
  have b1 : (j 1).val < 32 := (j 1).isLt
  have b2 : (j 2).val < 64 := (j 2).isLt
  rw [Host.dynamicUpdateSlice_apply]
  dsimp only
  by_cases hj : (j 0).val = k
  · rw [if_pos hj, dif_pos]
    · congr 1
      funext a
      match a with
      | ⟨0, _⟩ => exact Fin.ext (by show (j 0).val - Host.clampedStart S2176x32x64 S1x32x64 h.1 f 0 = 0; omega)
      | ⟨1, _⟩ => exact Fin.ext (by show (j 1).val - Host.clampedStart S2176x32x64 S1x32x64 h.1 f 1 = (j 1).val; omega)
      | ⟨2, _⟩ => exact Fin.ext (by show (j 2).val - Host.clampedStart S2176x32x64 S1x32x64 h.1 f 2 = (j 2).val; omega)
    · intro a
      match a with
      | ⟨0, _⟩ => exact (show Host.clampedStart S2176x32x64 S1x32x64 h.1 f 0 ≤ (j 0).val ∧ (j 0).val < Host.clampedStart S2176x32x64 S1x32x64 h.1 f 0 + 1 by omega)
      | ⟨1, _⟩ => exact (show Host.clampedStart S2176x32x64 S1x32x64 h.1 f 1 ≤ (j 1).val ∧ (j 1).val < Host.clampedStart S2176x32x64 S1x32x64 h.1 f 1 + 32 by omega)
      | ⟨2, _⟩ => exact (show Host.clampedStart S2176x32x64 S1x32x64 h.1 f 2 ≤ (j 2).val ∧ (j 2).val < Host.clampedStart S2176x32x64 S1x32x64 h.1 f 2 + 64 by omega)
  · rw [if_neg hj, dif_neg]
    intro hin
    have h0 : Host.clampedStart S2176x32x64 S1x32x64 h.1 f 0 ≤ (j 0).val ∧ (j 0).val < Host.clampedStart S2176x32x64 S1x32x64 h.1 f 0 + 1 := hin 0
    omega

theorem counter_int (k : ℕ) (hk : k < 2176) : (Scf.iv 0#32 1#32 k).toInt = (k : Int) := by
  rw [Scf.iv, BitVec.zero_add, BitVec.mul_one]
  exact toInt_ofNat_of_lt (by omega)

/-- An entry of an array, as an extended real. -/
abbrev rd2 (x : FVec Ideal S32x64 .f32) (g : Fin 32) (p : Fin 64) : EReal := x (ix2 g p)
/-- An entry of an array, as an extended real. -/
abbrev rd3 (x : FVec Ideal S2176x32x64 .f32) (t : Fin 2176) (g : Fin 32) (p : Fin 64) : EReal := x (ix3 t g p)

theorem back_int (k : ℕ) (hk : k < 2176) : ((2176#32 - Scf.iv 0#32 1#32 k) - 1#32).toInt = ((2175 - k : ℕ) : Int) := by
  have e : (2176#32 - Scf.iv 0#32 1#32 k) - 1#32 = BitVec.ofNat 32 (2175 - k) := by
    apply BitVec.eq_of_toNat_eq
    simp only [Scf.iv, BitVec.zero_add, BitVec.mul_one, BitVec.toNat_sub, BitVec.toNat_ofNat]
    omega
  rw [e]
  exact toInt_ofNat_of_lt (by omega)

variable {V : Valuation τ sig (Elt Ideal)} {k : ℕ} (hk : k < 2176)

section Forward

variable (hc : V (Proc.devRef .tc main_v11_4) = fun _ => Scf.iv 0#32 1#32 k)
include hk hc

theorem fwd_re (g : Fin 32) (p : Fin 64) : (after body0 V (Proc.devRef .tc main_v11_5) (ix2 g p) : EReal)
    = rd2 (V (Proc.devRef .tc main_v11_2)) g p * rd2 (V (Proc.devRef .tc main_v11_5)) g p - rd2 (V (Proc.devRef .tc main_v11_3)) g p * rd2 (V (Proc.devRef .tc main_v11_6)) g p + rd3 (V (Proc.devRef .tc main_v11_0)) ⟨k, hk⟩ g p := by
  after_reads_simp
  simp -implicitDefEqProofs only [StableHlo.TRef.toBuf, StableHlo.TRef.ofBuf, cast_cast, cast_eq, id_eq]
  rw [row_get _ _ _ k hk ?_]
  rotate_left
  · show BitVec.toInt (upto body0 V _ (Proc.devRef .tc main_v11_4) (Shape.Idx.first h_S_)) = _
    after_reads_simp
    rw [hc]
    exact counter_int k hk
  pointwise
theorem fwd_im (g : Fin 32) (p : Fin 64) : (after body0 V (Proc.devRef .tc main_v11_6) (ix2 g p) : EReal)
    = rd2 (V (Proc.devRef .tc main_v11_2)) g p * rd2 (V (Proc.devRef .tc main_v11_6)) g p + rd2 (V (Proc.devRef .tc main_v11_3)) g p * rd2 (V (Proc.devRef .tc main_v11_5)) g p + rd3 (V (Proc.devRef .tc main_v11_1)) ⟨k, hk⟩ g p := by
  after_reads_simp
  simp -implicitDefEqProofs only [StableHlo.TRef.toBuf, StableHlo.TRef.ofBuf, cast_cast, cast_eq, id_eq]
  rw [row_get _ _ _ k hk ?_]
  rotate_left
  · show BitVec.toInt (upto body0 V _ (Proc.devRef .tc main_v11_4) (Shape.Idx.first h_S_)) = _
    after_reads_simp
    rw [hc]
    exact counter_int k hk
  pointwise
theorem fwd_new_re (t : Fin 2176) (g : Fin 32) (p : Fin 64) : (after body0 V (Proc.devRef .tc main_v11_7) (ix3 t g p) : EReal)
    = if t.val = k then rd2 (V (Proc.devRef .tc main_v11_2)) g p * rd2 (V (Proc.devRef .tc main_v11_5)) g p - rd2 (V (Proc.devRef .tc main_v11_3)) g p * rd2 (V (Proc.devRef .tc main_v11_6)) g p + rd3 (V (Proc.devRef .tc main_v11_0)) ⟨k, hk⟩ g p else rd3 (V (Proc.devRef .tc main_v11_7)) t g p := by
  after_reads_simp
  simp -implicitDefEqProofs only [StableHlo.TRef.toBuf, StableHlo.TRef.ofBuf, cast_cast, cast_eq, id_eq]
  rw [row_set _ _ _ _ k hk ?_]
  rotate_left
  · show BitVec.toInt (upto body0 V _ (Proc.devRef .tc main_v11_4) (Shape.Idx.first h_S_)) = _
    after_reads_simp
    rw [hc]
    exact counter_int k hk
  rw [row_get _ _ _ k hk ?_]
  rotate_left
  · show BitVec.toInt (upto body0 V _ (Proc.devRef .tc main_v11_4) (Shape.Idx.first h_S_)) = _
    after_reads_simp
    rw [hc]
    exact counter_int k hk
  dsimp only
  refine if_congr Iff.rfl ?_ rfl
  pointwise
theorem fwd_new_im (t : Fin 2176) (g : Fin 32) (p : Fin 64) : (after body0 V (Proc.devRef .tc main_v11_8) (ix3 t g p) : EReal)
    = if t.val = k then rd2 (V (Proc.devRef .tc main_v11_2)) g p * rd2 (V (Proc.devRef .tc main_v11_6)) g p + rd2 (V (Proc.devRef .tc main_v11_3)) g p * rd2 (V (Proc.devRef .tc main_v11_5)) g p + rd3 (V (Proc.devRef .tc main_v11_1)) ⟨k, hk⟩ g p else rd3 (V (Proc.devRef .tc main_v11_8)) t g p := by
  after_reads_simp
  simp -implicitDefEqProofs only [StableHlo.TRef.toBuf, StableHlo.TRef.ofBuf, cast_cast, cast_eq, id_eq]
  rw [row_set _ _ _ _ k hk ?_]
  rotate_left
  · show BitVec.toInt (upto body0 V _ (Proc.devRef .tc main_v11_4) (Shape.Idx.first h_S_)) = _
    after_reads_simp
    rw [hc]
    exact counter_int k hk
  rw [row_get _ _ _ k hk ?_]
  rotate_left
  · show BitVec.toInt (upto body0 V _ (Proc.devRef .tc main_v11_4) (Shape.Idx.first h_S_)) = _
    after_reads_simp
    rw [hc]
    exact counter_int k hk
  dsimp only
  refine if_congr Iff.rfl ?_ rfl
  pointwise
theorem fwd_old_re (t : Fin 2176) (g : Fin 32) (p : Fin 64) : (after body0 V (Proc.devRef .tc main_v11_9) (ix3 t g p) : EReal)
    = if t.val = k then rd2 (V (Proc.devRef .tc main_v11_5)) g p else rd3 (V (Proc.devRef .tc main_v11_9)) t g p := by
  after_reads_simp
  simp -implicitDefEqProofs only [StableHlo.TRef.toBuf, StableHlo.TRef.ofBuf, cast_cast, cast_eq, id_eq]
  rw [row_set _ _ _ _ k hk ?_]
  rotate_left
  · show BitVec.toInt (upto body0 V _ (Proc.devRef .tc main_v11_4) (Shape.Idx.first h_S_)) = _
    after_reads_simp
    rw [hc]
    exact counter_int k hk
  dsimp only
  refine if_congr Iff.rfl ?_ rfl
  pointwise
theorem fwd_old_im (t : Fin 2176) (g : Fin 32) (p : Fin 64) : (after body0 V (Proc.devRef .tc main_v11_10) (ix3 t g p) : EReal)
    = if t.val = k then rd2 (V (Proc.devRef .tc main_v11_6)) g p else rd3 (V (Proc.devRef .tc main_v11_10)) t g p := by
  after_reads_simp
  simp -implicitDefEqProofs only [StableHlo.TRef.toBuf, StableHlo.TRef.ofBuf, cast_cast, cast_eq, id_eq]
  rw [row_set _ _ _ _ k hk ?_]
  rotate_left
  · show BitVec.toInt (upto body0 V _ (Proc.devRef .tc main_v11_4) (Shape.Idx.first h_S_)) = _
    after_reads_simp
    rw [hc]
    exact counter_int k hk
  dsimp only
  refine if_congr Iff.rfl ?_ rfl
  pointwise
end Forward

section Reverse

variable (hc : V (Proc.devRef .tc main_v46_6) = fun _ => Scf.iv 0#32 1#32 k)
include hk hc

theorem rev_re (g : Fin 32) (p : Fin 64) : (after body1 V (Proc.devRef .tc main_v46_9) (ix2 g p) : EReal)
    = rd2 (V (Proc.devRef .tc main_v46_5)) g p * (rd2 (V (Proc.devRef .tc main_v46_10)) g p + rd3 (V (Proc.devRef .tc main_v46_1)) ⟨2175 - k, by omega⟩ g p) + rd2 (V (Proc.devRef .tc main_v46_4)) g p * (rd2 (V (Proc.devRef .tc main_v46_9)) g p + rd3 (V (Proc.devRef .tc main_v46_0)) ⟨2175 - k, by omega⟩ g p) := by
  after_reads_simp
  simp -implicitDefEqProofs only [StableHlo.TRef.toBuf, StableHlo.TRef.ofBuf, cast_cast, cast_eq, id_eq]
  rw [row_get _ _ _ (2175 - k) (by omega) ?_]
  rotate_left
  · show BitVec.toInt (upto body1 V _ (Proc.devRef .tc main_while1b_v59) (Shape.Idx.first h_S_)) = _
    after_reads_simp
    rw [hc]
    exact back_int k hk
  rw [row_get _ _ _ (2175 - k) (by omega) ?_]
  rotate_left
  · show BitVec.toInt (upto body1 V _ (Proc.devRef .tc main_while1b_v59) (Shape.Idx.first h_S_)) = _
    after_reads_simp
    rw [hc]
    exact back_int k hk
  pointwise
theorem rev_im (g : Fin 32) (p : Fin 64) : (after body1 V (Proc.devRef .tc main_v46_10) (ix2 g p) : EReal)
    = rd2 (V (Proc.devRef .tc main_v46_4)) g p * (rd2 (V (Proc.devRef .tc main_v46_10)) g p + rd3 (V (Proc.devRef .tc main_v46_1)) ⟨2175 - k, by omega⟩ g p) + rd2 (V (Proc.devRef .tc main_v46_5)) g p * (-(rd2 (V (Proc.devRef .tc main_v46_9)) g p + rd3 (V (Proc.devRef .tc main_v46_0)) ⟨2175 - k, by omega⟩ g p)) := by
  after_reads_simp
  simp -implicitDefEqProofs only [StableHlo.TRef.toBuf, StableHlo.TRef.ofBuf, cast_cast, cast_eq, id_eq]
  rw [row_get _ _ _ (2175 - k) (by omega) ?_]
  rotate_left
  · show BitVec.toInt (upto body1 V _ (Proc.devRef .tc main_while1b_v59) (Shape.Idx.first h_S_)) = _
    after_reads_simp
    rw [hc]
    exact back_int k hk
  rw [row_get _ _ _ (2175 - k) (by omega) ?_]
  rotate_left
  · show BitVec.toInt (upto body1 V _ (Proc.devRef .tc main_while1b_v59) (Shape.Idx.first h_S_)) = _
    after_reads_simp
    rw [hc]
    exact back_int k hk
  pointwise
theorem rev_da_re (g : Fin 32) (p : Fin 64) : (after body1 V (Proc.devRef .tc main_v46_7) (ix2 g p) : EReal)
    = (rd2 (V (Proc.devRef .tc main_v46_7)) g p + (rd2 (V (Proc.devRef .tc main_v46_10)) g p + rd3 (V (Proc.devRef .tc main_v46_1)) ⟨2175 - k, by omega⟩ g p) * rd3 (V (Proc.devRef .tc main_v46_3)) ⟨2175 - k, by omega⟩ g p) + (rd2 (V (Proc.devRef .tc main_v46_9)) g p + rd3 (V (Proc.devRef .tc main_v46_0)) ⟨2175 - k, by omega⟩ g p) * rd3 (V (Proc.devRef .tc main_v46_2)) ⟨2175 - k, by omega⟩ g p := by
  after_reads_simp
  simp -implicitDefEqProofs only [StableHlo.TRef.toBuf, StableHlo.TRef.ofBuf, cast_cast, cast_eq, id_eq]
  rw [row_get _ _ _ (2175 - k) (by omega) ?_]
  rotate_left
  · show BitVec.toInt (upto body1 V _ (Proc.devRef .tc main_while1b_v59) (Shape.Idx.first h_S_)) = _
    after_reads_simp
    rw [hc]
    exact back_int k hk
  rw [row_get _ _ _ (2175 - k) (by omega) ?_]
  rotate_left
  · show BitVec.toInt (upto body1 V _ (Proc.devRef .tc main_while1b_v59) (Shape.Idx.first h_S_)) = _
    after_reads_simp
    rw [hc]
    exact back_int k hk
  rw [row_get _ _ _ (2175 - k) (by omega) ?_]
  rotate_left
  · show BitVec.toInt (upto body1 V _ (Proc.devRef .tc main_while1b_v59) (Shape.Idx.first h_S_)) = _
    after_reads_simp
    rw [hc]
    exact back_int k hk
  rw [row_get _ _ _ (2175 - k) (by omega) ?_]
  rotate_left
  · show BitVec.toInt (upto body1 V _ (Proc.devRef .tc main_while1b_v59) (Shape.Idx.first h_S_)) = _
    after_reads_simp
    rw [hc]
    exact back_int k hk
  pointwise
theorem rev_da_im (g : Fin 32) (p : Fin 64) : (after body1 V (Proc.devRef .tc main_v46_8) (ix2 g p) : EReal)
    = (rd2 (V (Proc.devRef .tc main_v46_8)) g p + (rd2 (V (Proc.devRef .tc main_v46_10)) g p + rd3 (V (Proc.devRef .tc main_v46_1)) ⟨2175 - k, by omega⟩ g p) * rd3 (V (Proc.devRef .tc main_v46_2)) ⟨2175 - k, by omega⟩ g p) + (-(rd2 (V (Proc.devRef .tc main_v46_9)) g p + rd3 (V (Proc.devRef .tc main_v46_0)) ⟨2175 - k, by omega⟩ g p)) * rd3 (V (Proc.devRef .tc main_v46_3)) ⟨2175 - k, by omega⟩ g p := by
  after_reads_simp
  simp -implicitDefEqProofs only [StableHlo.TRef.toBuf, StableHlo.TRef.ofBuf, cast_cast, cast_eq, id_eq]
  rw [row_get _ _ _ (2175 - k) (by omega) ?_]
  rotate_left
  · show BitVec.toInt (upto body1 V _ (Proc.devRef .tc main_while1b_v59) (Shape.Idx.first h_S_)) = _
    after_reads_simp
    rw [hc]
    exact back_int k hk
  rw [row_get _ _ _ (2175 - k) (by omega) ?_]
  rotate_left
  · show BitVec.toInt (upto body1 V _ (Proc.devRef .tc main_while1b_v59) (Shape.Idx.first h_S_)) = _
    after_reads_simp
    rw [hc]
    exact back_int k hk
  rw [row_get _ _ _ (2175 - k) (by omega) ?_]
  rotate_left
  · show BitVec.toInt (upto body1 V _ (Proc.devRef .tc main_while1b_v59) (Shape.Idx.first h_S_)) = _
    after_reads_simp
    rw [hc]
    exact back_int k hk
  rw [row_get _ _ _ (2175 - k) (by omega) ?_]
  rotate_left
  · show BitVec.toInt (upto body1 V _ (Proc.devRef .tc main_while1b_v59) (Shape.Idx.first h_S_)) = _
    after_reads_simp
    rw [hc]
    exact back_int k hk
  pointwise
theorem rev_new_re (t : Fin 2176) (g : Fin 32) (p : Fin 64) : (after body1 V (Proc.devRef .tc main_v46_11) (ix3 t g p) : EReal)
    = if t.val = 2175 - k then (rd2 (V (Proc.devRef .tc main_v46_9)) g p + rd3 (V (Proc.devRef .tc main_v46_0)) ⟨2175 - k, by omega⟩ g p) else rd3 (V (Proc.devRef .tc main_v46_11)) t g p := by
  after_reads_simp
  simp -implicitDefEqProofs only [StableHlo.TRef.toBuf, StableHlo.TRef.ofBuf, cast_cast, cast_eq, id_eq]
  rw [row_set _ _ _ _ (2175 - k) (by omega) ?_]
  rotate_left
  · show BitVec.toInt (upto body1 V _ (Proc.devRef .tc main_while1b_v59) (Shape.Idx.first h_S_)) = _
    after_reads_simp
    rw [hc]
    exact back_int k hk
  rw [row_get _ _ _ (2175 - k) (by omega) ?_]
  rotate_left
  · show BitVec.toInt (upto body1 V _ (Proc.devRef .tc main_while1b_v59) (Shape.Idx.first h_S_)) = _
    after_reads_simp
    rw [hc]
    exact back_int k hk
  dsimp only
  refine if_congr Iff.rfl ?_ rfl
  pointwise
theorem rev_new_im (t : Fin 2176) (g : Fin 32) (p : Fin 64) : (after body1 V (Proc.devRef .tc main_v46_12) (ix3 t g p) : EReal)
    = if t.val = 2175 - k then (rd2 (V (Proc.devRef .tc main_v46_10)) g p + rd3 (V (Proc.devRef .tc main_v46_1)) ⟨2175 - k, by omega⟩ g p) else rd3 (V (Proc.devRef .tc main_v46_12)) t g p := by
  after_reads_simp
  simp -implicitDefEqProofs only [StableHlo.TRef.toBuf, StableHlo.TRef.ofBuf, cast_cast, cast_eq, id_eq]
  rw [row_set _ _ _ _ (2175 - k) (by omega) ?_]
  rotate_left
  · show BitVec.toInt (upto body1 V _ (Proc.devRef .tc main_while1b_v59) (Shape.Idx.first h_S_)) = _
    after_reads_simp
    rw [hc]
    exact back_int k hk
  rw [row_get _ _ _ (2175 - k) (by omega) ?_]
  rotate_left
  · show BitVec.toInt (upto body1 V _ (Proc.devRef .tc main_while1b_v59) (Shape.Idx.first h_S_)) = _
    after_reads_simp
    rw [hc]
    exact back_int k hk
  dsimp only
  refine if_congr Iff.rfl ?_ rfl
  pointwise
end Reverse

end Cert.S5Ref

end
-- ==== Proof.RefFwd.lean ====
/- The states the reference's forward scan leaves. -/
module

public import proofs.«01_k».proof.Proof.RefStep
public import proofs.«01_k».proof.Proof.Chunk

@[expose] public section

set_option maxRecDepth 16384
noncomputable section

namespace Cert.S5Ref

open Cert.ReferenceIdeal Cert.ReferenceIdeal.Gen Cert.ReferenceIdeal.Run
open Idealize.ShloMosaic Idealize.ShloMosaic.TcCoe Idealize.ShloMosaic.StableHlo
open Cert.S5

/-- The arguments, in terms of the data. -/
structure Given (D : Data) (V : Valuation τ sig (Elt Ideal)) : Prop where
  dy : ∀ (t : Fin 2176) (k : Fin 512), (V (Proc.devRef .tc main_arg0) (ix2 t k) : EReal) = ((D.dy t.val (k.val / 16) (k.val % 16) : ℝ) : EReal)
  u : ∀ (t : Fin 2176) (k : Fin 2048), 1536 ≤ k.val →
    (V (Proc.devRef .tc main_arg1) (ix2 t k) : EReal) = ((D.u t.val ((k.val - 1536) / 16) (k.val % 16) : ℝ) : EReal)
  ar : ∀ (g : Fin 32) (p : Fin 64), (V (Proc.devRef .tc main_arg2) (ix2 g p) : EReal) = (((D.a g.val p.val).re : ℝ) : EReal)
  ai : ∀ (g : Fin 32) (p : Fin 64), (V (Proc.devRef .tc main_arg3) (ix2 g p) : EReal) = (((D.a g.val p.val).im : ℝ) : EReal)
  br : ∀ (g : Fin 32) (p : Fin 64) (i : Fin 16), (V (Proc.devRef .tc main_arg4) (ix3 g p i) : EReal) = (((D.b g.val p.val i.val).re : ℝ) : EReal)
  bi : ∀ (g : Fin 32) (p : Fin 64) (i : Fin 16), (V (Proc.devRef .tc main_arg5) (ix3 g p i) : EReal) = (((D.b g.val p.val i.val).im : ℝ) : EReal)
  cr : ∀ (g : Fin 32) (i : Fin 16) (p : Fin 64), (V (Proc.devRef .tc main_arg6) (ix3 g i p) : EReal) = (((D.c g.val i.val p.val).re : ℝ) : EReal)
  ci : ∀ (g : Fin 32) (i : Fin 16) (p : Fin 64), (V (Proc.devRef .tc main_arg7) (ix3 g i p) : EReal) = (((D.c g.val i.val p.val).im : ℝ) : EReal)
  d : ∀ (g : Fin 32) (i : Fin 16), (V (Proc.devRef .tc main_arg8) (ix2 g i) : EReal) = D.d g.val i.val

/-- What the forward scan reads. -/
structure FwdIn (D : Data) (V : Valuation τ sig (Elt Ideal)) : Prop where
  xr : ∀ (t : Fin 2176) (g : Fin 32) (p : Fin 64), rd3 (V (Proc.devRef .tc main_v11_0)) t g p = (((D.bu g.val p.val t.val).re : ℝ) : EReal)
  xi : ∀ (t : Fin 2176) (g : Fin 32) (p : Fin 64), rd3 (V (Proc.devRef .tc main_v11_1)) t g p = (((D.bu g.val p.val t.val).im : ℝ) : EReal)
  ar : ∀ (g : Fin 32) (p : Fin 64), rd2 (V (Proc.devRef .tc main_v11_2)) g p = (((D.a g.val p.val).re : ℝ) : EReal)
  ai : ∀ (g : Fin 32) (p : Fin 64), rd2 (V (Proc.devRef .tc main_v11_3)) g p = (((D.a g.val p.val).im : ℝ) : EReal)

/-- What the forward scan has found after `k` trips. -/
structure FwdInv (D : Data) (V : Valuation τ sig (Elt Ideal)) (k : ℕ) : Prop where
  re : ∀ (g : Fin 32) (p : Fin 64), rd2 (V (Proc.devRef .tc main_v11_5)) g p = (((D.st g.val p.val k).re : ℝ) : EReal)
  im : ∀ (g : Fin 32) (p : Fin 64), rd2 (V (Proc.devRef .tc main_v11_6)) g p = (((D.st g.val p.val k).im : ℝ) : EReal)
  nr : ∀ (t : Fin 2176) (g : Fin 32) (p : Fin 64), t.val < k → rd3 (V (Proc.devRef .tc main_v11_7)) t g p = (((D.st g.val p.val (t.val + 1)).re : ℝ) : EReal)
  ni : ∀ (t : Fin 2176) (g : Fin 32) (p : Fin 64), t.val < k → rd3 (V (Proc.devRef .tc main_v11_8)) t g p = (((D.st g.val p.val (t.val + 1)).im : ℝ) : EReal)
  pr : ∀ (t : Fin 2176) (g : Fin 32) (p : Fin 64), t.val < k → rd3 (V (Proc.devRef .tc main_v11_9)) t g p = (((D.st g.val p.val t.val).re : ℝ) : EReal)
  pi : ∀ (t : Fin 2176) (g : Fin 32) (p : Fin 64), t.val < k → rd3 (V (Proc.devRef .tc main_v11_10)) t g p = (((D.st g.val p.val t.val).im : ℝ) : EReal)

theorem st_succ (D : Data) (g p k : ℕ) : D.st g p (k + 1) = D.a g p * D.st g p k + D.bu g p k := rfl

theorem coe_re (a s b : ℂ) : ((a.re : ℝ) : EReal) * ((s.re : ℝ) : EReal) - ((a.im : ℝ) : EReal) * ((s.im : ℝ) : EReal) + ((b.re : ℝ) : EReal)
    = (((a * s + b).re : ℝ) : EReal) := by
  rw [← EReal.coe_mul, ← EReal.coe_mul, ← EReal.coe_sub, ← EReal.coe_add, Complex.add_re, Complex.mul_re]
theorem coe_im (a s b : ℂ) : ((a.re : ℝ) : EReal) * ((s.im : ℝ) : EReal) + ((a.im : ℝ) : EReal) * ((s.re : ℝ) : EReal) + ((b.im : ℝ) : EReal)
    = (((a * s + b).im : ℝ) : EReal) := by
  rw [← EReal.coe_mul, ← EReal.coe_mul, ← EReal.coe_add, ← EReal.coe_add, Complex.add_im, Complex.mul_im]

theorem fwd_step {D : Data} {V : Valuation τ sig (Elt Ideal)} {k : ℕ} (hk : k < 2176)
    (hc : V (Proc.devRef .tc main_v11_4) = fun _ => Scf.iv 0#32 1#32 k) (h : FwdIn D V) (I : FwdInv D V k) : FwdInv D (after body0 V) (k + 1) := by
  have er : ∀ (g : Fin 32) (p : Fin 64), _ = (((D.st g.val p.val (k + 1)).re : ℝ) : EReal) := fun g p => coe_re (D.a g p) (D.st g p k) (D.bu g p k)
  have ei : ∀ (g : Fin 32) (p : Fin 64), _ = (((D.st g.val p.val (k + 1)).im : ℝ) : EReal) := fun g p => coe_im (D.a g p) (D.st g p k) (D.bu g p k)
  refine ⟨fun g p => ?_, fun g p => ?_, fun t g p ht => ?_, fun t g p ht => ?_, fun t g p ht => ?_, fun t g p ht => ?_⟩
  · refine (fwd_re hk hc g p).trans ?_
    rw [h.ar, h.ai, h.xr, I.re, I.im]
    exact er g p
  · refine (fwd_im hk hc g p).trans ?_
    rw [h.ar, h.ai, h.xi, I.re, I.im]
    exact ei g p
  · refine (fwd_new_re hk hc t g p).trans ?_
    split
    · next e =>
      rw [h.ar, h.ai, h.xr, I.re, I.im, e]
      exact er g p
    · exact I.nr t g p (by omega)
  · refine (fwd_new_im hk hc t g p).trans ?_
    split
    · next e =>
      rw [h.ar, h.ai, h.xi, I.re, I.im, e]
      exact ei g p
    · exact I.ni t g p (by omega)
  · refine (fwd_old_re hk hc t g p).trans ?_
    split
    · next e => rw [I.re, e]
    · exact I.pr t g p (by omega)
  · refine (fwd_old_im hk hc t g p).trans ?_
    split
    · next e => rw [I.im, e]
    · exact I.pi t g p (by omega)

theorem dot_re (f : ℕ → ℂ) (u : ℕ → ℝ) : (∑ h ∈ Finset.range 16, f h * (u h : ℂ)).re = ∑ h ∈ Finset.range 16, (f h).re * u h := by
  rw [Complex.re_sum]
  exact Finset.sum_congr rfl fun h _ => by simp
theorem dot_im (f : ℕ → ℂ) (u : ℕ → ℝ) : (∑ h ∈ Finset.range 16, f h * (u h : ℂ)).im = ∑ h ∈ Finset.range 16, (f h).im * u h := by
  rw [Complex.im_sum]
  exact Finset.sum_congr rfl fun h _ => by simp

section Run

variable {m : (ℓ : Loc nD τ sig) → Buf (Elt Ideal) ℓ} {c : Dev nD} {D : Data} (G : Given D (Wst m c))
include G

theorem pre_xr (t : Fin 2176) (g : Fin 32) (p : Fin 64) : rd3 (Wpre m c (Proc.devRef .tc main_v11_0)) t g p = (((D.bu g.val p.val t.val).re : ℝ) : EReal) := by
  show (after preOps (Wst m c) (Proc.devRef .tc main_v11_0) (ix3 t g p) : EReal) = _
  after_reads_simp
  simp -implicitDefEqProofs only [StableHlo.TRef.toBuf, StableHlo.TRef.ofBuf, cast_cast, cast_eq, id_eq]
  clean_types
  pointwise
  refine Eq.trans (Finset.sum_congr rfl fun x _ => congrArg₂ (fun a b : EReal => a * b) (G.br g p x)
    ((G.u t ⟨1536 + (g.val * 16 + x.val), by omega⟩ (by show 1536 ≤ 1536 + (g.val * 16 + x.val); omega)).trans
      (congrArg₂ (fun a b => ((D.u t.val a b : ℝ) : EReal)) (show (1536 + (g.val * 16 + x.val) - 1536) / 16 = g.val by omega)
        (show (1536 + (g.val * 16 + x.val)) % 16 = x.val by omega)))) ?_
  refine (fin_dot 16 (fun h => (D.b g.val p.val h).re) (D.u t.val g.val)).trans ?_
  rw [← dot_re]
  rfl
theorem pre_xi (t : Fin 2176) (g : Fin 32) (p : Fin 64) : rd3 (Wpre m c (Proc.devRef .tc main_v11_1)) t g p = (((D.bu g.val p.val t.val).im : ℝ) : EReal) := by
  show (after preOps (Wst m c) (Proc.devRef .tc main_v11_1) (ix3 t g p) : EReal) = _
  after_reads_simp
  simp -implicitDefEqProofs only [StableHlo.TRef.toBuf, StableHlo.TRef.ofBuf, cast_cast, cast_eq, id_eq]
  clean_types
  pointwise
  refine Eq.trans (Finset.sum_congr rfl fun x _ => congrArg₂ (fun a b : EReal => a * b) (G.bi g p x)
    ((G.u t ⟨1536 + (g.val * 16 + x.val), by omega⟩ (by show 1536 ≤ 1536 + (g.val * 16 + x.val); omega)).trans
      (congrArg₂ (fun a b => ((D.u t.val a b : ℝ) : EReal)) (show (1536 + (g.val * 16 + x.val) - 1536) / 16 = g.val by omega)
        (show (1536 + (g.val * 16 + x.val)) % 16 = x.val by omega)))) ?_
  refine (fin_dot 16 (fun h => (D.b g.val p.val h).im) (D.u t.val g.val)).trans ?_
  rw [← dot_im]
  rfl
omit G in
theorem pre_zero_re (g : Fin 32) (p : Fin 64) : rd2 (Wpre m c (Proc.devRef .tc main_v11_5)) g p = 0 := by
  show (after preOps (Wst m c) (Proc.devRef .tc main_v11_5) (ix2 g p) : EReal) = _
  after_reads_simp
  simp only [id_eq]
  pointwise
omit G in
theorem pre_zero_im (g : Fin 32) (p : Fin 64) : rd2 (Wpre m c (Proc.devRef .tc main_v11_6)) g p = 0 := by
  show (after preOps (Wst m c) (Proc.devRef .tc main_v11_6) (ix2 g p) : EReal) = _
  after_reads_simp
  simp only [id_eq]
  pointwise
theorem pre_ar (g : Fin 32) (p : Fin 64) : rd2 (Wpre m c (Proc.devRef .tc main_v11_2)) g p = (((D.a g.val p.val).re : ℝ) : EReal) := by
  show (after preOps (Wst m c) (Proc.devRef .tc main_v11_2) (ix2 g p) : EReal) = _
  after_reads_simp
  exact G.ar g p
theorem pre_ai (g : Fin 32) (p : Fin 64) : rd2 (Wpre m c (Proc.devRef .tc main_v11_3)) g p = (((D.a g.val p.val).im : ℝ) : EReal) := by
  show (after preOps (Wst m c) (Proc.devRef .tc main_v11_3) (ix2 g p) : EReal) = _
  after_reads_simp
  exact G.ai g p

theorem fwd_in (k : ℕ) : FwdIn D (Wfwd m k c) where
  xr := by rw [fwd_keeps m c (by decide) (by decide) k]; exact pre_xr G
  xi := by rw [fwd_keeps m c (by decide) (by decide) k]; exact pre_xi G
  ar := by rw [fwd_keeps m c (by decide) (by decide) k]; exact pre_ar G
  ai := by rw [fwd_keeps m c (by decide) (by decide) k]; exact pre_ai G

omit G in
/-- The condition of the scan changes none of it. -/
theorem fwd_cond_in {V : Valuation τ sig (Elt Ideal)} (h : FwdIn D V) : FwdIn D (after cond0 V) where
  xr := by rw [cond0_keeps _ (by decide)]; exact h.xr
  xi := by rw [cond0_keeps _ (by decide)]; exact h.xi
  ar := by rw [cond0_keeps _ (by decide)]; exact h.ar
  ai := by rw [cond0_keeps _ (by decide)]; exact h.ai
omit G in
theorem fwd_cond {V : Valuation τ sig (Elt Ideal)} {k : ℕ} (h : FwdInv D V k) : FwdInv D (after cond0 V) k where
  re := by rw [cond0_keeps _ (by decide)]; exact h.re
  im := by rw [cond0_keeps _ (by decide)]; exact h.im
  nr := by rw [cond0_keeps _ (by decide)]; exact h.nr
  ni := by rw [cond0_keeps _ (by decide)]; exact h.ni
  pr := by rw [cond0_keeps _ (by decide)]; exact h.pr
  pi := by rw [cond0_keeps _ (by decide)]; exact h.pi

theorem fwd_inv : ∀ k ≤ 2176, FwdInv D (Wfwd m k c) k
  | 0, _ => ⟨fun g p => (pre_zero_re g p).trans rfl, fun g p => (pre_zero_im g p).trans rfl, fun t _ _ h => absurd h (Nat.not_lt_zero _),
      fun t _ _ h => absurd h (Nat.not_lt_zero _), fun t _ _ h => absurd h (Nat.not_lt_zero _), fun t _ _ h => absurd h (Nat.not_lt_zero _)⟩
  | k + 1, hk => by
    rw [Wfwd_succ]
    refine fwd_step (by omega) ?_ (fwd_cond_in (fwd_in G k)) (fwd_cond (fwd_inv k (by omega)))
    rw [cond0_keeps _ (by decide), ctr0 m c k]

/-- The saved states, and the arguments, at the end of the forward scan. -/
theorem mid0_inv : FwdInv D (Wmid0 m c) 2176 := fwd_cond (fwd_inv G 2176 le_rfl)
theorem mid0_given : Given D (Wmid0 m c) := by
  have e : ∀ {a : Ref sig .tc}, a ∉ preOps_W → a ∉ cond0_W → a ∉ body0_W → Wmid0 m c (Proc.devRef .tc a) = Wst m c (Proc.devRef .tc a) := fun h h' h'' => by
    rw [Wmid0, cond0_keeps _ h', fwd_keeps m c h' h'', Wpre, pre_keeps _ h]
  exact ⟨by rw [e (by decide) (by decide) (by decide)]; exact G.dy, by rw [e (by decide) (by decide) (by decide)]; exact G.u,
    by rw [e (by decide) (by decide) (by decide)]; exact G.ar, by rw [e (by decide) (by decide) (by decide)]; exact G.ai,
    by rw [e (by decide) (by decide) (by decide)]; exact G.br, by rw [e (by decide) (by decide) (by decide)]; exact G.bi,
    by rw [e (by decide) (by decide) (by decide)]; exact G.cr, by rw [e (by decide) (by decide) (by decide)]; exact G.ci,
    by rw [e (by decide) (by decide) (by decide)]; exact G.d⟩

end Run

end Cert.S5Ref

end
-- ==== Proof.RefRev.lean ====
/- What the reference's reverse scan leaves, and the reference's results. -/
module

public import proofs.«01_k».proof.Proof.RefFwd

@[expose] public section

set_option maxRecDepth 16384
noncomputable section

namespace Cert.S5Ref

open Cert.ReferenceIdeal Cert.ReferenceIdeal.Gen Cert.ReferenceIdeal.Run
open Idealize.ShloMosaic Idealize.ShloMosaic.TcCoe Idealize.ShloMosaic.StableHlo
open Cert.S5

open scoped ComplexConjugate

/-- What the reverse scan reads. -/
structure RevIn (D : Data) (V : Valuation τ sig (Elt Ideal)) : Prop where
  xr : ∀ (t : Fin 2176) (g : Fin 32) (p : Fin 64), rd3 (V (Proc.devRef .tc main_v46_0)) t g p = (((D.ds g.val p.val t.val).re : ℝ) : EReal)
  xi : ∀ (t : Fin 2176) (g : Fin 32) (p : Fin 64), rd3 (V (Proc.devRef .tc main_v46_1)) t g p = (((D.ds g.val p.val t.val).im : ℝ) : EReal)
  pr : ∀ (t : Fin 2176) (g : Fin 32) (p : Fin 64), rd3 (V (Proc.devRef .tc main_v46_2)) t g p = (((D.st g.val p.val t.val).re : ℝ) : EReal)
  pi : ∀ (t : Fin 2176) (g : Fin 32) (p : Fin 64), rd3 (V (Proc.devRef .tc main_v46_3)) t g p = (((D.st g.val p.val t.val).im : ℝ) : EReal)
  ar : ∀ (g : Fin 32) (p : Fin 64), rd2 (V (Proc.devRef .tc main_v46_4)) g p = (((D.a g.val p.val).re : ℝ) : EReal)
  ai : ∀ (g : Fin 32) (p : Fin 64), rd2 (V (Proc.devRef .tc main_v46_5)) g p = (((D.a g.val p.val).im : ℝ) : EReal)

/-- What the reverse scan has found after `k` trips. -/
structure RevInv (D : Data) (V : Valuation τ sig (Elt Ideal)) (k : ℕ) : Prop where
  re : ∀ (g : Fin 32) (p : Fin 64), rd2 (V (Proc.devRef .tc main_v46_9)) g p = (((conj (D.a g.val p.val) * D.gr g.val p.val k).re : ℝ) : EReal)
  im : ∀ (g : Fin 32) (p : Fin 64), rd2 (V (Proc.devRef .tc main_v46_10)) g p = (((conj (D.a g.val p.val) * D.gr g.val p.val k).im : ℝ) : EReal)
  dr : ∀ (g : Fin 32) (p : Fin 64), rd2 (V (Proc.devRef .tc main_v46_7)) g p = (((∑ j ∈ Finset.range k, D.gr g.val p.val (j + 1) * conj (D.st g.val p.val (2175 - j))).re : ℝ) : EReal)
  di : ∀ (g : Fin 32) (p : Fin 64), rd2 (V (Proc.devRef .tc main_v46_8)) g p = (((∑ j ∈ Finset.range k, D.gr g.val p.val (j + 1) * conj (D.st g.val p.val (2175 - j))).im : ℝ) : EReal)
  nr : ∀ (t : Fin 2176) (g : Fin 32) (p : Fin 64), 2176 - k ≤ t.val → rd3 (V (Proc.devRef .tc main_v46_11)) t g p = (((D.gr g.val p.val (2176 - t.val)).re : ℝ) : EReal)
  ni : ∀ (t : Fin 2176) (g : Fin 32) (p : Fin 64), 2176 - k ≤ t.val → rd3 (V (Proc.devRef .tc main_v46_12)) t g p = (((D.gr g.val p.val (2176 - t.val)).im : ℝ) : EReal)

theorem gr_succ (D : Data) (g p k : ℕ) : D.gr g p (k + 1) = conj (D.a g p) * D.gr g p k + D.ds g p (2175 - k) := rfl

theorem coe_add_re (x y : ℂ) : ((x.re : ℝ) : EReal) + ((y.re : ℝ) : EReal) = (((x + y).re : ℝ) : EReal) := by
  rw [← EReal.coe_add, Complex.add_re]
theorem coe_add_im (x y : ℂ) : ((x.im : ℝ) : EReal) + ((y.im : ℝ) : EReal) = (((x + y).im : ℝ) : EReal) := by
  rw [← EReal.coe_add, Complex.add_im]
theorem conj_mul_re (a z : ℂ) : ((a.im : ℝ) : EReal) * ((z.im : ℝ) : EReal) + ((a.re : ℝ) : EReal) * ((z.re : ℝ) : EReal) = (((conj a * z).re : ℝ) : EReal) := by
  rw [← EReal.coe_mul, ← EReal.coe_mul, ← EReal.coe_add, Complex.mul_re, Complex.conj_re, Complex.conj_im]
  congr 1
  ring
theorem conj_mul_im (a z : ℂ) : ((a.re : ℝ) : EReal) * ((z.im : ℝ) : EReal) + ((a.im : ℝ) : EReal) * (-((z.re : ℝ) : EReal)) = (((conj a * z).im : ℝ) : EReal) := by
  rw [← EReal.coe_neg, ← EReal.coe_mul, ← EReal.coe_mul, ← EReal.coe_add, Complex.mul_im, Complex.conj_re, Complex.conj_im]
  congr 1
  ring
theorem acc_re (s z p : ℂ) : ((s.re : ℝ) : EReal) + ((z.im : ℝ) : EReal) * ((p.im : ℝ) : EReal) + ((z.re : ℝ) : EReal) * ((p.re : ℝ) : EReal)
    = (((s + z * conj p).re : ℝ) : EReal) := by
  rw [← EReal.coe_mul, ← EReal.coe_mul, ← EReal.coe_add, ← EReal.coe_add, Complex.add_re, Complex.mul_re, Complex.conj_re, Complex.conj_im]
  congr 1
  ring
theorem acc_im (s z p : ℂ) : ((s.im : ℝ) : EReal) + ((z.im : ℝ) : EReal) * ((p.re : ℝ) : EReal) + (-((z.re : ℝ) : EReal)) * ((p.im : ℝ) : EReal)
    = (((s + z * conj p).im : ℝ) : EReal) := by
  rw [← EReal.coe_neg, ← EReal.coe_mul, ← EReal.coe_mul, ← EReal.coe_add, ← EReal.coe_add, Complex.add_im, Complex.mul_im, Complex.conj_re, Complex.conj_im]
  congr 1
  ring

theorem rev_step {D : Data} {V : Valuation τ sig (Elt Ideal)} {k : ℕ} (hk : k < 2176)
    (hc : V (Proc.devRef .tc main_v46_6) = fun _ => Scf.iv 0#32 1#32 k) (h : RevIn D V) (I : RevInv D V k) : RevInv D (after body1 V) (k + 1) := by
  have er : ∀ (g : Fin 32) (p : Fin 64), rd2 (V (Proc.devRef .tc main_v46_9)) g p + rd3 (V (Proc.devRef .tc main_v46_0)) ⟨2175 - k, by omega⟩ g p = (((D.gr g.val p.val (k + 1)).re : ℝ) : EReal) := fun g p => by
    rw [I.re, h.xr]
    exact coe_add_re _ _
  have ei : ∀ (g : Fin 32) (p : Fin 64), rd2 (V (Proc.devRef .tc main_v46_10)) g p + rd3 (V (Proc.devRef .tc main_v46_1)) ⟨2175 - k, by omega⟩ g p = (((D.gr g.val p.val (k + 1)).im : ℝ) : EReal) := fun g p => by
    rw [I.im, h.xi]
    exact coe_add_im _ _
  refine ⟨fun g p => ?_, fun g p => ?_, fun g p => ?_, fun g p => ?_, fun t g p ht => ?_, fun t g p ht => ?_⟩
  · refine (rev_re hk hc g p).trans ?_
    rw [er, ei, h.ar, h.ai]
    exact conj_mul_re _ _
  · refine (rev_im hk hc g p).trans ?_
    rw [er, ei, h.ar, h.ai]
    exact conj_mul_im _ _
  · refine (rev_da_re hk hc g p).trans ?_
    rw [er, ei, h.pr, h.pi, I.dr, Finset.sum_range_succ]
    exact acc_re _ _ _
  · refine (rev_da_im hk hc g p).trans ?_
    rw [er, ei, h.pr, h.pi, I.di, Finset.sum_range_succ]
    exact acc_im _ _ _
  · refine (rev_new_re hk hc t g p).trans ?_
    split
    · next e => rw [er, show 2176 - t.val = k + 1 by omega]
    · exact I.nr t g p (by omega)
  · refine (rev_new_im hk hc t g p).trans ?_
    split
    · next e => rw [ei, show 2176 - t.val = k + 1 by omega]
    · exact I.ni t g p (by omega)

theorem neg_dot (n : ℕ) (U W : ℕ → ℝ) : ∑ x : Fin n, -((U x.val : ℝ) : EReal) * ((W x.val : ℝ) : EReal)
    = ((-∑ x ∈ Finset.range n, U x * W x : ℝ) : EReal) := by
  rw [← Finset.sum_neg_distrib, ← coe_sum_fin]
  refine Finset.sum_congr rfl fun x _ => ?_
  rw [← EReal.coe_neg, ← EReal.coe_mul, neg_mul]

section Middle

variable {V : Valuation τ sig (Elt Ideal)} {D : Data} (G : Given D V) (I : FwdInv D V 2176)
  (hu : ∀ (t : Fin 2176) (g : Fin 32) (i : Fin 16), (V (Proc.devRef .tc main_v1) (ix3 t g i) : EReal) = ((D.u t.val g.val i.val : ℝ) : EReal))

include G in
theorem dy_at (t : Fin 2176) (g : Fin 32) (i : Fin 16) :
    (V (Proc.devRef .tc main_arg0) (ix2 t ⟨g.val * 16 + i.val, by omega⟩) : EReal) = ((D.dy t.val g.val i.val : ℝ) : EReal) :=
  (G.dy t _).trans (congrArg₂ (fun a b => ((D.dy t.val a b : ℝ) : EReal)) (show (g.val * 16 + i.val) / 16 = g.val by omega)
    (show (g.val * 16 + i.val) % 16 = i.val by omega))

include G I hu in
theorem mid_y (t : Fin 2176) (k : Fin 512) : (after midOps V (Proc.devRef .tc main_v21) (ix2 t k) : EReal) = D.y t.val (k.val / 16) (k.val % 16) := by
  after_reads_simp
  try simp -implicitDefEqProofs only [StableHlo.TRef.toBuf, StableHlo.TRef.ofBuf, cast_cast, cast_eq, id_eq]
  clean_types
  pointwise
  have e1 := (Finset.sum_congr rfl fun (x : Fin 64) _ => congrArg₂ (fun a b : EReal => a * b) (G.cr ⟨k.val / 16, by omega⟩ ⟨k.val % 16, by omega⟩ x)
    (I.nr t ⟨k.val / 16, by omega⟩ x t.isLt)).trans
    (fin_dot 64 (fun p => (D.c (k.val / 16) (k.val % 16) p).re) fun p => (D.st (k.val / 16) p (t.val + 1)).re)
  have e2 := (Finset.sum_congr rfl fun (x : Fin 64) _ => congrArg₂ (fun a b : EReal => a * b) (G.ci ⟨k.val / 16, by omega⟩ ⟨k.val % 16, by omega⟩ x)
    (I.ni t ⟨k.val / 16, by omega⟩ x t.isLt)).trans
    (fin_dot 64 (fun p => (D.c (k.val / 16) (k.val % 16) p).im) fun p => (D.st (k.val / 16) p (t.val + 1)).im)
  refine (congrArg₂ (fun a b : EReal => a + b) (congrArg₂ (fun a b : EReal => a - b) e1 e2)
    (congrArg₂ (fun a b : EReal => a * b) (G.d ⟨k.val / 16, by omega⟩ ⟨k.val % 16, by omega⟩) (hu t ⟨k.val / 16, by omega⟩ ⟨k.val % 16, by omega⟩))).trans ?_
  unfold Data.y
  simp only [mul_comm (Complex.re (D.c _ _ _)), mul_comm (Complex.im (D.c _ _ _))]
include G hu in
theorem mid_dd (g : Fin 32) (i : Fin 16) : (after midOps V (Proc.devRef .tc main_v30) (ix2 g i) : EReal) = ((D.dd g.val i.val : ℝ) : EReal) := by
  after_reads_simp
  try simp -implicitDefEqProofs only [StableHlo.TRef.toBuf, StableHlo.TRef.ofBuf, cast_cast, cast_eq, id_eq]
  clean_types
  pointwise
  refine (Fintype.sum_unique _).trans ?_
  exact (Finset.sum_congr rfl fun (x : Fin 2176) _ => congrArg₂ (fun a b : EReal => a * b) (dy_at G x g i) (hu x g i)).trans
    (fin_dot 2176 (fun t => D.dy t g.val i.val) fun t => D.u t g.val i.val)
include G I in
theorem mid_dcr (g : Fin 32) (i : Fin 16) (p : Fin 64) : (after midOps V (Proc.devRef .tc main_v39) (ix3 g i p) : EReal) = ((D.dcr g.val i.val p.val : ℝ) : EReal) := by
  after_reads_simp
  try simp -implicitDefEqProofs only [StableHlo.TRef.toBuf, StableHlo.TRef.ofBuf, cast_cast, cast_eq, id_eq]
  clean_types
  pointwise
  exact (Finset.sum_congr rfl fun (x : Fin 2176) _ => congrArg₂ (fun a b : EReal => a * b) (dy_at G x g i) (I.nr x g p x.isLt)).trans
    (fin_dot 2176 (fun t => D.dy t g.val i.val) fun t => (D.st g.val p.val (t + 1)).re)
include G I in
theorem mid_dci (g : Fin 32) (i : Fin 16) (p : Fin 64) : (after midOps V (Proc.devRef .tc main_v35) (ix3 g i p) : EReal) = ((D.dci g.val i.val p.val : ℝ) : EReal) := by
  after_reads_simp
  try simp -implicitDefEqProofs only [StableHlo.TRef.toBuf, StableHlo.TRef.ofBuf, cast_cast, cast_eq, id_eq]
  clean_types
  pointwise
  exact (Finset.sum_congr rfl fun (x : Fin 2176) _ => congrArg₂ (fun a b : EReal => -a * b) (dy_at G x g i) (I.ni x g p x.isLt)).trans
    (neg_dot 2176 (fun t => D.dy t g.val i.val) fun t => (D.st g.val p.val (t + 1)).im)
include G in
theorem mid_xr (t : Fin 2176) (g : Fin 32) (p : Fin 64) : (after midOps V (Proc.devRef .tc main_v46_0) (ix3 t g p) : EReal) = (((D.ds g.val p.val t.val).re : ℝ) : EReal) := by
  after_reads_simp
  try simp -implicitDefEqProofs only [StableHlo.TRef.toBuf, StableHlo.TRef.ofBuf, cast_cast, cast_eq, id_eq]
  clean_types
  pointwise
  refine (Finset.sum_congr rfl fun (x : Fin 16) _ => congrArg₂ (fun a b : EReal => a * b) (dy_at G t g x) (G.cr g x p)).trans
    ((fin_dot 16 (fun i => D.dy t.val g.val i) fun i => (D.c g.val i p.val).re).trans ?_)
  unfold Data.ds
  rw [Complex.re_sum]
  exact congrArg _ (Finset.sum_congr rfl fun x _ => by simp)
include G in
theorem mid_xi (t : Fin 2176) (g : Fin 32) (p : Fin 64) : (after midOps V (Proc.devRef .tc main_v46_1) (ix3 t g p) : EReal) = (((D.ds g.val p.val t.val).im : ℝ) : EReal) := by
  after_reads_simp
  try simp -implicitDefEqProofs only [StableHlo.TRef.toBuf, StableHlo.TRef.ofBuf, cast_cast, cast_eq, id_eq]
  clean_types
  pointwise
  refine (Finset.sum_congr rfl fun (x : Fin 16) _ => congrArg₂ (fun a b : EReal => -a * b) (dy_at G t g x) (G.ci g x p)).trans
    ((neg_dot 16 (fun i => D.dy t.val g.val i) fun i => (D.c g.val i p.val).im).trans ?_)
  unfold Data.ds
  rw [Complex.im_sum, ← Finset.sum_neg_distrib]
  exact congrArg _ (Finset.sum_congr rfl fun x _ => by simp)
include G in
theorem mid_dy (t : Fin 2176) (g : Fin 32) (i : Fin 16) : (after midOps V (Proc.devRef .tc main_v26) (ix3 t g i) : EReal) = D.d g.val i.val * ((D.dy t.val g.val i.val : ℝ) : EReal) := by
  after_reads_simp
  try simp -implicitDefEqProofs only [StableHlo.TRef.toBuf, StableHlo.TRef.ofBuf, cast_cast, cast_eq, id_eq]
  clean_types
  pointwise
  exact congrArg₂ (fun a b : EReal => a * b) (G.d g i) (dy_at G t g i)
include I in
theorem mid_pr (t : Fin 2176) (g : Fin 32) (p : Fin 64) : (after midOps V (Proc.devRef .tc main_v46_2) (ix3 t g p) : EReal) = (((D.st g.val p.val t.val).re : ℝ) : EReal) := by
  after_reads_simp
  exact I.pr t g p t.isLt
include I in
theorem mid_pi (t : Fin 2176) (g : Fin 32) (p : Fin 64) : (after midOps V (Proc.devRef .tc main_v46_3) (ix3 t g p) : EReal) = (((D.st g.val p.val t.val).im : ℝ) : EReal) := by
  after_reads_simp
  exact I.pi t g p t.isLt
include G in
theorem mid_ar (g : Fin 32) (p : Fin 64) : (after midOps V (Proc.devRef .tc main_v46_4) (ix2 g p) : EReal) = (((D.a g.val p.val).re : ℝ) : EReal) := by
  after_reads_simp
  try simp -implicitDefEqProofs only [StableHlo.TRef.toBuf, StableHlo.TRef.ofBuf, cast_cast, cast_eq, id_eq]
  clean_types
  try pointwise
  exact G.ar g p
include G in
theorem mid_ai (g : Fin 32) (p : Fin 64) : (after midOps V (Proc.devRef .tc main_v46_5) (ix2 g p) : EReal) = (((D.a g.val p.val).im : ℝ) : EReal) := by
  after_reads_simp
  try simp -implicitDefEqProofs only [StableHlo.TRef.toBuf, StableHlo.TRef.ofBuf, cast_cast, cast_eq, id_eq]
  clean_types
  try pointwise
  exact G.ai g p
theorem mid_v46_7 (g : Fin 32) (p : Fin 64) : rd2 (after midOps V (Proc.devRef .tc main_v46_7)) g p = 0 := by
  unfold rd2
  after_reads_simp
  try simp -implicitDefEqProofs only [StableHlo.TRef.toBuf, StableHlo.TRef.ofBuf, cast_cast, cast_eq, id_eq]
  clean_types
  pointwise
theorem mid_v46_8 (g : Fin 32) (p : Fin 64) : rd2 (after midOps V (Proc.devRef .tc main_v46_8)) g p = 0 := by
  unfold rd2
  after_reads_simp
  try simp -implicitDefEqProofs only [StableHlo.TRef.toBuf, StableHlo.TRef.ofBuf, cast_cast, cast_eq, id_eq]
  clean_types
  pointwise
theorem mid_v46_9 (g : Fin 32) (p : Fin 64) : rd2 (after midOps V (Proc.devRef .tc main_v46_9)) g p = 0 := by
  unfold rd2
  after_reads_simp
  try simp -implicitDefEqProofs only [StableHlo.TRef.toBuf, StableHlo.TRef.ofBuf, cast_cast, cast_eq, id_eq]
  clean_types
  pointwise
theorem mid_v46_10 (g : Fin 32) (p : Fin 64) : rd2 (after midOps V (Proc.devRef .tc main_v46_10)) g p = 0 := by
  unfold rd2
  after_reads_simp
  try simp -implicitDefEqProofs only [StableHlo.TRef.toBuf, StableHlo.TRef.ofBuf, cast_cast, cast_eq, id_eq]
  clean_types
  pointwise

end Middle

section Last

variable {V : Valuation τ sig (Elt Ideal)} {D : Data} (G : Given D V) (I : RevInv D V 2176)
  (hu : ∀ (t : Fin 2176) (g : Fin 32) (i : Fin 16), (V (Proc.devRef .tc main_v1) (ix3 t g i) : EReal) = ((D.u t.val g.val i.val : ℝ) : EReal))
  (hy : ∀ (t : Fin 2176) (g : Fin 32) (i : Fin 16), (V (Proc.devRef .tc main_v26) (ix3 t g i) : EReal) = D.d g.val i.val * ((D.dy t.val g.val i.val : ℝ) : EReal))

include G I hy in
theorem post_du (t : Fin 2176) (k : Fin 512) : (after postOps V (Proc.devRef .tc main_v57) (ix2 t k) : EReal) = D.du t.val (k.val / 16) (k.val % 16) := by
  after_reads_simp
  try simp -implicitDefEqProofs only [StableHlo.TRef.toBuf, StableHlo.TRef.ofBuf, cast_cast, cast_eq, id_eq]
  clean_types
  pointwise
  have e1 := (Finset.sum_congr rfl fun (x : Fin 64) _ => congrArg₂ (fun a b : EReal => a * b) (I.nr t ⟨k.val / 16, by omega⟩ x (by omega))
    (G.br ⟨k.val / 16, by omega⟩ x ⟨k.val % 16, by omega⟩)).trans
    (fin_dot 64 (fun p => (D.gr (k.val / 16) p (2176 - t.val)).re) fun p => (D.b (k.val / 16) p (k.val % 16)).re)
  have e2 := (Finset.sum_congr rfl fun (x : Fin 64) _ => congrArg₂ (fun a b : EReal => a * b) (I.ni t ⟨k.val / 16, by omega⟩ x (by omega))
    (G.bi ⟨k.val / 16, by omega⟩ x ⟨k.val % 16, by omega⟩)).trans
    (fin_dot 64 (fun p => (D.gr (k.val / 16) p (2176 - t.val)).im) fun p => (D.b (k.val / 16) p (k.val % 16)).im)
  refine (congrArg₂ (fun a b : EReal => a + b) (congrArg₂ (fun a b : EReal => a + b) (hy t ⟨k.val / 16, by omega⟩ ⟨k.val % 16, by omega⟩) e2) e1).trans ?_
  unfold Data.du
  exact add_right_comm _ _ _
include I hu in
theorem post_dbr (g : Fin 32) (p : Fin 64) (i : Fin 16) : (after postOps V (Proc.devRef .tc main_v56) (ix3 g p i) : EReal) = ((D.dbr g.val p.val i.val : ℝ) : EReal) := by
  after_reads_simp
  try simp -implicitDefEqProofs only [StableHlo.TRef.toBuf, StableHlo.TRef.ofBuf, cast_cast, cast_eq, id_eq]
  clean_types
  pointwise
  refine (Finset.sum_congr rfl fun (x : Fin 2176) _ => congrArg₂ (fun a b : EReal => a * b) (I.nr x g p (by omega)) (hu x g i)).trans
    ((fin_dot 2176 (fun t => (D.gr g.val p.val (2176 - t)).re) fun t => D.u t g.val i.val).trans ?_)
  unfold Data.dbr
  exact congrArg _ (Finset.sum_congr rfl fun x _ => mul_comm _ _)
include I hu in
theorem post_dbi (g : Fin 32) (p : Fin 64) (i : Fin 16) : (after postOps V (Proc.devRef .tc main_v51) (ix3 g p i) : EReal) = ((D.dbi g.val p.val i.val : ℝ) : EReal) := by
  after_reads_simp
  try simp -implicitDefEqProofs only [StableHlo.TRef.toBuf, StableHlo.TRef.ofBuf, cast_cast, cast_eq, id_eq]
  clean_types
  pointwise
  refine (Finset.sum_congr rfl fun (x : Fin 2176) _ => congrArg₂ (fun a b : EReal => a * b) (I.ni x g p (by omega)) (hu x g i)).trans
    ((fin_dot 2176 (fun t => (D.gr g.val p.val (2176 - t)).im) fun t => D.u t g.val i.val).trans ?_)
  unfold Data.dbi
  exact congrArg _ (Finset.sum_congr rfl fun x _ => mul_comm _ _)

end Last

section Run

variable {D : Data} {m : (ℓ : Loc nD τ sig) → Buf (Elt Ideal) ℓ} {c : Dev nD} (G : Given D (Wst m c))

include G in
/-- The tokens by group and channel, as the reference first reads them, stay. -/
theorem pre_tok (t : Fin 2176) (g : Fin 32) (i : Fin 16) : (Wpre m c (Proc.devRef .tc main_v1) (ix3 t g i) : EReal) = ((D.u t.val g.val i.val : ℝ) : EReal) := by
  rw [Wpre]
  after_reads_simp
  try simp -implicitDefEqProofs only [StableHlo.TRef.toBuf, StableHlo.TRef.ofBuf, cast_cast, cast_eq, id_eq]
  clean_types
  pointwise
  exact (G.u t _ (by show 1536 ≤ 1536 + (g.val * 16 + i.val); omega)).trans (congrArg₂ (fun a b => ((D.u t.val a b : ℝ) : EReal))
    (show (1536 + (g.val * 16 + i.val) - 1536) / 16 = g.val by omega) (show (1536 + (g.val * 16 + i.val)) % 16 = i.val by omega))
include G in
theorem mid0_tok (t : Fin 2176) (g : Fin 32) (i : Fin 16) : (Wmid0 m c (Proc.devRef .tc main_v1) (ix3 t g i) : EReal) = ((D.u t.val g.val i.val : ℝ) : EReal) := by
  rw [Wmid0, cond0_keeps _ (by decide), fwd_keeps m c (by decide) (by decide)]
  exact pre_tok G t g i

theorem late_keeps {a : Ref sig .tc} (h : a ∉ cond1_W) (h' : a ∉ body1_W) : Wpost m c (Proc.devRef .tc a) = Wmid m c (Proc.devRef .tc a) := by
  rw [Wpost, cond1_keeps _ h, rev_keeps m c h h']

include G in
theorem rev_in (k : ℕ) : RevIn D (Wrev m k c) where
  xr := by rw [rev_keeps m c (by decide) (by decide) k]; exact mid_xr (mid0_given G)
  xi := by rw [rev_keeps m c (by decide) (by decide) k]; exact mid_xi (mid0_given G)
  pr := by rw [rev_keeps m c (by decide) (by decide) k]; exact mid_pr (mid0_inv G)
  pi := by rw [rev_keeps m c (by decide) (by decide) k]; exact mid_pi (mid0_inv G)
  ar := by
    rw [rev_keeps m c (by decide) (by decide) k]
    exact mid_ar (mid0_given G)
  ai := by
    rw [rev_keeps m c (by decide) (by decide) k]
    exact mid_ai (mid0_given G)

/-- The condition of the scan changes none of it. -/
theorem rev_cond_in {V : Valuation τ sig (Elt Ideal)} (h : RevIn D V) : RevIn D (after cond1 V) where
  xr := by rw [cond1_keeps _ (by decide)]; exact h.xr
  xi := by rw [cond1_keeps _ (by decide)]; exact h.xi
  pr := by rw [cond1_keeps _ (by decide)]; exact h.pr
  pi := by rw [cond1_keeps _ (by decide)]; exact h.pi
  ar := by rw [cond1_keeps _ (by decide)]; exact h.ar
  ai := by rw [cond1_keeps _ (by decide)]; exact h.ai
theorem rev_cond {V : Valuation τ sig (Elt Ideal)} {k : ℕ} (h : RevInv D V k) : RevInv D (after cond1 V) k where
  re := by rw [cond1_keeps _ (by decide)]; exact h.re
  im := by rw [cond1_keeps _ (by decide)]; exact h.im
  dr := by rw [cond1_keeps _ (by decide)]; exact h.dr
  di := by rw [cond1_keeps _ (by decide)]; exact h.di
  nr := by rw [cond1_keeps _ (by decide)]; exact h.nr
  ni := by rw [cond1_keeps _ (by decide)]; exact h.ni

theorem zero_re (z : ℂ) : (0 : EReal) = (((conj z * 0).re : ℝ) : EReal) := by simp
theorem zero_im (z : ℂ) : (0 : EReal) = (((conj z * 0).im : ℝ) : EReal) := by simp

include G in
theorem rev_inv : ∀ k ≤ 2176, RevInv D (Wrev m k c) k
  | 0, _ => ⟨fun g p => (mid_v46_9 g p).trans (zero_re _), fun g p => (mid_v46_10 g p).trans (zero_im _), fun g p => (mid_v46_7 g p).trans rfl,
      fun g p => (mid_v46_8 g p).trans rfl, fun t _ _ h => absurd h (by omega), fun t _ _ h => absurd h (by omega)⟩
  | k + 1, hk => by
    rw [Wrev_succ]
    refine rev_step (by omega) ?_ (rev_cond_in (rev_in G k)) (rev_cond (rev_inv k (by omega)))
    rw [cond1_keeps _ (by decide), ctr1 m c k]

include G in
theorem post_inv : RevInv D (Wpost m c) 2176 := rev_cond (rev_inv G 2176 le_rfl)
include G in
theorem post_given : Given D (Wpost m c) := by
  have e : ∀ {a : Ref sig .tc}, a ∉ midOps_W → a ∉ cond1_W → a ∉ body1_W → Wpost m c (Proc.devRef .tc a) = Wmid0 m c (Proc.devRef .tc a) := fun h h' h'' => by
    rw [late_keeps h' h'', Wmid, mid_keeps _ h]
  have H := mid0_given G
  exact ⟨by rw [e (by decide) (by decide) (by decide)]; exact H.dy, by rw [e (by decide) (by decide) (by decide)]; exact H.u, by rw [e (by decide) (by decide) (by decide)]; exact H.ar, by rw [e (by decide) (by decide) (by decide)]; exact H.ai, by rw [e (by decide) (by decide) (by decide)]; exact H.br, by rw [e (by decide) (by decide) (by decide)]; exact H.bi, by rw [e (by decide) (by decide) (by decide)]; exact H.cr, by rw [e (by decide) (by decide) (by decide)]; exact H.ci, by rw [e (by decide) (by decide) (by decide)]; exact H.d⟩
include G in
theorem post_tok (t : Fin 2176) (g : Fin 32) (i : Fin 16) : (Wpost m c (Proc.devRef .tc main_v1) (ix3 t g i) : EReal) = ((D.u t.val g.val i.val : ℝ) : EReal) := by
  rw [late_keeps (by decide) (by decide), Wmid, mid_keeps _ (by decide)]
  exact mid0_tok G t g i

/-! ## The results of the reference -/

theorem end_mid {a : Ref sig .tc} (h0 : a ∉ postOps_W) (h : a ∉ cond1_W) (h' : a ∉ body1_W) :
    Wend m c (Proc.devRef .tc a) = after midOps (Wmid0 m c) (Proc.devRef .tc a) := by
  rw [Wend, post_keeps _ h0, late_keeps h h', Wmid]

include G
theorem res_y (t : Fin 2176) (k : Fin 512) : (Wend m c (Proc.devRef .tc main_v21) (ix2 t k) : EReal) = D.y t.val (k.val / 16) (k.val % 16) := by
  rw [end_mid (by decide) (by decide) (by decide)]
  exact mid_y (mid0_given G) (mid0_inv G) (mid0_tok G) t k
theorem res_dd (g : Fin 32) (i : Fin 16) : (Wend m c (Proc.devRef .tc main_v30) (ix2 g i) : EReal) = ((D.dd g.val i.val : ℝ) : EReal) := by
  rw [end_mid (by decide) (by decide) (by decide)]
  exact mid_dd (mid0_given G) (mid0_tok G) g i
theorem res_dcr (g : Fin 32) (i : Fin 16) (p : Fin 64) : (Wend m c (Proc.devRef .tc main_v39) (ix3 g i p) : EReal) = ((D.dcr g.val i.val p.val : ℝ) : EReal) := by
  rw [end_mid (by decide) (by decide) (by decide)]
  exact mid_dcr (mid0_given G) (mid0_inv G) g i p
theorem res_dci (g : Fin 32) (i : Fin 16) (p : Fin 64) : (Wend m c (Proc.devRef .tc main_v35) (ix3 g i p) : EReal) = ((D.dci g.val i.val p.val : ℝ) : EReal) := by
  rw [end_mid (by decide) (by decide) (by decide)]
  exact mid_dci (mid0_given G) (mid0_inv G) g i p
theorem res_dar (g : Fin 32) (p : Fin 64) : (Wend m c (Proc.devRef .tc main_v46_7) (ix2 g p) : EReal) = (((D.da g.val p.val).re : ℝ) : EReal) := by
  rw [Wend, post_keeps _ (by decide)]
  exact (post_inv G).dr g p
theorem res_dai (g : Fin 32) (p : Fin 64) : (Wend m c (Proc.devRef .tc main_v46_8) (ix2 g p) : EReal) = (((D.da g.val p.val).im : ℝ) : EReal) := by
  rw [Wend, post_keeps _ (by decide)]
  exact (post_inv G).di g p
theorem res_dbr (g : Fin 32) (p : Fin 64) (i : Fin 16) : (Wend m c (Proc.devRef .tc main_v56) (ix3 g p i) : EReal) = ((D.dbr g.val p.val i.val : ℝ) : EReal) := by
  rw [Wend]
  exact post_dbr (post_inv G) (post_tok G) g p i
theorem res_dbi (g : Fin 32) (p : Fin 64) (i : Fin 16) : (Wend m c (Proc.devRef .tc main_v51) (ix3 g p i) : EReal) = ((D.dbi g.val p.val i.val : ℝ) : EReal) := by
  rw [Wend]
  exact post_dbi (post_inv G) (post_tok G) g p i
theorem res_du (t : Fin 2176) (k : Fin 512) : (Wend m c (Proc.devRef .tc main_v57) (ix2 t k) : EReal) = D.du t.val (k.val / 16) (k.val % 16) := by
  rw [Wend]
  refine post_du (post_given G) (post_inv G) (fun t g i => ?_) t k
  rw [late_keeps (by decide) (by decide), Wmid]
  exact mid_dy (mid0_given G) t g i

end Run

end Cert.S5Ref

end
-- ==== Proof.Equal.lean ====
/- The two programs hold the same numbers: the data of finite arguments, and the results of both in terms of it. -/
module

public import proofs.«01_k».proof.Defs
public import proofs.«01_k».proof.Proof.HostVal
public import proofs.«01_k».proof.Proof.RefRev

@[expose] public section

set_option maxRecDepth 16384
noncomputable section

namespace Cert.S5

open Cert.KernelIdeal Idealize.ShloMosaic Idealize.ShloMosaic.TcCoe

/-- The precondition's shape relations. -/
theorem pre_facts : Cert.Pre_inputs_finite.Facts where
  slices_S2176x2048_S2176x512_0_1536 := by decide
  bcast_S_S2176x512 := by decide
  bcast_S_S32x64 := by decide
  bcast_S_S32x64x16 := by decide
  bcast_S_S32x16x64 := by decide

/-- A value whose magnitude compares below infinity is a real number. -/
theorem real_of_lt {x : EReal} (h : FloatOps.cmpf (F := Ideal) (φ := .f32) .olt (FloatOps.hostAbsf x) (FloatOps.ofBits .f32 0x7F800000#32) = 1#1) :
    x = ((x.toReal : ℝ) : EReal) := by
  have e : (FloatOps.ofBits (F := Ideal) .f32 0x7F800000#32 : EReal) = ⊤ := by simp [Ideal.ofBits, Ideal.ieee]
  rw [e] at h
  have h' : max x (-x) < (⊤ : EReal) := by
    by_contra hn
    refine absurd h ?_
    show ¬ (Ideal.cmp .olt (max x (-x)) ⊤ = 1#1)
    simp [Ideal.cmp, hn]
  rw [max_lt_iff] at h'
  refine (EReal.coe_toReal h'.1.ne fun hb => ?_).symm
  rw [hb, EReal.neg_bot] at h'
  exact lt_irrefl _ h'.2

variable (m : (ℓ : Loc nD τ sig) → Buf (Elt Ideal) ℓ) (c : Dev nD)

/-- The numbers the arguments hold on one device. -/
def dataOf : Data where
  dy t g h := EReal.toReal (m ((c : Thread nD τ).loc main_arg0) (ix2 ⟨t % 2176, by omega⟩ ⟨(g * 16 + h) % 512, by omega⟩))
  u t g h := EReal.toReal (m ((c : Thread nD τ).loc main_arg1) (ix2 ⟨t % 2176, by omega⟩ ⟨(1536 + (g * 16 + h)) % 2048, by omega⟩))
  a g p := ⟨EReal.toReal (m ((c : Thread nD τ).loc main_arg2) (ix2 ⟨g % 32, by omega⟩ ⟨p % 64, by omega⟩)), EReal.toReal (m ((c : Thread nD τ).loc main_arg3) (ix2 ⟨g % 32, by omega⟩ ⟨p % 64, by omega⟩))⟩
  b g p h := ⟨EReal.toReal (m ((c : Thread nD τ).loc main_arg4) (ix3 ⟨g % 32, by omega⟩ ⟨p % 64, by omega⟩ ⟨h % 16, by omega⟩)),
    EReal.toReal (m ((c : Thread nD τ).loc main_arg5) (ix3 ⟨g % 32, by omega⟩ ⟨p % 64, by omega⟩ ⟨h % 16, by omega⟩))⟩
  c g h p := ⟨EReal.toReal (m ((c : Thread nD τ).loc main_arg6) (ix3 ⟨g % 32, by omega⟩ ⟨h % 16, by omega⟩ ⟨p % 64, by omega⟩)),
    EReal.toReal (m ((c : Thread nD τ).loc main_arg7) (ix3 ⟨g % 32, by omega⟩ ⟨h % 16, by omega⟩ ⟨p % 64, by omega⟩))⟩
  d g h := m ((c : Thread nD τ).loc main_arg8) (ix2 ⟨g % 32, by omega⟩ ⟨h % 16, by omega⟩)

theorem fin_mod {n : ℕ} (a : Fin n) (h : a.val % n < n) : (⟨a.val % n, h⟩ : Fin n) = a := Fin.ext (Nat.mod_eq_of_lt a.isLt)

variable {m c}
/-- Finite arguments hold that data. -/
theorem given_of_pre (h : Cert.Pre_KernelIdeal_inputs_finite (hPre_inputs_finite := pre_facts) m) : Given (dataOf m c) m c := by
  obtain ⟨h0, h1, h2, h3, h4, h5, h6, h7⟩ := h c
  refine ⟨fun t k => (real_of_lt (congrFun h0 (ix2 t k))).trans ?_, fun t k hk => ?_,
    fun g p => (real_of_lt (congrFun h2 (ix2 g p))).trans ?_, fun g p => (real_of_lt (congrFun h3 (ix2 g p))).trans ?_,
    fun g p i => (real_of_lt (congrFun h4 (ix3 g p i))).trans ?_, fun g p i => (real_of_lt (congrFun h5 (ix3 g p i))).trans ?_,
    fun g i p => (real_of_lt (congrFun h6 (ix3 g i p))).trans ?_, fun g i p => (real_of_lt (congrFun h7 (ix3 g i p))).trans ?_, fun g i => ?_⟩
  · have e : (⟨(k.val / 16 * 16 + k.val % 16) % 512, Nat.mod_lt _ (by decide)⟩ : Fin 512) = k := Fin.ext (by show _ % 512 = k.val; omega)
    dsimp only [dataOf]
    rw [fin_mod t, e]
  · have e : (⟨(1536 + ((k.val - 1536) / 16 * 16 + k.val % 16)) % 2048, Nat.mod_lt _ (by decide)⟩ : Fin 2048) = k :=
      Fin.ext (by show _ % 2048 = k.val; omega)
    dsimp only [dataOf]
    rw [fin_mod t, e]
    have e' := real_of_lt (congrFun h1 (ix2 t (⟨k.val - 1536, by omega⟩ : Fin 512)))
    have e'' : (extractStridedSlice Cert.Pre_inputs_finite.S2176x512 ![0, 1536] (m ((c : Thread nD τ).loc main_arg1)) pre_facts.slices_S2176x2048_S2176x512_0_1536
        (ix2 t (⟨k.val - 1536, by omega⟩ : Fin 512)) : EReal) = m ((c : Thread nD τ).loc main_arg1) (ix2 t k) := by
      pointwise
      refine congrArg (fun j : Fin 2048 => (m ((c : Thread nD τ).loc main_arg1) (ix2 t j) : EReal)) (Fin.ext ?_)
      show 1536 + (k.val - 1536) = k.val
      omega
    rw [← e'']
    exact e'
  · dsimp only [dataOf]
    simp only [fin_mod]
  · dsimp only [dataOf]
    simp only [fin_mod]
  · dsimp only [dataOf]
    simp only [fin_mod]
  · dsimp only [dataOf]
    simp only [fin_mod]
  · dsimp only [dataOf]
    simp only [fin_mod]
  · dsimp only [dataOf]
    simp only [fin_mod]
  · dsimp only [dataOf]
    simp only [fin_mod]

section Ref

variable {m' : (ℓ : Loc Cert.ReferenceIdeal.nD Cert.ReferenceIdeal.τ Cert.ReferenceIdeal.sig) → Buf (Elt Ideal) ℓ} {D : Data}

/-- The reference's arguments hold the data its equals hold. -/
theorem given_ref (G : Given D m c)
    (h0 : m' ((c.tc : Thread Cert.ReferenceIdeal.nD Cert.ReferenceIdeal.τ).loc Cert.ReferenceIdeal.main_arg0) = m ((c : Thread nD τ).loc main_arg0))
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (h3 : m' ((c.tc : Thread Cert.ReferenceIdeal.nD Cert.ReferenceIdeal.τ).loc Cert.ReferenceIdeal.main_arg3) = m ((c : Thread nD τ).loc main_arg3))
    (h4 : m' ((c.tc : Thread Cert.ReferenceIdeal.nD Cert.ReferenceIdeal.τ).loc Cert.ReferenceIdeal.main_arg4) = m ((c : Thread nD τ).loc main_arg4))
    (h5 : m' ((c.tc : Thread Cert.ReferenceIdeal.nD Cert.ReferenceIdeal.τ).loc Cert.ReferenceIdeal.main_arg5) = m ((c : Thread nD τ).loc main_arg5))
    (h6 : m' ((c.tc : Thread Cert.ReferenceIdeal.nD Cert.ReferenceIdeal.τ).loc Cert.ReferenceIdeal.main_arg6) = m ((c : Thread nD τ).loc main_arg6))
    (h7 : m' ((c.tc : Thread Cert.ReferenceIdeal.nD Cert.ReferenceIdeal.τ).loc Cert.ReferenceIdeal.main_arg7) = m ((c : Thread nD τ).loc main_arg7))
    (h8 : m' ((c.tc : Thread Cert.ReferenceIdeal.nD Cert.ReferenceIdeal.τ).loc Cert.ReferenceIdeal.main_arg8) = m ((c : Thread nD τ).loc main_arg8)) :
    Cert.S5Ref.Given D (Cert.ReferenceIdeal.Run.Wst m' c) :=
  ⟨fun t k => (congrFun h0 (ix2 t k)).trans (G.dy t k),
   fun t k hk => (congrFun h1 (ix2 t k)).trans (G.u t k hk),
   fun g p => (congrFun h2 (ix2 g p)).trans (G.ar g p),
   fun g p => (congrFun h3 (ix2 g p)).trans (G.ai g p),
   fun g p i => (congrFun h4 (ix3 g p i)).trans (G.br g p i),
   fun g p i => (congrFun h5 (ix3 g p i)).trans (G.bi g p i),
   fun g i p => (congrFun h6 (ix3 g i p)).trans (G.cr g i p),
   fun g i p => (congrFun h7 (ix3 g i p)).trans (G.ci g i p),
   fun g i => (congrFun h8 (ix2 g i)).trans (G.d g i)⟩

variable (ρ : Dev nD → PrngReg) (G : Given D m c) (G' : Cert.S5Ref.Given D (Cert.ReferenceIdeal.Run.Wst m' c))
include G G'

/-! ## The results, pairwise equal -/

theorem same_y : (Cert.ReferenceIdeal.Run.Wend m' c (Proc.devRef .tc Cert.ReferenceIdeal.main_v21) : FVec Ideal S2176x512 .f32)
    = Cert.KernelIdeal.Run.W4 m ρ c (Proc.devRef .tc main_v71) := funext fun j => by
  rw [eq_ix2 j]
  exact (Cert.S5Ref.res_y G' (j 0) (j 1)).trans (res_y ρ G (j 0) (j 1)).symm
theorem same_du : (Cert.ReferenceIdeal.Run.Wend m' c (Proc.devRef .tc Cert.ReferenceIdeal.main_v57) : FVec Ideal S2176x512 .f32)
    = Cert.KernelIdeal.Run.W4 m ρ c (Proc.devRef .tc main_v75) := funext fun j => by
  rw [eq_ix2 j]
  exact (Cert.S5Ref.res_du G' (j 0) (j 1)).trans (res_du ρ G (j 0) (j 1)).symm
theorem same_dar : (Cert.ReferenceIdeal.Run.Wend m' c (Proc.devRef .tc Cert.ReferenceIdeal.main_v46_7) : FVec Ideal S32x64 .f32)
    = Cert.KernelIdeal.Run.W4 m ρ c (Proc.devRef .tc main_v76) := funext fun j => by
  rw [eq_ix2 j]
  exact (Cert.S5Ref.res_dar G' (j 0) (j 1)).trans (res_dar ρ G (j 0) (j 1)).symm
theorem same_dai : (Cert.ReferenceIdeal.Run.Wend m' c (Proc.devRef .tc Cert.ReferenceIdeal.main_v46_8) : FVec Ideal S32x64 .f32)
    = Cert.KernelIdeal.Run.W4 m ρ c (Proc.devRef .tc main_v77) := funext fun j => by
  rw [eq_ix2 j]
  exact (Cert.S5Ref.res_dai G' (j 0) (j 1)).trans (res_dai ρ G (j 0) (j 1)).symm
theorem same_dbr : (Cert.ReferenceIdeal.Run.Wend m' c (Proc.devRef .tc Cert.ReferenceIdeal.main_v56) : FVec Ideal S32x64x16 .f32)
    = Cert.KernelIdeal.Run.W4 m ρ c (Proc.devRef .tc main_v79) := funext fun j => by
  rw [eq_ix3 j]
  exact (Cert.S5Ref.res_dbr G' (j 0) (j 1) (j 2)).trans (res_dbr ρ G (j 0) (j 1) (j 2)).symm
theorem same_dbi : (Cert.ReferenceIdeal.Run.Wend m' c (Proc.devRef .tc Cert.ReferenceIdeal.main_v51) : FVec Ideal S32x64x16 .f32)
    = Cert.KernelIdeal.Run.W4 m ρ c (Proc.devRef .tc main_v81) := funext fun j => by
  rw [eq_ix3 j]
  exact (Cert.S5Ref.res_dbi G' (j 0) (j 1) (j 2)).trans (res_dbi ρ G (j 0) (j 1) (j 2)).symm
theorem same_dcr : (Cert.ReferenceIdeal.Run.Wend m' c (Proc.devRef .tc Cert.ReferenceIdeal.main_v39) : FVec Ideal S32x16x64 .f32)
    = Cert.KernelIdeal.Run.W4 m ρ c (Proc.devRef .tc main_v82) := funext fun j => by
  rw [eq_ix3 j]
  exact (Cert.S5Ref.res_dcr G' (j 0) (j 1) (j 2)).trans (res_dcr ρ G (j 0) (j 1) (j 2)).symm
theorem same_dci : (Cert.ReferenceIdeal.Run.Wend m' c (Proc.devRef .tc Cert.ReferenceIdeal.main_v35) : FVec Ideal S32x16x64 .f32)
    = Cert.KernelIdeal.Run.W4 m ρ c (Proc.devRef .tc main_v83) := funext fun j => by
  rw [eq_ix3 j]
  exact (Cert.S5Ref.res_dci G' (j 0) (j 1) (j 2)).trans (res_dci ρ G (j 0) (j 1) (j 2)).symm
theorem same_dd : (Cert.ReferenceIdeal.Run.Wend m' c (Proc.devRef .tc Cert.ReferenceIdeal.main_v30) : FVec Ideal S32x16 .f32)
    = Cert.KernelIdeal.Run.W4 m ρ c (Proc.devRef .tc main_v84) := funext fun j => by
  rw [eq_ix2 j]
  exact (Cert.S5Ref.res_dd G' (j 0) (j 1)).trans (res_dd ρ G (j 0) (j 1)).symm

end Ref

end Cert.S5

end
-- ==== Proof.ProjVal.lean ====
/- The input projection: every entry of either program's result is the sum, over the channels, of an activation times a weight. -/
module

public import proofs.«01_k».proof.Defs
public import proofs.«01_k».proof.Proof.Gen.Proj
public import proofs.«01_k».proof.Proof.Gen.ProjIdeal.Value
public import proofs.«01_k».proof.Proof.Gen.ProjRefIdeal.Run
public import Idealize.ShloMosaic.Lib.Pipeline.ValueKit.Geometry
public import Idealize.ShloMosaic.Lib.Pointwise
public import Idealize.ShloMosaic.Lib.StableHlo.ReadAt
public import Idealize.ShloMosaic.Lib.Tactic

@[expose] public section

noncomputable section

namespace Cert.ProjIdeal.Sums

open Cert.ProjIdeal Cert.ProjIdeal.Gen Idealize.ShloMosaic Idealize.ShloMosaic.TcCoe Idealize.ShloMosaic.ValueKit
open Idealize.ShloMosaic.Tactic Idealize.SL.Sem

variable (m : (ℓ : Loc nD τ sig) → Buf (Elt Ideal) ℓ) (c : Dev nD)

theorem at_a : ∀ t : Fin cfg0.N, win0_0.index t 0 = 0 ∧ win0_0.index t 1 = 0 := by decide +kernel
theorem at_b : ∀ t : Fin cfg0.N, win0_1.index t 0 = t.val ∧ win0_1.index t 1 = 0 ∧ win0_1.index t 2 = 0 := by decide +kernel
theorem at_o : ∀ t : Fin cfg0.N, win0_2.index t 0 = 0 ∧ win0_2.index t 1 = t.val := by decide +kernel

/-- The weight as the kernel is given it, by column blocks. -/
theorem host_b (j : Fin 8) (x : Fin 1024) (q : Fin 256) (k : Fin 2048) (hk : k.val = j.val * 256 + q.val) :
    (V m c main_v2 (ix3 j x q) : EReal) = (m ((c : Thread nD τ).loc main_arg1) (ix2 x k) : EReal) := by
  after_reads_simp
  try simp -implicitDefEqProofs only [StableHlo.TRef.toBuf, StableHlo.TRef.ofBuf, cast_cast, cast_eq, id_eq]
  clean_types
  pointwise
  exact congrArg (fun z => m ((c : Thread nD τ).loc main_arg1) (ix2 x z)) (Fin.ext hk.symm)

theorem blk_a (t : Fin cfg0.N) (r : Fin 2176) (q : Fin 1024) :
    iblk m c 0 t (ix2 r q) = m ((c : Thread nD τ).loc main_arg0) (ix2 r q) := by
  obtain ⟨e0, e1⟩ := at_a t
  refine Eq.trans ?_ (congrFun (V_main_arg0 m c) (ix2 r q))
  blk_simp [iblk]
  congr 1
  blk_ext [e0, e1]

theorem blk_b (t : Fin cfg0.N) (s : Fin 1) (x : Fin 1024) (p : Fin 256) (k : Fin 2048) (hk : k.val = t.val * 256 + p.val) :
    (iblk m c 1 t (ix3 s x p) : EReal) = (m ((c : Thread nD τ).loc main_arg1) (ix2 x k) : EReal) := by
  obtain ⟨e0, e1, e2⟩ := at_b t
  rw [← host_b m c ⟨t.val, t.isLt⟩ x p k hk]
  blk_simp [iblk]
  congr 1
  blk_ext [e0, e1, e2]

/-- One entry of one block of the result. -/
theorem block_sum (x : Vec Ideal S2176x1024 .bf16) (y : Vec Ideal S1x1024x256 .bf16) (p : Fin 2176) (q : Fin 256) :
    (out0_2 x y (ix2 p q) : EReal) = ∑ r : Fin 1024, x (ix2 p r) * y (ix3 0 r q) := by
  unfold out0_2
  rw [View.canon_unit_zero (by decide), View.ld_unit_zero (by decide), View.ld_unit_zero (by decide)]
  unfold k0_pay1
  pointwise

/-- What both programs compute. -/
def total (a : Vec Ideal S2176x1024 .bf16) (b : Vec Ideal S1024x2048 .f32) (p : Fin 2176) (k : Fin 2048) : EReal :=
  ∑ r : Fin 1024, a (ix2 p r) * b (ix2 r k)

/-- One entry of the kernel's result. -/
theorem kernel_entry (p : Fin 2176) (k : Fin 2048) : ((dats m 0 c).arrAt 2 cfg0.N (ix2 p k) : EReal)
    = total (m ((c : Thread nD τ).loc main_arg0)) (m ((c : Thread nD τ).loc main_arg1)) p k := by
  refine Pipeline.Dat.arrAt_forall_of_covers (dat := dats m 0 c) 2 (fun (i : Shape.Idx ⟨2, ![2176, 2048]⟩) (x : EReal) =>
    x = total (m ((c : Thread nD τ).loc main_arg0)) (m ((c : Thread nD τ).loc main_arg1)) (i 0) (i 1)) (by decide +kernel) (fun t _ y => ?_) (ix2 p k)
  obtain ⟨e0, e1⟩ := at_o t
  rw [after0_2]
  blk_simp [e0, e1]
  idx_bounds y
  rw [show y = ix2 (y 0) (y 1) from by funext a; fin_cases a <;> rfl]
  refine (block_sum _ _ _ _).trans (Finset.sum_congr rfl fun r _ => ?_)
  refine congrArg₂ (· * ·) ?_ (blk_b m c t 0 r (y 1) _ ?_)
  · refine (blk_a m c t (y 0) r).trans (congrArg (fun z => m ((c : Thread nD τ).loc main_arg0) (ix2 z r)) (Fin.ext ?_))
    blk_simp [e0]
  · blk_simp [e1]

end Cert.ProjIdeal.Sums

namespace Cert.ProjRefIdeal.Sums

open Cert.ProjRefIdeal Cert.ProjRefIdeal.Gen Idealize.ShloMosaic Idealize.ShloMosaic.TcCoe Idealize.SL.Sem

/-- The argument arrays of the reference end as they began, and it has no counter. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩) (Value.run m ρ)

end Cert.ProjRefIdeal.Sums

namespace Cert.Proj.Sums

open Idealize.ShloMosaic Idealize.ShloMosaic.TcCoe Idealize.ShloMosaic.Tactic Idealize.SL.Sem

/-- The frame of the kernel, spelled with the ideal program's text at bit patterns. -/
def AtBits : Prop :=
  ∀ (m : (ℓ : Loc ProjIdeal.nD ProjIdeal.τ ProjIdeal.sig) → Buf (Elt Bits) ℓ) (g : Dev ProjIdeal.nD → PrngReg), True →
    θ_run (ProjIdeal.defs (F := Bits)) (onTc (τ := ProjIdeal.τ) (ProjIdeal.main (F := Bits))) ⟨m, fun _ => 0, g⟩ (fun r =>
      (∀ c : Dev ProjIdeal.nD,
      r.2.mem ((c.tc : Thread ProjIdeal.nD ProjIdeal.τ).loc ProjIdeal.main_arg0) = m ((c.tc : Thread ProjIdeal.nD ProjIdeal.τ).loc ProjIdeal.main_arg0)
      ∧ r.2.mem ((c.tc : Thread ProjIdeal.nD ProjIdeal.τ).loc ProjIdeal.main_arg1) = m ((c.tc : Thread ProjIdeal.nD ProjIdeal.τ).loc ProjIdeal.main_arg1))
      ∧ r.2.sem = fun _ => 0)

theorem same_text : quiescent_Proj (hProj := Proj.Gen.facts) = AtBits := by sl_kernel_rfl

/-- The frame of the kernel. -/
theorem frame : quiescent_Proj (hProj := Proj.Gen.facts) :=
  same_text.mpr fun m g _ => ProjIdeal.Gen.frame m g

/-- From equal arguments the two programs end with equal results. -/
theorem equal : algebraic_ProjIdeal_ProjRefIdeal (hProjIdeal := ProjIdeal.Gen.facts)
    (hProjRefIdeal := ProjRefIdeal.Gen.facts) := by
  intro m g m' g' _ he
  refine ⟨fun c => (ProjIdeal.Gen.dats m 0 c).arrAt 2 ProjIdeal.cfg0.N, ?_, ?_⟩
  · exact ProjIdeal.Value.run_blocks m g
  · refine (θ_run _ _ _).mono (fun r h c => ⟨(h c).1.trans ?_, (h c).2⟩) (ProjRefIdeal.Value.run m' g')
    funext j
    obtain ⟨p, q, rfl⟩ : ∃ (p : Fin 2176) (q : Fin 2048), j = ix2 p q := ⟨j 0, j 1, eq_ix2 j⟩
    refine Eq.trans ?_ (ProjIdeal.Sums.kernel_entry m c p q).symm
    rw [(he c).1, (he c).2]
    pointwise
    rfl

end Cert.Proj.Sums

end
-- ==== Proof.UpProjVal.lean ====
/- The up projection: every entry of either program's result is the sum, over the channels, of an activation times a weight. -/
module

public import proofs.«01_k».proof.Defs
public import proofs.«01_k».proof.Proof.Gen.UpProj
public import proofs.«01_k».proof.Proof.Gen.UpProjIdeal.Value
public import proofs.«01_k».proof.Proof.Gen.UpProjRefIdeal.Run
public import Idealize.ShloMosaic.Lib.Pipeline.ValueKit.Geometry
public import Idealize.ShloMosaic.Lib.Pointwise
public import Idealize.ShloMosaic.Lib.StableHlo.ReadAt
public import Idealize.ShloMosaic.Lib.Tactic

@[expose] public section

noncomputable section

namespace Cert.UpProjIdeal.Sums

open Cert.UpProjIdeal Cert.UpProjIdeal.Gen Idealize.ShloMosaic Idealize.ShloMosaic.TcCoe Idealize.ShloMosaic.ValueKit
open Idealize.ShloMosaic.Tactic Idealize.SL.Sem

variable (m : (ℓ : Loc nD τ sig) → Buf (Elt Ideal) ℓ) (c : Dev nD)

theorem at_a : ∀ t : Fin cfg0.N, win0_0.index t 0 = 0 ∧ win0_0.index t 1 = 0 := by decide +kernel
theorem at_b : ∀ t : Fin cfg0.N, win0_1.index t 0 = t.val ∧ win0_1.index t 1 = 0 := by decide +kernel
theorem at_o : ∀ t : Fin cfg0.N, win0_2.index t 0 = 0 ∧ win0_2.index t 1 = t.val := by decide +kernel

/-- The weight as the kernel is given it. -/
theorem host_b (k : Fin 5632) (x : Fin 1024) : (V m c main_v1 (ix2 k x) : EReal) = (m ((c : Thread nD τ).loc main_arg1) (ix2 x k) : EReal) := by
  after_reads_simp
  try simp -implicitDefEqProofs only [StableHlo.TRef.toBuf, StableHlo.TRef.ofBuf, cast_cast, cast_eq, id_eq]
  clean_types
  pointwise

theorem blk_a (t : Fin cfg0.N) (r : Fin 2176) (q : Fin 1024) :
    iblk m c 0 t (ix2 r q) = m ((c : Thread nD τ).loc main_arg0) (ix2 r q) := by
  obtain ⟨e0, e1⟩ := at_a t
  refine Eq.trans ?_ (congrFun (V_main_arg0 m c) (ix2 r q))
  blk_simp [iblk]
  congr 1
  blk_ext [e0, e1]

theorem blk_b (t : Fin cfg0.N) (p : Fin 1408) (x : Fin 1024) (k : Fin 5632) (hk : k.val = t.val * 1408 + p.val) :
    (iblk m c 1 t (ix2 p x) : EReal) = (m ((c : Thread nD τ).loc main_arg1) (ix2 x k) : EReal) := by
  obtain ⟨e0, e1⟩ := at_b t
  rw [← host_b m c k x]
  blk_simp [iblk]
  congr 1
  blk_ext [e0, e1]

/-- One entry of one block of the result. -/
theorem block_sum (x : Vec Ideal S2176x1024 .bf16) (y : Vec Ideal S1408x1024 .bf16) (p : Fin 2176) (q : Fin 1408) :
    (out0_2 x y (ix2 p q) : EReal) = ∑ r : Fin 1024, x (ix2 p r) * y (ix2 q r) := by
  unfold out0_2
  rw [View.canon_unit_zero (by decide), View.ld_unit_zero (by decide), View.ld_unit_zero (by decide)]
  unfold k0_pay1
  pointwise

/-- What both programs compute. -/
def total (a : Vec Ideal S2176x1024 .bf16) (b : Vec Ideal S1024x5632 .f32) (p : Fin 2176) (k : Fin 5632) : EReal :=
  ∑ r : Fin 1024, a (ix2 p r) * b (ix2 r k)

/-- One entry of the kernel's result. -/
theorem kernel_entry (p : Fin 2176) (k : Fin 5632) : ((dats m 0 c).arrAt 2 cfg0.N (ix2 p k) : EReal)
    = total (m ((c : Thread nD τ).loc main_arg0)) (m ((c : Thread nD τ).loc main_arg1)) p k := by
  refine Pipeline.Dat.arrAt_forall_of_covers (dat := dats m 0 c) 2 (fun (i : Shape.Idx ⟨2, ![2176, 5632]⟩) (x : EReal) =>
    x = total (m ((c : Thread nD τ).loc main_arg0)) (m ((c : Thread nD τ).loc main_arg1)) (i 0) (i 1)) (by decide +kernel) (fun t _ y => ?_) (ix2 p k)
  obtain ⟨e0, e1⟩ := at_o t
  rw [after0_2]
  blk_simp [e0, e1]
  idx_bounds y
  rw [show y = ix2 (y 0) (y 1) from by funext a; fin_cases a <;> rfl]
  refine (block_sum _ _ _ _).trans (Finset.sum_congr rfl fun r _ => ?_)
  refine congrArg₂ (· * ·) ?_ (blk_b m c t (y 1) r _ ?_)
  · refine (blk_a m c t (y 0) r).trans (congrArg (fun z => m ((c : Thread nD τ).loc main_arg0) (ix2 z r)) (Fin.ext ?_))
    blk_simp [e0]
  · blk_simp [e1]

end Cert.UpProjIdeal.Sums

namespace Cert.UpProjRefIdeal.Sums

open Cert.UpProjRefIdeal Cert.UpProjRefIdeal.Gen Idealize.ShloMosaic Idealize.ShloMosaic.TcCoe Idealize.SL.Sem

/-- The argument arrays of the reference end as they began, and it has no counter. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩) (Value.run m ρ)

end Cert.UpProjRefIdeal.Sums

namespace Cert.UpProj.Sums

open Idealize.ShloMosaic Idealize.ShloMosaic.TcCoe Idealize.ShloMosaic.Tactic Idealize.SL.Sem

/-- The frame of the kernel, spelled with the ideal program's text at bit patterns. -/
def AtBits : Prop :=
  ∀ (m : (ℓ : Loc UpProjIdeal.nD UpProjIdeal.τ UpProjIdeal.sig) → Buf (Elt Bits) ℓ) (g : Dev UpProjIdeal.nD → PrngReg), True →
    θ_run (UpProjIdeal.defs (F := Bits)) (onTc (τ := UpProjIdeal.τ) (UpProjIdeal.main (F := Bits))) ⟨m, fun _ => 0, g⟩ (fun r =>
      (∀ c : Dev UpProjIdeal.nD,
      r.2.mem ((c.tc : Thread UpProjIdeal.nD UpProjIdeal.τ).loc UpProjIdeal.main_arg0) = m ((c.tc : Thread UpProjIdeal.nD UpProjIdeal.τ).loc UpProjIdeal.main_arg0)
      ∧ r.2.mem ((c.tc : Thread UpProjIdeal.nD UpProjIdeal.τ).loc UpProjIdeal.main_arg1) = m ((c.tc : Thread UpProjIdeal.nD UpProjIdeal.τ).loc UpProjIdeal.main_arg1))
      ∧ r.2.sem = fun _ => 0)

theorem same_text : quiescent_UpProj (hUpProj := UpProj.Gen.facts) = AtBits := by sl_kernel_rfl

/-- The frame of the kernel. -/
theorem frame : quiescent_UpProj (hUpProj := UpProj.Gen.facts) :=
  same_text.mpr fun m g _ => UpProjIdeal.Gen.frame m g

/-- From equal arguments the two programs end with equal results. -/
theorem equal : algebraic_UpProjIdeal_UpProjRefIdeal (hUpProjIdeal := UpProjIdeal.Gen.facts)
    (hUpProjRefIdeal := UpProjRefIdeal.Gen.facts) := by
  intro m g m' g' _ he
  refine ⟨fun c => (UpProjIdeal.Gen.dats m 0 c).arrAt 2 UpProjIdeal.cfg0.N, ?_, ?_⟩
  · exact UpProjIdeal.Value.run_blocks m g
  · refine (θ_run _ _ _).mono (fun r h c => ⟨(h c).1.trans ?_, (h c).2⟩) (UpProjRefIdeal.Value.run m' g')
    funext j
    obtain ⟨p, q, rfl⟩ : ∃ (p : Fin 2176) (q : Fin 5632), j = ix2 p q := ⟨j 0, j 1, eq_ix2 j⟩
    refine Eq.trans ?_ (UpProjIdeal.Sums.kernel_entry m c p q).symm
    rw [(he c).1, (he c).2]
    pointwise
    rfl

end Cert.UpProj.Sums

end
-- ==== Proof.DownWgradVal.lean ====
/- The weight gradient of the down projection: every entry of either program's result is the sum, over the rows, of an
   activation times a gradient. -/
module

public import proofs.«01_k».proof.Defs
public import proofs.«01_k».proof.Proof.Gen.DownWgrad
public import proofs.«01_k».proof.Proof.Gen.DownWgradIdeal.Value
public import proofs.«01_k».proof.Proof.Gen.DownWgradRefIdeal.Run
public import Idealize.ShloMosaic.Lib.Pipeline.ValueKit.Geometry
public import Idealize.ShloMosaic.Lib.Pointwise
public import Idealize.ShloMosaic.Lib.StableHlo.ReadAt
public import Idealize.ShloMosaic.Lib.Tactic

@[expose] public section

noncomputable section

namespace Cert.DownWgradIdeal.Sums

open Cert.DownWgradIdeal Cert.DownWgradIdeal.Gen Idealize.ShloMosaic Idealize.ShloMosaic.TcCoe Idealize.ShloMosaic.ValueKit
open Idealize.ShloMosaic.Tactic Idealize.SL.Sem

variable (m : (ℓ : Loc nD τ sig) → Buf (Elt Ideal) ℓ) (c : Dev nD)

theorem at_a : ∀ t : Fin cfg0.N, win0_0.index t 0 = 0 ∧ win0_0.index t 1 = t.val := by decide +kernel
theorem at_b : ∀ t : Fin cfg0.N, win0_1.index t 0 = 0 ∧ win0_1.index t 1 = 0 := by decide +kernel
theorem at_o : ∀ t : Fin cfg0.N, win0_2.index t 0 = t.val ∧ win0_2.index t 1 = 0 := by decide +kernel

theorem blk_a (t : Fin cfg0.N) (r : Fin 2176) (q : Fin 1408) (k : Fin 2816) (hk : k.val = t.val * 1408 + q.val) :
    iblk m c 0 t (ix2 r q) = m ((c : Thread nD τ).loc main_arg0) (ix2 r k) := by
  obtain ⟨e0, e1⟩ := at_a t
  blk_simp [iblk]
  congr 1
  blk_ext [e0, e1]

theorem blk_b (t : Fin cfg0.N) (r : Fin 2176) (q : Fin 1024) :
    iblk m c 1 t (ix2 r q) = m ((c : Thread nD τ).loc main_arg1) (ix2 r q) := by
  obtain ⟨e0, e1⟩ := at_b t
  blk_simp [iblk]
  congr 1
  blk_ext [e0, e1]

/-- One entry of one block of the result. -/
theorem block_sum (x : Vec Ideal S2176x1408 .bf16) (y : Vec Ideal S2176x1024 .bf16) (p : Fin 1408) (q : Fin 1024) :
    (out0_2 x y (ix2 p q) : EReal) = ∑ r : Fin 2176, x (ix2 r p) * y (ix2 r q) := by
  unfold out0_2
  rw [View.canon_unit_zero (by decide), View.ld_unit_zero (by decide), View.ld_unit_zero (by decide)]
  unfold k0_pay1
  pointwise

/-- What both programs compute. -/
def total (a : Vec Ideal S2176x2816 .bf16) (b : Vec Ideal S2176x1024 .bf16) (k : Fin 2816) (q : Fin 1024) : EReal :=
  ∑ r : Fin 2176, a (ix2 r k) * b (ix2 r q)

/-- One entry of the kernel's result. -/
theorem kernel_entry (k : Fin 2816) (q : Fin 1024) : ((dats m 0 c).arrAt 2 cfg0.N (ix2 k q) : EReal)
    = total (m ((c : Thread nD τ).loc main_arg0)) (m ((c : Thread nD τ).loc main_arg1)) k q := by
  refine Pipeline.Dat.arrAt_forall_of_covers (dat := dats m 0 c) 2 (fun (i : Shape.Idx ⟨2, ![2816, 1024]⟩) (x : EReal) =>
    x = total (m ((c : Thread nD τ).loc main_arg0)) (m ((c : Thread nD τ).loc main_arg1)) (i 0) (i 1)) (by decide +kernel) (fun t _ y => ?_) (ix2 k q)
  obtain ⟨e0, e1⟩ := at_o t
  rw [after0_2]
  blk_simp [e0, e1]
  idx_bounds y
  rw [show y = ix2 (y 0) (y 1) from by funext a; fin_cases a <;> rfl]
  refine (block_sum _ _ _ _).trans (Finset.sum_congr rfl fun r _ => ?_)
  refine congrArg₂ (· * ·) (blk_a m c t r (y 0) _ ?_) ?_
  · blk_simp [e0]
  · refine (blk_b m c t r (y 1)).trans (congrArg (fun z => m ((c : Thread nD τ).loc main_arg1) (ix2 r z)) (Fin.ext ?_))
    blk_simp [e1]

end Cert.DownWgradIdeal.Sums

namespace Cert.DownWgradRefIdeal.Sums

open Cert.DownWgradRefIdeal Cert.DownWgradRefIdeal.Gen Idealize.ShloMosaic Idealize.ShloMosaic.TcCoe Idealize.SL.Sem

/-- The argument arrays of the reference end as they began, and it has no counter. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩) (Value.run m ρ)

end Cert.DownWgradRefIdeal.Sums

namespace Cert.DownWgrad.Sums

open Idealize.ShloMosaic Idealize.ShloMosaic.TcCoe Idealize.ShloMosaic.Tactic Idealize.SL.Sem

/-- The frame of the kernel, spelled with the ideal program's text at bit patterns. -/
def AtBits : Prop :=
  ∀ (m : (ℓ : Loc DownWgradIdeal.nD DownWgradIdeal.τ DownWgradIdeal.sig) → Buf (Elt Bits) ℓ) (g : Dev DownWgradIdeal.nD → PrngReg), True →
    θ_run (DownWgradIdeal.defs (F := Bits)) (onTc (τ := DownWgradIdeal.τ) (DownWgradIdeal.main (F := Bits))) ⟨m, fun _ => 0, g⟩ (fun r =>
      (∀ c : Dev DownWgradIdeal.nD,
      r.2.mem ((c.tc : Thread DownWgradIdeal.nD DownWgradIdeal.τ).loc DownWgradIdeal.main_arg0) = m ((c.tc : Thread DownWgradIdeal.nD DownWgradIdeal.τ).loc DownWgradIdeal.main_arg0)
      ∧ r.2.mem ((c.tc : Thread DownWgradIdeal.nD DownWgradIdeal.τ).loc DownWgradIdeal.main_arg1) = m ((c.tc : Thread DownWgradIdeal.nD DownWgradIdeal.τ).loc DownWgradIdeal.main_arg1))
      ∧ r.2.sem = fun _ => 0)

theorem same_text : quiescent_DownWgrad (hDownWgrad := DownWgrad.Gen.facts) = AtBits := by sl_kernel_rfl

/-- The frame of the kernel. -/
theorem frame : quiescent_DownWgrad (hDownWgrad := DownWgrad.Gen.facts) :=
  same_text.mpr fun m g _ => DownWgradIdeal.Gen.frame m g

/-- From equal arguments the two programs end with equal results. -/
theorem equal : algebraic_DownWgradIdeal_DownWgradRefIdeal (hDownWgradIdeal := DownWgradIdeal.Gen.facts)
    (hDownWgradRefIdeal := DownWgradRefIdeal.Gen.facts) := by
  intro m g m' g' _ he
  refine ⟨fun c => (DownWgradIdeal.Gen.dats m 0 c).arrAt 2 DownWgradIdeal.cfg0.N, ?_, ?_⟩
  · exact DownWgradIdeal.Value.run_blocks m g
  · refine (θ_run _ _ _).mono (fun r h c => ⟨(h c).1.trans ?_, (h c).2⟩) (DownWgradRefIdeal.Value.run m' g')
    funext j
    obtain ⟨p, q, rfl⟩ : ∃ (p : Fin 2816) (q : Fin 1024), j = ix2 p q := ⟨j 0, j 1, eq_ix2 j⟩
    refine Eq.trans ?_ (DownWgradIdeal.Sums.kernel_entry m c p q).symm
    rw [(he c).1, (he c).2]
    pointwise
    exact Finset.sum_congr rfl fun x _ => mul_comm (G := EReal) _ _

end Cert.DownWgrad.Sums

end
-- ==== Proof.DownDgradVal.lean ====
/- The activation's gradient of the down projection: every entry of either program's result is the sum, over the channels, of a
   gradient times a weight. -/
module

public import proofs.«01_k».proof.Defs
public import proofs.«01_k».proof.Proof.Gen.DownDgrad
public import proofs.«01_k».proof.Proof.Gen.DownDgradIdeal.Value
public import proofs.«01_k».proof.Proof.Gen.DownDgradRefIdeal.Run
public import Idealize.ShloMosaic.Lib.Pipeline.ValueKit.Geometry
public import Idealize.ShloMosaic.Lib.Pointwise
public import Idealize.ShloMosaic.Lib.StableHlo.ReadAt
public import Idealize.ShloMosaic.Lib.Tactic

@[expose] public section

noncomputable section

namespace Cert.DownDgradIdeal.Sums

open Cert.DownDgradIdeal Cert.DownDgradIdeal.Gen Idealize.ShloMosaic Idealize.ShloMosaic.TcCoe Idealize.ShloMosaic.ValueKit
open Idealize.ShloMosaic.Tactic Idealize.SL.Sem

variable (m : (ℓ : Loc nD τ sig) → Buf (Elt Ideal) ℓ) (c : Dev nD)

theorem at_a : ∀ t : Fin cfg0.N, win0_0.index t 0 = 0 ∧ win0_0.index t 1 = 0 := by decide +kernel
theorem at_b : ∀ t : Fin cfg0.N, win0_1.index t 0 = t.val ∧ win0_1.index t 1 = 0 := by decide +kernel
theorem at_o : ∀ t : Fin cfg0.N, win0_2.index t 0 = 0 ∧ win0_2.index t 1 = t.val := by decide +kernel

/-- The weight as the kernel is given it. -/
theorem host_b (k : Fin 2816) (x : Fin 1024) : (V m c main_v0 (ix2 k x) : EReal) = (m ((c : Thread nD τ).loc main_arg1) (ix2 k x) : EReal) := by
  after_reads_simp
  try simp -implicitDefEqProofs only [StableHlo.TRef.toBuf, StableHlo.TRef.ofBuf, cast_cast, cast_eq, id_eq]
  clean_types
  pointwise

theorem blk_a (t : Fin cfg0.N) (r : Fin 2176) (q : Fin 1024) :
    iblk m c 0 t (ix2 r q) = m ((c : Thread nD τ).loc main_arg0) (ix2 r q) := by
  obtain ⟨e0, e1⟩ := at_a t
  refine Eq.trans ?_ (congrFun (V_main_arg0 m c) (ix2 r q))
  blk_simp [iblk]
  congr 1
  blk_ext [e0, e1]

theorem blk_b (t : Fin cfg0.N) (p : Fin 1408) (x : Fin 1024) (k : Fin 2816) (hk : k.val = t.val * 1408 + p.val) :
    (iblk m c 1 t (ix2 p x) : EReal) = (m ((c : Thread nD τ).loc main_arg1) (ix2 k x) : EReal) := by
  obtain ⟨e0, e1⟩ := at_b t
  rw [← host_b m c k x]
  blk_simp [iblk]
  congr 1
  blk_ext [e0, e1]

/-- One entry of one block of the result. -/
theorem block_sum (x : Vec Ideal S2176x1024 .bf16) (y : Vec Ideal S1408x1024 .bf16) (p : Fin 2176) (q : Fin 1408) :
    (out0_2 x y (ix2 p q) : EReal) = ∑ r : Fin 1024, x (ix2 p r) * y (ix2 q r) := by
  unfold out0_2
  rw [View.canon_unit_zero (by decide), View.ld_unit_zero (by decide), View.ld_unit_zero (by decide)]
  unfold k0_pay1
  pointwise

/-- What both programs compute. -/
def total (a : Vec Ideal S2176x1024 .bf16) (b : Vec Ideal S2816x1024 .f32) (p : Fin 2176) (k : Fin 2816) : EReal :=
  ∑ r : Fin 1024, a (ix2 p r) * b (ix2 k r)

/-- One entry of the kernel's result. -/
theorem kernel_entry (p : Fin 2176) (k : Fin 2816) : ((dats m 0 c).arrAt 2 cfg0.N (ix2 p k) : EReal)
    = total (m ((c : Thread nD τ).loc main_arg0)) (m ((c : Thread nD τ).loc main_arg1)) p k := by
  refine Pipeline.Dat.arrAt_forall_of_covers (dat := dats m 0 c) 2 (fun (i : Shape.Idx ⟨2, ![2176, 2816]⟩) (x : EReal) =>
    x = total (m ((c : Thread nD τ).loc main_arg0)) (m ((c : Thread nD τ).loc main_arg1)) (i 0) (i 1)) (by decide +kernel) (fun t _ y => ?_) (ix2 p k)
  obtain ⟨e0, e1⟩ := at_o t
  rw [after0_2]
  blk_simp [e0, e1]
  idx_bounds y
  rw [show y = ix2 (y 0) (y 1) from by funext a; fin_cases a <;> rfl]
  refine (block_sum _ _ _ _).trans (Finset.sum_congr rfl fun r _ => ?_)
  refine congrArg₂ (· * ·) ?_ (blk_b m c t (y 1) r _ ?_)
  · refine (blk_a m c t (y 0) r).trans (congrArg (fun z => m ((c : Thread nD τ).loc main_arg0) (ix2 z r)) (Fin.ext ?_))
    blk_simp [e0]
  · blk_simp [e1]

end Cert.DownDgradIdeal.Sums

namespace Cert.DownDgradRefIdeal.Sums

open Cert.DownDgradRefIdeal Cert.DownDgradRefIdeal.Gen Idealize.ShloMosaic Idealize.ShloMosaic.TcCoe Idealize.SL.Sem

/-- The argument arrays of the reference end as they began, and it has no counter. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩) (Value.run m ρ)

end Cert.DownDgradRefIdeal.Sums

namespace Cert.DownDgrad.Sums

open Idealize.ShloMosaic Idealize.ShloMosaic.TcCoe Idealize.ShloMosaic.Tactic Idealize.SL.Sem

/-- The frame of the kernel, spelled with the ideal program's text at bit patterns. -/
def AtBits : Prop :=
  ∀ (m : (ℓ : Loc DownDgradIdeal.nD DownDgradIdeal.τ DownDgradIdeal.sig) → Buf (Elt Bits) ℓ) (g : Dev DownDgradIdeal.nD → PrngReg), True →
    θ_run (DownDgradIdeal.defs (F := Bits)) (onTc (τ := DownDgradIdeal.τ) (DownDgradIdeal.main (F := Bits))) ⟨m, fun _ => 0, g⟩ (fun r =>
      (∀ c : Dev DownDgradIdeal.nD,
      r.2.mem ((c.tc : Thread DownDgradIdeal.nD DownDgradIdeal.τ).loc DownDgradIdeal.main_arg0) = m ((c.tc : Thread DownDgradIdeal.nD DownDgradIdeal.τ).loc DownDgradIdeal.main_arg0)
      ∧ r.2.mem ((c.tc : Thread DownDgradIdeal.nD DownDgradIdeal.τ).loc DownDgradIdeal.main_arg1) = m ((c.tc : Thread DownDgradIdeal.nD DownDgradIdeal.τ).loc DownDgradIdeal.main_arg1))
      ∧ r.2.sem = fun _ => 0)

theorem same_text : quiescent_DownDgrad (hDownDgrad := DownDgrad.Gen.facts) = AtBits := by sl_kernel_rfl

/-- The frame of the kernel. -/
theorem frame : quiescent_DownDgrad (hDownDgrad := DownDgrad.Gen.facts) :=
  same_text.mpr fun m g _ => DownDgradIdeal.Gen.frame m g

/-- From equal arguments the two programs end with equal results. -/
theorem equal : algebraic_DownDgradIdeal_DownDgradRefIdeal (hDownDgradIdeal := DownDgradIdeal.Gen.facts)
    (hDownDgradRefIdeal := DownDgradRefIdeal.Gen.facts) := by
  intro m g m' g' _ he
  refine ⟨fun c => (DownDgradIdeal.Gen.dats m 0 c).arrAt 2 DownDgradIdeal.cfg0.N, ?_, ?_⟩
  · exact DownDgradIdeal.Value.run_blocks m g
  · refine (θ_run _ _ _).mono (fun r h c => ⟨(h c).1.trans ?_, (h c).2⟩) (DownDgradRefIdeal.Value.run m' g')
    funext j
    obtain ⟨p, q, rfl⟩ : ∃ (p : Fin 2176) (q : Fin 2816), j = ix2 p q := ⟨j 0, j 1, eq_ix2 j⟩
    refine Eq.trans ?_ (DownDgradIdeal.Sums.kernel_entry m c p q).symm
    rw [(he c).1, (he c).2]
    pointwise
    rfl

end Cert.DownDgrad.Sums

end
-- ==== Proof.UpWgradVal.lean ====
/- The weight gradient of the up projection: every entry of either program's result is the sum, over the rows, of an
   activation times a gradient. -/
module

public import proofs.«01_k».proof.Defs
public import proofs.«01_k».proof.Proof.Gen.UpWgrad
public import proofs.«01_k».proof.Proof.Gen.UpWgradIdeal.Value
public import proofs.«01_k».proof.Proof.Gen.UpWgradRefIdeal.Run
public import Idealize.ShloMosaic.Lib.Pipeline.ValueKit.Geometry
public import Idealize.ShloMosaic.Lib.Pointwise
public import Idealize.ShloMosaic.Lib.StableHlo.ReadAt
public import Idealize.ShloMosaic.Lib.Tactic

@[expose] public section

noncomputable section

namespace Cert.UpWgradIdeal.Sums

open Cert.UpWgradIdeal Cert.UpWgradIdeal.Gen Idealize.ShloMosaic Idealize.ShloMosaic.TcCoe Idealize.ShloMosaic.ValueKit
open Idealize.ShloMosaic.Tactic Idealize.SL.Sem

variable (m : (ℓ : Loc nD τ sig) → Buf (Elt Ideal) ℓ) (c : Dev nD)

theorem at_a : ∀ t : Fin cfg0.N, win0_0.index t 0 = 0 ∧ win0_0.index t 1 = t.val := by decide +kernel
theorem at_b : ∀ t : Fin cfg0.N, win0_1.index t 0 = 0 ∧ win0_1.index t 1 = 0 := by decide +kernel
theorem at_o : ∀ t : Fin cfg0.N, win0_2.index t 0 = t.val ∧ win0_2.index t 1 = 0 := by decide +kernel

theorem blk_a (t : Fin cfg0.N) (r : Fin 2176) (q : Fin 1408) (k : Fin 5632) (hk : k.val = t.val * 1408 + q.val) :
    iblk m c 0 t (ix2 r q) = m ((c : Thread nD τ).loc main_arg0) (ix2 r k) := by
  obtain ⟨e0, e1⟩ := at_a t
  blk_simp [iblk]
  congr 1
  blk_ext [e0, e1]

theorem blk_b (t : Fin cfg0.N) (r : Fin 2176) (q : Fin 1024) :
    iblk m c 1 t (ix2 r q) = m ((c : Thread nD τ).loc main_arg1) (ix2 r q) := by
  obtain ⟨e0, e1⟩ := at_b t
  blk_simp [iblk]
  congr 1
  blk_ext [e0, e1]

/-- One entry of one block of the result. -/
theorem block_sum (x : Vec Ideal S2176x1408 .bf16) (y : Vec Ideal S2176x1024 .bf16) (p : Fin 1408) (q : Fin 1024) :
    (out0_2 x y (ix2 p q) : EReal) = ∑ r : Fin 2176, x (ix2 r p) * y (ix2 r q) := by
  unfold out0_2
  rw [View.canon_unit_zero (by decide), View.ld_unit_zero (by decide), View.ld_unit_zero (by decide)]
  unfold k0_pay1
  pointwise

/-- What both programs compute. -/
def total (a : Vec Ideal S2176x5632 .bf16) (b : Vec Ideal S2176x1024 .bf16) (k : Fin 5632) (q : Fin 1024) : EReal :=
  ∑ r : Fin 2176, a (ix2 r k) * b (ix2 r q)

/-- One entry of the kernel's result. -/
theorem kernel_entry (k : Fin 5632) (q : Fin 1024) : ((dats m 0 c).arrAt 2 cfg0.N (ix2 k q) : EReal)
    = total (m ((c : Thread nD τ).loc main_arg0)) (m ((c : Thread nD τ).loc main_arg1)) k q := by
  refine Pipeline.Dat.arrAt_forall_of_covers (dat := dats m 0 c) 2 (fun (i : Shape.Idx ⟨2, ![5632, 1024]⟩) (x : EReal) =>
    x = total (m ((c : Thread nD τ).loc main_arg0)) (m ((c : Thread nD τ).loc main_arg1)) (i 0) (i 1)) (by decide +kernel) (fun t _ y => ?_) (ix2 k q)
  obtain ⟨e0, e1⟩ := at_o t
  rw [after0_2]
  blk_simp [e0, e1]
  idx_bounds y
  rw [show y = ix2 (y 0) (y 1) from by funext a; fin_cases a <;> rfl]
  refine (block_sum _ _ _ _).trans (Finset.sum_congr rfl fun r _ => ?_)
  refine congrArg₂ (· * ·) (blk_a m c t r (y 0) _ ?_) ?_
  · blk_simp [e0]
  · refine (blk_b m c t r (y 1)).trans (congrArg (fun z => m ((c : Thread nD τ).loc main_arg1) (ix2 r z)) (Fin.ext ?_))
    blk_simp [e1]

end Cert.UpWgradIdeal.Sums

namespace Cert.UpWgradRefIdeal.Sums

open Cert.UpWgradRefIdeal Cert.UpWgradRefIdeal.Gen Idealize.ShloMosaic Idealize.ShloMosaic.TcCoe Idealize.SL.Sem

/-- The argument arrays of the reference end as they began, and it has no counter. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩) (Value.run m ρ)

end Cert.UpWgradRefIdeal.Sums

namespace Cert.UpWgrad.Sums

open Idealize.ShloMosaic Idealize.ShloMosaic.TcCoe Idealize.ShloMosaic.Tactic Idealize.SL.Sem

/-- The frame of the kernel, spelled with the ideal program's text at bit patterns. -/
def AtBits : Prop :=
  ∀ (m : (ℓ : Loc UpWgradIdeal.nD UpWgradIdeal.τ UpWgradIdeal.sig) → Buf (Elt Bits) ℓ) (g : Dev UpWgradIdeal.nD → PrngReg), True →
    θ_run (UpWgradIdeal.defs (F := Bits)) (onTc (τ := UpWgradIdeal.τ) (UpWgradIdeal.main (F := Bits))) ⟨m, fun _ => 0, g⟩ (fun r =>
      (∀ c : Dev UpWgradIdeal.nD,
      r.2.mem ((c.tc : Thread UpWgradIdeal.nD UpWgradIdeal.τ).loc UpWgradIdeal.main_arg0) = m ((c.tc : Thread UpWgradIdeal.nD UpWgradIdeal.τ).loc UpWgradIdeal.main_arg0)
      ∧ r.2.mem ((c.tc : Thread UpWgradIdeal.nD UpWgradIdeal.τ).loc UpWgradIdeal.main_arg1) = m ((c.tc : Thread UpWgradIdeal.nD UpWgradIdeal.τ).loc UpWgradIdeal.main_arg1))
      ∧ r.2.sem = fun _ => 0)

theorem same_text : quiescent_UpWgrad (hUpWgrad := UpWgrad.Gen.facts) = AtBits := by sl_kernel_rfl

/-- The frame of the kernel. -/
theorem frame : quiescent_UpWgrad (hUpWgrad := UpWgrad.Gen.facts) :=
  same_text.mpr fun m g _ => UpWgradIdeal.Gen.frame m g

/-- From equal arguments the two programs end with equal results. -/
theorem equal : algebraic_UpWgradIdeal_UpWgradRefIdeal (hUpWgradIdeal := UpWgradIdeal.Gen.facts)
    (hUpWgradRefIdeal := UpWgradRefIdeal.Gen.facts) := by
  intro m g m' g' _ he
  refine ⟨fun c => (UpWgradIdeal.Gen.dats m 0 c).arrAt 2 UpWgradIdeal.cfg0.N, ?_, ?_⟩
  · exact UpWgradIdeal.Value.run_blocks m g
  · refine (θ_run _ _ _).mono (fun r h c => ⟨(h c).1.trans ?_, (h c).2⟩) (UpWgradRefIdeal.Value.run m' g')
    funext j
    obtain ⟨p, q, rfl⟩ : ∃ (p : Fin 5632) (q : Fin 1024), j = ix2 p q := ⟨j 0, j 1, eq_ix2 j⟩
    refine Eq.trans ?_ (UpWgradIdeal.Sums.kernel_entry m c p q).symm
    rw [(he c).1, (he c).2]
    pointwise
    rfl

end Cert.UpWgrad.Sums

end
-- ==== Proof.OutDgradVal.lean ====
/- The activation's gradient of the output projection: every entry of either program's result is the sum, over the channels, of a
   gradient times a weight. -/
module

public import proofs.«01_k».proof.Defs
public import proofs.«01_k».proof.Proof.Gen.OutDgrad
public import proofs.«01_k».proof.Proof.Gen.OutDgradIdeal.Value
public import proofs.«01_k».proof.Proof.Gen.OutDgradRefIdeal.Run
public import Idealize.ShloMosaic.Lib.Pipeline.ValueKit.Geometry
public import Idealize.ShloMosaic.Lib.Pointwise
public import Idealize.ShloMosaic.Lib.StableHlo.ReadAt
public import Idealize.ShloMosaic.Lib.Tactic

@[expose] public section

noncomputable section

namespace Cert.OutDgradIdeal.Sums

open Cert.OutDgradIdeal Cert.OutDgradIdeal.Gen Idealize.ShloMosaic Idealize.ShloMosaic.TcCoe Idealize.ShloMosaic.ValueKit
open Idealize.ShloMosaic.Tactic Idealize.SL.Sem

variable (m : (ℓ : Loc nD τ sig) → Buf (Elt Ideal) ℓ) (c : Dev nD)

theorem at_a : ∀ t : Fin cfg0.N, win0_0.index t 0 = 0 ∧ win0_0.index t 1 = 0 := by decide +kernel
theorem at_b : ∀ t : Fin cfg0.N, win0_1.index t 0 = t.val ∧ win0_1.index t 1 = 0 := by decide +kernel
theorem at_o : ∀ t : Fin cfg0.N, win0_2.index t 0 = 0 ∧ win0_2.index t 1 = t.val := by decide +kernel

/-- The weight as the kernel is given it. -/
theorem host_b (k : Fin 1024) (x : Fin 1024) : (V m c main_v0 (ix2 k x) : EReal) = (m ((c : Thread nD τ).loc main_arg1) (ix2 k x) : EReal) := by
  after_reads_simp
  try simp -implicitDefEqProofs only [StableHlo.TRef.toBuf, StableHlo.TRef.ofBuf, cast_cast, cast_eq, id_eq]
  clean_types
  pointwise

theorem blk_a (t : Fin cfg0.N) (r : Fin 2176) (q : Fin 1024) :
    iblk m c 0 t (ix2 r q) = m ((c : Thread nD τ).loc main_arg0) (ix2 r q) := by
  obtain ⟨e0, e1⟩ := at_a t
  refine Eq.trans ?_ (congrFun (V_main_arg0 m c) (ix2 r q))
  blk_simp [iblk]
  congr 1
  blk_ext [e0, e1]

theorem blk_b (t : Fin cfg0.N) (p : Fin 512) (x : Fin 1024) (k : Fin 1024) (hk : k.val = t.val * 512 + p.val) :
    (iblk m c 1 t (ix2 p x) : EReal) = (m ((c : Thread nD τ).loc main_arg1) (ix2 k x) : EReal) := by
  obtain ⟨e0, e1⟩ := at_b t
  rw [← host_b m c k x]
  blk_simp [iblk]
  congr 1
  blk_ext [e0, e1]

/-- One entry of one block of the result. -/
theorem block_sum (x : Vec Ideal S2176x1024 .bf16) (y : Vec Ideal S512x1024 .bf16) (p : Fin 2176) (q : Fin 512) :
    (out0_2 x y (ix2 p q) : EReal) = ∑ r : Fin 1024, x (ix2 p r) * y (ix2 q r) := by
  unfold out0_2
  rw [View.canon_unit_zero (by decide), View.ld_unit_zero (by decide), View.ld_unit_zero (by decide)]
  unfold k0_pay1
  pointwise

/-- What both programs compute. -/
def total (a : Vec Ideal S2176x1024 .bf16) (b : Vec Ideal S1024x1024 .f32) (p : Fin 2176) (k : Fin 1024) : EReal :=
  ∑ r : Fin 1024, a (ix2 p r) * b (ix2 k r)

/-- One entry of the kernel's result. -/
theorem kernel_entry (p : Fin 2176) (k : Fin 1024) : ((dats m 0 c).arrAt 2 cfg0.N (ix2 p k) : EReal)
    = total (m ((c : Thread nD τ).loc main_arg0)) (m ((c : Thread nD τ).loc main_arg1)) p k := by
  refine Pipeline.Dat.arrAt_forall_of_covers (dat := dats m 0 c) 2 (fun (i : Shape.Idx ⟨2, ![2176, 1024]⟩) (x : EReal) =>
    x = total (m ((c : Thread nD τ).loc main_arg0)) (m ((c : Thread nD τ).loc main_arg1)) (i 0) (i 1)) (by decide +kernel) (fun t _ y => ?_) (ix2 p k)
  obtain ⟨e0, e1⟩ := at_o t
  rw [after0_2]
  blk_simp [e0, e1]
  idx_bounds y
  rw [show y = ix2 (y 0) (y 1) from by funext a; fin_cases a <;> rfl]
  refine (block_sum _ _ _ _).trans (Finset.sum_congr rfl fun r _ => ?_)
  refine congrArg₂ (· * ·) ?_ (blk_b m c t (y 1) r _ ?_)
  · refine (blk_a m c t (y 0) r).trans (congrArg (fun z => m ((c : Thread nD τ).loc main_arg0) (ix2 z r)) (Fin.ext ?_))
    blk_simp [e0]
  · blk_simp [e1]

end Cert.OutDgradIdeal.Sums

namespace Cert.OutDgradRefIdeal.Sums

open Cert.OutDgradRefIdeal Cert.OutDgradRefIdeal.Gen Idealize.ShloMosaic Idealize.ShloMosaic.TcCoe Idealize.SL.Sem

/-- The argument arrays of the reference end as they began, and it has no counter. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩) (Value.run m ρ)

end Cert.OutDgradRefIdeal.Sums

namespace Cert.OutDgrad.Sums

open Idealize.ShloMosaic Idealize.ShloMosaic.TcCoe Idealize.ShloMosaic.Tactic Idealize.SL.Sem

/-- The frame of the kernel, spelled with the ideal program's text at bit patterns. -/
def AtBits : Prop :=
  ∀ (m : (ℓ : Loc OutDgradIdeal.nD OutDgradIdeal.τ OutDgradIdeal.sig) → Buf (Elt Bits) ℓ) (g : Dev OutDgradIdeal.nD → PrngReg), True →
    θ_run (OutDgradIdeal.defs (F := Bits)) (onTc (τ := OutDgradIdeal.τ) (OutDgradIdeal.main (F := Bits))) ⟨m, fun _ => 0, g⟩ (fun r =>
      (∀ c : Dev OutDgradIdeal.nD,
      r.2.mem ((c.tc : Thread OutDgradIdeal.nD OutDgradIdeal.τ).loc OutDgradIdeal.main_arg0) = m ((c.tc : Thread OutDgradIdeal.nD OutDgradIdeal.τ).loc OutDgradIdeal.main_arg0)
      ∧ r.2.mem ((c.tc : Thread OutDgradIdeal.nD OutDgradIdeal.τ).loc OutDgradIdeal.main_arg1) = m ((c.tc : Thread OutDgradIdeal.nD OutDgradIdeal.τ).loc OutDgradIdeal.main_arg1))
      ∧ r.2.sem = fun _ => 0)

theorem same_text : quiescent_OutDgrad (hOutDgrad := OutDgrad.Gen.facts) = AtBits := by sl_kernel_rfl

/-- The frame of the kernel. -/
theorem frame : quiescent_OutDgrad (hOutDgrad := OutDgrad.Gen.facts) :=
  same_text.mpr fun m g _ => OutDgradIdeal.Gen.frame m g

/-- From equal arguments the two programs end with equal results. -/
theorem equal : algebraic_OutDgradIdeal_OutDgradRefIdeal (hOutDgradIdeal := OutDgradIdeal.Gen.facts)
    (hOutDgradRefIdeal := OutDgradRefIdeal.Gen.facts) := by
  intro m g m' g' _ he
  refine ⟨fun c => (OutDgradIdeal.Gen.dats m 0 c).arrAt 2 OutDgradIdeal.cfg0.N, ?_, ?_⟩
  · exact OutDgradIdeal.Value.run_blocks m g
  · refine (θ_run _ _ _).mono (fun r h c => ⟨(h c).1.trans ?_, (h c).2⟩) (OutDgradRefIdeal.Value.run m' g')
    funext j
    obtain ⟨p, q, rfl⟩ : ∃ (p : Fin 2176) (q : Fin 1024), j = ix2 p q := ⟨j 0, j 1, eq_ix2 j⟩
    refine Eq.trans ?_ (OutDgradIdeal.Sums.kernel_entry m c p q).symm
    rw [(he c).1, (he c).2]
    pointwise
    rfl

end Cert.OutDgrad.Sums

end
-- ==== Proof.OutWgradVal.lean ====
/- The weight gradient of the output projection: every entry of either program's result is the sum, over the rows, of an
   activation times a gradient. -/
module

public import proofs.«01_k».proof.Defs
public import proofs.«01_k».proof.Proof.Gen.OutWgrad
public import proofs.«01_k».proof.Proof.Gen.OutWgradIdeal.Value
public import proofs.«01_k».proof.Proof.Gen.OutWgradRefIdeal.Run
public import Idealize.ShloMosaic.Lib.Pipeline.ValueKit.Geometry
public import Idealize.ShloMosaic.Lib.Pointwise
public import Idealize.ShloMosaic.Lib.StableHlo.ReadAt
public import Idealize.ShloMosaic.Lib.Tactic

@[expose] public section

noncomputable section

namespace Cert.OutWgradIdeal.Sums

open Cert.OutWgradIdeal Cert.OutWgradIdeal.Gen Idealize.ShloMosaic Idealize.ShloMosaic.TcCoe Idealize.ShloMosaic.ValueKit
open Idealize.ShloMosaic.Tactic Idealize.SL.Sem

variable (m : (ℓ : Loc nD τ sig) → Buf (Elt Ideal) ℓ) (c : Dev nD)

theorem at_a : ∀ t : Fin cfg0.N, win0_0.index t 0 = 0 ∧ win0_0.index t 1 = t.val := by decide +kernel
theorem at_b : ∀ t : Fin cfg0.N, win0_1.index t 0 = 0 ∧ win0_1.index t 1 = 0 := by decide +kernel
theorem at_o : ∀ t : Fin cfg0.N, win0_2.index t 0 = t.val ∧ win0_2.index t 1 = 0 := by decide +kernel

theorem blk_a (t : Fin cfg0.N) (r : Fin 2176) (q : Fin 512) (k : Fin 1024) (hk : k.val = t.val * 512 + q.val) :
    iblk m c 0 t (ix2 r q) = m ((c : Thread nD τ).loc main_arg0) (ix2 r k) := by
  obtain ⟨e0, e1⟩ := at_a t
  blk_simp [iblk]
  congr 1
  blk_ext [e0, e1]

theorem blk_b (t : Fin cfg0.N) (r : Fin 2176) (q : Fin 1024) :
    iblk m c 1 t (ix2 r q) = m ((c : Thread nD τ).loc main_arg1) (ix2 r q) := by
  obtain ⟨e0, e1⟩ := at_b t
  blk_simp [iblk]
  congr 1
  blk_ext [e0, e1]

/-- One entry of one block of the result. -/
theorem block_sum (x : Vec Ideal S2176x512 .bf16) (y : Vec Ideal S2176x1024 .bf16) (p : Fin 512) (q : Fin 1024) :
    (out0_2 x y (ix2 p q) : EReal) = ∑ r : Fin 2176, x (ix2 r p) * y (ix2 r q) := by
  unfold out0_2
  rw [View.canon_unit_zero (by decide), View.ld_unit_zero (by decide), View.ld_unit_zero (by decide)]
  unfold k0_pay1
  pointwise

/-- What both programs compute. -/
def total (a : Vec Ideal S2176x1024 .bf16) (b : Vec Ideal S2176x1024 .bf16) (k : Fin 1024) (q : Fin 1024) : EReal :=
  ∑ r : Fin 2176, a (ix2 r k) * b (ix2 r q)

/-- One entry of the kernel's result. -/
theorem kernel_entry (k : Fin 1024) (q : Fin 1024) : ((dats m 0 c).arrAt 2 cfg0.N (ix2 k q) : EReal)
    = total (m ((c : Thread nD τ).loc main_arg0)) (m ((c : Thread nD τ).loc main_arg1)) k q := by
  refine Pipeline.Dat.arrAt_forall_of_covers (dat := dats m 0 c) 2 (fun (i : Shape.Idx ⟨2, ![1024, 1024]⟩) (x : EReal) =>
    x = total (m ((c : Thread nD τ).loc main_arg0)) (m ((c : Thread nD τ).loc main_arg1)) (i 0) (i 1)) (by decide +kernel) (fun t _ y => ?_) (ix2 k q)
  obtain ⟨e0, e1⟩ := at_o t
  rw [after0_2]
  blk_simp [e0, e1]
  idx_bounds y
  rw [show y = ix2 (y 0) (y 1) from by funext a; fin_cases a <;> rfl]
  refine (block_sum _ _ _ _).trans (Finset.sum_congr rfl fun r _ => ?_)
  refine congrArg₂ (· * ·) (blk_a m c t r (y 0) _ ?_) ?_
  · blk_simp [e0]
  · refine (blk_b m c t r (y 1)).trans (congrArg (fun z => m ((c : Thread nD τ).loc main_arg1) (ix2 r z)) (Fin.ext ?_))
    blk_simp [e1]

end Cert.OutWgradIdeal.Sums

namespace Cert.OutWgradRefIdeal.Sums

open Cert.OutWgradRefIdeal Cert.OutWgradRefIdeal.Gen Idealize.ShloMosaic Idealize.ShloMosaic.TcCoe Idealize.SL.Sem

/-- The argument arrays of the reference end as they began, and it has no counter. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩) (Value.run m ρ)

end Cert.OutWgradRefIdeal.Sums

namespace Cert.OutWgrad.Sums

open Idealize.ShloMosaic Idealize.ShloMosaic.TcCoe Idealize.ShloMosaic.Tactic Idealize.SL.Sem

/-- The frame of the kernel, spelled with the ideal program's text at bit patterns. -/
def AtBits : Prop :=
  ∀ (m : (ℓ : Loc OutWgradIdeal.nD OutWgradIdeal.τ OutWgradIdeal.sig) → Buf (Elt Bits) ℓ) (g : Dev OutWgradIdeal.nD → PrngReg), True →
    θ_run (OutWgradIdeal.defs (F := Bits)) (onTc (τ := OutWgradIdeal.τ) (OutWgradIdeal.main (F := Bits))) ⟨m, fun _ => 0, g⟩ (fun r =>
      (∀ c : Dev OutWgradIdeal.nD,
      r.2.mem ((c.tc : Thread OutWgradIdeal.nD OutWgradIdeal.τ).loc OutWgradIdeal.main_arg0) = m ((c.tc : Thread OutWgradIdeal.nD OutWgradIdeal.τ).loc OutWgradIdeal.main_arg0)
      ∧ r.2.mem ((c.tc : Thread OutWgradIdeal.nD OutWgradIdeal.τ).loc OutWgradIdeal.main_arg1) = m ((c.tc : Thread OutWgradIdeal.nD OutWgradIdeal.τ).loc OutWgradIdeal.main_arg1))
      ∧ r.2.sem = fun _ => 0)

theorem same_text : quiescent_OutWgrad (hOutWgrad := OutWgrad.Gen.facts) = AtBits := by sl_kernel_rfl

/-- The frame of the kernel. -/
theorem frame : quiescent_OutWgrad (hOutWgrad := OutWgrad.Gen.facts) :=
  same_text.mpr fun m g _ => OutWgradIdeal.Gen.frame m g

/-- From equal arguments the two programs end with equal results. -/
theorem equal : algebraic_OutWgradIdeal_OutWgradRefIdeal (hOutWgradIdeal := OutWgradIdeal.Gen.facts)
    (hOutWgradRefIdeal := OutWgradRefIdeal.Gen.facts) := by
  intro m g m' g' _ he
  refine ⟨fun c => (OutWgradIdeal.Gen.dats m 0 c).arrAt 2 OutWgradIdeal.cfg0.N, ?_, ?_⟩
  · exact OutWgradIdeal.Value.run_blocks m g
  · refine (θ_run _ _ _).mono (fun r h c => ⟨(h c).1.trans ?_, (h c).2⟩) (OutWgradRefIdeal.Value.run m' g')
    funext j
    obtain ⟨p, q, rfl⟩ : ∃ (p : Fin 1024) (q : Fin 1024), j = ix2 p q := ⟨j 0, j 1, eq_ix2 j⟩
    refine Eq.trans ?_ (OutWgradIdeal.Sums.kernel_entry m c p q).symm
    rw [(he c).1, (he c).2]
    pointwise
    exact Finset.sum_congr rfl fun x _ => mul_comm (G := EReal) _ _

end Cert.OutWgrad.Sums

end
-- ==== Proof.ProjWgradVal.lean ====
/- The weight gradient of the input projection: every entry of either program's result is the sum, over the rows, of an activation
   times a gradient; the result is kept by column blocks. -/
module

public import proofs.«01_k».proof.Defs
public import proofs.«01_k».proof.Proof.Gen.ProjWgrad
public import proofs.«01_k».proof.Proof.Gen.ProjWgradIdeal.Value
public import proofs.«01_k».proof.Proof.Gen.ProjWgradRefIdeal.Run
public import Idealize.ShloMosaic.Lib.Pipeline.ValueKit.Geometry
public import Idealize.ShloMosaic.Lib.Pointwise
public import Idealize.ShloMosaic.Lib.StableHlo.ReadAt
public import Idealize.ShloMosaic.Lib.Tactic

@[expose] public section

noncomputable section

namespace Cert.ProjWgradIdeal.Sums

open Cert.ProjWgradIdeal Cert.ProjWgradIdeal.Gen Idealize.ShloMosaic Idealize.ShloMosaic.TcCoe Idealize.ShloMosaic.ValueKit
open Idealize.ShloMosaic.Tactic Idealize.SL.Sem

variable (m : (ℓ : Loc nD τ sig) → Buf (Elt Ideal) ℓ) (c : Dev nD)

theorem at_a : ∀ t : Fin cfg0.N, win0_0.index t 0 = 0 ∧ win0_0.index t 1 = 0 := by decide +kernel
theorem at_b : ∀ t : Fin cfg0.N, win0_1.index t 0 = 0 ∧ win0_1.index t 1 = t.val := by decide +kernel
theorem at_o : ∀ t : Fin cfg0.N, win0_2.index t 0 = t.val ∧ win0_2.index t 1 = 0 ∧ win0_2.index t 2 = 0 := by decide +kernel

theorem blk_a (t : Fin cfg0.N) (r : Fin 2176) (q : Fin 1024) :
    iblk m c 0 t (ix2 r q) = m ((c : Thread nD τ).loc main_arg0) (ix2 r q) := by
  obtain ⟨e0, e1⟩ := at_a t
  blk_simp [iblk]
  congr 1
  blk_ext [e0, e1]

theorem blk_b (t : Fin cfg0.N) (r : Fin 2176) (q : Fin 256) (k : Fin 2048) (hk : k.val = t.val * 256 + q.val) :
    iblk m c 1 t (ix2 r q) = m ((c : Thread nD τ).loc main_arg1) (ix2 r k) := by
  obtain ⟨e0, e1⟩ := at_b t
  blk_simp [iblk]
  congr 1
  blk_ext [e0, e1]

/-- One entry of one block of the result. -/
theorem block_sum (x : Vec Ideal S2176x1024 .bf16) (y : Vec Ideal S2176x256 .bf16) (s : Fin 1) (p : Fin 1024) (q : Fin 256) :
    (out0_2 x y (ix3 s p q) : EReal) = ∑ r : Fin 2176, x (ix2 r p) * y (ix2 r q) := by
  unfold out0_2
  rw [View.canon_unit_zero (by decide), View.ld_unit_zero (by decide), View.ld_unit_zero (by decide)]
  unfold k0_pay1
  pointwise

/-- The column of a block's column. -/
def col (s : Fin 8) (q : Fin 256) : Fin 2048 := ⟨s.val * 256 + q.val, by have := s.isLt; have := q.isLt; omega⟩

/-- What both programs compute. -/
def total (a : Vec Ideal S2176x1024 .bf16) (b : Vec Ideal S2176x2048 .bf16) (s : Fin 8) (p : Fin 1024) (q : Fin 256) : EReal :=
  ∑ r : Fin 2176, a (ix2 r p) * b (ix2 r (col s q))

/-- One entry of the kernel's result. -/
theorem kernel_entry (s : Fin 8) (p : Fin 1024) (q : Fin 256) : ((dats m 0 c).arrAt 2 cfg0.N (ix3 s p q) : EReal)
    = total (m ((c : Thread nD τ).loc main_arg0)) (m ((c : Thread nD τ).loc main_arg1)) s p q := by
  refine Pipeline.Dat.arrAt_forall_of_covers (dat := dats m 0 c) 2 (fun (i : Shape.Idx ⟨3, ![8, 1024, 256]⟩) (x : EReal) =>
    x = total (m ((c : Thread nD τ).loc main_arg0)) (m ((c : Thread nD τ).loc main_arg1)) (i 0) (i 1) (i 2)) (by decide +kernel) (fun t _ y => ?_) (ix3 s p q)
  obtain ⟨e0, e1, e2⟩ := at_o t
  rw [after0_2]
  blk_simp [e0, e1, e2]
  idx_bounds y
  rw [show y = ix3 (y 0) (y 1) (y 2) from by funext a; fin_cases a <;> rfl]
  refine (block_sum _ _ _ _ _).trans (Finset.sum_congr rfl fun r _ => ?_)
  refine congrArg₂ (· * ·) ?_ (blk_b m c t r (y 2) _ ?_)
  · refine (blk_a m c t r (y 1)).trans (congrArg (fun z => m ((c : Thread nD τ).loc main_arg0) (ix2 r z)) (Fin.ext ?_))
    blk_simp [e1]
  · unfold col
    have h0 : (y 0).val = 0 := by have : (y 0).val < 1 := (y 0).isLt; omega
    blk_simp [e0, e2]

end Cert.ProjWgradIdeal.Sums

namespace Cert.ProjWgradRefIdeal.Sums

open Cert.ProjWgradRefIdeal Cert.ProjWgradRefIdeal.Gen Idealize.ShloMosaic Idealize.ShloMosaic.TcCoe Idealize.SL.Sem

/-- The argument arrays of the reference end as they began, and it has no counter. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩) (Value.run m ρ)

end Cert.ProjWgradRefIdeal.Sums

namespace Cert.ProjWgrad.Sums

open Idealize.ShloMosaic Idealize.ShloMosaic.TcCoe Idealize.ShloMosaic.Tactic Idealize.SL.Sem

/-- The frame of the kernel, spelled with the ideal program's text at bit patterns. -/
def AtBits : Prop :=
  ∀ (m : (ℓ : Loc ProjWgradIdeal.nD ProjWgradIdeal.τ ProjWgradIdeal.sig) → Buf (Elt Bits) ℓ) (g : Dev ProjWgradIdeal.nD → PrngReg), True →
    θ_run (ProjWgradIdeal.defs (F := Bits)) (onTc (τ := ProjWgradIdeal.τ) (ProjWgradIdeal.main (F := Bits))) ⟨m, fun _ => 0, g⟩ (fun r =>
      (∀ c : Dev ProjWgradIdeal.nD,
      r.2.mem ((c.tc : Thread ProjWgradIdeal.nD ProjWgradIdeal.τ).loc ProjWgradIdeal.main_arg0) = m ((c.tc : Thread ProjWgradIdeal.nD ProjWgradIdeal.τ).loc ProjWgradIdeal.main_arg0)
      ∧ r.2.mem ((c.tc : Thread ProjWgradIdeal.nD ProjWgradIdeal.τ).loc ProjWgradIdeal.main_arg1) = m ((c.tc : Thread ProjWgradIdeal.nD ProjWgradIdeal.τ).loc ProjWgradIdeal.main_arg1))
      ∧ r.2.sem = fun _ => 0)

theorem same_text : quiescent_ProjWgrad (hProjWgrad := ProjWgrad.Gen.facts) = AtBits := by sl_kernel_rfl

/-- The frame of the kernel. -/
theorem frame : quiescent_ProjWgrad (hProjWgrad := ProjWgrad.Gen.facts) :=
  same_text.mpr fun m g _ => ProjWgradIdeal.Gen.frame m g

/-- From equal arguments the two programs end with equal results. -/
theorem equal : algebraic_ProjWgradIdeal_ProjWgradRefIdeal (hProjWgradIdeal := ProjWgradIdeal.Gen.facts)
    (hProjWgradRefIdeal := ProjWgradRefIdeal.Gen.facts) := by
  intro m g m' g' _ he
  refine ⟨fun c => (ProjWgradIdeal.Gen.dats m 0 c).arrAt 2 ProjWgradIdeal.cfg0.N, ?_, ?_⟩
  · exact ProjWgradIdeal.Value.run_blocks m g
  · refine (θ_run _ _ _).mono (fun r h c => ⟨(h c).1.trans ?_, (h c).2⟩) (ProjWgradRefIdeal.Value.run m' g')
    funext j
    obtain ⟨s, p, q, rfl⟩ : ∃ (s : Fin 8) (p : Fin 1024) (q : Fin 256), j = ix3 s p q := ⟨j 0, j 1, j 2, eq_ix3 j⟩
    refine Eq.trans ?_ (ProjWgradIdeal.Sums.kernel_entry m c s p q).symm
    rw [(he c).1, (he c).2]
    pointwise
    exact Finset.sum_congr rfl fun x _ => mul_comm (G := EReal) _ _

end Cert.ProjWgrad.Sums

end
-- ==== Proof.NormGrad.lean ====
/- The gradient of a row through the norm, two ways: as the kernels write it and as the chain rule over the written norm
   gives it. They agree of every row of extended reals: the factor of the norm is a real number, not negative, and such a
   factor goes through a sum. -/
module

public import Idealize.ShloMosaic.PureOps.Ideal
public import Mathlib.Data.EReal.Operations
public import Mathlib.Data.EReal.Inv
public import Mathlib.Tactic.Ring
public import Mathlib.Tactic.NormNum
public import Mathlib.Tactic.FieldSimp
public import Mathlib.Tactic.Positivity

@[expose] public section

noncomputable section

namespace Cert.NormGrad

open Idealize.ShloMosaic

variable (x D g : Fin 1024 → EReal)

/-- The width, the guard and minus a half, as the programs write them. -/
def width : EReal := Ideal.ofBits .f32 1149239296#32
def guard : EReal := Ideal.ofBits .f32 897988541#32
def mhalf : EReal := Ideal.ofBits .f32 3204448256#32

theorem width_eq : width = ((1024 : ℝ) : EReal) := by
  simp [width, Ideal.ofBits, Ideal.ieee]
  rw [← EReal.coe_mul]
  norm_num
theorem mhalf_eq : mhalf = ((-(1 / 2) : ℝ) : EReal) := by
  simp [mhalf, Ideal.ofBits, Ideal.ieee]
  rw [← EReal.coe_mul]
  norm_num
theorem guard_eq : ∃ ε : ℝ, 0 < ε ∧ guard = (ε : EReal) := by
  refine ⟨_, ?_, by simp [guard, Ideal.ofBits, Ideal.ieee]; rfl⟩
  norm_num

/-- The guarded mean square of the row. -/
def square : EReal := Ideal.div (∑ q, x q * x q) width + guard

/-- The row's gradient as the kernels write it. -/
def own (d : EReal) (j : Fin 1024) : EReal :=
  d + Ideal.rsqrt (square x) * (D j * g j - x j * Ideal.rsqrt (square x)
    * Ideal.div (∑ q, D q * g q * (x q * Ideal.rsqrt (square x))) width)

/-- The part of the chain rule that goes through the mean square. -/
def through : EReal :=
  Ideal.div ((∑ q, x q * (D q * g q)) * (mhalf * Ideal.div (Ideal.rsqrt (square x)) (square x))) width

/-- The row's gradient as the chain rule writes it. -/
def chain (d : EReal) (j : Fin 1024) : EReal :=
  d + D j * g j * Ideal.rsqrt (square x) + x j * through x D g + through x D g * x j

/-- The factor of the norm is a real number that is not negative, and over the mean square it is its own cube. -/
theorem factor : ∃ r : ℝ, 0 ≤ r ∧ Ideal.rsqrt (square x) = (r : EReal)
    ∧ Ideal.div (Ideal.rsqrt (square x)) (square x) = ((r * r * r : ℝ) : EReal) := by
  obtain ⟨ε, hε, e⟩ := guard_eq
  have h0 : (0 : EReal) ≤ ∑ q, x q * x q := Finset.sum_nonneg fun q _ => by
    rcases le_total 0 (x q) with h | h
    · exact mul_nonneg h h
    · exact EReal.mul_nonneg_iff.mpr (Or.inr ⟨h, h⟩)
  unfold square
  rw [width_eq, Ideal.div_coe (by norm_num), e]
  generalize (∑ q, x q * x q) = s at h0
  induction s using EReal.rec with
  | bot => exact absurd h0 (by simp)
  | top =>
    have e1 : (⊤ : EReal) * ((1 / 1024 : ℝ) : EReal) = ⊤ := EReal.top_mul_coe_of_pos (by norm_num)
    refine ⟨0, le_refl _, ?_, ?_⟩
    · rw [e1]; simp
    · rw [e1]; simp [Ideal.div]
  | coe s =>
    have hs : (0 : ℝ) ≤ s := by exact_mod_cast h0
    have hq : 0 < s * (1 / 1024) + ε := by positivity
    rw [← EReal.coe_mul, ← EReal.coe_add]
    generalize s * (1 / 1024) + ε = q at hq
    have er : Ideal.rsqrt (q : EReal) = (((Real.sqrt q)⁻¹ : ℝ) : EReal) := by
      rw [Ideal.rsqrt_coe, if_neg (not_lt.mpr hq.le), if_neg hq.ne']
    refine ⟨(Real.sqrt q)⁻¹, by positivity, er, ?_⟩
    rw [er, Ideal.div_coe hq.ne', ← EReal.coe_mul]
    congr 1
    have hr : 0 < Real.sqrt q := Real.sqrt_pos.mpr hq
    have : Real.sqrt q * Real.sqrt q = q := Real.mul_self_sqrt hq.le
    field_simp
    nlinarith [this]

theorem real_mul_add {r : ℝ} (hr : 0 ≤ r) (y z : EReal) : (r : EReal) * (y + z) = r * y + r * z :=
  EReal.left_distrib_of_nonneg_of_ne_top (by exact_mod_cast hr) (EReal.coe_ne_top r) y z

theorem twice_mul (k : ℝ) (y : EReal) : ((k + k : ℝ) : EReal) * y = k * y + k * y := by
  rcases le_total 0 k with h | h
  · rw [EReal.coe_add, EReal.right_distrib_of_nonneg (by exact_mod_cast h) (by exact_mod_cast h)]
  · obtain ⟨l, rfl⟩ : ∃ l : ℝ, k = -l := ⟨-k, by ring⟩
    have hl : (0 : EReal) ≤ l := by exact_mod_cast (by linarith : 0 ≤ l)
    have e : ∀ a : ℝ, ((-a : ℝ) : EReal) * y = (a : EReal) * -y := fun a => by rw [EReal.coe_neg, EReal.neg_mul, mul_comm, mul_comm _ (-y), EReal.neg_mul]
    rw [show -l + -l = -(l + l) by ring, e, e, EReal.coe_add, EReal.right_distrib_of_nonneg hl hl]

theorem mul_sum_of_nonneg {r : ℝ} (hr : 0 ≤ r) (s : Finset (Fin 1024)) (f : Fin 1024 → EReal) :
    (r : EReal) * ∑ q ∈ s, f q = ∑ q ∈ s, (r : EReal) * f q := by
  classical
  induction s using Finset.induction_on with
  | empty => simp
  | insert a s ha ih => rw [Finset.sum_insert ha, Finset.sum_insert ha, real_mul_add hr, ih]

theorem own_eq_chain (d : EReal) (j : Fin 1024) : own x D g d j = chain x D g d j := by
  obtain ⟨r, hr, e1, e2⟩ := factor x
  unfold own chain through
  rw [e2, e1, width_eq, mhalf_eq, Ideal.div_coe (by norm_num), Ideal.div_coe (by norm_num)]
  have e3 : ∑ q, D q * g q * (x q * (r : EReal)) = (r : EReal) * ∑ q, x q * (D q * g q) := by
    rw [mul_sum_of_nonneg hr]
    exact Finset.sum_congr rfl fun q _ => by ac_rfl
  rw [e3, sub_eq_add_neg, real_mul_add hr]
  generalize (∑ q, x q * (D q * g q)) = S
  have e4 : (r : EReal) * -(x j * (r : EReal) * ((r : EReal) * S * ((1 / 1024 : ℝ) : EReal))) =
      x j * (S * (((-(1 / 2) : ℝ) : EReal) * ((r * r * r : ℝ) : EReal)) * ((1 / 1024 : ℝ) : EReal))
      + S * (((-(1 / 2) : ℝ) : EReal) * ((r * r * r : ℝ) : EReal)) * ((1 / 1024 : ℝ) : EReal) * x j := by
    have c1 : x j * (S * (((-(1 / 2) : ℝ) : EReal) * ((r * r * r : ℝ) : EReal)) * ((1 / 1024 : ℝ) : EReal))
        = ((-(1 / 2) * (r * r * r) * (1 / 1024) : ℝ) : EReal) * (x j * S) := by
      push_cast
      ac_rfl
    have c2 : S * (((-(1 / 2) : ℝ) : EReal) * ((r * r * r : ℝ) : EReal)) * ((1 / 1024 : ℝ) : EReal) * x j
        = ((-(1 / 2) * (r * r * r) * (1 / 1024) : ℝ) : EReal) * (x j * S) := by
      push_cast
      ac_rfl
    have c3 : (r : EReal) * -(x j * (r : EReal) * ((r : EReal) * S * ((1 / 1024 : ℝ) : EReal)))
        = ((-(r * r * r * (1 / 1024)) : ℝ) : EReal) * (x j * S) := by
      rw [EReal.coe_neg, EReal.neg_mul, mul_comm (r : EReal) (-_), EReal.neg_mul]
      congr 1
      push_cast
      ac_rfl
    rw [c1, c2, c3]
    have e5 : (-(r * r * r * (1 / 1024)) : ℝ) = -(1 / 2) * (r * r * r) * (1 / 1024) + -(1 / 2) * (r * r * r) * (1 / 1024) := by ring
    rw [e5, twice_mul]
  rw [e4, ← add_assoc, ← add_assoc, mul_comm (r : EReal) (D j * g j)]

end Cert.NormGrad

end
-- ==== Proof.UpGradVal.lean ====
/- The gradient through the up projection and the norm before it: the norm's input, the same in the narrower float, and
   the norm's scale, each entry a formula in the arguments; the scale's is a sum over all rows. -/
module

public import proofs.«01_k».proof.Defs
public import proofs.«01_k».proof.Proof.Gen.UpGrad
public import proofs.«01_k».proof.Proof.Gen.UpGradIdeal.Value
public import proofs.«01_k».proof.Proof.Gen.UpGradRefIdeal.Run
public import proofs.«01_k».proof.Proof.NormGrad
public import Idealize.ShloMosaic.Lib.Pipeline.ValueKit.Geometry
public import Idealize.ShloMosaic.Lib.Pipeline.ValueKit.Acc
public import Idealize.ShloMosaic.Lib.Pointwise
public import Idealize.ShloMosaic.Lib.StableHlo.ReadAt
public import Idealize.ShloMosaic.Lib.Tactic

@[expose] public section

noncomputable section

namespace Cert.UpGradIdeal.Rows

open Cert.UpGradIdeal Cert.UpGradIdeal.Gen Idealize.ShloMosaic Idealize.ShloMosaic.TcCoe Idealize.ShloMosaic.ValueKit
open Idealize.ShloMosaic.Tactic Idealize.SL.Sem

/-- A row of a matrix. -/
def row {n : ℕ} (h : Vec Ideal ⟨2, ![n, 1024]⟩ .f32) (i : Fin n) (q : Fin 1024) : EReal := h (ix2 i q)

/-- A row of the product's gradient, taken back through the weight. -/
def back (dy : Vec Ideal S2176x5632 .bf16) (w : Vec Ideal S1024x5632 .f32) (i : Fin 2176) (q : Fin 1024) : EReal :=
  ∑ x : Fin 5632, dy (ix2 i x) * w (ix2 q x)

/-- One entry of the gradient of the norm's input. -/
def entry (dres : Vec Ideal S2176x1024 .f32) (dy : Vec Ideal S2176x5632 .bf16) (w : Vec Ideal S1024x5632 .f32)
    (h : Vec Ideal S2176x1024 .f32) (g : Vec Ideal S1x1024 .f32) (i : Fin 2176) (q : Fin 1024) : EReal :=
  NormGrad.own (row h i) (back dy w i) (row g 0) (dres (ix2 i q)) q

/-- One entry of the gradient of the norm's scale. -/
def scale (dy : Vec Ideal S2176x5632 .bf16) (w : Vec Ideal S1024x5632 .f32) (h : Vec Ideal S2176x1024 .f32) (q : Fin 1024) : EReal :=
  ∑ i : Fin 2176, back dy w i q * (row h i q * Ideal.rsqrt (NormGrad.square (row h i)))

variable (m : (ℓ : Loc nD τ sig) → Buf (Elt Ideal) ℓ) (c : Dev nD)

theorem at_0 : ∀ t : Fin cfg0.N, win0_0.index t 0 = t.val ∧ win0_0.index t 1 = 0 := by decide +kernel
theorem at_1 : ∀ t : Fin cfg0.N, win0_1.index t 0 = t.val ∧ win0_1.index t 1 = 0 := by decide +kernel
theorem at_2 : ∀ t : Fin cfg0.N, win0_2.index t 0 = 0 ∧ win0_2.index t 1 = 0 := by decide +kernel
theorem at_3 : ∀ t : Fin cfg0.N, win0_3.index t 0 = t.val ∧ win0_3.index t 1 = 0 := by decide +kernel
theorem at_4 : ∀ t : Fin cfg0.N, win0_4.index t 0 = 0 ∧ win0_4.index t 1 = 0 := by decide +kernel
theorem at_5 : ∀ t : Fin cfg0.N, win0_5.index t 0 = t.val ∧ win0_5.index t 1 = 0 := by decide +kernel
theorem at_6 : ∀ t : Fin cfg0.N, win0_6.index t 0 = t.val ∧ win0_6.index t 1 = 0 := by decide +kernel
theorem at_7 : ∀ t : Fin cfg0.N, win0_7.index t 0 = 0 ∧ win0_7.index t 1 = 0 := by decide +kernel

/-- The weight as the kernel is given it. -/
theorem host_w (q : Fin 1024) (x : Fin 5632) : (V m c main_v1 (ix2 x q) : EReal) = (m ((c : Thread nD τ).loc main_arg2) (ix2 q x) : EReal) := by
  after_reads_simp
  try simp -implicitDefEqProofs only [StableHlo.TRef.toBuf, StableHlo.TRef.ofBuf, cast_cast, cast_eq, id_eq]
  clean_types
  pointwise

theorem blk_0 (t : Fin cfg0.N) (p : Fin 272) (q : Fin 1024) (i : Fin 2176) (hi : i.val = t.val * 272 + p.val) :
    (iblk m c 0 t (ix2 p q) : EReal) = m ((c : Thread nD τ).loc main_arg0) (ix2 i q) := by
  obtain ⟨e0, e1⟩ := at_0 t
  refine Eq.trans ?_ (congrFun (V_main_arg0 m c) (ix2 i q))
  blk_simp [iblk]
  congr 1
  blk_ext [e0, e1]

theorem blk_1 (t : Fin cfg0.N) (p : Fin 272) (x : Fin 5632) (i : Fin 2176) (hi : i.val = t.val * 272 + p.val) :
    (iblk m c 1 t (ix2 p x) : EReal) = m ((c : Thread nD τ).loc main_arg1) (ix2 i x) := by
  obtain ⟨e0, e1⟩ := at_1 t
  refine Eq.trans ?_ (congrFun (V_main_arg1 m c) (ix2 i x))
  blk_simp [iblk]
  congr 1
  blk_ext [e0, e1]

theorem blk_2 (t : Fin cfg0.N) (q : Fin 1024) (x : Fin 5632) :
    (iblk m c 2 t (ix2 x q) : EReal) = m ((c : Thread nD τ).loc main_arg2) (ix2 q x) := by
  obtain ⟨e0, e1⟩ := at_2 t
  rw [← host_w m c q x]
  blk_simp [iblk]
  congr 1
  blk_ext [e0, e1]

theorem blk_3 (t : Fin cfg0.N) (p : Fin 272) (q : Fin 1024) (i : Fin 2176) (hi : i.val = t.val * 272 + p.val) :
    (iblk m c 3 t (ix2 p q) : EReal) = m ((c : Thread nD τ).loc main_arg3) (ix2 i q) := by
  obtain ⟨e0, e1⟩ := at_3 t
  refine Eq.trans ?_ (congrFun (V_main_arg3 m c) (ix2 i q))
  blk_simp [iblk]
  congr 1
  blk_ext [e0, e1]

theorem blk_4 (t : Fin cfg0.N) (q : Fin 1024) :
    (iblk m c 4 t (ix2 (0 : Fin 1) q) : EReal) = m ((c : Thread nD τ).loc main_arg4) (ix2 (0 : Fin 1) q) := by
  obtain ⟨e0, e1⟩ := at_4 t
  refine Eq.trans ?_ (congrFun (V_main_arg4 m c) (ix2 (0 : Fin 1) q))
  blk_simp [iblk]
  congr 1
  blk_ext [e0, e1]

/-- One entry of the product of two blocks. -/
def product (v1 : Vec Ideal S272x5632 .bf16) (v2 : Vec Ideal S5632x1024 .bf16) (p : Fin 272) (q : Fin 1024) : EReal :=
  ∑ x : Fin 5632, v1 (ix2 p x) * v2 (ix2 x q)

/-- One entry of one block of the kernel's gradient of the norm's input. -/
theorem pay_entry (v0 : Vec Ideal S272x1024 .f32) (v1 : Vec Ideal S272x5632 .bf16) (v2 : Vec Ideal S5632x1024 .bf16)
    (v13 : Vec Ideal S1x1024 .f32) (v29 : Vec Ideal S272x1024 .f32) (p : Fin 272) (q : Fin 1024) :
    (k0_pay7 v0 v1 v2 v13 v29 (ix2 p q) : EReal)
      = NormGrad.own (row v0 p) (product v1 v2 p) (row v13 0) (v29 (ix2 p q)) q := by
  unfold k0_pay7 k0_pay5 k0_pay4 k0_pay3
  pointwise
  rfl

/-- The same entry, in the narrower float. -/
theorem pay_narrow (v0 : Vec Ideal S272x1024 .f32) (v1 : Vec Ideal S272x5632 .bf16) (v2 : Vec Ideal S5632x1024 .bf16)
    (v13 : Vec Ideal S1x1024 .f32) (v29 : Vec Ideal S272x1024 .f32) (j : S272x1024.Idx) :
    (k0_pay8 v0 v1 v2 v13 v29 j : EReal) = k0_pay7 v0 v1 v2 v13 v29 j := rfl

/-- What one block of rows adds to the gradient of the scale. -/
theorem pay_scale (v0 : Vec Ideal S272x1024 .f32) (v1 : Vec Ideal S272x5632 .bf16) (v2 : Vec Ideal S5632x1024 .bf16)
    (a : Vec Ideal S1x1024 .f32) (q : Fin 1024) :
    (k0_pay2 (k0_pay6 v0 v1 v2) a (ix2 (0 : Fin 1) q) : EReal)
      = a (ix2 (0 : Fin 1) q) + ∑ p : Fin 272, product v1 v2 p q
          * (row v0 p q * Ideal.rsqrt (NormGrad.square (row v0 p))) := by
  unfold k0_pay2 k0_pay6 k0_pay5 k0_pay4 k0_pay3
  pointwise
  rfl

theorem pay_zero (q : Fin 1024) : (k0_pay1 (F := Ideal) (ix2 (0 : Fin 1) q) : EReal) = 0 := by
  unfold k0_pay1
  pointwise

theorem rows_of (t : Fin cfg0.N) (p : Fin 272) (i : Fin 2176) (hi : i.val = t.val * 272 + p.val) :
    row (iblk m c 3 t) p = row (m ((c : Thread nD τ).loc main_arg3)) i := funext fun q => blk_3 m c t p q i hi

theorem back_of (t : Fin cfg0.N) (p : Fin 272) (i : Fin 2176) (hi : i.val = t.val * 272 + p.val) (q : Fin 1024) :
    product (iblk m c 1 t) (iblk m c 2 t) p q
      = back (m ((c : Thread nD τ).loc main_arg1)) (m ((c : Thread nD τ).loc main_arg2)) i q :=
  Finset.sum_congr rfl fun x _ => congrArg₂ (· * ·) (blk_1 m c t p x i hi) (blk_2 m c t q x)

/-- One entry of a block, in terms of the arguments. -/
theorem block_entry (t : Fin cfg0.N) (p : Fin 272) (q : Fin 1024) (i : Fin 2176) (j : Fin 1024) (hi : i.val = t.val * 272 + p.val)
    (hj : j.val = q.val) :
    (k0_pay7 (iblk m c 3 t) (iblk m c 1 t) (iblk m c 2 t) (iblk m c 4 t) (iblk m c 0 t) (ix2 p q) : EReal)
      = entry (m ((c : Thread nD τ).loc main_arg0)) (m ((c : Thread nD τ).loc main_arg1)) (m ((c : Thread nD τ).loc main_arg2))
          (m ((c : Thread nD τ).loc main_arg3)) (m ((c : Thread nD τ).loc main_arg4)) i j := by
  obtain rfl : j = q := Fin.ext hj
  refine (pay_entry _ _ _ _ _ p j).trans ?_
  unfold entry
  rw [rows_of m c t p i hi, funext (back_of m c t p i hi), blk_0 m c t p j i hi,
    show row (iblk m c 4 t) 0 = row (m ((c : Thread nD τ).loc main_arg4)) 0 from funext fun q => blk_4 m c t q]

theorem outs_5 (t : Fin cfg0.N) : (outsAt0 m c t.val t.isLt).1
    = k0_pay7 (iblk m c 3 t) (iblk m c 1 t) (iblk m c 2 t) (iblk m c 4 t) (iblk m c 0 t) := by
  by_cases h : t.val % 8 = 0
  · rw [outsAt0_A m c t h]; frame_out
  · rw [outsAt0_B m c t h]; frame_out

theorem outs_6 (t : Fin cfg0.N) : (outsAt0 m c t.val t.isLt).2.1
    = k0_pay8 (iblk m c 3 t) (iblk m c 1 t) (iblk m c 2 t) (iblk m c 4 t) (iblk m c 0 t) := by
  by_cases h : t.val % 8 = 0
  · rw [outsAt0_A m c t h]; frame_out
  · rw [outsAt0_B m c t h]; frame_out

/-- What a block of rows adds, by its number. -/
def part (t : Fin cfg0.N) (q : Fin 1024) : EReal :=
  ∑ p : Fin 272, product (iblk m c 1 t) (iblk m c 2 t) p q
    * (row (iblk m c 3 t) p q * Ideal.rsqrt (NormGrad.square (row (iblk m c 3 t) p)))

/-- After the last block the scale's gradient is whole. -/
theorem outs_7 (t : Fin cfg0.N) (ht : t.val + 1 = cfg0.N) (q : Fin 1024) :
    ((outsAt0 m c t.val t.isLt).2.2 (ix2 (0 : Fin 1) q) : EReal)
      = scale (m ((c : Thread nD τ).loc main_arg1)) (m ((c : Thread nD τ).loc main_arg2)) (m ((c : Thread nD τ).loc main_arg3)) q := by
  refine (Pipeline.eq_sum_fin_of_reset_step_apply_last (M := EReal) (fun n h (q : Fin 1024) => (outsAt0 m c n h).2.2 (ix2 (0 : Fin 1) q)) 8 (fun _ => 0)
    (part m c) (fun t h q => ?_) (fun t h q => ?_) (le_of_eq N_0) t ht q).trans ?_
  · rw [outsAt0_A m c t h]; frame_out
    refine (pay_scale _ _ _ _ q).trans ?_
    rw [pay_zero]
    rfl
  · rw [outsAt0_B m c t h]; frame_out
    exact pay_scale _ _ _ _ q
  · rw [zero_add]
    refine Fin.sum_mul_add_congr (S := 8) (n := 272) (L := 2176) fun s k hl => ?_
    rw [rows_of m c s k ⟨s.val * 272 + k.val, hl⟩ rfl, back_of m c s k ⟨s.val * 272 + k.val, hl⟩ rfl q]

/-- One entry of the kernel's first result. -/
theorem kernel_5 (i : Fin 2176) (q : Fin 1024) : ((dats m 0 c).arrAt 5 cfg0.N (ix2 i q) : EReal)
    = entry (m ((c : Thread nD τ).loc main_arg0)) (m ((c : Thread nD τ).loc main_arg1)) (m ((c : Thread nD τ).loc main_arg2))
        (m ((c : Thread nD τ).loc main_arg3)) (m ((c : Thread nD τ).loc main_arg4)) i q := by
  refine Pipeline.Dat.arrAt_forall_of_covers (dat := dats m 0 c) 5 (fun (j : Shape.Idx ⟨2, ![2176, 1024]⟩) (x : EReal) =>
    x = entry (m ((c : Thread nD τ).loc main_arg0)) (m ((c : Thread nD τ).loc main_arg1)) (m ((c : Thread nD τ).loc main_arg2))
        (m ((c : Thread nD τ).loc main_arg3)) (m ((c : Thread nD τ).loc main_arg4)) (j 0) (j 1)) (by decide +kernel) (fun t _ y => ?_) (ix2 i q)
  obtain ⟨e0, e1⟩ := at_5 t
  rw [after0_5, outs_5]
  blk_simp [e0, e1]
  idx_bounds y
  rw [show y = ix2 (y 0) (y 1) from by funext a; fin_cases a <;> rfl]
  refine block_entry m c t (y 0) (y 1) _ _ ?_ ?_
  · blk_simp [e0]
  · blk_simp [e1]

/-- One entry of the kernel's second result. -/
theorem kernel_6 (i : Fin 2176) (q : Fin 1024) : ((dats m 0 c).arrAt 6 cfg0.N (ix2 i q) : EReal)
    = entry (m ((c : Thread nD τ).loc main_arg0)) (m ((c : Thread nD τ).loc main_arg1)) (m ((c : Thread nD τ).loc main_arg2))
        (m ((c : Thread nD τ).loc main_arg3)) (m ((c : Thread nD τ).loc main_arg4)) i q := by
  refine Pipeline.Dat.arrAt_forall_of_covers (dat := dats m 0 c) 6 (fun (j : Shape.Idx ⟨2, ![2176, 1024]⟩) (x : EReal) =>
    x = entry (m ((c : Thread nD τ).loc main_arg0)) (m ((c : Thread nD τ).loc main_arg1)) (m ((c : Thread nD τ).loc main_arg2))
        (m ((c : Thread nD τ).loc main_arg3)) (m ((c : Thread nD τ).loc main_arg4)) (j 0) (j 1)) (by decide +kernel) (fun t _ y => ?_) (ix2 i q)
  obtain ⟨e0, e1⟩ := at_6 t
  rw [after0_6, outs_6]
  blk_simp [e0, e1]
  idx_bounds y
  rw [show y = ix2 (y 0) (y 1) from by funext a; fin_cases a <;> rfl]
  refine (pay_narrow _ _ _ _ _ _).trans (block_entry m c t (y 0) (y 1) _ _ ?_ ?_)
  · blk_simp [e0]
  · blk_simp [e1]

/-- One entry of the kernel's third result. -/
theorem kernel_7 (q : Fin 1024) : ((dats m 0 c).arrAt 7 cfg0.N (ix2 (0 : Fin 1) q) : EReal)
    = scale (m ((c : Thread nD τ).loc main_arg1)) (m ((c : Thread nD τ).loc main_arg2)) (m ((c : Thread nD τ).loc main_arg3)) q := by
  refine Pipeline.Dat.arrAt_forall_of_covers (dat := dats m 0 c) 7 (fun (j : Shape.Idx ⟨2, ![1, 1024]⟩) (x : EReal) =>
    x = scale (m ((c : Thread nD τ).loc main_arg1)) (m ((c : Thread nD τ).loc main_arg2)) (m ((c : Thread nD τ).loc main_arg3)) (j 1))
    (by decide +kernel) (fun t hf y => ?_) (ix2 (0 : Fin 1) q)
  obtain ⟨e0, e1⟩ := at_7 t
  have h7 := (flush0_7 t).mp hf
  have hN : cfg0.N = 8 := N_0
  have hl := t.isLt
  rw [after0_7]
  blk_simp [e0, e1]
  idx_bounds y
  rw [show y = ix2 (0 : Fin 1) (y 1) from by funext a; fin_cases a <;> first | rfl | exact Fin.ext (by show (y 0).val = 0; omega)]
  refine (outs_7 m c t (by omega) (y 1)).trans (congrArg _ (Fin.ext ?_))
  blk_simp [e1]

end Cert.UpGradIdeal.Rows

namespace Cert.UpGradRefIdeal.Rows

open Cert.UpGradRefIdeal Cert.UpGradRefIdeal.Gen Idealize.ShloMosaic Idealize.ShloMosaic.TcCoe Idealize.SL.Sem

/-- The argument arrays of the reference end as they began, and it has no counter. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2, Idealize.ShloMosaic.sem_eq_zero_of_no_sems (by decide) r.2⟩) (Value.run m ρ)

variable (m : (ℓ : Loc nD τ sig) → Buf (Elt Ideal) ℓ) (c : Dev nD)

/-- One entry of the reference's gradient of the norm's input. -/
theorem ref_entry (i : Fin 2176) (q : Fin 1024) : (Value.res_main_v40 m c (ix2 i q) : EReal)
    = UpGradIdeal.Rows.entry (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) i q := by
  refine Eq.trans ?_ (NormGrad.own_eq_chain _ _ _ _ q).symm
  unfold Value.res_main_v40
  pointwise
  simp only [Finset.univ_unique, Finset.sum_singleton]
  rfl

theorem ref_narrow (j : S2176x1024.Idx) : (Value.res_main_v42 m c j : EReal) = Value.res_main_v40 m c j := rfl

end Cert.UpGradRefIdeal.Rows

namespace Cert.UpGrad.Rows

open Idealize.ShloMosaic Idealize.ShloMosaic.TcCoe Idealize.ShloMosaic.Tactic Idealize.SL.Sem

/-- The frame of the kernel, spelled with the ideal program's text at bit patterns. -/
def AtBits : Prop :=
  ∀ (m : (ℓ : Loc UpGradIdeal.nD UpGradIdeal.τ UpGradIdeal.sig) → Buf (Elt Bits) ℓ) (g : Dev UpGradIdeal.nD → PrngReg), True →
    θ_run (UpGradIdeal.defs (F := Bits)) (onTc (τ := UpGradIdeal.τ) (UpGradIdeal.main (F := Bits))) ⟨m, fun _ => 0, g⟩ (fun r =>
      (∀ c : Dev UpGradIdeal.nD,
      r.2.mem ((c.tc : Thread UpGradIdeal.nD UpGradIdeal.τ).loc UpGradIdeal.main_arg0) = m ((c.tc : Thread UpGradIdeal.nD UpGradIdeal.τ).loc UpGradIdeal.main_arg0)
      ∧ r.2.mem ((c.tc : Thread UpGradIdeal.nD UpGradIdeal.τ).loc UpGradIdeal.main_arg1) = m ((c.tc : Thread UpGradIdeal.nD UpGradIdeal.τ).loc UpGradIdeal.main_arg1)
      ∧ r.2.mem ((c.tc : Thread UpGradIdeal.nD UpGradIdeal.τ).loc UpGradIdeal.main_arg2) = m ((c.tc : Thread UpGradIdeal.nD UpGradIdeal.τ).loc UpGradIdeal.main_arg2)
      ∧ r.2.mem ((c.tc : Thread UpGradIdeal.nD UpGradIdeal.τ).loc UpGradIdeal.main_arg3) = m ((c.tc : Thread UpGradIdeal.nD UpGradIdeal.τ).loc UpGradIdeal.main_arg3)
      ∧ r.2.mem ((c.tc : Thread UpGradIdeal.nD UpGradIdeal.τ).loc UpGradIdeal.main_arg4) = m ((c.tc : Thread UpGradIdeal.nD UpGradIdeal.τ).loc UpGradIdeal.main_arg4))
      ∧ r.2.sem = fun _ => 0)

theorem same_text : quiescent_UpGrad (hUpGrad := UpGrad.Gen.facts) = AtBits := by sl_kernel_rfl

/-- The frame of the kernel. -/
theorem frame : quiescent_UpGrad (hUpGrad := UpGrad.Gen.facts) :=
  same_text.mpr fun m g _ => UpGradIdeal.Gen.frame m g

/-- From equal arguments the two programs end with equal results. -/
theorem equal : algebraic_UpGradIdeal_UpGradRefIdeal (hUpGradIdeal := UpGradIdeal.Gen.facts)
    (hUpGradRefIdeal := UpGradRefIdeal.Gen.facts) := by
  intro m g m' g' _ he
  refine ⟨fun c => (UpGradIdeal.Gen.dats m 0 c).arrAt 5 UpGradIdeal.cfg0.N, fun c => (UpGradIdeal.Gen.dats m 0 c).arrAt 6 UpGradIdeal.cfg0.N,
    fun c => (UpGradIdeal.Gen.dats m 0 c).arrAt 7 UpGradIdeal.cfg0.N, ?_, ?_⟩
  · exact UpGradIdeal.Value.run_blocks m g
  · refine (θ_run _ _ _).mono (fun r h c => ⟨(h c).1.trans ?_, (h c).2.1.trans ?_, (h c).2.2.1.trans ?_, (h c).2.2.2⟩) (UpGradRefIdeal.Value.run m' g')
    · funext j
      obtain ⟨p, q, rfl⟩ : ∃ (p : Fin 2176) (q : Fin 1024), j = ix2 p q := ⟨j 0, j 1, eq_ix2 j⟩
      refine (UpGradRefIdeal.Rows.ref_entry m' c p q).trans (Eq.trans ?_ (UpGradIdeal.Rows.kernel_5 m c p q).symm)
      rw [(he c).1, (he c).2.1, (he c).2.2.1, (he c).2.2.2.1, (he c).2.2.2.2]
    · funext j
      obtain ⟨p, q, rfl⟩ : ∃ (p : Fin 2176) (q : Fin 1024), j = ix2 p q := ⟨j 0, j 1, eq_ix2 j⟩
      refine (UpGradRefIdeal.Rows.ref_narrow m' c _).trans ((UpGradRefIdeal.Rows.ref_entry m' c p q).trans (Eq.trans ?_ (UpGradIdeal.Rows.kernel_6 m c p q).symm))
      rw [(he c).1, (he c).2.1, (he c).2.2.1, (he c).2.2.2.1, (he c).2.2.2.2]
    · funext j
      obtain ⟨p, q, rfl⟩ : ∃ (p : Fin 1) (q : Fin 1024), j = ix2 p q := ⟨j 0, j 1, eq_ix2 j⟩
      obtain rfl : p = 0 := Subsingleton.elim _ _
      refine Eq.trans ?_ (UpGradIdeal.Rows.kernel_7 m c q).symm
      rw [← (he c).2.1, ← (he c).2.2.1, ← (he c).2.2.2.1]
      pointwise
      simp only [Finset.univ_unique, Finset.sum_singleton]
      exact Finset.sum_congr rfl fun i _ => mul_comm (G := EReal) _ _

end Cert.UpGrad.Rows

end
-- ==== Proof.ProjGradVal.lean ====
/- The gradient through the input projection and the norm before it: the norm's input, the same in the narrower float, and
   the norm's scale, each entry a formula in the arguments; the scale's is a sum over all rows. -/
module

public import proofs.«01_k».proof.Defs
public import proofs.«01_k».proof.Proof.Gen.ProjGrad
public import proofs.«01_k».proof.Proof.Gen.ProjGradIdeal.Value
public import proofs.«01_k».proof.Proof.Gen.ProjGradRefIdeal.Run
public import proofs.«01_k».proof.Proof.NormGrad
public import Idealize.ShloMosaic.Lib.Pipeline.ValueKit.Geometry
public import Idealize.ShloMosaic.Lib.Pipeline.ValueKit.Acc
public import Idealize.ShloMosaic.Lib.Pointwise
public import Idealize.ShloMosaic.Lib.StableHlo.ReadAt
public import Idealize.ShloMosaic.Lib.Tactic

@[expose] public section

noncomputable section

namespace Cert.ProjGradIdeal.Rows

open Cert.ProjGradIdeal Cert.ProjGradIdeal.Gen Idealize.ShloMosaic Idealize.ShloMosaic.TcCoe Idealize.ShloMosaic.ValueKit
open Idealize.ShloMosaic.Tactic Idealize.SL.Sem

/-- A row of a matrix. -/
def row {n : ℕ} (h : Vec Ideal ⟨2, ![n, 1024]⟩ .f32) (i : Fin n) (q : Fin 1024) : EReal := h (ix2 i q)

/-- A row of the product's gradient, taken back through the weight. -/
def back (dy : Vec Ideal S2176x2048 .bf16) (w : Vec Ideal S1024x2048 .f32) (i : Fin 2176) (q : Fin 1024) : EReal :=
  ∑ x : Fin 2048, dy (ix2 i x) * w (ix2 q x)

/-- One entry of the gradient of the norm's input. -/
def entry (dres : Vec Ideal S2176x1024 .f32) (dy : Vec Ideal S2176x2048 .bf16) (w : Vec Ideal S1024x2048 .f32)
    (h : Vec Ideal S2176x1024 .f32) (g : Vec Ideal S1x1024 .f32) (i : Fin 2176) (q : Fin 1024) : EReal :=
  NormGrad.own (row h i) (back dy w i) (row g 0) (dres (ix2 i q)) q

/-- One entry of the gradient of the norm's scale. -/
def scale (dy : Vec Ideal S2176x2048 .bf16) (w : Vec Ideal S1024x2048 .f32) (h : Vec Ideal S2176x1024 .f32) (q : Fin 1024) : EReal :=
  ∑ i : Fin 2176, back dy w i q * (row h i q * Ideal.rsqrt (NormGrad.square (row h i)))

variable (m : (ℓ : Loc nD τ sig) → Buf (Elt Ideal) ℓ) (c : Dev nD)

theorem at_0 : ∀ t : Fin cfg0.N, win0_0.index t 0 = t.val ∧ win0_0.index t 1 = 0 := by decide +kernel
theorem at_1 : ∀ t : Fin cfg0.N, win0_1.index t 0 = t.val ∧ win0_1.index t 1 = 0 := by decide +kernel
theorem at_2 : ∀ t : Fin cfg0.N, win0_2.index t 0 = 0 ∧ win0_2.index t 1 = 0 := by decide +kernel
theorem at_3 : ∀ t : Fin cfg0.N, win0_3.index t 0 = t.val ∧ win0_3.index t 1 = 0 := by decide +kernel
theorem at_4 : ∀ t : Fin cfg0.N, win0_4.index t 0 = 0 ∧ win0_4.index t 1 = 0 := by decide +kernel
theorem at_5 : ∀ t : Fin cfg0.N, win0_5.index t 0 = t.val ∧ win0_5.index t 1 = 0 := by decide +kernel
theorem at_6 : ∀ t : Fin cfg0.N, win0_6.index t 0 = t.val ∧ win0_6.index t 1 = 0 := by decide +kernel
theorem at_7 : ∀ t : Fin cfg0.N, win0_7.index t 0 = 0 ∧ win0_7.index t 1 = 0 := by decide +kernel

/-- The weight as the kernel is given it. -/
theorem host_w (q : Fin 1024) (x : Fin 2048) : (V m c main_v0 (ix2 q x) : EReal) = (m ((c : Thread nD τ).loc main_arg2) (ix2 q x) : EReal) := by
  after_reads_simp
  try simp -implicitDefEqProofs only [StableHlo.TRef.toBuf, StableHlo.TRef.ofBuf, cast_cast, cast_eq, id_eq]
  clean_types
  pointwise

theorem blk_0 (t : Fin cfg0.N) (p : Fin 272) (q : Fin 1024) (i : Fin 2176) (hi : i.val = t.val * 272 + p.val) :
    (iblk m c 0 t (ix2 p q) : EReal) = m ((c : Thread nD τ).loc main_arg0) (ix2 i q) := by
  obtain ⟨e0, e1⟩ := at_0 t
  refine Eq.trans ?_ (congrFun (V_main_arg0 m c) (ix2 i q))
  blk_simp [iblk]
  congr 1
  blk_ext [e0, e1]

theorem blk_1 (t : Fin cfg0.N) (p : Fin 272) (x : Fin 2048) (i : Fin 2176) (hi : i.val = t.val * 272 + p.val) :
    (iblk m c 1 t (ix2 p x) : EReal) = m ((c : Thread nD τ).loc main_arg1) (ix2 i x) := by
  obtain ⟨e0, e1⟩ := at_1 t
  refine Eq.trans ?_ (congrFun (V_main_arg1 m c) (ix2 i x))
  blk_simp [iblk]
  congr 1
  blk_ext [e0, e1]

theorem blk_2 (t : Fin cfg0.N) (q : Fin 1024) (x : Fin 2048) :
    (iblk m c 2 t (ix2 q x) : EReal) = m ((c : Thread nD τ).loc main_arg2) (ix2 q x) := by
  obtain ⟨e0, e1⟩ := at_2 t
  rw [← host_w m c q x]
  blk_simp [iblk]
  congr 1
  blk_ext [e0, e1]

theorem blk_3 (t : Fin cfg0.N) (p : Fin 272) (q : Fin 1024) (i : Fin 2176) (hi : i.val = t.val * 272 + p.val) :
    (iblk m c 3 t (ix2 p q) : EReal) = m ((c : Thread nD τ).loc main_arg3) (ix2 i q) := by
  obtain ⟨e0, e1⟩ := at_3 t
  refine Eq.trans ?_ (congrFun (V_main_arg3 m c) (ix2 i q))
  blk_simp [iblk]
  congr 1
  blk_ext [e0, e1]

theorem blk_4 (t : Fin cfg0.N) (q : Fin 1024) :
    (iblk m c 4 t (ix2 (0 : Fin 1) q) : EReal) = m ((c : Thread nD τ).loc main_arg4) (ix2 (0 : Fin 1) q) := by
  obtain ⟨e0, e1⟩ := at_4 t
  refine Eq.trans ?_ (congrFun (V_main_arg4 m c) (ix2 (0 : Fin 1) q))
  blk_simp [iblk]
  congr 1
  blk_ext [e0, e1]

/-- One entry of the product of two blocks. -/
def product (v1 : Vec Ideal S272x2048 .bf16) (v2 : Vec Ideal S1024x2048 .bf16) (p : Fin 272) (q : Fin 1024) : EReal :=
  ∑ x : Fin 2048, v1 (ix2 p x) * v2 (ix2 q x)

/-- One entry of one block of the kernel's gradient of the norm's input. -/
theorem pay_entry (v0 : Vec Ideal S272x1024 .f32) (v1 : Vec Ideal S272x2048 .bf16) (v2 : Vec Ideal S1024x2048 .bf16)
    (v13 : Vec Ideal S1x1024 .f32) (v29 : Vec Ideal S272x1024 .f32) (p : Fin 272) (q : Fin 1024) :
    (k0_pay7 v0 v1 v2 v13 v29 (ix2 p q) : EReal)
      = NormGrad.own (row v0 p) (product v1 v2 p) (row v13 0) (v29 (ix2 p q)) q := by
  unfold k0_pay7 k0_pay5 k0_pay4 k0_pay3
  pointwise
  rfl

/-- The same entry, in the narrower float. -/
theorem pay_narrow (v0 : Vec Ideal S272x1024 .f32) (v1 : Vec Ideal S272x2048 .bf16) (v2 : Vec Ideal S1024x2048 .bf16)
    (v13 : Vec Ideal S1x1024 .f32) (v29 : Vec Ideal S272x1024 .f32) (j : S272x1024.Idx) :
    (k0_pay8 v0 v1 v2 v13 v29 j : EReal) = k0_pay7 v0 v1 v2 v13 v29 j := rfl

/-- What one block of rows adds to the gradient of the scale. -/
theorem pay_scale (v0 : Vec Ideal S272x1024 .f32) (v1 : Vec Ideal S272x2048 .bf16) (v2 : Vec Ideal S1024x2048 .bf16)
    (a : Vec Ideal S1x1024 .f32) (q : Fin 1024) :
    (k0_pay2 (k0_pay6 v0 v1 v2) a (ix2 (0 : Fin 1) q) : EReal)
      = a (ix2 (0 : Fin 1) q) + ∑ p : Fin 272, product v1 v2 p q
          * (row v0 p q * Ideal.rsqrt (NormGrad.square (row v0 p))) := by
  unfold k0_pay2 k0_pay6 k0_pay5 k0_pay4 k0_pay3
  pointwise
  rfl

theorem pay_zero (q : Fin 1024) : (k0_pay1 (F := Ideal) (ix2 (0 : Fin 1) q) : EReal) = 0 := by
  unfold k0_pay1
  pointwise

theorem rows_of (t : Fin cfg0.N) (p : Fin 272) (i : Fin 2176) (hi : i.val = t.val * 272 + p.val) :
    row (iblk m c 3 t) p = row (m ((c : Thread nD τ).loc main_arg3)) i := funext fun q => blk_3 m c t p q i hi

theorem back_of (t : Fin cfg0.N) (p : Fin 272) (i : Fin 2176) (hi : i.val = t.val * 272 + p.val) (q : Fin 1024) :
    product (iblk m c 1 t) (iblk m c 2 t) p q
      = back (m ((c : Thread nD τ).loc main_arg1)) (m ((c : Thread nD τ).loc main_arg2)) i q :=
  Finset.sum_congr rfl fun x _ => congrArg₂ (· * ·) (blk_1 m c t p x i hi) (blk_2 m c t q x)

/-- One entry of a block, in terms of the arguments. -/
theorem block_entry (t : Fin cfg0.N) (p : Fin 272) (q : Fin 1024) (i : Fin 2176) (j : Fin 1024) (hi : i.val = t.val * 272 + p.val)
    (hj : j.val = q.val) :
    (k0_pay7 (iblk m c 3 t) (iblk m c 1 t) (iblk m c 2 t) (iblk m c 4 t) (iblk m c 0 t) (ix2 p q) : EReal)
      = entry (m ((c : Thread nD τ).loc main_arg0)) (m ((c : Thread nD τ).loc main_arg1)) (m ((c : Thread nD τ).loc main_arg2))
          (m ((c : Thread nD τ).loc main_arg3)) (m ((c : Thread nD τ).loc main_arg4)) i j := by
  obtain rfl : j = q := Fin.ext hj
  refine (pay_entry _ _ _ _ _ p j).trans ?_
  unfold entry
  rw [rows_of m c t p i hi, funext (back_of m c t p i hi), blk_0 m c t p j i hi,
    show row (iblk m c 4 t) 0 = row (m ((c : Thread nD τ).loc main_arg4)) 0 from funext fun q => blk_4 m c t q]

theorem outs_5 (t : Fin cfg0.N) : (outsAt0 m c t.val t.isLt).1
    = k0_pay7 (iblk m c 3 t) (iblk m c 1 t) (iblk m c 2 t) (iblk m c 4 t) (iblk m c 0 t) := by
  by_cases h : t.val % 8 = 0
  · rw [outsAt0_A m c t h]; frame_out
  · rw [outsAt0_B m c t h]; frame_out

theorem outs_6 (t : Fin cfg0.N) : (outsAt0 m c t.val t.isLt).2.1
    = k0_pay8 (iblk m c 3 t) (iblk m c 1 t) (iblk m c 2 t) (iblk m c 4 t) (iblk m c 0 t) := by
  by_cases h : t.val % 8 = 0
  · rw [outsAt0_A m c t h]; frame_out
  · rw [outsAt0_B m c t h]; frame_out

/-- What a block of rows adds, by its number. -/
def part (t : Fin cfg0.N) (q : Fin 1024) : EReal :=
  ∑ p : Fin 272, product (iblk m c 1 t) (iblk m c 2 t) p q
    * (row (iblk m c 3 t) p q * Ideal.rsqrt (NormGrad.square (row (iblk m c 3 t) p)))

/-- After the last block the scale's gradient is whole. -/
theorem outs_7 (t : Fin cfg0.N) (ht : t.val + 1 = cfg0.N) (q : Fin 1024) :
    ((outsAt0 m c t.val t.isLt).2.2 (ix2 (0 : Fin 1) q) : EReal)
      = scale (m ((c : Thread nD τ).loc main_arg1)) (m ((c : Thread nD τ).loc main_arg2)) (m ((c : Thread nD τ).loc main_arg3)) q := by
  refine (Pipeline.eq_sum_fin_of_reset_step_apply_last (M := EReal) (fun n h (q : Fin 1024) => (outsAt0 m c n h).2.2 (ix2 (0 : Fin 1) q)) 8 (fun _ => 0)
    (part m c) (fun t h q => ?_) (fun t h q => ?_) (le_of_eq N_0) t ht q).trans ?_
  · rw [outsAt0_A m c t h]; frame_out
    refine (pay_scale _ _ _ _ q).trans ?_
    rw [pay_zero]
    rfl
  · rw [outsAt0_B m c t h]; frame_out
    exact pay_scale _ _ _ _ q
  · rw [zero_add]
    refine Fin.sum_mul_add_congr (S := 8) (n := 272) (L := 2176) fun s k hl => ?_
    rw [rows_of m c s k ⟨s.val * 272 + k.val, hl⟩ rfl, back_of m c s k ⟨s.val * 272 + k.val, hl⟩ rfl q]

/-- One entry of the kernel's first result. -/
theorem kernel_5 (i : Fin 2176) (q : Fin 1024) : ((dats m 0 c).arrAt 5 cfg0.N (ix2 i q) : EReal)
    = entry (m ((c : Thread nD τ).loc main_arg0)) (m ((c : Thread nD τ).loc main_arg1)) (m ((c : Thread nD τ).loc main_arg2))
        (m ((c : Thread nD τ).loc main_arg3)) (m ((c : Thread nD τ).loc main_arg4)) i q := by
  refine Pipeline.Dat.arrAt_forall_of_covers (dat := dats m 0 c) 5 (fun (j : Shape.Idx ⟨2, ![2176, 1024]⟩) (x : EReal) =>
    x = entry (m ((c : Thread nD τ).loc main_arg0)) (m ((c : Thread nD τ).loc main_arg1)) (m ((c : Thread nD τ).loc main_arg2))
        (m ((c : Thread nD τ).loc main_arg3)) (m ((c : Thread nD τ).loc main_arg4)) (j 0) (j 1)) (by decide +kernel) (fun t _ y => ?_) (ix2 i q)
  obtain ⟨e0, e1⟩ := at_5 t
  rw [after0_5, outs_5]
  blk_simp [e0, e1]
  idx_bounds y
  rw [show y = ix2 (y 0) (y 1) from by funext a; fin_cases a <;> rfl]
  refine block_entry m c t (y 0) (y 1) _ _ ?_ ?_
  · blk_simp [e0]
  · blk_simp [e1]

/-- One entry of the kernel's second result. -/
theorem kernel_6 (i : Fin 2176) (q : Fin 1024) : ((dats m 0 c).arrAt 6 cfg0.N (ix2 i q) : EReal)
    = entry (m ((c : Thread nD τ).loc main_arg0)) (m ((c : Thread nD τ).loc main_arg1)) (m ((c : Thread nD τ).loc main_arg2))
        (m ((c : Thread nD τ).loc main_arg3)) (m ((c : Thread nD τ).loc main_arg4)) i q := by
  refine Pipeline.Dat.arrAt_forall_of_covers (dat := dats m 0 c) 6 (fun (j : Shape.Idx ⟨2, ![2176, 1024]⟩) (x : EReal) =>
    x = entry (m ((c : Thread nD τ).loc main_arg0)) (m ((c : Thread nD τ).loc main_arg1)) (m ((c : Thread nD τ).loc main_arg2))
        (m ((c : Thread nD τ).loc main_arg3)) (m ((c : Thread nD τ).loc main_arg4)) (j 0) (j 1)) (by decide +kernel) (fun t _ y => ?_) (ix2 i q)
  obtain ⟨e0, e1⟩ := at_6 t
  rw [after0_6, outs_6]
  blk_simp [e0, e1]
  idx_bounds y
  rw [show y = ix2 (y 0) (y 1) from by funext a; fin_cases a <;> rfl]
  refine (pay_narrow _ _ _ _ _ _).trans (block_entry m c t (y 0) (y 1) _ _ ?_ ?_)
  · blk_simp [e0]
  · blk_simp [e1]

/-- One entry of the kernel's third result. -/
theorem kernel_7 (q : Fin 1024) : ((dats m 0 c).arrAt 7 cfg0.N (ix2 (0 : Fin 1) q) : EReal)
    = scale (m ((c : Thread nD τ).loc main_arg1)) (m ((c : Thread nD τ).loc main_arg2)) (m ((c : Thread nD τ).loc main_arg3)) q := by
  refine Pipeline.Dat.arrAt_forall_of_covers (dat := dats m 0 c) 7 (fun (j : Shape.Idx ⟨2, ![1, 1024]⟩) (x : EReal) =>
    x = scale (m ((c : Thread nD τ).loc main_arg1)) (m ((c : Thread nD τ).loc main_arg2)) (m ((c : Thread nD τ).loc main_arg3)) (j 1))
    (by decide +kernel) (fun t hf y => ?_) (ix2 (0 : Fin 1) q)
  obtain ⟨e0, e1⟩ := at_7 t
  have h7 := (flush0_7 t).mp hf
  have hN : cfg0.N = 8 := N_0
  have hl := t.isLt
  rw [after0_7]
  blk_simp [e0, e1]
  idx_bounds y
  rw [show y = ix2 (0 : Fin 1) (y 1) from by funext a; fin_cases a <;> first | rfl | exact Fin.ext (by show (y 0).val = 0; omega)]
  refine (outs_7 m c t (by omega) (y 1)).trans (congrArg _ (Fin.ext ?_))
  blk_simp [e1]

end Cert.ProjGradIdeal.Rows

namespace Cert.ProjGradRefIdeal.Rows

open Cert.ProjGradRefIdeal Cert.ProjGradRefIdeal.Gen Idealize.ShloMosaic Idealize.ShloMosaic.TcCoe Idealize.SL.Sem

/-- The argument arrays of the reference end as they began, and it has no counter. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2, Idealize.ShloMosaic.sem_eq_zero_of_no_sems (by decide) r.2⟩) (Value.run m ρ)

variable (m : (ℓ : Loc nD τ sig) → Buf (Elt Ideal) ℓ) (c : Dev nD)

/-- One entry of the reference's gradient of the norm's input. -/
theorem ref_entry (i : Fin 2176) (q : Fin 1024) : (Value.res_main_v40 m c (ix2 i q) : EReal)
    = ProjGradIdeal.Rows.entry (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) i q := by
  refine Eq.trans ?_ (NormGrad.own_eq_chain _ _ _ _ q).symm
  unfold Value.res_main_v40
  pointwise
  simp only [Finset.univ_unique, Finset.sum_singleton]
  rfl

theorem ref_narrow (j : S2176x1024.Idx) : (Value.res_main_v42 m c j : EReal) = Value.res_main_v40 m c j := rfl

end Cert.ProjGradRefIdeal.Rows

namespace Cert.ProjGrad.Rows

open Idealize.ShloMosaic Idealize.ShloMosaic.TcCoe Idealize.ShloMosaic.Tactic Idealize.SL.Sem

/-- The frame of the kernel, spelled with the ideal program's text at bit patterns. -/
def AtBits : Prop :=
  ∀ (m : (ℓ : Loc ProjGradIdeal.nD ProjGradIdeal.τ ProjGradIdeal.sig) → Buf (Elt Bits) ℓ) (g : Dev ProjGradIdeal.nD → PrngReg), True →
    θ_run (ProjGradIdeal.defs (F := Bits)) (onTc (τ := ProjGradIdeal.τ) (ProjGradIdeal.main (F := Bits))) ⟨m, fun _ => 0, g⟩ (fun r =>
      (∀ c : Dev ProjGradIdeal.nD,
      r.2.mem ((c.tc : Thread ProjGradIdeal.nD ProjGradIdeal.τ).loc ProjGradIdeal.main_arg0) = m ((c.tc : Thread ProjGradIdeal.nD ProjGradIdeal.τ).loc ProjGradIdeal.main_arg0)
      ∧ r.2.mem ((c.tc : Thread ProjGradIdeal.nD ProjGradIdeal.τ).loc ProjGradIdeal.main_arg1) = m ((c.tc : Thread ProjGradIdeal.nD ProjGradIdeal.τ).loc ProjGradIdeal.main_arg1)
      ∧ r.2.mem ((c.tc : Thread ProjGradIdeal.nD ProjGradIdeal.τ).loc ProjGradIdeal.main_arg2) = m ((c.tc : Thread ProjGradIdeal.nD ProjGradIdeal.τ).loc ProjGradIdeal.main_arg2)
      ∧ r.2.mem ((c.tc : Thread ProjGradIdeal.nD ProjGradIdeal.τ).loc ProjGradIdeal.main_arg3) = m ((c.tc : Thread ProjGradIdeal.nD ProjGradIdeal.τ).loc ProjGradIdeal.main_arg3)
      ∧ r.2.mem ((c.tc : Thread ProjGradIdeal.nD ProjGradIdeal.τ).loc ProjGradIdeal.main_arg4) = m ((c.tc : Thread ProjGradIdeal.nD ProjGradIdeal.τ).loc ProjGradIdeal.main_arg4))
      ∧ r.2.sem = fun _ => 0)

theorem same_text : quiescent_ProjGrad (hProjGrad := ProjGrad.Gen.facts) = AtBits := by sl_kernel_rfl

/-- The frame of the kernel. -/
theorem frame : quiescent_ProjGrad (hProjGrad := ProjGrad.Gen.facts) :=
  same_text.mpr fun m g _ => ProjGradIdeal.Gen.frame m g

/-- From equal arguments the two programs end with equal results. -/
theorem equal : algebraic_ProjGradIdeal_ProjGradRefIdeal (hProjGradIdeal := ProjGradIdeal.Gen.facts)
    (hProjGradRefIdeal := ProjGradRefIdeal.Gen.facts) := by
  intro m g m' g' _ he
  refine ⟨fun c => (ProjGradIdeal.Gen.dats m 0 c).arrAt 5 ProjGradIdeal.cfg0.N, fun c => (ProjGradIdeal.Gen.dats m 0 c).arrAt 6 ProjGradIdeal.cfg0.N,
    fun c => (ProjGradIdeal.Gen.dats m 0 c).arrAt 7 ProjGradIdeal.cfg0.N, ?_, ?_⟩
  · exact ProjGradIdeal.Value.run_blocks m g
  · refine (θ_run _ _ _).mono (fun r h c => ⟨(h c).1.trans ?_, (h c).2.1.trans ?_, (h c).2.2.1.trans ?_, (h c).2.2.2⟩) (ProjGradRefIdeal.Value.run m' g')
    · funext j
      obtain ⟨p, q, rfl⟩ : ∃ (p : Fin 2176) (q : Fin 1024), j = ix2 p q := ⟨j 0, j 1, eq_ix2 j⟩
      refine (ProjGradRefIdeal.Rows.ref_entry m' c p q).trans (Eq.trans ?_ (ProjGradIdeal.Rows.kernel_5 m c p q).symm)
      rw [(he c).1, (he c).2.1, (he c).2.2.1, (he c).2.2.2.1, (he c).2.2.2.2]
    · funext j
      obtain ⟨p, q, rfl⟩ : ∃ (p : Fin 2176) (q : Fin 1024), j = ix2 p q := ⟨j 0, j 1, eq_ix2 j⟩
      refine (ProjGradRefIdeal.Rows.ref_narrow m' c _).trans ((ProjGradRefIdeal.Rows.ref_entry m' c p q).trans (Eq.trans ?_ (ProjGradIdeal.Rows.kernel_6 m c p q).symm))
      rw [(he c).1, (he c).2.1, (he c).2.2.1, (he c).2.2.2.1, (he c).2.2.2.2]
    · funext j
      obtain ⟨p, q, rfl⟩ : ∃ (p : Fin 1) (q : Fin 1024), j = ix2 p q := ⟨j 0, j 1, eq_ix2 j⟩
      obtain rfl : p = 0 := Subsingleton.elim _ _
      refine Eq.trans ?_ (ProjGradIdeal.Rows.kernel_7 m c q).symm
      rw [← (he c).2.1, ← (he c).2.2.1, ← (he c).2.2.2.1]
      pointwise
      simp only [Finset.univ_unique, Finset.sum_singleton]
      exact Finset.sum_congr rfl fun i _ => mul_comm (G := EReal) _ _

end Cert.ProjGrad.Rows

end
-- ==== Proof.DownLossVal.lean ====
/- The down projection's product, the loss after it and its gradient: the gradient of the norm's input, the same in the
   narrower float, the loss and the gradient of the norm's scale, each entry a formula in the arguments. The kernel goes
   through the rows in segment order; the loss and the scale's gradient are sums over all rows. -/
module

public import proofs.«01_k».proof.Defs
public import proofs.«01_k».proof.Proof.Gen.DownLoss
public import proofs.«01_k».proof.Proof.Gen.DownLossIdeal.Value
public import proofs.«01_k».proof.Proof.Gen.DownLossRefIdeal.Run
public import proofs.«01_k».proof.Proof.NormGrad
public import Idealize.ShloMosaic.Lib.Pipeline.ValueKit.Geometry
public import Idealize.ShloMosaic.Lib.Pipeline.ValueKit.Acc
public import Idealize.ShloMosaic.Lib.Pointwise
public import Idealize.ShloMosaic.Lib.StableHlo.ReadAt
public import Idealize.ShloMosaic.Lib.Tactic

@[expose] public section

noncomputable section

namespace Cert.DownLossIdeal.Rows

open Cert.DownLossIdeal Cert.DownLossIdeal.Gen Idealize.ShloMosaic Idealize.ShloMosaic.TcCoe Idealize.ShloMosaic.ValueKit
open Idealize.ShloMosaic.Tactic Idealize.SL.Sem

/-- The row, in the order of time, that is at place `r` of the segment order. -/
def turn (r : Fin 2176) : Fin 2176 := ⟨r.val % 8 * 272 + r.val / 8, by omega⟩
/-- The place, in the segment order, of row `r` in the order of time. -/
def unturn (r : Fin 2176) : Fin 2176 := ⟨r.val % 272 * 8 + r.val / 272, by omega⟩

/-- A sum over the rows may be taken in either order. -/
theorem sum_turn (f : Fin 2176 → EReal) : ∑ r, f (turn r) = ∑ r, f r :=
  Fintype.sum_equiv ⟨turn, unturn, fun r => Fin.ext (by simp only [turn, unturn]; omega), fun r => Fin.ext (by simp only [turn, unturn]; omega)⟩ _ _
    fun _ => rfl

/-- One over the width, a half and two, as the programs write them. -/
def unit : EReal := Ideal.ofBits .f32 981467136#32
def half : EReal := Ideal.ofBits .f32 1056964608#32
def two : EReal := Ideal.ofBits .f32 1073741824#32

theorem unit_eq : unit = ((1 / 1024 : ℝ) : EReal) := by
  simp [unit, Ideal.ofBits, Ideal.ieee]
  rw [← EReal.coe_mul]
  norm_num
theorem half_eq : half = ((1 / 2 : ℝ) : EReal) := by
  simp [half, Ideal.ofBits, Ideal.ieee]
  rw [← EReal.coe_mul]
  norm_num
theorem two_eq : two = ((2 : ℝ) : EReal) := by
  simp [two, Ideal.ofBits, Ideal.ieee]
  rw [← EReal.coe_mul]
  norm_num

/-- The slope of a half of a mean of squares: twice the entry, times a half of one over the width. -/
theorem slope (e : EReal) : Ideal.div half NormGrad.width * (two * e) = e * unit := by
  rw [half_eq, two_eq, unit_eq, NormGrad.width_eq, Ideal.div_coe (by norm_num), ← EReal.coe_mul, ← mul_assoc, ← EReal.coe_mul, mul_comm]
  norm_num

/-- A half goes through a sum. -/
theorem half_sum {n : ℕ} (f : Fin n → EReal) : half * ∑ q, f q = ∑ q, half * f q := by
  rw [half_eq]
  induction n with
  | zero => simp
  | succ n ih => rw [Fin.sum_univ_succ, Fin.sum_univ_succ, NormGrad.real_mul_add (by norm_num), ih]

/-- A row of a matrix. -/
def row {n : ℕ} (h : Vec Ideal ⟨2, ![n, 1024]⟩ .f32) (i : Fin n) (q : Fin 1024) : EReal := h (ix2 i q)

/-- A row of the norm's input: what came before, and the product. -/
def input {n : ℕ} (a : Vec Ideal ⟨2, ![n, 2816]⟩ .bf16) {f : FTy} (w : FVec Ideal S2816x1024 f) (h : Vec Ideal ⟨2, ![n, 1024]⟩ .f32)
    (i : Fin n) (q : Fin 1024) : EReal :=
  h (ix2 i q) + ∑ x : Fin 2816, (a (ix2 i x) : EReal) * (w (ix2 x q) : EReal)

/-- A row after the norm. -/
def normed (x g : Fin 1024 → EReal) (q : Fin 1024) : EReal := x q * Ideal.rsqrt (NormGrad.square x) * g q

/-- One entry of the errors: of the rows that the loss is over, the normed row less the target; of the others, none. -/
def miss (a : Vec Ideal S2176x2816 .bf16) (w : Vec Ideal S2816x1024 .f32) (h : Vec Ideal S2176x1024 .f32) (y : Vec Ideal S2048x1024 .f32)
    (g : Vec Ideal S1x1024 .f32) (i : Fin 2176) (q : Fin 1024) : EReal :=
  if hi : 16 ≤ i.val ∧ i.val < 2064 then normed (input (f := .f32) a w h i) (row g 0) q - y (ix2 ⟨i.val - 16, by omega⟩ q) else 0

/-- One entry of the gradient of the norm's input. -/
def entry (a : Vec Ideal S2176x2816 .bf16) (w : Vec Ideal S2816x1024 .f32) (h : Vec Ideal S2176x1024 .f32) (y : Vec Ideal S2048x1024 .f32)
    (g : Vec Ideal S1x1024 .f32) (i : Fin 2176) (q : Fin 1024) : EReal :=
  NormGrad.own (input (f := .f32) a w h i) (fun q => miss a w h y g i q * unit) (row g 0) 0 q

/-- The loss. -/
def loss (a : Vec Ideal S2176x2816 .bf16) (w : Vec Ideal S2816x1024 .f32) (h : Vec Ideal S2176x1024 .f32) (y : Vec Ideal S2048x1024 .f32)
    (g : Vec Ideal S1x1024 .f32) : EReal :=
  half * ∑ i : Fin 2176, Ideal.div (∑ q : Fin 1024, miss a w h y g i q * miss a w h y g i q) NormGrad.width

/-- One entry of the gradient of the norm's scale. -/
def scale (a : Vec Ideal S2176x2816 .bf16) (w : Vec Ideal S2816x1024 .f32) (h : Vec Ideal S2176x1024 .f32) (y : Vec Ideal S2048x1024 .f32)
    (g : Vec Ideal S1x1024 .f32) (q : Fin 1024) : EReal :=
  ∑ i : Fin 2176, miss a w h y g i q * unit * (input (f := .f32) a w h i q * Ideal.rsqrt (NormGrad.square (input (f := .f32) a w h i)))

/-- The sum of the loss, of the rows that it is over. -/
theorem loss_kept (a : Vec Ideal S2176x2816 .bf16) (w : Vec Ideal S2816x1024 .f32) (h : Vec Ideal S2176x1024 .f32) (y : Vec Ideal S2048x1024 .f32)
    (g : Vec Ideal S1x1024 .f32) : half * ∑ j : Fin 2048, Ideal.div (∑ q : Fin 1024,
        (normed (input (f := .f32) a w h ⟨16 + j.val, by omega⟩) (row g 0) q - y (ix2 j q))
        * (normed (input (f := .f32) a w h ⟨16 + j.val, by omega⟩) (row g 0) q - y (ix2 j q))) NormGrad.width = loss a w h y g := by
  unfold loss
  refine congrArg (half * ·) ?_
  refine Finset.sum_of_injOn (fun j : Fin 2048 => (⟨16 + j.val, by omega⟩ : Fin 2176)) ?_ ?_ ?_ ?_
  · intro j _ j' _ e
    have := congrArg Fin.val e
    exact Fin.ext (by dsimp only at this; omega)
  · intro j _
    exact Finset.mem_coe.mpr (Finset.mem_univ _)
  · intro i _ hi
    have hn : ¬(16 ≤ i.val ∧ i.val < 2064) := fun hk => hi ⟨⟨i.val - 16, by omega⟩, Finset.mem_coe.mpr (Finset.mem_univ _), Fin.ext (by dsimp only; omega)⟩
    unfold miss
    rw [NormGrad.width_eq, Ideal.div_coe (by norm_num)]
    simp [hn]
  · intro j _
    have hk : 16 ≤ 16 + j.val ∧ 16 + j.val < 2064 := by omega
    unfold miss
    simp only [dif_pos hk, Nat.add_sub_cancel_left]

variable (m : (ℓ : Loc nD τ sig) → Buf (Elt Ideal) ℓ) (c : Dev nD)

theorem host_a (r : Fin 2176) (x : Fin 2816) : (V m c main_v6 (ix2 r x) : EReal) = m ((c : Thread nD τ).loc main_arg0) (ix2 (turn r) x) := by
  after_reads_at
  rfl
theorem host_w (x : Fin 2816) (q : Fin 1024) : (V m c main_v7 (ix2 x q) : EReal) = m ((c : Thread nD τ).loc main_arg1) (ix2 x q) := by
  after_reads_at
theorem host_h (r : Fin 2176) (q : Fin 1024) : (V m c main_v10 (ix2 r q) : EReal) = m ((c : Thread nD τ).loc main_arg2) (ix2 (turn r) q) := by
  after_reads_at
  rfl
theorem host_t (r : Fin 2176) (q : Fin 1024) (hr : 16 ≤ (turn r).val ∧ (turn r).val < 2064) :
    (V m c main_v3 (ix2 r q) : EReal) = m ((c : Thread nD τ).loc main_arg3) (ix2 ⟨(turn r).val - 16, by omega⟩ q) := by
  after_reads_at
  exact dif_pos ⟨hr.1, by have := hr.2; unfold turn at this; dsimp only at this; omega⟩

/-- Eight, as the programs write the divisor. -/
def eight : BitVec 32 := Scalar.select (Scalar.cmpi .eq 8#32 0#32) 1#32 8#32
/-- The segment of a row, as the kernel computes it. -/
def segment (x : BitVec 32) : BitVec 32 :=
  Scalar.select (IntOp.andi (IntOp.xori (IntOp.cmpi .slt (IntOp.remsi .vector x eight) 0#32) (Scalar.cmpi .slt eight 0#32))
    (IntOp.cmpi .ne (IntOp.remsi .vector x eight) 0#32)) (IntOp.addi (IntOp.remsi .vector x eight) eight) (IntOp.remsi .vector x eight)
/-- The place of a row in its segment, as the kernel computes it. -/
def within (x : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt 8#32 0#32)) (Scalar.extui (Scalar.cmpi .slt 8#32 0#32))))
    (IntOp.cmpi .ne (IntOp.remsi .vector x 8#32) 0#32)) (IntOp.subi (IntOp.divsi .vector x 8#32) 1#32) (IntOp.divsi .vector x 8#32)
/-- Whether the loss is over a row, as the kernel computes it. -/
def mask (x : BitVec 32) : BitVec 1 :=
  IntOp.andi (IntOp.cmpi .sge (IntOp.addi (IntOp.muli (segment x) 272#32) (within x)) 16#32)
    (IntOp.cmpi .slt (IntOp.addi (IntOp.muli (segment x) 272#32) (within x)) 2064#32)

theorem mask_eq : ∀ (t : Fin 8) (p : Fin 272), mask (IntOp.addi (Scalar.muli (BitVec.ofNat 32 t.val) 272#32) (BitVec.ofNat 32 p.val))
    = if 16 ≤ (turn ⟨t.val * 272 + p.val, by omega⟩).val ∧ (turn ⟨t.val * 272 + p.val, by omega⟩).val < 2064 then 1#1 else 0#1 := by
  decide +kernel

theorem at_t : ∀ t : Fin cfg0.N, (grid0.coords t 0).val = t.val := by decide +kernel

/-- One entry of one block of the errors. -/
theorem pay_miss (t : Fin 8) (i : grid0.Coords) (hi : (i 0).val = t.val) (v20 v73 : Vec Ideal S272x1024 .f32) (p : Fin 272) (q : Fin 1024)
    (r : Fin 2176) (hr : r.val = t.val * 272 + p.val) :
    (k0_pay8 v20 (k0_pay4 i) (k0_pay5 i) (k0_pay6 i) (k0_pay7 i) v73 (ix2 p q) : EReal)
      = if 16 ≤ (turn r).val ∧ (turn r).val < 2064 then (v20 (ix2 p q) : EReal) - v73 (ix2 p q) else 0 := by
  unfold k0_pay8 k0_pay7 k0_pay6 k0_pay5 k0_pay4
  pointwise
  rw [hi]
  have hb : t.val * 272 + p.val < 2176 := by omega
  obtain rfl : r = ⟨t.val * 272 + p.val, hb⟩ := Fin.ext hr
  refine (congrArg (fun b : BitVec 1 => Scalar.select b (v20 (ix2 p q) - v73 (ix2 p q) : EReal) 0) (mask_eq t p)).trans ?_
  split
  · rfl
  · rfl

theorem pay_input (v0 : Vec Ideal S272x1024 .f32) (v2 : Vec Ideal S272x2816 .bf16) (v4 : Vec Ideal S2816x1024 .bf16) (p : Fin 272) (q : Fin 1024) :
    (k0_pay1 v0 v2 v4 (ix2 p q) : EReal) = input (f := .bf16) v2 v4 v0 p q := by
  unfold k0_pay1
  pointwise
  rfl

theorem pay_factor (v0 : Vec Ideal S272x1024 .f32) (v2 : Vec Ideal S272x2816 .bf16) (v4 : Vec Ideal S2816x1024 .bf16) (p : Fin 272) :
    (k0_pay2 v0 v2 v4 (ix2 p (0 : Fin 1)) : EReal) = Ideal.rsqrt (NormGrad.square (input (f := .bf16) v2 v4 v0 p)) := by
  unfold k0_pay2 k0_pay1
  pointwise
  rfl

theorem pay_normed (v0 : Vec Ideal S272x1024 .f32) (v2 : Vec Ideal S272x2816 .bf16) (v4 : Vec Ideal S2816x1024 .bf16) (v16 : Vec Ideal S1x1024 .f32)
    (p : Fin 272) (q : Fin 1024) : (k0_pay3 v0 v2 v4 v16 (ix2 p q) : EReal) = normed (input (f := .bf16) v2 v4 v0 p) (row v16 0) q := by
  unfold k0_pay3 k0_pay2 k0_pay1
  pointwise
  rfl

/-- One entry of one block of the gradient of the norm's input, of the errors. -/
theorem pay_entry (v0 : Vec Ideal S272x1024 .f32) (v2 : Vec Ideal S272x2816 .bf16) (v4 : Vec Ideal S2816x1024 .bf16) (v16 : Vec Ideal S1x1024 .f32)
    (v20 : Vec Ideal S272x1024 .f32) (v24 v28 : IVec S272x1 32) (v37 : IVec S272x1 1) (v39 : IVec S272x1 32) (v73 : Vec Ideal S272x1024 .f32)
    (p : Fin 272) (q : Fin 1024) :
    (k0_pay12 (k0_pay2 v0 v2 v4) (k0_pay10 (k0_pay1 v0 v2 v4) (k0_pay2 v0 v2 v4)) (k0_pay11 v16 v20 v24 v28 v37 v39 v73) (ix2 p q) : EReal)
      = NormGrad.own (input (f := .bf16) v2 v4 v0 p) (fun q => k0_pay8 v20 v24 v28 v37 v39 v73 (ix2 p q) * unit) (row v16 0) 0 q := by
  unfold NormGrad.own
  refine Eq.trans ?_ (zero_add (M := EReal) _).symm
  unfold k0_pay12 k0_pay11 k0_pay10 k0_pay9
  generalize k0_pay8 v20 v24 v28 v37 v39 v73 = e
  unfold k0_pay2 k0_pay1
  pointwise
  rfl

theorem pay_narrow (v15 : FVec Ideal S272x1 .f32) (v83 v85 : FVec Ideal S272x1024 .f32) (j : S272x1024.Idx) :
    (k0_pay13 v15 v83 v85 j : EReal) = k0_pay12 v15 v83 v85 j := rfl

/-- What one block of rows adds to the loss. -/
theorem pay_loss (e : FVec Ideal S272x1024 .f32) (a : Vec Ideal S1x1 .f32) (k : Fin 1) :
    (k0_pay16 e a (ix2 (0 : Fin 1) k) : EReal)
      = a (ix2 (0 : Fin 1) k) + half * ∑ p : Fin 272, Ideal.div (∑ q : Fin 1024, (e (ix2 p q) : EReal) * e (ix2 p q)) NormGrad.width := by
  obtain rfl : k = 0 := Subsingleton.elim _ _
  unfold k0_pay16
  pointwise
  rfl

/-- What one block of rows adds to the gradient of the scale. -/
theorem pay_scale (v0 : Vec Ideal S272x1024 .f32) (v2 : Vec Ideal S272x2816 .bf16) (v4 : Vec Ideal S2816x1024 .bf16)
    (v20 : Vec Ideal S272x1024 .f32) (v24 v28 : IVec S272x1 32) (v37 : IVec S272x1 1) (v39 : IVec S272x1 32) (v73 : Vec Ideal S272x1024 .f32)
    (a : Vec Ideal S1x1024 .f32) (q : Fin 1024) :
    (k0_pay17 (k0_pay9 v20 v24 v28 v37 v39 v73) (k0_pay10 (k0_pay1 v0 v2 v4) (k0_pay2 v0 v2 v4)) a (ix2 (0 : Fin 1) q) : EReal)
      = a (ix2 (0 : Fin 1) q) + ∑ p : Fin 272, k0_pay8 v20 v24 v28 v37 v39 v73 (ix2 p q) * unit
          * (input (f := .bf16) v2 v4 v0 p q * Ideal.rsqrt (NormGrad.square (input (f := .bf16) v2 v4 v0 p))) := by
  unfold k0_pay17 k0_pay10 k0_pay9
  generalize k0_pay8 v20 v24 v28 v37 v39 v73 = e
  unfold k0_pay2 k0_pay1
  pointwise
  rfl

theorem pay_zero (k : Fin 1) : (k0_pay14 (F := Ideal) (ix2 (0 : Fin 1) k) : EReal) = 0 := by
  unfold k0_pay14
  pointwise
theorem pay_zeros (q : Fin 1024) : (k0_pay15 (F := Ideal) (ix2 (0 : Fin 1) q) : EReal) = 0 := by
  unfold k0_pay15
  pointwise

theorem at_0 : ∀ t : Fin cfg0.N, win0_0.index t 0 = t.val ∧ win0_0.index t 1 = 0 := by decide +kernel
theorem at_1 : ∀ t : Fin cfg0.N, win0_1.index t 0 = 0 ∧ win0_1.index t 1 = 0 := by decide +kernel
theorem at_2 : ∀ t : Fin cfg0.N, win0_2.index t 0 = t.val ∧ win0_2.index t 1 = 0 := by decide +kernel
theorem at_3 : ∀ t : Fin cfg0.N, win0_3.index t 0 = t.val ∧ win0_3.index t 1 = 0 := by decide +kernel
theorem at_4 : ∀ t : Fin cfg0.N, win0_4.index t 0 = 0 ∧ win0_4.index t 1 = 0 := by decide +kernel
theorem at_5 : ∀ t : Fin cfg0.N, win0_5.index t 0 = t.val ∧ win0_5.index t 1 = 0 := by decide +kernel
theorem at_6 : ∀ t : Fin cfg0.N, win0_6.index t 0 = t.val ∧ win0_6.index t 1 = 0 := by decide +kernel
theorem at_7 : ∀ t : Fin cfg0.N, win0_7.index t 0 = 0 ∧ win0_7.index t 1 = 0 := by decide +kernel
theorem at_8 : ∀ t : Fin cfg0.N, win0_8.index t 0 = 0 ∧ win0_8.index t 1 = 0 := by decide +kernel

theorem blk_0 (t : Fin cfg0.N) (p : Fin 272) (q : Fin 2816) (r : Fin 2176) (hr : r.val = t.val * 272 + p.val) :
    (iblk m c 0 t (ix2 p q) : EReal) = V m c main_v6 (ix2 r q) := by
  obtain ⟨e0, e1⟩ := at_0 t
  blk_simp [iblk]
  congr 1
  blk_ext [e0, e1]

theorem blk_2 (t : Fin cfg0.N) (p : Fin 272) (q : Fin 1024) (r : Fin 2176) (hr : r.val = t.val * 272 + p.val) :
    (iblk m c 2 t (ix2 p q) : EReal) = V m c main_v10 (ix2 r q) := by
  obtain ⟨e0, e1⟩ := at_2 t
  blk_simp [iblk]
  congr 1
  blk_ext [e0, e1]

theorem blk_3 (t : Fin cfg0.N) (p : Fin 272) (q : Fin 1024) (r : Fin 2176) (hr : r.val = t.val * 272 + p.val) :
    (iblk m c 3 t (ix2 p q) : EReal) = V m c main_v3 (ix2 r q) := by
  obtain ⟨e0, e1⟩ := at_3 t
  blk_simp [iblk]
  congr 1
  blk_ext [e0, e1]

theorem blk_1 (t : Fin cfg0.N) (x : Fin 2816) (q : Fin 1024) :
    (iblk m c 1 t (ix2 x q) : EReal) = m ((c : Thread nD τ).loc main_arg1) (ix2 x q) := by
  obtain ⟨e0, e1⟩ := at_1 t
  rw [← host_w m c x q]
  blk_simp [iblk]
  congr 1
  blk_ext [e0, e1]

theorem blk_4 (t : Fin cfg0.N) (q : Fin 1024) :
    (iblk m c 4 t (ix2 (0 : Fin 1) q) : EReal) = m ((c : Thread nD τ).loc main_arg4) (ix2 (0 : Fin 1) q) := by
  obtain ⟨e0, e1⟩ := at_4 t
  refine Eq.trans ?_ (congrFun (V_main_arg4 m c) (ix2 (0 : Fin 1) q))
  blk_simp [iblk]
  congr 1
  blk_ext [e0, e1]

theorem input_of (t : Fin cfg0.N) (p : Fin 272) (r : Fin 2176) (hr : r.val = t.val * 272 + p.val) :
    input (f := .bf16) (iblk m c 0 t) (iblk m c 1 t) (iblk m c 2 t) p
      = input (f := .f32) (m ((c : Thread nD τ).loc main_arg0)) (m ((c : Thread nD τ).loc main_arg1)) (m ((c : Thread nD τ).loc main_arg2)) (turn r) :=
  funext fun q => congrArg₂ (· + ·) ((blk_2 m c t p q r hr).trans (host_h m c r q))
    (Finset.sum_congr rfl fun x _ => congrArg₂ (· * ·) ((blk_0 m c t p x r hr).trans (host_a m c r x)) (blk_1 m c t x q))

theorem scale_of (t : Fin cfg0.N) : row (iblk m c 4 t) 0 = row (m ((c : Thread nD τ).loc main_arg4)) 0 := funext fun q => blk_4 m c t q

/-- The errors of a block of rows. -/
def wrong (t : Fin cfg0.N) : FVec Ideal S272x1024 .f32 :=
  k0_pay8 (k0_pay3 (iblk m c 2 t) (iblk m c 0 t) (iblk m c 1 t) (iblk m c 4 t)) (k0_pay4 (grid0.coords t))
    (k0_pay5 (grid0.coords t)) (k0_pay6 (grid0.coords t)) (k0_pay7 (grid0.coords t)) (iblk m c 3 t)

theorem wrong_of (t : Fin cfg0.N) (p : Fin 272) (q : Fin 1024) (r : Fin 2176) (hr : r.val = t.val * 272 + p.val) :
    (wrong m c t (ix2 p q) : EReal) = miss (m ((c : Thread nD τ).loc main_arg0)) (m ((c : Thread nD τ).loc main_arg1)) (m ((c : Thread nD τ).loc main_arg2)) (m ((c : Thread nD τ).loc main_arg3)) (m ((c : Thread nD τ).loc main_arg4)) (turn r) q := by
  refine (pay_miss (Fin.cast N_0 t) _ (at_t t) _ _ p q r hr).trans ?_
  unfold miss
  by_cases hk : 16 ≤ (turn r).val ∧ (turn r).val < 2064
  · rw [if_pos hk, dif_pos hk, pay_normed, input_of m c t p r hr, scale_of m c t, blk_3 m c t p q r hr, host_t m c r q hk]
  · rw [if_neg hk, dif_neg hk]

/-- A block of the kernel's gradient of the norm's input. -/
def grad (t : Fin cfg0.N) : FVec Ideal S272x1024 .f32 :=
  k0_pay12 (k0_pay2 (iblk m c 2 t) (iblk m c 0 t) (iblk m c 1 t))
    (k0_pay10 (k0_pay1 (iblk m c 2 t) (iblk m c 0 t) (iblk m c 1 t)) (k0_pay2 (iblk m c 2 t) (iblk m c 0 t) (iblk m c 1 t)))
    (k0_pay11 (iblk m c 4 t) (k0_pay3 (iblk m c 2 t) (iblk m c 0 t) (iblk m c 1 t) (iblk m c 4 t)) (k0_pay4 (grid0.coords t))
      (k0_pay5 (grid0.coords t)) (k0_pay6 (grid0.coords t)) (k0_pay7 (grid0.coords t)) (iblk m c 3 t))

theorem grad_of (t : Fin cfg0.N) (p : Fin 272) (q : Fin 1024) (r : Fin 2176) (j : Fin 1024) (hr : r.val = t.val * 272 + p.val) (hj : j.val = q.val) :
    (grad m c t (ix2 p q) : EReal) = entry (m ((c : Thread nD τ).loc main_arg0)) (m ((c : Thread nD τ).loc main_arg1)) (m ((c : Thread nD τ).loc main_arg2)) (m ((c : Thread nD τ).loc main_arg3)) (m ((c : Thread nD τ).loc main_arg4)) (turn r) j := by
  obtain rfl : j = q := Fin.ext hj
  refine (pay_entry _ _ _ _ _ _ _ _ _ _ p j).trans ?_
  unfold entry
  rw [input_of m c t p r hr, scale_of m c t]
  congr 1
  exact funext fun q => congrArg (· * unit) (wrong_of m c t p q r hr)

theorem outs_5 (t : Fin cfg0.N) : (outsAt0 m c t.val t.isLt).1 = grad m c t := by
  unfold grad
  by_cases h : t.val % 8 = 0
  · rw [outsAt0_A m c t h]; frame_out
  · rw [outsAt0_B m c t h]; frame_out

theorem outs_6 (t : Fin cfg0.N) (j : S272x1024.Idx) : ((outsAt0 m c t.val t.isLt).2.1 j : EReal) = grad m c t j := by
  refine Eq.trans ?_ (pay_narrow _ _ _ j)
  by_cases h : t.val % 8 = 0
  · rw [outsAt0_A m c t h]; frame_out
  · rw [outsAt0_B m c t h]; frame_out

/-- What a block of rows adds to the loss, by its number. -/
def part_loss (t : Fin cfg0.N) (_ : Fin 1) : EReal :=
  half * ∑ p : Fin 272, Ideal.div (∑ q : Fin 1024, (wrong m c t (ix2 p q) : EReal) * wrong m c t (ix2 p q)) NormGrad.width

/-- What a block of rows adds to the scale's gradient, by its number. -/
def part_scale (t : Fin cfg0.N) (q : Fin 1024) : EReal :=
  ∑ p : Fin 272, wrong m c t (ix2 p q) * unit * (input (f := .bf16) (iblk m c 0 t) (iblk m c 1 t) (iblk m c 2 t) p q
    * Ideal.rsqrt (NormGrad.square (input (f := .bf16) (iblk m c 0 t) (iblk m c 1 t) (iblk m c 2 t) p)))

/-- After the last block the loss is whole. -/
theorem outs_7 (t : Fin cfg0.N) (ht : t.val + 1 = cfg0.N) (k : Fin 1) :
    ((outsAt0 m c t.val t.isLt).2.2.1 (ix2 (0 : Fin 1) k) : EReal) = loss (m ((c : Thread nD τ).loc main_arg0)) (m ((c : Thread nD τ).loc main_arg1)) (m ((c : Thread nD τ).loc main_arg2)) (m ((c : Thread nD τ).loc main_arg3)) (m ((c : Thread nD τ).loc main_arg4)) := by
  refine (Pipeline.eq_sum_fin_of_reset_step_apply_last (M := EReal) (fun n h (k : Fin 1) => (outsAt0 m c n h).2.2.1 (ix2 (0 : Fin 1) k)) 8 (fun _ => 0)
    (part_loss m c) (fun t h k => ?_) (fun t h k => ?_) (le_of_eq N_0) t ht k).trans ?_
  · rw [outsAt0_A m c t h]; frame_out
    refine (pay_loss _ _ k).trans ?_
    rw [pay_zero]
    rfl
  · rw [outsAt0_B m c t h]; frame_out
    exact pay_loss _ _ k
  · rw [zero_add]
    refine (half_sum (n := 8) _).symm.trans (congrArg (half * ·) ?_)
    refine Eq.trans ?_ (sum_turn _)
    refine Fin.sum_mul_add_congr (S := 8) (n := 272) (L := 2176) fun s k hl => ?_
    exact congrArg (Ideal.div · NormGrad.width) (Finset.sum_congr rfl fun q _ => by rw [wrong_of m c s k q ⟨s.val * 272 + k.val, hl⟩ rfl])

/-- After the last block the scale's gradient is whole. -/
theorem outs_8 (t : Fin cfg0.N) (ht : t.val + 1 = cfg0.N) (q : Fin 1024) :
    ((outsAt0 m c t.val t.isLt).2.2.2 (ix2 (0 : Fin 1) q) : EReal) = scale (m ((c : Thread nD τ).loc main_arg0)) (m ((c : Thread nD τ).loc main_arg1)) (m ((c : Thread nD τ).loc main_arg2)) (m ((c : Thread nD τ).loc main_arg3)) (m ((c : Thread nD τ).loc main_arg4)) q := by
  refine (Pipeline.eq_sum_fin_of_reset_step_apply_last (M := EReal) (fun n h (q : Fin 1024) => (outsAt0 m c n h).2.2.2 (ix2 (0 : Fin 1) q)) 8 (fun _ => 0)
    (part_scale m c) (fun t h q => ?_) (fun t h q => ?_) (le_of_eq N_0) t ht q).trans ?_
  · rw [outsAt0_A m c t h]; frame_out
    refine (pay_scale _ _ _ _ _ _ _ _ _ _ q).trans ?_
    rw [pay_zeros]
    rfl
  · rw [outsAt0_B m c t h]; frame_out
    exact pay_scale _ _ _ _ _ _ _ _ _ _ q
  · rw [zero_add]
    refine Eq.trans ?_ (sum_turn _)
    refine Fin.sum_mul_add_congr (S := 8) (n := 272) (L := 2176) fun s k hl => ?_
    rw [input_of m c s k ⟨s.val * 272 + k.val, hl⟩ rfl, wrong_of m c s k q ⟨s.val * 272 + k.val, hl⟩ rfl]

/-- One entry of the kernel's first result. -/
theorem kernel_5 (r : Fin 2176) (q : Fin 1024) : ((dats m 0 c).arrAt 5 cfg0.N (ix2 r q) : EReal)
    = entry (m ((c : Thread nD τ).loc main_arg0)) (m ((c : Thread nD τ).loc main_arg1)) (m ((c : Thread nD τ).loc main_arg2)) (m ((c : Thread nD τ).loc main_arg3)) (m ((c : Thread nD τ).loc main_arg4)) (turn r) q := by
  refine Pipeline.Dat.arrAt_forall_of_covers (dat := dats m 0 c) 5 (fun (j : Shape.Idx ⟨2, ![2176, 1024]⟩) (x : EReal) =>
    x = entry (m ((c : Thread nD τ).loc main_arg0)) (m ((c : Thread nD τ).loc main_arg1)) (m ((c : Thread nD τ).loc main_arg2)) (m ((c : Thread nD τ).loc main_arg3)) (m ((c : Thread nD τ).loc main_arg4)) (turn (j 0)) (j 1)) (by decide +kernel) (fun t _ y => ?_) (ix2 r q)
  obtain ⟨e0, e1⟩ := at_5 t
  rw [after0_5, outs_5]
  blk_simp [e0, e1]
  idx_bounds y
  rw [show y = ix2 (y 0) (y 1) from by funext a; fin_cases a <;> rfl]
  refine grad_of m c t (y 0) (y 1) _ _ ?_ ?_
  · blk_simp [e0]
  · blk_simp [e1]

/-- One entry of the kernel's second result. -/
theorem kernel_6 (r : Fin 2176) (q : Fin 1024) : ((dats m 0 c).arrAt 6 cfg0.N (ix2 r q) : EReal)
    = entry (m ((c : Thread nD τ).loc main_arg0)) (m ((c : Thread nD τ).loc main_arg1)) (m ((c : Thread nD τ).loc main_arg2)) (m ((c : Thread nD τ).loc main_arg3)) (m ((c : Thread nD τ).loc main_arg4)) (turn r) q := by
  refine Pipeline.Dat.arrAt_forall_of_covers (dat := dats m 0 c) 6 (fun (j : Shape.Idx ⟨2, ![2176, 1024]⟩) (x : EReal) =>
    x = entry (m ((c : Thread nD τ).loc main_arg0)) (m ((c : Thread nD τ).loc main_arg1)) (m ((c : Thread nD τ).loc main_arg2)) (m ((c : Thread nD τ).loc main_arg3)) (m ((c : Thread nD τ).loc main_arg4)) (turn (j 0)) (j 1)) (by decide +kernel) (fun t _ y => ?_) (ix2 r q)
  obtain ⟨e0, e1⟩ := at_6 t
  rw [after0_6]
  blk_simp [e0, e1]
  idx_bounds y
  rw [show y = ix2 (y 0) (y 1) from by funext a; fin_cases a <;> rfl]
  refine (outs_6 m c t _).trans (grad_of m c t (y 0) (y 1) _ _ ?_ ?_)
  · blk_simp [e0]
  · blk_simp [e1]

/-- The kernel's third result. -/
theorem kernel_7 (k : Fin 1) : ((dats m 0 c).arrAt 7 cfg0.N (ix2 (0 : Fin 1) k) : EReal) = loss (m ((c : Thread nD τ).loc main_arg0)) (m ((c : Thread nD τ).loc main_arg1)) (m ((c : Thread nD τ).loc main_arg2)) (m ((c : Thread nD τ).loc main_arg3)) (m ((c : Thread nD τ).loc main_arg4)) := by
  refine Pipeline.Dat.arrAt_forall_of_covers (dat := dats m 0 c) 7 (fun (_ : Shape.Idx ⟨2, ![1, 1]⟩) (x : EReal) =>
    x = loss (m ((c : Thread nD τ).loc main_arg0)) (m ((c : Thread nD τ).loc main_arg1)) (m ((c : Thread nD τ).loc main_arg2)) (m ((c : Thread nD τ).loc main_arg3)) (m ((c : Thread nD τ).loc main_arg4))) (by decide +kernel) (fun t hf y => ?_) (ix2 (0 : Fin 1) k)
  obtain ⟨e0, e1⟩ := at_7 t
  have h7 := (flush0_7 t).mp hf
  have hN : cfg0.N = 8 := N_0
  have hl := t.isLt
  rw [after0_7]
  blk_simp [e0, e1]
  idx_bounds y
  rw [show y = ix2 (0 : Fin 1) (0 : Fin 1) from by funext a; fin_cases a <;> exact Fin.ext (by first | (show (y 0).val = 0; omega) | (show (y 1).val = 0; omega))]
  exact outs_7 m c t (by omega) 0

/-- One entry of the kernel's fourth result. -/
theorem kernel_8 (q : Fin 1024) : ((dats m 0 c).arrAt 8 cfg0.N (ix2 (0 : Fin 1) q) : EReal) = scale (m ((c : Thread nD τ).loc main_arg0)) (m ((c : Thread nD τ).loc main_arg1)) (m ((c : Thread nD τ).loc main_arg2)) (m ((c : Thread nD τ).loc main_arg3)) (m ((c : Thread nD τ).loc main_arg4)) q := by
  refine Pipeline.Dat.arrAt_forall_of_covers (dat := dats m 0 c) 8 (fun (j : Shape.Idx ⟨2, ![1, 1024]⟩) (x : EReal) =>
    x = scale (m ((c : Thread nD τ).loc main_arg0)) (m ((c : Thread nD τ).loc main_arg1)) (m ((c : Thread nD τ).loc main_arg2)) (m ((c : Thread nD τ).loc main_arg3)) (m ((c : Thread nD τ).loc main_arg4)) (j 1)) (by decide +kernel) (fun t hf y => ?_) (ix2 (0 : Fin 1) q)
  obtain ⟨e0, e1⟩ := at_8 t
  have h8 := (flush0_8 t).mp hf
  have hN : cfg0.N = 8 := N_0
  have hl := t.isLt
  rw [after0_8]
  blk_simp [e0, e1]
  idx_bounds y
  rw [show y = ix2 (0 : Fin 1) (y 1) from by funext a; fin_cases a <;> first | rfl | exact Fin.ext (by show (y 0).val = 0; omega)]
  refine (outs_8 m c t (by omega) (y 1)).trans (congrArg _ (Fin.ext ?_))
  blk_simp [e1]

end Cert.DownLossIdeal.Rows

namespace Cert.DownLossRefIdeal.Rows

open Cert.DownLossRefIdeal Cert.DownLossRefIdeal.Gen Idealize.ShloMosaic Idealize.ShloMosaic.TcCoe Idealize.SL.Sem

/-- The argument arrays of the reference end as they began, and it has no counter. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2.2, Idealize.ShloMosaic.sem_eq_zero_of_no_sems (by decide) r.2⟩) (Value.run m ρ)

variable (m : (ℓ : Loc nD τ sig) → Buf (Elt Ideal) ℓ) (c : Dev nD)

/-- The norm's input, as the reference computes it. -/
def inputs : FVec Ideal S2176x1024 .f32 :=
  addf (m ((c.tc : Thread nD τ).loc main_arg2)) (Host.dotGeneral (φ₂ := .f32) dot_S2176x2816_S2816x1024_S2176x1024_1_0_0_1_n_n none (extf .f32 (m ((c.tc : Thread nD τ).loc main_arg0)) bitsLt_bf16_f32) (m ((c.tc : Thread nD τ).loc main_arg1)))

/-- The gradient of the normed rows, as the reference computes it. -/
def slopes : FVec Ideal S2176x1024 .f32 :=
  pad S2176x1024 ![16, 0] ![112, 0] ![0, 0] (mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (subf (extractStridedSlice S2048x1024 ![16, 0] (mulf (mulf (inputs m c) (broadcastInDim S2176x1024 ![0, 1] bcast_S2176x1_S2176x1024_0_1 (Host.rsqrt (addf (Host.divf (broadcastInDim S2176x1 ![0] bcast_S2176_S2176x1_0 (Host.reduceAdd (mulf (inputs m c) (inputs m c)) (constant S_ .f32 0x00000000#32) reducesTo_S2176x1024_S2176_d1 h_S_)) (broadcastInDim S2176x1 ![] bcast_S_S2176x1 (constant S_ .f32 0x44800000#32))) (broadcastInDim S2176x1 ![] bcast_S_S2176x1 (constant S_ .f32 0x358637BD#32)))))) (broadcastInDim S2176x1024 ![0, 1] bcast_S1x1024_S2176x1024_0_1 (broadcastInDim S1x1024 ![1] bcast_S1024_S1x1024_1 (shapeCast _ (m ((c.tc : Thread nD τ).loc main_arg4)) shapeCasts_S1x1024_S1024)))) slices_S2176x1024_S2048x1024_16_0) (m ((c.tc : Thread nD τ).loc main_arg3))))) (constant S_ .f32 0x00000000#32) pads_S2048x1024_S2176x1024_161120_000 h_S_

theorem slopes_eq (i : Fin 2176) (q : Fin 1024) : (slopes m c (ix2 i q) : EReal) = DownLossIdeal.Rows.miss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i q * DownLossIdeal.Rows.unit := by
  unfold slopes inputs
  pointwise
  unfold DownLossIdeal.Rows.miss
  by_cases hk : 16 ≤ i.val ∧ i.val < 2064
  · rw [dif_pos hk]
    refine Eq.trans (dif_pos ⟨hk.1, by omega⟩) ?_
    refine Eq.trans ?_ (DownLossIdeal.Rows.slope _)
    have e : 16 + (i.val - 16) = i.val := by omega
    simp only [e]
    rfl
  · refine Eq.trans (dif_neg (by omega)) ?_
    rw [dif_neg hk, zero_mul]

theorem inputs_eq (i : Fin 2176) (q : Fin 1024) : (inputs m c (ix2 i q) : EReal) = DownLossIdeal.Rows.input (f := .f32) (m ((c.tc : Thread nD τ).loc main_arg0)) (m ((c.tc : Thread nD τ).loc main_arg1)) (m ((c.tc : Thread nD τ).loc main_arg2)) i q := by
  unfold inputs
  pointwise
  rfl

theorem row_inputs (i : Fin 2176) : DownLossIdeal.Rows.row (inputs m c) i = DownLossIdeal.Rows.input (f := .f32) (m ((c.tc : Thread nD τ).loc main_arg0)) (m ((c.tc : Thread nD τ).loc main_arg1)) (m ((c.tc : Thread nD τ).loc main_arg2)) i := funext (inputs_eq m c i)
theorem row_slopes (i : Fin 2176) : DownLossIdeal.Rows.row (slopes m c) i = fun q => DownLossIdeal.Rows.miss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i q * DownLossIdeal.Rows.unit := funext (slopes_eq m c i)

/-- The gradient of the norm's input, and of its scale, as the reference computes them of the rows and their slopes. -/
def gradOf (X D : FVec Ideal S2176x1024 .f32) (G : Vec Ideal S1x1024 .f32) : FVec Ideal S2176x1024 .f32 :=
  shapeCast _ (transpose S272x8x1024 [1, 0, 2] (shapeCast _ (addf (addf (mulf (mulf D (broadcastInDim S2176x1024 ![0, 1] bcast_S1x1024_S2176x1024_0_1 (broadcastInDim S1x1024 ![1] bcast_S1024_S1x1024_1 (shapeCast _ G shapeCasts_S1x1024_S1024)))) (broadcastInDim S2176x1024 ![0, 1] bcast_S2176x1_S2176x1024_0_1 (Host.rsqrt (addf (Host.divf (broadcastInDim S2176x1 ![0] bcast_S2176_S2176x1_0 (Host.reduceAdd (mulf X X) (constant S_ .f32 0x00000000#32) reducesTo_S2176x1024_S2176_d1 h_S_)) (broadcastInDim S2176x1 ![] bcast_S_S2176x1 (constant S_ .f32 0x44800000#32))) (broadcastInDim S2176x1 ![] bcast_S_S2176x1 (constant S_ .f32 0x358637BD#32)))))) (mulf X (broadcastInDim S2176x1024 ![0] bcast_S2176_S2176x1024_0 (Host.reduceAdd (Host.divf (mulf (shapeCast _ (Host.reduceAdd (mulf X (mulf D (broadcastInDim S2176x1024 ![0, 1] bcast_S1x1024_S2176x1024_0_1 (broadcastInDim S1x1024 ![1] bcast_S1024_S1x1024_1 (shapeCast _ G shapeCasts_S1x1024_S1024))))) (constant S_ .f32 0x00000000#32) reducesTo_S2176x1024_S2176_d1 h_S_) shapeCasts_S2176_S2176x1) (mulf (broadcastInDim S2176x1 ![] bcast_S_S2176x1 (constant S_ .f32 0xBF000000#32)) (Host.divf (Host.rsqrt (addf (Host.divf (broadcastInDim S2176x1 ![0] bcast_S2176_S2176x1_0 (Host.reduceAdd (mulf X X) (constant S_ .f32 0x00000000#32) reducesTo_S2176x1024_S2176_d1 h_S_)) (broadcastInDim S2176x1 ![] bcast_S_S2176x1 (constant S_ .f32 0x44800000#32))) (broadcastInDim S2176x1 ![] bcast_S_S2176x1 (constant S_ .f32 0x358637BD#32)))) (addf (Host.divf (broadcastInDim S2176x1 ![0] bcast_S2176_S2176x1_0 (Host.reduceAdd (mulf X X) (constant S_ .f32 0x00000000#32) reducesTo_S2176x1024_S2176_d1 h_S_)) (broadcastInDim S2176x1 ![] bcast_S_S2176x1 (constant S_ .f32 0x44800000#32))) (broadcastInDim S2176x1 ![] bcast_S_S2176x1 (constant S_ .f32 0x358637BD#32)))))) (broadcastInDim S2176x1 ![] bcast_S_S2176x1 (constant S_ .f32 0x44800000#32))) (constant S_ .f32 0x00000000#32) reducesTo_S2176x1_S2176_d1 h_S_)))) (mulf (broadcastInDim S2176x1024 ![0] bcast_S2176_S2176x1024_0 (Host.reduceAdd (Host.divf (mulf (shapeCast _ (Host.reduceAdd (mulf X (mulf D (broadcastInDim S2176x1024 ![0, 1] bcast_S1x1024_S2176x1024_0_1 (broadcastInDim S1x1024 ![1] bcast_S1024_S1x1024_1 (shapeCast _ G shapeCasts_S1x1024_S1024))))) (constant S_ .f32 0x00000000#32) reducesTo_S2176x1024_S2176_d1 h_S_) shapeCasts_S2176_S2176x1) (mulf (broadcastInDim S2176x1 ![] bcast_S_S2176x1 (constant S_ .f32 0xBF000000#32)) (Host.divf (Host.rsqrt (addf (Host.divf (broadcastInDim S2176x1 ![0] bcast_S2176_S2176x1_0 (Host.reduceAdd (mulf X X) (constant S_ .f32 0x00000000#32) reducesTo_S2176x1024_S2176_d1 h_S_)) (broadcastInDim S2176x1 ![] bcast_S_S2176x1 (constant S_ .f32 0x44800000#32))) (broadcastInDim S2176x1 ![] bcast_S_S2176x1 (constant S_ .f32 0x358637BD#32)))) (addf (Host.divf (broadcastInDim S2176x1 ![0] bcast_S2176_S2176x1_0 (Host.reduceAdd (mulf X X) (constant S_ .f32 0x00000000#32) reducesTo_S2176x1024_S2176_d1 h_S_)) (broadcastInDim S2176x1 ![] bcast_S_S2176x1 (constant S_ .f32 0x44800000#32))) (broadcastInDim S2176x1 ![] bcast_S_S2176x1 (constant S_ .f32 0x358637BD#32)))))) (broadcastInDim S2176x1 ![] bcast_S_S2176x1 (constant S_ .f32 0x44800000#32))) (constant S_ .f32 0x00000000#32) reducesTo_S2176x1_S2176_d1 h_S_)) X)) shapeCasts_S2176x1024_S8x272x1024) transposes_S8x272x1024_S272x8x1024_1_0_2) shapeCasts_S272x8x1024_S2176x1024
def scaleOf (X D : FVec Ideal S2176x1024 .f32) : FVec Ideal S1x1024 .f32 :=
  broadcastInDim S1x1024 ![1] bcast_S1024_S1x1024_1 (Host.reduceAdd (shapeCast _ (Host.reduceAdd (mulf (mulf X (broadcastInDim S2176x1024 ![0, 1] bcast_S2176x1_S2176x1024_0_1 (Host.rsqrt (addf (Host.divf (broadcastInDim S2176x1 ![0] bcast_S2176_S2176x1_0 (Host.reduceAdd (mulf X X) (constant S_ .f32 0x00000000#32) reducesTo_S2176x1024_S2176_d1 h_S_)) (broadcastInDim S2176x1 ![] bcast_S_S2176x1 (constant S_ .f32 0x44800000#32))) (broadcastInDim S2176x1 ![] bcast_S_S2176x1 (constant S_ .f32 0x358637BD#32)))))) D) (constant S_ .f32 0x00000000#32) reducesTo_S2176x1024_S1024_d0 h_S_) shapeCasts_S1024_S1x1024) (constant S_ .f32 0x00000000#32) reducesTo_S1x1024_S1024_d0 h_S_)

theorem gradOf_eq (X D : FVec Ideal S2176x1024 .f32) (G : Vec Ideal S1x1024 .f32) (r : Fin 2176) (q : Fin 1024) : (gradOf X D G (ix2 r q) : EReal)
    = NormGrad.chain (DownLossIdeal.Rows.row X (DownLossIdeal.Rows.turn r)) (DownLossIdeal.Rows.row D (DownLossIdeal.Rows.turn r)) (DownLossIdeal.Rows.row G 0) 0 q := by
  unfold NormGrad.chain
  refine Eq.trans ?_ (congrArg (fun z : EReal => z + _ + _) (zero_add (M := EReal) _).symm)
  unfold gradOf
  pointwise
  simp only [Finset.univ_unique, Finset.sum_singleton]
  rfl

theorem scaleOf_eq (X D : FVec Ideal S2176x1024 .f32) (q : Fin 1024) : (scaleOf X D (ix2 (0 : Fin 1) q) : EReal)
    = ∑ i : Fin 2176, DownLossIdeal.Rows.row D i q * (DownLossIdeal.Rows.row X i q * Ideal.rsqrt (NormGrad.square (DownLossIdeal.Rows.row X i))) := by
  unfold scaleOf
  pointwise
  simp only [Finset.univ_unique, Finset.sum_singleton]
  exact Finset.sum_congr rfl fun i _ => mul_comm (G := EReal) _ _

theorem ref_chain (r : Fin 2176) (q : Fin 1024) : (Value.res_main_v60 m c (ix2 r q) : EReal)
    = NormGrad.chain (DownLossIdeal.Rows.row (inputs m c) (DownLossIdeal.Rows.turn r)) (DownLossIdeal.Rows.row (slopes m c) (DownLossIdeal.Rows.turn r)) (DownLossIdeal.Rows.row (m ((c.tc : Thread nD τ).loc main_arg4)) 0) 0 q := by
  refine Eq.trans (congrFun (?_ : _ = gradOf (inputs m c) (slopes m c) (m ((c.tc : Thread nD τ).loc main_arg4))) (ix2 r q)) (gradOf_eq _ _ _ r q)
  unfold Value.res_main_v60 gradOf slopes inputs
  rfl

/-- One entry of the reference's gradient of the norm's input. -/
theorem ref_entry (r : Fin 2176) (q : Fin 1024) : (Value.res_main_v60 m c (ix2 r q) : EReal)
    = DownLossIdeal.Rows.entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (DownLossIdeal.Rows.turn r) q := by
  refine (ref_chain m c r q).trans ?_
  rw [row_inputs, row_slopes, ← NormGrad.own_eq_chain]
  rfl

theorem ref_scale (q : Fin 1024) : ∑ i : Fin 2176, DownLossIdeal.Rows.row (slopes m c) i q
    * (DownLossIdeal.Rows.row (inputs m c) i q * Ideal.rsqrt (NormGrad.square (DownLossIdeal.Rows.row (inputs m c) i))) = DownLossIdeal.Rows.scale (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) q :=
  Finset.sum_congr rfl fun i _ => by rw [row_inputs, row_slopes]

theorem ref_narrow (j : S2176x1024.Idx) : (Value.res_main_v61 m c j : EReal) = Value.res_main_v60 m c j := rfl

end Cert.DownLossRefIdeal.Rows

namespace Cert.DownLoss.Rows

open Idealize.ShloMosaic Idealize.ShloMosaic.TcCoe Idealize.ShloMosaic.Tactic Idealize.SL.Sem

/-- The frame of the kernel, spelled with the ideal program's text at bit patterns. -/
def AtBits : Prop :=
  ∀ (m : (ℓ : Loc DownLossIdeal.nD DownLossIdeal.τ DownLossIdeal.sig) → Buf (Elt Bits) ℓ) (g : Dev DownLossIdeal.nD → PrngReg), True →
    θ_run (DownLossIdeal.defs (F := Bits)) (onTc (τ := DownLossIdeal.τ) (DownLossIdeal.main (F := Bits))) ⟨m, fun _ => 0, g⟩ (fun r =>
      (∀ c : Dev DownLossIdeal.nD,
      r.2.mem ((c.tc : Thread DownLossIdeal.nD DownLossIdeal.τ).loc DownLossIdeal.main_arg0) = m ((c.tc : Thread DownLossIdeal.nD DownLossIdeal.τ).loc DownLossIdeal.main_arg0)
      ∧ r.2.mem ((c.tc : Thread DownLossIdeal.nD DownLossIdeal.τ).loc DownLossIdeal.main_arg1) = m ((c.tc : Thread DownLossIdeal.nD DownLossIdeal.τ).loc DownLossIdeal.main_arg1)
      ∧ r.2.mem ((c.tc : Thread DownLossIdeal.nD DownLossIdeal.τ).loc DownLossIdeal.main_arg2) = m ((c.tc : Thread DownLossIdeal.nD DownLossIdeal.τ).loc DownLossIdeal.main_arg2)
      ∧ r.2.mem ((c.tc : Thread DownLossIdeal.nD DownLossIdeal.τ).loc DownLossIdeal.main_arg3) = m ((c.tc : Thread DownLossIdeal.nD DownLossIdeal.τ).loc DownLossIdeal.main_arg3)
      ∧ r.2.mem ((c.tc : Thread DownLossIdeal.nD DownLossIdeal.τ).loc DownLossIdeal.main_arg4) = m ((c.tc : Thread DownLossIdeal.nD DownLossIdeal.τ).loc DownLossIdeal.main_arg4))
      ∧ r.2.sem = fun _ => 0)

theorem same_text : quiescent_DownLoss (hDownLoss := DownLoss.Gen.facts) = AtBits := by sl_kernel_rfl

/-- The frame of the kernel. -/
theorem frame : quiescent_DownLoss (hDownLoss := DownLoss.Gen.facts) :=
  same_text.mpr fun m g _ => DownLossIdeal.Gen.frame m g

/-- From equal arguments the two programs end with equal results. -/
theorem equal : algebraic_DownLossIdeal_DownLossRefIdeal (hDownLossIdeal := DownLossIdeal.Gen.facts)
    (hDownLossRefIdeal := DownLossRefIdeal.Gen.facts) := by
  intro m g m' g' _ he
  refine ⟨fun c => (DownLossIdeal.Gen.dats m 0 c).arrAt 5 DownLossIdeal.cfg0.N, fun c => (DownLossIdeal.Gen.dats m 0 c).arrAt 6 DownLossIdeal.cfg0.N,
    fun c => (DownLossIdeal.Gen.dats m 0 c).arrAt 7 DownLossIdeal.cfg0.N, fun c => (DownLossIdeal.Gen.dats m 0 c).arrAt 8 DownLossIdeal.cfg0.N, ?_, ?_⟩
  · exact DownLossIdeal.Value.run_blocks m g
  · refine (θ_run _ _ _).mono (fun r h c => ⟨(h c).1.trans ?_, (h c).2.1.trans ?_, (h c).2.2.1.trans ?_, (h c).2.2.2.1.trans ?_, (h c).2.2.2.2⟩)
      (DownLossRefIdeal.Value.run m' g')
    · funext j
      obtain ⟨p, q, rfl⟩ : ∃ (p : Fin 2176) (q : Fin 1024), j = ix2 p q := ⟨j 0, j 1, eq_ix2 j⟩
      refine (DownLossRefIdeal.Rows.ref_entry m' c p q).trans (Eq.trans ?_ (DownLossIdeal.Rows.kernel_5 m c p q).symm)
      rw [(he c).1, (he c).2.1, (he c).2.2.1, (he c).2.2.2.1, (he c).2.2.2.2]
    · funext j
      obtain ⟨p, q, rfl⟩ : ∃ (p : Fin 2176) (q : Fin 1024), j = ix2 p q := ⟨j 0, j 1, eq_ix2 j⟩
      refine (DownLossRefIdeal.Rows.ref_narrow m' c _).trans ((DownLossRefIdeal.Rows.ref_entry m' c p q).trans (Eq.trans ?_ (DownLossIdeal.Rows.kernel_6 m c p q).symm))
      rw [(he c).1, (he c).2.1, (he c).2.2.1, (he c).2.2.2.1, (he c).2.2.2.2]
    · funext j
      obtain ⟨p, q, rfl⟩ : ∃ (p : Fin 1) (q : Fin 1), j = ix2 p q := ⟨j 0, j 1, eq_ix2 j⟩
      obtain rfl : p = 0 := Subsingleton.elim _ _
      obtain rfl : q = 0 := Subsingleton.elim _ _
      refine Eq.trans ?_ (DownLossIdeal.Rows.kernel_7 m c 0).symm
      rw [← (he c).1, ← (he c).2.1, ← (he c).2.2.1, ← (he c).2.2.2.1, ← (he c).2.2.2.2]
      refine Eq.trans ?_ (DownLossIdeal.Rows.loss_kept _ _ _ _ _)
      pointwise
      rfl
    · funext j
      obtain ⟨p, q, rfl⟩ : ∃ (p : Fin 1) (q : Fin 1024), j = ix2 p q := ⟨j 0, j 1, eq_ix2 j⟩
      obtain rfl : p = 0 := Subsingleton.elim _ _
      have e := DownLossRefIdeal.Rows.ref_scale m' c q
      rw [(he c).1, (he c).2.1, (he c).2.2.1, (he c).2.2.2.1, (he c).2.2.2.2] at e
      refine Eq.trans ?_ (e.trans (DownLossIdeal.Rows.kernel_8 m c q).symm)
      refine Eq.trans (congrFun (?_ : _ = DownLossRefIdeal.Rows.scaleOf (DownLossRefIdeal.Rows.inputs m' c) (DownLossRefIdeal.Rows.slopes m' c)) (ix2 (0 : Fin 1) q))
        (DownLossRefIdeal.Rows.scaleOf_eq _ _ q)
      unfold DownLossRefIdeal.Rows.scaleOf DownLossRefIdeal.Rows.slopes DownLossRefIdeal.Rows.inputs
      rfl

end Cert.DownLoss.Rows

end
-- ==== Proof.lean ====
/- The certificate: every program runs to its end and leaves its arguments as they were; the kernel and the reference end with equal results. -/
module

public import proofs.«01_k».proof.Proof.Gen.Proj
public import proofs.«01_k».proof.Proof.Gen.ProjIdeal.Value
public import proofs.«01_k».proof.Proof.Gen.ProjRefIdeal.Run
public import proofs.«01_k».proof.Proof.Gen.UpProj
public import proofs.«01_k».proof.Proof.Gen.UpProjIdeal.Value
public import proofs.«01_k».proof.Proof.Gen.UpProjRefIdeal.Run
public import proofs.«01_k».proof.Proof.Gen.DownWgrad
public import proofs.«01_k».proof.Proof.Gen.DownWgradIdeal.Value
public import proofs.«01_k».proof.Proof.Gen.DownWgradRefIdeal.Run
public import proofs.«01_k».proof.Proof.Gen.DownDgrad
public import proofs.«01_k».proof.Proof.Gen.DownDgradIdeal.Value
public import proofs.«01_k».proof.Proof.Gen.DownDgradRefIdeal.Run
public import proofs.«01_k».proof.Proof.Gen.UpWgrad
public import proofs.«01_k».proof.Proof.Gen.UpWgradIdeal.Value
public import proofs.«01_k».proof.Proof.Gen.UpWgradRefIdeal.Run
public import proofs.«01_k».proof.Proof.Gen.OutDgrad
public import proofs.«01_k».proof.Proof.Gen.OutDgradIdeal.Value
public import proofs.«01_k».proof.Proof.Gen.OutDgradRefIdeal.Run
public import proofs.«01_k».proof.Proof.Gen.OutWgrad
public import proofs.«01_k».proof.Proof.Gen.OutWgradIdeal.Value
public import proofs.«01_k».proof.Proof.Gen.OutWgradRefIdeal.Run
public import proofs.«01_k».proof.Proof.Gen.ProjWgrad
public import proofs.«01_k».proof.Proof.Gen.ProjWgradIdeal.Value
public import proofs.«01_k».proof.Proof.Gen.ProjWgradRefIdeal.Run
public import proofs.«01_k».proof.Proof.Gen.UpGrad
public import proofs.«01_k».proof.Proof.Gen.UpGradIdeal.Value
public import proofs.«01_k».proof.Proof.Gen.UpGradRefIdeal.Run
public import proofs.«01_k».proof.Proof.Gen.ProjGrad
public import proofs.«01_k».proof.Proof.Gen.ProjGradIdeal.Value
public import proofs.«01_k».proof.Proof.Gen.ProjGradRefIdeal.Run
public import proofs.«01_k».proof.Proof.Gen.DownLoss
public import proofs.«01_k».proof.Proof.Gen.DownLossIdeal.Value
public import proofs.«01_k».proof.Proof.Gen.DownLossRefIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Same
public import proofs.«01_k».proof.Proof.RefRun
public import proofs.«01_k».proof.Proof.Equal
public import proofs.«01_k».proof.Proof.ProjVal
public import proofs.«01_k».proof.Proof.UpProjVal
public import proofs.«01_k».proof.Proof.DownWgradVal
public import proofs.«01_k».proof.Proof.DownDgradVal
public import proofs.«01_k».proof.Proof.UpWgradVal
public import proofs.«01_k».proof.Proof.OutDgradVal
public import proofs.«01_k».proof.Proof.OutWgradVal
public import proofs.«01_k».proof.Proof.ProjWgradVal
public import proofs.«01_k».proof.Proof.UpGradVal
public import proofs.«01_k».proof.Proof.ProjGradVal
public import proofs.«01_k».proof.Proof.DownLossVal

@[expose] public section

noncomputable section

namespace Cert.Proof

open Idealize.ShloMosaic Idealize.SL.Sem

/-- From equal finite arguments the two programs end with equal results. -/
theorem equal_results : Cert.algebraic_KernelIdeal_ReferenceIdeal_pre_inputs_finite (hKernelIdeal := KernelIdeal.Gen.facts)
    (hReferenceIdeal := ReferenceIdeal.Gen.facts) (hPre_inputs_finite := S5.pre_facts) := by
  intro m ρ m' ρ' hp he
  have G := fun c => S5.given_of_pre (c := c) hp
  have G' := fun c => S5.given_ref (G c) (he c).1 (he c).2.1 (he c).2.2.1 (he c).2.2.2.1 (he c).2.2.2.2.1 (he c).2.2.2.2.2.1
    (he c).2.2.2.2.2.2.1 (he c).2.2.2.2.2.2.2.1 (he c).2.2.2.2.2.2.2.2
  refine ⟨fun c => KernelIdeal.Run.W4 m ρ c (Proc.devRef .tc KernelIdeal.main_v71),
    fun c => KernelIdeal.Run.W4 m ρ c (Proc.devRef .tc KernelIdeal.main_v75),
    fun c => KernelIdeal.Run.W4 m ρ c (Proc.devRef .tc KernelIdeal.main_v76),
    fun c => KernelIdeal.Run.W4 m ρ c (Proc.devRef .tc KernelIdeal.main_v77),
    fun c => KernelIdeal.Run.W4 m ρ c (Proc.devRef .tc KernelIdeal.main_v79),
    fun c => KernelIdeal.Run.W4 m ρ c (Proc.devRef .tc KernelIdeal.main_v81),
    fun c => KernelIdeal.Run.W4 m ρ c (Proc.devRef .tc KernelIdeal.main_v82),
    fun c => KernelIdeal.Run.W4 m ρ c (Proc.devRef .tc KernelIdeal.main_v83),
    fun c => KernelIdeal.Run.W4 m ρ c (Proc.devRef .tc KernelIdeal.main_v84), ?_, ?_⟩
  · refine (θ_run _ _ _).mono (fun r h c => ⟨h.1 c _ (KernelIdeal.Run.mem_uc KernelIdeal.main_v71 (by decide)),
      h.1 c _ (KernelIdeal.Run.mem_uc KernelIdeal.main_v75 (by decide)),
      h.1 c _ (KernelIdeal.Run.mem_uc KernelIdeal.main_v76 (by decide)),
      h.1 c _ (KernelIdeal.Run.mem_uc KernelIdeal.main_v77 (by decide)),
      h.1 c _ (KernelIdeal.Run.mem_uc KernelIdeal.main_v79 (by decide)),
      h.1 c _ (KernelIdeal.Run.mem_uc KernelIdeal.main_v81 (by decide)),
      h.1 c _ (KernelIdeal.Run.mem_uc KernelIdeal.main_v82 (by decide)),
      h.1 c _ (KernelIdeal.Run.mem_uc KernelIdeal.main_v83 (by decide)),
      h.1 c _ (KernelIdeal.Run.mem_uc KernelIdeal.main_v84 (by decide)),
      (h.1 c _ (KernelIdeal.Run.mem_uc KernelIdeal.main_arg0 (by decide))).trans (KernelIdeal.Run.W4_main_arg0 m ρ c),
      (h.1 c _ (KernelIdeal.Run.mem_uc KernelIdeal.main_arg1 (by decide))).trans (KernelIdeal.Run.W4_main_arg1 m ρ c),
      (h.1 c _ (KernelIdeal.Run.mem_uc KernelIdeal.main_arg2 (by decide))).trans (KernelIdeal.Run.W4_main_arg2 m ρ c),
      (h.1 c _ (KernelIdeal.Run.mem_uc KernelIdeal.main_arg3 (by decide))).trans (KernelIdeal.Run.W4_main_arg3 m ρ c),
      (h.1 c _ (KernelIdeal.Run.mem_uc KernelIdeal.main_arg4 (by decide))).trans (KernelIdeal.Run.W4_main_arg4 m ρ c),
      (h.1 c _ (KernelIdeal.Run.mem_uc KernelIdeal.main_arg5 (by decide))).trans (KernelIdeal.Run.W4_main_arg5 m ρ c),
      (h.1 c _ (KernelIdeal.Run.mem_uc KernelIdeal.main_arg6 (by decide))).trans (KernelIdeal.Run.W4_main_arg6 m ρ c),
      (h.1 c _ (KernelIdeal.Run.mem_uc KernelIdeal.main_arg7 (by decide))).trans (KernelIdeal.Run.W4_main_arg7 m ρ c),
      (h.1 c _ (KernelIdeal.Run.mem_uc KernelIdeal.main_arg8 (by decide))).trans (KernelIdeal.Run.W4_main_arg8 m ρ c)⟩) (KernelIdeal.Run.run_all m ρ)
  · refine (θ_run _ _ _).mono (fun r h c => ⟨(h c ReferenceIdeal.main_v21 rfl).trans (S5.same_y ρ (G c) (G' c)),
      (h c ReferenceIdeal.main_v57 rfl).trans (S5.same_du ρ (G c) (G' c)),
      (h c ReferenceIdeal.main_v46_7 rfl).trans (S5.same_dar ρ (G c) (G' c)),
      (h c ReferenceIdeal.main_v46_8 rfl).trans (S5.same_dai ρ (G c) (G' c)),
      (h c ReferenceIdeal.main_v56 rfl).trans (S5.same_dbr ρ (G c) (G' c)),
      (h c ReferenceIdeal.main_v51 rfl).trans (S5.same_dbi ρ (G c) (G' c)),
      (h c ReferenceIdeal.main_v39 rfl).trans (S5.same_dcr ρ (G c) (G' c)),
      (h c ReferenceIdeal.main_v35 rfl).trans (S5.same_dci ρ (G c) (G' c)),
      (h c ReferenceIdeal.main_v30 rfl).trans (S5.same_dd ρ (G c) (G' c)),
      (h c ReferenceIdeal.main_arg0 rfl).trans (ReferenceIdeal.Run.Wend_keeps m' c (by decide)),
      (h c ReferenceIdeal.main_arg1 rfl).trans (ReferenceIdeal.Run.Wend_keeps m' c (by decide)),
      (h c ReferenceIdeal.main_arg2 rfl).trans (ReferenceIdeal.Run.Wend_keeps m' c (by decide)),
      (h c ReferenceIdeal.main_arg3 rfl).trans (ReferenceIdeal.Run.Wend_keeps m' c (by decide)),
      (h c ReferenceIdeal.main_arg4 rfl).trans (ReferenceIdeal.Run.Wend_keeps m' c (by decide)),
      (h c ReferenceIdeal.main_arg5 rfl).trans (ReferenceIdeal.Run.Wend_keeps m' c (by decide)),
      (h c ReferenceIdeal.main_arg6 rfl).trans (ReferenceIdeal.Run.Wend_keeps m' c (by decide)),
      (h c ReferenceIdeal.main_arg7 rfl).trans (ReferenceIdeal.Run.Wend_keeps m' c (by decide)),
      (h c ReferenceIdeal.main_arg8 rfl).trans (ReferenceIdeal.Run.Wend_keeps m' c (by decide))⟩) (ReferenceIdeal.Run.run m' ρ')

/-- Everything the certificate claims. -/
theorem claim : Cert.Claim := ⟨Kernel.Gen.facts, KernelIdeal.Gen.facts, ReferenceIdeal.Gen.facts, Proj.Gen.facts, ProjIdeal.Gen.facts, ProjRefIdeal.Gen.facts, UpProj.Gen.facts, UpProjIdeal.Gen.facts, UpProjRefIdeal.Gen.facts, DownWgrad.Gen.facts, DownWgradIdeal.Gen.facts, DownWgradRefIdeal.Gen.facts, DownDgrad.Gen.facts, DownDgradIdeal.Gen.facts, DownDgradRefIdeal.Gen.facts, UpWgrad.Gen.facts, UpWgradIdeal.Gen.facts, UpWgradRefIdeal.Gen.facts, OutDgrad.Gen.facts, OutDgradIdeal.Gen.facts, OutDgradRefIdeal.Gen.facts, OutWgrad.Gen.facts, OutWgradIdeal.Gen.facts, OutWgradRefIdeal.Gen.facts, ProjWgrad.Gen.facts, ProjWgradIdeal.Gen.facts, ProjWgradRefIdeal.Gen.facts, UpGrad.Gen.facts, UpGradIdeal.Gen.facts, UpGradRefIdeal.Gen.facts, ProjGrad.Gen.facts, ProjGradIdeal.Gen.facts, ProjGradRefIdeal.Gen.facts, DownLoss.Gen.facts, DownLossIdeal.Gen.facts, DownLossRefIdeal.Gen.facts, S5.pre_facts,
  kernel_frame, fun m ρ _ => KernelIdeal.Run.frame m ρ, fun m ρ _ => KernelIdeal.Run.frame m ρ,
  fun m ρ _ => ReferenceIdeal.Run.frame m ρ, fun m ρ _ => ReferenceIdeal.Run.frame m ρ,
  Proj.Sums.frame, fun m ρ _ => ProjIdeal.Gen.frame m ρ, fun m ρ _ => ProjRefIdeal.Sums.frame m ρ,
  UpProj.Sums.frame, fun m ρ _ => UpProjIdeal.Gen.frame m ρ, fun m ρ _ => UpProjRefIdeal.Sums.frame m ρ,
  DownWgrad.Sums.frame, fun m ρ _ => DownWgradIdeal.Gen.frame m ρ, fun m ρ _ => DownWgradRefIdeal.Sums.frame m ρ,
  DownDgrad.Sums.frame, fun m ρ _ => DownDgradIdeal.Gen.frame m ρ, fun m ρ _ => DownDgradRefIdeal.Sums.frame m ρ,
  UpWgrad.Sums.frame, fun m ρ _ => UpWgradIdeal.Gen.frame m ρ, fun m ρ _ => UpWgradRefIdeal.Sums.frame m ρ,
  OutDgrad.Sums.frame, fun m ρ _ => OutDgradIdeal.Gen.frame m ρ, fun m ρ _ => OutDgradRefIdeal.Sums.frame m ρ,
  OutWgrad.Sums.frame, fun m ρ _ => OutWgradIdeal.Gen.frame m ρ, fun m ρ _ => OutWgradRefIdeal.Sums.frame m ρ,
  ProjWgrad.Sums.frame, fun m ρ _ => ProjWgradIdeal.Gen.frame m ρ, fun m ρ _ => ProjWgradRefIdeal.Sums.frame m ρ,
  UpGrad.Rows.frame, fun m ρ _ => UpGradIdeal.Gen.frame m ρ, fun m ρ _ => UpGradRefIdeal.Rows.frame m ρ,
  ProjGrad.Rows.frame, fun m ρ _ => ProjGradIdeal.Gen.frame m ρ, fun m ρ _ => ProjGradRefIdeal.Rows.frame m ρ,
  DownLoss.Rows.frame, fun m ρ _ => DownLossIdeal.Gen.frame m ρ, fun m ρ _ => DownLossRefIdeal.Rows.frame m ρ,
  trivial, equal_results, trivial, Proj.Sums.equal, trivial, UpProj.Sums.equal, trivial, DownWgrad.Sums.equal, trivial, DownDgrad.Sums.equal, trivial, UpWgrad.Sums.equal, trivial, OutDgrad.Sums.equal, trivial, OutWgrad.Sums.equal, trivial, ProjWgrad.Sums.equal, trivial, UpGrad.Rows.equal, trivial, ProjGrad.Rows.equal, trivial, DownLoss.Rows.equal⟩

end Cert.Proof

end
